-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v255) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v22)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v22_0)) (v1 : (c : Dev Cert.Kernel3Ideal.nD) → Buf (Elt Ideal) ((c.tc : Thread Cert.Kernel3Ideal.nD Cert.Kernel3Ideal.τ).loc Cert.Kernel3Ideal.main_v22_1)) (v2 : (c : Dev Cert.Kernel3Ideal.nD) → Buf (Elt Ideal) ((c.tc : Thread Cert.Kernel3Ideal.nD Cert.Kernel3Ideal.τ).loc Cert.Kernel3Ideal.main_v22_2)) (v3 : (c : Dev Cert.Kernel3Ideal.nD) → Buf (Elt Ideal) ((c.tc : Thread Cert.Kernel3Ideal.nD Cert.Kernel3Ideal.τ).loc Cert.Kernel3Ideal.main_v22_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22_0) = v0 c
          ∧ r.2.mem ((c.tc : Thread Cert.Kernel3Ideal.nD Cert.Kernel3Ideal.τ).loc Cert.Kernel3Ideal.main_v22_1) = v1 c
          ∧ r.2.mem ((c.tc : Thread Cert.Kernel3Ideal.nD Cert.Kernel3Ideal.τ).loc Cert.Kernel3Ideal.main_v22_2) = v2 c
          ∧ r.2.mem ((c.tc : Thread Cert.Kernel3Ideal.nD Cert.Kernel3Ideal.τ).loc Cert.Kernel3Ideal.main_v22_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v59) = v0 c
          ∧ r.2.mem ((c.tc : Thread Cert.Reference3Ideal.nD Cert.Reference3Ideal.τ).loc Cert.Reference3Ideal.main_v68) = v1 c
          ∧ r.2.mem ((c.tc : Thread Cert.Reference3Ideal.nD Cert.Reference3Ideal.τ).loc Cert.Reference3Ideal.main_v77) = v2 c
          ∧ r.2.mem ((c.tc : Thread Cert.Reference3Ideal.nD Cert.Reference3Ideal.τ).loc Cert.Reference3Ideal.main_v86) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v51) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite.lean ====
abbrev S8x2048x4096 : Shape := ⟨3, ![8, 2048, 4096]⟩
abbrev S8x2048x6144 : Shape := ⟨3, ![8, 2048, 6144]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S8x2048x6144 : S_.BroadcastsInDim S8x2048x6144 (![] : Fin 0 → Fin S8x2048x6144.rank)
  reducesTo_S8x2048x6144_S_d0_1_2 : S8x2048x6144.ReducesTo [0, 1, 2] S_

variable [Facts]

def fn {F : FTy → Type} [FloatOps F] (main_arg0 : FVec F S8x2048x4096 .f32) (main_arg1 : FVec F S8x2048x6144 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S8x2048x6144 .f32 := Host.absf main_arg1
  let main_cst_0 : FVec F S_ .f32 := constant S_ .f32 0x7F800000#32
  let main_v5 : FVec F S8x2048x6144 .f32 := broadcastInDim S8x2048x6144 ![] bcast_S_S8x2048x6144 main_cst_0
  let main_v6 : IVec S8x2048x6144 1 := cmpf .olt main_v4 main_v5
  let main_c_1 : IVec S_ 1 := constantI S_ 1 1#1
  let main_v7 : IVec S_ 1 := (fun x v => Host.reduce IntOp.andi x v reducesTo_S8x2048x6144_S_d0_1_2 h_S_) main_v6 main_c_1
  let main_v8 : IVec S_ 1 := andi main_v3 main_v7
  main_v8
-- ==== Pre_finite6.lean ====
abbrev S8x2048x1024 : Shape := ⟨3, ![8, 2048, 1024]⟩
abbrev S2x16x64 : Shape := ⟨3, ![2, 16, 64]⟩
abbrev S2x1024 : Shape := ⟨2, ![2, 1024]⟩
abbrev S2x1024x1024 : Shape := ⟨3, ![2, 1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S2x16x64 : S_.BroadcastsInDim S2x16x64 (![] : Fin 0 → Fin S2x16x64.rank)
  reducesTo_S2x16x64_S_d0_1_2 : S2x16x64.ReducesTo [0, 1, 2] S_

variable [Facts]

def fn_part1 {F : FTy → Type} [FloatOps F] (main_v8 : IVec S_ 1) (main_v12 : IVec S_ 1) (main_v15 : IVec S2x16x64 1) (main_c_5 : IVec S_ 1) : IVec S_ 1 :=
  let main_v16 : IVec S_ 1 := (fun x v => Host.reduce IntOp.andi x v reducesTo_S2x16x64_S_d0_1_2 h_S_) main_v15 main_c_5
  let main_v17 : IVec S_ 1 := andi main_v12 main_v16
  let main_v18 : IVec S_ 1 := andi main_v8 main_v17
  main_v18

def fn {F : FTy → Type} [FloatOps F] (main_arg0 : FVec F S8x2048x1024 .f32) (main_arg1 : FVec F S8x2048x1024 .f32) (main_arg2 : FVec F S8x2048x1024 .f32) (main_arg3 : FVec F S8x2048x1024 .f32) (main_arg4 : FVec F S8x2048x1024 .f32) (main_arg5 : FVec F S8x2048x1024 .f32) (main_arg6 : FVec F S2x16x64 .f32) (main_arg7 : FVec F S2x1024 .f32) (main_arg8 : FVec F S2x1024 .f32) (main_arg9 : FVec F S2x1024x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : FVec F S2x16x64 .f32 := Host.absf main_arg6
  let main_cst_4 : FVec F S_ .f32 := constant S_ .f32 0x7F800000#32
  let main_v14 : FVec F S2x16x64 .f32 := broadcastInDim S2x16x64 ![] bcast_S_S2x16x64 main_cst_4
  let main_v15 : IVec S2x16x64 1 := cmpf .olt main_v13 main_v14
  let main_c_5 : IVec S_ 1 := constantI S_ 1 1#1
  fn_part1 (F := F) main_v8 main_v12 main_v15 main_c_5
-- ==== Kernel.lean ====
abbrev S8x2048x4096 : Shape := ⟨3, ![8, 2048, 4096]⟩
abbrev S8x2048x6144 : Shape := ⟨3, ![8, 2048, 6144]⟩
abbrev S8x2048x32x128 : Shape := ⟨4, ![8, 2048, 32, 128]⟩
abbrev S8x32x2048x128 : Shape := ⟨4, ![8, 32, 2048, 128]⟩
abbrev S8x2048x48x128 : Shape := ⟨4, ![8, 2048, 48, 128]⟩
abbrev S8x48x2048x128 : Shape := ⟨4, ![8, 48, 2048, 128]⟩
abbrev S8x8x2048x128 : Shape := ⟨4, ![8, 8, 2048, 128]⟩
abbrev S1x1x2048x128 : Shape := ⟨4, ![1, 1, 2048, 128]⟩
abbrev S2048x128 : Shape := ⟨2, ![2048, 128]⟩
abbrev S1x128 : Shape := ⟨2, ![1, 128]⟩
abbrev S128x128 : Shape := ⟨2, ![128, 128]⟩
abbrev S1x1x128x128 : Shape := ⟨4, ![1, 1, 128, 128]⟩
abbrev S256x128 : Shape := ⟨2, ![256, 128]⟩
abbrev S128x256 : Shape := ⟨2, ![128, 256]⟩
abbrev S128 : Shape := ⟨1, ![128]⟩
abbrev S128x1 : Shape := ⟨2, ![128, 1]⟩

abbrev nBuf : Space → Nat
  | .hbm => 7
  | .vmem => 23
  | .smem => 0
  | _ => 0

abbrev bufTy : (tb : Table) → Fin (tcTables nBuf tb) → BufTy
  | .hbm, ⟨0, _⟩ => ⟨S8x2048x4096, .f32⟩
  | .hbm, ⟨1, _⟩ => ⟨S8x2048x6144, .f32⟩
  | .hbm, ⟨2, _⟩ => ⟨S8x2048x32x128, .f32⟩
  | .hbm, ⟨3, _⟩ => ⟨S8x32x2048x128, .f32⟩
  | .hbm, ⟨4, _⟩ => ⟨S8x2048x48x128, .f32⟩
  | .hbm, ⟨5, _⟩ => ⟨S8x48x2048x128, .f32⟩
  | .hbm, ⟨6, _⟩ => ⟨S8x8x2048x128, .f32⟩
  | .local _ .vmem, ⟨0, _⟩ => ⟨S1x1x2048x128, .f32⟩
  | .local _ .vmem, ⟨1, _⟩ => ⟨S1x1x2048x128, .f32⟩
  | .local _ .vmem, ⟨2, _⟩ => ⟨S1x1x2048x128, .f32⟩
  | .local _ .vmem, ⟨3, _⟩ => ⟨S1x1x2048x128, .f32⟩
  | .local _ .vmem, ⟨4, _⟩ => ⟨S1x1x2048x128, .f32⟩
  | .local _ .vmem, ⟨5, _⟩ => ⟨S1x1x2048x128, .f32⟩
  | .local _ .vmem, ⟨6, _⟩ => ⟨S1x1x2048x128, .f32⟩
  | .local _ .vmem, ⟨7, _⟩ => ⟨S1x1x2048x128, .f32⟩
  | .local _ .vmem, ⟨8, _⟩ => ⟨S1x1x2048x128, .f32⟩
  | .local _ .vmem, ⟨9, _⟩ => ⟨S1x1x2048x128, .f32⟩
  | .local _ .vmem, ⟨10, _⟩ => ⟨S1x1x2048x128, .f32⟩
  | .local _ .vmem, ⟨11, _⟩ => ⟨S1x1x2048x128, .f32⟩
  | .local _ .vmem, ⟨12, _⟩ => ⟨S1x1x2048x128, .f32⟩
  | .local _ .vmem, ⟨13, _⟩ => ⟨S1x1x2048x128, .f32⟩
  | .local _ .vmem, ⟨14, _⟩ => ⟨S1x1x2048x128, .f32⟩
  | .local _ .vmem, ⟨15, _⟩ => ⟨S1x1x2048x128, .f32⟩
  | .local _ .vmem, ⟨16, _⟩ => ⟨S1x1x2048x128, .f32⟩
  | .local _ .vmem, ⟨17, _⟩ => ⟨S1x1x2048x128, .f32⟩
  | .local _ .vmem, ⟨18, _⟩ => ⟨S1x1x2048x128, .f32⟩
  | .local _ .vmem, ⟨19, _⟩ => ⟨S1x1x2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32 : BitVec 32 := 0#32
  let c4_i32 : BitVec 32 := 4#32
  let v8 : BitVec 32 := Scalar.addi c0_i32 c4_i32
  let c1_i32 : BitVec 32 := 1#32
  ⟨c0_i32, v8, c1_i32⟩
def k0_off1 (k0_t1 : Fin k0_t1_loop.trips) (c0_i32_10 : BitVec 32) : Fin 4 → Nat :=
  let c0 : Index := 0#32
  let c0_17 : Index := 0#32
  let c0_i32_16 : BitVec 32 := 0#32
  let c128_i32 : BitVec 32 := 128#32
  let c0_i32 : BitVec 32 := 0#32
  let c1_i32 : BitVec 32 := 1#32
  let arg15 : BitVec 32 := Scf.iv c0_i32 c1_i32 k0_t1
  let c4_i32_9 : BitVec 32 := 4#32
  let v11 : BitVec 32 := Scalar.muli arg15 c4_i32_9
  let v12 : BitVec 32 := Scalar.addi v11 c0_i32_10
  let v20 : BitVec 32 := Scalar.muli c128_i32 v12
  let v21 : BitVec 32 := Scalar.addi c0_i32_16 v20
  let v22 : Index := Scalar.indexCast v21
  let c0_18 : Index := 0#32
  ![0, 0, v22.toNat, 0]
def k0_off2 (k0_t1 : Fin k0_t1_loop.trips) : Fin 4 → Nat :=
  let c0_50 : Index := 0#32
  let c0_51 : Index := 0#32
  let c0_i32_49 : BitVec 32 := 0#32
  let c128_i32_48 : BitVec 32 := 128#32
  let c0_i32 : BitVec 32 := 0#32
  let c1_i32 : BitVec 32 := 1#32
  let arg15 : BitVec 32 := Scf.iv c0_i32 c1_i32 k0_t1
  let c4_i32_9 : BitVec 32 := 4#32
  let v11 : BitVec 32 := Scalar.muli arg15 c4_i32_9
  let c0_i32_10 : BitVec 32 := 0#32
  let v12 : BitVec 32 := Scalar.addi v11 c0_i32_10
  let c1_i32_46 : BitVec 32 := 1#32
  let v60 : BitVec 32 := Scalar.subi v12 c1_i32_46
  let c0_i32_47 : BitVec 32 := 0#32
  let v61 : BitVec 32 := Scalar.maxsi v60 c0_i32_47
  let v62 : BitVec 32 := Scalar.muli c128_i32_48 v61
  let v63 : BitVec 32 := Scalar.addi c0_i32_49 v62
  let v64 : Index := Scalar.indexCast v63
  let c0_52 : Index := 0#32
  ![0, 0, v64.toNat, 0]
def k0_off3 (k0_t1 : Fin k0_t1_loop.trips) (c0_i32_10 : BitVec 32) : Fin 2 → Nat :=
  let c0_i32_16 : BitVec 32 := 0#32
  let c128_i32 : BitVec 32 := 128#32
  let c0_i32 : BitVec 32 := 0#32
  let c1_i32 : BitVec 32 := 1#32
  let arg15 : BitVec 32 := Scf.iv c0_i32 c1_i32 k0_t1
  let c4_i32_9 : BitVec 32 := 4#32
  let v11 : BitVec 32 := Scalar.muli arg15 c4_i32_9
  let v12 : BitVec 32 := Scalar.addi v11 c0_i32_10
  let v20 : BitVec 32 := Scalar.muli c128_i32 v12
  let v21 : BitVec 32 := Scalar.addi c0_i32_16 v20
  let v259 : Index := Scalar.indexCast v21
  let c0_120 : Index := 0#32
  ![v259.toNat, 0]
@[reducible] def k0_t2_loop : Scf.Loop 32 :=
  let c0_i32_1 : BitVec 32 := 0#32
  let c4_i32_2 : BitVec 32 := 4#32
  let v9 : BitVec 32 := Scalar.addi c0_i32_1 c4_i32_2
  let c1_i32_3 : BitVec 32 := 1#32
  ⟨c0_i32_1, v9, c1_i32_3⟩
def k0_off4 (k0_t2 : Fin k0_t2_loop.trips) (c0_i32_9 : BitVec 32) : Fin 4 → Nat :=
  let c0 : Index := 0#32
  let c0_10 : Index := 0#32
  let c0_i32_1 : BitVec 32 := 0#32
  let c1_i32_3 : BitVec 32 := 1#32
  let arg15 : BitVec 32 := Scf.iv c0_i32_1 c1_i32_3 k0_t2
  let v11 : BitVec 32 := Scalar.addi arg15 c0_i32_9
  let v12 : Index := Scalar.indexCast v11
  let c0_11 : Index := 0#32
  ![0, 0, v12.toNat, 0]
def k0_off5 (k0_t2 : Fin k0_t2_loop.trips) (c0_i32_9 : BitVec 32) : Fin 2 → Nat :=
  let c0_i32_1 : BitVec 32 := 0#32
  let c1_i32_3 : BitVec 32 := 1#32
  let arg15 : BitVec 32 := Scf.iv c0_i32_1 c1_i32_3 k0_t2
  let v11 : BitVec 32 := Scalar.addi arg15 c0_i32_9
  let v229 : Index := Scalar.indexCast v11
  let c0_97 : Index := 0#32
  ![v229.toNat, 0]
@[reducible] def k0_t3_loop : Scf.Loop 32 :=
  let c0_i32_5 : BitVec 32 := 0#32
  let c4_i32_6 : BitVec 32 := 4#32
  let v10 : BitVec 32 := Scalar.addi c0_i32_5 c4_i32_6
  let c1_i32_7 : BitVec 32 := 1#32
  ⟨c0_i32_5, v10, c1_i32_7⟩
def k0_off6 (k0_t3 : Fin k0_t3_loop.trips) (c0_i32_10 : BitVec 32) : Fin 4 → Nat :=
  let c0 : Index := 0#32
  let c0_16 : Index := 0#32
  let c0_i32_5 : BitVec 32 := 0#32
  let c1_i32_7 : BitVec 32 := 1#32
  let arg15 : BitVec 32 := Scf.iv c0_i32_5 c1_i32_7 k0_t3
  let c4_i32_9 : BitVec 32 := 4#32
  let v11 : BitVec 32 := Scalar.muli arg15 c4_i32_9
  let v12 : BitVec 32 := Scalar.addi v11 c0_i32_10
  let c0_i32_15 : BitVec 32 := 0#32
  let v19 : BitVec 32 := Scalar.addi v12 c0_i32_15
  let v20 : Index := Scalar.indexCast v19
  let c0_17 : Index := 0#32
  ![0, 0, v20.toNat, 0]
def k0_off7 (k0_t3 : Fin k0_t3_loop.trips) (c0_i32_10 : BitVec 32) : Fin 2 → Nat :=
  let c0_i32_5 : BitVec 32 := 0#32
  let c1_i32_7 : BitVec 32 := 1#32
  let arg15 : BitVec 32 := Scf.iv c0_i32_5 c1_i32_7 k0_t3
  let c4_i32_9 : BitVec 32 := 4#32
  let v11 : BitVec 32 := Scalar.muli arg15 c4_i32_9
  let v12 : BitVec 32 := Scalar.addi v11 c0_i32_10
  let c0_i32_15 : BitVec 32 := 0#32
  let v19 : BitVec 32 := Scalar.addi v12 c0_i32_15
  let v228 : Index := Scalar.indexCast v19
  let c0_106 : Index := 0#32
  ![v228.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![arg0.toNat, v0.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![arg0.toNat, v0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![arg0.toNat, v0.toNat, c0_i32_0.toNat, c0_i32_1.toNat]

abbrev stage0_0 : Fin 2 → Memref sig .tc .vmem S1x1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x4096 : Shape := ⟨3, ![8, 2048, 4096]⟩
abbrev S8x2048x6144 : Shape := ⟨3, ![8, 2048, 6144]⟩
abbrev S8x2048x3072 : Shape := ⟨3, ![8, 2048, 3072]⟩
abbrev S8x2048x3x16x64 : Shape := ⟨5, ![8, 2048, 3, 16, 64]⟩
abbrev S8x2048x2x3x16x64 : Shape := ⟨6, ![8, 2048, 2, 3, 16, 64]⟩
abbrev S8x2048x1x3x16x64 : Shape := ⟨6, ![8, 2048, 1, 3, 16, 64]⟩
abbrev S8x2048x1x16x64 : Shape := ⟨5, ![8, 2048, 1, 16, 64]⟩
abbrev S8x2048x16x64 : Shape := ⟨4, ![8, 2048, 16, 64]⟩
abbrev S8x1x2048x16x64 : Shape := ⟨5, ![8, 1, 2048, 16, 64]⟩
abbrev S8x1x16x128x16x64 : Shape := ⟨6, ![8, 1, 16, 128, 16, 64]⟩
abbrev S_ : Shape := ⟨0, ![]⟩
abbrev S8x1x17x128x16x64 : Shape := ⟨6, ![8, 1, 17, 128, 16, 64]⟩
abbrev S8x1x16x256x16x64 : Shape := ⟨6, ![8, 1, 16, 256, 16, 64]⟩
abbrev S8x1x16x16x128x256 : Shape := ⟨6, ![8, 1, 16, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x1x16x1x128x256 : Shape := ⟨6, ![1, 1, 16, 1, 128, 256]⟩
abbrev S8x1x16x16x128 : Shape := ⟨5, ![8, 1, 16, 16, 128]⟩
abbrev S8x1x16x16x128x1 : Shape := ⟨6, ![8, 1, 16, 16, 128, 1]⟩
abbrev S8x1x16x16x64x128 : Shape := ⟨6, ![8, 1, 16, 16, 64, 128]⟩
abbrev S8x1x16x128x16 : Shape := ⟨5, ![8, 1, 16, 128, 16]⟩
abbrev S8x1x16x128x16x1 : Shape := ⟨6, ![8, 1, 16, 128, 16, 1]⟩
abbrev S8x1x2048x16 : Shape := ⟨4, ![8, 1, 2048, 16]⟩
abbrev S8x2048x1x16 : Shape := ⟨4, ![8, 2048, 1, 16]⟩
abbrev S8x2048x16 : Shape := ⟨3, ![8, 2048, 16]⟩
abbrev S8x512x4x16x64 : Shape := ⟨5, ![8, 512, 4, 16, 64]⟩
abbrev S8x4x512x16x64 : Shape := ⟨5, ![8, 4, 512, 16, 64]⟩
abbrev S8x4x4x128x16x64 : Shape := ⟨6, ![8, 4, 4, 128, 16, 64]⟩
abbrev S8x4x5x128x16x64 : Shape := ⟨6, ![8, 4, 5, 128, 16, 64]⟩
abbrev S8x4x4x256x16x64 : Shape := ⟨6, ![8, 4, 4, 256, 16, 64]⟩
abbrev S8x4x4x16x128x256 : Shape := ⟨6, ![8, 4, 4, 16, 128, 256]⟩
abbrev S4 : Shape := ⟨1, ![4]⟩
abbrev S4x1x1 : Shape := ⟨3, ![4, 1, 1]⟩
abbrev S4x1x256 : Shape := ⟨3, ![4, 1, 256]⟩
abbrev S4x128x256 : Shape := ⟨3, ![4, 128, 256]⟩
abbrev S1x1x4x1x128x256 : Shape := ⟨6, ![1, 1, 4, 1, 128, 256]⟩
abbrev S8x4x4x16x128 : Shape := ⟨5, ![8, 4, 4, 16, 128]⟩
abbrev S8x4x4x16x128x1 : Shape := ⟨6, ![8, 4, 4, 16, 128, 1]⟩
abbrev S8x4x4x16x64x128 : Shape := ⟨6, ![8, 4, 4, 16, 64, 128]⟩
abbrev S8x4x4x128x16 : Shape := ⟨5, ![8, 4, 4, 128, 16]⟩
abbrev S8x4x4x128x16x1 : Shape := ⟨6, ![8, 4, 4, 128, 16, 1]⟩
abbrev S8x4x512x16 : Shape := ⟨4, ![8, 4, 512, 16]⟩
abbrev S8x512x4x16 : Shape := ⟨4, ![8, 512, 4, 16]⟩
abbrev S8x128x16x16x64 : Shape := ⟨5, ![8, 128, 16, 16, 64]⟩
abbrev S8x16x128x16x64 : Shape := ⟨5, ![8, 16, 128, 16, 64]⟩
abbrev S8x16x1x128x16x64 : Shape := ⟨6, ![8, 16, 1, 128, 16, 64]⟩
abbrev S8x16x2x128x16x64 : Shape := ⟨6, ![8, 16, 2, 128, 16, 64]⟩
abbrev S8x16x1x256x16x64 : Shape := ⟨6, ![8, 16, 1, 256, 16, 64]⟩
abbrev S8x16x1x16x128x256 : Shape := ⟨6, ![8, 16, 1, 16, 128, 256]⟩
abbrev S1 : Shape := ⟨1, ![1]⟩
abbrev S1x1x1 : Shape := ⟨3, ![1, 1, 1]⟩
abbrev S1x1x1x1x128x256 : Shape := ⟨6, ![1, 1, 1, 1, 128, 256]⟩
abbrev S8x16x1x16x128 : Shape := ⟨5, ![8, 16, 1, 16, 128]⟩
abbrev S8x16x1x16x128x1 : Shape := ⟨6, ![8, 16, 1, 16, 128, 1]⟩
abbrev S8x16x1x16x64x128 : Shape := ⟨6, ![8, 16, 1, 16, 64, 128]⟩
abbrev S8x16x1x128x16 : Shape := ⟨5, ![8, 16, 1, 128, 16]⟩
abbrev S8x16x1x128x16x1 : Shape := ⟨6, ![8, 16, 1, 128, 16, 1]⟩
abbrev S8x16x128x16 : Shape := ⟨4, ![8, 16, 128, 16]⟩
abbrev S8x128x16x16 : Shape := ⟨4, ![8, 128, 16, 16]⟩
abbrev S1x8x2048x16 : Shape := ⟨4, ![1, 8, 2048, 16]⟩
abbrev S3x8x2048x16 : Shape := ⟨4, ![3, 8, 2048, 16]⟩
abbrev S1x8x2048x16x64 : Shape := ⟨5, ![1, 8, 2048, 16, 64]⟩
abbrev S3x8x2048x16x64 : Shape := ⟨5, ![3, 8, 2048, 16, 64]⟩
abbrev S8x2048x1024 : Shape := ⟨3, ![8, 2048, 1024]⟩
abbrev S8x2048x8x128 : Shape := ⟨4, ![8, 2048, 8, 128]⟩
abbrev S8x8x2048x128 : Shape := ⟨4, ![8, 8, 2048, 128]⟩

abbrev nBuf : Space → Nat
  | .hbm => 309
  | .vmem => 0
  | .smem => 0
  | _ => 0

abbrev hbmTy0_0 (i : Nat) : BufTy := match i % 128 with
  | 0 => ⟨S8x2048x4096, .f32⟩
  | 1 => ⟨S8x2048x6144, .f32⟩
  | 2 => ⟨S8x2048x3072, .f32⟩
  | 3 => ⟨S8x2048x3x16x64, .f32⟩
  | 4 => ⟨S8x2048x2x3x16x64, .f32⟩
  | 5 => ⟨S8x2048x1x3x16x64, .f32⟩
  | 6 => ⟨S8x2048x3x16x64, .f32⟩
  | 7 => ⟨S8x2048x1x3x16x64, .f32⟩
  | 8 => ⟨S8x2048x3x16x64, .f32⟩
  | 9 => ⟨S8x2048x1x16x64, .f32⟩
  | 10 => ⟨S8x2048x16x64, .f32⟩
  | 11 => ⟨S8x2048x1x16x64, .f32⟩
  | 12 => ⟨S8x2048x16x64, .f32⟩
  | 13 => ⟨S8x2048x1x16x64, .f32⟩
  | 14 => ⟨S8x2048x16x64, .f32⟩
  | 15 => ⟨S8x2048x1x16x64, .f32⟩
  | 16 => ⟨S8x1x2048x16x64, .f32⟩
  | 17 => ⟨S8x1x16x128x16x64, .f32⟩
  | 18 => ⟨S8x2048x1x16x64, .f32⟩
  | 19 => ⟨S8x1x2048x16x64, .f32⟩
  | 20 => ⟨S8x1x16x128x16x64, .f32⟩
  | 21 => ⟨S_, .i32⟩
  | 22 => ⟨S_, .f32⟩
  | 23 => ⟨S8x1x17x128x16x64, .f32⟩
  | 24 => ⟨S8x1x16x128x16x64, .f32⟩
  | 25 => ⟨S8x1x16x256x16x64, .f32⟩
  | 26 => ⟨S8x2048x1x16x64, .f32⟩
  | 27 => ⟨S8x1x2048x16x64, .f32⟩
  | 28 => ⟨S8x1x16x128x16x64, .f32⟩
  | 29 => ⟨S_, .i32⟩
  | 30 => ⟨S_, .f32⟩
  | 31 => ⟨S8x1x17x128x16x64, .f32⟩
  | 32 => ⟨S8x1x16x128x16x64, .f32⟩
  | 33 => ⟨S8x1x16x256x16x64, .f32⟩
  | 34 => ⟨S8x1x16x16x128x256, .f32⟩
  | 35 => ⟨S_, .f32⟩
  | 36 => ⟨S8x1x16x16x128x256, .f32⟩
  | 37 => ⟨S8x1x16x16x128x256, .f32⟩
  | 38 => ⟨S128, .i32⟩
  | 39 => ⟨S128x1, .i32⟩
  | 40 => ⟨S256, .i32⟩
  | 41 => ⟨S1x256, .i32⟩
  | 42 => ⟨S_, .i32⟩
  | 43 => ⟨S128x1, .i32⟩
  | 44 => ⟨S128x1, .i32⟩
  | 45 => ⟨S128x256, .i32⟩
  | 46 => ⟨S128x256, .i32⟩
  | 47 => ⟨S128x256, .i32⟩
  | 48 => ⟨S16, .i32⟩
  | 49 => ⟨S16x1x1, .i32⟩
  | 50 => ⟨S_, .i32⟩
  | 51 => ⟨S128x256, .i32⟩
  | 52 => ⟨S128x256, .i1⟩
  | 53 => ⟨S_, .i32⟩
  | 54 => ⟨S128x256, .i32⟩
  | 55 => ⟨S128x256, .i1⟩
  | 56 => ⟨S128x256, .i1⟩
  | 57 => ⟨S_, .i32⟩
  | 58 => ⟨S16x1x1, .i32⟩
  | 59 => ⟨S16x1x1, .i32⟩
  | 60 => ⟨S1x1x256, .i32⟩
  | 61 => ⟨S16x1x256, .i32⟩
  | 62 => ⟨S16x1x256, .i32⟩
  | 63 => ⟨S16x1x256, .i32⟩
  | 64 => ⟨S_, .i32⟩
  | 65 => ⟨S16x1x256, .i32⟩
  | 66 => ⟨S16x1x256, .i1⟩
  | 67 => ⟨S1x128x256, .i1⟩
  | 68 => ⟨S16x128x256, .i1⟩
  | 69 => ⟨S16x128x256, .i1⟩
  | 70 => ⟨S16x128x256, .i1⟩
  | 71 => ⟨S1x1x16x1x128x256, .i1⟩
  | 72 => ⟨S_, .f32⟩
  | 73 => ⟨S_, .f32⟩
  | 74 => ⟨S8x1x16x16x128x256, .i1⟩
  | 75 => ⟨S8x1x16x16x128x256, .f32⟩
  | 76 => ⟨S8x1x16x16x128x256, .f32⟩
  | 77 => ⟨S_, .f32⟩
  | 78 => ⟨S8x1x16x16x128, .f32⟩
  | 79 => ⟨S8x1x16x16x128x1, .f32⟩
  | 80 => ⟨S8x1x16x16x128x256, .f32⟩
  | 81 => ⟨S8x1x16x16x128x256, .f32⟩
  | 82 => ⟨S8x1x16x16x128x256, .f32⟩
  | 83 => ⟨S_, .f32⟩
  | 84 => ⟨S8x1x16x16x128, .f32⟩
  | 85 => ⟨S8x1x16x16x64x128, .f32⟩
  | 86 => ⟨S8x1x16x128x16x64, .f32⟩
  | 87 => ⟨S8x1x16x128x16, .f32⟩
  | 88 => ⟨S8x1x16x128x16x1, .f32⟩
  | 89 => ⟨S8x1x16x128x16x64, .f32⟩
  | 90 => ⟨S8x1x16x128x16x64, .f32⟩
  | 91 => ⟨S8x1x16x16x128, .f32⟩
  | 92 => ⟨S8x1x16x16x128, .f32⟩
  | 93 => ⟨S8x1x16x16x128, .f32⟩
  | 94 => ⟨S8x1x16x128x16, .f32⟩
  | 95 => ⟨S8x1x2048x16x64, .f32⟩
  | 96 => ⟨S8x2048x1x16x64, .f32⟩
  | 97 => ⟨S8x2048x16x64, .f32⟩
  | 98 => ⟨S8x1x2048x16, .f32⟩
  | 99 => ⟨S8x2048x1x16, .f32⟩
  | 100 => ⟨S8x2048x16, .f32⟩
  | 101 => ⟨S8x2048x1x16x64, .f32⟩
  | 102 => ⟨S8x2048x16x64, .f32⟩
  | 103 => ⟨S8x2048x1x16x64, .f32⟩
  | 104 => ⟨S8x2048x16x64, .f32⟩
  | 105 => ⟨S8x2048x1x16x64, .f32⟩
  | 106 => ⟨S8x2048x16x64, .f32⟩
  | 107 => ⟨S8x512x4x16x64, .f32⟩
  | 108 => ⟨S8x4x512x16x64, .f32⟩
  | 109 => ⟨S8x4x4x128x16x64, .f32⟩
  | 110 => ⟨S8x512x4x16x64, .f32⟩
  | 111 => ⟨S8x4x512x16x64, .f32⟩
  | 112 => ⟨S8x4x4x128x16x64, .f32⟩
  | 113 => ⟨S_, .i32⟩
  | 114 => ⟨S_, .f32⟩
  | 115 => ⟨S8x4x5x128x16x64, .f32⟩
  | 116 => ⟨S8x4x4x128x16x64, .f32⟩
  | 117 => ⟨S8x4x4x256x16x64, .f32⟩
  | 118 => ⟨S8x512x4x16x64, .f32⟩
  | 119 => ⟨S8x4x512x16x64, .f32⟩
  | 120 => ⟨S8x4x4x128x16x64, .f32⟩
  | 121 => ⟨S_, .i32⟩
  | 122 => ⟨S_, .f32⟩
  | 123 => ⟨S8x4x5x128x16x64, .f32⟩
  | 124 => ⟨S8x4x4x128x16x64, .f32⟩
  | 125 => ⟨S8x4x4x256x16x64, .f32⟩
  | 126 => ⟨S8x4x4x16x128x256, .f32⟩
  | 127 => ⟨S_, .f32⟩
  | _ => ⟨S8x2048x4096, .f32⟩

abbrev hbmTy0_1 (i : Nat) : BufTy := match i % 128 with
  | 0 => ⟨S8x4x4x16x128x256, .f32⟩
  | 1 => ⟨S8x4x4x16x128x256, .f32⟩
  | 2 => ⟨S128, .i32⟩
  | 3 => ⟨S128x1, .i32⟩
  | 4 => ⟨S256, .i32⟩
  | 5 => ⟨S1x256, .i32⟩
  | 6 => ⟨S_, .i32⟩
  | 7 => ⟨S128x1, .i32⟩
  | 8 => ⟨S128x1, .i32⟩
  | 9 => ⟨S128x256, .i32⟩
  | 10 => ⟨S128x256, .i32⟩
  | 11 => ⟨S128x256, .i32⟩
  | 12 => ⟨S4, .i32⟩
  | 13 => ⟨S4x1x1, .i32⟩
  | 14 => ⟨S_, .i32⟩
  | 15 => ⟨S128x256, .i32⟩
  | 16 => ⟨S128x256, .i1⟩
  | 17 => ⟨S_, .i32⟩
  | 18 => ⟨S128x256, .i32⟩
  | 19 => ⟨S128x256, .i1⟩
  | 20 => ⟨S128x256, .i1⟩
  | 21 => ⟨S_, .i32⟩
  | 22 => ⟨S4x1x1, .i32⟩
  | 23 => ⟨S4x1x1, .i32⟩
  | 24 => ⟨S1x1x256, .i32⟩
  | 25 => ⟨S4x1x256, .i32⟩
  | 26 => ⟨S4x1x256, .i32⟩
  | 27 => ⟨S4x1x256, .i32⟩
  | 28 => ⟨S_, .i32⟩
  | 29 => ⟨S4x1x256, .i32⟩
  | 30 => ⟨S4x1x256, .i1⟩
  | 31 => ⟨S1x128x256, .i1⟩
  | 32 => ⟨S4x128x256, .i1⟩
  | 33 => ⟨S4x128x256, .i1⟩
  | 34 => ⟨S4x128x256, .i1⟩
  | 35 => ⟨S1x1x4x1x128x256, .i1⟩
  | 36 => ⟨S_, .f32⟩
  | 37 => ⟨S_, .f32⟩
  | 38 => ⟨S8x4x4x16x128x256, .i1⟩
  | 39 => ⟨S8x4x4x16x128x256, .f32⟩
  | 40 => ⟨S8x4x4x16x128x256, .f32⟩
  | 41 => ⟨S_, .f32⟩
  | 42 => ⟨S8x4x4x16x128, .f32⟩
  | 43 => ⟨S8x4x4x16x128x1, .f32⟩
  | 44 => ⟨S8x4x4x16x128x256, .f32⟩
  | 45 => ⟨S8x4x4x16x128x256, .f32⟩
  | 46 => ⟨S8x4x4x16x128x256, .f32⟩
  | 47 => ⟨S_, .f32⟩
  | 48 => ⟨S8x4x4x16x128, .f32⟩
  | 49 => ⟨S8x4x4x16x64x128, .f32⟩
  | 50 => ⟨S8x4x4x128x16x64, .f32⟩
  | 51 => ⟨S8x4x4x128x16, .f32⟩
  | 52 => ⟨S8x4x4x128x16x1, .f32⟩
  | 53 => ⟨S8x4x4x128x16x64, .f32⟩
  | 54 => ⟨S8x4x4x128x16x64, .f32⟩
  | 55 => ⟨S8x4x4x16x128, .f32⟩
  | 56 => ⟨S8x4x4x16x128, .f32⟩
  | 57 => ⟨S8x4x4x16x128, .f32⟩
  | 58 => ⟨S8x4x4x128x16, .f32⟩
  | 59 => ⟨S8x4x512x16x64, .f32⟩
  | 60 => ⟨S8x512x4x16x64, .f32⟩
  | 61 => ⟨S8x2048x16x64, .f32⟩
  | 62 => ⟨S8x4x512x16, .f32⟩
  | 63 => ⟨S8x512x4x16, .f32⟩
  | 64 => ⟨S8x2048x16, .f32⟩
  | 65 => ⟨S8x2048x1x16x64, .f32⟩
  | 66 => ⟨S8x2048x16x64, .f32⟩
  | 67 => ⟨S8x2048x1x16x64, .f32⟩
  | 68 => ⟨S8x2048x16x64, .f32⟩
  | 69 => ⟨S8x2048x1x16x64, .f32⟩
  | 70 => ⟨S8x2048x16x64, .f32⟩
  | 71 => ⟨S8x128x16x16x64, .f32⟩
  | 72 => ⟨S8x16x128x16x64, .f32⟩
  | 73 => ⟨S8x16x1x128x16x64, .f32⟩
  | 74 => ⟨S8x128x16x16x64, .f32⟩
  | 75 => ⟨S8x16x128x16x64, .f32⟩
  | 76 => ⟨S8x16x1x128x16x64, .f32⟩
  | 77 => ⟨S_, .i32⟩
  | 78 => ⟨S_, .f32⟩
  | 79 => ⟨S8x16x2x128x16x64, .f32⟩
  | 80 => ⟨S8x16x1x128x16x64, .f32⟩
  | 81 => ⟨S8x16x1x256x16x64, .f32⟩
  | 82 => ⟨S8x128x16x16x64, .f32⟩
  | 83 => ⟨S8x16x128x16x64, .f32⟩
  | 84 => ⟨S8x16x1x128x16x64, .f32⟩
  | 85 => ⟨S_, .i32⟩
  | 86 => ⟨S_, .f32⟩
  | 87 => ⟨S8x16x2x128x16x64, .f32⟩
  | 88 => ⟨S8x16x1x128x16x64, .f32⟩
  | 89 => ⟨S8x16x1x256x16x64, .f32⟩
  | 90 => ⟨S8x16x1x16x128x256, .f32⟩
  | 91 => ⟨S_, .f32⟩
  | 92 => ⟨S8x16x1x16x128x256, .f32⟩
  | 93 => ⟨S8x16x1x16x128x256, .f32⟩
  | 94 => ⟨S128, .i32⟩
  | 95 => ⟨S128x1, .i32⟩
  | 96 => ⟨S256, .i32⟩
  | 97 => ⟨S1x256, .i32⟩
  | 98 => ⟨S_, .i32⟩
  | 99 => ⟨S128x1, .i32⟩
  | 100 => ⟨S128x1, .i32⟩
  | 101 => ⟨S128x256, .i32⟩
  | 102 => ⟨S128x256, .i32⟩
  | 103 => ⟨S128x256, .i32⟩
  | 104 => ⟨S1, .i32⟩
  | 105 => ⟨S1x1x1, .i32⟩
  | 106 => ⟨S_, .i32⟩
  | 107 => ⟨S128x256, .i32⟩
  | 108 => ⟨S128x256, .i1⟩
  | 109 => ⟨S_, .i32⟩
  | 110 => ⟨S128x256, .i32⟩
  | 111 => ⟨S128x256, .i1⟩
  | 112 => ⟨S128x256, .i1⟩
  | 113 => ⟨S_, .i32⟩
  | 114 => ⟨S1x1x1, .i32⟩
  | 115 => ⟨S1x1x1, .i32⟩
  | 116 => ⟨S1x1x256, .i32⟩
  | 117 => ⟨S1x1x256, .i32⟩
  | 118 => ⟨S1x1x256, .i32⟩
  | 119 => ⟨S_, .i32⟩
  | 120 => ⟨S1x1x256, .i32⟩
  | 121 => ⟨S1x1x256, .i1⟩
  | 122 => ⟨S1x128x256, .i1⟩
  | 123 => ⟨S1x128x256, .i1⟩
  | 124 => ⟨S1x128x256, .i1⟩
  | 125 => ⟨S1x1x1x1x128x256, .i1⟩
  | 126 => ⟨S_, .f32⟩
  | 127 => ⟨S_, .f32⟩
  | _ => ⟨S8x2048x4096, .f32⟩

abbrev hbmTy0_2 (i : Nat) : BufTy := match i % 128 with
  | 0 => ⟨S8x16x1x16x128x256, .i1⟩
  | 1 => ⟨S8x16x1x16x128x256, .f32⟩
  | 2 => ⟨S8x16x1x16x128x256, .f32⟩
  | 3 => ⟨S_, .f32⟩
  | 4 => ⟨S8x16x1x16x128, .f32⟩
  | 5 => ⟨S8x16x1x16x128x1, .f32⟩
  | 6 => ⟨S8x16x1x16x128x256, .f32⟩
  | 7 => ⟨S8x16x1x16x128x256, .f32⟩
  | 8 => ⟨S8x16x1x16x128x256, .f32⟩
  | 9 => ⟨S_, .f32⟩
  | 10 => ⟨S8x16x1x16x128, .f32⟩
  | 11 => ⟨S8x16x1x16x64x128, .f32⟩
  | 12 => ⟨S8x16x1x128x16x64, .f32⟩
  | 13 => ⟨S8x16x1x128x16, .f32⟩
  | 14 => ⟨S8x16x1x128x16x1, .f32⟩
  | 15 => ⟨S8x16x1x128x16x64, .f32⟩
  | 16 => ⟨S8x16x1x128x16x64, .f32⟩
  | 17 => ⟨S8x16x1x16x128, .f32⟩
  | 18 => ⟨S8x16x1x16x128, .f32⟩
  | 19 => ⟨S8x16x1x16x128, .f32⟩
  | 20 => ⟨S8x16x1x128x16, .f32⟩
  | 21 => ⟨S8x16x128x16x64, .f32⟩
  | 22 => ⟨S8x128x16x16x64, .f32⟩
  | 23 => ⟨S8x2048x16x64, .f32⟩
  | 24 => ⟨S8x16x128x16, .f32⟩
  | 25 => ⟨S8x128x16x16, .f32⟩
  | 26 => ⟨S8x2048x16, .f32⟩
  | 27 => ⟨S1x8x2048x16, .f32⟩
  | 28 => ⟨S1x8x2048x16, .f32⟩
  | 29 => ⟨S1x8x2048x16, .f32⟩
  | 30 => ⟨S3x8x2048x16, .f32⟩
  | 31 => ⟨S_, .f32⟩
  | 32 => ⟨S8x2048x16, .f32⟩
  | 33 => ⟨S_, .f32⟩
  | 34 => ⟨S8x2048x16, .f32⟩
  | 35 => ⟨S8x2048x16, .f32⟩
  | 36 => ⟨S1x8x2048x16, .f32⟩
  | 37 => ⟨S3x8x2048x16, .f32⟩
  | 38 => ⟨S3x8x2048x16, .f32⟩
  | 39 => ⟨S3x8x2048x16, .f32⟩
  | 40 => ⟨S_, .f32⟩
  | 41 => ⟨S8x2048x16, .f32⟩
  | 42 => ⟨S1x8x2048x16, .f32⟩
  | 43 => ⟨S3x8x2048x16, .f32⟩
  | 44 => ⟨S3x8x2048x16, .f32⟩
  | 45 => ⟨S1x8x2048x16x64, .f32⟩
  | 46 => ⟨S1x8x2048x16x64, .f32⟩
  | 47 => ⟨S1x8x2048x16x64, .f32⟩
  | 48 => ⟨S3x8x2048x16x64, .f32⟩
  | 49 => ⟨S8x2048x16x64, .f32⟩
  | 50 => ⟨S8x2048x1024, .f32⟩
  | 51 => ⟨S8x2048x8x128, .f32⟩
  | 52 => ⟨S8x8x2048x128, .f32⟩
  | _ => ⟨S8x2048x4096, .f32⟩

abbrev hbmTy (i : Nat) : BufTy := match i / 128 with
  | 0 => hbmTy0_0 i
  | 1 => hbmTy0_1 i
  | 2 => hbmTy0_2 i
  | _ => ⟨S8x2048x4096, .f32⟩

abbrev bufTy : (tb : Table) → Fin (tcTables nBuf tb) → BufTy
  | .hbm, ⟨i, _⟩ => hbmTy i
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_c : Ref sig .tc := ⟨.hbm, 21, rfl⟩
abbrev main_call0_v0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_c_0 : Ref sig .tc := ⟨.hbm, 29, rfl⟩
abbrev main_call1_v0 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_c_1 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_c_2 : Ref sig .tc := ⟨.hbm, 50, rfl⟩
abbrev main_v42 : Ref sig .tc := ⟨.hbm, 51, rfl⟩
abbrev main_v43 : Ref sig .tc := ⟨.hbm, 52, rfl⟩
abbrev main_c_3 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_c_4 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_c_5 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_6 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v60 : Ref sig .tc := ⟨.hbm, 76, rfl⟩
abbrev main_cst_7 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_8 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_c_9 : Ref sig .tc := ⟨.hbm, 113, rfl⟩
abbrev main_call3_v0 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_c_10 : Ref sig .tc := ⟨.hbm, 121, rfl⟩
abbrev main_call4_v0 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_cst_11 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_c_12 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_c_13 : Ref sig .tc := ⟨.hbm, 142, rfl⟩
abbrev main_v118 : Ref sig .tc := ⟨.hbm, 143, rfl⟩
abbrev main_v119 : Ref sig .tc := ⟨.hbm, 144, rfl⟩
abbrev main_c_14 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_c_15 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_c_16 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_cst_17 : Ref sig .tc := ⟨.hbm, 164, rfl⟩
abbrev main_call5_v0 : Ref sig .tc := ⟨.hbm, 165, rfl⟩
abbrev main_call5_v1 : Ref sig .tc := ⟨.hbm, 166, rfl⟩
abbrev main_call5_v2 : Ref sig .tc := ⟨.hbm, 167, rfl⟩
abbrev main_v136 : Ref sig .tc := ⟨.hbm, 168, rfl⟩
abbrev main_cst_18 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_cst_19 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_c_20 : Ref sig .tc := ⟨.hbm, 205, rfl⟩
abbrev main_call6_v0 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_c_21 : Ref sig .tc := ⟨.hbm, 213, rfl⟩
abbrev main_call7_v0 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_cst_22 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_c_23 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_c_24 : Ref sig .tc := ⟨.hbm, 234, rfl⟩
abbrev main_v194 : Ref sig .tc := ⟨.hbm, 235, rfl⟩
abbrev main_v195 : Ref sig .tc := ⟨.hbm, 236, rfl⟩
abbrev main_c_25 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_c_26 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_c_27 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_cst_28 : Ref sig .tc := ⟨.hbm, 254, rfl⟩
abbrev main_call8_v0 : Ref sig .tc := ⟨.hbm, 255, rfl⟩
abbrev main_call8_v1 : Ref sig .tc := ⟨.hbm, 256, rfl⟩
abbrev main_call8_v2 : Ref sig .tc := ⟨.hbm, 257, rfl⟩
abbrev main_v210 : Ref sig .tc := ⟨.hbm, 258, rfl⟩
abbrev main_cst_29 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_cst_30 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩
abbrev main_v227 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_cst_31 : Ref sig .tc := ⟨.hbm, 287, rfl⟩
abbrev main_v237 : Ref sig .tc := ⟨.hbm, 288, rfl⟩
abbrev main_cst_32 : Ref sig .tc := ⟨.hbm, 289, rfl⟩
abbrev main_v238 : Ref sig .tc := ⟨.hbm, 290, rfl⟩
abbrev main_v239 : Ref sig .tc := ⟨.hbm, 291, rfl⟩
abbrev main_v240 : Ref sig .tc := ⟨.hbm, 292, rfl⟩
abbrev main_v241 : Ref sig .tc := ⟨.hbm, 293, rfl⟩
abbrev main_v242 : Ref sig .tc := ⟨.hbm, 294, rfl⟩
abbrev main_v243 : Ref sig .tc := ⟨.hbm, 295, rfl⟩
abbrev main_cst_33 : Ref sig .tc := ⟨.hbm, 296, rfl⟩
abbrev main_v244 : Ref sig .tc := ⟨.hbm, 297, rfl⟩
abbrev main_v245 : Ref sig .tc := ⟨.hbm, 298, rfl⟩
abbrev main_v246 : Ref sig .tc := ⟨.hbm, 299, rfl⟩
abbrev main_v247 : Ref sig .tc := ⟨.hbm, 300, rfl⟩
abbrev main_v248 : Ref sig .tc := ⟨.hbm, 301, rfl⟩
abbrev main_v249 : Ref sig .tc := ⟨.hbm, 302, rfl⟩
abbrev main_v250 : Ref sig .tc := ⟨.hbm, 303, rfl⟩
abbrev main_v251 : Ref sig .tc := ⟨.hbm, 304, rfl⟩
abbrev main_v252 : Ref sig .tc := ⟨.hbm, 305, rfl⟩
abbrev main_v253 : Ref sig .tc := ⟨.hbm, 306, rfl⟩
abbrev main_v254 : Ref sig .tc := ⟨.hbm, 307, rfl⟩
abbrev main_v255 : Ref sig .tc := ⟨.hbm, 308, rfl⟩

abbrev nD : Nat := 1
abbrev τ : Topo := Topo.v7x

variable {F : FTy → Type} [FloatOps F]

def κ : String → Option EReal := fun
  | "mask" => some ⊥
  | _ => none
-- ==== Kernel2.lean ====
abbrev S8x2048x1024 : Shape := ⟨3, ![8, 2048, 1024]⟩
abbrev S1024 : Shape := ⟨1, ![1024]⟩
abbrev S1024x4096 : Shape := ⟨2, ![1024, 4096]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S16384x1024 : Shape := ⟨2, ![16384, 1024]⟩
abbrev S1x1024 : Shape := ⟨2, ![1, 1024]⟩
abbrev S8x32x2048x128 : Shape := ⟨4, ![8, 32, 2048, 128]⟩
abbrev S256x1024 : Shape := ⟨2, ![256, 1024]⟩
abbrev S256x128 : Shape := ⟨2, ![256, 128]⟩
abbrev S1x32x256x128 : Shape := ⟨4, ![1, 32, 256, 128]⟩
abbrev S256 : Shape := ⟨1, ![256]⟩
abbrev S256x1 : Shape := ⟨2, ![256, 1]⟩
abbrev S1024x1024 : Shape := ⟨2, ![1024, 1024]⟩
abbrev S1x128 : Shape := ⟨2, ![1, 128]⟩
abbrev S1x1x256x128 : Shape := ⟨4, ![1, 1, 256, 128]⟩

abbrev nBuf : Space → Nat
  | .hbm => 28
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x4096, .f32⟩
  | .hbm, ⟨3, _⟩ => ⟨S2048, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S2048, .f32⟩
  | .hbm, ⟨13, _⟩ => ⟨S2048x1, .f32⟩
  | .hbm, ⟨14, _⟩ => ⟨S1x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x128, .f32⟩
  | .hbm, ⟨21, _⟩ => ⟨S2048x32, .f32⟩
  | .hbm, ⟨22, _⟩ => ⟨S2048x32, .f32⟩
  | .hbm, ⟨23, _⟩ => ⟨S2048x128, .f32⟩
  | .hbm, ⟨24, _⟩ => ⟨S16384x1024, .f32⟩
  | .hbm, ⟨25, _⟩ => ⟨S1x1024, .f32⟩
  | .hbm, ⟨26, _⟩ => ⟨S1024x4096, .bf16⟩
  | .hbm, ⟨27, _⟩ => ⟨S8x32x2048x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x32x256x128, .f32⟩
  | .local _ .vmem, ⟨9, _⟩ => ⟨S1x32x256x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel2Ideal.lean ====
def κ : String → Option EReal := fun
  | "mask" => some ⊥
  | _ => none
-- ==== Reference2Ideal.lean ====
abbrev S8x2048x1024 : Shape := ⟨3, ![8, 2048, 1024]⟩
abbrev S1024 : Shape := ⟨1, ![1024]⟩
abbrev S1024x4096 : Shape := ⟨2, ![1024, 4096]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩
abbrev S8x2048x3072 : Shape := ⟨3, ![8, 2048, 3072]⟩
abbrev S8x2048x48x64 : Shape := ⟨4, ![8, 2048, 48, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S8x2048x48x32 : Shape := ⟨4, ![8, 2048, 48, 32]⟩
abbrev S1x2048x1x32 : Shape := ⟨4, ![1, 2048, 1, 32]⟩
abbrev S8x2048x32x128 : Shape := ⟨4, ![8, 2048, 32, 128]⟩
abbrev S8x32x2048x128 : Shape := ⟨4, ![8, 32, 2048, 128]⟩

abbrev nBuf : Space → Nat
  | .hbm => 63
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x4096, .f32⟩
  | .hbm, ⟨3, _⟩ => ⟨S2048, .i32⟩
  | .hbm, ⟨4, _⟩ => ⟨S8x2048x1024, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x1024, .f32⟩
  | .hbm, ⟨16, _⟩ => ⟨S8x2048x1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S8x2048x4096, .f32⟩
  | .hbm, ⟨21, _⟩ => ⟨S8x2048x3072, .f32⟩
  | .hbm, ⟨22, _⟩ => ⟨S8x2048x48x64, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S2048, .f32⟩
  | .hbm, ⟨32, _⟩ => ⟨S2048x1, .f32⟩
  | .hbm, ⟨33, _⟩ => ⟨S1x32, .f32⟩
  | .hbm, ⟨34, _⟩ => ⟨S2048x32, .f32⟩
  | .hbm, ⟨35, _⟩ => ⟨S2048x32, .f32⟩
  | .hbm, ⟨36, _⟩ => ⟨S2048x32, .f32⟩
  | .hbm, ⟨37, _⟩ => ⟨S2048x32, .f32⟩
  | .hbm, ⟨38, _⟩ => ⟨S2048x1x32, .f32⟩
  | .hbm, ⟨39, _⟩ => ⟨S2048x32, .f32⟩
  | .hbm, ⟨40, _⟩ => ⟨S2048x1x32, .f32⟩
  | .hbm, ⟨41, _⟩ => ⟨S8x2048x48x32, .f32⟩
  | .hbm, ⟨42, _⟩ => ⟨S8x2048x48x32, .f32⟩
  | .hbm, ⟨43, _⟩ => ⟨S1x2048x1x32, .f32⟩
  | .hbm, ⟨44, _⟩ => ⟨S8x2048x48x32, .f32⟩
  | .hbm, ⟨45, _⟩ => ⟨S8x2048x48x32, .f32⟩
  | .hbm, ⟨46, _⟩ => ⟨S1x2048x1x32, .f32⟩
  | .hbm, ⟨47, _⟩ => ⟨S8x2048x48x32, .f32⟩
  | .hbm, ⟨48, _⟩ => ⟨S8x2048x48x32, .f32⟩
  | .hbm, ⟨49, _⟩ => ⟨S8x2048x48x32, .f32⟩
  | .hbm, ⟨50, _⟩ => ⟨S1x2048x1x32, .f32⟩
  | .hbm, ⟨51, _⟩ => ⟨S8x2048x48x32, .f32⟩
  | .hbm, ⟨52, _⟩ => ⟨S8x2048x48x32, .f32⟩
  | .hbm, ⟨53, _⟩ => ⟨S1x2048x1x32, .f32⟩
  | .hbm, ⟨54, _⟩ => ⟨S8x2048x48x32, .f32⟩
  | .hbm, ⟨55, _⟩ => ⟨S8x2048x48x32, .f32⟩
  | .hbm, ⟨56, _⟩ => ⟨S8x2048x48x32, .f32⟩
  | .hbm, ⟨57, _⟩ => ⟨S8x2048x48x64, .f32⟩
  | .hbm, ⟨58, _⟩ => ⟨S8x2048x3072, .f32⟩
  | .hbm, ⟨59, _⟩ => ⟨S8x2048x1024, .f32⟩
  | .hbm, ⟨60, _⟩ => ⟨S8x2048x4096, .f32⟩
  | .hbm, ⟨61, _⟩ => ⟨S8x2048x32x128, .f32⟩
  | .hbm, ⟨62, _⟩ => ⟨S8x32x2048x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩

abbrev nD : Nat := 1
abbrev τ : Topo := Topo.v7x

variable {F : FTy → Type} [FloatOps F]

def κ : String → Option EReal := fun
  | "mask" => some ⊥
  | _ => none
-- ==== Kernel3.lean ====
abbrev S8x2048x1024 : Shape := ⟨3, ![8, 2048, 1024]⟩
abbrev S1024 : Shape := ⟨1, ![1024]⟩
abbrev S1024x6144 : Shape := ⟨2, ![1024, 6144]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S16384x1024 : Shape := ⟨2, ![16384, 1024]⟩
abbrev S1x1024 : Shape := ⟨2, ![1, 1024]⟩
abbrev S8x48x2048x128 : Shape := ⟨4, ![8, 48, 2048, 128]⟩
abbrev S8x2x1024x128 : Shape := ⟨4, ![8, 2, 1024, 128]⟩
abbrev S8x2x1024x512 : Shape := ⟨4, ![8, 2, 1024, 512]⟩
abbrev S8x2x1024x2048 : Shape := ⟨4, ![8, 2, 1024, 2048]⟩
abbrev S256x1024 : Shape := ⟨2, ![256, 1024]⟩
abbrev S256x128 : Shape := ⟨2, ![256, 128]⟩
abbrev S1x48x256x128 : Shape := ⟨4, ![1, 48, 256, 128]⟩
abbrev S1x2x1024x128 : Shape := ⟨4, ![1, 2, 1024, 128]⟩
abbrev S1x2x1024x256 : Shape := ⟨4, ![1, 2, 1024, 256]⟩
abbrev S256 : Shape := ⟨1, ![256]⟩
abbrev S256x1 : Shape := ⟨2, ![256, 1]⟩
abbrev S1024x1024 : Shape := ⟨2, ![1024, 1024]⟩
abbrev S1x128 : Shape := ⟨2, ![1, 128]⟩
abbrev S1x1x256x128 : Shape := ⟨4, ![1, 1, 256, 128]⟩
abbrev S128x1024 : Shape := ⟨2, ![128, 1024]⟩
abbrev S1024x128 : Shape := ⟨2, ![1024, 128]⟩
abbrev S1x1x1024x128 : Shape := ⟨4, ![1, 1, 1024, 128]⟩
abbrev S1024x256 : Shape := ⟨2, ![1024, 256]⟩
abbrev S1x1x1024x256 : Shape := ⟨4, ![1, 1, 1024, 256]⟩

abbrev nBuf : Space → Nat
  | .hbm => 31
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x6144, .f32⟩
  | .hbm, ⟨3, _⟩ => ⟨S2048, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S2048, .f32⟩
  | .hbm, ⟨13, _⟩ => ⟨S2048x1, .f32⟩
  | .hbm, ⟨14, _⟩ => ⟨S1x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x128, .f32⟩
  | .hbm, ⟨21, _⟩ => ⟨S2048x32, .f32⟩
  | .hbm, ⟨22, _⟩ => ⟨S2048x32, .f32⟩
  | .hbm, ⟨23, _⟩ => ⟨S2048x128, .f32⟩
  | .hbm, ⟨24, _⟩ => ⟨S16384x1024, .f32⟩
  | .hbm, ⟨25, _⟩ => ⟨S1x1024, .f32⟩
  | .hbm, ⟨26, _⟩ => ⟨S1024x6144, .bf16⟩
  | .hbm, ⟨27, _⟩ => ⟨S8x48x2048x128, .f32⟩
  | .hbm, ⟨28, _⟩ => ⟨S8x2x1024x128, .f32⟩
  | .hbm, ⟨29, _⟩ => ⟨S8x2x1024x512, .f32⟩
  | .hbm, ⟨30, _⟩ => ⟨S8x2x1024x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6144, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x48x256x128, .f32⟩
  | .local _ .vmem, ⟨9, _⟩ => ⟨S1x48x256x128, .f32⟩
  | .local _ .vmem, ⟨10, _⟩ => ⟨S1x2x1024x128, .f32⟩
  | .local _ .vmem, ⟨11, _⟩ => ⟨S1x2x1024x128, .f32⟩
  | .local _ .vmem, ⟨12, _⟩ => ⟨S1x2x1024x256, .f32⟩
  | .local _ .vmem, ⟨13, _⟩ => ⟨S1x2x1024x256, .f32⟩
  | .local _ .vmem, ⟨14, _⟩ => ⟨S1x2x1024x256, .f32⟩
  | .local _ .vmem, ⟨15, _⟩ => ⟨S1x2x1024x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22_0 : Ref sig .tc := ⟨.hbm, 27, rfl⟩
abbrev main_v22_1 : Ref sig .tc := ⟨.hbm, 28, rfl⟩
abbrev main_v22_2 : Ref sig .tc := ⟨.hbm, 29, rfl⟩
abbrev main_v22_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c7_i32 : BitVec 32 := 7#32
  let v27 : BitVec 32 := Scalar.subi v26 c7_i32
  let c0_i32_10 : BitVec 32 := 0#32
  let v28 : BitVec 32 := Scalar.maxsi v27 c0_i32_10
  let c0_i32_11 : BitVec 32 := 0#32
  let c0_i32_12 : BitVec 32 := 0#32
  let c0_i32_13 : BitVec 32 := 0#32
  ![v16.toNat, c0_i32_11.toNat, c0_i32_12.toNat, v28.toNat]

def cc0_transform_7 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c6_i32 : BitVec 32 := 6#32
  let v27 : BitVec 32 := Scalar.subi v26 c6_i32
  let c0_i32_10 : BitVec 32 := 0#32
  let v28 : BitVec 32 := Scalar.maxsi v27 c0_i32_10
  let c0_i32_11 : BitVec 32 := 0#32
  let c0_i32_12 : BitVec 32 := 0#32
  let c0_i32_13 : BitVec 32 := 0#32
  ![v16.toNat, c0_i32_11.toNat, c0_i32_12.toNat, v28.toNat]

def cc0_transform_8 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.subi v26 c0_i32_10
  let c0_i32_11 : BitVec 32 := 0#32
  let v28 : BitVec 32 := Scalar.maxsi v27 c0_i32_11
  let c0_i32_12 : BitVec 32 := 0#32
  let c0_i32_13 : BitVec 32 := 0#32
  let c0_i32_14 : BitVec 32 := 0#32
  ![v16.toNat, c0_i32_12.toNat, c0_i32_13.toNat, v28.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x48x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel3Ideal.lean ====
def κ : String → Option EReal := fun
  | "mask" => some ⊥
  | _ => none
-- ==== Reference3Ideal.lean ====
abbrev S8x2048x1024 : Shape := ⟨3, ![8, 2048, 1024]⟩
abbrev S1024 : Shape := ⟨1, ![1024]⟩
abbrev S1024x6144 : Shape := ⟨2, ![1024, 6144]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x6144 : Shape := ⟨3, ![8, 2048, 6144]⟩
abbrev S8x2048x2x48x64 : Shape := ⟨5, ![8, 2048, 2, 48, 64]⟩
abbrev S8x2048x1x48x64 : Shape := ⟨5, ![8, 2048, 1, 48, 64]⟩
abbrev S8x2048x48x64 : Shape := ⟨4, ![8, 2048, 48, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S8x2048x48x32 : Shape := ⟨4, ![8, 2048, 48, 32]⟩
abbrev S1x2048x1x32 : Shape := ⟨4, ![1, 2048, 1, 32]⟩
abbrev S8x2048x3x16x64 : Shape := ⟨5, ![8, 2048, 3, 16, 64]⟩
abbrev S8x2048x1x3x16x64 : Shape := ⟨6, ![8, 2048, 1, 3, 16, 64]⟩
abbrev S8x2048x2x3x16x64 : Shape := ⟨6, ![8, 2048, 2, 3, 16, 64]⟩
abbrev S8x2048x48x128 : Shape := ⟨4, ![8, 2048, 48, 128]⟩
abbrev S8x48x2048x128 : Shape := ⟨4, ![8, 48, 2048, 128]⟩
abbrev S8x128x1x16x64 : Shape := ⟨5, ![8, 128, 1, 16, 64]⟩
abbrev S8x128x16x64 : Shape := ⟨4, ![8, 128, 16, 64]⟩
abbrev S8x128x2x16x64 : Shape := ⟨5, ![8, 128, 2, 16, 64]⟩
abbrev S8x128x2x1024 : Shape := ⟨4, ![8, 128, 2, 1024]⟩
abbrev S8x2x1024x128 : Shape := ⟨4, ![8, 2, 1024, 128]⟩
abbrev S8x512x1x16x64 : Shape := ⟨5, ![8, 512, 1, 16, 64]⟩
abbrev S8x512x16x64 : Shape := ⟨4, ![8, 512, 16, 64]⟩
abbrev S8x512x2x16x64 : Shape := ⟨5, ![8, 512, 2, 16, 64]⟩
abbrev S8x512x2x1024 : Shape := ⟨4, ![8, 512, 2, 1024]⟩
abbrev S8x2x1024x512 : Shape := ⟨4, ![8, 2, 1024, 512]⟩
abbrev S8x2048x1x16x64 : Shape := ⟨5, ![8, 2048, 1, 16, 64]⟩
abbrev S8x2048x16x64 : Shape := ⟨4, ![8, 2048, 16, 64]⟩
abbrev S8x2048x2x16x64 : Shape := ⟨5, ![8, 2048, 2, 16, 64]⟩
abbrev S8x2048x2x1024 : Shape := ⟨4, ![8, 2048, 2, 1024]⟩
abbrev S8x2x1024x2048 : Shape := ⟨4, ![8, 2, 1024, 2048]⟩

abbrev nBuf : Space → Nat
  | .hbm => 95
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x6144, .f32⟩
  | .hbm, ⟨3, _⟩ => ⟨S2048, .i32⟩
  | .hbm, ⟨4, _⟩ => ⟨S8x2048x1024, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x1024, .f32⟩
  | .hbm, ⟨16, _⟩ => ⟨S8x2048x1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S8x2048x6144, .f32⟩
  | .hbm, ⟨21, _⟩ => ⟨S8x2048x2x48x64, .f32⟩
  | .hbm, ⟨22, _⟩ => ⟨S8x2048x1x48x64, .f32⟩
  | .hbm, ⟨23, _⟩ => ⟨S8x2048x48x64, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S2048, .f32⟩
  | .hbm, ⟨33, _⟩ => ⟨S2048x1, .f32⟩
  | .hbm, ⟨34, _⟩ => ⟨S1x32, .f32⟩
  | .hbm, ⟨35, _⟩ => ⟨S2048x32, .f32⟩
  | .hbm, ⟨36, _⟩ => ⟨S2048x32, .f32⟩
  | .hbm, ⟨37, _⟩ => ⟨S2048x32, .f32⟩
  | .hbm, ⟨38, _⟩ => ⟨S2048x32, .f32⟩
  | .hbm, ⟨39, _⟩ => ⟨S2048x1x32, .f32⟩
  | .hbm, ⟨40, _⟩ => ⟨S2048x32, .f32⟩
  | .hbm, ⟨41, _⟩ => ⟨S2048x1x32, .f32⟩
  | .hbm, ⟨42, _⟩ => ⟨S8x2048x48x32, .f32⟩
  | .hbm, ⟨43, _⟩ => ⟨S8x2048x48x32, .f32⟩
  | .hbm, ⟨44, _⟩ => ⟨S1x2048x1x32, .f32⟩
  | .hbm, ⟨45, _⟩ => ⟨S8x2048x48x32, .f32⟩
  | .hbm, ⟨46, _⟩ => ⟨S8x2048x48x32, .f32⟩
  | .hbm, ⟨47, _⟩ => ⟨S1x2048x1x32, .f32⟩
  | .hbm, ⟨48, _⟩ => ⟨S8x2048x48x32, .f32⟩
  | .hbm, ⟨49, _⟩ => ⟨S8x2048x48x32, .f32⟩
  | .hbm, ⟨50, _⟩ => ⟨S8x2048x48x32, .f32⟩
  | .hbm, ⟨51, _⟩ => ⟨S1x2048x1x32, .f32⟩
  | .hbm, ⟨52, _⟩ => ⟨S8x2048x48x32, .f32⟩
  | .hbm, ⟨53, _⟩ => ⟨S8x2048x48x32, .f32⟩
  | .hbm, ⟨54, _⟩ => ⟨S1x2048x1x32, .f32⟩
  | .hbm, ⟨55, _⟩ => ⟨S8x2048x48x32, .f32⟩
  | .hbm, ⟨56, _⟩ => ⟨S8x2048x48x32, .f32⟩
  | .hbm, ⟨57, _⟩ => ⟨S8x2048x48x32, .f32⟩
  | .hbm, ⟨58, _⟩ => ⟨S8x2048x48x64, .f32⟩
  | .hbm, ⟨59, _⟩ => ⟨S8x2048x3x16x64, .f32⟩
  | .hbm, ⟨60, _⟩ => ⟨S8x2048x1x48x64, .f32⟩
  | .hbm, ⟨61, _⟩ => ⟨S8x2048x48x64, .f32⟩
  | .hbm, ⟨62, _⟩ => ⟨S8x2048x3x16x64, .f32⟩
  | .hbm, ⟨63, _⟩ => ⟨S8x2048x1x3x16x64, .f32⟩
  | .hbm, ⟨64, _⟩ => ⟨S8x2048x1x3x16x64, .f32⟩
  | .hbm, ⟨65, _⟩ => ⟨S8x2048x2x3x16x64, .f32⟩
  | .hbm, ⟨66, _⟩ => ⟨S8x2048x48x128, .f32⟩
  | .hbm, ⟨67, _⟩ => ⟨S8x48x2048x128, .f32⟩
  | .hbm, ⟨68, _⟩ => ⟨S8x128x1x16x64, .f32⟩
  | .hbm, ⟨69, _⟩ => ⟨S8x128x16x64, .f32⟩
  | .hbm, ⟨70, _⟩ => ⟨S8x128x1x16x64, .f32⟩
  | .hbm, ⟨71, _⟩ => ⟨S8x128x16x64, .f32⟩
  | .hbm, ⟨72, _⟩ => ⟨S8x128x1x16x64, .f32⟩
  | .hbm, ⟨73, _⟩ => ⟨S8x128x1x16x64, .f32⟩
  | .hbm, ⟨74, _⟩ => ⟨S8x128x2x16x64, .f32⟩
  | .hbm, ⟨75, _⟩ => ⟨S8x128x2x1024, .f32⟩
  | .hbm, ⟨76, _⟩ => ⟨S8x2x1024x128, .f32⟩
  | .hbm, ⟨77, _⟩ => ⟨S8x512x1x16x64, .f32⟩
  | .hbm, ⟨78, _⟩ => ⟨S8x512x16x64, .f32⟩
  | .hbm, ⟨79, _⟩ => ⟨S8x512x1x16x64, .f32⟩
  | .hbm, ⟨80, _⟩ => ⟨S8x512x16x64, .f32⟩
  | .hbm, ⟨81, _⟩ => ⟨S8x512x1x16x64, .f32⟩
  | .hbm, ⟨82, _⟩ => ⟨S8x512x1x16x64, .f32⟩
  | .hbm, ⟨83, _⟩ => ⟨S8x512x2x16x64, .f32⟩
  | .hbm, ⟨84, _⟩ => ⟨S8x512x2x1024, .f32⟩
  | .hbm, ⟨85, _⟩ => ⟨S8x2x1024x512, .f32⟩
  | .hbm, ⟨86, _⟩ => ⟨S8x2048x1x16x64, .f32⟩
  | .hbm, ⟨87, _⟩ => ⟨S8x2048x16x64, .f32⟩
  | .hbm, ⟨88, _⟩ => ⟨S8x2048x1x16x64, .f32⟩
  | .hbm, ⟨89, _⟩ => ⟨S8x2048x16x64, .f32⟩
  | .hbm, ⟨90, _⟩ => ⟨S8x2048x1x16x64, .f32⟩
  | .hbm, ⟨91, _⟩ => ⟨S8x2048x1x16x64, .f32⟩
  | .hbm, ⟨92, _⟩ => ⟨S8x2048x2x16x64, .f32⟩
  | .hbm, ⟨93, _⟩ => ⟨S8x2048x2x1024, .f32⟩
  | .hbm, ⟨94, _⟩ => ⟨S8x2x1024x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩

abbrev nD : Nat := 1
abbrev τ : Topo := Topo.v7x

variable {F : FTy → Type} [FloatOps F]

def κ : String → Option EReal := fun
  | "mask" => some ⊥
  | _ => none
-- ==== Kernel4.lean ====
abbrev S8x2048x1024 : Shape := ⟨3, ![8, 2048, 1024]⟩
abbrev S8x2048x4096 : Shape := ⟨3, ![8, 2048, 4096]⟩
abbrev S1024x1024 : Shape := ⟨2, ![1024, 1024]⟩
abbrev S8x2048x8x128 : Shape := ⟨4, ![8, 2048, 8, 128]⟩
abbrev S8x8x2048x128 : Shape := ⟨4, ![8, 8, 2048, 128]⟩
abbrev S8x2048x32x128 : Shape := ⟨4, ![8, 2048, 32, 128]⟩
abbrev S8x32x2048x128 : Shape := ⟨4, ![8, 32, 2048, 128]⟩
abbrev S16384x1024 : Shape := ⟨2, ![16384, 1024]⟩
abbrev S1x8x512x128 : Shape := ⟨4, ![1, 8, 512, 128]⟩
abbrev S512x1024 : Shape := ⟨2, ![512, 1024]⟩
abbrev S1x1x512x128 : Shape := ⟨4, ![1, 1, 512, 128]⟩
abbrev S512x128 : Shape := ⟨2, ![512, 128]⟩

abbrev nBuf : Space → Nat
  | .hbm => 11
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S8x2048x4096, .f32⟩
  | .hbm, ⟨2, _⟩ => ⟨S8x2048x1024, .f32⟩
  | .hbm, ⟨3, _⟩ => ⟨S1024x1024, .f32⟩
  | .hbm, ⟨4, _⟩ => ⟨S8x2048x8x128, .f32⟩
  | .hbm, ⟨5, _⟩ => ⟨S8x8x2048x128, .f32⟩
  | .hbm, ⟨6, _⟩ => ⟨S8x2048x32x128, .f32⟩
  | .hbm, ⟨7, _⟩ => ⟨S8x32x2048x128, .f32⟩
  | .hbm, ⟨8, _⟩ => ⟨S16384x1024, .f32⟩
  | .hbm, ⟨9, _⟩ => ⟨S1024x1024, .bf16⟩
  | .hbm, ⟨10, _⟩ => ⟨S16384x1024, .f32⟩
  | .local _ .vmem, ⟨0, _⟩ => ⟨S1x8x512x128, .f32⟩
  | .local _ .vmem, ⟨1, _⟩ => ⟨S1x8x512x128, .f32⟩
  | .local _ .vmem, ⟨2, _⟩ => ⟨S1x8x512x128, .f32⟩
  | .local _ .vmem, ⟨3, _⟩ => ⟨S1x8x512x128, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_10 : BitVec 32 := 0#32
  let c0_i32_11 : BitVec 32 := 0#32
  ![v16.toNat, c3_i32.toNat, v26.toNat, c0_i32_10.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel4Ideal.lean ====
def κ : String → Option EReal := fun
  | "mask" => some ⊥
  | _ => none
-- ==== Reference4Ideal.lean ====
abbrev S8x2048x1024 : Shape := ⟨3, ![8, 2048, 1024]⟩
abbrev S8x2048x4096 : Shape := ⟨3, ![8, 2048, 4096]⟩
abbrev S1024x1024 : Shape := ⟨2, ![1024, 1024]⟩
abbrev S_ : Shape := ⟨0, ![]⟩
abbrev S16384x1024 : Shape := ⟨2, ![16384, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x4096, .f32⟩
  | .hbm, ⟨2, _⟩ => ⟨S8x2048x1024, .f32⟩
  | .hbm, ⟨3, _⟩ => ⟨S1024x1024, .f32⟩
  | .hbm, ⟨4, _⟩ => ⟨S8x2048x1024, .f32⟩
  | .hbm, ⟨5, _⟩ => ⟨S8x2048x1024, .f32⟩
  | .hbm, ⟨6, _⟩ => ⟨S8x2048x1024, .f32⟩
  | .hbm, ⟨7, _⟩ => ⟨S_, .f32⟩
  | .hbm, ⟨8, _⟩ => ⟨S8x2048x1024, .f32⟩
  | .hbm, ⟨9, _⟩ => ⟨S8x2048x1024, .f32⟩
  | .hbm, ⟨10, _⟩ => ⟨S_, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]

def κ : String → Option EReal := fun
  | "mask" => some ⊥
  | _ => none
-- ==== Kernel5.lean ====
abbrev S8x2048x1024 : Shape := ⟨3, ![8, 2048, 1024]⟩
abbrev S8x2048x4096 : Shape := ⟨3, ![8, 2048, 4096]⟩
abbrev S1024x1024 : Shape := ⟨2, ![1024, 1024]⟩
abbrev S1024 : Shape := ⟨1, ![1024]⟩
abbrev S8x2048x8x128 : Shape := ⟨4, ![8, 2048, 8, 128]⟩
abbrev S8x8x2048x128 : Shape := ⟨4, ![8, 8, 2048, 128]⟩
abbrev S8x2048x32x128 : Shape := ⟨4, ![8, 2048, 32, 128]⟩
abbrev S8x32x2048x128 : Shape := ⟨4, ![8, 32, 2048, 128]⟩
abbrev S16384x1024 : Shape := ⟨2, ![16384, 1024]⟩
abbrev S1x1024 : Shape := ⟨2, ![1, 1024]⟩
abbrev S1x8x512x128 : Shape := ⟨4, ![1, 8, 512, 128]⟩
abbrev S512x1024 : Shape := ⟨2, ![512, 1024]⟩
abbrev S1x1x512x128 : Shape := ⟨4, ![1, 1, 512, 128]⟩
abbrev S512x128 : Shape := ⟨2, ![512, 128]⟩
abbrev S512 : Shape := ⟨1, ![512]⟩
abbrev S512x1 : Shape := ⟨2, ![512, 1]⟩

abbrev nBuf : Space → Nat
  | .hbm => 13
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S8x2048x4096, .f32⟩
  | .hbm, ⟨2, _⟩ => ⟨S8x2048x1024, .f32⟩
  | .hbm, ⟨3, _⟩ => ⟨S1024x1024, .f32⟩
  | .hbm, ⟨4, _⟩ => ⟨S1024, .f32⟩
  | .hbm, ⟨5, _⟩ => ⟨S8x2048x8x128, .f32⟩
  | .hbm, ⟨6, _⟩ => ⟨S8x8x2048x128, .f32⟩
  | .hbm, ⟨7, _⟩ => ⟨S8x2048x32x128, .f32⟩
  | .hbm, ⟨8, _⟩ => ⟨S8x32x2048x128, .f32⟩
  | .hbm, ⟨9, _⟩ => ⟨S16384x1024, .f32⟩
  | .hbm, ⟨10, _⟩ => ⟨S1024x1024, .bf16⟩
  | .hbm, ⟨11, _⟩ => ⟨S1x1024, .f32⟩
  | .hbm, ⟨12, _⟩ => ⟨S16384x1024, .f32⟩
  | .local _ .vmem, ⟨0, _⟩ => ⟨S1x8x512x128, .f32⟩
  | .local _ .vmem, ⟨1, _⟩ => ⟨S1x8x512x128, .f32⟩
  | .local _ .vmem, ⟨2, _⟩ => ⟨S1x8x512x128, .f32⟩
  | .local _ .vmem, ⟨3, _⟩ => ⟨S1x8x512x128, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let c0_i32_10 : BitVec 32 := 0#32
  let c0_i32_11 : BitVec 32 := 0#32
  ![v16.toNat, c3_i32.toNat, v26.toNat, c0_i32_10.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel5Ideal.lean ====
def κ : String → Option EReal := fun
  | "mask" => some ⊥
  | _ => none
-- ==== Reference5Ideal.lean ====
abbrev S8x2048x1024 : Shape := ⟨3, ![8, 2048, 1024]⟩
abbrev S8x2048x4096 : Shape := ⟨3, ![8, 2048, 4096]⟩
abbrev S1024x1024 : Shape := ⟨2, ![1024, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x4096, .f32⟩
  | .hbm, ⟨2, _⟩ => ⟨S8x2048x1024, .f32⟩
  | .hbm, ⟨3, _⟩ => ⟨S1024x1024, .f32⟩
  | .hbm, ⟨4, _⟩ => ⟨S1024, .f32⟩
  | .hbm, ⟨5, _⟩ => ⟨S8x2048x1024, .f32⟩
  | .hbm, ⟨6, _⟩ => ⟨S8x2048x1024, .f32⟩
  | .hbm, ⟨7, _⟩ => ⟨S8x2048x1024, .f32⟩
  | .hbm, ⟨8, _⟩ => ⟨S_, .f32⟩
  | .hbm, ⟨9, _⟩ => ⟨S8x2048x1024, .f32⟩
  | .hbm, ⟨10, _⟩ => ⟨S8x2048x1024, .f32⟩
  | .hbm, ⟨11, _⟩ => ⟨S_, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S1x1x1024, .f32⟩
  | .hbm, ⟨32, _⟩ => ⟨S8x2048x1024, .f32⟩
  | .hbm, ⟨33, _⟩ => ⟨S8x2048x1024, .f32⟩
  | .hbm, ⟨34, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]

def κ : String → Option EReal := fun
  | "mask" => some ⊥
  | _ => none
-- ==== Kernel6.lean ====
abbrev S8x2048x1024 : Shape := ⟨3, ![8, 2048, 1024]⟩
abbrev S2x16x64 : Shape := ⟨3, ![2, 16, 64]⟩
abbrev S2x1024 : Shape := ⟨2, ![2, 1024]⟩
abbrev S2x1024x1024 : Shape := ⟨3, ![2, 1024, 1024]⟩
abbrev S2x1x1024 : Shape := ⟨3, ![2, 1, 1024]⟩
abbrev S16384x1024 : Shape := ⟨2, ![16384, 1024]⟩
abbrev S512x1024 : Shape := ⟨2, ![512, 1024]⟩
abbrev S1x1x1024 : Shape := ⟨3, ![1, 1, 1024]⟩
abbrev S1x1024x1024 : Shape := ⟨3, ![1, 1024, 1024]⟩
abbrev S128x128 : Shape := ⟨2, ![128, 128]⟩
abbrev S512x128 : Shape := ⟨2, ![512, 128]⟩
abbrev S1x1024 : Shape := ⟨2, ![1, 1024]⟩
abbrev S1024x1024 : Shape := ⟨2, ![1024, 1024]⟩

abbrev nBuf : Space → Nat
  | .hbm => 21
  | .vmem => 18
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x1024, .f32⟩
  | .hbm, ⟨4, _⟩ => ⟨S8x2048x1024, .f32⟩
  | .hbm, ⟨5, _⟩ => ⟨S8x2048x1024, .f32⟩
  | .hbm, ⟨6, _⟩ => ⟨S2x16x64, .f32⟩
  | .hbm, ⟨7, _⟩ => ⟨S2x1024, .f32⟩
  | .hbm, ⟨8, _⟩ => ⟨S2x1024, .f32⟩
  | .hbm, ⟨9, _⟩ => ⟨S2x1024x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1024x1024, .bf16⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1024x1024, .bf16⟩
  | .local _ .vmem, ⟨16, _⟩ => ⟨S512x1024, .f32⟩
  | .local _ .vmem, ⟨17, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel6Ideal.lean ====
def κ : String → Option EReal := fun
  | "mask" => some ⊥
  | _ => none
-- ==== Reference6Ideal.lean ====
abbrev S8x2048x1024 : Shape := ⟨3, ![8, 2048, 1024]⟩
abbrev S2x16x64 : Shape := ⟨3, ![2, 16, 64]⟩
abbrev S2x1024 : Shape := ⟨2, ![2, 1024]⟩
abbrev S2x1024x1024 : Shape := ⟨3, ![2, 1024, 1024]⟩
abbrev S1x16x64 : Shape := ⟨3, ![1, 16, 64]⟩
abbrev S16x64 : Shape := ⟨2, ![16, 64]⟩
abbrev S1x1024 : Shape := ⟨2, ![1, 1024]⟩
abbrev S1024 : Shape := ⟨1, ![1024]⟩
abbrev S1x1024x1024 : Shape := ⟨3, ![1, 1024, 1024]⟩
abbrev S1024x1024 : Shape := ⟨2, ![1024, 1024]⟩
abbrev S8x2048x16x64 : Shape := ⟨4, ![8, 2048, 16, 64]⟩
abbrev S_ : Shape := ⟨0, ![]⟩
abbrev S8x2048x16 : Shape := ⟨3, ![8, 2048, 16]⟩
abbrev S8x2048x16x1 : Shape := ⟨4, ![8, 2048, 16, 1]⟩
abbrev S1x1x1024 : Shape := ⟨3, ![1, 1, 1024]⟩
abbrev S1x1x16x64 : Shape := ⟨4, ![1, 1, 16, 64]⟩
abbrev S16384x1024 : Shape := ⟨2, ![16384, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x1024, .f32⟩
  | .hbm, ⟨4, _⟩ => ⟨S8x2048x1024, .f32⟩
  | .hbm, ⟨5, _⟩ => ⟨S8x2048x1024, .f32⟩
  | .hbm, ⟨6, _⟩ => ⟨S2x16x64, .f32⟩
  | .hbm, ⟨7, _⟩ => ⟨S2x1024, .f32⟩
  | .hbm, ⟨8, _⟩ => ⟨S2x1024, .f32⟩
  | .hbm, ⟨9, _⟩ => ⟨S2x1024x1024, .f32⟩
  | .hbm, ⟨10, _⟩ => ⟨S1x16x64, .f32⟩
  | .hbm, ⟨11, _⟩ => ⟨S16x64, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024x1024, .f32⟩
  | .hbm, ⟨17, _⟩ => ⟨S1024x1024, .f32⟩
  | .hbm, ⟨18, _⟩ => ⟨S8x2048x16x64, .f32⟩
  | .hbm, ⟨19, _⟩ => ⟨S8x2048x16x64, .f32⟩
  | .hbm, ⟨20, _⟩ => ⟨S8x2048x16x64, .f32⟩
  | .hbm, ⟨21, _⟩ => ⟨S8x2048x16x64, .f32⟩
  | .hbm, ⟨22, _⟩ => ⟨S_, .f32⟩
  | .hbm, ⟨23, _⟩ => ⟨S8x2048x16, .f32⟩
  | .hbm, ⟨24, _⟩ => ⟨S8x2048x16x1, .f32⟩
  | .hbm, ⟨25, _⟩ => ⟨S_, .f32⟩
  | .hbm, ⟨26, _⟩ => ⟨S8x2048x16x1, .f32⟩
  | .hbm, ⟨27, _⟩ => ⟨S8x2048x16x1, .f32⟩
  | .hbm, ⟨28, _⟩ => ⟨S8x2048x16x64, .f32⟩
  | .hbm, ⟨29, _⟩ => ⟨S8x2048x16x64, .f32⟩
  | .hbm, ⟨30, _⟩ => ⟨S8x2048x16x64, .f32⟩
  | .hbm, ⟨31, _⟩ => ⟨S_, .f32⟩
  | .hbm, ⟨32, _⟩ => ⟨S8x2048x16, .f32⟩
  | .hbm, ⟨33, _⟩ => ⟨S8x2048x16x1, .f32⟩
  | .hbm, ⟨34, _⟩ => ⟨S_, .f32⟩
  | .hbm, ⟨35, _⟩ => ⟨S8x2048x16x1, .f32⟩
  | .hbm, ⟨36, _⟩ => ⟨S8x2048x16x1, .f32⟩
  | .hbm, ⟨37, _⟩ => ⟨S8x2048x16x64, .f32⟩
  | .hbm, ⟨38, _⟩ => ⟨S8x2048x16x64, .f32⟩
  | .hbm, ⟨39, _⟩ => ⟨S_, .f32⟩
  | .hbm, ⟨40, _⟩ => ⟨S8x2048x16x1, .f32⟩
  | .hbm, ⟨41, _⟩ => ⟨S8x2048x16x1, .f32⟩
  | .hbm, ⟨42, _⟩ => ⟨S8x2048x16x1, .f32⟩
  | .hbm, ⟨43, _⟩ => ⟨S8x2048x16x64, .f32⟩
  | .hbm, ⟨44, _⟩ => ⟨S8x2048x16x64, .f32⟩
  | .hbm, ⟨45, _⟩ => ⟨S8x2048x1024, .f32⟩
  | .hbm, ⟨46, _⟩ => ⟨S1x1x1024, .f32⟩
  | .hbm, ⟨47, _⟩ => ⟨S8x2048x1024, .f32⟩
  | .hbm, ⟨48, _⟩ => ⟨S8x2048x1024, .f32⟩
  | .hbm, ⟨49, _⟩ => ⟨S1x1x1024, .f32⟩
  | .hbm, ⟨50, _⟩ => ⟨S8x2048x1024, .f32⟩
  | .hbm, ⟨51, _⟩ => ⟨S8x2048x1024, .f32⟩
  | .hbm, ⟨52, _⟩ => ⟨S8x2048x16x64, .f32⟩
  | .hbm, ⟨53, _⟩ => ⟨S1x1x16x64, .f32⟩
  | .hbm, ⟨54, _⟩ => ⟨S8x2048x16x64, .f32⟩
  | .hbm, ⟨55, _⟩ => ⟨S8x2048x16x64, .f32⟩
  | .hbm, ⟨56, _⟩ => ⟨S_, .f32⟩
  | .hbm, ⟨57, _⟩ => ⟨S8x2048x16, .f32⟩
  | .hbm, ⟨58, _⟩ => ⟨S8x2048x16x1, .f32⟩
  | .hbm, ⟨59, _⟩ => ⟨S8x2048x16x64, .f32⟩
  | .hbm, ⟨60, _⟩ => ⟨S8x2048x16x64, .f32⟩
  | .hbm, ⟨61, _⟩ => ⟨S8x2048x1024, .f32⟩
  | .hbm, ⟨62, _⟩ => ⟨S8x2048x1024, .f32⟩
  | .hbm, ⟨63, _⟩ => ⟨S8x2048x1024, .f32⟩
  | .hbm, ⟨64, _⟩ => ⟨S8x2048x1024, .f32⟩
  | .hbm, ⟨65, _⟩ => ⟨S_, .f32⟩
  | .hbm, ⟨66, _⟩ => ⟨S8x2048x1024, .f32⟩
  | .hbm, ⟨67, _⟩ => ⟨S8x2048x1024, .f32⟩
  | .hbm, ⟨68, _⟩ => ⟨S_, .f32⟩
  | .hbm, ⟨69, _⟩ => ⟨S8x2048x1024, .f32⟩
  | .hbm, ⟨70, _⟩ => ⟨S8x2048x1024, .f32⟩
  | .hbm, ⟨71, _⟩ => ⟨S8x2048x1024, .f32⟩
  | .hbm, ⟨72, _⟩ => ⟨S8x2048x1024, .f32⟩
  | .hbm, ⟨73, _⟩ => ⟨S8x2048x1024, .f32⟩
  | .hbm, ⟨74, _⟩ => ⟨S8x2048x1024, .f32⟩
  | .hbm, ⟨75, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]

def κ : String → Option EReal := fun
  | "mask" => some ⊥
  | _ => none
-- ==== Proof.KI.Trip2.lean ====
module

public import proofs.«01_k».proof.Proof.Gen.KernelIdeal.Loops

@[expose] public section

set_option maxRecDepth 16384

noncomputable section

namespace Cert.Proof.KI

open Cert.KernelIdeal Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the run. -/
local notation "𝕄G" => MT nD τ sig Unit (Elt F) ℕ (UR sig nD τ) ℕ

/-- The buffers one trip of loop 2 touches: those it only reads at `X_`, those it writes at `f_`. -/
abbrev Trip2 (c : Dev nD) (arg3 : Memref sig .tc .vmem S1x1x2048x128 .f32) (arg6 : Memref sig .tc .vmem S1x1x2048x128 .f32) (arg9 : Memref sig .tc .vmem S1x1x2048x128 .f32) (arg12 : Memref sig .tc .vmem S2048x128 .f32) (arg13 : Memref sig .tc .vmem S2048x128 .f32) (arg14 : Memref sig .tc .vmem S2048x128 .f32) (X_3 : BufTy.Contents (Elt F) arg3.view.ty) (X_6 : BufTy.Contents (Elt F) arg6.view.ty) (X_9 : BufTy.Contents (Elt F) arg9.view.ty) (f_12 : BufTy.Contents (Elt F) arg12.view.ty) (f_13 : BufTy.Contents (Elt F) arg13.view.ty) (f_14 : BufTy.Contents (Elt F) arg14.view.ty) : sProp 𝕄G :=
  iprop((arg3.view.loc (c : Thread nD τ) ↦[arg3.view.set]{fullShare} X_3) ∗ (arg6.view.loc (c : Thread nD τ) ↦[arg6.view.set]{fullShare} X_6) ∗ (arg9.view.loc (c : Thread nD τ) ↦[arg9.view.set]{fullShare} X_9) ∗ (arg12.view.loc (c : Thread nD τ) ↦[arg12.view.set]{fullShare} f_12) ∗ (arg13.view.loc (c : Thread nD τ) ↦[arg13.view.set]{fullShare} f_13) ∗ (arg14.view.loc (c : Thread nD τ) ↦[arg14.view.set]{fullShare} f_14))

theorem trips_2 : k0_t2_loop.trips = 4 := by decide +kernel

/-- One trip of loop 2, run: the pieces it writes into each buffer, found by the run. -/
@[irreducible] def trip2 (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_3 : BufTy.Contents (Elt F) arg3.view.ty) (X_6 : BufTy.Contents (Elt F) arg6.view.ty) (X_9 : BufTy.Contents (Elt F) arg9.view.ty) (k : Fin k0_t2_loop.trips) (f_12 : BufTy.Contents (Elt F) arg12.view.ty) (f_13 : BufTy.Contents (Elt F) arg13.view.ty) (f_14 : BufTy.Contents (Elt F) arg14.view.ty) :
    Σ' (L_12 : List (View.Piece (Elt F) S2048x128 .f32)) (L_13 : List (View.Piece (Elt F) S2048x128 .f32)), { L_14 : List (View.Piece (Elt F) S2048x128 .f32) //
      Trip2 (F := F) c arg3 arg6 arg9 arg12 arg13 arg14 X_3 X_6 X_9 f_12 f_13 f_14
      ⊢ wp frame (wpE (defs₀ (F := F)) Variants.none (c : Thread nD τ) none) Set.univ (Gen.k0_t2_body (F := F) i arg2 harg2 arg3 harg3 arg4 harg4 arg5 harg5 arg6 harg6 arg7 harg7 arg8 harg8 arg9 harg9 arg10 harg10 arg11 harg11 arg12 harg12 arg13 harg13 arg14 harg14 k PUnit.unit)
          (fun _ => Trip2 (F := F) c arg3 arg6 arg9 arg12 arg13 arg14 X_3 X_6 X_9 (arg12.view.writes (Elt F) f_12 L_12) (arg13.view.writes (Elt F) f_13 L_13) (arg14.view.writes (Elt F) f_14 L_14)) } := by
  have hk : k.val < 4 := lt_of_lt_of_eq k.isLt (trips_2)
  refine ⟨?_, ?_, ?_, ?run⟩
  case run =>
    unfold Gen.k0_t2_body
    iintro ⟨HR3, HR6, HR9, HW12, HW13, HW14⟩
    sl_exec
    sl_step
    sl_close

end Cert.Proof.KI
-- ==== Proof.KI.Trip3.lean ====
module

public import proofs.«01_k».proof.Proof.Gen.KernelIdeal.Loops

@[expose] public section

set_option maxRecDepth 16384

noncomputable section

namespace Cert.Proof.KI

open Cert.KernelIdeal Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the run. -/
local notation "𝕄G" => MT nD τ sig Unit (Elt F) ℕ (UR sig nD τ) ℕ

/-- The buffers one trip of loop 3 touches: those it only reads at `X_`, those it writes at `f_`. -/
abbrev Trip3 (c : Dev nD) (arg4 : Memref sig .tc .vmem S1x1x2048x128 .f32) (arg7 : Memref sig .tc .vmem S1x1x2048x128 .f32) (arg10 : Memref sig .tc .vmem S1x1x2048x128 .f32) (arg12 : Memref sig .tc .vmem S2048x128 .f32) (arg13 : Memref sig .tc .vmem S2048x128 .f32) (arg14 : Memref sig .tc .vmem S2048x128 .f32) (arg11 : Memref sig .tc .vmem S1x1x2048x128 .f32) (X_4 : BufTy.Contents (Elt F) arg4.view.ty) (X_7 : BufTy.Contents (Elt F) arg7.view.ty) (X_10 : BufTy.Contents (Elt F) arg10.view.ty) (X_12 : BufTy.Contents (Elt F) arg12.view.ty) (X_13 : BufTy.Contents (Elt F) arg13.view.ty) (X_14 : BufTy.Contents (Elt F) arg14.view.ty) (f_11 : BufTy.Contents (Elt F) arg11.view.ty) : sProp 𝕄G :=
  iprop((arg4.view.loc (c : Thread nD τ) ↦[arg4.view.set]{fullShare} X_4) ∗ (arg7.view.loc (c : Thread nD τ) ↦[arg7.view.set]{fullShare} X_7) ∗ (arg10.view.loc (c : Thread nD τ) ↦[arg10.view.set]{fullShare} X_10) ∗ (arg12.view.loc (c : Thread nD τ) ↦[arg12.view.set]{fullShare} X_12) ∗ (arg13.view.loc (c : Thread nD τ) ↦[arg13.view.set]{fullShare} X_13) ∗ (arg14.view.loc (c : Thread nD τ) ↦[arg14.view.set]{fullShare} X_14) ∗ (arg11.view.loc (c : Thread nD τ) ↦[arg11.view.set]{fullShare} f_11))

theorem trips_3 : k0_t3_loop.trips = 4 := by decide +kernel

/-- One trip of loop 3, run: the pieces it writes into each buffer, found by the run. -/
@[irreducible] def trip3 (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_4 : BufTy.Contents (Elt F) arg4.view.ty) (X_7 : BufTy.Contents (Elt F) arg7.view.ty) (X_10 : BufTy.Contents (Elt F) arg10.view.ty) (X_12 : BufTy.Contents (Elt F) arg12.view.ty) (X_13 : BufTy.Contents (Elt F) arg13.view.ty) (X_14 : BufTy.Contents (Elt F) arg14.view.ty) (k : Fin k0_t3_loop.trips) (f_11 : BufTy.Contents (Elt F) arg11.view.ty) :
    { L_11 : List (View.Piece (Elt F) S1x1x2048x128 .f32) //
      Trip3 (F := F) c arg4 arg7 arg10 arg12 arg13 arg14 arg11 X_4 X_7 X_10 X_12 X_13 X_14 f_11
      ⊢ wp frame (wpE (defs₀ (F := F)) Variants.none (c : Thread nD τ) none) Set.univ (Gen.k0_t3_body (F := F) i arg2 harg2 arg3 harg3 arg4 harg4 arg5 harg5 arg6 harg6 arg7 harg7 arg8 harg8 arg9 harg9 arg10 harg10 arg11 harg11 arg12 harg12 arg13 harg13 arg14 harg14 k PUnit.unit)
          (fun _ => Trip3 (F := F) c arg4 arg7 arg10 arg12 arg13 arg14 arg11 X_4 X_7 X_10 X_12 X_13 X_14 (arg11.view.writes (Elt F) f_11 L_11)) } := by
  have hk : k.val < 4 := lt_of_lt_of_eq k.isLt (trips_3)
  refine ⟨?_, ?run⟩
  case run =>
    unfold Gen.k0_t3_body
    iintro ⟨HR4, HR7, HR10, HR12, HR13, HR14, HW11⟩
    sl_exec
    sl_step
    sl_close

end Cert.Proof.KI
-- ==== Proof.KI.Block.lean ====
module

public import proofs.«01_k».proof.Proof.KI.Trip2
public import proofs.«01_k».proof.Proof.KI.Trip3
public import Idealize.ShloMosaic.Lib.ValueIdx
public import Idealize.ShloMosaic.Lib.ValueIdxCoords
public import Idealize.ShloMosaic.Lib.Writes

@[expose] public section

set_option maxRecDepth 16384

noncomputable section

namespace Cert.Proof.KI

open Cert.KernelIdeal Cert.KernelIdeal.Facts₀ Cert.KernelIdeal.Facts
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## One block of 128 queries

What the kernel computes of one block, as functions of the rows it loads: the queries `q`, the keys and values of the
block itself and, where there is one, of the block before it. -/

/-- The queries, scaled. -/
def qrow (q : Vec F S1x1x128x128 .f32) : FVec F S128x128 .f32 :=
  mulf (shapeCast S128x128 q shapeCasts_S1x1x128x128_S128x128) (broadcast S128x128 (Scalar.ofBits .f32 0x3E000000#32))

/-- A block of keys or values, rounded. -/
def krow (k : Vec F S1x1x128x128 .f32) : FVec F S128x128 .bf16 :=
  truncf .bf16 (shapeCast S128x128 k shapeCasts_S1x1x128x128_S128x128) bitsLt_bf16_f32

/-- Two blocks of keys or values, the earlier first. -/
def krow2 (p k : Vec F S1x1x128x128 .f32) : FVec F S256x128 .bf16 :=
  concatenate S256x128 0 [⟨S128x128, krow p⟩, ⟨S128x128, krow k⟩] concatenates_S128x128_S128x128_S256x128_d0

/-- The lanes of one head, over all rows. -/
def hmask (hm : IVec S1x128 1) : IVec S128x128 1 :=
  broadcastTo S128x128 (shapeCast S1x128 hm shapeCasts_S1x128_S1x128) broadcasts_S1x128_S128x128

/-- The scaled queries of one head, zero on the other head's lanes. -/
def qhead (hm : IVec S1x128 1) (q : Vec F S1x1x128x128 .f32) : FVec F S128x128 .bf16 :=
  truncf .bf16 (select (hmask hm) (qrow q) (broadcast S128x128 (Scalar.ofBits .f32 0x00000000#32))) bitsLt_bf16_f32

/-- The visible keys of two blocks: later than the query in the block before (none if `b` is 0), up to it in its own. -/
def mask2 (b : BitVec 1) : IVec S128x256 1 :=
  concatenate S128x256 1 [⟨S128x128, andi Gen.k0_pay3 (broadcast S128x128 b)⟩, ⟨S128x128, Gen.k0_pay2⟩]
    concatenates_S128x128_S128x128_S128x256_d1

/-- One head's scores against its own block. -/
def sc1 (hm : IVec S1x128 1) (q k : Vec F S1x1x128x128 .f32) : FVec F S128x128 .f32 :=
  select Gen.k0_pay2
    (matmul dot_S128x128_S128x128_S128x128_1_1_0_0_n_n none (qhead hm q) (krow k) (constant S128x128 .f32 0x00000000#32))
    (broadcast S128x128 (Named.named κ "mask" 0xF149F2CA#32))

/-- One head's scores against two blocks. -/
def sc2 (mk : IVec S128x256 1) (hm : IVec S1x128 1) (q p k : Vec F S1x1x128x128 .f32) : FVec F S128x256 .f32 :=
  select mk
    (matmul dot_S128x128_S256x128_S128x256_1_1_0_0_n_n none (qhead hm q) (krow2 p k) (constant S128x256 .f32 0x00000000#32))
    (broadcast S128x256 (Named.named κ "mask" 0xF149F2CA#32))

/-- Each row's largest score. -/
def mx1 (s : FVec F S128x128 .f32) : FVec F S128x1 .f32 :=
  shapeCast S128x1 (multiReduction .maximumf [1] S128 s 0xFF800000#32 reduces_S128x128_S128 (.inl rfl) rfl) shapeCasts_S128_S128x1
def mx2 (s : FVec F S128x256 .f32) : FVec F S128x1 .f32 :=
  shapeCast S128x1 (multiReduction .maximumf [1] S128 s 0xFF800000#32 reduces_S128x256_S128 (.inl rfl) rfl) shapeCasts_S128_S128x1

/-- The unnormalised weights. -/
def pr1 (s : FVec F S128x128 .f32) : FVec F S128x128 .f32 :=
  exp (subf s (broadcastTo S128x128 (mx1 s) broadcasts_S128x1_S128x128))
def pr2 (s : FVec F S128x256 .f32) : FVec F S128x256 .f32 :=
  exp (subf s (broadcastTo S128x256 (mx2 s) broadcasts_S128x1_S128x256))

/-- Their sums. -/
def ls1 (s : FVec F S128x128 .f32) : FVec F S128x1 .f32 :=
  shapeCast S128x1 (multiReduction .add [1] S128 (pr1 s) 0x00000000#32 reduces_S128x128_S128 (.inl rfl) rfl) shapeCasts_S128_S128x1
def ls2 (s : FVec F S128x256 .f32) : FVec F S128x1 .f32 :=
  shapeCast S128x1 (multiReduction .add [1] S128 (pr2 s) 0x00000000#32 reduces_S128x256_S128 (.inl rfl) rfl) shapeCasts_S128_S128x1

/-- The values weighted by them. -/
def ac1 (s : FVec F S128x128 .f32) (v : Vec F S1x1x128x128 .f32) : FVec F S128x128 .f32 :=
  matmul dot_S128x128_S128x128_S128x128_1_0_0_1_n_n none (truncf .bf16 (pr1 s) bitsLt_bf16_f32) (krow v)
    (constant S128x128 .f32 0x00000000#32)
def ac2 (s : FVec F S128x256 .f32) (p v : Vec F S1x1x128x128 .f32) : FVec F S128x128 .f32 :=
  matmul dot_S128x256_S256x128_S128x128_1_0_0_1_n_n none (truncf .bf16 (pr2 s) bitsLt_bf16_f32) (krow2 p v)
    (constant S128x128 .f32 0x00000000#32)

/-- A number per row and head, spread over the head's lanes. -/
def spread (x y : FVec F S128x1 .f32) : FVec F S128x128 .f32 :=
  select (hmask Gen.k0_pay1)
    (broadcastTo S128x128 (shapeCast S128x1 x shapeCasts_S128x1_S128x1) broadcasts_S128x1_S128x128)
    (broadcastTo S128x128 (shapeCast S128x1 y shapeCasts_S128x1_S128x1) broadcasts_S128x1_S128x128)

/-- The block's maxima, sums and weighted values, against its own keys only, -/
def bM1 (q k : Vec F S1x1x128x128 .f32) : FVec F S128x128 .f32 :=
  spread (mx1 (sc1 Gen.k0_pay1 q k)) (mx1 (sc1 Gen.k0_pay4 q k))
def bL1 (q k : Vec F S1x1x128x128 .f32) : FVec F S128x128 .f32 :=
  spread (ls1 (sc1 Gen.k0_pay1 q k)) (ls1 (sc1 Gen.k0_pay4 q k))
def bA1 (q k v : Vec F S1x1x128x128 .f32) : FVec F S128x128 .f32 :=
  select (hmask Gen.k0_pay1) (ac1 (sc1 Gen.k0_pay1 q k) v) (ac1 (sc1 Gen.k0_pay4 q k) v)

/-- and against the block before it too. -/
def bM2 (mk : IVec S128x256 1) (q kp k : Vec F S1x1x128x128 .f32) : FVec F S128x128 .f32 :=
  spread (mx2 (sc2 mk Gen.k0_pay1 q kp k)) (mx2 (sc2 mk Gen.k0_pay4 q kp k))
def bL2 (mk : IVec S128x256 1) (q kp k : Vec F S1x1x128x128 .f32) : FVec F S128x128 .f32 :=
  spread (ls2 (sc2 mk Gen.k0_pay1 q kp k)) (ls2 (sc2 mk Gen.k0_pay4 q kp k))
def bA2 (mk : IVec S128x256 1) (q kp k vp v : Vec F S1x1x128x128 .f32) : FVec F S128x128 .f32 :=
  select (hmask Gen.k0_pay1) (ac2 (sc2 mk Gen.k0_pay1 q kp k) vp v) (ac2 (sc2 mk Gen.k0_pay4 q kp k) vp v)

/-- The merge with what the groups before left: the new maxima, sums and weighted values. -/
def mgM (mo mb : FVec F S128x128 .f32) : FVec F S128x128 .f32 := maximumf mo mb
def mgS (mo mb lo lb : FVec F S128x128 .f32) : FVec F S128x128 .f32 :=
  addf (mulf (exp (subf mo (mgM mo mb))) lo) (mulf (exp (subf mb (mgM mo mb))) lb)

/-- The visible keys of two blocks, the first of them there. -/
def maskP : IVec S128x256 1 :=
  concatenate S128x256 1 [⟨S128x128, Gen.k0_pay3⟩, ⟨S128x128, Gen.k0_pay2⟩] concatenates_S128x128_S128x128_S128x256_d1

/-- As stored: a cast of the shape to itself. -/
def sto (x : FVec F S128x128 .f32) : FVec F S128x128 .f32 := shapeCast S128x128 x shapeCasts_S128x128_S128x128
/-- The block of the result. -/
def stoO (x : FVec F S128x128 .f32) : FVec F S1x1x128x128 .f32 := shapeCast S1x1x128x128 x shapeCasts_S128x128_S1x1x128x128

/-- A bit and one is the bit. -/
theorem mask2_one : mask2 1#1 = maskP := by
  have h : andi Gen.k0_pay3 (broadcast S128x128 1#1) = Gen.k0_pay3 := by
    funext x
    show Gen.k0_pay3 x &&& 1#1 = Gen.k0_pay3 x
    generalize Gen.k0_pay3 x = y
    revert y; decide
  unfold mask2 maskP; rw [h]

/-! ## The blocks' rows, in the arrays the kernel holds -/

/-- One pair of heads of the queries, keys, values or result: 2048 rows of 128 lanes. -/
abbrev A4 (F : FTy → Type) [FloatOps F] := S1x1x2048x128.Idx → Elt F .f32
/-- A scratch array of the same rows. -/
abbrev A2 (F : FTy → Type) [FloatOps F] := S2048x128.Idx → Elt F .f32

/-- Row `t` (counted round), lane `c`. -/
def at4 (t : ℕ) (c : Fin 128) : S1x1x2048x128.Idx := ix4 (0 : Fin 1) (0 : Fin 1) ⟨t % 2048, Nat.mod_lt _ (by decide)⟩ c
def at2 (t : ℕ) (c : Fin 128) : S2048x128.Idx := ix2 ⟨t % 2048, Nat.mod_lt _ (by decide)⟩ c

/-- The 128 rows from row `o` in steps of `d`. -/
def rows4 (A : A4 F) (o d : ℕ) : Vec F S1x1x128x128 .f32 := fun x => A (at4 (o + d * (x 2).val) (x 3))
def rows2 (A : A2 F) (o d : ℕ) : Vec F S128x128 .f32 := fun x => A (at2 (o + d * (x 0).val) (x 1))

theorem readAt_rows4 {κ : Kind} {sp : Space} (v : View sig κ sp S1x1x2048x128 .f32) (f : v.ty.Contents (Elt F))
    (off : Fin 4 → ℕ) (d o : ℕ) (inb : ∀ a, S1x1x128x128.size a = 0 ∨ off a + (![1, 1, d, 1] : Fin 4 → ℕ) a * (S1x1x128x128.size a - 1) < S1x1x2048x128.size a)
    (h : off = ![0, 0, o, 0]) :
    v.readAt (Elt F) (⟨off, S1x1x128x128.size, ![1, 1, d, 1], inb⟩ : LoadRect S1x1x2048x128) f = rows4 (v.read (Elt F) f) o d := by
  subst h
  funext x
  rw [View.readAt_apply]
  unfold rows4
  congr 1
  have h2 := inb 2
  have hx := (x 2).isLt
  change _ = 0 ∨ o + d * (128 - 1) < 2048 at h2
  change (x 2).val < 128 at hx
  have : d * (x 2).val ≤ d * 127 := Nat.mul_le_mul_left _ (by omega)
  have hlt : o + d * (x 2).val < 2048 := by
    rcases h2 with h2 | h2
    · exact absurd h2 (by decide)
    · omega
  funext a
  apply Fin.ext
  match a with
  | ⟨0, _⟩ =>
    have h0 := (x 0).isLt; change (x 0).val < 1 at h0
    show 0 + 1 * (x 0).val = 0; omega
  | ⟨1, _⟩ =>
    have h0 := (x 1).isLt; change (x 1).val < 1 at h0
    show 0 + 1 * (x 1).val = 0; omega
  | ⟨2, _⟩ => show o + d * (x 2).val = (o + d * (x 2).val) % 2048; exact (Nat.mod_eq_of_lt hlt).symm
  | ⟨3, _⟩ => show 0 + 1 * (x 3).val = (x 3).val; omega

theorem readAt_rows4_unit {κ : Kind} {sp : Space} (v : View sig κ sp S1x1x2048x128 .f32) (f : v.ty.Contents (Elt F))
    (off : Fin 4 → ℕ) (o : ℕ) (inb : ∀ a, off a + S1x1x128x128.size a ≤ S1x1x2048x128.size a) (h : off = ![0, 0, o, 0]) :
    v.readAt (Elt F) (Rect.unit (s := S1x1x2048x128) off S1x1x128x128.size inb).toLoadRect f = rows4 (v.read (Elt F) f) o 1 := by
  subst h
  funext x
  rw [View.readAt_apply]
  unfold rows4
  congr 1
  have h2 := inb 2
  have hx := (x 2).isLt
  change o + 128 ≤ 2048 at h2
  change (x 2).val < 128 at hx
  have hlt : o + 1 * (x 2).val < 2048 := by omega
  funext a
  apply Fin.ext
  match a with
  | ⟨0, _⟩ =>
    have h0 := (x 0).isLt; change (x 0).val < 1 at h0
    show 0 + 1 * (x 0).val = 0; omega
  | ⟨1, _⟩ =>
    have h0 := (x 1).isLt; change (x 1).val < 1 at h0
    show 0 + 1 * (x 1).val = 0; omega
  | ⟨2, _⟩ => show o + 1 * (x 2).val = (o + 1 * (x 2).val) % 2048; exact (Nat.mod_eq_of_lt hlt).symm
  | ⟨3, _⟩ => show 0 + 1 * (x 3).val = (x 3).val; omega

theorem readAt_rows2 {κ : Kind} {sp : Space} (v : View sig κ sp S2048x128 .f32) (f : v.ty.Contents (Elt F))
    (off : Fin 2 → ℕ) (d o : ℕ) (inb : ∀ a, S128x128.size a = 0 ∨ off a + (![d, 1] : Fin 2 → ℕ) a * (S128x128.size a - 1) < S2048x128.size a)
    (h : off = ![o, 0]) :
    v.readAt (Elt F) (⟨off, S128x128.size, ![d, 1], inb⟩ : LoadRect S2048x128) f = rows2 (v.read (Elt F) f) o d := by
  subst h
  funext x
  rw [View.readAt_apply]
  unfold rows2
  congr 1
  have h2 := inb 0
  have hx := (x 0).isLt
  change _ = 0 ∨ o + d * (128 - 1) < 2048 at h2
  change (x 0).val < 128 at hx
  have : d * (x 0).val ≤ d * 127 := Nat.mul_le_mul_left _ (by omega)
  have hlt : o + d * (x 0).val < 2048 := by
    rcases h2 with h2 | h2
    · exact absurd h2 (by decide)
    · omega
  funext a
  apply Fin.ext
  match a with
  | ⟨0, _⟩ => show o + d * (x 0).val = (o + d * (x 0).val) % 2048; exact (Nat.mod_eq_of_lt hlt).symm
  | ⟨1, _⟩ => show 0 + 1 * (x 1).val = (x 1).val; omega

/-! ## What each loop leaves, row by row -/

/-- Group 0: block `nb` of 128 consecutive rows, against the block before it. -/
def g1M (Q K : A4 F) (nb : ℕ) : FVec F S128x128 .f32 :=
  sto (bM2 (mask2 (if nb = 0 then 0#1 else 1#1)) (rows4 Q (128 * nb) 1) (rows4 K (128 * (nb - 1)) 1) (rows4 K (128 * nb) 1))
def g1L (Q K : A4 F) (nb : ℕ) : FVec F S128x128 .f32 :=
  sto (bL2 (mask2 (if nb = 0 then 0#1 else 1#1)) (rows4 Q (128 * nb) 1) (rows4 K (128 * (nb - 1)) 1) (rows4 K (128 * nb) 1))
def g1A (Q K V : A4 F) (nb : ℕ) : FVec F S128x128 .f32 :=
  sto (bA2 (mask2 (if nb = 0 then 0#1 else 1#1)) (rows4 Q (128 * nb) 1) (rows4 K (128 * (nb - 1)) 1) (rows4 K (128 * nb) 1)
    (rows4 V (128 * (nb - 1)) 1) (rows4 V (128 * nb) 1))

/-- Row `t` of block `t / 128`. -/
def spr1 (g : ℕ → FVec F S128x128 .f32) : A2 F := fun y =>
  g ((y 0).val / 128) (ix2 ⟨(y 0).val % 128, Nat.mod_lt _ (by decide)⟩ (y 1))

/-- Group 1: class `c` of 4, block `nb` of 128 rows 4 apart. -/
def g2bM (Q K : A4 F) (c nb : ℕ) : FVec F S128x128 .f32 :=
  if nb = 0 then bM1 (rows4 Q c 4) (rows4 K c 4)
  else bM2 maskP (rows4 Q (c + 512 * nb) 4) (rows4 K (c + 512 * (nb - 1)) 4) (rows4 K (c + 512 * nb) 4)
def g2bL (Q K : A4 F) (c nb : ℕ) : FVec F S128x128 .f32 :=
  if nb = 0 then bL1 (rows4 Q c 4) (rows4 K c 4)
  else bL2 maskP (rows4 Q (c + 512 * nb) 4) (rows4 K (c + 512 * (nb - 1)) 4) (rows4 K (c + 512 * nb) 4)
def g2bA (Q K V : A4 F) (c nb : ℕ) : FVec F S128x128 .f32 :=
  if nb = 0 then bA1 (rows4 Q c 4) (rows4 K c 4) (rows4 V c 4)
  else bA2 maskP (rows4 Q (c + 512 * nb) 4) (rows4 K (c + 512 * (nb - 1)) 4) (rows4 K (c + 512 * nb) 4)
    (rows4 V (c + 512 * (nb - 1)) 4) (rows4 V (c + 512 * nb) 4)
def g2M (Q K : A4 F) (m : A2 F) (c nb : ℕ) : FVec F S128x128 .f32 :=
  sto (mgM (rows2 m (c + 512 * nb) 4) (g2bM Q K c nb))
def g2L (Q K : A4 F) (m l : A2 F) (c nb : ℕ) : FVec F S128x128 .f32 :=
  sto (mgS (rows2 m (c + 512 * nb) 4) (g2bM Q K c nb) (rows2 l (c + 512 * nb) 4) (g2bL Q K c nb))
def g2A (Q K V : A4 F) (m a : A2 F) (c nb : ℕ) : FVec F S128x128 .f32 :=
  sto (mgS (rows2 m (c + 512 * nb) 4) (g2bM Q K c nb) (rows2 a (c + 512 * nb) 4) (g2bA Q K V c nb))

/-- Row `t` of class `t % 4`, block `t / 512`. -/
def spr2 (g : ℕ → ℕ → FVec F S128x128 .f32) : A2 F := fun y =>
  g ((y 0).val % 4) ((y 0).val / 512) (ix2 ⟨(y 0).val / 4 % 128, Nat.mod_lt _ (by decide)⟩ (y 1))

/-- Group 2 and the quotient: class `c` of 16, its one block of 128 rows 16 apart. -/
def g3O (Q K V : A4 F) (m l a : A2 F) (c : ℕ) : FVec F S1x1x128x128 .f32 :=
  stoO (divf
    (mgS (rows2 m c 16) (bM1 (rows4 Q c 16) (rows4 K c 16)) (rows2 a c 16) (bA1 (rows4 Q c 16) (rows4 K c 16) (rows4 V c 16)))
    (mgS (rows2 m c 16) (bM1 (rows4 Q c 16) (rows4 K c 16)) (rows2 l c 16) (bL1 (rows4 Q c 16) (rows4 K c 16))))

/-- Row `t` of class `t % 16`. -/
def spr3 (g : ℕ → FVec F S1x1x128x128 .f32) : A4 F := fun y =>
  g ((y 2).val % 16) (ix4 (0 : Fin 1) (0 : Fin 1) ⟨(y 2).val / 16 % 128, Nat.mod_lt _ (by decide)⟩ (y 3))

end Cert.Proof.KI
-- ==== Proof.KI.Pieces1.lean ====
module

public import proofs.«01_k».proof.Proof.KI.Block

@[expose] public section

set_option maxRecDepth 16384

noncomputable section

namespace Cert.Proof.KI

open Cert.KernelIdeal Cert.KernelIdeal.Facts₀ Cert.KernelIdeal.Facts
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the run. -/
local notation "𝕄G" => MT nD τ sig Unit (Elt F) ℕ (UR sig nD τ) ℕ

theorem trips_1 : k0_t1_loop.trips = 4 := by decide +kernel

/-- Block `r` of trip `k`, as the run loads it. -/
abbrev LR1 (k : Fin k0_t1_loop.trips) (r : Fin 4) : LoadRect S1x1x2048x128 :=
  (Rect.unit (s := S1x1x2048x128) (k0_off1 k (BitVec.ofNat 32 r.val)) S1x1x128x128.size (Gen.k0_off1_inb k r)).toLoadRect
def LD1 (v : View sig .tc .vmem S1x1x2048x128 .f32) (f : v.ty.Contents (Elt F)) (k : Fin k0_t1_loop.trips) (r : Fin 4) : Vec F S1x1x128x128 .f32 :=
  v.readAt (Elt F) (LR1 k r) f
/-- The block before the first of trip `k`, as the run loads it. -/
def LD1p (v : View sig .tc .vmem S1x1x2048x128 .f32) (f : v.ty.Contents (Elt F)) (k : Fin k0_t1_loop.trips) : Vec F S1x1x128x128 .f32 :=
  v.readAt (Elt F) (Rect.unit (s := S1x1x2048x128) (k0_off2 k) S1x1x128x128.size (Gen.k0_off2_inb k)).toLoadRect f
/-- Block `r` of trip `k`, as the run stores it. -/
def WR1 (k : Fin k0_t1_loop.trips) (r : Fin 4) : Rect S2048x128 := Rect.unit (s := S2048x128) (k0_off3 k (BitVec.ofNat 32 r.val)) S128x128.size (Gen.k0_off3_inb k r)

theorem LD1_eq (v : View sig .tc .vmem S1x1x2048x128 .f32) (f : v.ty.Contents (Elt F)) (k : Fin k0_t1_loop.trips) (r : Fin 4) :
    LD1 v f k r = rows4 (v.read (Elt F) f) (128 * (4 * k.val + r.val)) 1 :=
  readAt_rows4_unit v f _ _ (Gen.k0_off1_inb k r) ((Gen.k0_off1_eq k r).trans (by rw [show 512 * k.val + 128 * r.val = 128 * (4 * k.val + r.val) by omega]))

theorem off2_eq : ∀ k : Fin k0_t1_loop.trips, k0_off2 k = ![0, 0, 128 * (4 * k.val - 1), 0] := by decide +kernel

theorem LD1p_eq (v : View sig .tc .vmem S1x1x2048x128 .f32) (f : v.ty.Contents (Elt F)) (k : Fin k0_t1_loop.trips) :
    LD1p v f k = rows4 (v.read (Elt F) f) (128 * (4 * k.val - 1)) 1 :=
  readAt_rows4_unit v f _ _ (Gen.k0_off2_inb k) (off2_eq k)

theorem WR1_emb (k : Fin k0_t1_loop.trips) (r : Fin 4) (x : S128x128.Idx) : ((WR1 k r).emb x 0).val = 512 * k.val + 128 * r.val + 1 * (x 0).val := by
  show (k0_off3 k (BitVec.ofNat 32 r.val)) 0 + _ = _
  rw [Gen.k0_off3_eq k r]; rfl

theorem WR1_embl (k : Fin k0_t1_loop.trips) (r : Fin 4) (x : S128x128.Idx) : ((WR1 k r).emb x 1).val = (x 1).val := by
  show (k0_off3 k (BitVec.ofNat 32 r.val)) 1 + 1 * (x 1).val = _
  rw [Gen.k0_off3_eq k r]; show 0 + 1 * (x 1).val = _; omega

theorem WR1_mem (k : Fin k0_t1_loop.trips) (r : Fin 4) (y : S2048x128.Idx) (h : (y 0).val / 512 = k.val) (hr : (y 0).val / 128 % 4 = r.val) : y ∈ (WR1 k r).set := by
  have hy := (y 0).isLt; change (y 0).val < 2048 at hy
  have hk : k.val < 4 := lt_of_lt_of_eq k.isLt trips_1
  have hr4 := r.isLt
  have : y = (WR1 k r).emb (ix2 ⟨(y 0).val % 128, Nat.mod_lt _ (by decide)⟩ (y 1)) := by
    funext a; apply Fin.ext
    match a with
    | ⟨0, _⟩ => refine Eq.trans ?_ (WR1_emb k r _).symm; show (y 0).val = 512 * k.val + 128 * r.val + 1 * ((y 0).val % 128); omega
    | ⟨1, _⟩ => exact (WR1_embl k r (ix2 ⟨(y 0).val % 128, Nat.mod_lt _ (by decide)⟩ (y 1))).symm
  rw [this]; exact (LoadRect.mem_set _).2 fun a => ⟨_, Fin.isLt _, Rect.emb_apply _ _ _⟩

theorem WR1_not_mem (k : Fin k0_t1_loop.trips) (r : Fin 4) (y : S2048x128.Idx) (h : ¬ (y 0).val / 512 = k.val) : y ∉ (WR1 k r).set := by
  intro hm
  have hk : k.val < 4 := lt_of_lt_of_eq k.isLt trips_1
  have hr4 := r.isLt
  obtain ⟨j, hj, e⟩ := (LoadRect.mem_set _).1 hm 0
  change j < 128 at hj
  change (y 0).val = (k0_off3 k (BitVec.ofNat 32 r.val)) 0 + 1 * j at e
  rw [Gen.k0_off3_eq k r] at e
  change (y 0).val = 512 * k.val + 128 * r.val + 1 * j at e
  exact h (by omega)

theorem spr1_emb (g : ℕ → FVec F S128x128 .f32) (k : Fin k0_t1_loop.trips) (r : Fin 4) (x : S128x128.Idx) :
    spr1 g ((WR1 k r).emb x) = g (4 * k.val + r.val) x := by
  have hk : k.val < 4 := lt_of_lt_of_eq k.isLt trips_1
  have hr4 := r.isLt
  have hx := (x 0).isLt; change (x 0).val < 128 at hx
  have e := WR1_emb k r x
  have el := WR1_embl k r x
  unfold spr1
  rw [show ((WR1 k r).emb x 0).val / 128 = 4 * k.val + r.val by omega]
  congr 1
  funext a; apply Fin.ext
  match a with
  | ⟨0, _⟩ => show ((WR1 k r).emb x 0).val % 128 = (x 0).val; omega
  | ⟨1, _⟩ => exact el

/-- After a trip, its rows hold the blocks' values. -/
theorem tile1_in (v : View sig .tc .vmem S2048x128 .f32) (f : v.ty.Contents (Elt F)) (g : ℕ → FVec F S128x128 .f32) (k : Fin k0_t1_loop.trips) (y : S2048x128.Idx) (h : (y 0).val / 512 = k.val) :
    v.read (Elt F) (v.writes (Elt F) f [(⟨WR1 k 3, g (4 * k.val + 3)⟩ : View.Piece (Elt F) S2048x128 .f32), (⟨WR1 k 2, g (4 * k.val + 2)⟩ : View.Piece (Elt F) S2048x128 .f32), (⟨WR1 k 1, g (4 * k.val + 1)⟩ : View.Piece (Elt F) S2048x128 .f32), (⟨WR1 k 0, g (4 * k.val + 0)⟩ : View.Piece (Elt F) S2048x128 .f32)]) y = spr1 g y := by
  refine View.read_writes_apply_of_pieces v f (spr1 g) _ ?_ y ?_
  · intro p hp x
    simp only [List.mem_cons, List.not_mem_nil, or_false] at hp
    rcases hp with rfl | rfl | rfl | rfl
    · exact (spr1_emb g k 3 x).symm
    · exact (spr1_emb g k 2 x).symm
    · exact (spr1_emb g k 1 x).symm
    · exact (spr1_emb g k 0 x).symm
  · have hy := (y 0).isLt; change (y 0).val < 2048 at hy
    have h4 : (y 0).val / 128 % 4 < 4 := by omega
    rcases (by omega : (y 0).val / 128 % 4 = 3 ∨ (y 0).val / 128 % 4 = 2 ∨ (y 0).val / 128 % 4 = 1 ∨ (y 0).val / 128 % 4 = 0) with e | e | e | e
    · exact ⟨_, .head _, WR1_mem k 3 y h e⟩
    · exact ⟨_, .tail _ (.head _), WR1_mem k 2 y h e⟩
    · exact ⟨_, .tail _ (.tail _ (.head _)), WR1_mem k 1 y h e⟩
    · exact ⟨_, .tail _ (.tail _ (.tail _ (.head _))), WR1_mem k 0 y h e⟩

/-- The other rows keep theirs. -/
theorem tile1_out (v : View sig .tc .vmem S2048x128 .f32) (f : v.ty.Contents (Elt F)) (g : ℕ → FVec F S128x128 .f32) (k : Fin k0_t1_loop.trips) (y : S2048x128.Idx) (h : ¬ (y 0).val / 512 = k.val) :
    v.read (Elt F) (v.writes (Elt F) f [(⟨WR1 k 3, g (4 * k.val + 3)⟩ : View.Piece (Elt F) S2048x128 .f32), (⟨WR1 k 2, g (4 * k.val + 2)⟩ : View.Piece (Elt F) S2048x128 .f32), (⟨WR1 k 1, g (4 * k.val + 1)⟩ : View.Piece (Elt F) S2048x128 .f32), (⟨WR1 k 0, g (4 * k.val + 0)⟩ : View.Piece (Elt F) S2048x128 .f32)]) y = v.read (Elt F) f y := by
  refine View.read_writes_apply_of_forall_not_mem v f y _ ?_
  intro p hp
  simp only [List.mem_cons, List.not_mem_nil, or_false] at hp
  rcases hp with rfl | rfl | rfl | rfl
  · exact WR1_not_mem k 3 y h
  · exact WR1_not_mem k 2 y h
  · exact WR1_not_mem k 1 y h
  · exact WR1_not_mem k 0 y h

theorem first_mask : ∀ k : Fin k0_t1_loop.trips,
    Scalar.cmpi .sgt (Scf.iv 0#32 1#32 k) 0#32 = if 4 * k.val + 0 = 0 then 0#1 else 1#1 := by decide +kernel

/-- The pieces the run found for `arg12`, as functions of the rows loaded. -/
theorem trip1_12_raw (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_2 : BufTy.Contents (Elt F) arg2.view.ty) (X_5 : BufTy.Contents (Elt F) arg5.view.ty) (X_8 : BufTy.Contents (Elt F) arg8.view.ty) (k : Fin k0_t1_loop.trips) :
    (Gen.trip_k0_t1 Variants.none c none i arg2 harg2 arg3 harg3 arg4 harg4 arg5 harg5 arg6 harg6 arg7 harg7 arg8 harg8 arg9 harg9 arg10 harg10 arg11 harg11 arg12 harg12 arg13 harg13 arg14 harg14 X_2 X_5 X_8 k).1 =
      [(⟨WR1 k 3, sto (bM2 maskP (LD1 arg2.view X_2 k 3) (LD1 arg5.view X_5 k 2) (LD1 arg5.view X_5 k 3))⟩ : View.Piece (Elt F) S2048x128 .f32),
       (⟨WR1 k 2, sto (bM2 maskP (LD1 arg2.view X_2 k 2) (LD1 arg5.view X_5 k 1) (LD1 arg5.view X_5 k 2))⟩ : View.Piece (Elt F) S2048x128 .f32),
       (⟨WR1 k 1, sto (bM2 maskP (LD1 arg2.view X_2 k 1) (LD1 arg5.view X_5 k 0) (LD1 arg5.view X_5 k 1))⟩ : View.Piece (Elt F) S2048x128 .f32),
       (⟨WR1 k 0, sto (bM2 (mask2 (Scalar.cmpi .sgt (Scf.iv 0#32 1#32 k) 0#32)) (LD1 arg2.view X_2 k 0) (LD1p arg5.view X_5 k) (LD1 arg5.view X_5 k 0))⟩ : View.Piece (Elt F) S2048x128 .f32)] := by
  unfold Gen.trip_k0_t1; rfl

theorem trip1_12 (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_2 : BufTy.Contents (Elt F) arg2.view.ty) (X_5 : BufTy.Contents (Elt F) arg5.view.ty) (X_8 : BufTy.Contents (Elt F) arg8.view.ty) (k : Fin k0_t1_loop.trips) :
    (Gen.trip_k0_t1 Variants.none c none i arg2 harg2 arg3 harg3 arg4 harg4 arg5 harg5 arg6 harg6 arg7 harg7 arg8 harg8 arg9 harg9 arg10 harg10 arg11 harg11 arg12 harg12 arg13 harg13 arg14 harg14 X_2 X_5 X_8 k).1 =
      [(⟨WR1 k 3, g1M (arg2.view.read (Elt F) X_2) (arg5.view.read (Elt F) X_5) (4 * k.val + 3)⟩ : View.Piece (Elt F) S2048x128 .f32),
       (⟨WR1 k 2, g1M (arg2.view.read (Elt F) X_2) (arg5.view.read (Elt F) X_5) (4 * k.val + 2)⟩ : View.Piece (Elt F) S2048x128 .f32),
       (⟨WR1 k 1, g1M (arg2.view.read (Elt F) X_2) (arg5.view.read (Elt F) X_5) (4 * k.val + 1)⟩ : View.Piece (Elt F) S2048x128 .f32),
       (⟨WR1 k 0, g1M (arg2.view.read (Elt F) X_2) (arg5.view.read (Elt F) X_5) (4 * k.val + 0)⟩ : View.Piece (Elt F) S2048x128 .f32)] := by
  have h0 : sto (bM2 (mask2 (Scalar.cmpi .sgt (Scf.iv 0#32 1#32 k) 0#32)) (LD1 arg2.view X_2 k 0) (LD1p arg5.view X_5 k) (LD1 arg5.view X_5 k 0)) = g1M (arg2.view.read (Elt F) X_2) (arg5.view.read (Elt F) X_5) (4 * k.val + 0) := by
    unfold g1M
    simp only [LD1_eq, LD1p_eq, first_mask]; rfl
  have h1 : sto (bM2 maskP (LD1 arg2.view X_2 k 1) (LD1 arg5.view X_5 k 0) (LD1 arg5.view X_5 k 1)) = g1M (arg2.view.read (Elt F) X_2) (arg5.view.read (Elt F) X_5) (4 * k.val + 1) := by
    unfold g1M
    rw [if_neg (by omega : ¬ 4 * k.val + 1 = 0), mask2_one]; simp only [LD1_eq]; rfl
  have h2 : sto (bM2 maskP (LD1 arg2.view X_2 k 2) (LD1 arg5.view X_5 k 1) (LD1 arg5.view X_5 k 2)) = g1M (arg2.view.read (Elt F) X_2) (arg5.view.read (Elt F) X_5) (4 * k.val + 2) := by
    unfold g1M
    rw [if_neg (by omega : ¬ 4 * k.val + 2 = 0), mask2_one]; simp only [LD1_eq]; rfl
  have h3 : sto (bM2 maskP (LD1 arg2.view X_2 k 3) (LD1 arg5.view X_5 k 2) (LD1 arg5.view X_5 k 3)) = g1M (arg2.view.read (Elt F) X_2) (arg5.view.read (Elt F) X_5) (4 * k.val + 3) := by
    unfold g1M
    rw [if_neg (by omega : ¬ 4 * k.val + 3 = 0), mask2_one]; simp only [LD1_eq]; rfl
  rw [trip1_12_raw, h0, h1, h2, h3]

/-- The pieces the run found for `arg13`, as functions of the rows loaded. -/
theorem trip1_13_raw (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_2 : BufTy.Contents (Elt F) arg2.view.ty) (X_5 : BufTy.Contents (Elt F) arg5.view.ty) (X_8 : BufTy.Contents (Elt F) arg8.view.ty) (k : Fin k0_t1_loop.trips) :
    (Gen.trip_k0_t1 Variants.none c none i arg2 harg2 arg3 harg3 arg4 harg4 arg5 harg5 arg6 harg6 arg7 harg7 arg8 harg8 arg9 harg9 arg10 harg10 arg11 harg11 arg12 harg12 arg13 harg13 arg14 harg14 X_2 X_5 X_8 k).2.1 =
      [(⟨WR1 k 3, sto (bL2 maskP (LD1 arg2.view X_2 k 3) (LD1 arg5.view X_5 k 2) (LD1 arg5.view X_5 k 3))⟩ : View.Piece (Elt F) S2048x128 .f32),
       (⟨WR1 k 2, sto (bL2 maskP (LD1 arg2.view X_2 k 2) (LD1 arg5.view X_5 k 1) (LD1 arg5.view X_5 k 2))⟩ : View.Piece (Elt F) S2048x128 .f32),
       (⟨WR1 k 1, sto (bL2 maskP (LD1 arg2.view X_2 k 1) (LD1 arg5.view X_5 k 0) (LD1 arg5.view X_5 k 1))⟩ : View.Piece (Elt F) S2048x128 .f32),
       (⟨WR1 k 0, sto (bL2 (mask2 (Scalar.cmpi .sgt (Scf.iv 0#32 1#32 k) 0#32)) (LD1 arg2.view X_2 k 0) (LD1p arg5.view X_5 k) (LD1 arg5.view X_5 k 0))⟩ : View.Piece (Elt F) S2048x128 .f32)] := by
  unfold Gen.trip_k0_t1; rfl

theorem trip1_13 (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_2 : BufTy.Contents (Elt F) arg2.view.ty) (X_5 : BufTy.Contents (Elt F) arg5.view.ty) (X_8 : BufTy.Contents (Elt F) arg8.view.ty) (k : Fin k0_t1_loop.trips) :
    (Gen.trip_k0_t1 Variants.none c none i arg2 harg2 arg3 harg3 arg4 harg4 arg5 harg5 arg6 harg6 arg7 harg7 arg8 harg8 arg9 harg9 arg10 harg10 arg11 harg11 arg12 harg12 arg13 harg13 arg14 harg14 X_2 X_5 X_8 k).2.1 =
      [(⟨WR1 k 3, g1L (arg2.view.read (Elt F) X_2) (arg5.view.read (Elt F) X_5) (4 * k.val + 3)⟩ : View.Piece (Elt F) S2048x128 .f32),
       (⟨WR1 k 2, g1L (arg2.view.read (Elt F) X_2) (arg5.view.read (Elt F) X_5) (4 * k.val + 2)⟩ : View.Piece (Elt F) S2048x128 .f32),
       (⟨WR1 k 1, g1L (arg2.view.read (Elt F) X_2) (arg5.view.read (Elt F) X_5) (4 * k.val + 1)⟩ : View.Piece (Elt F) S2048x128 .f32),
       (⟨WR1 k 0, g1L (arg2.view.read (Elt F) X_2) (arg5.view.read (Elt F) X_5) (4 * k.val + 0)⟩ : View.Piece (Elt F) S2048x128 .f32)] := by
  have h0 : sto (bL2 (mask2 (Scalar.cmpi .sgt (Scf.iv 0#32 1#32 k) 0#32)) (LD1 arg2.view X_2 k 0) (LD1p arg5.view X_5 k) (LD1 arg5.view X_5 k 0)) = g1L (arg2.view.read (Elt F) X_2) (arg5.view.read (Elt F) X_5) (4 * k.val + 0) := by
    unfold g1L
    simp only [LD1_eq, LD1p_eq, first_mask]; rfl
  have h1 : sto (bL2 maskP (LD1 arg2.view X_2 k 1) (LD1 arg5.view X_5 k 0) (LD1 arg5.view X_5 k 1)) = g1L (arg2.view.read (Elt F) X_2) (arg5.view.read (Elt F) X_5) (4 * k.val + 1) := by
    unfold g1L
    rw [if_neg (by omega : ¬ 4 * k.val + 1 = 0), mask2_one]; simp only [LD1_eq]; rfl
  have h2 : sto (bL2 maskP (LD1 arg2.view X_2 k 2) (LD1 arg5.view X_5 k 1) (LD1 arg5.view X_5 k 2)) = g1L (arg2.view.read (Elt F) X_2) (arg5.view.read (Elt F) X_5) (4 * k.val + 2) := by
    unfold g1L
    rw [if_neg (by omega : ¬ 4 * k.val + 2 = 0), mask2_one]; simp only [LD1_eq]; rfl
  have h3 : sto (bL2 maskP (LD1 arg2.view X_2 k 3) (LD1 arg5.view X_5 k 2) (LD1 arg5.view X_5 k 3)) = g1L (arg2.view.read (Elt F) X_2) (arg5.view.read (Elt F) X_5) (4 * k.val + 3) := by
    unfold g1L
    rw [if_neg (by omega : ¬ 4 * k.val + 3 = 0), mask2_one]; simp only [LD1_eq]; rfl
  rw [trip1_13_raw, h0, h1, h2, h3]

/-- The pieces the run found for `arg14`, as functions of the rows loaded. -/
theorem trip1_14_raw (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_2 : BufTy.Contents (Elt F) arg2.view.ty) (X_5 : BufTy.Contents (Elt F) arg5.view.ty) (X_8 : BufTy.Contents (Elt F) arg8.view.ty) (k : Fin k0_t1_loop.trips) :
    (Gen.trip_k0_t1 Variants.none c none i arg2 harg2 arg3 harg3 arg4 harg4 arg5 harg5 arg6 harg6 arg7 harg7 arg8 harg8 arg9 harg9 arg10 harg10 arg11 harg11 arg12 harg12 arg13 harg13 arg14 harg14 X_2 X_5 X_8 k).2.2.1 =
      [(⟨WR1 k 3, sto (bA2 maskP (LD1 arg2.view X_2 k 3) (LD1 arg5.view X_5 k 2) (LD1 arg5.view X_5 k 3) (LD1 arg8.view X_8 k 2) (LD1 arg8.view X_8 k 3))⟩ : View.Piece (Elt F) S2048x128 .f32),
       (⟨WR1 k 2, sto (bA2 maskP (LD1 arg2.view X_2 k 2) (LD1 arg5.view X_5 k 1) (LD1 arg5.view X_5 k 2) (LD1 arg8.view X_8 k 1) (LD1 arg8.view X_8 k 2))⟩ : View.Piece (Elt F) S2048x128 .f32),
       (⟨WR1 k 1, sto (bA2 maskP (LD1 arg2.view X_2 k 1) (LD1 arg5.view X_5 k 0) (LD1 arg5.view X_5 k 1) (LD1 arg8.view X_8 k 0) (LD1 arg8.view X_8 k 1))⟩ : View.Piece (Elt F) S2048x128 .f32),
       (⟨WR1 k 0, sto (bA2 (mask2 (Scalar.cmpi .sgt (Scf.iv 0#32 1#32 k) 0#32)) (LD1 arg2.view X_2 k 0) (LD1p arg5.view X_5 k) (LD1 arg5.view X_5 k 0) (LD1p arg8.view X_8 k) (LD1 arg8.view X_8 k 0))⟩ : View.Piece (Elt F) S2048x128 .f32)] := by
  unfold Gen.trip_k0_t1; rfl

theorem trip1_14 (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_2 : BufTy.Contents (Elt F) arg2.view.ty) (X_5 : BufTy.Contents (Elt F) arg5.view.ty) (X_8 : BufTy.Contents (Elt F) arg8.view.ty) (k : Fin k0_t1_loop.trips) :
    (Gen.trip_k0_t1 Variants.none c none i arg2 harg2 arg3 harg3 arg4 harg4 arg5 harg5 arg6 harg6 arg7 harg7 arg8 harg8 arg9 harg9 arg10 harg10 arg11 harg11 arg12 harg12 arg13 harg13 arg14 harg14 X_2 X_5 X_8 k).2.2.1 =
      [(⟨WR1 k 3, g1A (arg2.view.read (Elt F) X_2) (arg5.view.read (Elt F) X_5) (arg8.view.read (Elt F) X_8) (4 * k.val + 3)⟩ : View.Piece (Elt F) S2048x128 .f32),
       (⟨WR1 k 2, g1A (arg2.view.read (Elt F) X_2) (arg5.view.read (Elt F) X_5) (arg8.view.read (Elt F) X_8) (4 * k.val + 2)⟩ : View.Piece (Elt F) S2048x128 .f32),
       (⟨WR1 k 1, g1A (arg2.view.read (Elt F) X_2) (arg5.view.read (Elt F) X_5) (arg8.view.read (Elt F) X_8) (4 * k.val + 1)⟩ : View.Piece (Elt F) S2048x128 .f32),
       (⟨WR1 k 0, g1A (arg2.view.read (Elt F) X_2) (arg5.view.read (Elt F) X_5) (arg8.view.read (Elt F) X_8) (4 * k.val + 0)⟩ : View.Piece (Elt F) S2048x128 .f32)] := by
  have h0 : sto (bA2 (mask2 (Scalar.cmpi .sgt (Scf.iv 0#32 1#32 k) 0#32)) (LD1 arg2.view X_2 k 0) (LD1p arg5.view X_5 k) (LD1 arg5.view X_5 k 0) (LD1p arg8.view X_8 k) (LD1 arg8.view X_8 k 0)) = g1A (arg2.view.read (Elt F) X_2) (arg5.view.read (Elt F) X_5) (arg8.view.read (Elt F) X_8) (4 * k.val + 0) := by
    unfold g1A
    simp only [LD1_eq, LD1p_eq, first_mask]; rfl
  have h1 : sto (bA2 maskP (LD1 arg2.view X_2 k 1) (LD1 arg5.view X_5 k 0) (LD1 arg5.view X_5 k 1) (LD1 arg8.view X_8 k 0) (LD1 arg8.view X_8 k 1)) = g1A (arg2.view.read (Elt F) X_2) (arg5.view.read (Elt F) X_5) (arg8.view.read (Elt F) X_8) (4 * k.val + 1) := by
    unfold g1A
    rw [if_neg (by omega : ¬ 4 * k.val + 1 = 0), mask2_one]; simp only [LD1_eq]; rfl
  have h2 : sto (bA2 maskP (LD1 arg2.view X_2 k 2) (LD1 arg5.view X_5 k 1) (LD1 arg5.view X_5 k 2) (LD1 arg8.view X_8 k 1) (LD1 arg8.view X_8 k 2)) = g1A (arg2.view.read (Elt F) X_2) (arg5.view.read (Elt F) X_5) (arg8.view.read (Elt F) X_8) (4 * k.val + 2) := by
    unfold g1A
    rw [if_neg (by omega : ¬ 4 * k.val + 2 = 0), mask2_one]; simp only [LD1_eq]; rfl
  have h3 : sto (bA2 maskP (LD1 arg2.view X_2 k 3) (LD1 arg5.view X_5 k 2) (LD1 arg5.view X_5 k 3) (LD1 arg8.view X_8 k 2) (LD1 arg8.view X_8 k 3)) = g1A (arg2.view.read (Elt F) X_2) (arg5.view.read (Elt F) X_5) (arg8.view.read (Elt F) X_8) (4 * k.val + 3) := by
    unfold g1A
    rw [if_neg (by omega : ¬ 4 * k.val + 3 = 0), mask2_one]; simp only [LD1_eq]; rfl
  rw [trip1_14_raw, h0, h1, h2, h3]

end Cert.Proof.KI
-- ==== Proof.KI.Pieces2.lean ====
module

public import proofs.«01_k».proof.Proof.KI.Block

@[expose] public section

set_option maxRecDepth 16384

noncomputable section

namespace Cert.Proof.KI

open Cert.KernelIdeal Cert.KernelIdeal.Facts₀ Cert.KernelIdeal.Facts
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the run. -/
local notation "𝕄G" => MT nD τ sig Unit (Elt F) ℕ (UR sig nD τ) ℕ

/-- Block `r` of trip `k`, as the run loads it. -/
def LD2 (v : View sig .tc .vmem S1x1x2048x128 .f32) (f : v.ty.Contents (Elt F)) (k : Fin k0_t2_loop.trips) (r : Fin 4) : Vec F S1x1x128x128 .f32 :=
  v.readAt (Elt F) (⟨k0_off4 k (BitVec.ofNat 32 (512 * r.val)), S1x1x128x128.size, ![1, 1, 4, 1], Gen.k0_off4_inb k r⟩ : LoadRect S1x1x2048x128) f
/-- The scratch rows of it. -/
def LS2 (v : View sig .tc .vmem S2048x128 .f32) (f : v.ty.Contents (Elt F)) (k : Fin k0_t2_loop.trips) (r : Fin 4) : Vec F S128x128 .f32 :=
  v.readAt (Elt F) (⟨k0_off5 k (BitVec.ofNat 32 (512 * r.val)), S128x128.size, ![4, 1], Gen.k0_off5_inb k r⟩ : LoadRect S2048x128) f

theorem LD2_eq (v : View sig .tc .vmem S1x1x2048x128 .f32) (f : v.ty.Contents (Elt F)) (k : Fin k0_t2_loop.trips) (r : Fin 4) :
    LD2 v f k r = rows4 (v.read (Elt F) f) (k.val + 512 * r.val) 4 :=
  readAt_rows4 v f _ 4 _ (Gen.k0_off4_inb k r) (Gen.k0_off4_eq k r)

theorem LS2_eq (v : View sig .tc .vmem S2048x128 .f32) (f : v.ty.Contents (Elt F)) (k : Fin k0_t2_loop.trips) (r : Fin 4) :
    LS2 v f k r = rows2 (v.read (Elt F) f) (k.val + 512 * r.val) 4 :=
  readAt_rows2 v f _ 4 _ (Gen.k0_off5_inb k r) (Gen.k0_off5_eq k r)

/-- Block `r` of trip `k`, as the run stores it. -/
def WR2 (k : Fin k0_t2_loop.trips) (r : Fin 4) : Rect S2048x128 :=
  { off := k0_off5 k (BitVec.ofNat 32 (512 * r.val)), size := S128x128.size, stride := ![4, 1], inb := Gen.k0_off5_inb k r,
    stride_pos := by decide }

theorem WR2_emb (k : Fin k0_t2_loop.trips) (r : Fin 4) (x : S128x128.Idx) : ((WR2 k r).emb x 0).val = k.val + 512 * r.val + 4 * (x 0).val := by
  show (k0_off5 k (BitVec.ofNat 32 (512 * r.val))) 0 + _ = _
  rw [Gen.k0_off5_eq k r]; rfl

theorem WR2_embl (k : Fin k0_t2_loop.trips) (r : Fin 4) (x : S128x128.Idx) : ((WR2 k r).emb x 1).val = (x 1).val := by
  show (k0_off5 k (BitVec.ofNat 32 (512 * r.val))) 1 + 1 * (x 1).val = _
  rw [Gen.k0_off5_eq k r]; show 0 + 1 * (x 1).val = _; omega

theorem WR2_mem (k : Fin k0_t2_loop.trips) (r : Fin 4) (y : S2048x128.Idx) (h : (y 0).val % 4 = k.val) (hr : (y 0).val / 512 = r.val) : y ∈ (WR2 k r).set := by
  have hy := (y 0).isLt; change (y 0).val < 2048 at hy
  have hk : k.val < 4 := lt_of_lt_of_eq k.isLt trips_2
  have hr4 := r.isLt
  have : y = (WR2 k r).emb (ix2 ⟨(y 0).val / 4 % 128, Nat.mod_lt _ (by decide)⟩ (y 1)) := by
    funext a; apply Fin.ext
    match a with
    | ⟨0, _⟩ => refine Eq.trans ?_ (WR2_emb k r _).symm; show (y 0).val = k.val + 512 * r.val + 4 * ((y 0).val / 4 % 128); omega
    | ⟨1, _⟩ => exact (WR2_embl k r (ix2 ⟨(y 0).val / 4 % 128, Nat.mod_lt _ (by decide)⟩ (y 1))).symm
  rw [this]; exact (LoadRect.mem_set _).2 fun a => ⟨_, Fin.isLt _, Rect.emb_apply _ _ _⟩

theorem WR2_not_mem (k : Fin k0_t2_loop.trips) (r : Fin 4) (y : S2048x128.Idx) (h : ¬ (y 0).val % 4 = k.val) : y ∉ (WR2 k r).set := by
  intro hm
  have hk : k.val < 4 := lt_of_lt_of_eq k.isLt trips_2
  have hr4 := r.isLt
  obtain ⟨j, hj, e⟩ := (LoadRect.mem_set _).1 hm 0
  change j < 128 at hj
  change (y 0).val = (k0_off5 k (BitVec.ofNat 32 (512 * r.val))) 0 + 4 * j at e
  rw [Gen.k0_off5_eq k r] at e
  change (y 0).val = k.val + 512 * r.val + 4 * j at e
  exact h (by omega)

theorem spr2_emb (g : ℕ → ℕ → FVec F S128x128 .f32) (k : Fin k0_t2_loop.trips) (r : Fin 4) (x : S128x128.Idx) :
    spr2 g ((WR2 k r).emb x) = g k.val r.val x := by
  have hk : k.val < 4 := lt_of_lt_of_eq k.isLt trips_2
  have hr4 := r.isLt
  have hx := (x 0).isLt; change (x 0).val < 128 at hx
  have e := WR2_emb k r x
  have el := WR2_embl k r x
  unfold spr2
  rw [show ((WR2 k r).emb x 0).val % 4 = k.val by omega, show ((WR2 k r).emb x 0).val / 512 = r.val by omega]
  congr 1
  funext a; apply Fin.ext
  match a with
  | ⟨0, _⟩ => show ((WR2 k r).emb x 0).val / 4 % 128 = (x 0).val; omega
  | ⟨1, _⟩ => exact el

/-- After a trip, its rows hold the blocks' values. -/
theorem tile2_in (v : View sig .tc .vmem S2048x128 .f32) (f : v.ty.Contents (Elt F)) (g : ℕ → ℕ → FVec F S128x128 .f32) (k : Fin k0_t2_loop.trips) (y : S2048x128.Idx) (h : (y 0).val % 4 = k.val) :
    v.read (Elt F) (v.writes (Elt F) f [(⟨WR2 k 3, g k.val 3⟩ : View.Piece (Elt F) S2048x128 .f32), (⟨WR2 k 2, g k.val 2⟩ : View.Piece (Elt F) S2048x128 .f32), (⟨WR2 k 1, g k.val 1⟩ : View.Piece (Elt F) S2048x128 .f32), (⟨WR2 k 0, g k.val 0⟩ : View.Piece (Elt F) S2048x128 .f32)]) y = spr2 g y := by
  refine View.read_writes_apply_of_pieces v f (spr2 g) _ ?_ y ?_
  · intro p hp x
    simp only [List.mem_cons, List.not_mem_nil, or_false] at hp
    rcases hp with rfl | rfl | rfl | rfl
    · exact (spr2_emb g k 3 x).symm
    · exact (spr2_emb g k 2 x).symm
    · exact (spr2_emb g k 1 x).symm
    · exact (spr2_emb g k 0 x).symm
  · have hy := (y 0).isLt; change (y 0).val < 2048 at hy
    have h4 : (y 0).val / 512 < 4 := by omega
    rcases (by omega : (y 0).val / 512 = 3 ∨ (y 0).val / 512 = 2 ∨ (y 0).val / 512 = 1 ∨ (y 0).val / 512 = 0) with e | e | e | e
    · exact ⟨_, .head _, WR2_mem k 3 y h e⟩
    · exact ⟨_, .tail _ (.head _), WR2_mem k 2 y h e⟩
    · exact ⟨_, .tail _ (.tail _ (.head _)), WR2_mem k 1 y h e⟩
    · exact ⟨_, .tail _ (.tail _ (.tail _ (.head _))), WR2_mem k 0 y h e⟩

/-- The other rows keep theirs. -/
theorem tile2_out (v : View sig .tc .vmem S2048x128 .f32) (f : v.ty.Contents (Elt F)) (g : ℕ → ℕ → FVec F S128x128 .f32) (k : Fin k0_t2_loop.trips) (y : S2048x128.Idx) (h : ¬ (y 0).val % 4 = k.val) :
    v.read (Elt F) (v.writes (Elt F) f [(⟨WR2 k 3, g k.val 3⟩ : View.Piece (Elt F) S2048x128 .f32), (⟨WR2 k 2, g k.val 2⟩ : View.Piece (Elt F) S2048x128 .f32), (⟨WR2 k 1, g k.val 1⟩ : View.Piece (Elt F) S2048x128 .f32), (⟨WR2 k 0, g k.val 0⟩ : View.Piece (Elt F) S2048x128 .f32)]) y = v.read (Elt F) f y := by
  refine View.read_writes_apply_of_forall_not_mem v f y _ ?_
  intro p hp
  simp only [List.mem_cons, List.not_mem_nil, or_false] at hp
  rcases hp with rfl | rfl | rfl | rfl
  · exact WR2_not_mem k 3 y h
  · exact WR2_not_mem k 2 y h
  · exact WR2_not_mem k 1 y h
  · exact WR2_not_mem k 0 y h

/-- The pieces the run found for `arg12`, as functions of the rows loaded. -/
theorem trip2_12_raw (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_3 : BufTy.Contents (Elt F) arg3.view.ty) (X_6 : BufTy.Contents (Elt F) arg6.view.ty) (X_9 : BufTy.Contents (Elt F) arg9.view.ty) (k : Fin k0_t2_loop.trips) (f_12 : BufTy.Contents (Elt F) arg12.view.ty) (f_13 : BufTy.Contents (Elt F) arg13.view.ty) (f_14 : BufTy.Contents (Elt F) arg14.view.ty) :
    (trip2 c i arg2 harg2 arg3 harg3 arg4 harg4 arg5 harg5 arg6 harg6 arg7 harg7 arg8 harg8 arg9 harg9 arg10 harg10 arg11 harg11 arg12 harg12 arg13 harg13 arg14 harg14 X_3 X_6 X_9 k f_12 f_13 f_14).1 =
      [(⟨WR2 k 3, sto (mgM (LS2 arg12.view f_12 k 3) (bM2 maskP (LD2 arg3.view X_3 k 3) (LD2 arg6.view X_6 k 2) (LD2 arg6.view X_6 k 3)))⟩ : View.Piece (Elt F) S2048x128 .f32),
       (⟨WR2 k 2, sto (mgM (LS2 arg12.view f_12 k 2) (bM2 maskP (LD2 arg3.view X_3 k 2) (LD2 arg6.view X_6 k 1) (LD2 arg6.view X_6 k 2)))⟩ : View.Piece (Elt F) S2048x128 .f32),
       (⟨WR2 k 1, sto (mgM (LS2 arg12.view f_12 k 1) (bM2 maskP (LD2 arg3.view X_3 k 1) (LD2 arg6.view X_6 k 0) (LD2 arg6.view X_6 k 1)))⟩ : View.Piece (Elt F) S2048x128 .f32),
       (⟨WR2 k 0, sto (mgM (LS2 arg12.view f_12 k 0) (bM1 (LD2 arg3.view X_3 k 0) (LD2 arg6.view X_6 k 0)))⟩ : View.Piece (Elt F) S2048x128 .f32)] := by
  unfold trip2; rfl

theorem trip2_12 (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_3 : BufTy.Contents (Elt F) arg3.view.ty) (X_6 : BufTy.Contents (Elt F) arg6.view.ty) (X_9 : BufTy.Contents (Elt F) arg9.view.ty) (k : Fin k0_t2_loop.trips) (f_12 : BufTy.Contents (Elt F) arg12.view.ty) (f_13 : BufTy.Contents (Elt F) arg13.view.ty) (f_14 : BufTy.Contents (Elt F) arg14.view.ty) :
    (trip2 c i arg2 harg2 arg3 harg3 arg4 harg4 arg5 harg5 arg6 harg6 arg7 harg7 arg8 harg8 arg9 harg9 arg10 harg10 arg11 harg11 arg12 harg12 arg13 harg13 arg14 harg14 X_3 X_6 X_9 k f_12 f_13 f_14).1 =
      [(⟨WR2 k 3, g2M (arg3.view.read (Elt F) X_3) (arg6.view.read (Elt F) X_6) (arg12.view.read (Elt F) f_12) k.val 3⟩ : View.Piece (Elt F) S2048x128 .f32),
       (⟨WR2 k 2, g2M (arg3.view.read (Elt F) X_3) (arg6.view.read (Elt F) X_6) (arg12.view.read (Elt F) f_12) k.val 2⟩ : View.Piece (Elt F) S2048x128 .f32),
       (⟨WR2 k 1, g2M (arg3.view.read (Elt F) X_3) (arg6.view.read (Elt F) X_6) (arg12.view.read (Elt F) f_12) k.val 1⟩ : View.Piece (Elt F) S2048x128 .f32),
       (⟨WR2 k 0, g2M (arg3.view.read (Elt F) X_3) (arg6.view.read (Elt F) X_6) (arg12.view.read (Elt F) f_12) k.val 0⟩ : View.Piece (Elt F) S2048x128 .f32)] := by
  have h0 : sto (mgM (LS2 arg12.view f_12 k 0) (bM1 (LD2 arg3.view X_3 k 0) (LD2 arg6.view X_6 k 0))) = g2M (arg3.view.read (Elt F) X_3) (arg6.view.read (Elt F) X_6) (arg12.view.read (Elt F) f_12) k.val 0 := by
    unfold g2M g2bM
    simp only [LD2_eq, LS2_eq, if_true]; rfl
  have h1 : sto (mgM (LS2 arg12.view f_12 k 1) (bM2 maskP (LD2 arg3.view X_3 k 1) (LD2 arg6.view X_6 k 0) (LD2 arg6.view X_6 k 1))) = g2M (arg3.view.read (Elt F) X_3) (arg6.view.read (Elt F) X_6) (arg12.view.read (Elt F) f_12) k.val 1 := by
    unfold g2M g2bM
    simp only [if_neg (by decide : ¬ (1 : ℕ) = 0), LD2_eq, LS2_eq]; rfl
  have h2 : sto (mgM (LS2 arg12.view f_12 k 2) (bM2 maskP (LD2 arg3.view X_3 k 2) (LD2 arg6.view X_6 k 1) (LD2 arg6.view X_6 k 2))) = g2M (arg3.view.read (Elt F) X_3) (arg6.view.read (Elt F) X_6) (arg12.view.read (Elt F) f_12) k.val 2 := by
    unfold g2M g2bM
    simp only [if_neg (by decide : ¬ (2 : ℕ) = 0), LD2_eq, LS2_eq]; rfl
  have h3 : sto (mgM (LS2 arg12.view f_12 k 3) (bM2 maskP (LD2 arg3.view X_3 k 3) (LD2 arg6.view X_6 k 2) (LD2 arg6.view X_6 k 3))) = g2M (arg3.view.read (Elt F) X_3) (arg6.view.read (Elt F) X_6) (arg12.view.read (Elt F) f_12) k.val 3 := by
    unfold g2M g2bM
    simp only [if_neg (by decide : ¬ (3 : ℕ) = 0), LD2_eq, LS2_eq]; rfl
  rw [trip2_12_raw, h0, h1, h2, h3]

/-- The pieces the run found for `arg13`, as functions of the rows loaded. -/
theorem trip2_13_raw (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_3 : BufTy.Contents (Elt F) arg3.view.ty) (X_6 : BufTy.Contents (Elt F) arg6.view.ty) (X_9 : BufTy.Contents (Elt F) arg9.view.ty) (k : Fin k0_t2_loop.trips) (f_12 : BufTy.Contents (Elt F) arg12.view.ty) (f_13 : BufTy.Contents (Elt F) arg13.view.ty) (f_14 : BufTy.Contents (Elt F) arg14.view.ty) :
    (trip2 c i arg2 harg2 arg3 harg3 arg4 harg4 arg5 harg5 arg6 harg6 arg7 harg7 arg8 harg8 arg9 harg9 arg10 harg10 arg11 harg11 arg12 harg12 arg13 harg13 arg14 harg14 X_3 X_6 X_9 k f_12 f_13 f_14).2.1 =
      [(⟨WR2 k 3, sto (mgS (LS2 arg12.view f_12 k 3) (bM2 maskP (LD2 arg3.view X_3 k 3) (LD2 arg6.view X_6 k 2) (LD2 arg6.view X_6 k 3)) (LS2 arg13.view f_13 k 3) (bL2 maskP (LD2 arg3.view X_3 k 3) (LD2 arg6.view X_6 k 2) (LD2 arg6.view X_6 k 3)))⟩ : View.Piece (Elt F) S2048x128 .f32),
       (⟨WR2 k 2, sto (mgS (LS2 arg12.view f_12 k 2) (bM2 maskP (LD2 arg3.view X_3 k 2) (LD2 arg6.view X_6 k 1) (LD2 arg6.view X_6 k 2)) (LS2 arg13.view f_13 k 2) (bL2 maskP (LD2 arg3.view X_3 k 2) (LD2 arg6.view X_6 k 1) (LD2 arg6.view X_6 k 2)))⟩ : View.Piece (Elt F) S2048x128 .f32),
       (⟨WR2 k 1, sto (mgS (LS2 arg12.view f_12 k 1) (bM2 maskP (LD2 arg3.view X_3 k 1) (LD2 arg6.view X_6 k 0) (LD2 arg6.view X_6 k 1)) (LS2 arg13.view f_13 k 1) (bL2 maskP (LD2 arg3.view X_3 k 1) (LD2 arg6.view X_6 k 0) (LD2 arg6.view X_6 k 1)))⟩ : View.Piece (Elt F) S2048x128 .f32),
       (⟨WR2 k 0, sto (mgS (LS2 arg12.view f_12 k 0) (bM1 (LD2 arg3.view X_3 k 0) (LD2 arg6.view X_6 k 0)) (LS2 arg13.view f_13 k 0) (bL1 (LD2 arg3.view X_3 k 0) (LD2 arg6.view X_6 k 0)))⟩ : View.Piece (Elt F) S2048x128 .f32)] := by
  unfold trip2; rfl

theorem trip2_13 (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_3 : BufTy.Contents (Elt F) arg3.view.ty) (X_6 : BufTy.Contents (Elt F) arg6.view.ty) (X_9 : BufTy.Contents (Elt F) arg9.view.ty) (k : Fin k0_t2_loop.trips) (f_12 : BufTy.Contents (Elt F) arg12.view.ty) (f_13 : BufTy.Contents (Elt F) arg13.view.ty) (f_14 : BufTy.Contents (Elt F) arg14.view.ty) :
    (trip2 c i arg2 harg2 arg3 harg3 arg4 harg4 arg5 harg5 arg6 harg6 arg7 harg7 arg8 harg8 arg9 harg9 arg10 harg10 arg11 harg11 arg12 harg12 arg13 harg13 arg14 harg14 X_3 X_6 X_9 k f_12 f_13 f_14).2.1 =
      [(⟨WR2 k 3, g2L (arg3.view.read (Elt F) X_3) (arg6.view.read (Elt F) X_6) (arg12.view.read (Elt F) f_12) (arg13.view.read (Elt F) f_13) k.val 3⟩ : View.Piece (Elt F) S2048x128 .f32),
       (⟨WR2 k 2, g2L (arg3.view.read (Elt F) X_3) (arg6.view.read (Elt F) X_6) (arg12.view.read (Elt F) f_12) (arg13.view.read (Elt F) f_13) k.val 2⟩ : View.Piece (Elt F) S2048x128 .f32),
       (⟨WR2 k 1, g2L (arg3.view.read (Elt F) X_3) (arg6.view.read (Elt F) X_6) (arg12.view.read (Elt F) f_12) (arg13.view.read (Elt F) f_13) k.val 1⟩ : View.Piece (Elt F) S2048x128 .f32),
       (⟨WR2 k 0, g2L (arg3.view.read (Elt F) X_3) (arg6.view.read (Elt F) X_6) (arg12.view.read (Elt F) f_12) (arg13.view.read (Elt F) f_13) k.val 0⟩ : View.Piece (Elt F) S2048x128 .f32)] := by
  have h0 : sto (mgS (LS2 arg12.view f_12 k 0) (bM1 (LD2 arg3.view X_3 k 0) (LD2 arg6.view X_6 k 0)) (LS2 arg13.view f_13 k 0) (bL1 (LD2 arg3.view X_3 k 0) (LD2 arg6.view X_6 k 0))) = g2L (arg3.view.read (Elt F) X_3) (arg6.view.read (Elt F) X_6) (arg12.view.read (Elt F) f_12) (arg13.view.read (Elt F) f_13) k.val 0 := by
    unfold g2L g2bM g2bL
    simp only [LD2_eq, LS2_eq, if_true]; rfl
  have h1 : sto (mgS (LS2 arg12.view f_12 k 1) (bM2 maskP (LD2 arg3.view X_3 k 1) (LD2 arg6.view X_6 k 0) (LD2 arg6.view X_6 k 1)) (LS2 arg13.view f_13 k 1) (bL2 maskP (LD2 arg3.view X_3 k 1) (LD2 arg6.view X_6 k 0) (LD2 arg6.view X_6 k 1))) = g2L (arg3.view.read (Elt F) X_3) (arg6.view.read (Elt F) X_6) (arg12.view.read (Elt F) f_12) (arg13.view.read (Elt F) f_13) k.val 1 := by
    unfold g2L g2bM g2bL
    simp only [if_neg (by decide : ¬ (1 : ℕ) = 0), LD2_eq, LS2_eq]; rfl
  have h2 : sto (mgS (LS2 arg12.view f_12 k 2) (bM2 maskP (LD2 arg3.view X_3 k 2) (LD2 arg6.view X_6 k 1) (LD2 arg6.view X_6 k 2)) (LS2 arg13.view f_13 k 2) (bL2 maskP (LD2 arg3.view X_3 k 2) (LD2 arg6.view X_6 k 1) (LD2 arg6.view X_6 k 2))) = g2L (arg3.view.read (Elt F) X_3) (arg6.view.read (Elt F) X_6) (arg12.view.read (Elt F) f_12) (arg13.view.read (Elt F) f_13) k.val 2 := by
    unfold g2L g2bM g2bL
    simp only [if_neg (by decide : ¬ (2 : ℕ) = 0), LD2_eq, LS2_eq]; rfl
  have h3 : sto (mgS (LS2 arg12.view f_12 k 3) (bM2 maskP (LD2 arg3.view X_3 k 3) (LD2 arg6.view X_6 k 2) (LD2 arg6.view X_6 k 3)) (LS2 arg13.view f_13 k 3) (bL2 maskP (LD2 arg3.view X_3 k 3) (LD2 arg6.view X_6 k 2) (LD2 arg6.view X_6 k 3))) = g2L (arg3.view.read (Elt F) X_3) (arg6.view.read (Elt F) X_6) (arg12.view.read (Elt F) f_12) (arg13.view.read (Elt F) f_13) k.val 3 := by
    unfold g2L g2bM g2bL
    simp only [if_neg (by decide : ¬ (3 : ℕ) = 0), LD2_eq, LS2_eq]; rfl
  rw [trip2_13_raw, h0, h1, h2, h3]

/-- The pieces the run found for `arg14`, as functions of the rows loaded. -/
theorem trip2_14_raw (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_3 : BufTy.Contents (Elt F) arg3.view.ty) (X_6 : BufTy.Contents (Elt F) arg6.view.ty) (X_9 : BufTy.Contents (Elt F) arg9.view.ty) (k : Fin k0_t2_loop.trips) (f_12 : BufTy.Contents (Elt F) arg12.view.ty) (f_13 : BufTy.Contents (Elt F) arg13.view.ty) (f_14 : BufTy.Contents (Elt F) arg14.view.ty) :
    (trip2 c i arg2 harg2 arg3 harg3 arg4 harg4 arg5 harg5 arg6 harg6 arg7 harg7 arg8 harg8 arg9 harg9 arg10 harg10 arg11 harg11 arg12 harg12 arg13 harg13 arg14 harg14 X_3 X_6 X_9 k f_12 f_13 f_14).2.2.1 =
      [(⟨WR2 k 3, sto (mgS (LS2 arg12.view f_12 k 3) (bM2 maskP (LD2 arg3.view X_3 k 3) (LD2 arg6.view X_6 k 2) (LD2 arg6.view X_6 k 3)) (LS2 arg14.view f_14 k 3) (bA2 maskP (LD2 arg3.view X_3 k 3) (LD2 arg6.view X_6 k 2) (LD2 arg6.view X_6 k 3) (LD2 arg9.view X_9 k 2) (LD2 arg9.view X_9 k 3)))⟩ : View.Piece (Elt F) S2048x128 .f32),
       (⟨WR2 k 2, sto (mgS (LS2 arg12.view f_12 k 2) (bM2 maskP (LD2 arg3.view X_3 k 2) (LD2 arg6.view X_6 k 1) (LD2 arg6.view X_6 k 2)) (LS2 arg14.view f_14 k 2) (bA2 maskP (LD2 arg3.view X_3 k 2) (LD2 arg6.view X_6 k 1) (LD2 arg6.view X_6 k 2) (LD2 arg9.view X_9 k 1) (LD2 arg9.view X_9 k 2)))⟩ : View.Piece (Elt F) S2048x128 .f32),
       (⟨WR2 k 1, sto (mgS (LS2 arg12.view f_12 k 1) (bM2 maskP (LD2 arg3.view X_3 k 1) (LD2 arg6.view X_6 k 0) (LD2 arg6.view X_6 k 1)) (LS2 arg14.view f_14 k 1) (bA2 maskP (LD2 arg3.view X_3 k 1) (LD2 arg6.view X_6 k 0) (LD2 arg6.view X_6 k 1) (LD2 arg9.view X_9 k 0) (LD2 arg9.view X_9 k 1)))⟩ : View.Piece (Elt F) S2048x128 .f32),
       (⟨WR2 k 0, sto (mgS (LS2 arg12.view f_12 k 0) (bM1 (LD2 arg3.view X_3 k 0) (LD2 arg6.view X_6 k 0)) (LS2 arg14.view f_14 k 0) (bA1 (LD2 arg3.view X_3 k 0) (LD2 arg6.view X_6 k 0) (LD2 arg9.view X_9 k 0)))⟩ : View.Piece (Elt F) S2048x128 .f32)] := by
  unfold trip2; rfl

theorem trip2_14 (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_3 : BufTy.Contents (Elt F) arg3.view.ty) (X_6 : BufTy.Contents (Elt F) arg6.view.ty) (X_9 : BufTy.Contents (Elt F) arg9.view.ty) (k : Fin k0_t2_loop.trips) (f_12 : BufTy.Contents (Elt F) arg12.view.ty) (f_13 : BufTy.Contents (Elt F) arg13.view.ty) (f_14 : BufTy.Contents (Elt F) arg14.view.ty) :
    (trip2 c i arg2 harg2 arg3 harg3 arg4 harg4 arg5 harg5 arg6 harg6 arg7 harg7 arg8 harg8 arg9 harg9 arg10 harg10 arg11 harg11 arg12 harg12 arg13 harg13 arg14 harg14 X_3 X_6 X_9 k f_12 f_13 f_14).2.2.1 =
      [(⟨WR2 k 3, g2A (arg3.view.read (Elt F) X_3) (arg6.view.read (Elt F) X_6) (arg9.view.read (Elt F) X_9) (arg12.view.read (Elt F) f_12) (arg14.view.read (Elt F) f_14) k.val 3⟩ : View.Piece (Elt F) S2048x128 .f32),
       (⟨WR2 k 2, g2A (arg3.view.read (Elt F) X_3) (arg6.view.read (Elt F) X_6) (arg9.view.read (Elt F) X_9) (arg12.view.read (Elt F) f_12) (arg14.view.read (Elt F) f_14) k.val 2⟩ : View.Piece (Elt F) S2048x128 .f32),
       (⟨WR2 k 1, g2A (arg3.view.read (Elt F) X_3) (arg6.view.read (Elt F) X_6) (arg9.view.read (Elt F) X_9) (arg12.view.read (Elt F) f_12) (arg14.view.read (Elt F) f_14) k.val 1⟩ : View.Piece (Elt F) S2048x128 .f32),
       (⟨WR2 k 0, g2A (arg3.view.read (Elt F) X_3) (arg6.view.read (Elt F) X_6) (arg9.view.read (Elt F) X_9) (arg12.view.read (Elt F) f_12) (arg14.view.read (Elt F) f_14) k.val 0⟩ : View.Piece (Elt F) S2048x128 .f32)] := by
  have h0 : sto (mgS (LS2 arg12.view f_12 k 0) (bM1 (LD2 arg3.view X_3 k 0) (LD2 arg6.view X_6 k 0)) (LS2 arg14.view f_14 k 0) (bA1 (LD2 arg3.view X_3 k 0) (LD2 arg6.view X_6 k 0) (LD2 arg9.view X_9 k 0))) = g2A (arg3.view.read (Elt F) X_3) (arg6.view.read (Elt F) X_6) (arg9.view.read (Elt F) X_9) (arg12.view.read (Elt F) f_12) (arg14.view.read (Elt F) f_14) k.val 0 := by
    unfold g2A g2bM g2bA
    simp only [LD2_eq, LS2_eq, if_true]; rfl
  have h1 : sto (mgS (LS2 arg12.view f_12 k 1) (bM2 maskP (LD2 arg3.view X_3 k 1) (LD2 arg6.view X_6 k 0) (LD2 arg6.view X_6 k 1)) (LS2 arg14.view f_14 k 1) (bA2 maskP (LD2 arg3.view X_3 k 1) (LD2 arg6.view X_6 k 0) (LD2 arg6.view X_6 k 1) (LD2 arg9.view X_9 k 0) (LD2 arg9.view X_9 k 1))) = g2A (arg3.view.read (Elt F) X_3) (arg6.view.read (Elt F) X_6) (arg9.view.read (Elt F) X_9) (arg12.view.read (Elt F) f_12) (arg14.view.read (Elt F) f_14) k.val 1 := by
    unfold g2A g2bM g2bA
    simp only [if_neg (by decide : ¬ (1 : ℕ) = 0), LD2_eq, LS2_eq]; rfl
  have h2 : sto (mgS (LS2 arg12.view f_12 k 2) (bM2 maskP (LD2 arg3.view X_3 k 2) (LD2 arg6.view X_6 k 1) (LD2 arg6.view X_6 k 2)) (LS2 arg14.view f_14 k 2) (bA2 maskP (LD2 arg3.view X_3 k 2) (LD2 arg6.view X_6 k 1) (LD2 arg6.view X_6 k 2) (LD2 arg9.view X_9 k 1) (LD2 arg9.view X_9 k 2))) = g2A (arg3.view.read (Elt F) X_3) (arg6.view.read (Elt F) X_6) (arg9.view.read (Elt F) X_9) (arg12.view.read (Elt F) f_12) (arg14.view.read (Elt F) f_14) k.val 2 := by
    unfold g2A g2bM g2bA
    simp only [if_neg (by decide : ¬ (2 : ℕ) = 0), LD2_eq, LS2_eq]; rfl
  have h3 : sto (mgS (LS2 arg12.view f_12 k 3) (bM2 maskP (LD2 arg3.view X_3 k 3) (LD2 arg6.view X_6 k 2) (LD2 arg6.view X_6 k 3)) (LS2 arg14.view f_14 k 3) (bA2 maskP (LD2 arg3.view X_3 k 3) (LD2 arg6.view X_6 k 2) (LD2 arg6.view X_6 k 3) (LD2 arg9.view X_9 k 2) (LD2 arg9.view X_9 k 3))) = g2A (arg3.view.read (Elt F) X_3) (arg6.view.read (Elt F) X_6) (arg9.view.read (Elt F) X_9) (arg12.view.read (Elt F) f_12) (arg14.view.read (Elt F) f_14) k.val 3 := by
    unfold g2A g2bM g2bA
    simp only [if_neg (by decide : ¬ (3 : ℕ) = 0), LD2_eq, LS2_eq]; rfl
  rw [trip2_14_raw, h0, h1, h2, h3]

end Cert.Proof.KI
-- ==== Proof.KI.Pieces3.lean ====
module

public import proofs.«01_k».proof.Proof.KI.Block

@[expose] public section

set_option maxRecDepth 16384

noncomputable section

namespace Cert.Proof.KI

open Cert.KernelIdeal Cert.KernelIdeal.Facts₀ Cert.KernelIdeal.Facts
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the run. -/
local notation "𝕄G" => MT nD τ sig Unit (Elt F) ℕ (UR sig nD τ) ℕ

/-- Block `r` of trip `k`, as the run loads it. -/
def LD3 (v : View sig .tc .vmem S1x1x2048x128 .f32) (f : v.ty.Contents (Elt F)) (k : Fin k0_t3_loop.trips) (r : Fin 4) : Vec F S1x1x128x128 .f32 :=
  v.readAt (Elt F) (⟨k0_off6 k (BitVec.ofNat 32 (r.val)), S1x1x128x128.size, ![1, 1, 16, 1], Gen.k0_off6_inb k r⟩ : LoadRect S1x1x2048x128) f
/-- The scratch rows of it. -/
def LS3 (v : View sig .tc .vmem S2048x128 .f32) (f : v.ty.Contents (Elt F)) (k : Fin k0_t3_loop.trips) (r : Fin 4) : Vec F S128x128 .f32 :=
  v.readAt (Elt F) (⟨k0_off7 k (BitVec.ofNat 32 (r.val)), S128x128.size, ![16, 1], Gen.k0_off7_inb k r⟩ : LoadRect S2048x128) f

theorem LD3_eq (v : View sig .tc .vmem S1x1x2048x128 .f32) (f : v.ty.Contents (Elt F)) (k : Fin k0_t3_loop.trips) (r : Fin 4) :
    LD3 v f k r = rows4 (v.read (Elt F) f) (4 * k.val + r.val) 16 :=
  readAt_rows4 v f _ 16 _ (Gen.k0_off6_inb k r) (Gen.k0_off6_eq k r)

theorem LS3_eq (v : View sig .tc .vmem S2048x128 .f32) (f : v.ty.Contents (Elt F)) (k : Fin k0_t3_loop.trips) (r : Fin 4) :
    LS3 v f k r = rows2 (v.read (Elt F) f) (4 * k.val + r.val) 16 :=
  readAt_rows2 v f _ 16 _ (Gen.k0_off7_inb k r) (Gen.k0_off7_eq k r)

/-- Block `r` of trip `k`, as the run stores it. -/
def WR3 (k : Fin k0_t3_loop.trips) (r : Fin 4) : Rect S1x1x2048x128 :=
  { off := k0_off6 k (BitVec.ofNat 32 r.val), size := S1x1x128x128.size, stride := ![1, 1, 16, 1], inb := Gen.k0_off6_inb k r,
    stride_pos := by decide }

theorem WR3_emb (k : Fin k0_t3_loop.trips) (r : Fin 4) (x : S1x1x128x128.Idx) : ((WR3 k r).emb x 2).val = 4 * k.val + r.val + 16 * (x 2).val := by
  show (k0_off6 k (BitVec.ofNat 32 r.val)) 2 + _ = _
  rw [Gen.k0_off6_eq k r]; rfl

theorem WR3_embl (k : Fin k0_t3_loop.trips) (r : Fin 4) (x : S1x1x128x128.Idx) : ((WR3 k r).emb x 3).val = (x 3).val := by
  show (k0_off6 k (BitVec.ofNat 32 r.val)) 3 + 1 * (x 3).val = _
  rw [Gen.k0_off6_eq k r]; show 0 + 1 * (x 3).val = _; omega

theorem WR3_mem (k : Fin k0_t3_loop.trips) (r : Fin 4) (y : S1x1x2048x128.Idx) (h : (y 2).val % 16 / 4 = k.val) (hr : (y 2).val % 16 % 4 = r.val) : y ∈ (WR3 k r).set := by
  have hy := (y 2).isLt; change (y 2).val < 2048 at hy
  have hk : k.val < 4 := lt_of_lt_of_eq k.isLt trips_3
  have hr4 := r.isLt
  have : y = (WR3 k r).emb (ix4 (0 : Fin 1) (0 : Fin 1) ⟨(y 2).val / 16 % 128, Nat.mod_lt _ (by decide)⟩ (y 3)) := by
    funext a; apply Fin.ext
    match a with
    | ⟨0, _⟩ => have h0 := (y 0).isLt; have h1 := ((WR3 k r).emb (ix4 (0 : Fin 1) (0 : Fin 1) ⟨(y 2).val / 16 % 128, Nat.mod_lt _ (by decide)⟩ (y 3)) 0).isLt
                change (y 0).val < 1 at h0; change _ < 1 at h1; show (y 0).val = ((WR3 k r).emb (ix4 (0 : Fin 1) (0 : Fin 1) ⟨(y 2).val / 16 % 128, Nat.mod_lt _ (by decide)⟩ (y 3)) 0).val; omega
    | ⟨1, _⟩ => have h0 := (y 1).isLt; have h1 := ((WR3 k r).emb (ix4 (0 : Fin 1) (0 : Fin 1) ⟨(y 2).val / 16 % 128, Nat.mod_lt _ (by decide)⟩ (y 3)) 1).isLt
                change (y 1).val < 1 at h0; change _ < 1 at h1; show (y 1).val = ((WR3 k r).emb (ix4 (0 : Fin 1) (0 : Fin 1) ⟨(y 2).val / 16 % 128, Nat.mod_lt _ (by decide)⟩ (y 3)) 1).val; omega
    | ⟨2, _⟩ => refine Eq.trans ?_ (WR3_emb k r _).symm; show (y 2).val = 4 * k.val + r.val + 16 * ((y 2).val / 16 % 128); omega
    | ⟨3, _⟩ => exact (WR3_embl k r (ix4 (0 : Fin 1) (0 : Fin 1) ⟨(y 2).val / 16 % 128, Nat.mod_lt _ (by decide)⟩ (y 3))).symm
  rw [this]; exact (LoadRect.mem_set _).2 fun a => ⟨_, Fin.isLt _, Rect.emb_apply _ _ _⟩

theorem WR3_not_mem (k : Fin k0_t3_loop.trips) (r : Fin 4) (y : S1x1x2048x128.Idx) (h : ¬ (y 2).val % 16 / 4 = k.val) : y ∉ (WR3 k r).set := by
  intro hm
  have hk : k.val < 4 := lt_of_lt_of_eq k.isLt trips_3
  have hr4 := r.isLt
  obtain ⟨j, hj, e⟩ := (LoadRect.mem_set _).1 hm 2
  change j < 128 at hj
  change (y 2).val = (k0_off6 k (BitVec.ofNat 32 r.val)) 2 + 16 * j at e
  rw [Gen.k0_off6_eq k r] at e
  change (y 2).val = 4 * k.val + r.val + 16 * j at e
  exact h (by omega)

theorem spr3_emb (g : ℕ → FVec F S1x1x128x128 .f32) (k : Fin k0_t3_loop.trips) (r : Fin 4) (x : S1x1x128x128.Idx) :
    spr3 g ((WR3 k r).emb x) = g (4 * k.val + r.val) x := by
  have hk : k.val < 4 := lt_of_lt_of_eq k.isLt trips_3
  have hr4 := r.isLt
  have hx := (x 2).isLt; change (x 2).val < 128 at hx
  have e := WR3_emb k r x
  have el := WR3_embl k r x
  unfold spr3
  rw [show ((WR3 k r).emb x 2).val % 16 = 4 * k.val + r.val by omega]
  congr 1
  funext a; apply Fin.ext
  match a with
  | ⟨0, _⟩ => have h0 := (x 0).isLt; change (x 0).val < 1 at h0; show 0 = (x 0).val; omega
  | ⟨1, _⟩ => have h0 := (x 1).isLt; change (x 1).val < 1 at h0; show 0 = (x 1).val; omega
  | ⟨2, _⟩ => show ((WR3 k r).emb x 2).val / 16 % 128 = (x 2).val; omega
  | ⟨3, _⟩ => exact el

/-- After a trip, its rows hold the blocks' values. -/
theorem tile3_in (v : View sig .tc .vmem S1x1x2048x128 .f32) (f : v.ty.Contents (Elt F)) (g : ℕ → FVec F S1x1x128x128 .f32) (k : Fin k0_t3_loop.trips) (y : S1x1x2048x128.Idx) (h : (y 2).val % 16 / 4 = k.val) :
    v.read (Elt F) (v.writes (Elt F) f [(⟨WR3 k 3, g (4 * k.val + 3)⟩ : View.Piece (Elt F) S1x1x2048x128 .f32), (⟨WR3 k 2, g (4 * k.val + 2)⟩ : View.Piece (Elt F) S1x1x2048x128 .f32), (⟨WR3 k 1, g (4 * k.val + 1)⟩ : View.Piece (Elt F) S1x1x2048x128 .f32), (⟨WR3 k 0, g (4 * k.val + 0)⟩ : View.Piece (Elt F) S1x1x2048x128 .f32)]) y = spr3 g y := by
  refine View.read_writes_apply_of_pieces v f (spr3 g) _ ?_ y ?_
  · intro p hp x
    simp only [List.mem_cons, List.not_mem_nil, or_false] at hp
    rcases hp with rfl | rfl | rfl | rfl
    · exact (spr3_emb g k 3 x).symm
    · exact (spr3_emb g k 2 x).symm
    · exact (spr3_emb g k 1 x).symm
    · exact (spr3_emb g k 0 x).symm
  · have hy := (y 2).isLt; change (y 2).val < 2048 at hy
    have h4 : (y 2).val % 16 % 4 < 4 := by omega
    rcases (by omega : (y 2).val % 16 % 4 = 3 ∨ (y 2).val % 16 % 4 = 2 ∨ (y 2).val % 16 % 4 = 1 ∨ (y 2).val % 16 % 4 = 0) with e | e | e | e
    · exact ⟨_, .head _, WR3_mem k 3 y h e⟩
    · exact ⟨_, .tail _ (.head _), WR3_mem k 2 y h e⟩
    · exact ⟨_, .tail _ (.tail _ (.head _)), WR3_mem k 1 y h e⟩
    · exact ⟨_, .tail _ (.tail _ (.tail _ (.head _))), WR3_mem k 0 y h e⟩

/-- The other rows keep theirs. -/
theorem tile3_out (v : View sig .tc .vmem S1x1x2048x128 .f32) (f : v.ty.Contents (Elt F)) (g : ℕ → FVec F S1x1x128x128 .f32) (k : Fin k0_t3_loop.trips) (y : S1x1x2048x128.Idx) (h : ¬ (y 2).val % 16 / 4 = k.val) :
    v.read (Elt F) (v.writes (Elt F) f [(⟨WR3 k 3, g (4 * k.val + 3)⟩ : View.Piece (Elt F) S1x1x2048x128 .f32), (⟨WR3 k 2, g (4 * k.val + 2)⟩ : View.Piece (Elt F) S1x1x2048x128 .f32), (⟨WR3 k 1, g (4 * k.val + 1)⟩ : View.Piece (Elt F) S1x1x2048x128 .f32), (⟨WR3 k 0, g (4 * k.val + 0)⟩ : View.Piece (Elt F) S1x1x2048x128 .f32)]) y = v.read (Elt F) f y := by
  refine View.read_writes_apply_of_forall_not_mem v f y _ ?_
  intro p hp
  simp only [List.mem_cons, List.not_mem_nil, or_false] at hp
  rcases hp with rfl | rfl | rfl | rfl
  · exact WR3_not_mem k 3 y h
  · exact WR3_not_mem k 2 y h
  · exact WR3_not_mem k 1 y h
  · exact WR3_not_mem k 0 y h

/-- The pieces the run found for `arg11`, as functions of the rows loaded. -/
theorem trip3_11_raw (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_4 : BufTy.Contents (Elt F) arg4.view.ty) (X_7 : BufTy.Contents (Elt F) arg7.view.ty) (X_10 : BufTy.Contents (Elt F) arg10.view.ty) (X_12 : BufTy.Contents (Elt F) arg12.view.ty) (X_13 : BufTy.Contents (Elt F) arg13.view.ty) (X_14 : BufTy.Contents (Elt F) arg14.view.ty) (k : Fin k0_t3_loop.trips) (f_11 : BufTy.Contents (Elt F) arg11.view.ty) :
    (trip3 c i arg2 harg2 arg3 harg3 arg4 harg4 arg5 harg5 arg6 harg6 arg7 harg7 arg8 harg8 arg9 harg9 arg10 harg10 arg11 harg11 arg12 harg12 arg13 harg13 arg14 harg14 X_4 X_7 X_10 X_12 X_13 X_14 k f_11).1 =
      [(⟨WR3 k 3, stoO (divf (mgS (LS3 arg12.view X_12 k 3) (bM1 (LD3 arg4.view X_4 k 3) (LD3 arg7.view X_7 k 3)) (LS3 arg14.view X_14 k 3) (bA1 (LD3 arg4.view X_4 k 3) (LD3 arg7.view X_7 k 3) (LD3 arg10.view X_10 k 3))) (mgS (LS3 arg12.view X_12 k 3) (bM1 (LD3 arg4.view X_4 k 3) (LD3 arg7.view X_7 k 3)) (LS3 arg13.view X_13 k 3) (bL1 (LD3 arg4.view X_4 k 3) (LD3 arg7.view X_7 k 3))))⟩ : View.Piece (Elt F) S1x1x2048x128 .f32),
       (⟨WR3 k 2, stoO (divf (mgS (LS3 arg12.view X_12 k 2) (bM1 (LD3 arg4.view X_4 k 2) (LD3 arg7.view X_7 k 2)) (LS3 arg14.view X_14 k 2) (bA1 (LD3 arg4.view X_4 k 2) (LD3 arg7.view X_7 k 2) (LD3 arg10.view X_10 k 2))) (mgS (LS3 arg12.view X_12 k 2) (bM1 (LD3 arg4.view X_4 k 2) (LD3 arg7.view X_7 k 2)) (LS3 arg13.view X_13 k 2) (bL1 (LD3 arg4.view X_4 k 2) (LD3 arg7.view X_7 k 2))))⟩ : View.Piece (Elt F) S1x1x2048x128 .f32),
       (⟨WR3 k 1, stoO (divf (mgS (LS3 arg12.view X_12 k 1) (bM1 (LD3 arg4.view X_4 k 1) (LD3 arg7.view X_7 k 1)) (LS3 arg14.view X_14 k 1) (bA1 (LD3 arg4.view X_4 k 1) (LD3 arg7.view X_7 k 1) (LD3 arg10.view X_10 k 1))) (mgS (LS3 arg12.view X_12 k 1) (bM1 (LD3 arg4.view X_4 k 1) (LD3 arg7.view X_7 k 1)) (LS3 arg13.view X_13 k 1) (bL1 (LD3 arg4.view X_4 k 1) (LD3 arg7.view X_7 k 1))))⟩ : View.Piece (Elt F) S1x1x2048x128 .f32),
       (⟨WR3 k 0, stoO (divf (mgS (LS3 arg12.view X_12 k 0) (bM1 (LD3 arg4.view X_4 k 0) (LD3 arg7.view X_7 k 0)) (LS3 arg14.view X_14 k 0) (bA1 (LD3 arg4.view X_4 k 0) (LD3 arg7.view X_7 k 0) (LD3 arg10.view X_10 k 0))) (mgS (LS3 arg12.view X_12 k 0) (bM1 (LD3 arg4.view X_4 k 0) (LD3 arg7.view X_7 k 0)) (LS3 arg13.view X_13 k 0) (bL1 (LD3 arg4.view X_4 k 0) (LD3 arg7.view X_7 k 0))))⟩ : View.Piece (Elt F) S1x1x2048x128 .f32)] := by
  unfold trip3; rfl

theorem trip3_11 (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_4 : BufTy.Contents (Elt F) arg4.view.ty) (X_7 : BufTy.Contents (Elt F) arg7.view.ty) (X_10 : BufTy.Contents (Elt F) arg10.view.ty) (X_12 : BufTy.Contents (Elt F) arg12.view.ty) (X_13 : BufTy.Contents (Elt F) arg13.view.ty) (X_14 : BufTy.Contents (Elt F) arg14.view.ty) (k : Fin k0_t3_loop.trips) (f_11 : BufTy.Contents (Elt F) arg11.view.ty) :
    (trip3 c i arg2 harg2 arg3 harg3 arg4 harg4 arg5 harg5 arg6 harg6 arg7 harg7 arg8 harg8 arg9 harg9 arg10 harg10 arg11 harg11 arg12 harg12 arg13 harg13 arg14 harg14 X_4 X_7 X_10 X_12 X_13 X_14 k f_11).1 =
      [(⟨WR3 k 3, g3O (arg4.view.read (Elt F) X_4) (arg7.view.read (Elt F) X_7) (arg10.view.read (Elt F) X_10) (arg12.view.read (Elt F) X_12) (arg13.view.read (Elt F) X_13) (arg14.view.read (Elt F) X_14) (4 * k.val + 3)⟩ : View.Piece (Elt F) S1x1x2048x128 .f32),
       (⟨WR3 k 2, g3O (arg4.view.read (Elt F) X_4) (arg7.view.read (Elt F) X_7) (arg10.view.read (Elt F) X_10) (arg12.view.read (Elt F) X_12) (arg13.view.read (Elt F) X_13) (arg14.view.read (Elt F) X_14) (4 * k.val + 2)⟩ : View.Piece (Elt F) S1x1x2048x128 .f32),
       (⟨WR3 k 1, g3O (arg4.view.read (Elt F) X_4) (arg7.view.read (Elt F) X_7) (arg10.view.read (Elt F) X_10) (arg12.view.read (Elt F) X_12) (arg13.view.read (Elt F) X_13) (arg14.view.read (Elt F) X_14) (4 * k.val + 1)⟩ : View.Piece (Elt F) S1x1x2048x128 .f32),
       (⟨WR3 k 0, g3O (arg4.view.read (Elt F) X_4) (arg7.view.read (Elt F) X_7) (arg10.view.read (Elt F) X_10) (arg12.view.read (Elt F) X_12) (arg13.view.read (Elt F) X_13) (arg14.view.read (Elt F) X_14) (4 * k.val + 0)⟩ : View.Piece (Elt F) S1x1x2048x128 .f32)] := by
  have h0 : stoO (divf (mgS (LS3 arg12.view X_12 k 0) (bM1 (LD3 arg4.view X_4 k 0) (LD3 arg7.view X_7 k 0)) (LS3 arg14.view X_14 k 0) (bA1 (LD3 arg4.view X_4 k 0) (LD3 arg7.view X_7 k 0) (LD3 arg10.view X_10 k 0))) (mgS (LS3 arg12.view X_12 k 0) (bM1 (LD3 arg4.view X_4 k 0) (LD3 arg7.view X_7 k 0)) (LS3 arg13.view X_13 k 0) (bL1 (LD3 arg4.view X_4 k 0) (LD3 arg7.view X_7 k 0)))) = g3O (arg4.view.read (Elt F) X_4) (arg7.view.read (Elt F) X_7) (arg10.view.read (Elt F) X_10) (arg12.view.read (Elt F) X_12) (arg13.view.read (Elt F) X_13) (arg14.view.read (Elt F) X_14) (4 * k.val + 0) := by
    unfold g3O; simp only [LD3_eq, LS3_eq]; rfl
  have h1 : stoO (divf (mgS (LS3 arg12.view X_12 k 1) (bM1 (LD3 arg4.view X_4 k 1) (LD3 arg7.view X_7 k 1)) (LS3 arg14.view X_14 k 1) (bA1 (LD3 arg4.view X_4 k 1) (LD3 arg7.view X_7 k 1) (LD3 arg10.view X_10 k 1))) (mgS (LS3 arg12.view X_12 k 1) (bM1 (LD3 arg4.view X_4 k 1) (LD3 arg7.view X_7 k 1)) (LS3 arg13.view X_13 k 1) (bL1 (LD3 arg4.view X_4 k 1) (LD3 arg7.view X_7 k 1)))) = g3O (arg4.view.read (Elt F) X_4) (arg7.view.read (Elt F) X_7) (arg10.view.read (Elt F) X_10) (arg12.view.read (Elt F) X_12) (arg13.view.read (Elt F) X_13) (arg14.view.read (Elt F) X_14) (4 * k.val + 1) := by
    unfold g3O; simp only [LD3_eq, LS3_eq]; rfl
  have h2 : stoO (divf (mgS (LS3 arg12.view X_12 k 2) (bM1 (LD3 arg4.view X_4 k 2) (LD3 arg7.view X_7 k 2)) (LS3 arg14.view X_14 k 2) (bA1 (LD3 arg4.view X_4 k 2) (LD3 arg7.view X_7 k 2) (LD3 arg10.view X_10 k 2))) (mgS (LS3 arg12.view X_12 k 2) (bM1 (LD3 arg4.view X_4 k 2) (LD3 arg7.view X_7 k 2)) (LS3 arg13.view X_13 k 2) (bL1 (LD3 arg4.view X_4 k 2) (LD3 arg7.view X_7 k 2)))) = g3O (arg4.view.read (Elt F) X_4) (arg7.view.read (Elt F) X_7) (arg10.view.read (Elt F) X_10) (arg12.view.read (Elt F) X_12) (arg13.view.read (Elt F) X_13) (arg14.view.read (Elt F) X_14) (4 * k.val + 2) := by
    unfold g3O; simp only [LD3_eq, LS3_eq]; rfl
  have h3 : stoO (divf (mgS (LS3 arg12.view X_12 k 3) (bM1 (LD3 arg4.view X_4 k 3) (LD3 arg7.view X_7 k 3)) (LS3 arg14.view X_14 k 3) (bA1 (LD3 arg4.view X_4 k 3) (LD3 arg7.view X_7 k 3) (LD3 arg10.view X_10 k 3))) (mgS (LS3 arg12.view X_12 k 3) (bM1 (LD3 arg4.view X_4 k 3) (LD3 arg7.view X_7 k 3)) (LS3 arg13.view X_13 k 3) (bL1 (LD3 arg4.view X_4 k 3) (LD3 arg7.view X_7 k 3)))) = g3O (arg4.view.read (Elt F) X_4) (arg7.view.read (Elt F) X_7) (arg10.view.read (Elt F) X_10) (arg12.view.read (Elt F) X_12) (arg13.view.read (Elt F) X_13) (arg14.view.read (Elt F) X_14) (4 * k.val + 3) := by
    unfold g3O; simp only [LD3_eq, LS3_eq]; rfl
  rw [trip3_11_raw, h0, h1, h2, h3]

end Cert.Proof.KI
-- ==== Proof.KI.States.lean ====
module

public import proofs.«01_k».proof.Proof.KI.Pieces1
public import proofs.«01_k».proof.Proof.KI.Pieces2
public import proofs.«01_k».proof.Proof.KI.Pieces3

@[expose] public section

set_option maxRecDepth 16384

noncomputable section

namespace Cert.Proof.KI

open Cert.KernelIdeal Cert.KernelIdeal.Facts₀ Cert.KernelIdeal.Facts
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the run. -/
local notation "𝕄G" => MT nD τ sig Unit (Elt F) ℕ (UR sig nD τ) ℕ

/-- What trip `k` of loop 2 makes of what the trips before left. -/
@[irreducible] def st2Step (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_3 : BufTy.Contents (Elt F) arg3.view.ty) (X_6 : BufTy.Contents (Elt F) arg6.view.ty) (X_9 : BufTy.Contents (Elt F) arg9.view.ty) (k : ℕ) (prev : BufTy.Contents (Elt F) arg12.view.ty × BufTy.Contents (Elt F) arg13.view.ty × BufTy.Contents (Elt F) arg14.view.ty) : BufTy.Contents (Elt F) arg12.view.ty × BufTy.Contents (Elt F) arg13.view.ty × BufTy.Contents (Elt F) arg14.view.ty :=
  if h : k < k0_t2_loop.trips then
    (arg12.view.writes (Elt F) prev.1 (trip2 c i arg2 harg2 arg3 harg3 arg4 harg4 arg5 harg5 arg6 harg6 arg7 harg7 arg8 harg8 arg9 harg9 arg10 harg10 arg11 harg11 arg12 harg12 arg13 harg13 arg14 harg14 X_3 X_6 X_9 ⟨k, h⟩ prev.1 prev.2.1 prev.2.2).1, arg13.view.writes (Elt F) prev.2.1 (trip2 c i arg2 harg2 arg3 harg3 arg4 harg4 arg5 harg5 arg6 harg6 arg7 harg7 arg8 harg8 arg9 harg9 arg10 harg10 arg11 harg11 arg12 harg12 arg13 harg13 arg14 harg14 X_3 X_6 X_9 ⟨k, h⟩ prev.1 prev.2.1 prev.2.2).2.1, arg14.view.writes (Elt F) prev.2.2 (trip2 c i arg2 harg2 arg3 harg3 arg4 harg4 arg5 harg5 arg6 harg6 arg7 harg7 arg8 harg8 arg9 harg9 arg10 harg10 arg11 harg11 arg12 harg12 arg13 harg13 arg14 harg14 X_3 X_6 X_9 ⟨k, h⟩ prev.1 prev.2.1 prev.2.2).2.2.1)
  else prev

/-- What the trips before `k` leave. -/
def st2 (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_3 : BufTy.Contents (Elt F) arg3.view.ty) (X_6 : BufTy.Contents (Elt F) arg6.view.ty) (X_9 : BufTy.Contents (Elt F) arg9.view.ty) (G_12 : BufTy.Contents (Elt F) arg12.view.ty) (G_13 : BufTy.Contents (Elt F) arg13.view.ty) (G_14 : BufTy.Contents (Elt F) arg14.view.ty) : ℕ → BufTy.Contents (Elt F) arg12.view.ty × BufTy.Contents (Elt F) arg13.view.ty × BufTy.Contents (Elt F) arg14.view.ty
  | 0 => (G_12, G_13, G_14)
  | k + 1 => st2Step c i arg2 harg2 arg3 harg3 arg4 harg4 arg5 harg5 arg6 harg6 arg7 harg7 arg8 harg8 arg9 harg9 arg10 harg10 arg11 harg11 arg12 harg12 arg13 harg13 arg14 harg14 X_3 X_6 X_9 k (st2 c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 k)

theorem st2_succ (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_3 : BufTy.Contents (Elt F) arg3.view.ty) (X_6 : BufTy.Contents (Elt F) arg6.view.ty) (X_9 : BufTy.Contents (Elt F) arg9.view.ty) (G_12 : BufTy.Contents (Elt F) arg12.view.ty) (G_13 : BufTy.Contents (Elt F) arg13.view.ty) (G_14 : BufTy.Contents (Elt F) arg14.view.ty) (k : Fin k0_t2_loop.trips) :
    st2 c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 (k.val + 1) =
      (fun prev => (arg12.view.writes (Elt F) prev.1 (trip2 c i arg2 harg2 arg3 harg3 arg4 harg4 arg5 harg5 arg6 harg6 arg7 harg7 arg8 harg8 arg9 harg9 arg10 harg10 arg11 harg11 arg12 harg12 arg13 harg13 arg14 harg14 X_3 X_6 X_9 k prev.1 prev.2.1 prev.2.2).1, arg13.view.writes (Elt F) prev.2.1 (trip2 c i arg2 harg2 arg3 harg3 arg4 harg4 arg5 harg5 arg6 harg6 arg7 harg7 arg8 harg8 arg9 harg9 arg10 harg10 arg11 harg11 arg12 harg12 arg13 harg13 arg14 harg14 X_3 X_6 X_9 k prev.1 prev.2.1 prev.2.2).2.1, arg14.view.writes (Elt F) prev.2.2 (trip2 c i arg2 harg2 arg3 harg3 arg4 harg4 arg5 harg5 arg6 harg6 arg7 harg7 arg8 harg8 arg9 harg9 arg10 harg10 arg11 harg11 arg12 harg12 arg13 harg13 arg14 harg14 X_3 X_6 X_9 k prev.1 prev.2.1 prev.2.2).2.2.1)) (st2 c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 k.val) := by
  rw [st2.eq_2]; unfold st2Step; exact dif_pos k.isLt

/-- Before trip `k` of loop 2. -/
abbrev inv2 (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_3 : BufTy.Contents (Elt F) arg3.view.ty) (X_6 : BufTy.Contents (Elt F) arg6.view.ty) (X_9 : BufTy.Contents (Elt F) arg9.view.ty) (G_12 : BufTy.Contents (Elt F) arg12.view.ty) (G_13 : BufTy.Contents (Elt F) arg13.view.ty) (G_14 : BufTy.Contents (Elt F) arg14.view.ty) (k : ℕ) (_u : PUnit) : sProp 𝕄G :=
  iprop((arg3.view.loc (c : Thread nD τ) ↦[arg3.view.set]{fullShare} X_3) ∗ (arg6.view.loc (c : Thread nD τ) ↦[arg6.view.set]{fullShare} X_6) ∗ (arg9.view.loc (c : Thread nD τ) ↦[arg9.view.set]{fullShare} X_9) ∗ (∃ f, (arg12.view.loc (c : Thread nD τ) ↦[arg12.view.set]{fullShare} f) ∗ ⌜f = (st2 c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 k).1⌝) ∗ (∃ f, (arg13.view.loc (c : Thread nD τ) ↦[arg13.view.set]{fullShare} f) ∗ ⌜f = (st2 c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 k).2.1⌝) ∗ (∃ f, (arg14.view.loc (c : Thread nD τ) ↦[arg14.view.set]{fullShare} f) ∗ ⌜f = (st2 c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 k).2.2⌝))

set_option warn.classDefReducibility false in
/-- Loop 2 by its invariant. -/
@[sl_loop] def loopInv2 (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_3 : BufTy.Contents (Elt F) arg3.view.ty) (X_6 : BufTy.Contents (Elt F) arg6.view.ty) (X_9 : BufTy.Contents (Elt F) arg9.view.ty) (G_12 : BufTy.Contents (Elt F) arg12.view.ty) (G_13 : BufTy.Contents (Elt F) arg13.view.ty) (G_14 : BufTy.Contents (Elt F) arg14.view.ty) :
    Gen.LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 where
  inv := inv2 c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14
  step k acc := by
    iintro ⟨HR3, HR6, HR9, ⟨%f12, HW12, %h12⟩, ⟨%f13, HW13, %h13⟩, ⟨%f14, HW14, %h14⟩⟩
    iapply (wp_wand_r Idealize.ShloMosaic.frame (wpE (defs₀ (F := F)) Variants.none (c : Thread nD τ) none) Set.univ)
    isplitl [HR3 HR6 HR9 HW12 HW13 HW14]
    · iapply (trip2 c i arg2 harg2 arg3 harg3 arg4 harg4 arg5 harg5 arg6 harg6 arg7 harg7 arg8 harg8 arg9 harg9 arg10 harg10 arg11 harg11 arg12 harg12 arg13 harg13 arg14 harg14 X_3 X_6 X_9 k f12 f13 f14).2.2.2
      isplitl [HR3]; · iexact HR3
      isplitl [HR6]; · iexact HR6
      isplitl [HR9]; · iexact HR9
      isplitl [HW12]; · iexact HW12
      isplitl [HW13]; · iexact HW13
      iexact HW14
    · iintro %_ ⟨HR3, HR6, HR9, HW12, HW13, HW14⟩
      isplitl [HR3]; · iexact HR3
      isplitl [HR6]; · iexact HR6
      isplitl [HR9]; · iexact HR9
      subst h12 h13 h14
      rw [st2_succ]
      isplitl [HW12]
      · iexists _; isplitl [HW12]; · iexact HW12
        ipureintro; rfl
      isplitl [HW13]
      · iexists _; isplitl [HW13]; · iexact HW13
        ipureintro; rfl
      iexists _; isplitl [HW14]; · iexact HW14
      ipureintro; rfl

/-- What trip `k` of loop 3 makes of what the trips before left. -/
@[irreducible] def st3Step (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_4 : BufTy.Contents (Elt F) arg4.view.ty) (X_7 : BufTy.Contents (Elt F) arg7.view.ty) (X_10 : BufTy.Contents (Elt F) arg10.view.ty) (X_12 : BufTy.Contents (Elt F) arg12.view.ty) (X_13 : BufTy.Contents (Elt F) arg13.view.ty) (X_14 : BufTy.Contents (Elt F) arg14.view.ty) (k : ℕ) (prev : BufTy.Contents (Elt F) arg11.view.ty) : BufTy.Contents (Elt F) arg11.view.ty :=
  if h : k < k0_t3_loop.trips then
    (arg11.view.writes (Elt F) prev (trip3 c i arg2 harg2 arg3 harg3 arg4 harg4 arg5 harg5 arg6 harg6 arg7 harg7 arg8 harg8 arg9 harg9 arg10 harg10 arg11 harg11 arg12 harg12 arg13 harg13 arg14 harg14 X_4 X_7 X_10 X_12 X_13 X_14 ⟨k, h⟩ prev).1)
  else prev

/-- What the trips before `k` leave. -/
def st3 (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_4 : BufTy.Contents (Elt F) arg4.view.ty) (X_7 : BufTy.Contents (Elt F) arg7.view.ty) (X_10 : BufTy.Contents (Elt F) arg10.view.ty) (X_12 : BufTy.Contents (Elt F) arg12.view.ty) (X_13 : BufTy.Contents (Elt F) arg13.view.ty) (X_14 : BufTy.Contents (Elt F) arg14.view.ty) (G_11 : BufTy.Contents (Elt F) arg11.view.ty) : ℕ → BufTy.Contents (Elt F) arg11.view.ty
  | 0 => (G_11)
  | k + 1 => st3Step c i arg2 harg2 arg3 harg3 arg4 harg4 arg5 harg5 arg6 harg6 arg7 harg7 arg8 harg8 arg9 harg9 arg10 harg10 arg11 harg11 arg12 harg12 arg13 harg13 arg14 harg14 X_4 X_7 X_10 X_12 X_13 X_14 k (st3 c i arg2 harg2 arg3 harg3 arg4 harg4 arg5 harg5 arg6 harg6 arg7 harg7 arg8 harg8 arg9 harg9 arg10 harg10 arg11 harg11 arg12 harg12 arg13 harg13 arg14 harg14 X_4 X_7 X_10 X_12 X_13 X_14 G_11 k)

theorem st3_succ (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_4 : BufTy.Contents (Elt F) arg4.view.ty) (X_7 : BufTy.Contents (Elt F) arg7.view.ty) (X_10 : BufTy.Contents (Elt F) arg10.view.ty) (X_12 : BufTy.Contents (Elt F) arg12.view.ty) (X_13 : BufTy.Contents (Elt F) arg13.view.ty) (X_14 : BufTy.Contents (Elt F) arg14.view.ty) (G_11 : BufTy.Contents (Elt F) arg11.view.ty) (k : Fin k0_t3_loop.trips) :
    st3 c i arg2 harg2 arg3 harg3 arg4 harg4 arg5 harg5 arg6 harg6 arg7 harg7 arg8 harg8 arg9 harg9 arg10 harg10 arg11 harg11 arg12 harg12 arg13 harg13 arg14 harg14 X_4 X_7 X_10 X_12 X_13 X_14 G_11 (k.val + 1) =
      (fun prev => (arg11.view.writes (Elt F) prev (trip3 c i arg2 harg2 arg3 harg3 arg4 harg4 arg5 harg5 arg6 harg6 arg7 harg7 arg8 harg8 arg9 harg9 arg10 harg10 arg11 harg11 arg12 harg12 arg13 harg13 arg14 harg14 X_4 X_7 X_10 X_12 X_13 X_14 k prev).1)) (st3 c i arg2 harg2 arg3 harg3 arg4 harg4 arg5 harg5 arg6 harg6 arg7 harg7 arg8 harg8 arg9 harg9 arg10 harg10 arg11 harg11 arg12 harg12 arg13 harg13 arg14 harg14 X_4 X_7 X_10 X_12 X_13 X_14 G_11 k.val) := by
  rw [st3.eq_2]; unfold st3Step; exact dif_pos k.isLt

/-- Before trip `k` of loop 3. -/
abbrev inv3 (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_4 : BufTy.Contents (Elt F) arg4.view.ty) (X_7 : BufTy.Contents (Elt F) arg7.view.ty) (X_10 : BufTy.Contents (Elt F) arg10.view.ty) (X_12 : BufTy.Contents (Elt F) arg12.view.ty) (X_13 : BufTy.Contents (Elt F) arg13.view.ty) (X_14 : BufTy.Contents (Elt F) arg14.view.ty) (G_11 : BufTy.Contents (Elt F) arg11.view.ty) (k : ℕ) (_u : PUnit) : sProp 𝕄G :=
  iprop((arg4.view.loc (c : Thread nD τ) ↦[arg4.view.set]{fullShare} X_4) ∗ (arg7.view.loc (c : Thread nD τ) ↦[arg7.view.set]{fullShare} X_7) ∗ (arg10.view.loc (c : Thread nD τ) ↦[arg10.view.set]{fullShare} X_10) ∗ (arg12.view.loc (c : Thread nD τ) ↦[arg12.view.set]{fullShare} X_12) ∗ (arg13.view.loc (c : Thread nD τ) ↦[arg13.view.set]{fullShare} X_13) ∗ (arg14.view.loc (c : Thread nD τ) ↦[arg14.view.set]{fullShare} X_14) ∗ (∃ f, (arg11.view.loc (c : Thread nD τ) ↦[arg11.view.set]{fullShare} f) ∗ ⌜f = (st3 c i arg2 harg2 arg3 harg3 arg4 harg4 arg5 harg5 arg6 harg6 arg7 harg7 arg8 harg8 arg9 harg9 arg10 harg10 arg11 harg11 arg12 harg12 arg13 harg13 arg14 harg14 X_4 X_7 X_10 X_12 X_13 X_14 G_11 k)⌝))

set_option warn.classDefReducibility false in
/-- Loop 3 by its invariant. -/
@[sl_loop] def loopInv3 (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_4 : BufTy.Contents (Elt F) arg4.view.ty) (X_7 : BufTy.Contents (Elt F) arg7.view.ty) (X_10 : BufTy.Contents (Elt F) arg10.view.ty) (X_12 : BufTy.Contents (Elt F) arg12.view.ty) (X_13 : BufTy.Contents (Elt F) arg13.view.ty) (X_14 : BufTy.Contents (Elt F) arg14.view.ty) (G_11 : BufTy.Contents (Elt F) arg11.view.ty) :
    Gen.LoopInvTy_k0_t3 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 where
  inv := inv3 c i arg2 harg2 arg3 harg3 arg4 harg4 arg5 harg5 arg6 harg6 arg7 harg7 arg8 harg8 arg9 harg9 arg10 harg10 arg11 harg11 arg12 harg12 arg13 harg13 arg14 harg14 X_4 X_7 X_10 X_12 X_13 X_14 G_11
  step k acc := by
    iintro ⟨HR4, HR7, HR10, HR12, HR13, HR14, ⟨%f11, HW11, %h11⟩⟩
    iapply (wp_wand_r Idealize.ShloMosaic.frame (wpE (defs₀ (F := F)) Variants.none (c : Thread nD τ) none) Set.univ)
    isplitl [HR4 HR7 HR10 HR12 HR13 HR14 HW11]
    · iapply (trip3 c i arg2 harg2 arg3 harg3 arg4 harg4 arg5 harg5 arg6 harg6 arg7 harg7 arg8 harg8 arg9 harg9 arg10 harg10 arg11 harg11 arg12 harg12 arg13 harg13 arg14 harg14 X_4 X_7 X_10 X_12 X_13 X_14 k f11).2
      isplitl [HR4]; · iexact HR4
      isplitl [HR7]; · iexact HR7
      isplitl [HR10]; · iexact HR10
      isplitl [HR12]; · iexact HR12
      isplitl [HR13]; · iexact HR13
      isplitl [HR14]; · iexact HR14
      iexact HW11
    · iintro %_ ⟨HR4, HR7, HR10, HR12, HR13, HR14, HW11⟩
      isplitl [HR4]; · iexact HR4
      isplitl [HR7]; · iexact HR7
      isplitl [HR10]; · iexact HR10
      isplitl [HR12]; · iexact HR12
      isplitl [HR13]; · iexact HR13
      isplitl [HR14]; · iexact HR14
      subst h11
      rw [st3_succ]
      iexists _; isplitl [HW11]; · iexact HW11
      ipureintro; rfl

/-- Loop 1 leaves `arg12` holding group 0's values, whatever it held. -/
theorem pb1_12_aux (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_2 : BufTy.Contents (Elt F) arg2.view.ty) (X_5 : BufTy.Contents (Elt F) arg5.view.ty) (X_8 : BufTy.Contents (Elt F) arg8.view.ty) (G_12 : BufTy.Contents (Elt F) arg12.view.ty) (n : ℕ) (hn : n ≤ 4) (y : S2048x128.Idx) (h : (y 0).val / 512 < n) :
    arg12.view.read (Elt F) (arg12.view.writes (Elt F) G_12 (Gen.pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 X_2 X_5 X_8 n).1) y
      = spr1 (g1M (arg2.view.read (Elt F) X_2) (arg5.view.read (Elt F) X_5)) y := by
  induction n with
  | zero => exact absurd h (by omega)
  | succ k ih =>
    have hk : k < k0_t1_loop.trips := lt_of_lt_of_eq (by omega) trips_1.symm
    have e := Gen.pb_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 X_2 X_5 X_8 ⟨k, hk⟩
    dsimp only at e
    rw [e]
    dsimp only [Gen.tripL_k0_t1]
    rw [View.writes_append, trip1_12 c i arg2 harg2 arg3 harg3 arg4 harg4 arg5 harg5 arg6 harg6 arg7 harg7 arg8 harg8 arg9 harg9 arg10 harg10 arg11 harg11 arg12 harg12 arg13 harg13 arg14 harg14 X_2 X_5 X_8 ⟨k, hk⟩]
    by_cases hy : (y 0).val / 512 = k
    · exact tile1_in arg12.view _ (g1M (arg2.view.read (Elt F) X_2) (arg5.view.read (Elt F) X_5)) ⟨k, hk⟩ y hy
    · rw [tile1_out arg12.view _ (g1M (arg2.view.read (Elt F) X_2) (arg5.view.read (Elt F) X_5)) ⟨k, hk⟩ y hy]
      exact ih (by omega) (by omega)

theorem pb1_12 (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_2 : BufTy.Contents (Elt F) arg2.view.ty) (X_5 : BufTy.Contents (Elt F) arg5.view.ty) (X_8 : BufTy.Contents (Elt F) arg8.view.ty) (G_12 : BufTy.Contents (Elt F) arg12.view.ty) :
    arg12.view.read (Elt F) (arg12.view.writes (Elt F) G_12 (Gen.pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 X_2 X_5 X_8 k0_t1_loop.trips).1)
      = spr1 (g1M (arg2.view.read (Elt F) X_2) (arg5.view.read (Elt F) X_5)) := by
  funext y
  have hy := (y 0).isLt; change (y 0).val < 2048 at hy
  rw [trips_1]
  exact pb1_12_aux c i arg2 harg2 arg3 harg3 arg4 harg4 arg5 harg5 arg6 harg6 arg7 harg7 arg8 harg8 arg9 harg9 arg10 harg10 arg11 harg11 arg12 harg12 arg13 harg13 arg14 harg14 X_2 X_5 X_8 G_12 4 (le_refl _) y (by omega)

/-- Loop 1 leaves `arg13` holding group 0's values, whatever it held. -/
theorem pb1_13_aux (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_2 : BufTy.Contents (Elt F) arg2.view.ty) (X_5 : BufTy.Contents (Elt F) arg5.view.ty) (X_8 : BufTy.Contents (Elt F) arg8.view.ty) (G_13 : BufTy.Contents (Elt F) arg13.view.ty) (n : ℕ) (hn : n ≤ 4) (y : S2048x128.Idx) (h : (y 0).val / 512 < n) :
    arg13.view.read (Elt F) (arg13.view.writes (Elt F) G_13 (Gen.pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 X_2 X_5 X_8 n).2.1) y
      = spr1 (g1L (arg2.view.read (Elt F) X_2) (arg5.view.read (Elt F) X_5)) y := by
  induction n with
  | zero => exact absurd h (by omega)
  | succ k ih =>
    have hk : k < k0_t1_loop.trips := lt_of_lt_of_eq (by omega) trips_1.symm
    have e := Gen.pb_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 X_2 X_5 X_8 ⟨k, hk⟩
    dsimp only at e
    rw [e]
    dsimp only [Gen.tripL_k0_t1]
    rw [View.writes_append, trip1_13 c i arg2 harg2 arg3 harg3 arg4 harg4 arg5 harg5 arg6 harg6 arg7 harg7 arg8 harg8 arg9 harg9 arg10 harg10 arg11 harg11 arg12 harg12 arg13 harg13 arg14 harg14 X_2 X_5 X_8 ⟨k, hk⟩]
    by_cases hy : (y 0).val / 512 = k
    · exact tile1_in arg13.view _ (g1L (arg2.view.read (Elt F) X_2) (arg5.view.read (Elt F) X_5)) ⟨k, hk⟩ y hy
    · rw [tile1_out arg13.view _ (g1L (arg2.view.read (Elt F) X_2) (arg5.view.read (Elt F) X_5)) ⟨k, hk⟩ y hy]
      exact ih (by omega) (by omega)

theorem pb1_13 (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_2 : BufTy.Contents (Elt F) arg2.view.ty) (X_5 : BufTy.Contents (Elt F) arg5.view.ty) (X_8 : BufTy.Contents (Elt F) arg8.view.ty) (G_13 : BufTy.Contents (Elt F) arg13.view.ty) :
    arg13.view.read (Elt F) (arg13.view.writes (Elt F) G_13 (Gen.pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 X_2 X_5 X_8 k0_t1_loop.trips).2.1)
      = spr1 (g1L (arg2.view.read (Elt F) X_2) (arg5.view.read (Elt F) X_5)) := by
  funext y
  have hy := (y 0).isLt; change (y 0).val < 2048 at hy
  rw [trips_1]
  exact pb1_13_aux c i arg2 harg2 arg3 harg3 arg4 harg4 arg5 harg5 arg6 harg6 arg7 harg7 arg8 harg8 arg9 harg9 arg10 harg10 arg11 harg11 arg12 harg12 arg13 harg13 arg14 harg14 X_2 X_5 X_8 G_13 4 (le_refl _) y (by omega)

/-- Loop 1 leaves `arg14` holding group 0's values, whatever it held. -/
theorem pb1_14_aux (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_2 : BufTy.Contents (Elt F) arg2.view.ty) (X_5 : BufTy.Contents (Elt F) arg5.view.ty) (X_8 : BufTy.Contents (Elt F) arg8.view.ty) (G_14 : BufTy.Contents (Elt F) arg14.view.ty) (n : ℕ) (hn : n ≤ 4) (y : S2048x128.Idx) (h : (y 0).val / 512 < n) :
    arg14.view.read (Elt F) (arg14.view.writes (Elt F) G_14 (Gen.pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 X_2 X_5 X_8 n).2.2) y
      = spr1 (g1A (arg2.view.read (Elt F) X_2) (arg5.view.read (Elt F) X_5) (arg8.view.read (Elt F) X_8)) y := by
  induction n with
  | zero => exact absurd h (by omega)
  | succ k ih =>
    have hk : k < k0_t1_loop.trips := lt_of_lt_of_eq (by omega) trips_1.symm
    have e := Gen.pb_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 X_2 X_5 X_8 ⟨k, hk⟩
    dsimp only at e
    rw [e]
    dsimp only [Gen.tripL_k0_t1]
    rw [View.writes_append, trip1_14 c i arg2 harg2 arg3 harg3 arg4 harg4 arg5 harg5 arg6 harg6 arg7 harg7 arg8 harg8 arg9 harg9 arg10 harg10 arg11 harg11 arg12 harg12 arg13 harg13 arg14 harg14 X_2 X_5 X_8 ⟨k, hk⟩]
    by_cases hy : (y 0).val / 512 = k
    · exact tile1_in arg14.view _ (g1A (arg2.view.read (Elt F) X_2) (arg5.view.read (Elt F) X_5) (arg8.view.read (Elt F) X_8)) ⟨k, hk⟩ y hy
    · rw [tile1_out arg14.view _ (g1A (arg2.view.read (Elt F) X_2) (arg5.view.read (Elt F) X_5) (arg8.view.read (Elt F) X_8)) ⟨k, hk⟩ y hy]
      exact ih (by omega) (by omega)

theorem pb1_14 (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_2 : BufTy.Contents (Elt F) arg2.view.ty) (X_5 : BufTy.Contents (Elt F) arg5.view.ty) (X_8 : BufTy.Contents (Elt F) arg8.view.ty) (G_14 : BufTy.Contents (Elt F) arg14.view.ty) :
    arg14.view.read (Elt F) (arg14.view.writes (Elt F) G_14 (Gen.pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 X_2 X_5 X_8 k0_t1_loop.trips).2.2)
      = spr1 (g1A (arg2.view.read (Elt F) X_2) (arg5.view.read (Elt F) X_5) (arg8.view.read (Elt F) X_8)) := by
  funext y
  have hy := (y 0).isLt; change (y 0).val < 2048 at hy
  rw [trips_1]
  exact pb1_14_aux c i arg2 harg2 arg3 harg3 arg4 harg4 arg5 harg5 arg6 harg6 arg7 harg7 arg8 harg8 arg9 harg9 arg10 harg10 arg11 harg11 arg12 harg12 arg13 harg13 arg14 harg14 X_2 X_5 X_8 G_14 4 (le_refl _) y (by omega)

theorem rows2_congr (A B : A2 F) (o d : ℕ) (h : ∀ x : ℕ, x < 128 → ∀ l, A (at2 (o + d * x) l) = B (at2 (o + d * x) l)) :
    rows2 A o d = rows2 B o d := by
  funext x
  exact h (x 0).val (x 0).isLt (x 1)

/-- Before trip `n` of loop 2, the classes below `n` hold the merged values and the others what group 0 left. -/
theorem st2_aux (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_3 : BufTy.Contents (Elt F) arg3.view.ty) (X_6 : BufTy.Contents (Elt F) arg6.view.ty) (X_9 : BufTy.Contents (Elt F) arg9.view.ty) (G_12 : BufTy.Contents (Elt F) arg12.view.ty) (G_13 : BufTy.Contents (Elt F) arg13.view.ty) (G_14 : BufTy.Contents (Elt F) arg14.view.ty) (n : ℕ) (hn : n ≤ 4) : ∀ y : S2048x128.Idx,
      arg12.view.read (Elt F) (st2 c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 n).1 y = (if (y 0).val % 4 < n then spr2 (g2M (arg3.view.read (Elt F) X_3) (arg6.view.read (Elt F) X_6) (arg12.view.read (Elt F) G_12)) y else arg12.view.read (Elt F) G_12 y) ∧
      arg13.view.read (Elt F) (st2 c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 n).2.1 y = (if (y 0).val % 4 < n then spr2 (g2L (arg3.view.read (Elt F) X_3) (arg6.view.read (Elt F) X_6) (arg12.view.read (Elt F) G_12) (arg13.view.read (Elt F) G_13)) y else arg13.view.read (Elt F) G_13 y) ∧
      arg14.view.read (Elt F) (st2 c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 n).2.2 y = (if (y 0).val % 4 < n then spr2 (g2A (arg3.view.read (Elt F) X_3) (arg6.view.read (Elt F) X_6) (arg9.view.read (Elt F) X_9) (arg12.view.read (Elt F) G_12) (arg14.view.read (Elt F) G_14)) y else arg14.view.read (Elt F) G_14 y) := by
  induction n with
  | zero => intro y; exact ⟨(if_neg (by omega)).symm, (if_neg (by omega)).symm, (if_neg (by omega)).symm⟩
  | succ k ih =>
    have hk : k < k0_t2_loop.trips := lt_of_lt_of_eq (by omega) trips_2.symm
    have ih := ih (by omega)
    have e := st2_succ c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 ⟨k, hk⟩
    dsimp only at e
    have hrow : ∀ (nb x : ℕ), x < 128 → nb < 4 → ∀ l, (at2 (k + 512 * nb + 4 * x) l 0).val % 4 = k := by
      intro nb x hx hnb l; show (k + 512 * nb + 4 * x) % 2048 % 4 = k; omega
    have r12 : ∀ nb, nb < 4 → rows2 (arg12.view.read (Elt F) (st2 c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 k).1) (k + 512 * nb) 4 = rows2 (arg12.view.read (Elt F) G_12) (k + 512 * nb) 4 := fun nb hnb =>
      rows2_congr _ _ _ _ fun x hx l => (ih _).1.trans (if_neg (by rw [hrow nb x hx hnb l]; omega))
    have r13 : ∀ nb, nb < 4 → rows2 (arg13.view.read (Elt F) (st2 c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 k).2.1) (k + 512 * nb) 4 = rows2 (arg13.view.read (Elt F) G_13) (k + 512 * nb) 4 := fun nb hnb =>
      rows2_congr _ _ _ _ fun x hx l => (ih _).2.1.trans (if_neg (by rw [hrow nb x hx hnb l]; omega))
    have r14 : ∀ nb, nb < 4 → rows2 (arg14.view.read (Elt F) (st2 c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 k).2.2) (k + 512 * nb) 4 = rows2 (arg14.view.read (Elt F) G_14) (k + 512 * nb) 4 := fun nb hnb =>
      rows2_congr _ _ _ _ fun x hx l => (ih _).2.2.trans (if_neg (by rw [hrow nb x hx hnb l]; omega))
    have g12 : ∀ nb, nb < 4 → g2M (arg3.view.read (Elt F) X_3) (arg6.view.read (Elt F) X_6) (arg12.view.read (Elt F) (st2 c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 k).1) k nb = g2M (arg3.view.read (Elt F) X_3) (arg6.view.read (Elt F) X_6) (arg12.view.read (Elt F) G_12) k nb := fun nb hnb => by
      unfold g2M; rw [r12 nb hnb]
    have g13 : ∀ nb, nb < 4 → g2L (arg3.view.read (Elt F) X_3) (arg6.view.read (Elt F) X_6) (arg12.view.read (Elt F) (st2 c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 k).1) (arg13.view.read (Elt F) (st2 c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 k).2.1) k nb = g2L (arg3.view.read (Elt F) X_3) (arg6.view.read (Elt F) X_6) (arg12.view.read (Elt F) G_12) (arg13.view.read (Elt F) G_13) k nb := fun nb hnb => by
      unfold g2L; rw [r12 nb hnb, r13 nb hnb]
    have g14 : ∀ nb, nb < 4 → g2A (arg3.view.read (Elt F) X_3) (arg6.view.read (Elt F) X_6) (arg9.view.read (Elt F) X_9) (arg12.view.read (Elt F) (st2 c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 k).1) (arg14.view.read (Elt F) (st2 c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 k).2.2) k nb = g2A (arg3.view.read (Elt F) X_3) (arg6.view.read (Elt F) X_6) (arg9.view.read (Elt F) X_9) (arg12.view.read (Elt F) G_12) (arg14.view.read (Elt F) G_14) k nb := fun nb hnb => by
      unfold g2A; rw [r12 nb hnb, r14 nb hnb]
    intro y
    rw [e]
    dsimp only
    refine ⟨?_, ?_, ?_⟩
    · rw [trip2_12 c i arg2 harg2 arg3 harg3 arg4 harg4 arg5 harg5 arg6 harg6 arg7 harg7 arg8 harg8 arg9 harg9 arg10 harg10 arg11 harg11 arg12 harg12 arg13 harg13 arg14 harg14 X_3 X_6 X_9 ⟨k, hk⟩ (st2 c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 k).1 (st2 c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 k).2.1 (st2 c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 k).2.2]
      dsimp only
      rw [g12 0 (by omega), g12 1 (by omega), g12 2 (by omega), g12 3 (by omega)]
      by_cases hy : (y 0).val % 4 = k
      · exact (tile2_in arg12.view _ (g2M (arg3.view.read (Elt F) X_3) (arg6.view.read (Elt F) X_6) (arg12.view.read (Elt F) G_12)) ⟨k, hk⟩ y hy).trans (if_pos (by omega)).symm
      · refine (tile2_out arg12.view _ (g2M (arg3.view.read (Elt F) X_3) (arg6.view.read (Elt F) X_6) (arg12.view.read (Elt F) G_12)) ⟨k, hk⟩ y hy).trans ?_
        rw [(ih y).1]
        by_cases hl : (y 0).val % 4 < k
        · rw [if_pos hl, if_pos (by omega)]
        · rw [if_neg hl, if_neg (by omega)]
    · rw [trip2_13 c i arg2 harg2 arg3 harg3 arg4 harg4 arg5 harg5 arg6 harg6 arg7 harg7 arg8 harg8 arg9 harg9 arg10 harg10 arg11 harg11 arg12 harg12 arg13 harg13 arg14 harg14 X_3 X_6 X_9 ⟨k, hk⟩ (st2 c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 k).1 (st2 c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 k).2.1 (st2 c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 k).2.2]
      dsimp only
      rw [g13 0 (by omega), g13 1 (by omega), g13 2 (by omega), g13 3 (by omega)]
      by_cases hy : (y 0).val % 4 = k
      · exact (tile2_in arg13.view _ (g2L (arg3.view.read (Elt F) X_3) (arg6.view.read (Elt F) X_6) (arg12.view.read (Elt F) G_12) (arg13.view.read (Elt F) G_13)) ⟨k, hk⟩ y hy).trans (if_pos (by omega)).symm
      · refine (tile2_out arg13.view _ (g2L (arg3.view.read (Elt F) X_3) (arg6.view.read (Elt F) X_6) (arg12.view.read (Elt F) G_12) (arg13.view.read (Elt F) G_13)) ⟨k, hk⟩ y hy).trans ?_
        rw [(ih y).2.1]
        by_cases hl : (y 0).val % 4 < k
        · rw [if_pos hl, if_pos (by omega)]
        · rw [if_neg hl, if_neg (by omega)]
    · rw [trip2_14 c i arg2 harg2 arg3 harg3 arg4 harg4 arg5 harg5 arg6 harg6 arg7 harg7 arg8 harg8 arg9 harg9 arg10 harg10 arg11 harg11 arg12 harg12 arg13 harg13 arg14 harg14 X_3 X_6 X_9 ⟨k, hk⟩ (st2 c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 k).1 (st2 c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 k).2.1 (st2 c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 k).2.2]
      dsimp only
      rw [g14 0 (by omega), g14 1 (by omega), g14 2 (by omega), g14 3 (by omega)]
      by_cases hy : (y 0).val % 4 = k
      · exact (tile2_in arg14.view _ (g2A (arg3.view.read (Elt F) X_3) (arg6.view.read (Elt F) X_6) (arg9.view.read (Elt F) X_9) (arg12.view.read (Elt F) G_12) (arg14.view.read (Elt F) G_14)) ⟨k, hk⟩ y hy).trans (if_pos (by omega)).symm
      · refine (tile2_out arg14.view _ (g2A (arg3.view.read (Elt F) X_3) (arg6.view.read (Elt F) X_6) (arg9.view.read (Elt F) X_9) (arg12.view.read (Elt F) G_12) (arg14.view.read (Elt F) G_14)) ⟨k, hk⟩ y hy).trans ?_
        rw [(ih y).2.2]
        by_cases hl : (y 0).val % 4 < k
        · rw [if_pos hl, if_pos (by omega)]
        · rw [if_neg hl, if_neg (by omega)]

theorem st2_12 (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_3 : BufTy.Contents (Elt F) arg3.view.ty) (X_6 : BufTy.Contents (Elt F) arg6.view.ty) (X_9 : BufTy.Contents (Elt F) arg9.view.ty) (G_12 : BufTy.Contents (Elt F) arg12.view.ty) (G_13 : BufTy.Contents (Elt F) arg13.view.ty) (G_14 : BufTy.Contents (Elt F) arg14.view.ty) :
    arg12.view.read (Elt F) (st2 c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 k0_t2_loop.trips).1 = spr2 (g2M (arg3.view.read (Elt F) X_3) (arg6.view.read (Elt F) X_6) (arg12.view.read (Elt F) G_12)) := by
  funext y
  rw [trips_2]
  exact (st2_aux c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 4 (le_refl _) y).1.trans (if_pos (by omega))

theorem st2_13 (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_3 : BufTy.Contents (Elt F) arg3.view.ty) (X_6 : BufTy.Contents (Elt F) arg6.view.ty) (X_9 : BufTy.Contents (Elt F) arg9.view.ty) (G_12 : BufTy.Contents (Elt F) arg12.view.ty) (G_13 : BufTy.Contents (Elt F) arg13.view.ty) (G_14 : BufTy.Contents (Elt F) arg14.view.ty) :
    arg13.view.read (Elt F) (st2 c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 k0_t2_loop.trips).2.1 = spr2 (g2L (arg3.view.read (Elt F) X_3) (arg6.view.read (Elt F) X_6) (arg12.view.read (Elt F) G_12) (arg13.view.read (Elt F) G_13)) := by
  funext y
  rw [trips_2]
  exact (st2_aux c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 4 (le_refl _) y).2.1.trans (if_pos (by omega))

theorem st2_14 (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_3 : BufTy.Contents (Elt F) arg3.view.ty) (X_6 : BufTy.Contents (Elt F) arg6.view.ty) (X_9 : BufTy.Contents (Elt F) arg9.view.ty) (G_12 : BufTy.Contents (Elt F) arg12.view.ty) (G_13 : BufTy.Contents (Elt F) arg13.view.ty) (G_14 : BufTy.Contents (Elt F) arg14.view.ty) :
    arg14.view.read (Elt F) (st2 c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 k0_t2_loop.trips).2.2 = spr2 (g2A (arg3.view.read (Elt F) X_3) (arg6.view.read (Elt F) X_6) (arg9.view.read (Elt F) X_9) (arg12.view.read (Elt F) G_12) (arg14.view.read (Elt F) G_14)) := by
  funext y
  rw [trips_2]
  exact (st2_aux c i arg2 harg2 arg3 harg3 arg4 harg4 arg5 harg5 arg6 harg6 arg7 harg7 arg8 harg8 arg9 harg9 arg10 harg10 arg11 harg11 arg12 harg12 arg13 harg13 arg14 harg14 X_3 X_6 X_9 G_12 G_13 G_14 4 (le_refl _) y).2.2.trans (if_pos (by omega))

theorem st3_aux (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_4 : BufTy.Contents (Elt F) arg4.view.ty) (X_7 : BufTy.Contents (Elt F) arg7.view.ty) (X_10 : BufTy.Contents (Elt F) arg10.view.ty) (X_12 : BufTy.Contents (Elt F) arg12.view.ty) (X_13 : BufTy.Contents (Elt F) arg13.view.ty) (X_14 : BufTy.Contents (Elt F) arg14.view.ty) (G_11 : BufTy.Contents (Elt F) arg11.view.ty) (n : ℕ) (hn : n ≤ 4) (y : S1x1x2048x128.Idx) (h : (y 2).val % 16 / 4 < n) :
    arg11.view.read (Elt F) (st3 c i arg2 harg2 arg3 harg3 arg4 harg4 arg5 harg5 arg6 harg6 arg7 harg7 arg8 harg8 arg9 harg9 arg10 harg10 arg11 harg11 arg12 harg12 arg13 harg13 arg14 harg14 X_4 X_7 X_10 X_12 X_13 X_14 G_11 n) y = spr3 (g3O (arg4.view.read (Elt F) X_4) (arg7.view.read (Elt F) X_7) (arg10.view.read (Elt F) X_10) (arg12.view.read (Elt F) X_12) (arg13.view.read (Elt F) X_13) (arg14.view.read (Elt F) X_14)) y := by
  induction n with
  | zero => exact absurd h (by omega)
  | succ k ih =>
    have hk : k < k0_t3_loop.trips := lt_of_lt_of_eq (by omega) trips_3.symm
    have e := st3_succ c i arg2 harg2 arg3 harg3 arg4 harg4 arg5 harg5 arg6 harg6 arg7 harg7 arg8 harg8 arg9 harg9 arg10 harg10 arg11 harg11 arg12 harg12 arg13 harg13 arg14 harg14 X_4 X_7 X_10 X_12 X_13 X_14 G_11 ⟨k, hk⟩
    dsimp only at e
    rw [e, trip3_11 c i arg2 harg2 arg3 harg3 arg4 harg4 arg5 harg5 arg6 harg6 arg7 harg7 arg8 harg8 arg9 harg9 arg10 harg10 arg11 harg11 arg12 harg12 arg13 harg13 arg14 harg14 X_4 X_7 X_10 X_12 X_13 X_14 ⟨k, hk⟩]
    by_cases hy : (y 2).val % 16 / 4 = k
    · exact tile3_in arg11.view _ (g3O (arg4.view.read (Elt F) X_4) (arg7.view.read (Elt F) X_7) (arg10.view.read (Elt F) X_10) (arg12.view.read (Elt F) X_12) (arg13.view.read (Elt F) X_13) (arg14.view.read (Elt F) X_14)) ⟨k, hk⟩ y hy
    · refine (tile3_out arg11.view _ (g3O (arg4.view.read (Elt F) X_4) (arg7.view.read (Elt F) X_7) (arg10.view.read (Elt F) X_10) (arg12.view.read (Elt F) X_12) (arg13.view.read (Elt F) X_13) (arg14.view.read (Elt F) X_14)) ⟨k, hk⟩ y hy).trans ?_
      exact ih (by omega) (by omega)

theorem st3_11 (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (X_4 : BufTy.Contents (Elt F) arg4.view.ty) (X_7 : BufTy.Contents (Elt F) arg7.view.ty) (X_10 : BufTy.Contents (Elt F) arg10.view.ty) (X_12 : BufTy.Contents (Elt F) arg12.view.ty) (X_13 : BufTy.Contents (Elt F) arg13.view.ty) (X_14 : BufTy.Contents (Elt F) arg14.view.ty) (G_11 : BufTy.Contents (Elt F) arg11.view.ty) :
    arg11.view.read (Elt F) (st3 c i arg2 harg2 arg3 harg3 arg4 harg4 arg5 harg5 arg6 harg6 arg7 harg7 arg8 harg8 arg9 harg9 arg10 harg10 arg11 harg11 arg12 harg12 arg13 harg13 arg14 harg14 X_4 X_7 X_10 X_12 X_13 X_14 G_11 k0_t3_loop.trips) = spr3 (g3O (arg4.view.read (Elt F) X_4) (arg7.view.read (Elt F) X_7) (arg10.view.read (Elt F) X_10) (arg12.view.read (Elt F) X_12) (arg13.view.read (Elt F) X_13) (arg14.view.read (Elt F) X_14)) := by
  funext y
  rw [trips_3]
  exact st3_aux c i arg2 harg2 arg3 harg3 arg4 harg4 arg5 harg5 arg6 harg6 arg7 harg7 arg8 harg8 arg9 harg9 arg10 harg10 arg11 harg11 arg12 harg12 arg13 harg13 arg14 harg14 X_4 X_7 X_10 X_12 X_13 X_14 G_11 4 (le_refl _) y (by omega)

end Cert.Proof.KI
-- ==== Proof.KI.Body.lean ====
module

public import proofs.«01_k».proof.Proof.KI.States
public import proofs.«01_k».proof.Proof.Gen.KernelIdeal.Points
public import proofs.«01_k».proof.Proof.Gen.KernelIdeal.Frame
public import Idealize.ShloMosaic.Lib.Pipeline.FrameBody

@[expose] public section

set_option maxRecDepth 16384

noncomputable section

namespace Cert.Proof.KI

open Cert.KernelIdeal Cert.KernelIdeal.Facts₀ Cert.KernelIdeal.Facts
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the run. -/
local notation "𝕄G" => MT nD τ sig Unit (Elt F) ℕ (UR sig nD τ) ℕ

/-! ## What the body leaves, from the blocks it is given -/

/-- After group 0: the maxima, sums and weighted values, spread over each head's lanes. -/
def m1 (q0 k0 : A4 F) : A2 F := spr1 (g1M q0 k0)
def l1 (q0 k0 : A4 F) : A2 F := spr1 (g1L q0 k0)
def a1 (q0 k0 v0 : A4 F) : A2 F := spr1 (g1A q0 k0 v0)
/-- After group 1. -/
def m2 (q0 k0 q1 k1 : A4 F) : A2 F := spr2 (g2M q1 k1 (m1 q0 k0))
def l2 (q0 k0 q1 k1 : A4 F) : A2 F := spr2 (g2L q1 k1 (m1 q0 k0) (l1 q0 k0))
def a2 (q0 k0 v0 q1 k1 v1 : A4 F) : A2 F := spr2 (g2A q1 k1 v1 (m1 q0 k0) (a1 q0 k0 v0))
/-- The result of one pair of heads. -/
def outF (q0 q1 q2 k0 k1 k2 v0 v1 v2 : A4 F) : A4 F :=
  spr3 (g3O q2 k2 v2 (m2 q0 k0 q1 k1) (l2 q0 k0 q1 k1) (a2 q0 k0 v0 q1 k1 v1))

/-- The body on whole buffers: the inputs stay, the result's holds `outF` of them. -/
theorem sound_kernel (c : Dev nD) (i : grid0.Coords) (arg2 : Memref sig .tc .vmem S1x1x2048x128 .f32) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x2048x128 .f32) (harg7 : arg7.IsWhole) (arg8 : Memref sig .tc .vmem S1x1x2048x128 .f32) (harg8 : arg8.IsWhole) (arg9 : Memref sig .tc .vmem S1x1x2048x128 .f32) (harg9 : arg9.IsWhole) (arg10 : Memref sig .tc .vmem S1x1x2048x128 .f32) (harg10 : arg10.IsWhole) (arg11 : Memref sig .tc .vmem S1x1x2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole)
    (x2 x3 x4 x5 x6 x7 x8 x9 x10 : A4 F) (K : PUnit → sProp 𝕄G) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outF x2 x3 x4 x5 x6 x7 x8 x9 x10) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none (c : Thread nD τ) none) Set.univ (cc0_attn_prompt (F := F) i arg2 harg2 arg3 harg3 arg4 harg4 arg5 harg5 arg6 harg6 arg7 harg7 arg8 harg8 arg9 harg9 arg10 harg10 arg11 harg11 arg12 harg12 arg13 harg13 arg14 harg14) K := by
  simp only [Gen.cc0_attn_prompt_eq_skeleton]; unfold Gen.cc0_attn_prompt_skel
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%d11, %f11, -, H11⟩, ⟨%d12, %f12, -, H12⟩, ⟨%d13, %f13, -, H13⟩, ⟨%d14, %f14, -, H14⟩, Hk⟩
  subst h2 h3 h4 h5 h6 h7 h8 h9 h10
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr; swap; · iexact H11
    ipureintro
    refine (st3_11 (F := F) _ _ _ _ _ _ _ _ _ _ _ _ _ _ _ _ _ _ _ _ _ _ _ _ _ _ _ _ _ _ _ _ _ _ _).trans ?_
    have e12 := st2_12 (F := F) c i arg2 harg2 arg3 harg3 arg4 harg4 arg5 harg5 arg6 harg6 arg7 harg7 arg8 harg8 arg9 harg9 arg10 harg10 arg11 harg11 arg12 harg12 arg13 harg13 arg14 harg14 f3 f6 f9
    have e13 := st2_13 (F := F) c i arg2 harg2 arg3 harg3 arg4 harg4 arg5 harg5 arg6 harg6 arg7 harg7 arg8 harg8 arg9 harg9 arg10 harg10 arg11 harg11 arg12 harg12 arg13 harg13 arg14 harg14 f3 f6 f9
    have e14 := st2_14 (F := F) c i arg2 harg2 arg3 harg3 arg4 harg4 arg5 harg5 arg6 harg6 arg7 harg7 arg8 harg8 arg9 harg9 arg10 harg10 arg11 harg11 arg12 harg12 arg13 harg13 arg14 harg14 f3 f6 f9
    unfold outF m2 l2 a2 m1 l1 a1
    rw [← pb1_12 (F := F) c i arg2 harg2 arg3 harg3 arg4 harg4 arg5 harg5 arg6 harg6 arg7 harg7 arg8 harg8 arg9 harg9 arg10 harg10 arg11 harg11 arg12 harg12 arg13 harg13 arg14 harg14 f2 f5 f8 f12, ← pb1_13 (F := F) c i arg2 harg2 arg3 harg3 arg4 harg4 arg5 harg5 arg6 harg6 arg7 harg7 arg8 harg8 arg9 harg9 arg10 harg10 arg11 harg11 arg12 harg12 arg13 harg13 arg14 harg14 f2 f5 f8 f13, ← pb1_14 (F := F) c i arg2 harg2 arg3 harg3 arg4 harg4 arg5 harg5 arg6 harg6 arg7 harg7 arg8 harg8 arg9 harg9 arg10 harg10 arg11 harg11 arg12 harg12 arg13 harg13 arg14 harg14 f2 f5 f8 f14,
      ← e12 _ _ _, ← e13 _ _ _, ← e14 _ _ _]
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.Proof.KI
-- ==== Proof.KI.Run.lean ====
module

public import proofs.«01_k».proof.Proof.KI.Body
public import Idealize.ShloMosaic.Lib.Claim

@[expose] public section

set_option maxRecDepth 16384

noncomputable section

namespace Cert.Proof.KI

open Cert.KernelIdeal Cert.KernelIdeal.Facts₀ Cert.KernelIdeal.Facts
open Idealize.ShloMosaic Idealize.ShloMosaic.TcCoe Idealize.ShloMosaic.Tactic
open Idealize.ShloMosaic.ValueIdx
open Cert.KernelIdeal.Gen
open Idealize.ShloMosaic.Rounds
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the run. -/
local notation "𝕄G" => MT nD τ sig Unit (Elt F) ℕ (UR sig nD τ) ℕ

variable (m : (ℓ : Loc nD τ sig) → Buf (Elt F) ℓ) (ρ : Dev nD → PrngReg)

/-- The proof data: each input's buffer at its block, the result's at `outF` of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outF (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q := Pipeline.shareOf spec0
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outF (iblk m c 0 t) (iblk m c 1 t) (iblk m c 2 t) (iblk m c 3 t) (iblk m c 4 t) (iblk m c 5 t) (iblk m c 6 t) (iblk m c 7 t) (iblk m c 8 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at a point, -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl]
  unfold Pipeline.ΦA
  rw [scopedRest0_eq]
  iintro ⟨⟨⟨⟨%g0, S0⟩, ⟨%g1, S1⟩, ⟨%g2, S2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [S0]; · unfold owns; iexists _, g0; isplitr; swap; · rw [View.set_whole]; iexact S0
                  ipureintro; rfl
  isplitl [S1]; · unfold owns; iexists _, g1; isplitr; swap; · rw [View.set_whole]; iexact S1
                  ipureintro; rfl
  isplitl [S2]; · unfold owns; iexists _, g2; isplitr; swap; · rw [View.set_whole]; iexact S2
                  ipureintro; rfl
  iintro ⟨H0, H1, H2, H3, H4, H5, H6, H7, H8, H9, ⟨%e0, S0⟩, ⟨%e1, S1⟩, ⟨%e2, S2⟩⟩
  isplitl [Hg S0 S1 S2]
  · isplitr [Hg]; swap; · iexact Hg
    unfold owns
    icases S0 with ⟨%u0, -, S0⟩
    icases S1 with ⟨%u1, -, S1⟩
    icases S2 with ⟨%u2, -, S2⟩
    isplitl [S0]; · iexists u0; rw [View.set_whole]; iexact S0
    isplitl [S1]; · iexists u1; rw [View.set_whole]; iexact S1
    iexists u2; rw [View.set_whole]; iexact S2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution ends, with every array as the proof data compute it and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame, at any floats. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Proof.KI
-- ==== Proof.Frames.lean ====
module

public import proofs.«01_k».proof.Defs
public import proofs.«01_k».proof.Proof.Gen.Kernel
public import proofs.«01_k».proof.Proof.KI.Run

@[expose] public section

set_option maxRecDepth 65536

noncomputable section

namespace Cert.Proof

open Idealize.ShloMosaic Idealize.ShloMosaic.TcCoe Idealize.ShloMosaic.Tactic Idealize.SL Idealize.SL.Sem

/-- The frame of the program as the machine runs it with the mask's constant named. -/
theorem frame_kernelIdeal : Cert.quiescent_KernelIdeal (hKernelIdeal := Cert.KernelIdeal.Gen.facts) :=
  fun m g _ => KI.frame_run (F := Ideal) m g

/-- At the machine's floats the named constant is the literal it was written as. -/
instance literalNamed : Named Bits where
  named _ _ {φ} b := FloatOps.ofBits φ b

theorem frame_kernel : Cert.quiescent_Kernel (hKernel := Cert.Kernel.Gen.facts) := by
  intro m g _
  have h := KI.frame_run (F := Bits) m g
  refine cast ?_ h
  sl_kernel_rfl

end Cert.Proof
-- ==== Proof.RefFrame.lean ====
module

public import proofs.«01_k».proof.Defs
public import proofs.«01_k».proof.Proof.Gen.ReferenceIdeal.Run
public import Idealize.ShloMosaic.Lib.Claim

@[expose] public section

set_option maxRecDepth 65536

noncomputable section

namespace Cert.Proof

open Idealize.ShloMosaic Idealize.ShloMosaic.TcCoe Idealize.SL.Sem

/-- The frame of the reference: its run, read at the two arguments; it declares no semaphore. -/
theorem frame_reference : Cert.quiescent_ReferenceIdeal (hReferenceIdeal := Cert.ReferenceIdeal.Gen.facts) := fun m g _ =>
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m g)

end Cert.Proof

end
-- ==== Proof.Finite.lean ====
module

public import proofs.«01_k».proof.Defs
public import proofs.«01_k».proof.Proof.Gen.Pre_finite
public import Idealize.ShloMosaic.Lib.ReduceAll
public import Idealize.ShloMosaic.Lib.KernelVsHost
public import Idealize.ShloMosaic.Lib.Pointwise

@[expose] public section

set_option maxRecDepth 16384

noncomputable section

/-! Arguments of which `finite` holds are arrays of real numbers. -/

namespace Cert.Proof

open Idealize.ShloMosaic Idealize.ShloMosaic.TcCoe

theorem posInf_eq : Ideal.ofBits .f32 0x7F800000#32 = ⊤ := by
  simp [Ideal.ofBits, Ideal.ieee]

/-- A number whose absolute value is below infinity is real. -/
theorem real_of_abs_lt (x : EReal) (h : Ideal.cmp .olt (max x (-x)) (Ideal.ofBits .f32 0x7F800000#32) = 1#1) : x = ((x.toReal : ℝ) : EReal) := by
  rw [posInf_eq] at h
  have hlt : max x (-x) < ⊤ := by
    by_contra hn
    have : Ideal.cmp .olt (max x (-x)) ⊤ = 0#1 := by
      unfold Ideal.cmp
      simp only [hn, decide_false]
      rfl
    rw [this] at h
    exact absurd h (by decide)
  have h1 : x ≠ ⊤ := fun e => by rw [e] at hlt; simp at hlt
  have h2 : x ≠ ⊥ := fun e => by rw [e] at hlt; simp at hlt
  exact (EReal.coe_toReal h1 h2).symm

theorem finite_args (X : (⟨Cert.Pre_finite.S8x2048x4096, .f32⟩ : BufTy).Contents (Elt Ideal)) (Y : (⟨Cert.Pre_finite.S8x2048x6144, .f32⟩ : BufTy).Contents (Elt Ideal))
    (h : Cert.Pre_finite.fn (F := Ideal) X Y = fun _ => 1#1) :
    (∀ i, X i = (((X i : EReal).toReal : ℝ) : EReal)) ∧ (∀ i, Y i = (((Y i : EReal).toReal : ℝ) : EReal)) := by
  have e := congrFun h (fun a => a.elim0)
  unfold Cert.Pre_finite.fn at e
  dsimp only at e
  have e' := IntOp.andi_eq_one.mp e
  refine ⟨fun i => real_of_abs_lt _ ?_, fun i => real_of_abs_lt _ ?_⟩
  · exact Host.reduce_andi_all _ _ _ _ _ e'.1 i
  · exact Host.reduce_andi_all _ _ _ _ _ e'.2 i

end Cert.Proof

end
-- ==== Proof.Consts.lean ====
module

public import Idealize.ShloMosaic.PureOps.Ideal.Laws
public import proofs.«01_k».proof.KernelIdeal
public import Idealize.ShloMosaic.PureOps.IdealRules

@[expose] public section

noncomputable section

namespace Cert.Proof

open Idealize.ShloMosaic

/-- The scale `1/8 = 64^(-1/2)`, exactly. -/
theorem scale_eq : Ideal.ofBits .f32 0x3E000000#32 = ((1 / 8 : ℝ) : EReal) := by
  simp [Ideal.ofBits, Ideal.ieee, -EReal.coe_mul]; norm_num

/-- The word of minus infinity. -/
theorem negInf_eq : Ideal.ofBits .f32 0xFF800000#32 = ⊥ := by
  simp [Ideal.ofBits, Ideal.ieee]

/-- The mask's named constant is minus infinity. -/
theorem mask_eq : (Named.named Cert.KernelIdeal.κ "mask" (φ := .f32) 0xF149F2CA#32 : Ideal .f32) = ⊥ :=
  IdealRules.named_const.ideal_named_scalar _ _ _ _ rfl

end Cert.Proof

end
-- ==== Proof.Words.lean ====
module

public import Idealize.ShloMosaic.PureOps.Ideal.Laws

@[expose] public section

noncomputable section

/-! Comparisons of small numbers, as 32-bit words. -/

namespace Cert.Proof

open Idealize.ShloMosaic

/-- The bit of a proposition. -/
def bit (p : Prop) [Decidable p] : BitVec 1 := if p then 1#1 else 0#1

theorem select_bit {α : Type} (p : Prop) [Decidable p] (a b : α) : Scalar.select (bit p) a b = if p then a else b := by
  unfold Scalar.select bit
  by_cases h : p
  · rw [if_pos h, if_pos h]; rfl
  · rw [if_neg h, if_neg h]; rfl

theorem bit_congr {p q : Prop} [Decidable p] [Decidable q] (h : p ↔ q) : bit p = bit q := if_congr h rfl rfl

theorem andi_bit (p q : Prop) [Decidable p] [Decidable q] : IntOp.andi (bit p) (bit q) = bit (p ∧ q) := by
  unfold bit
  by_cases h : p <;> by_cases h' : q <;> simp [h, h'] <;> rfl

theorem toInt_small (n : ℕ) (h : n < 2147483648) : (BitVec.ofNat 32 n).toInt = (n : ℤ) := by
  rw [BitVec.toInt_eq_toNat_of_lt]
  · rw [BitVec.toNat_ofNat, Nat.mod_eq_of_lt (by omega)]
  · rw [BitVec.toNat_ofNat, Nat.mod_eq_of_lt (by omega)]; omega

theorem ofBool_bit (p : Prop) [Decidable p] : BitVec.ofBool (decide p) = bit p := by
  unfold bit
  by_cases h : p <;> simp [h]

theorem sle_bit (x y : BitVec 32) : IntOp.cmpi .sle x y = bit (x.toInt ≤ y.toInt) := ofBool_bit _
theorem slt_bit (x y : BitVec 32) : IntOp.cmpi .slt x y = bit (x.toInt < y.toInt) := ofBool_bit _
theorem sge_bit (x y : BitVec 32) : IntOp.cmpi .sge x y = bit (y.toInt ≤ x.toInt) := ofBool_bit _
theorem sgt_bit (x y : BitVec 32) : IntOp.cmpi .sgt x y = bit (y.toInt < x.toInt) := ofBool_bit _

end Cert.Proof

end
-- ==== Proof.KV.Reads.lean ====
module

public import proofs.«01_k».proof.Proof.KI.Block
public import proofs.«01_k».proof.Proof.Consts
public import proofs.«01_k».proof.Proof.Words
public import Idealize.ShloMosaic.Lib.Pointwise
public import Idealize.ShloMosaic.Lib.Tactic.CleanTypes
public import Idealize.ShloMosaic.Lib.Tactic.IndexArith

@[expose] public section

set_option maxRecDepth 16384

noncomputable section

/-! The kernel's block functions at an index, over the extended reals. -/

namespace Cert.Proof.KV

open Cert.KernelIdeal Cert.KernelIdeal.Facts₀ Cert.KernelIdeal.Facts Cert.Proof.KI
open Idealize.ShloMosaic Idealize.ShloMosaic.TcCoe Idealize.SL.Sem

theorem krow_apply (k : Vec Ideal S1x1x128x128 .f32) (j l : Fin 128) : krow k (ix2 j l) = k (ix4 0 0 j l) := by
  unfold krow
  pointwise

theorem krow2_apply (p k : Vec Ideal S1x1x128x128 .f32) (j : Fin 256) (l : Fin 128) :
    krow2 p k (ix2 j l) = if h : j.val < 128 then p (ix4 0 0 ⟨j.val, h⟩ l) else k (ix4 0 0 ⟨j.val - 128, by omega⟩ l) := by
  unfold krow2
  pointwise
  simp only [krow_apply]

theorem qhead_apply (hm : IVec S1x128 1) (q : Vec Ideal S1x1x128x128 .f32) (r l : Fin 128) :
    qhead hm q (ix2 r l) = Scalar.select (hm (ix2 0 l)) (q (ix4 0 0 r l) * ((1 / 8 : ℝ) : EReal)) (0 : EReal) := by
  unfold qhead hmask qrow
  pointwise
  rw [scale_eq]

theorem sc2_apply (mk : IVec S128x256 1) (hm : IVec S1x128 1) (q p k : Vec Ideal S1x1x128x128 .f32) (r : Fin 128) (j : Fin 256) :
    sc2 mk hm q p k (ix2 r j) = Scalar.select (mk (ix2 r j)) (∑ x : Fin 128, qhead hm q (ix2 r x) * krow2 p k (ix2 j x) : EReal) ⊥ := by
  unfold sc2
  pointwise
  rw [mask_eq]

theorem sc1_apply (hm : IVec S1x128 1) (q k : Vec Ideal S1x1x128x128 .f32) (r j : Fin 128) :
    sc1 hm q k (ix2 r j) = Scalar.select (Gen.k0_pay2 (ix2 r j)) (∑ x : Fin 128, qhead hm q (ix2 r x) * krow k (ix2 j x) : EReal) ⊥ := by
  unfold sc1
  pointwise
  rw [mask_eq]

theorem mx2_apply (s : FVec Ideal S128x256 .f32) (r : Fin 128) (z : Fin 1) :
    mx2 s (ix2 r z) = ((Finset.univ : Finset (Fin 256)).fold max ⊥ fun x => s (ix2 r x) : EReal) := by
  unfold mx2
  pointwise
  rw [negInf_eq]

theorem mx1_apply (s : FVec Ideal S128x128 .f32) (r : Fin 128) (z : Fin 1) :
    mx1 s (ix2 r z) = ((Finset.univ : Finset (Fin 128)).fold max ⊥ fun x => s (ix2 r x) : EReal) := by
  unfold mx1
  pointwise
  rw [negInf_eq]

theorem pr2_apply (s : FVec Ideal S128x256 .f32) (r : Fin 128) (j : Fin 256) :
    pr2 s (ix2 r j) = Ideal.exp (s (ix2 r j) - mx2 s (ix2 r 0)) := by
  unfold pr2
  pointwise

theorem pr1_apply (s : FVec Ideal S128x128 .f32) (r : Fin 128) (j : Fin 128) :
    pr1 s (ix2 r j) = Ideal.exp (s (ix2 r j) - mx1 s (ix2 r 0)) := by
  unfold pr1
  pointwise

theorem ls2_apply (s : FVec Ideal S128x256 .f32) (r : Fin 128) (z : Fin 1) :
    ls2 s (ix2 r z) = (∑ x : Fin 256, Ideal.exp (s (ix2 r x) - mx2 s (ix2 r 0)) : EReal) := by
  unfold ls2
  pointwise
  simp only [pr2_apply]

theorem ls1_apply (s : FVec Ideal S128x128 .f32) (r : Fin 128) (z : Fin 1) :
    ls1 s (ix2 r z) = (∑ x : Fin 128, Ideal.exp (s (ix2 r x) - mx1 s (ix2 r 0)) : EReal) := by
  unfold ls1
  pointwise
  simp only [pr1_apply]

theorem ac2_apply (s : FVec Ideal S128x256 .f32) (p v : Vec Ideal S1x1x128x128 .f32) (r l : Fin 128) :
    ac2 s p v (ix2 r l) = (∑ x : Fin 256, Ideal.exp (s (ix2 r x) - mx2 s (ix2 r 0)) * krow2 p v (ix2 x l) : EReal) := by
  unfold ac2
  pointwise
  simp only [pr2_apply]

theorem ac1_apply (s : FVec Ideal S128x128 .f32) (v : Vec Ideal S1x1x128x128 .f32) (r l : Fin 128) :
    ac1 s v (ix2 r l) = (∑ x : Fin 128, Ideal.exp (s (ix2 r x) - mx1 s (ix2 r 0)) * krow v (ix2 x l) : EReal) := by
  unfold ac1
  pointwise
  simp only [pr1_apply]

theorem spread_apply (x y : FVec Ideal S128x1 .f32) (r l : Fin 128) :
    spread x y (ix2 r l) = Scalar.select (Gen.k0_pay1 (ix2 0 l)) (x (ix2 r 0)) (y (ix2 r 0)) := by
  unfold spread hmask
  pointwise

theorem bA2_apply (mk : IVec S128x256 1) (q kp k vp v : Vec Ideal S1x1x128x128 .f32) (r l : Fin 128) :
    bA2 mk q kp k vp v (ix2 r l)
      = Scalar.select (Gen.k0_pay1 (ix2 0 l)) (ac2 (sc2 mk Gen.k0_pay1 q kp k) vp v (ix2 r l))
          (ac2 (sc2 mk Gen.k0_pay4 q kp k) vp v (ix2 r l)) := by
  unfold bA2 hmask
  pointwise

theorem bA1_apply (q k v : Vec Ideal S1x1x128x128 .f32) (r l : Fin 128) :
    bA1 q k v (ix2 r l)
      = Scalar.select (Gen.k0_pay1 (ix2 0 l)) (ac1 (sc1 Gen.k0_pay1 q k) v (ix2 r l)) (ac1 (sc1 Gen.k0_pay4 q k) v (ix2 r l)) := by
  unfold bA1 hmask
  pointwise

theorem pay1_apply (z : Fin 1) (l : Fin 128) : Gen.k0_pay1 (ix2 z l) = bit (l.val < 64) := by
  unfold Gen.k0_pay1
  pointwise
  rw [slt_bit, toInt_small _ (by omega)]
  exact bit_congr (by rw [show (64#32 : BitVec 32).toInt = 64 from rfl]; omega)

theorem pay4_apply (z : Fin 1) (l : Fin 128) : Gen.k0_pay4 (ix2 z l) = bit (¬ l.val < 64) := by
  unfold Gen.k0_pay4
  pointwise
  rw [pay1_apply]
  unfold bit
  by_cases h : l.val < 64 <;> simp [h] <;> rfl

theorem pay2_apply (r l : Fin 128) : Gen.k0_pay2 (ix2 r l) = bit (l.val ≤ r.val) := by
  unfold Gen.k0_pay2
  pointwise
  rw [sle_bit, toInt_small _ (by omega), toInt_small _ (by omega)]
  exact bit_congr (by omega)

theorem pay3_apply (r l : Fin 128) : Gen.k0_pay3 (ix2 r l) = bit (r.val < l.val) := by
  unfold Gen.k0_pay3
  pointwise
  rw [sgt_bit, toInt_small _ (by omega), toInt_small _ (by omega)]
  exact bit_congr (by omega)

theorem mask2_apply (p : Prop) [Decidable p] (r : Fin 128) (j : Fin 256) :
    mask2 (bit p) (ix2 r j) = bit (if j.val < 128 then p ∧ r.val < j.val else j.val - 128 ≤ r.val) := by
  unfold mask2
  pointwise
  by_cases h : j.val < 128
  · rw [dif_pos h, pay3_apply, andi_bit]
    exact bit_congr (by rw [if_pos h]; exact and_comm)
  · rw [dif_neg h, pay2_apply]
    exact bit_congr (by rw [if_neg h])

theorem sto_apply (x : FVec Ideal S128x128 .f32) (r l : Fin 128) : sto x (ix2 r l) = x (ix2 r l) := by
  unfold sto
  pointwise

theorem mgM_apply (mo mb : FVec Ideal S128x128 .f32) (r l : Fin 128) :
    mgM mo mb (ix2 r l) = max (mo (ix2 r l) : EReal) (mb (ix2 r l)) := by
  unfold mgM
  pointwise

theorem mgS_apply (mo mb lo lb : FVec Ideal S128x128 .f32) (r l : Fin 128) :
    mgS mo mb lo lb (ix2 r l)
      = Ideal.exp ((mo (ix2 r l) : EReal) - max (mo (ix2 r l) : EReal) (mb (ix2 r l))) * lo (ix2 r l)
        + Ideal.exp ((mb (ix2 r l) : EReal) - max (mo (ix2 r l) : EReal) (mb (ix2 r l))) * lb (ix2 r l) := by
  unfold mgS mgM
  pointwise

theorem stoDiv_apply (x y : FVec Ideal S128x128 .f32) (z w : Fin 1) (r l : Fin 128) :
    stoO (divf x y) (ix4 z w r l) = Ideal.div (x (ix2 r l)) (y (ix2 r l)) := by
  unfold stoO
  pointwise

end Cert.Proof.KV

end
-- ==== Proof.Sums.lean ====
module

public import Idealize.ShloMosaic.PureOps.Ideal.Laws
public import Idealize.ShloMosaic.Lib.ValueIdx
public import Mathlib.Analysis.SpecialFunctions.Log.Basic

@[expose] public section

noncomputable section

/-! # Weighted means of values by exponentials of scores

The attention's row arithmetic on the extended reals. A row has slots, some of them visible; a visible slot has a real
score and a real value. With `W` the sum of the exponentials of the visible scores and `U` the same sum weighted by the
values, the attention's output is `U / W`. Both programs keep `W` and `U` divided by the exponential of some real number
(a running maximum); the number drops out of the quotient. -/

namespace Cert.Proof

open Idealize.ShloMosaic
open scoped BigOperators

/-- The sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `m`, `l` and `a` stand for the sums `W` and `U`, divided by the exponential of the number `m`. -/
def Led (m l a : EReal) (W U : ℝ) : Prop :=
  ∃ M : ℝ, m = (M : EReal) ∧ l = ((Real.exp (-M) * W : ℝ) : EReal) ∧ a = ((Real.exp (-M) * U : ℝ) : EReal)

theorem max_coe (x y : ℝ) : max (x : EReal) (y : EReal) = ((max x y : ℝ) : EReal) :=
  (EReal.coe_strictMono.monotone.map_max).symm

/-- The largest of the scores of a row with a visible slot is a real number. -/
theorem rowMax {n : ℕ} (S : Fin n → EReal) (vis : Fin n → Prop) (s : Fin n → ℝ)
    (h1 : ∀ j, vis j → S j = (s j : EReal)) (h0 : ∀ j, ¬ vis j → S j = ⊥) (hv : ∃ j, vis j) :
    ∃ M : ℝ, (Finset.univ : Finset (Fin n)).fold max ⊥ S = (M : EReal) := by
  have e : (Finset.univ : Finset (Fin n)).fold max ⊥ S = Finset.univ.sup S := rfl
  rw [e]
  obtain ⟨j, hj⟩ := hv
  have ht : Finset.univ.sup S ≠ ⊤ := by
    apply ne_of_lt
    rw [Finset.sup_lt_iff bot_lt_top]
    intro i _
    by_cases hi : vis i
    · rw [h1 i hi]; exact EReal.coe_lt_top _
    · rw [h0 i hi]; exact bot_lt_top
  have hb : Finset.univ.sup S ≠ ⊥ := by
    have := Finset.le_sup (f := S) (Finset.mem_univ j)
    rw [h1 j hj] at this
    exact ne_of_gt (lt_of_lt_of_le (EReal.bot_lt_coe _) this)
  exact ⟨_, (EReal.coe_toReal ht hb).symm⟩

/-- A slot's weight: the exponential of its score less `M` if it is visible, else nothing. -/
theorem expSub (M : ℝ) (p : Prop) [Decidable p] (S : EReal) (s : ℝ) (h1 : p → S = (s : EReal)) (h0 : ¬ p → S = ⊥) :
    Ideal.exp (S - (M : EReal)) = ((Real.exp (-M) * (if p then Real.exp s else 0) : ℝ) : EReal) := by
  by_cases h : p
  · rw [h1 h, if_pos h, ← EReal.coe_sub, Ideal.exp_coe, ← Real.exp_add]
    congr 2; ring
  · rw [h0 h, if_neg h, EReal.bot_sub, Ideal.exp_bot, mul_zero, EReal.coe_zero]

/-- One row: its largest score, the sum of its weights and the weighted sum of its values. -/
theorem Led.row {n : ℕ} (S V : Fin n → EReal) (vis : Fin n → Prop) [DecidablePred vis] (s v : Fin n → ℝ)
    (h1 : ∀ j, vis j → S j = (s j : EReal)) (h0 : ∀ j, ¬ vis j → S j = ⊥) (hv : ∃ j, vis j)
    (hV : ∀ j, vis j → V j = (v j : EReal)) :
    Led ((Finset.univ : Finset (Fin n)).fold max ⊥ S)
      (∑ j, Ideal.exp (S j - (Finset.univ : Finset (Fin n)).fold max ⊥ S))
      (∑ j, Ideal.exp (S j - (Finset.univ : Finset (Fin n)).fold max ⊥ S) * V j)
      (∑ j, if vis j then Real.exp (s j) else 0) (∑ j, if vis j then Real.exp (s j) * v j else 0) := by
  obtain ⟨M, hM⟩ := rowMax S vis s h1 h0 hv
  rw [hM]
  refine ⟨M, rfl, ?_, ?_⟩
  · rw [Finset.mul_sum, coe_sum]
    exact Finset.sum_congr rfl fun j _ => expSub M (vis j) (S j) (s j) (h1 j) (h0 j)
  · rw [Finset.mul_sum, coe_sum]
    refine Finset.sum_congr rfl fun j _ => ?_
    rw [expSub M (vis j) (S j) (s j) (h1 j) (h0 j)]
    by_cases h : vis j
    · rw [if_pos h, if_pos h, hV j h, ← EReal.coe_mul, mul_assoc]
    · rw [if_neg h, if_neg h, mul_zero, EReal.coe_zero, zero_mul]

/-- Two rows' numbers merged stand for the sums over both. -/
theorem Led.merge {m l a m' l' a' : EReal} {W U W' U' : ℝ} (h : Led m l a W U) (h' : Led m' l' a' W' U') :
    Led (max m m') (Ideal.exp (m - max m m') * l + Ideal.exp (m' - max m m') * l')
      (Ideal.exp (m - max m m') * a + Ideal.exp (m' - max m m') * a') (W + W') (U + U') := by
  obtain ⟨M, rfl, rfl, rfl⟩ := h
  obtain ⟨M', rfl, rfl, rfl⟩ := h'
  rw [max_coe]
  generalize max M M' = N
  have key : ∀ K X : ℝ, Real.exp (K - N) * (Real.exp (-K) * X) = Real.exp (-N) * X := by
    intro K X
    rw [← mul_assoc, ← Real.exp_add]
    congr 2; ring
  refine ⟨N, rfl, ?_, ?_⟩ <;>
  · rw [← EReal.coe_sub, ← EReal.coe_sub, Ideal.exp_coe, Ideal.exp_coe, ← EReal.coe_mul, ← EReal.coe_mul, ← EReal.coe_add,
      key, key, mul_add]

/-- The quotient is the weighted mean. -/
theorem Led.quot {m l a : EReal} {W U : ℝ} (h : Led m l a W U) (hW : 0 < W) : Ideal.div a l = ((U / W : ℝ) : EReal) := by
  obtain ⟨M, rfl, rfl, rfl⟩ := h
  have hE := Real.exp_pos (-M)
  have hne : Real.exp (-M) * W ≠ 0 := (mul_pos hE hW).ne'
  rw [Ideal.div_coe hne, ← EReal.coe_mul]
  congr 1
  field_simp

/-- The largest score and the logarithm of the sum give the logarithm of `W`. -/
theorem Led.lse {m l a : EReal} {W U : ℝ} (h : Led m l a W U) (hW : 0 < W) :
    m + Ideal.log l = ((Real.log W : ℝ) : EReal) := by
  obtain ⟨M, rfl, rfl, rfl⟩ := h
  have hE := Real.exp_pos (-M)
  rw [Ideal.log_coe, if_neg (not_le.mpr (mul_pos hE hW)), ← EReal.coe_add, Real.log_mul hE.ne' hW.ne', Real.log_exp]
  congr 1; ring

/-- Means merged by the softmax of the logarithms of their weights: the mean over all. -/
theorem softMerge {n : ℕ} (L O : Fin n → EReal) (W U : Fin n → ℝ) (hW : ∀ g, 0 < W g) (g₀ : Fin n)
    (hL : ∀ g, L g = ((Real.log (W g) : ℝ) : EReal)) (hO : ∀ g, O g = ((U g / W g : ℝ) : EReal)) :
    ∑ g, Ideal.div (Ideal.exp (L g - (Finset.univ : Finset (Fin n)).fold max ⊥ L))
        (∑ k, Ideal.exp (L k - (Finset.univ : Finset (Fin n)).fold max ⊥ L)) * O g
      = (((∑ g, U g) / (∑ g, W g) : ℝ) : EReal) := by
  obtain ⟨N, hN⟩ := rowMax L (fun _ => True) (fun g => Real.log (W g)) (fun g _ => hL g) (fun g h => absurd trivial h) ⟨g₀, trivial⟩
  rw [hN]
  have hE := Real.exp_pos (-N)
  have he : ∀ g, Ideal.exp (L g - (N : EReal)) = ((Real.exp (-N) * W g : ℝ) : EReal) := by
    intro g
    rw [expSub N True (L g) (Real.log (W g)) (fun _ => hL g) (fun h => absurd trivial h), if_pos trivial, Real.exp_log (hW g)]
  have hs : (0 : ℝ) < ∑ g, W g := Finset.sum_pos (fun g _ => hW g) ⟨g₀, Finset.mem_univ _⟩
  have hd : ∑ k, Ideal.exp (L k - (N : EReal)) = ((Real.exp (-N) * ∑ k, W k : ℝ) : EReal) := by
    rw [Finset.mul_sum, coe_sum]
    exact Finset.sum_congr rfl fun k _ => he k
  rw [hd, Finset.sum_div, coe_sum]
  refine Finset.sum_congr rfl fun g _ => ?_
  have hw := hW g
  rw [he, hO, Ideal.div_coe (mul_pos hE hs).ne', ← EReal.coe_mul, ← EReal.coe_mul]
  congr 1
  field_simp

/-! ## The slots of a dilated band

Time `t` belongs to the class `t % d`, and there to row `t / d % 128` of block `t / (128 d)`. Its slots are the 128 times
of the block before and the 128 times of its own. -/

/-- The time of slot `j`. -/
def kt (d t : ℕ) (j : Fin 256) : ℕ :=
  if j.val < 128 then t % d + d * (128 * (t / (128 * d) - 1) + j.val) else t % d + d * (128 * (t / (128 * d)) + (j.val - 128))

/-- Slot `j` is visible: later than the row in the block before, if there is one, up to the row in its own. -/
def vis (d t : ℕ) (j : Fin 256) : Prop :=
  if j.val < 128 then t / (128 * d) ≠ 0 ∧ t / d % 128 < j.val else j.val - 128 ≤ t / d % 128

instance (d t : ℕ) : DecidablePred (vis d t) := fun j => by unfold vis; infer_instance

/-- The sum of the exponentials of the visible scores, and the same sum weighted by the values. -/
def Wt (d t : ℕ) (s : ℕ → ℝ) : ℝ := ∑ j : Fin 256, if vis d t j then Real.exp (s (kt d t j)) else 0
def Ut (d t : ℕ) (s v : ℕ → ℝ) : ℝ := ∑ j : Fin 256, if vis d t j then Real.exp (s (kt d t j)) * v (kt d t j) else 0

/-- The row's own slot is visible. -/
theorem vis_own (d t : ℕ) : ∃ j, vis d t j := by
  have h : t / d % 128 < 128 := Nat.mod_lt _ (by decide)
  refine ⟨⟨128 + t / d % 128, by omega⟩, ?_⟩
  unfold vis
  dsimp only
  rw [if_neg (by omega)]
  omega

theorem Wt_pos (d t : ℕ) (s : ℕ → ℝ) : 0 < Wt d t s := by
  obtain ⟨j, hj⟩ := vis_own d t
  unfold Wt
  refine Finset.sum_pos' (fun i _ => ?_) ⟨j, Finset.mem_univ _, ?_⟩
  · split_ifs
    · exact (Real.exp_pos _).le
    · exact le_refl _
  · rw [if_pos hj]; exact Real.exp_pos _

/-- With no block before, the slots are the block's own. -/
theorem sum_own (d t : ℕ) (h : t / (128 * d) = 0) (f : ℕ → ℝ) :
    (∑ j : Fin 256, if vis d t j then f (kt d t j) else 0)
      = ∑ j : Fin 128, if j.val ≤ t / d % 128 then f (t % d + d * j.val) else 0 := by
  have e := Fin.sum_univ_add (a := 128) (b := 128) (fun j : Fin (128 + 128) => if vis d t j then f (kt d t j) else 0)
  refine e.trans ?_
  have z : ∑ i : Fin 128, (if vis d t (Fin.castAdd 128 i) then f (kt d t (Fin.castAdd 128 i)) else 0) = 0 := by
    refine Finset.sum_eq_zero fun i _ => if_neg ?_
    unfold vis
    rw [if_pos (show (Fin.castAdd 128 i).val < 128 from i.isLt)]
    exact fun x => x.1 h
  rw [z, zero_add]
  refine Finset.sum_congr rfl fun i _ => ?_
  have hi : (Fin.natAdd 128 i : Fin (128 + 128)).val = 128 + i.val := rfl
  have hk : kt d t (Fin.natAdd 128 i) = t % d + d * i.val := by
    unfold kt
    rw [hi, if_neg (by omega), h]
    congr 2; omega
  have hvi : vis d t (Fin.natAdd 128 i) ↔ i.val ≤ t / d % 128 := by
    unfold vis
    rw [hi, if_neg (by omega)]
    constructor <;> intro <;> omega
  rw [hk]
  exact if_congr hvi rfl rfl

theorem Wt_own (d t : ℕ) (h : t / (128 * d) = 0) (s : ℕ → ℝ) :
    Wt d t s = ∑ j : Fin 128, if j.val ≤ t / d % 128 then Real.exp (s (t % d + d * j.val)) else 0 :=
  sum_own d t h fun x => Real.exp (s x)

theorem Ut_own (d t : ℕ) (h : t / (128 * d) = 0) (s v : ℕ → ℝ) :
    Ut d t s v = ∑ j : Fin 128, if j.val ≤ t / d % 128 then Real.exp (s (t % d + d * j.val)) * v (t % d + d * j.val) else 0 :=
  sum_own d t h fun x => Real.exp (s x) * v x

/-! ## Slots in two halves -/

/-- A row over the 256 slots of time `t`, its values given for the block before and the block itself. -/
theorem Led.band (d t : ℕ) (s v : ℕ → ℝ) (S E : Fin 256 → EReal) (m : EReal)
    (hS : ∀ j, S j = if vis d t j then ((s (kt d t j) : ℝ) : EReal) else ⊥)
    (hm : m = (Finset.univ : Finset (Fin 256)).fold max ⊥ S) (hE : ∀ j, E j = Ideal.exp (S j - m)) (l : EReal) (hl : l = ∑ j, E j)
    (A B : Fin 128 → EReal)
    (hA : ∀ x : Fin 128, vis d t ⟨x.val, by omega⟩ → A x = ((v (kt d t ⟨x.val, by omega⟩) : ℝ) : EReal))
    (hB : ∀ x : Fin 128, vis d t ⟨128 + x.val, by omega⟩ → B x = ((v (kt d t ⟨128 + x.val, by omega⟩) : ℝ) : EReal)) :
    Led m l (∑ x : Fin 128, A x * E ⟨x.val, by omega⟩ + ∑ x : Fin 128, B x * E ⟨128 + x.val, by omega⟩)
      (Wt d t s) (Ut d t s v) := by
  have key := Led.row S (fun j => if h : j.val < 128 then A ⟨j.val, h⟩ else B ⟨j.val - 128, by omega⟩) (vis d t)
    (fun j => s (kt d t j)) (fun j => v (kt d t j)) (fun j h => by rw [hS, if_pos h]) (fun j h => by rw [hS, if_neg h]) (vis_own d t)
    (fun j h => by
      by_cases hj : j.val < 128
      · rw [dif_pos hj]; exact hA ⟨j.val, hj⟩ h
      · rw [dif_neg hj]
        have e : (⟨128 + (⟨j.val - 128, by omega⟩ : Fin 128).val, by omega⟩ : Fin 256) = j := Fin.ext (by dsimp only; omega)
        have := hB ⟨j.val - 128, by omega⟩ (by rw [e]; exact h)
        rw [e] at this
        exact this)
  rw [← hm] at key
  have e := Fin.sum_univ_add (a := 128) (b := 128) (fun j : Fin (128 + 128) =>
    Ideal.exp (S j - m) * (if h : j.val < 128 then A ⟨j.val, h⟩ else B ⟨j.val - 128, by omega⟩))
  have e' : (∑ x : Fin 128, A x * E ⟨x.val, by omega⟩ + ∑ x : Fin 128, B x * E ⟨128 + x.val, by omega⟩)
      = ∑ j : Fin 256, Ideal.exp (S j - m) * (if h : j.val < 128 then A ⟨j.val, h⟩ else B ⟨j.val - 128, by omega⟩) := by
    refine Eq.trans ?_ e.symm
    congr 1
    · refine Finset.sum_congr rfl fun x _ => ?_
      have hx : (Fin.castAdd 128 x : Fin (128 + 128)).val = x.val := rfl
      rw [dif_pos (by rw [hx]; exact x.isLt), hE, mul_comm]
      rfl
    · refine Finset.sum_congr rfl fun x _ => ?_
      have hx : (Fin.natAdd 128 x : Fin (128 + 128)).val = 128 + x.val := rfl
      have hx' : (⟨(Fin.natAdd 128 x : Fin (128 + 128)).val - 128, by omega⟩ : Fin 128) = x := Fin.ext (by dsimp only; omega)
      rw [dif_neg (by rw [hx]; omega), hx', hE, mul_comm]
      rfl
  rw [e', hl, Finset.sum_congr rfl fun j _ => hE j]
  exact key

end Cert.Proof
-- ==== Proof.KV.Blocks.lean ====
module

public import proofs.«01_k».proof.Proof.KV.Reads
public import proofs.«01_k».proof.Proof.Sums

@[expose] public section

set_option maxRecDepth 16384

noncomputable section

/-! What a block's maxima, sums and weighted values stand for, when its queries, keys and values are real numbers. -/

namespace Cert.Proof.KV

open Cert.KernelIdeal Cert.KernelIdeal.Facts₀ Cert.KernelIdeal.Facts Cert.Proof.KI
open Idealize.ShloMosaic Idealize.ShloMosaic.TcCoe Idealize.SL.Sem

/-- The scaled product of a query and a key over the lanes of `P`. -/
def dotP (P : Fin 128 → Prop) [DecidablePred P] (q k : Fin 128 → ℝ) : ℝ := (∑ x, if P x then q x * k x else 0) * (1 / 8)

/-- A head's score, its queries scaled first. -/
theorem headScore (hm : IVec S1x128 1) (P : Fin 128 → Prop) [DecidablePred P] (hP : ∀ x, hm (ix2 0 x) = bit (P x))
    (q : Vec Ideal S1x1x128x128 .f32) (r : Fin 128) (Q : Fin 128 → ℝ) (hQ : ∀ x, q (ix4 0 0 r x) = ((Q x : ℝ) : EReal))
    (k : Fin 128 → EReal) (K : Fin 128 → ℝ) (hK : ∀ x, k x = ((K x : ℝ) : EReal)) :
    (∑ x : Fin 128, (qhead hm q (ix2 r x) : EReal) * k x) = ((dotP P Q K : ℝ) : EReal) := by
  unfold dotP
  rw [Finset.sum_mul, coe_sum]
  refine Finset.sum_congr rfl fun x _ => ?_
  rw [qhead_apply, hP, select_bit, hQ, hK]
  by_cases h : P x
  · rw [if_pos h, if_pos h, ← EReal.coe_mul, ← EReal.coe_mul]
    congr 1; ring
  · rw [if_neg h, if_neg h, zero_mul, zero_mul, EReal.coe_zero]

/-- One head of a block against two blocks. -/
theorem led2 (mk : IVec S128x256 1) (hm : IVec S1x128 1) (P : Fin 128 → Prop) [DecidablePred P]
    (hP : ∀ x, hm (ix2 0 x) = bit (P x)) (q p k vp v : Vec Ideal S1x1x128x128 .f32) (r l : Fin 128)
    (vs : Fin 256 → Prop) [DecidablePred vs] (hvis : ∀ j, mk (ix2 r j) = bit (vs j)) (hv : ∃ j, vs j)
    (Q : Fin 128 → ℝ) (hQ : ∀ x, q (ix4 0 0 r x) = ((Q x : ℝ) : EReal)) (K V : Fin 256 → Fin 128 → ℝ)
    (hK : ∀ j x, krow2 p k (ix2 j x) = ((K j x : ℝ) : EReal)) (hV : ∀ j, krow2 vp v (ix2 j l) = ((V j l : ℝ) : EReal)) :
    Led (mx2 (sc2 mk hm q p k) (ix2 r 0)) (ls2 (sc2 mk hm q p k) (ix2 r 0)) (ac2 (sc2 mk hm q p k) vp v (ix2 r l))
      (∑ j, if vs j then Real.exp (dotP P Q (K j)) else 0)
      (∑ j, if vs j then Real.exp (dotP P Q (K j)) * V j l else 0) := by
  rw [ls2_apply, ac2_apply, mx2_apply]
  refine Led.row (fun j => sc2 mk hm q p k (ix2 r j)) (fun j => krow2 vp v (ix2 j l)) vs (fun j => dotP P Q (K j))
    (fun j => V j l) (fun j h => ?_) (fun j h => ?_) hv (fun j _ => hV j)
  · show sc2 mk hm q p k (ix2 r j) = _
    rw [sc2_apply, hvis, select_bit, if_pos h]
    exact headScore hm P hP q r Q hQ _ (K j) (hK j)
  · show sc2 mk hm q p k (ix2 r j) = _
    rw [sc2_apply, hvis, select_bit, if_neg h]

/-- One head of a block against itself. -/
theorem led1 (hm : IVec S1x128 1) (P : Fin 128 → Prop) [DecidablePred P]
    (hP : ∀ x, hm (ix2 0 x) = bit (P x)) (q k v : Vec Ideal S1x1x128x128 .f32) (r l : Fin 128)
    (Q : Fin 128 → ℝ) (hQ : ∀ x, q (ix4 0 0 r x) = ((Q x : ℝ) : EReal)) (K V : Fin 128 → Fin 128 → ℝ)
    (hK : ∀ j x, krow k (ix2 j x) = ((K j x : ℝ) : EReal)) (hV : ∀ j, krow v (ix2 j l) = ((V j l : ℝ) : EReal)) :
    Led (mx1 (sc1 hm q k) (ix2 r 0)) (ls1 (sc1 hm q k) (ix2 r 0)) (ac1 (sc1 hm q k) v (ix2 r l))
      (∑ j : Fin 128, if j.val ≤ r.val then Real.exp (dotP P Q (K j)) else 0)
      (∑ j : Fin 128, if j.val ≤ r.val then Real.exp (dotP P Q (K j)) * V j l else 0) := by
  rw [ls1_apply, ac1_apply, mx1_apply]
  refine Led.row (fun j => sc1 hm q k (ix2 r j)) (fun j => krow v (ix2 j l)) (fun j : Fin 128 => j.val ≤ r.val) (fun j => dotP P Q (K j))
    (fun j => V j l) (fun j h => ?_) (fun j h => ?_) ⟨r, le_refl _⟩ (fun j _ => hV j)
  · show sc1 hm q k (ix2 r j) = _
    rw [sc1_apply, pay2_apply, select_bit, if_pos h]
    exact headScore hm P hP q r Q hQ _ (K j) (hK j)
  · show sc1 hm q k (ix2 r j) = _
    rw [sc1_apply, pay2_apply, select_bit, if_neg h]

/-- The scaled product over the lanes of lane `l`'s head. -/
def dotH (l : Fin 128) (q k : Fin 128 → ℝ) : ℝ := dotP (fun x => x.val / 64 = l.val / 64) q k

theorem dotP_congr (P P' : Fin 128 → Prop) [DecidablePred P] [DecidablePred P'] (h : ∀ x, P x ↔ P' x) (q k : Fin 128 → ℝ) :
    dotP P q k = dotP P' q k := by
  unfold dotP
  congr 1
  exact Finset.sum_congr rfl fun x _ => if_congr (h x) rfl rfl

theorem dotH_lo (l : Fin 128) (h : l.val < 64) : dotP (fun x => x.val < 64) = dotH l := by
  funext q k
  refine dotP_congr _ _ (fun x => ?_) q k
  constructor <;> intro <;> omega

theorem dotH_hi (l : Fin 128) (h : ¬ l.val < 64) : dotP (fun x => ¬ x.val < 64) = dotH l := by
  funext q k
  refine dotP_congr _ _ (fun x => ?_) q k
  constructor <;> intro <;> omega

/-- A block against two blocks, at a row and a lane. -/
theorem blk2 (mk : IVec S128x256 1) (q p k vp v : Vec Ideal S1x1x128x128 .f32) (r l : Fin 128)
    (vs : Fin 256 → Prop) [DecidablePred vs] (hvis : ∀ j, mk (ix2 r j) = bit (vs j)) (hv : ∃ j, vs j)
    (Q : Fin 128 → ℝ) (hQ : ∀ x, q (ix4 0 0 r x) = ((Q x : ℝ) : EReal)) (K V : Fin 256 → Fin 128 → ℝ)
    (hK : ∀ j x, krow2 p k (ix2 j x) = ((K j x : ℝ) : EReal)) (hV : ∀ j, krow2 vp v (ix2 j l) = ((V j l : ℝ) : EReal)) :
    Led (bM2 mk q p k (ix2 r l)) (bL2 mk q p k (ix2 r l)) (bA2 mk q p k vp v (ix2 r l))
      (∑ j, if vs j then Real.exp (dotH l Q (K j)) else 0)
      (∑ j, if vs j then Real.exp (dotH l Q (K j)) * V j l else 0) := by
  unfold bM2 bL2
  rw [spread_apply, spread_apply, bA2_apply, pay1_apply, select_bit, select_bit, select_bit]
  by_cases h : l.val < 64
  · simp only [if_pos h]
    rw [← dotH_lo l h]
    exact led2 mk Gen.k0_pay1 (fun x => x.val < 64) (pay1_apply 0) q p k vp v r l vs hvis hv Q hQ K V hK hV
  · simp only [if_neg h]
    rw [← dotH_hi l h]
    exact led2 mk Gen.k0_pay4 (fun x => ¬ x.val < 64) (pay4_apply 0) q p k vp v r l vs hvis hv Q hQ K V hK hV

/-- A block against itself, at a row and a lane. -/
theorem blk1 (q k v : Vec Ideal S1x1x128x128 .f32) (r l : Fin 128)
    (Q : Fin 128 → ℝ) (hQ : ∀ x, q (ix4 0 0 r x) = ((Q x : ℝ) : EReal)) (K V : Fin 128 → Fin 128 → ℝ)
    (hK : ∀ j x, krow k (ix2 j x) = ((K j x : ℝ) : EReal)) (hV : ∀ j, krow v (ix2 j l) = ((V j l : ℝ) : EReal)) :
    Led (bM1 q k (ix2 r l)) (bL1 q k (ix2 r l)) (bA1 q k v (ix2 r l))
      (∑ j : Fin 128, if j.val ≤ r.val then Real.exp (dotH l Q (K j)) else 0)
      (∑ j : Fin 128, if j.val ≤ r.val then Real.exp (dotH l Q (K j)) * V j l else 0) := by
  unfold bM1 bL1
  rw [spread_apply, spread_apply, bA1_apply, pay1_apply, select_bit, select_bit, select_bit]
  by_cases h : l.val < 64
  · simp only [if_pos h]
    rw [← dotH_lo l h]
    exact led1 Gen.k0_pay1 (fun x => x.val < 64) (pay1_apply 0) q k v r l Q hQ K V hK hV
  · simp only [if_neg h]
    rw [← dotH_hi l h]
    exact led1 Gen.k0_pay4 (fun x => ¬ x.val < 64) (pay4_apply 0) q k v r l Q hQ K V hK hV

/-! ## The blocks of a dilated band -/

/-- Row `r` of block `nb` of class `c` is time `c + d (128 nb + r)`. -/
theorem time_mod (d c x : ℕ) (hc : c < d) : (c + d * x) % d = c := by
  rw [Nat.add_mul_mod_self_left, Nat.mod_eq_of_lt hc]
theorem time_div (d c x : ℕ) (hc : c < d) : (c + d * x) / d = x := by
  rw [Nat.add_mul_div_left _ _ (by omega), Nat.div_eq_of_lt hc, zero_add]
theorem time_blk (d c nb r : ℕ) (hc : c < d) (hr : r < 128) : (c + d * (128 * nb + r)) / (128 * d) = nb := by
  rw [Nat.mul_comm 128 d, ← Nat.div_div_eq_div_mul, time_div d c _ hc]
  omega
theorem time_row (d c nb r : ℕ) (hc : c < d) (hr : r < 128) : (c + d * (128 * nb + r)) / d % 128 = r := by
  rw [time_div d c _ hc]
  omega

/-- The score of time `t` against time `u`, in the head of lane `l`. -/
def scr (Q K : ℕ → Fin 128 → ℝ) (l : Fin 128) (t u : ℕ) : ℝ := dotH l (Q t) (K u)

variable (Qa Ka Va : A4 Ideal) (Q K V : ℕ → Fin 128 → ℝ) (hQ : ∀ t x, Qa (at4 t x) = ((Q t x : ℝ) : EReal))
  (hK : ∀ t x, Ka (at4 t x) = ((K t x : ℝ) : EReal)) (hV : ∀ t x, Va (at4 t x) = ((V t x : ℝ) : EReal))

/-- The two blocks of keys or values that a row sees, slot by slot. -/
theorem slots (A : A4 Ideal) (R : ℕ → Fin 128 → ℝ) (h : ∀ t x, A (at4 t x) = ((R t x : ℝ) : EReal)) (d c nb : ℕ) (r : Fin 128)
    (hc : c < d) (op oo : ℕ) (ho : oo = c + d * (128 * nb)) (hp : op = c + d * (128 * (nb - 1))) (j : Fin 256) (x : Fin 128) :
    krow2 (rows4 A op d) (rows4 A oo d) (ix2 j x) = ((R (kt d (c + d * (128 * nb + r.val)) j) x : ℝ) : EReal) := by
  rw [krow2_apply]
  unfold kt
  rw [time_mod d c _ hc, time_blk d c nb r.val hc r.isLt]
  by_cases hj : j.val < 128
  · rw [dif_pos hj, if_pos hj]
    show A (at4 (op + d * j.val) x) = _
    rw [h, hp]
    congr 2; ring
  · rw [dif_neg hj, if_neg hj]
    show A (at4 (oo + d * (j.val - 128)) x) = _
    rw [h, ho]
    congr 2; ring

include hQ hK hV in
/-- A block with one before it, or whose slots before are masked. -/
theorem band2 (p : Prop) [Decidable p] (d c nb : ℕ) (hc : c < d) (hp : p ↔ nb ≠ 0) (op oo : ℕ) (ho : oo = c + d * (128 * nb))
    (hop : op = c + d * (128 * (nb - 1))) (r l : Fin 128) :
    Led (bM2 (mask2 (bit p)) (rows4 Qa oo d) (rows4 Ka op d) (rows4 Ka oo d) (ix2 r l))
      (bL2 (mask2 (bit p)) (rows4 Qa oo d) (rows4 Ka op d) (rows4 Ka oo d) (ix2 r l))
      (bA2 (mask2 (bit p)) (rows4 Qa oo d) (rows4 Ka op d) (rows4 Ka oo d) (rows4 Va op d) (rows4 Va oo d) (ix2 r l))
      (Wt d (c + d * (128 * nb + r.val)) (scr Q K l (c + d * (128 * nb + r.val))))
      (Ut d (c + d * (128 * nb + r.val)) (scr Q K l (c + d * (128 * nb + r.val))) fun u => V u l) := by
  refine blk2 (mask2 (bit p)) _ _ _ _ _ r l (vis d (c + d * (128 * nb + r.val))) (fun j => ?_) (vis_own _ _)
    (Q (c + d * (128 * nb + r.val))) (fun x => ?_) (fun j => K (kt d (c + d * (128 * nb + r.val)) j))
    (fun j => V (kt d (c + d * (128 * nb + r.val)) j)) (fun j x => slots Ka K hK d c nb r hc op oo ho hop j x)
    (fun j => slots Va V hV d c nb r hc op oo ho hop j l)
  · rw [mask2_apply]
    refine bit_congr ?_
    unfold vis
    rw [time_blk d c nb r.val hc r.isLt, time_row d c nb r.val hc r.isLt]
    by_cases hj : j.val < 128
    · rw [if_pos hj, if_pos hj, hp]
    · rw [if_neg hj, if_neg hj]
  · show Qa (at4 (oo + d * r.val) x) = _
    rw [hQ, ho]
    congr 2; ring

include hQ hK hV in
/-- A first block, against itself. -/
theorem band1 (d c : ℕ) (hc : c < d) (r l : Fin 128) :
    Led (bM1 (rows4 Qa c d) (rows4 Ka c d) (ix2 r l)) (bL1 (rows4 Qa c d) (rows4 Ka c d) (ix2 r l))
      (bA1 (rows4 Qa c d) (rows4 Ka c d) (rows4 Va c d) (ix2 r l))
      (Wt d (c + d * r.val) (scr Q K l (c + d * r.val))) (Ut d (c + d * r.val) (scr Q K l (c + d * r.val)) fun u => V u l) := by
  have e : c + d * r.val = c + d * (128 * 0 + r.val) := by rw [mul_zero, zero_add]
  have hb : (c + d * r.val) / (128 * d) = 0 := by rw [e, time_blk d c 0 r.val hc r.isLt]
  have hr : (c + d * r.val) / d % 128 = r.val := by
    conv_lhs => rw [e]
    exact time_row d c 0 r.val hc r.isLt
  rw [Wt_own d _ hb, Ut_own d _ hb, hr, time_mod d c _ hc]
  exact blk1 _ _ _ r l (Q (c + d * r.val)) (fun x => hQ _ x) (fun j => K (c + d * j.val)) (fun j => V (c + d * j.val))
    (fun j x => by rw [krow_apply]; exact hK _ x) (fun j => by rw [krow_apply]; exact hV _ l)

end Cert.Proof.KV

end
-- ==== Proof.KV.Out.lean ====
module

public import proofs.«01_k».proof.Proof.KV.Blocks
public import proofs.«01_k».proof.Proof.KI.Body

@[expose] public section

set_option maxRecDepth 16384

noncomputable section

/-! The kernel's result for one pair of heads: at each time and lane, the weighted mean of the values over the slots of
all three groups. -/

namespace Cert.Proof.KV

open Cert.KernelIdeal Cert.KernelIdeal.Facts₀ Cert.KernelIdeal.Facts Cert.Proof.KI
open Idealize.ShloMosaic Idealize.ShloMosaic.TcCoe Idealize.SL.Sem

/-- An array's numbers, time by time. -/
def real (A : A4 Ideal) (t : ℕ) (x : Fin 128) : ℝ := EReal.toReal (A (at4 t x))

/-- Every number of the array is real. -/
def IsReal (A : A4 Ideal) : Prop := ∀ t x, A (at4 t x) = ((real A t x : ℝ) : EReal)

theorem spr1_at (g : ℕ → FVec Ideal S128x128 .f32) (t : ℕ) (ht : t < 2048) (l : Fin 128) :
    spr1 g (at2 t l) = g (t / 128) (ix2 ⟨t % 128, Nat.mod_lt _ (by decide)⟩ l) := by
  have e : t % 2048 = t := Nat.mod_eq_of_lt ht
  rw [ix2_eq_valueIdx]
  show g (t % 2048 / 128) (ValueIdx.ix2 ⟨t % 2048 % 128, _⟩ l) = _
  simp only [e]

theorem spr2_at (g : ℕ → ℕ → FVec Ideal S128x128 .f32) (t : ℕ) (ht : t < 2048) (l : Fin 128) :
    spr2 g (at2 t l) = g (t % 4) (t / 512) (ix2 ⟨t / 4 % 128, Nat.mod_lt _ (by decide)⟩ l) := by
  have e : t % 2048 = t := Nat.mod_eq_of_lt ht
  rw [ix2_eq_valueIdx]
  show g (t % 2048 % 4) (t % 2048 / 512) (ValueIdx.ix2 ⟨t % 2048 / 4 % 128, _⟩ l) = _
  simp only [e]

theorem spr3_at (g : ℕ → FVec Ideal S1x1x128x128 .f32) (t : ℕ) (ht : t < 2048) (l : Fin 128) :
    spr3 g (at4 t l) = g (t % 16) (ix4 (0 : Fin 1) (0 : Fin 1) ⟨t / 16 % 128, Nat.mod_lt _ (by decide)⟩ l) := by
  have e : t % 2048 = t := Nat.mod_eq_of_lt ht
  rw [ix4_eq_valueIdx]
  show g (t % 2048 % 16) (ValueIdx.ix4 0 0 ⟨t % 2048 / 16 % 128, _⟩ l) = _
  simp only [e]

variable (q0 q1 q2 k0 k1 k2 v0 v1 v2 : A4 Ideal)

/-- After group 0. -/
theorem led_g0 (hq : IsReal q0) (hk : IsReal k0) (hv : IsReal v0) (t : ℕ) (ht : t < 2048) (l : Fin 128) :
    Led (m1 q0 k0 (at2 t l)) (l1 q0 k0 (at2 t l)) (a1 q0 k0 v0 (at2 t l))
      (Wt 1 t (scr (real q0) (real k0) l t)) (Ut 1 t (scr (real q0) (real k0) l t) fun u => real v0 u l) := by
  have key := band2 q0 k0 v0 (real q0) (real k0) (real v0) hq hk hv (t / 128 ≠ 0) 1 0 (t / 128) (by decide) Iff.rfl
    (128 * (t / 128 - 1)) (128 * (t / 128)) (by omega) (by omega) ⟨t % 128, Nat.mod_lt _ (by decide)⟩ l
  have et : 0 + 1 * (128 * (t / 128) + (⟨t % 128, Nat.mod_lt _ (by decide)⟩ : Fin 128).val) = t := by
    show 0 + 1 * (128 * (t / 128) + t % 128) = t; omega
  have eb : (if t / 128 = 0 then 0#1 else 1#1) = bit (t / 128 ≠ 0) := by
    unfold bit
    by_cases h : t / 128 = 0 <;> simp [h]
  rw [et] at key
  unfold m1 l1 a1
  rw [spr1_at _ t ht l, spr1_at _ t ht l, spr1_at _ t ht l]
  unfold g1M g1L g1A
  rw [sto_apply, sto_apply, sto_apply, eb]
  exact key

/-- Group 1's own numbers. -/
theorem led_g1 (hq : IsReal q1) (hk : IsReal k1) (hv : IsReal v1) (t : ℕ) (l : Fin 128) :
    Led (g2bM q1 k1 (t % 4) (t / 512) (ix2 ⟨t / 4 % 128, Nat.mod_lt _ (by decide)⟩ l))
      (g2bL q1 k1 (t % 4) (t / 512) (ix2 ⟨t / 4 % 128, Nat.mod_lt _ (by decide)⟩ l))
      (g2bA q1 k1 v1 (t % 4) (t / 512) (ix2 ⟨t / 4 % 128, Nat.mod_lt _ (by decide)⟩ l))
      (Wt 4 t (scr (real q1) (real k1) l t)) (Ut 4 t (scr (real q1) (real k1) l t) fun u => real v1 u l) := by
  have hc : t % 4 < 4 := Nat.mod_lt _ (by decide)
  unfold g2bM g2bL g2bA
  by_cases h : t / 512 = 0
  · simp only [if_pos h]
    have key := band1 q1 k1 v1 (real q1) (real k1) (real v1) hq hk hv 4 (t % 4) hc ⟨t / 4 % 128, Nat.mod_lt _ (by decide)⟩ l
    have et : t % 4 + 4 * (⟨t / 4 % 128, Nat.mod_lt _ (by decide)⟩ : Fin 128).val = t := by
      show t % 4 + 4 * (t / 4 % 128) = t; omega
    rw [et] at key
    exact key
  · simp only [if_neg h]
    have key := band2 q1 k1 v1 (real q1) (real k1) (real v1) hq hk hv True 4 (t % 4) (t / 512) hc (iff_of_true trivial h)
      (t % 4 + 512 * (t / 512 - 1)) (t % 4 + 512 * (t / 512)) (by omega) (by omega) ⟨t / 4 % 128, Nat.mod_lt _ (by decide)⟩ l
    have et : t % 4 + 4 * (128 * (t / 512) + (⟨t / 4 % 128, Nat.mod_lt _ (by decide)⟩ : Fin 128).val) = t := by
      show t % 4 + 4 * (128 * (t / 512) + t / 4 % 128) = t; omega
    rw [et, show bit True = 1#1 from if_pos trivial, mask2_one] at key
    exact key

/-- After group 1. -/
theorem led_g01 (hq0 : IsReal q0) (hk0 : IsReal k0) (hv0 : IsReal v0) (hq1 : IsReal q1) (hk1 : IsReal k1) (hv1 : IsReal v1)
    (t : ℕ) (ht : t < 2048) (l : Fin 128) :
    Led (m2 q0 k0 q1 k1 (at2 t l)) (l2 q0 k0 q1 k1 (at2 t l)) (a2 q0 k0 v0 q1 k1 v1 (at2 t l))
      (Wt 1 t (scr (real q0) (real k0) l t) + Wt 4 t (scr (real q1) (real k1) l t))
      ((Ut 1 t (scr (real q0) (real k0) l t) fun u => real v0 u l) + Ut 4 t (scr (real q1) (real k1) l t) fun u => real v1 u l) := by
  have key := (led_g0 q0 k0 v0 hq0 hk0 hv0 t ht l).merge (led_g1 q1 k1 v1 hq1 hk1 hv1 t l)
  have et : t % 4 + 512 * (t / 512) + 4 * (t / 4 % 128) = t := by omega
  have er : ∀ A : A2 Ideal, rows2 A (t % 4 + 512 * (t / 512)) 4 (ix2 ⟨t / 4 % 128, Nat.mod_lt _ (by decide)⟩ l) = A (at2 t l) := by
    intro A
    show A (at2 (t % 4 + 512 * (t / 512) + 4 * (t / 4 % 128)) l) = _
    rw [et]
  unfold m2 l2 a2
  rw [spr2_at _ t ht l, spr2_at _ t ht l, spr2_at _ t ht l]
  unfold g2M g2L g2A
  rw [sto_apply, sto_apply, sto_apply, mgM_apply, mgS_apply, mgS_apply, er, er, er]
  exact key

/-- Group 2's own numbers. -/
theorem led_g2 (hq : IsReal q2) (hk : IsReal k2) (hv : IsReal v2) (t : ℕ) (ht : t < 2048) (l : Fin 128) :
    Led (bM1 (rows4 q2 (t % 16) 16) (rows4 k2 (t % 16) 16) (ix2 ⟨t / 16 % 128, Nat.mod_lt _ (by decide)⟩ l))
      (bL1 (rows4 q2 (t % 16) 16) (rows4 k2 (t % 16) 16) (ix2 ⟨t / 16 % 128, Nat.mod_lt _ (by decide)⟩ l))
      (bA1 (rows4 q2 (t % 16) 16) (rows4 k2 (t % 16) 16) (rows4 v2 (t % 16) 16) (ix2 ⟨t / 16 % 128, Nat.mod_lt _ (by decide)⟩ l))
      (Wt 16 t (scr (real q2) (real k2) l t)) (Ut 16 t (scr (real q2) (real k2) l t) fun u => real v2 u l) := by
  have key := band1 q2 k2 v2 (real q2) (real k2) (real v2) hq hk hv 16 (t % 16) (Nat.mod_lt _ (by decide))
    ⟨t / 16 % 128, Nat.mod_lt _ (by decide)⟩ l
  have et : t % 16 + 16 * (⟨t / 16 % 128, Nat.mod_lt _ (by decide)⟩ : Fin 128).val = t := by
    show t % 16 + 16 * (t / 16 % 128) = t; omega
  rw [et] at key
  exact key

/-- The kernel's result. -/
theorem outF_at (hq0 : IsReal q0) (hq1 : IsReal q1) (hq2 : IsReal q2) (hk0 : IsReal k0) (hk1 : IsReal k1) (hk2 : IsReal k2)
    (hv0 : IsReal v0) (hv1 : IsReal v1) (hv2 : IsReal v2) (t : ℕ) (ht : t < 2048) (l : Fin 128) :
    outF q0 q1 q2 k0 k1 k2 v0 v1 v2 (at4 t l)
      = ((((Ut 1 t (scr (real q0) (real k0) l t) fun u => real v0 u l) + (Ut 4 t (scr (real q1) (real k1) l t) fun u => real v1 u l)
            + Ut 16 t (scr (real q2) (real k2) l t) fun u => real v2 u l)
          / (Wt 1 t (scr (real q0) (real k0) l t) + Wt 4 t (scr (real q1) (real k1) l t) + Wt 16 t (scr (real q2) (real k2) l t)) : ℝ) : EReal) := by
  have key := ((led_g01 q0 q1 k0 k1 v0 v1 hq0 hk0 hv0 hq1 hk1 hv1 t ht l).merge (led_g2 q2 k2 v2 hq2 hk2 hv2 t ht l)).quot
    (add_pos (add_pos (Wt_pos _ _ _) (Wt_pos _ _ _)) (Wt_pos _ _ _))
  have et : t % 16 + 16 * (t / 16 % 128) = t := by omega
  have er : ∀ A : A2 Ideal, rows2 A (t % 16) 16 (ix2 ⟨t / 16 % 128, Nat.mod_lt _ (by decide)⟩ l) = A (at2 t l) := by
    intro A
    show A (at2 (t % 16 + 16 * (t / 16 % 128)) l) = _
    rw [et]
  unfold outF
  rw [spr3_at _ t ht l]
  unfold g3O
  rw [stoDiv_apply, mgS_apply, mgS_apply, er, er, er]
  exact key

end Cert.Proof.KV

end
-- ==== Proof.KV.Host.lean ====
module

public import proofs.«01_k».proof.Proof.KI.Run
public import proofs.«01_k».proof.Proof.KV.Out
public import Idealize.ShloMosaic.Lib.Pipeline.Value
public import Idealize.ShloMosaic.Lib.Pointwise
public import Idealize.ShloMosaic.Lib.Tactic.CleanTypes
public import Idealize.ShloMosaic.Lib.Tactic.IndexArith
public import Idealize.ShloMosaic.Lib.KernelVsHost

@[expose] public section

set_option maxRecDepth 16384

noncomputable section

/-! The kernel's arrays before the call: the arguments, laid out by pairs of heads. -/

namespace Cert.Proof.KV

open Cert.KernelIdeal
open Idealize.ShloMosaic Idealize.ShloMosaic.TcCoe Idealize.SL.Sem
open Cert.KernelIdeal.Gen

variable (m : (ℓ : Loc nD τ sig) → Buf (Elt Ideal) ℓ)

theorem arr0_eq (c : Dev nD) : V m c main_v1
    = transpose S8x32x2048x128 [0, 2, 1, 3] (shapeCast S8x2048x32x128 (m ((c : Thread nD τ).loc main_arg0)) shapeCasts_S8x2048x4096_S8x2048x32x128)
        transposes_S8x2048x32x128_S8x32x2048x128_0_2_1_3 := by
  simp only [V, hostOps0]
  after_results_simp
  rfl

theorem arr1_eq (c : Dev nD) : V m c main_v3
    = transpose S8x48x2048x128 [0, 2, 1, 3] (shapeCast S8x2048x48x128 (m ((c : Thread nD τ).loc main_arg1)) shapeCasts_S8x2048x6144_S8x2048x48x128)
        transposes_S8x2048x48x128_S8x48x2048x128_0_2_1_3 := by
  simp only [V, hostOps0]
  after_results_simp
  rfl

theorem lay0 (X : (⟨S8x2048x4096, .f32⟩ : BufTy).Contents (Elt Ideal)) (b : Fin 8) (n : Fin 32) (u : Fin 2048) (l : Fin 128) :
    (transpose S8x32x2048x128 [0, 2, 1, 3] (shapeCast S8x2048x32x128 X shapeCasts_S8x2048x4096_S8x2048x32x128)
        transposes_S8x2048x32x128_S8x32x2048x128_0_2_1_3 : (⟨S8x32x2048x128, .f32⟩ : BufTy).Contents (Elt Ideal)) (ValueIdx.ix4 b n u l)
      = X (ix3 b u ⟨n.val * 128 + l.val, by omega⟩) := by
  rw [← ix4_eq_valueIdx]
  clean_types
  pointwise

theorem lay1 (X : (⟨S8x2048x6144, .f32⟩ : BufTy).Contents (Elt Ideal)) (b : Fin 8) (n : Fin 48) (u : Fin 2048) (l : Fin 128) :
    (transpose S8x48x2048x128 [0, 2, 1, 3] (shapeCast S8x2048x48x128 X shapeCasts_S8x2048x6144_S8x2048x48x128)
        transposes_S8x2048x48x128_S8x48x2048x128_0_2_1_3 : (⟨S8x48x2048x128, .f32⟩ : BufTy).Contents (Elt Ideal)) (ValueIdx.ix4 b n u l)
      = X (ix3 b u ⟨n.val * 128 + l.val, by omega⟩) := by
  rw [← ix4_eq_valueIdx]
  clean_types
  pointwise

end Cert.Proof.KV

end
-- ==== Proof.KV.Windows.lean ====
module

public import proofs.«01_k».proof.Proof.KI.Run
public import proofs.«01_k».proof.Proof.KV.Out
public import Idealize.ShloMosaic.Lib.Pipeline.Value
public import Idealize.ShloMosaic.Lib.Pointwise
public import Idealize.ShloMosaic.Lib.Tactic.CleanTypes
public import Idealize.ShloMosaic.Lib.Tactic.IndexArith
public import Idealize.ShloMosaic.Lib.KernelVsHost

@[expose] public section

set_option maxRecDepth 16384

noncomputable section

/-! The blocks of the kernel's windows. -/

namespace Cert.Proof.KV

open Cert.KernelIdeal Cert.KernelIdeal.Facts₀ Cert.KernelIdeal.Facts
open Idealize.ShloMosaic Idealize.ShloMosaic.TcCoe Idealize.SL.Sem
open Cert.KernelIdeal.Gen Cert.Proof.KI

/-- The batch row of grid point `t`. -/
def batch (t : Fin cfg0.N) : Fin 8 := ⟨t.val / 8, by have h := t.isLt; have e : cfg0.N = 64 := N_0; omega⟩

theorem index0 : ∀ t : Fin grid0.N, win0_0.index t = ![t.val / 8, 0 + t.val % 8, 0, 0] := by decide +kernel

theorem emb0 (t : Fin cfg0.N) (u : ℕ) (l : Fin 128) :
    (win0_0.blk t).view.emb (at4 u l)
      = ValueIdx.ix4 (batch t) (⟨0 + t.val % 8, by omega⟩ : Fin 32)
          ⟨u % 2048, Nat.mod_lt _ (by decide)⟩ l := by
  refine funext fun a => Fin.ext ?_
  have e := index0 t
  match a with
  | ⟨0, _⟩ =>
    show win0_0.index t 0 * 1 + 1 * 0 = t.val / 8
    rw [e]; show t.val / 8 * 1 + 1 * 0 = _; omega
  | ⟨1, _⟩ =>
    show win0_0.index t 1 * 1 + 1 * 0 = 0 + t.val % 8
    rw [e]; show (0 + t.val % 8) * 1 + 1 * 0 = _; omega
  | ⟨2, _⟩ =>
    show win0_0.index t 2 * 2048 + 1 * (u % 2048) = u % 2048
    rw [e]; show 0 * 2048 + 1 * (u % 2048) = _; omega
  | ⟨3, _⟩ =>
    show win0_0.index t 3 * 128 + 1 * l.val = l.val
    rw [e]; show 0 * 128 + 1 * l.val = _; omega

theorem index1 : ∀ t : Fin grid0.N, win0_1.index t = ![t.val / 8, 8 + t.val % 8, 0, 0] := by decide +kernel

theorem emb1 (t : Fin cfg0.N) (u : ℕ) (l : Fin 128) :
    (win0_1.blk t).view.emb (at4 u l)
      = ValueIdx.ix4 (batch t) (⟨8 + t.val % 8, by omega⟩ : Fin 32)
          ⟨u % 2048, Nat.mod_lt _ (by decide)⟩ l := by
  refine funext fun a => Fin.ext ?_
  have e := index1 t
  match a with
  | ⟨0, _⟩ =>
    show win0_1.index t 0 * 1 + 1 * 0 = t.val / 8
    rw [e]; show t.val / 8 * 1 + 1 * 0 = _; omega
  | ⟨1, _⟩ =>
    show win0_1.index t 1 * 1 + 1 * 0 = 8 + t.val % 8
    rw [e]; show (8 + t.val % 8) * 1 + 1 * 0 = _; omega
  | ⟨2, _⟩ =>
    show win0_1.index t 2 * 2048 + 1 * (u % 2048) = u % 2048
    rw [e]; show 0 * 2048 + 1 * (u % 2048) = _; omega
  | ⟨3, _⟩ =>
    show win0_1.index t 3 * 128 + 1 * l.val = l.val
    rw [e]; show 0 * 128 + 1 * l.val = _; omega

theorem index2 : ∀ t : Fin grid0.N, win0_2.index t = ![t.val / 8, 16 + t.val % 8, 0, 0] := by decide +kernel

theorem emb2 (t : Fin cfg0.N) (u : ℕ) (l : Fin 128) :
    (win0_2.blk t).view.emb (at4 u l)
      = ValueIdx.ix4 (batch t) (⟨16 + t.val % 8, by omega⟩ : Fin 32)
          ⟨u % 2048, Nat.mod_lt _ (by decide)⟩ l := by
  refine funext fun a => Fin.ext ?_
  have e := index2 t
  match a with
  | ⟨0, _⟩ =>
    show win0_2.index t 0 * 1 + 1 * 0 = t.val / 8
    rw [e]; show t.val / 8 * 1 + 1 * 0 = _; omega
  | ⟨1, _⟩ =>
    show win0_2.index t 1 * 1 + 1 * 0 = 16 + t.val % 8
    rw [e]; show (16 + t.val % 8) * 1 + 1 * 0 = _; omega
  | ⟨2, _⟩ =>
    show win0_2.index t 2 * 2048 + 1 * (u % 2048) = u % 2048
    rw [e]; show 0 * 2048 + 1 * (u % 2048) = _; omega
  | ⟨3, _⟩ =>
    show win0_2.index t 3 * 128 + 1 * l.val = l.val
    rw [e]; show 0 * 128 + 1 * l.val = _; omega

theorem index3 : ∀ t : Fin grid0.N, win0_3.index t = ![t.val / 8, 0 + t.val % 8, 0, 0] := by decide +kernel

theorem emb3 (t : Fin cfg0.N) (u : ℕ) (l : Fin 128) :
    (win0_3.blk t).view.emb (at4 u l)
      = ValueIdx.ix4 (batch t) (⟨0 + t.val % 8, by omega⟩ : Fin 48)
          ⟨u % 2048, Nat.mod_lt _ (by decide)⟩ l := by
  refine funext fun a => Fin.ext ?_
  have e := index3 t
  match a with
  | ⟨0, _⟩ =>
    show win0_3.index t 0 * 1 + 1 * 0 = t.val / 8
    rw [e]; show t.val / 8 * 1 + 1 * 0 = _; omega
  | ⟨1, _⟩ =>
    show win0_3.index t 1 * 1 + 1 * 0 = 0 + t.val % 8
    rw [e]; show (0 + t.val % 8) * 1 + 1 * 0 = _; omega
  | ⟨2, _⟩ =>
    show win0_3.index t 2 * 2048 + 1 * (u % 2048) = u % 2048
    rw [e]; show 0 * 2048 + 1 * (u % 2048) = _; omega
  | ⟨3, _⟩ =>
    show win0_3.index t 3 * 128 + 1 * l.val = l.val
    rw [e]; show 0 * 128 + 1 * l.val = _; omega

theorem index4 : ∀ t : Fin grid0.N, win0_4.index t = ![t.val / 8, 8 + t.val % 8, 0, 0] := by decide +kernel

theorem emb4 (t : Fin cfg0.N) (u : ℕ) (l : Fin 128) :
    (win0_4.blk t).view.emb (at4 u l)
      = ValueIdx.ix4 (batch t) (⟨8 + t.val % 8, by omega⟩ : Fin 48)
          ⟨u % 2048, Nat.mod_lt _ (by decide)⟩ l := by
  refine funext fun a => Fin.ext ?_
  have e := index4 t
  match a with
  | ⟨0, _⟩ =>
    show win0_4.index t 0 * 1 + 1 * 0 = t.val / 8
    rw [e]; show t.val / 8 * 1 + 1 * 0 = _; omega
  | ⟨1, _⟩ =>
    show win0_4.index t 1 * 1 + 1 * 0 = 8 + t.val % 8
    rw [e]; show (8 + t.val % 8) * 1 + 1 * 0 = _; omega
  | ⟨2, _⟩ =>
    show win0_4.index t 2 * 2048 + 1 * (u % 2048) = u % 2048
    rw [e]; show 0 * 2048 + 1 * (u % 2048) = _; omega
  | ⟨3, _⟩ =>
    show win0_4.index t 3 * 128 + 1 * l.val = l.val
    rw [e]; show 0 * 128 + 1 * l.val = _; omega

theorem index5 : ∀ t : Fin grid0.N, win0_5.index t = ![t.val / 8, 16 + t.val % 8, 0, 0] := by decide +kernel

theorem emb5 (t : Fin cfg0.N) (u : ℕ) (l : Fin 128) :
    (win0_5.blk t).view.emb (at4 u l)
      = ValueIdx.ix4 (batch t) (⟨16 + t.val % 8, by omega⟩ : Fin 48)
          ⟨u % 2048, Nat.mod_lt _ (by decide)⟩ l := by
  refine funext fun a => Fin.ext ?_
  have e := index5 t
  match a with
  | ⟨0, _⟩ =>
    show win0_5.index t 0 * 1 + 1 * 0 = t.val / 8
    rw [e]; show t.val / 8 * 1 + 1 * 0 = _; omega
  | ⟨1, _⟩ =>
    show win0_5.index t 1 * 1 + 1 * 0 = 16 + t.val % 8
    rw [e]; show (16 + t.val % 8) * 1 + 1 * 0 = _; omega
  | ⟨2, _⟩ =>
    show win0_5.index t 2 * 2048 + 1 * (u % 2048) = u % 2048
    rw [e]; show 0 * 2048 + 1 * (u % 2048) = _; omega
  | ⟨3, _⟩ =>
    show win0_5.index t 3 * 128 + 1 * l.val = l.val
    rw [e]; show 0 * 128 + 1 * l.val = _; omega

theorem index6 : ∀ t : Fin grid0.N, win0_6.index t = ![t.val / 8, 24 + t.val % 8, 0, 0] := by decide +kernel

theorem emb6 (t : Fin cfg0.N) (u : ℕ) (l : Fin 128) :
    (win0_6.blk t).view.emb (at4 u l)
      = ValueIdx.ix4 (batch t) (⟨24 + t.val % 8, by omega⟩ : Fin 48)
          ⟨u % 2048, Nat.mod_lt _ (by decide)⟩ l := by
  refine funext fun a => Fin.ext ?_
  have e := index6 t
  match a with
  | ⟨0, _⟩ =>
    show win0_6.index t 0 * 1 + 1 * 0 = t.val / 8
    rw [e]; show t.val / 8 * 1 + 1 * 0 = _; omega
  | ⟨1, _⟩ =>
    show win0_6.index t 1 * 1 + 1 * 0 = 24 + t.val % 8
    rw [e]; show (24 + t.val % 8) * 1 + 1 * 0 = _; omega
  | ⟨2, _⟩ =>
    show win0_6.index t 2 * 2048 + 1 * (u % 2048) = u % 2048
    rw [e]; show 0 * 2048 + 1 * (u % 2048) = _; omega
  | ⟨3, _⟩ =>
    show win0_6.index t 3 * 128 + 1 * l.val = l.val
    rw [e]; show 0 * 128 + 1 * l.val = _; omega

theorem index7 : ∀ t : Fin grid0.N, win0_7.index t = ![t.val / 8, 32 + t.val % 8, 0, 0] := by decide +kernel

theorem emb7 (t : Fin cfg0.N) (u : ℕ) (l : Fin 128) :
    (win0_7.blk t).view.emb (at4 u l)
      = ValueIdx.ix4 (batch t) (⟨32 + t.val % 8, by omega⟩ : Fin 48)
          ⟨u % 2048, Nat.mod_lt _ (by decide)⟩ l := by
  refine funext fun a => Fin.ext ?_
  have e := index7 t
  match a with
  | ⟨0, _⟩ =>
    show win0_7.index t 0 * 1 + 1 * 0 = t.val / 8
    rw [e]; show t.val / 8 * 1 + 1 * 0 = _; omega
  | ⟨1, _⟩ =>
    show win0_7.index t 1 * 1 + 1 * 0 = 32 + t.val % 8
    rw [e]; show (32 + t.val % 8) * 1 + 1 * 0 = _; omega
  | ⟨2, _⟩ =>
    show win0_7.index t 2 * 2048 + 1 * (u % 2048) = u % 2048
    rw [e]; show 0 * 2048 + 1 * (u % 2048) = _; omega
  | ⟨3, _⟩ =>
    show win0_7.index t 3 * 128 + 1 * l.val = l.val
    rw [e]; show 0 * 128 + 1 * l.val = _; omega

theorem index8 : ∀ t : Fin grid0.N, win0_8.index t = ![t.val / 8, 40 + t.val % 8, 0, 0] := by decide +kernel

theorem emb8 (t : Fin cfg0.N) (u : ℕ) (l : Fin 128) :
    (win0_8.blk t).view.emb (at4 u l)
      = ValueIdx.ix4 (batch t) (⟨40 + t.val % 8, by omega⟩ : Fin 48)
          ⟨u % 2048, Nat.mod_lt _ (by decide)⟩ l := by
  refine funext fun a => Fin.ext ?_
  have e := index8 t
  match a with
  | ⟨0, _⟩ =>
    show win0_8.index t 0 * 1 + 1 * 0 = t.val / 8
    rw [e]; show t.val / 8 * 1 + 1 * 0 = _; omega
  | ⟨1, _⟩ =>
    show win0_8.index t 1 * 1 + 1 * 0 = 40 + t.val % 8
    rw [e]; show (40 + t.val % 8) * 1 + 1 * 0 = _; omega
  | ⟨2, _⟩ =>
    show win0_8.index t 2 * 2048 + 1 * (u % 2048) = u % 2048
    rw [e]; show 0 * 2048 + 1 * (u % 2048) = _; omega
  | ⟨3, _⟩ =>
    show win0_8.index t 3 * 128 + 1 * l.val = l.val
    rw [e]; show 0 * 128 + 1 * l.val = _; omega

theorem index9 : ∀ t : Fin grid0.N, win0_9.index t = ![t.val / 8, 0 + t.val % 8, 0, 0] := by decide +kernel

theorem emb9 (t : Fin cfg0.N) (u : ℕ) (l : Fin 128) :
    (win0_9.blk t).view.emb (at4 u l)
      = ValueIdx.ix4 (batch t) (⟨0 + t.val % 8, by omega⟩ : Fin 8)
          ⟨u % 2048, Nat.mod_lt _ (by decide)⟩ l := by
  refine funext fun a => Fin.ext ?_
  have e := index9 t
  match a with
  | ⟨0, _⟩ =>
    show win0_9.index t 0 * 1 + 1 * 0 = t.val / 8
    rw [e]; show t.val / 8 * 1 + 1 * 0 = _; omega
  | ⟨1, _⟩ =>
    show win0_9.index t 1 * 1 + 1 * 0 = 0 + t.val % 8
    rw [e]; show (0 + t.val % 8) * 1 + 1 * 0 = _; omega
  | ⟨2, _⟩ =>
    show win0_9.index t 2 * 2048 + 1 * (u % 2048) = u % 2048
    rw [e]; show 0 * 2048 + 1 * (u % 2048) = _; omega
  | ⟨3, _⟩ =>
    show win0_9.index t 3 * 128 + 1 * l.val = l.val
    rw [e]; show 0 * 128 + 1 * l.val = _; omega

end Cert.Proof.KV

end
-- ==== Proof.Spec.lean ====
module

public import proofs.«01_k».proof.Proof.Sums
public import proofs.«01_k».proof.Proof.Words
public import proofs.«01_k».proof.Proof.Consts

@[expose] public section

noncomputable section

/-! # The attention over real numbers

The queries of head `h` of group `g` at time `t` lie in the 64 columns of the first array from `1024 g + 64 h`; its keys in
the same columns of the second array, its values 3072 columns further. -/

namespace Cert.Proof

open Idealize.ShloMosaic

/-- The two arguments, as real numbers. -/
abbrev R0 := Fin 8 → Fin 2048 → Fin 4096 → ℝ
abbrev R1 := Fin 8 → Fin 2048 → Fin 6144 → ℝ

def tm (t : ℕ) : Fin 2048 := ⟨t % 2048, Nat.mod_lt _ (by decide)⟩

def qOf (a : R0) (b : Fin 8) (g : Fin 3) (h : Fin 16) (t : ℕ) (c : Fin 64) : ℝ :=
  a b (tm t) ⟨g.val * 1024 + h.val * 64 + c.val, by omega⟩
def kOf (a : R1) (b : Fin 8) (g : Fin 3) (h : Fin 16) (t : ℕ) (c : Fin 64) : ℝ :=
  a b (tm t) ⟨g.val * 1024 + h.val * 64 + c.val, by omega⟩
def vOf (a : R1) (b : Fin 8) (g : Fin 3) (h : Fin 16) (t : ℕ) (c : Fin 64) : ℝ :=
  a b (tm t) ⟨3072 + g.val * 1024 + h.val * 64 + c.val, by omega⟩

/-- The score of time `t` against time `u`. -/
def sOf (a0 : R0) (a1 : R1) (b : Fin 8) (g : Fin 3) (h : Fin 16) (t u : ℕ) : ℝ :=
  (∑ c : Fin 64, qOf a0 b g h t c * kOf a1 b g h u c) * (1 / 8)

/-- A scaled sum of products of queries and keys is a score. -/
theorem score_sum (a0 : R0) (a1 : R1) (b : Fin 8) (g : Fin 3) (h : Fin 16) (t u : ℕ) (q k : Fin 64 → EReal)
    (hq : ∀ c, q c = ((qOf a0 b g h t c : ℝ) : EReal)) (hk : ∀ c, k c = ((kOf a1 b g h u c : ℝ) : EReal)) :
    (∑ c, q c * k c) * Ideal.ofBits .f32 0x3E000000#32 = ((sOf a0 a1 b g h t u : ℝ) : EReal) := by
  unfold sOf
  rw [scale_eq, EReal.coe_mul, coe_sum]
  refine congrArg (· * _) (Finset.sum_congr rfl fun c _ => ?_)
  rw [hq, hk, EReal.coe_mul]

/-- The groups' dilations. -/
def dil (g : Fin 3) : ℕ := match g with | ⟨0, _⟩ => 1 | ⟨1, _⟩ => 4 | ⟨2, _⟩ => 16

/-- A group's sum of exponentials, and the same sum weighted by channel `c` of the values. -/
def wOf (a0 : R0) (a1 : R1) (b : Fin 8) (g : Fin 3) (h : Fin 16) (t : ℕ) : ℝ := Wt (dil g) t (sOf a0 a1 b g h t)
def uOf (a0 : R0) (a1 : R1) (b : Fin 8) (g : Fin 3) (h : Fin 16) (t : ℕ) (c : Fin 64) : ℝ :=
  Ut (dil g) t (sOf a0 a1 b g h t) fun u => vOf a1 b g h u c

/-- The attention of head `h` at time `t`, channel `c`. -/
def outOf (a0 : R0) (a1 : R1) (b : Fin 8) (h : Fin 16) (t : ℕ) (c : Fin 64) : ℝ :=
  (∑ g, uOf a0 a1 b g h t c) / (∑ g, wOf a0 a1 b g h t)

/-! ## The reference's mask, as words -/

theorem rel_toInt (n k : ℕ) (hn : n < 128) (hk : k < 256) :
    (IntOp.subi (IntOp.addi (128#32) (BitVec.ofNat 32 n)) (BitVec.ofNat 32 k)).toInt = 128 + (n : ℤ) - k := by
  simp only [IntOp.subi, IntOp.addi, BitVec.toInt_sub, BitVec.toInt_add, toInt_small _ (show n < 2147483648 by omega),
    toInt_small _ (show k < 2147483648 by omega)]
  rw [show (128#32 : BitVec 32).toInt = 128 from rfl]
  rw [Int.bmod_eq_of_le (n := 128 + (n : ℤ)) (by omega) (by omega)]
  exact Int.bmod_eq_of_le (by omega) (by omega)

theorem blk_toInt (nb k : ℕ) (hn : nb < 16) (hk : k < 256) :
    (IntOp.addi (IntOp.muli (BitVec.ofNat 32 nb) 128#32) (BitVec.ofNat 32 k)).toInt = nb * 128 + (k : ℤ) := by
  have e : IntOp.addi (IntOp.muli (BitVec.ofNat 32 nb) 128#32) (BitVec.ofNat 32 k) = BitVec.ofNat 32 (nb * 128 + k) := by
    simp only [IntOp.addi, IntOp.muli]
    rw [BitVec.ofNat_add, BitVec.ofNat_mul]
  rw [e, toInt_small _ (by omega)]
  push_cast; ring

/-- The three comparisons of the mask, for row `n` and slot `k` of block `nb`. -/
theorem mask_bit (nb n k : ℕ) (hb : nb < 16) (hn : n < 128) (hk : k < 256) :
    IntOp.andi
        (IntOp.andi (IntOp.cmpi .sge (IntOp.subi (IntOp.addi (128#32) (BitVec.ofNat 32 n)) (BitVec.ofNat 32 k)) 0#32)
          (IntOp.cmpi .slt (IntOp.subi (IntOp.addi (128#32) (BitVec.ofNat 32 n)) (BitVec.ofNat 32 k)) 128#32))
        (IntOp.cmpi .sge (IntOp.addi (IntOp.muli (BitVec.ofNat 32 nb) 128#32) (BitVec.ofNat 32 k)) 128#32)
      = bit (if k < 128 then nb ≠ 0 ∧ n < k else k - 128 ≤ n) := by
  rw [sge_bit, slt_bit, sge_bit, rel_toInt n k hn hk, blk_toInt nb k hb hk, andi_bit, andi_bit,
    show (0#32 : BitVec 32).toInt = 0 from rfl, show (128#32 : BitVec 32).toInt = 128 from rfl]
  refine bit_congr ?_
  by_cases h : k < 128
  · rw [if_pos h]; constructor <;> intro <;> omega
  · rw [if_neg h]; constructor <;> intro <;> omega

end Cert.Proof

end
-- ==== Proof.KV.Result.lean ====
module

public import proofs.«01_k».proof.Proof.KV.Host
public import proofs.«01_k».proof.Proof.KV.Windows
public import proofs.«01_k».proof.Proof.Spec

@[expose] public section

set_option maxRecDepth 16384

noncomputable section

/-! The kernel's result is the attention over real numbers. -/

namespace Cert.Proof.KV

open Cert.KernelIdeal
open Idealize.ShloMosaic Idealize.ShloMosaic.TcCoe Idealize.SL.Sem
open Idealize.ShloMosaic.Pipeline (Dat)
open Cert.KernelIdeal.Gen Cert.Proof.KI

/-- A sum over the lanes of one head of a pair. -/
theorem head_sum (l : Fin 128) (f : Fin 64 → ℝ) :
    (∑ x : Fin 128, if x.val / 64 = l.val / 64 then f ⟨x.val % 64, by omega⟩ else 0) = ∑ c : Fin 64, f c := by
  have e := Fin.sum_univ_add (a := 64) (b := 64)
    (fun x : Fin (64 + 64) => if x.val / 64 = l.val / 64 then f ⟨x.val % 64, by omega⟩ else 0)
  refine e.trans ?_
  have v1 : ∀ c : Fin 64, (Fin.castAdd 64 c).val = c.val := fun c => rfl
  have v2 : ∀ c : Fin 64, (Fin.natAdd 64 c).val = 64 + c.val := fun c => rfl
  by_cases h : l.val / 64 = 0
  · have z : ∑ c : Fin 64, (if (Fin.natAdd 64 c).val / 64 = l.val / 64 then f ⟨(Fin.natAdd 64 c).val % 64, by omega⟩ else 0) = 0 :=
      Finset.sum_eq_zero fun c _ => if_neg (by rw [v2]; omega)
    rw [z, add_zero]
    refine Finset.sum_congr rfl fun c _ => ?_
    rw [if_pos (by rw [v1]; omega)]
    exact congrArg f (Fin.ext (show c.val % 64 = c.val by omega))
  · have z : ∑ c : Fin 64, (if (Fin.castAdd 64 c).val / 64 = l.val / 64 then f ⟨(Fin.castAdd 64 c).val % 64, by omega⟩ else 0) = 0 :=
      Finset.sum_eq_zero fun c _ => if_neg (by rw [v1]; omega)
    rw [z, zero_add]
    refine Finset.sum_congr rfl fun c _ => ?_
    rw [if_pos (by rw [v2]; omega)]
    exact congrArg f (Fin.ext (show (64 + c.val) % 64 = c.val by omega))

/-- An array whose numbers are given is real, with those numbers. -/
theorem isReal_of (A : A4 Ideal) (r : ℕ → Fin 128 → ℝ) (h : ∀ u l, A (at4 u l) = ((r u l : ℝ) : EReal)) : IsReal A ∧ real A = r := by
  have e : real A = r := by
    funext u l
    unfold real
    rw [h, EReal.toReal_coe]
  exact ⟨fun u l => by rw [e]; exact h u l, e⟩

variable (a0 : R0) (a1 : R1)

/-- The head of lane `l` of pair `p`. -/
def head (p : Fin 8) (l : Fin 128) : Fin 16 := ⟨p.val * 2 + l.val / 64, by omega⟩

def qL (b p : Fin 8) (g : Fin 3) (u : ℕ) (l : Fin 128) : ℝ := qOf a0 b g (head p l) u ⟨l.val % 64, by omega⟩
def kL (b p : Fin 8) (g : Fin 3) (u : ℕ) (l : Fin 128) : ℝ := kOf a1 b g (head p l) u ⟨l.val % 64, by omega⟩
def vL (b p : Fin 8) (g : Fin 3) (u : ℕ) (l : Fin 128) : ℝ := vOf a1 b g (head p l) u ⟨l.val % 64, by omega⟩

/-- The scores of a lane's head. -/
theorem scr_eq (b p : Fin 8) (g : Fin 3) (l : Fin 128) (t : ℕ) :
    scr (qL a0 b p g) (kL a1 b p g) l t = sOf a0 a1 b g (head p l) t := by
  funext u
  unfold scr dotH dotP sOf
  refine congrArg (· * _) ?_
  rw [← head_sum l fun c => qOf a0 b g (head p l) t c * kOf a1 b g (head p l) u c]
  refine Finset.sum_congr rfl fun x _ => ?_
  by_cases h : x.val / 64 = l.val / 64
  · rw [if_pos h, if_pos h]
    have e : head p x = head p l := Fin.ext (by show p.val * 2 + x.val / 64 = p.val * 2 + l.val / 64; omega)
    unfold qL kL
    rw [e]
  · rw [if_neg h, if_neg h]

variable (m : (ℓ : Loc nD τ sig) → Buf (Elt Ideal) ℓ) (c : Dev nD)
  (h0 : ∀ (b : Fin 8) (t : Fin 2048) (x : Fin 4096), m ((c : Thread nD τ).loc main_arg0) (ix3 b t x) = ((a0 b t x : ℝ) : EReal))
  (h1 : ∀ (b : Fin 8) (t : Fin 2048) (x : Fin 6144), m ((c : Thread nD τ).loc main_arg1) (ix3 b t x) = ((a1 b t x : ℝ) : EReal))

/-- The pair of grid point `t`. -/
def pair (t : Fin cfg0.N) : Fin 8 := ⟨t.val % 8, by omega⟩

include h0 in
theorem block0 (t : Fin cfg0.N) : IsReal (iblk m c 0 t) ∧ real (iblk m c 0 t) = qL a0 (batch t) (pair t) 0 := by
  refine isReal_of _ _ fun u l => ?_
  have e : iblk m c 0 t (at4 u l) = V m c main_v1 ((win0_0.blk t).view.emb (at4 u l)) := rfl
  refine e.trans ?_
  rw [emb0, arr0_eq, lay0, h0]
  unfold qL qOf tm head pair
  refine congrArg (fun z => ((a0 (batch t) _ z : ℝ) : EReal)) (Fin.ext ?_)
  show (0 + t.val % 8) * 128 + l.val = 0 * 1024 + (t.val % 8 * 2 + l.val / 64) * 64 + l.val % 64
  omega

include h0 in
theorem block1 (t : Fin cfg0.N) : IsReal (iblk m c 1 t) ∧ real (iblk m c 1 t) = qL a0 (batch t) (pair t) 1 := by
  refine isReal_of _ _ fun u l => ?_
  have e : iblk m c 1 t (at4 u l) = V m c main_v1 ((win0_1.blk t).view.emb (at4 u l)) := rfl
  refine e.trans ?_
  rw [emb1, arr0_eq, lay0, h0]
  unfold qL qOf tm head pair
  refine congrArg (fun z => ((a0 (batch t) _ z : ℝ) : EReal)) (Fin.ext ?_)
  show (8 + t.val % 8) * 128 + l.val = 1 * 1024 + (t.val % 8 * 2 + l.val / 64) * 64 + l.val % 64
  omega

include h0 in
theorem block2 (t : Fin cfg0.N) : IsReal (iblk m c 2 t) ∧ real (iblk m c 2 t) = qL a0 (batch t) (pair t) 2 := by
  refine isReal_of _ _ fun u l => ?_
  have e : iblk m c 2 t (at4 u l) = V m c main_v1 ((win0_2.blk t).view.emb (at4 u l)) := rfl
  refine e.trans ?_
  rw [emb2, arr0_eq, lay0, h0]
  unfold qL qOf tm head pair
  refine congrArg (fun z => ((a0 (batch t) _ z : ℝ) : EReal)) (Fin.ext ?_)
  show (16 + t.val % 8) * 128 + l.val = 2 * 1024 + (t.val % 8 * 2 + l.val / 64) * 64 + l.val % 64
  omega

include h1 in
theorem block3 (t : Fin cfg0.N) : IsReal (iblk m c 3 t) ∧ real (iblk m c 3 t) = kL a1 (batch t) (pair t) 0 := by
  refine isReal_of _ _ fun u l => ?_
  have e : iblk m c 3 t (at4 u l) = V m c main_v3 ((win0_3.blk t).view.emb (at4 u l)) := rfl
  refine e.trans ?_
  rw [emb3, arr1_eq, lay1, h1]
  unfold kL kOf tm head pair
  refine congrArg (fun z => ((a1 (batch t) _ z : ℝ) : EReal)) (Fin.ext ?_)
  show (0 + t.val % 8) * 128 + l.val = 0 * 1024 + (t.val % 8 * 2 + l.val / 64) * 64 + l.val % 64
  omega

include h1 in
theorem block4 (t : Fin cfg0.N) : IsReal (iblk m c 4 t) ∧ real (iblk m c 4 t) = kL a1 (batch t) (pair t) 1 := by
  refine isReal_of _ _ fun u l => ?_
  have e : iblk m c 4 t (at4 u l) = V m c main_v3 ((win0_4.blk t).view.emb (at4 u l)) := rfl
  refine e.trans ?_
  rw [emb4, arr1_eq, lay1, h1]
  unfold kL kOf tm head pair
  refine congrArg (fun z => ((a1 (batch t) _ z : ℝ) : EReal)) (Fin.ext ?_)
  show (8 + t.val % 8) * 128 + l.val = 1 * 1024 + (t.val % 8 * 2 + l.val / 64) * 64 + l.val % 64
  omega

include h1 in
theorem block5 (t : Fin cfg0.N) : IsReal (iblk m c 5 t) ∧ real (iblk m c 5 t) = kL a1 (batch t) (pair t) 2 := by
  refine isReal_of _ _ fun u l => ?_
  have e : iblk m c 5 t (at4 u l) = V m c main_v3 ((win0_5.blk t).view.emb (at4 u l)) := rfl
  refine e.trans ?_
  rw [emb5, arr1_eq, lay1, h1]
  unfold kL kOf tm head pair
  refine congrArg (fun z => ((a1 (batch t) _ z : ℝ) : EReal)) (Fin.ext ?_)
  show (16 + t.val % 8) * 128 + l.val = 2 * 1024 + (t.val % 8 * 2 + l.val / 64) * 64 + l.val % 64
  omega

include h1 in
theorem block6 (t : Fin cfg0.N) : IsReal (iblk m c 6 t) ∧ real (iblk m c 6 t) = vL a1 (batch t) (pair t) 0 := by
  refine isReal_of _ _ fun u l => ?_
  have e : iblk m c 6 t (at4 u l) = V m c main_v3 ((win0_6.blk t).view.emb (at4 u l)) := rfl
  refine e.trans ?_
  rw [emb6, arr1_eq, lay1, h1]
  unfold vL vOf tm head pair
  refine congrArg (fun z => ((a1 (batch t) _ z : ℝ) : EReal)) (Fin.ext ?_)
  show (24 + t.val % 8) * 128 + l.val = 3072 + 0 * 1024 + (t.val % 8 * 2 + l.val / 64) * 64 + l.val % 64
  omega

include h1 in
theorem block7 (t : Fin cfg0.N) : IsReal (iblk m c 7 t) ∧ real (iblk m c 7 t) = vL a1 (batch t) (pair t) 1 := by
  refine isReal_of _ _ fun u l => ?_
  have e : iblk m c 7 t (at4 u l) = V m c main_v3 ((win0_7.blk t).view.emb (at4 u l)) := rfl
  refine e.trans ?_
  rw [emb7, arr1_eq, lay1, h1]
  unfold vL vOf tm head pair
  refine congrArg (fun z => ((a1 (batch t) _ z : ℝ) : EReal)) (Fin.ext ?_)
  show (32 + t.val % 8) * 128 + l.val = 3072 + 1 * 1024 + (t.val % 8 * 2 + l.val / 64) * 64 + l.val % 64
  omega

include h1 in
theorem block8 (t : Fin cfg0.N) : IsReal (iblk m c 8 t) ∧ real (iblk m c 8 t) = vL a1 (batch t) (pair t) 2 := by
  refine isReal_of _ _ fun u l => ?_
  have e : iblk m c 8 t (at4 u l) = V m c main_v3 ((win0_8.blk t).view.emb (at4 u l)) := rfl
  refine e.trans ?_
  rw [emb8, arr1_eq, lay1, h1]
  unfold vL vOf tm head pair
  refine congrArg (fun z => ((a1 (batch t) _ z : ℝ) : EReal)) (Fin.ext ?_)
  show (40 + t.val % 8) * 128 + l.val = 3072 + 2 * 1024 + (t.val % 8 * 2 + l.val / 64) * 64 + l.val % 64
  omega

include h0 h1 in
/-- What the kernel leaves at grid point `t`. -/
theorem out_at (t : Fin cfg0.N) (u : ℕ) (hu : u < 2048) (l : Fin 128) :
    outF (iblk m c 0 t) (iblk m c 1 t) (iblk m c 2 t) (iblk m c 3 t) (iblk m c 4 t) (iblk m c 5 t) (iblk m c 6 t) (iblk m c 7 t)
        (iblk m c 8 t) (at4 u l)
      = ((outOf a0 a1 (batch t) (head (pair t) l) u ⟨l.val % 64, by omega⟩ : ℝ) : EReal) := by
  obtain ⟨q0, e0⟩ := block0 a0 m c h0 t
  obtain ⟨q1, e1⟩ := block1 a0 m c h0 t
  obtain ⟨q2, e2⟩ := block2 a0 m c h0 t
  obtain ⟨k0, e3⟩ := block3 a1 m c h1 t
  obtain ⟨k1, e4⟩ := block4 a1 m c h1 t
  obtain ⟨k2, e5⟩ := block5 a1 m c h1 t
  obtain ⟨v0, e6⟩ := block6 a1 m c h1 t
  obtain ⟨v1, e7⟩ := block7 a1 m c h1 t
  obtain ⟨v2, e8⟩ := block8 a1 m c h1 t
  rw [outF_at _ _ _ _ _ _ _ _ _ q0 q1 q2 k0 k1 k2 v0 v1 v2 u hu l, e0, e1, e2, e3, e4, e5, e6, e7, e8]
  rw [scr_eq, scr_eq, scr_eq]
  unfold outOf
  rw [Fin.sum_univ_three, Fin.sum_univ_three]
  rfl

/-- The whole result. -/
def attn : (⟨S8x8x2048x128, .f32⟩ : BufTy).Contents (Elt Ideal) := fun i =>
  ((outOf a0 a1 (i 0) (head (i 1) (i 3)) (i 2).val ⟨(i 3).val % 64, Nat.mod_lt _ (by decide)⟩ : ℝ) : EReal)

theorem attn_apply (b p : Fin 8) (u : Fin 2048) (l : Fin 128) :
    attn a0 a1 (ValueIdx.ix4 b p u l) = ((outOf a0 a1 b (head p l) u.val ⟨l.val % 64, Nat.mod_lt _ (by decide)⟩ : ℝ) : EReal) := rfl

include h0 h1 in
theorem flushed_eq (t : Fin cfg0.N) : (dats m 0 c).flushed 9 t = (win0_9.blk t).view.read (Elt Ideal) (attn a0 a1) := by
  show (cfg0.win 9).cut (grid0.coords t) ((dats m 0 c).after 9 t) = _
  rw [after0_9]
  funext y
  obtain ⟨u, l, hu, rfl⟩ : ∃ (u : ℕ) (l : Fin 128), u < 2048 ∧ y = at4 u l := by
    refine ⟨(y 2).val, y 3, (y 2).isLt, funext fun a => ?_⟩
    match a with
    | ⟨0, _⟩ => exact Subsingleton.elim (α := Fin 1) _ _
    | ⟨1, _⟩ => exact Subsingleton.elim (α := Fin 1) _ _
    | ⟨2, _⟩ => exact Fin.ext (Nat.mod_eq_of_lt (y 2).isLt).symm
    | ⟨3, _⟩ => rfl
  have e : (win0_9.blk t).view.read (Elt Ideal) (attn a0 a1) (at4 u l) = attn a0 a1 ((win0_9.blk t).view.emb (at4 u l)) := rfl
  rw [e, emb9]
  refine (out_at a0 a1 m c h0 h1 t u hu l).trans ?_
  have ep : pair t = (⟨0 + t.val % 8, by omega⟩ : Fin 8) := Fin.ext (Nat.zero_add _).symm
  rw [attn_apply, ep]
  exact congrArg (fun w : ℕ => ((outOf a0 a1 (batch t) (head _ l) w _ : ℝ) : EReal)) (Nat.mod_eq_of_lt hu).symm

/-- The blocks cover the result. -/
theorem cover (i : S8x8x2048x128.Idx) : ∃ t : Fin cfg0.N, (cfg0.win 9).flush t = true ∧ i ∈ ((cfg0.win 9).blk t).view.set := by
  have hN : cfg0.N = 64 := N_0
  have i0 : (i 0).val < 8 := (i 0).isLt
  have i1 : (i 1).val < 8 := (i 1).isLt
  refine ⟨⟨(i 0).val * 8 + (i 1).val, by omega⟩, flush0_9 _, ?_⟩
  refine Finset.mem_map.mpr ⟨at4 (i 2).val (i 3), Finset.mem_univ _, ?_⟩
  refine (emb9 _ _ _).trans (funext fun a => Fin.ext ?_)
  match a with
  | ⟨0, _⟩ => show ((i 0).val * 8 + (i 1).val) / 8 = (i 0).val; omega
  | ⟨1, _⟩ => show 0 + ((i 0).val * 8 + (i 1).val) % 8 = (i 1).val; omega
  | ⟨2, _⟩ => exact Nat.mod_eq_of_lt (i 2).isLt
  | ⟨3, _⟩ => rfl

include h0 h1 in
/-- The result's array after the run. -/
theorem final : (dats m 0 c).arrAt 9 cfg0.N = attn a0 a1 :=
  (dats m 0 c).arrAt_eq_of_cover 9 (attn a0 a1) (fun t _ => flushed_eq a0 a1 m c h0 h1 t) cover

end Cert.Proof.KV

end
-- ==== Proof.RI.G0.lean ====
module

public import proofs.«01_k».proof.Proof.Gen.ReferenceIdeal.Run
public import proofs.«01_k».proof.Proof.Spec
public import proofs.«01_k».proof.Proof.Consts
public import Idealize.ShloMosaic.Lib.Pointwise
public import Idealize.ShloMosaic.Lib.Tactic.CleanTypes
public import Idealize.ShloMosaic.Lib.Tactic.IndexArith
public import Idealize.ShloMosaic.Lib.KernelVsHost

@[expose] public section

set_option maxRecDepth 16384

noncomputable section

/-! The reference's group 0, dilation 1. -/

namespace Cert.Proof.RI.G0

open Cert.ReferenceIdeal Cert.ReferenceIdeal.Value Cert.ReferenceIdeal.Facts₀ Cert.ReferenceIdeal.Facts
open Idealize.ShloMosaic Idealize.ShloMosaic.TcCoe Idealize.SL.Sem

variable (V0 : Valuation τ sig (Elt Ideal))

theorem q_apply (b : Fin 8) (t : Fin 2048) (g : Fin 3) (h : Fin 16) (c : Fin 64) :
    res_main_v1 V0 (ix5 b t g h c)
      = (V0 (Proc.devRef .tc main_arg0) (ix3 b t ⟨g.val * 1024 + h.val * 64 + c.val, by omega⟩) : EReal) := by
  unfold res_main_v1
  clean_types
  pointwise

theorem k_apply (b : Fin 8) (cl : Fin 1) (nb : Fin 16) (n : Fin 128) (h : Fin 16) (c : Fin 64) :
    res_main_v18 V0 (ix6 b cl nb n h c)
      = (V0 (Proc.devRef .tc main_arg1) (ix3 b ⟨nb.val * 128 + n.val, by omega⟩ ⟨0 * 1024 + h.val * 64 + c.val, by omega⟩) : EReal) := by
  unfold res_main_v18 res_main_v4 res_main_v2
  clean_types
  pointwise

theorem v_apply (b : Fin 8) (cl : Fin 1) (nb : Fin 16) (n : Fin 128) (h : Fin 16) (c : Fin 64) :
    res_main_v24 V0 (ix6 b cl nb n h c)
      = (V0 (Proc.devRef .tc main_arg1) (ix3 b ⟨nb.val * 128 + n.val, by omega⟩ ⟨3072 + 0 * 1024 + h.val * 64 + c.val, by omega⟩) : EReal) := by
  unfold res_main_v24 res_main_v6 res_main_v2
  clean_types
  pointwise

theorem slot_apply (z : Fin 1) (k : Fin 256) : res_main_v34 V0 (ix2 z k) = BitVec.ofNat 32 k.val := by
  unfold res_main_v34
  clean_types
  pointwise

theorem rel_apply (n : Fin 128) (k : Fin 256) :
    res_main_v39 V0 (ix2 n k) = IntOp.subi (IntOp.addi (128#32) (BitVec.ofNat 32 n.val)) (BitVec.ofNat 32 k.val) := by
  unfold res_main_v39
  clean_types
  pointwise
  rw [slot_apply]

/-- The scores, their maxima, the weights and their sums, as extended reals. -/
def sE (b : Fin 8) (cl : Fin 1) (nb : Fin 16) (h : Fin 16) (n : Fin 128) (k : Fin 256) : EReal :=
  res_main_v60 V0 (ix6 b cl nb h n k)
def mE (b : Fin 8) (cl : Fin 1) (nb : Fin 16) (h : Fin 16) (n : Fin 128) : EReal :=
  res_main_v62 V0 (ix6 b cl nb h n (0 : Fin 1))
def eE (b : Fin 8) (cl : Fin 1) (nb : Fin 16) (h : Fin 16) (n : Fin 128) (k : Fin 256) : EReal :=
  res_main_v65 V0 (ix6 b cl nb h n k)
def lE (b : Fin 8) (cl : Fin 1) (nb : Fin 16) (h : Fin 16) (n : Fin 128) : EReal :=
  res_main_v66 V0 (ix5 b cl nb h n)

/-- The reduction of the slots' axis. -/
theorem reds : Shape.Reduces S8x1x16x16x128x256 [5] S8x1x16x16x128 := by decide

theorem m_apply (b : Fin 8) (cl : Fin 1) (nb : Fin 16) (h : Fin 16) (n : Fin 128) :
    mE V0 b cl nb h n = (Finset.univ : Finset (Fin 256)).fold max ⊥ (sE V0 b cl nb h n) := by
  obtain rfl : cl = 0 := Subsingleton.elim _ _
  unfold mE res_main_v62
  clean_types
  pointwise
  rw [negInf_eq, Shape.ReducesTo.drop_eq_drop _ reds]
  refine (reds.fold_filter_drop_single _ _ _ _).trans ?_
  refine congrArg (fun f => (Finset.univ : Finset (Fin 256)).fold max ⊥ f) (funext fun k => ?_)
  refine congrArg (res_main_v60 V0) (funext fun a => ?_)
  match a with
  | ⟨0, _⟩ => rfl
  | ⟨1, _⟩ => rfl
  | ⟨2, _⟩ => rfl
  | ⟨3, _⟩ => rfl
  | ⟨4, _⟩ => rfl
  | ⟨5, _⟩ => rfl

theorem e_apply (b : Fin 8) (cl : Fin 1) (nb : Fin 16) (h : Fin 16) (n : Fin 128) (k : Fin 256) :
    eE V0 b cl nb h n k = Ideal.exp (sE V0 b cl nb h n k - mE V0 b cl nb h n) := by
  obtain rfl : cl = 0 := Subsingleton.elim _ _
  unfold eE res_main_v65
  clean_types
  pointwise
  rfl

theorem l_apply (b : Fin 8) (cl : Fin 1) (nb : Fin 16) (h : Fin 16) (n : Fin 128) :
    lE V0 b cl nb h n = ∑ k : Fin 256, eE V0 b cl nb h n k := by
  obtain rfl : cl = 0 := Subsingleton.elim _ _
  unfold lE res_main_v66
  clean_types
  pointwise
  refine (Ideal.hostReduceAdd_single _ reds _ _ _).trans ?_
  rw [zero_add]
  refine Finset.sum_congr rfl fun k _ => ?_
  refine congrArg (res_main_v65 V0) (funext fun a => ?_)
  match a with
  | ⟨0, _⟩ => rfl
  | ⟨1, _⟩ => rfl
  | ⟨2, _⟩ => rfl
  | ⟨3, _⟩ => rfl
  | ⟨4, _⟩ => rfl
  | ⟨5, _⟩ => rfl

variable (a0 : R0) (a1 : R1)
  (h0 : ∀ (b : Fin 8) (t : Fin 2048) (c : Fin 4096), V0 (Proc.devRef .tc main_arg0) (ix3 b t c) = ((a0 b t c : ℝ) : EReal))
  (h1 : ∀ (b : Fin 8) (t : Fin 2048) (c : Fin 6144), V0 (Proc.devRef .tc main_arg1) (ix3 b t c) = ((a1 b t c : ℝ) : EReal))

include h0 in
theorem q_real (b : Fin 8) (t : Fin 2048) (h : Fin 16) (c : Fin 64) (u : ℕ) (hu : t.val = u) :
    res_main_v1 V0 (ix5 b t (0 : Fin 3) h c) = ((qOf a0 b 0 h u c : ℝ) : EReal) := by
  rw [q_apply, h0]
  unfold qOf tm
  subst hu
  congr 3
  exact Fin.ext (Nat.mod_eq_of_lt t.isLt).symm

include h1 in
theorem k_real (b : Fin 8) (cl : Fin 1) (nb : Fin 16) (n : Fin 128) (h : Fin 16) (c : Fin 64) (u : ℕ)
    (hu : nb.val * 128 + n.val = u) :
    res_main_v18 V0 (ix6 b cl nb n h c) = ((kOf a1 b 0 h u c : ℝ) : EReal) := by
  rw [k_apply, h1]
  unfold kOf tm
  subst hu
  congr 3
  exact (Nat.mod_eq_of_lt (show nb.val * 128 + n.val < 2048 by omega)).symm

include h1 in
theorem v_real (b : Fin 8) (cl : Fin 1) (nb : Fin 16) (n : Fin 128) (h : Fin 16) (c : Fin 64) (u : ℕ)
    (hu : nb.val * 128 + n.val = u) :
    res_main_v24 V0 (ix6 b cl nb n h c) = ((vOf a1 b 0 h u c : ℝ) : EReal) := by
  rw [v_apply, h1]
  unfold vOf tm
  subst hu
  congr 3
  exact (Nat.mod_eq_of_lt (show nb.val * 128 + n.val < 2048 by omega)).symm

/-- The queries, and the keys of the block before and of the block itself. -/
def qE (b : Fin 8) (t : Fin 2048) (h : Fin 16) (x : Fin 64) : EReal := res_main_v1 V0 (ix5 b t (0 : Fin 3) h x)
def keyE (b : Fin 8) (cl : Fin 1) (nb : Fin 16) (h : Fin 16) (k : Fin 256) (x : Fin 64) : EReal :=
  if _ : k.val < 128 then
    if _ : (1 ≤ nb.val ∧ nb.val - 1 < 16) ∧ k.val < 128 then
      res_main_v18 V0 (ix6 b cl ⟨nb.val - 1, by omega⟩ ⟨k.val, by omega⟩ h x)
    else FloatOps.sitofp (F := Ideal) FTy.f32 0#32
  else res_main_v18 V0 (ix6 b cl nb ⟨k.val - 128, by omega⟩ h x)

/-- The scores, with the keys of the block before and of the block itself. -/
theorem s_raw (b : Fin 8) (cl : Fin 1) (nb : Fin 16) (h : Fin 16) (n : Fin 128) (k : Fin 256) :
    sE V0 b cl nb h n k
      = if (if k.val < 128 then nb.val ≠ 0 ∧ n.val < k.val else k.val - 128 ≤ n.val) then
          (((∑ x : Fin 64, qE V0 b ⟨nb.val * 128 + n.val, by omega⟩ h x *
            keyE V0 b cl nb h k x) *
          Ideal.ofBits .f32 0x3E000000#32 : EReal))
        else ⊥ := by
  obtain rfl : cl = 0 := Subsingleton.elim _ _
  unfold sE res_main_v60
  clean_types
  pointwise
  rw [rel_apply, slot_apply, mask_bit _ _ _ (by omega) (by omega) (by omega), select_bit]
  exact if_ctx_congr Iff.rfl (fun hv => rfl) (fun _ => negInf_eq)

include h1 in
/-- The key of a visible slot. -/
theorem key_real (b : Fin 8) (cl : Fin 1) (nb : Fin 16) (h : Fin 16) (n : Fin 128) (k : Fin 256) (x : Fin 64)
    (hv : if k.val < 128 then nb.val ≠ 0 ∧ n.val < k.val else k.val - 128 ≤ n.val) :
    keyE V0 b cl nb h k x
      = ((kOf a1 b 0 h (if k.val < 128 then cl.val + 1 * (128 * (nb.val - 1) + k.val)
          else cl.val + 1 * (128 * nb.val + (k.val - 128))) x : ℝ) : EReal) := by
  unfold keyE
  by_cases hk : k.val < 128
  · rw [if_pos hk] at hv
    rw [dif_pos hk, if_pos hk, dif_pos (by omega)]
    exact k_real V0 a1 h1 b _ _ _ h x _ (by dsimp only; omega)
  · rw [dif_neg hk, if_neg hk]
    exact k_real V0 a1 h1 b _ _ _ h x _ (by dsimp only; omega)

include h0 h1 in
/-- The scores. -/
theorem s_apply (b : Fin 8) (cl : Fin 1) (nb : Fin 16) (h : Fin 16) (n : Fin 128) (k : Fin 256) :
    sE V0 b cl nb h n k
      = if (if k.val < 128 then nb.val ≠ 0 ∧ n.val < k.val else k.val - 128 ≤ n.val) then
          ((sOf a0 a1 b 0 h (cl.val + 1 * (128 * nb.val + n.val))
            (if k.val < 128 then cl.val + 1 * (128 * (nb.val - 1) + k.val) else cl.val + 1 * (128 * nb.val + (k.val - 128))) : ℝ) : EReal)
        else ⊥ := by
  rw [s_raw]
  refine if_ctx_congr Iff.rfl (fun hv => ?_) (fun _ => rfl)
  exact score_sum a0 a1 b 0 h _ _ _ _ (fun x => q_real V0 a0 h0 b _ h x _ (by dsimp only; omega))
    fun x => key_real V0 a1 h1 b cl nb h n k x hv

include h0 h1 in
/-- The scores of time `t`. -/
theorem s_time (b : Fin 8) (t : Fin 2048) (h : Fin 16) (k : Fin 256) :
    sE V0 b (0 : Fin 1) ⟨t.val / 128, by omega⟩ h ⟨t.val % 128, by omega⟩ k
      = if vis 1 t.val k then ((sOf a0 a1 b 0 h t.val (kt 1 t.val k) : ℝ) : EReal) else ⊥ := by
  rw [s_apply V0 a0 a1 h0 h1]
  refine if_congr ?_ ?_ rfl
  · unfold vis
    by_cases hk : k.val < 128
    · simp only [if_pos hk]; try omega
    · simp only [if_neg hk]; try omega
  · unfold kt
    by_cases hk : k.val < 128
    · simp only [if_pos hk]
      congr 2; all_goals omega
    · simp only [if_neg hk]
      congr 2; all_goals omega

include h0 h1 in
/-- What the group's numbers at time `t` stand for. -/
theorem led (b : Fin 8) (t : Fin 2048) (h : Fin 16) (c : Fin 64) (A B : Fin 128 → EReal)
    (hA : ∀ x : Fin 128, vis 1 t.val ⟨x.val, by omega⟩ → A x = ((vOf a1 b 0 h (kt 1 t.val ⟨x.val, by omega⟩) c : ℝ) : EReal))
    (hB : ∀ x : Fin 128, vis 1 t.val ⟨128 + x.val, by omega⟩ → B x = ((vOf a1 b 0 h (kt 1 t.val ⟨128 + x.val, by omega⟩) c : ℝ) : EReal)) :
    Led (mE V0 b (0 : Fin 1) ⟨t.val / 128, by omega⟩ h ⟨t.val % 128, by omega⟩) (lE V0 b (0 : Fin 1) ⟨t.val / 128, by omega⟩ h ⟨t.val % 128, by omega⟩)
      (∑ x : Fin 128, A x * eE V0 b (0 : Fin 1) ⟨t.val / 128, by omega⟩ h ⟨t.val % 128, by omega⟩ ⟨x.val, by omega⟩
        + ∑ x : Fin 128, B x * eE V0 b (0 : Fin 1) ⟨t.val / 128, by omega⟩ h ⟨t.val % 128, by omega⟩ ⟨128 + x.val, by omega⟩)
      (wOf a0 a1 b 0 h t.val) (uOf a0 a1 b 0 h t.val c) :=
  Led.band 1 t.val (sOf a0 a1 b 0 h t.val) (fun u => vOf a1 b 0 h u c) _ _ _ (s_time V0 a0 a1 h0 h1 b t h)
    (m_apply V0 b _ _ h _) (e_apply V0 b _ _ h _) _ (l_apply V0 b _ _ h _) A B hA hB

end Cert.Proof.RI.G0

end
-- ==== Proof.RI.G1.lean ====
module

public import proofs.«01_k».proof.Proof.Gen.ReferenceIdeal.Run
public import proofs.«01_k».proof.Proof.Spec
public import proofs.«01_k».proof.Proof.Consts
public import Idealize.ShloMosaic.Lib.Pointwise
public import Idealize.ShloMosaic.Lib.Tactic.CleanTypes
public import Idealize.ShloMosaic.Lib.Tactic.IndexArith
public import Idealize.ShloMosaic.Lib.KernelVsHost

@[expose] public section

set_option maxRecDepth 16384

noncomputable section

/-! The reference's group 1, dilation 4. -/

namespace Cert.Proof.RI.G1

open Cert.ReferenceIdeal Cert.ReferenceIdeal.Value Cert.ReferenceIdeal.Facts₀ Cert.ReferenceIdeal.Facts
open Idealize.ShloMosaic Idealize.ShloMosaic.TcCoe Idealize.SL.Sem

variable (V0 : Valuation τ sig (Elt Ideal))

theorem q_apply (b : Fin 8) (t : Fin 2048) (g : Fin 3) (h : Fin 16) (c : Fin 64) :
    res_main_v1 V0 (ix5 b t g h c)
      = (V0 (Proc.devRef .tc main_arg0) (ix3 b t ⟨g.val * 1024 + h.val * 64 + c.val, by omega⟩) : EReal) := by
  unfold res_main_v1
  clean_types
  pointwise

theorem k_apply (b : Fin 8) (cl : Fin 4) (nb : Fin 4) (n : Fin 128) (h : Fin 16) (c : Fin 64) :
    res_main_v94 V0 (ix6 b cl nb n h c)
      = (V0 (Proc.devRef .tc main_arg1) (ix3 b ⟨(nb.val * 128 + n.val) * 4 + cl.val, by omega⟩ ⟨1 * 1024 + h.val * 64 + c.val, by omega⟩) : EReal) := by
  unfold res_main_v94 res_main_v4 res_main_v2
  clean_types
  pointwise

theorem v_apply (b : Fin 8) (cl : Fin 4) (nb : Fin 4) (n : Fin 128) (h : Fin 16) (c : Fin 64) :
    res_main_v100 V0 (ix6 b cl nb n h c)
      = (V0 (Proc.devRef .tc main_arg1) (ix3 b ⟨(nb.val * 128 + n.val) * 4 + cl.val, by omega⟩ ⟨3072 + 1 * 1024 + h.val * 64 + c.val, by omega⟩) : EReal) := by
  unfold res_main_v100 res_main_v6 res_main_v2
  clean_types
  pointwise

theorem slot_apply (z : Fin 1) (k : Fin 256) : res_main_v110 V0 (ix2 z k) = BitVec.ofNat 32 k.val := by
  unfold res_main_v110
  clean_types
  pointwise

theorem rel_apply (n : Fin 128) (k : Fin 256) :
    res_main_v115 V0 (ix2 n k) = IntOp.subi (IntOp.addi (128#32) (BitVec.ofNat 32 n.val)) (BitVec.ofNat 32 k.val) := by
  unfold res_main_v115
  clean_types
  pointwise
  rw [slot_apply]

/-- The scores, their maxima, the weights and their sums, as extended reals. -/
def sE (b : Fin 8) (cl : Fin 4) (nb : Fin 4) (h : Fin 16) (n : Fin 128) (k : Fin 256) : EReal :=
  res_main_v136 V0 (ix6 b cl nb h n k)
def mE (b : Fin 8) (cl : Fin 4) (nb : Fin 4) (h : Fin 16) (n : Fin 128) : EReal :=
  res_main_v138 V0 (ix6 b cl nb h n (0 : Fin 1))
def eE (b : Fin 8) (cl : Fin 4) (nb : Fin 4) (h : Fin 16) (n : Fin 128) (k : Fin 256) : EReal :=
  res_main_v141 V0 (ix6 b cl nb h n k)
def lE (b : Fin 8) (cl : Fin 4) (nb : Fin 4) (h : Fin 16) (n : Fin 128) : EReal :=
  res_main_v142 V0 (ix5 b cl nb h n)

/-- The reduction of the slots' axis. -/
theorem reds : Shape.Reduces S8x4x4x16x128x256 [5] S8x4x4x16x128 := by decide

theorem m_apply (b : Fin 8) (cl : Fin 4) (nb : Fin 4) (h : Fin 16) (n : Fin 128) :
    mE V0 b cl nb h n = (Finset.univ : Finset (Fin 256)).fold max ⊥ (sE V0 b cl nb h n) := by
  unfold mE res_main_v138
  clean_types
  pointwise
  rw [negInf_eq, Shape.ReducesTo.drop_eq_drop _ reds]
  refine (reds.fold_filter_drop_single _ _ _ _).trans ?_
  refine congrArg (fun f => (Finset.univ : Finset (Fin 256)).fold max ⊥ f) (funext fun k => ?_)
  refine congrArg (res_main_v136 V0) (funext fun a => ?_)
  match a with
  | ⟨0, _⟩ => rfl
  | ⟨1, _⟩ => rfl
  | ⟨2, _⟩ => rfl
  | ⟨3, _⟩ => rfl
  | ⟨4, _⟩ => rfl
  | ⟨5, _⟩ => rfl

theorem e_apply (b : Fin 8) (cl : Fin 4) (nb : Fin 4) (h : Fin 16) (n : Fin 128) (k : Fin 256) :
    eE V0 b cl nb h n k = Ideal.exp (sE V0 b cl nb h n k - mE V0 b cl nb h n) := by
  unfold eE res_main_v141
  clean_types
  pointwise
  rfl

theorem l_apply (b : Fin 8) (cl : Fin 4) (nb : Fin 4) (h : Fin 16) (n : Fin 128) :
    lE V0 b cl nb h n = ∑ k : Fin 256, eE V0 b cl nb h n k := by
  unfold lE res_main_v142
  clean_types
  pointwise
  refine (Ideal.hostReduceAdd_single _ reds _ _ _).trans ?_
  rw [zero_add]
  refine Finset.sum_congr rfl fun k _ => ?_
  refine congrArg (res_main_v141 V0) (funext fun a => ?_)
  match a with
  | ⟨0, _⟩ => rfl
  | ⟨1, _⟩ => rfl
  | ⟨2, _⟩ => rfl
  | ⟨3, _⟩ => rfl
  | ⟨4, _⟩ => rfl
  | ⟨5, _⟩ => rfl

variable (a0 : R0) (a1 : R1)
  (h0 : ∀ (b : Fin 8) (t : Fin 2048) (c : Fin 4096), V0 (Proc.devRef .tc main_arg0) (ix3 b t c) = ((a0 b t c : ℝ) : EReal))
  (h1 : ∀ (b : Fin 8) (t : Fin 2048) (c : Fin 6144), V0 (Proc.devRef .tc main_arg1) (ix3 b t c) = ((a1 b t c : ℝ) : EReal))

include h0 in
theorem q_real (b : Fin 8) (t : Fin 2048) (h : Fin 16) (c : Fin 64) (u : ℕ) (hu : t.val = u) :
    res_main_v1 V0 (ix5 b t (1 : Fin 3) h c) = ((qOf a0 b 1 h u c : ℝ) : EReal) := by
  rw [q_apply, h0]
  unfold qOf tm
  subst hu
  congr 3
  exact Fin.ext (Nat.mod_eq_of_lt t.isLt).symm

include h1 in
theorem k_real (b : Fin 8) (cl : Fin 4) (nb : Fin 4) (n : Fin 128) (h : Fin 16) (c : Fin 64) (u : ℕ)
    (hu : (nb.val * 128 + n.val) * 4 + cl.val = u) :
    res_main_v94 V0 (ix6 b cl nb n h c) = ((kOf a1 b 1 h u c : ℝ) : EReal) := by
  rw [k_apply, h1]
  unfold kOf tm
  subst hu
  congr 3
  exact (Nat.mod_eq_of_lt (show (nb.val * 128 + n.val) * 4 + cl.val < 2048 by omega)).symm

include h1 in
theorem v_real (b : Fin 8) (cl : Fin 4) (nb : Fin 4) (n : Fin 128) (h : Fin 16) (c : Fin 64) (u : ℕ)
    (hu : (nb.val * 128 + n.val) * 4 + cl.val = u) :
    res_main_v100 V0 (ix6 b cl nb n h c) = ((vOf a1 b 1 h u c : ℝ) : EReal) := by
  rw [v_apply, h1]
  unfold vOf tm
  subst hu
  congr 3
  exact (Nat.mod_eq_of_lt (show (nb.val * 128 + n.val) * 4 + cl.val < 2048 by omega)).symm

/-- The queries, and the keys of the block before and of the block itself. -/
def qE (b : Fin 8) (t : Fin 2048) (h : Fin 16) (x : Fin 64) : EReal := res_main_v1 V0 (ix5 b t (1 : Fin 3) h x)
def keyE (b : Fin 8) (cl : Fin 4) (nb : Fin 4) (h : Fin 16) (k : Fin 256) (x : Fin 64) : EReal :=
  if _ : k.val < 128 then
    if _ : (1 ≤ nb.val ∧ nb.val - 1 < 4) ∧ k.val < 128 then
      res_main_v94 V0 (ix6 b cl ⟨nb.val - 1, by omega⟩ ⟨k.val, by omega⟩ h x)
    else FloatOps.sitofp (F := Ideal) FTy.f32 0#32
  else res_main_v94 V0 (ix6 b cl nb ⟨k.val - 128, by omega⟩ h x)

/-- The scores, with the keys of the block before and of the block itself. -/
theorem s_raw (b : Fin 8) (cl : Fin 4) (nb : Fin 4) (h : Fin 16) (n : Fin 128) (k : Fin 256) :
    sE V0 b cl nb h n k
      = if (if k.val < 128 then nb.val ≠ 0 ∧ n.val < k.val else k.val - 128 ≤ n.val) then
          (((∑ x : Fin 64, qE V0 b ⟨(nb.val * 128 + n.val) * 4 + cl.val, by omega⟩ h x *
            keyE V0 b cl nb h k x) *
          Ideal.ofBits .f32 0x3E000000#32 : EReal))
        else ⊥ := by
  unfold sE res_main_v136
  clean_types
  pointwise
  rw [rel_apply, slot_apply, mask_bit _ _ _ (by omega) (by omega) (by omega), select_bit]
  exact if_ctx_congr Iff.rfl (fun hv => rfl) (fun _ => negInf_eq)

include h1 in
/-- The key of a visible slot. -/
theorem key_real (b : Fin 8) (cl : Fin 4) (nb : Fin 4) (h : Fin 16) (n : Fin 128) (k : Fin 256) (x : Fin 64)
    (hv : if k.val < 128 then nb.val ≠ 0 ∧ n.val < k.val else k.val - 128 ≤ n.val) :
    keyE V0 b cl nb h k x
      = ((kOf a1 b 1 h (if k.val < 128 then cl.val + 4 * (128 * (nb.val - 1) + k.val)
          else cl.val + 4 * (128 * nb.val + (k.val - 128))) x : ℝ) : EReal) := by
  unfold keyE
  by_cases hk : k.val < 128
  · rw [if_pos hk] at hv
    rw [dif_pos hk, if_pos hk, dif_pos (by omega)]
    exact k_real V0 a1 h1 b _ _ _ h x _ (by dsimp only; omega)
  · rw [dif_neg hk, if_neg hk]
    exact k_real V0 a1 h1 b _ _ _ h x _ (by dsimp only; omega)

include h0 h1 in
/-- The scores. -/
theorem s_apply (b : Fin 8) (cl : Fin 4) (nb : Fin 4) (h : Fin 16) (n : Fin 128) (k : Fin 256) :
    sE V0 b cl nb h n k
      = if (if k.val < 128 then nb.val ≠ 0 ∧ n.val < k.val else k.val - 128 ≤ n.val) then
          ((sOf a0 a1 b 1 h (cl.val + 4 * (128 * nb.val + n.val))
            (if k.val < 128 then cl.val + 4 * (128 * (nb.val - 1) + k.val) else cl.val + 4 * (128 * nb.val + (k.val - 128))) : ℝ) : EReal)
        else ⊥ := by
  rw [s_raw]
  refine if_ctx_congr Iff.rfl (fun hv => ?_) (fun _ => rfl)
  exact score_sum a0 a1 b 1 h _ _ _ _ (fun x => q_real V0 a0 h0 b _ h x _ (by dsimp only; omega))
    fun x => key_real V0 a1 h1 b cl nb h n k x hv

include h0 h1 in
/-- The scores of time `t`. -/
theorem s_time (b : Fin 8) (t : Fin 2048) (h : Fin 16) (k : Fin 256) :
    sE V0 b ⟨t.val % 4, by omega⟩ ⟨t.val / 4 / 128, by omega⟩ h ⟨t.val / 4 % 128, by omega⟩ k
      = if vis 4 t.val k then ((sOf a0 a1 b 1 h t.val (kt 4 t.val k) : ℝ) : EReal) else ⊥ := by
  rw [s_apply V0 a0 a1 h0 h1]
  refine if_congr ?_ ?_ rfl
  · unfold vis
    by_cases hk : k.val < 128
    · simp only [if_pos hk]; try omega
    · simp only [if_neg hk]; try omega
  · unfold kt
    by_cases hk : k.val < 128
    · simp only [if_pos hk]
      congr 2; all_goals omega
    · simp only [if_neg hk]
      congr 2; all_goals omega

include h0 h1 in
/-- What the group's numbers at time `t` stand for. -/
theorem led (b : Fin 8) (t : Fin 2048) (h : Fin 16) (c : Fin 64) (A B : Fin 128 → EReal)
    (hA : ∀ x : Fin 128, vis 4 t.val ⟨x.val, by omega⟩ → A x = ((vOf a1 b 1 h (kt 4 t.val ⟨x.val, by omega⟩) c : ℝ) : EReal))
    (hB : ∀ x : Fin 128, vis 4 t.val ⟨128 + x.val, by omega⟩ → B x = ((vOf a1 b 1 h (kt 4 t.val ⟨128 + x.val, by omega⟩) c : ℝ) : EReal)) :
    Led (mE V0 b ⟨t.val % 4, by omega⟩ ⟨t.val / 4 / 128, by omega⟩ h ⟨t.val / 4 % 128, by omega⟩) (lE V0 b ⟨t.val % 4, by omega⟩ ⟨t.val / 4 / 128, by omega⟩ h ⟨t.val / 4 % 128, by omega⟩)
      (∑ x : Fin 128, A x * eE V0 b ⟨t.val % 4, by omega⟩ ⟨t.val / 4 / 128, by omega⟩ h ⟨t.val / 4 % 128, by omega⟩ ⟨x.val, by omega⟩
        + ∑ x : Fin 128, B x * eE V0 b ⟨t.val % 4, by omega⟩ ⟨t.val / 4 / 128, by omega⟩ h ⟨t.val / 4 % 128, by omega⟩ ⟨128 + x.val, by omega⟩)
      (wOf a0 a1 b 1 h t.val) (uOf a0 a1 b 1 h t.val c) :=
  Led.band 4 t.val (sOf a0 a1 b 1 h t.val) (fun u => vOf a1 b 1 h u c) _ _ _ (s_time V0 a0 a1 h0 h1 b t h)
    (m_apply V0 b _ _ h _) (e_apply V0 b _ _ h _) _ (l_apply V0 b _ _ h _) A B hA hB

end Cert.Proof.RI.G1

end
-- ==== Proof.RI.G2.lean ====
module

public import proofs.«01_k».proof.Proof.Gen.ReferenceIdeal.Run
public import proofs.«01_k».proof.Proof.Spec
public import proofs.«01_k».proof.Proof.Consts
public import Idealize.ShloMosaic.Lib.Pointwise
public import Idealize.ShloMosaic.Lib.Tactic.CleanTypes
public import Idealize.ShloMosaic.Lib.Tactic.IndexArith
public import Idealize.ShloMosaic.Lib.KernelVsHost

@[expose] public section

set_option maxRecDepth 16384

noncomputable section

/-! The reference's group 2, dilation 16. -/

namespace Cert.Proof.RI.G2

open Cert.ReferenceIdeal Cert.ReferenceIdeal.Value Cert.ReferenceIdeal.Facts₀ Cert.ReferenceIdeal.Facts
open Idealize.ShloMosaic Idealize.ShloMosaic.TcCoe Idealize.SL.Sem

variable (V0 : Valuation τ sig (Elt Ideal))

theorem q_apply (b : Fin 8) (t : Fin 2048) (g : Fin 3) (h : Fin 16) (c : Fin 64) :
    res_main_v1 V0 (ix5 b t g h c)
      = (V0 (Proc.devRef .tc main_arg0) (ix3 b t ⟨g.val * 1024 + h.val * 64 + c.val, by omega⟩) : EReal) := by
  unfold res_main_v1
  clean_types
  pointwise

theorem k_apply (b : Fin 8) (cl : Fin 16) (nb : Fin 1) (n : Fin 128) (h : Fin 16) (c : Fin 64) :
    res_main_v170 V0 (ix6 b cl nb n h c)
      = (V0 (Proc.devRef .tc main_arg1) (ix3 b ⟨n.val * 16 + cl.val, by omega⟩ ⟨2 * 1024 + h.val * 64 + c.val, by omega⟩) : EReal) := by
  unfold res_main_v170 res_main_v4 res_main_v2
  clean_types
  pointwise

theorem v_apply (b : Fin 8) (cl : Fin 16) (nb : Fin 1) (n : Fin 128) (h : Fin 16) (c : Fin 64) :
    res_main_v176 V0 (ix6 b cl nb n h c)
      = (V0 (Proc.devRef .tc main_arg1) (ix3 b ⟨n.val * 16 + cl.val, by omega⟩ ⟨3072 + 2 * 1024 + h.val * 64 + c.val, by omega⟩) : EReal) := by
  unfold res_main_v176 res_main_v6 res_main_v2
  clean_types
  pointwise

theorem slot_apply (z : Fin 1) (k : Fin 256) : res_main_v186 V0 (ix2 z k) = BitVec.ofNat 32 k.val := by
  unfold res_main_v186
  clean_types
  pointwise

theorem rel_apply (n : Fin 128) (k : Fin 256) :
    res_main_v191 V0 (ix2 n k) = IntOp.subi (IntOp.addi (128#32) (BitVec.ofNat 32 n.val)) (BitVec.ofNat 32 k.val) := by
  unfold res_main_v191
  clean_types
  pointwise
  rw [slot_apply]

/-- The scores, their maxima, the weights and their sums, as extended reals. -/
def sE (b : Fin 8) (cl : Fin 16) (nb : Fin 1) (h : Fin 16) (n : Fin 128) (k : Fin 256) : EReal :=
  res_main_v210 V0 (ix6 b cl nb h n k)
def mE (b : Fin 8) (cl : Fin 16) (nb : Fin 1) (h : Fin 16) (n : Fin 128) : EReal :=
  res_main_v212 V0 (ix6 b cl nb h n (0 : Fin 1))
def eE (b : Fin 8) (cl : Fin 16) (nb : Fin 1) (h : Fin 16) (n : Fin 128) (k : Fin 256) : EReal :=
  res_main_v215 V0 (ix6 b cl nb h n k)
def lE (b : Fin 8) (cl : Fin 16) (nb : Fin 1) (h : Fin 16) (n : Fin 128) : EReal :=
  res_main_v216 V0 (ix5 b cl nb h n)

/-- The reduction of the slots' axis. -/
theorem reds : Shape.Reduces S8x16x1x16x128x256 [5] S8x16x1x16x128 := by decide

theorem m_apply (b : Fin 8) (cl : Fin 16) (nb : Fin 1) (h : Fin 16) (n : Fin 128) :
    mE V0 b cl nb h n = (Finset.univ : Finset (Fin 256)).fold max ⊥ (sE V0 b cl nb h n) := by
  obtain rfl : nb = 0 := Subsingleton.elim _ _
  unfold mE res_main_v212
  clean_types
  pointwise
  rw [negInf_eq, Shape.ReducesTo.drop_eq_drop _ reds]
  refine (reds.fold_filter_drop_single _ _ _ _).trans ?_
  refine congrArg (fun f => (Finset.univ : Finset (Fin 256)).fold max ⊥ f) (funext fun k => ?_)
  refine congrArg (res_main_v210 V0) (funext fun a => ?_)
  match a with
  | ⟨0, _⟩ => rfl
  | ⟨1, _⟩ => rfl
  | ⟨2, _⟩ => rfl
  | ⟨3, _⟩ => rfl
  | ⟨4, _⟩ => rfl
  | ⟨5, _⟩ => rfl

theorem e_apply (b : Fin 8) (cl : Fin 16) (nb : Fin 1) (h : Fin 16) (n : Fin 128) (k : Fin 256) :
    eE V0 b cl nb h n k = Ideal.exp (sE V0 b cl nb h n k - mE V0 b cl nb h n) := by
  obtain rfl : nb = 0 := Subsingleton.elim _ _
  unfold eE res_main_v215
  clean_types
  pointwise
  rfl

theorem l_apply (b : Fin 8) (cl : Fin 16) (nb : Fin 1) (h : Fin 16) (n : Fin 128) :
    lE V0 b cl nb h n = ∑ k : Fin 256, eE V0 b cl nb h n k := by
  obtain rfl : nb = 0 := Subsingleton.elim _ _
  unfold lE res_main_v216
  clean_types
  pointwise
  refine (Ideal.hostReduceAdd_single _ reds _ _ _).trans ?_
  rw [zero_add]
  refine Finset.sum_congr rfl fun k _ => ?_
  refine congrArg (res_main_v215 V0) (funext fun a => ?_)
  match a with
  | ⟨0, _⟩ => rfl
  | ⟨1, _⟩ => rfl
  | ⟨2, _⟩ => rfl
  | ⟨3, _⟩ => rfl
  | ⟨4, _⟩ => rfl
  | ⟨5, _⟩ => rfl

variable (a0 : R0) (a1 : R1)
  (h0 : ∀ (b : Fin 8) (t : Fin 2048) (c : Fin 4096), V0 (Proc.devRef .tc main_arg0) (ix3 b t c) = ((a0 b t c : ℝ) : EReal))
  (h1 : ∀ (b : Fin 8) (t : Fin 2048) (c : Fin 6144), V0 (Proc.devRef .tc main_arg1) (ix3 b t c) = ((a1 b t c : ℝ) : EReal))

include h0 in
theorem q_real (b : Fin 8) (t : Fin 2048) (h : Fin 16) (c : Fin 64) (u : ℕ) (hu : t.val = u) :
    res_main_v1 V0 (ix5 b t (2 : Fin 3) h c) = ((qOf a0 b 2 h u c : ℝ) : EReal) := by
  rw [q_apply, h0]
  unfold qOf tm
  subst hu
  congr 3
  exact Fin.ext (Nat.mod_eq_of_lt t.isLt).symm

include h1 in
theorem k_real (b : Fin 8) (cl : Fin 16) (nb : Fin 1) (n : Fin 128) (h : Fin 16) (c : Fin 64) (u : ℕ)
    (hu : n.val * 16 + cl.val = u) :
    res_main_v170 V0 (ix6 b cl nb n h c) = ((kOf a1 b 2 h u c : ℝ) : EReal) := by
  rw [k_apply, h1]
  unfold kOf tm
  subst hu
  congr 3
  exact (Nat.mod_eq_of_lt (show n.val * 16 + cl.val < 2048 by omega)).symm

include h1 in
theorem v_real (b : Fin 8) (cl : Fin 16) (nb : Fin 1) (n : Fin 128) (h : Fin 16) (c : Fin 64) (u : ℕ)
    (hu : n.val * 16 + cl.val = u) :
    res_main_v176 V0 (ix6 b cl nb n h c) = ((vOf a1 b 2 h u c : ℝ) : EReal) := by
  rw [v_apply, h1]
  unfold vOf tm
  subst hu
  congr 3
  exact (Nat.mod_eq_of_lt (show n.val * 16 + cl.val < 2048 by omega)).symm

include h0 h1 in
/-- The scores. -/
theorem s_apply (b : Fin 8) (cl : Fin 16) (nb : Fin 1) (h : Fin 16) (n : Fin 128) (k : Fin 256) :
    sE V0 b cl nb h n k
      = if (if k.val < 128 then 0 ≠ 0 ∧ n.val < k.val else k.val - 128 ≤ n.val) then
          ((sOf a0 a1 b 2 h (cl.val + 16 * (128 * 0 + n.val))
            (if k.val < 128 then cl.val + 16 * (128 * (0 - 1) + k.val) else cl.val + 16 * (128 * 0 + (k.val - 128))) : ℝ) : EReal)
        else ⊥ := by
  unfold sE res_main_v210
  clean_types
  pointwise
  rw [rel_apply, slot_apply, mask_bit _ _ _ (by omega) (by omega) (by omega), select_bit]
  refine if_ctx_congr Iff.rfl (fun hv => ?_) (fun _ => negInf_eq)
  refine score_sum a0 a1 b 2 h _ _ _ _ (fun x => q_real V0 a0 h0 b _ h x _ (by dsimp only; omega)) fun x => ?_
  by_cases hk : k.val < 128
  · rw [if_pos hk] at hv
    rw [dif_pos hk, if_pos hk]
    exact absurd rfl hv.1
  · rw [dif_neg hk, if_neg hk]
    exact k_real V0 a1 h1 b _ _ _ h x _ (by dsimp only; omega)

include h0 h1 in
/-- The scores of time `t`. -/
theorem s_time (b : Fin 8) (t : Fin 2048) (h : Fin 16) (k : Fin 256) :
    sE V0 b ⟨t.val % 16, by omega⟩ (0 : Fin 1) h ⟨t.val / 16, by omega⟩ k
      = if vis 16 t.val k then ((sOf a0 a1 b 2 h t.val (kt 16 t.val k) : ℝ) : EReal) else ⊥ := by
  rw [s_apply V0 a0 a1 h0 h1]
  refine if_congr ?_ ?_ rfl
  · unfold vis
    by_cases hk : k.val < 128
    · simp only [if_pos hk]; try omega
    · simp only [if_neg hk]; try omega
  · unfold kt
    by_cases hk : k.val < 128
    · simp only [if_pos hk]
      congr 2; all_goals omega
    · simp only [if_neg hk]
      congr 2; all_goals omega

include h0 h1 in
/-- What the group's numbers at time `t` stand for. -/
theorem led (b : Fin 8) (t : Fin 2048) (h : Fin 16) (c : Fin 64) (A B : Fin 128 → EReal)
    (hA : ∀ x : Fin 128, vis 16 t.val ⟨x.val, by omega⟩ → A x = ((vOf a1 b 2 h (kt 16 t.val ⟨x.val, by omega⟩) c : ℝ) : EReal))
    (hB : ∀ x : Fin 128, vis 16 t.val ⟨128 + x.val, by omega⟩ → B x = ((vOf a1 b 2 h (kt 16 t.val ⟨128 + x.val, by omega⟩) c : ℝ) : EReal)) :
    Led (mE V0 b ⟨t.val % 16, by omega⟩ (0 : Fin 1) h ⟨t.val / 16, by omega⟩) (lE V0 b ⟨t.val % 16, by omega⟩ (0 : Fin 1) h ⟨t.val / 16, by omega⟩)
      (∑ x : Fin 128, A x * eE V0 b ⟨t.val % 16, by omega⟩ (0 : Fin 1) h ⟨t.val / 16, by omega⟩ ⟨x.val, by omega⟩
        + ∑ x : Fin 128, B x * eE V0 b ⟨t.val % 16, by omega⟩ (0 : Fin 1) h ⟨t.val / 16, by omega⟩ ⟨128 + x.val, by omega⟩)
      (wOf a0 a1 b 2 h t.val) (uOf a0 a1 b 2 h t.val c) :=
  Led.band 16 t.val (sOf a0 a1 b 2 h t.val) (fun u => vOf a1 b 2 h u c) _ _ _ (s_time V0 a0 a1 h0 h1 b t h)
    (m_apply V0 b _ _ h _) (e_apply V0 b _ _ h _) _ (l_apply V0 b _ _ h _) A B hA hB

end Cert.Proof.RI.G2

end
-- ==== Proof.RI.Lse.lean ====
module

public import proofs.«01_k».proof.Proof.RI.G0
public import proofs.«01_k».proof.Proof.RI.G1
public import proofs.«01_k».proof.Proof.RI.G2

@[expose] public section

set_option maxRecDepth 16384

noncomputable section

/-! The reference's merge of the groups: the logarithms of the weights. -/

namespace Cert.Proof.RI

open Cert.ReferenceIdeal Cert.ReferenceIdeal.Value Cert.ReferenceIdeal.Facts₀ Cert.ReferenceIdeal.Facts
open Idealize.ShloMosaic Idealize.ShloMosaic.TcCoe Idealize.SL.Sem

variable (V0 : Valuation τ sig (Elt Ideal))

def lseE (g : Fin 3) (b : Fin 8) (t : Fin 2048) (h : Fin 16) : EReal := res_main_v236 V0 (ix4 g b t h)

/-- The sum of an array and of the logarithm of another, at an index. -/
theorem add_log {S : Shape} (M L : (⟨S, .f32⟩ : BufTy).Contents (Elt Ideal)) (i : S.Idx) (x y : EReal) (hM : M i = x) (hL : L i = y) :
    (addf (F := Ideal) (φ := .f32) M (Host.log (F := Ideal) (φ := .f32) L) : (⟨S, .f32⟩ : BufTy).Contents (Elt Ideal)) i
      = x + Ideal.log y := by
  rw [← hM, ← hL]; rfl

/-! The three groups lie one after another. -/

theorem cat0 (A B C : (⟨S1x8x2048x16, .f32⟩ : BufTy).Contents (Elt Ideal)) (b : Fin 8) (t : Fin 2048) (h : Fin 16) :
    (concatenate S3x8x2048x16 0 [⟨S1x8x2048x16, A⟩, ⟨S1x8x2048x16, B⟩, ⟨S1x8x2048x16, C⟩]
      concatenates_S1x8x2048x16_S1x8x2048x16_S1x8x2048x16_S3x8x2048x16_d0 : (⟨S3x8x2048x16, .f32⟩ : BufTy).Contents (Elt Ideal)) (ix4 (0 : Fin 3) b t h)
      = A (ix4 (0 : Fin 1) b t h) := by
  clean_types
  pointwise

theorem cat1 (A B C : (⟨S1x8x2048x16, .f32⟩ : BufTy).Contents (Elt Ideal)) (b : Fin 8) (t : Fin 2048) (h : Fin 16) :
    (concatenate S3x8x2048x16 0 [⟨S1x8x2048x16, A⟩, ⟨S1x8x2048x16, B⟩, ⟨S1x8x2048x16, C⟩]
      concatenates_S1x8x2048x16_S1x8x2048x16_S1x8x2048x16_S3x8x2048x16_d0 : (⟨S3x8x2048x16, .f32⟩ : BufTy).Contents (Elt Ideal)) (ix4 (1 : Fin 3) b t h)
      = B (ix4 (0 : Fin 1) b t h) := by
  clean_types
  pointwise

theorem cat2 (A B C : (⟨S1x8x2048x16, .f32⟩ : BufTy).Contents (Elt Ideal)) (b : Fin 8) (t : Fin 2048) (h : Fin 16) :
    (concatenate S3x8x2048x16 0 [⟨S1x8x2048x16, A⟩, ⟨S1x8x2048x16, B⟩, ⟨S1x8x2048x16, C⟩]
      concatenates_S1x8x2048x16_S1x8x2048x16_S1x8x2048x16_S3x8x2048x16_d0 : (⟨S3x8x2048x16, .f32⟩ : BufTy).Contents (Elt Ideal)) (ix4 (2 : Fin 3) b t h)
      = C (ix4 (0 : Fin 1) b t h) := by
  clean_types
  pointwise

/-! Each group's rows, back in the order of time. -/

theorem rows0 (X : (⟨S8x1x16x16x128, .f32⟩ : BufTy).Contents (Elt Ideal)) (b : Fin 8) (t : Fin 2048) (h : Fin 16) :
    (broadcastInDim S1x8x2048x16 ![1, 2, 3] bcast_S8x2048x16_S1x8x2048x16_1_2_3 (shapeCast _ (transpose S8x2048x1x16 [0, 2, 1, 3]
      (shapeCast _ (transpose S8x1x16x128x16 [0, 1, 2, 4, 3] X transposes_S8x1x16x16x128_S8x1x16x128x16_0_1_2_4_3) shapeCasts_S8x1x16x128x16_S8x1x2048x16)
      transposes_S8x1x2048x16_S8x2048x1x16_0_2_1_3) shapeCasts_S8x2048x1x16_S8x2048x16) : (⟨S1x8x2048x16, .f32⟩ : BufTy).Contents (Elt Ideal)) (ix4 (0 : Fin 1) b t h)
      = X (ix5 b (0 : Fin 1) ⟨t.val / 128, by omega⟩ h ⟨t.val % 128, by omega⟩) := by
  clean_types
  pointwise

theorem flat0 (M : (⟨S8x1x16x16x128x1, .f32⟩ : BufTy).Contents (Elt Ideal)) (b : Fin 8) (cl : Fin 1) (nb : Fin 16) (h : Fin 16) (n : Fin 128) :
    (shapeCast _ M shapeCasts_S8x1x16x16x128x1_S8x1x16x16x128 : (⟨S8x1x16x16x128, .f32⟩ : BufTy).Contents (Elt Ideal)) (ix5 b cl nb h n) = M (ix6 b cl nb h n (0 : Fin 1)) := by
  obtain rfl : cl = 0 := Subsingleton.elim _ _
  clean_types
  pointwise

theorem lse0 (b : Fin 8) (t : Fin 2048) (h : Fin 16) :
    lseE V0 0 b t h = G0.mE V0 b (0 : Fin 1) ⟨t.val / 128, by omega⟩ h ⟨t.val % 128, by omega⟩ + Ideal.log (G0.lE V0 b (0 : Fin 1) ⟨t.val / 128, by omega⟩ h ⟨t.val % 128, by omega⟩) := by
  unfold lseE res_main_v236
  exact (cat0 _ _ _ b t h).trans ((rows0 _ b t h).trans (add_log _ _ _ _ _ (flat0 _ b _ _ h _) rfl))

theorem rows1 (X : (⟨S8x4x4x16x128, .f32⟩ : BufTy).Contents (Elt Ideal)) (b : Fin 8) (t : Fin 2048) (h : Fin 16) :
    (broadcastInDim S1x8x2048x16 ![1, 2, 3] bcast_S8x2048x16_S1x8x2048x16_1_2_3 (shapeCast _ (transpose S8x512x4x16 [0, 2, 1, 3]
      (shapeCast _ (transpose S8x4x4x128x16 [0, 1, 2, 4, 3] X transposes_S8x4x4x16x128_S8x4x4x128x16_0_1_2_4_3) shapeCasts_S8x4x4x128x16_S8x4x512x16)
      transposes_S8x4x512x16_S8x512x4x16_0_2_1_3) shapeCasts_S8x512x4x16_S8x2048x16) : (⟨S1x8x2048x16, .f32⟩ : BufTy).Contents (Elt Ideal)) (ix4 (0 : Fin 1) b t h)
      = X (ix5 b ⟨t.val % 4, by omega⟩ ⟨t.val / 4 / 128, by omega⟩ h ⟨t.val / 4 % 128, by omega⟩) := by
  clean_types
  pointwise

theorem flat1 (M : (⟨S8x4x4x16x128x1, .f32⟩ : BufTy).Contents (Elt Ideal)) (b : Fin 8) (cl : Fin 4) (nb : Fin 4) (h : Fin 16) (n : Fin 128) :
    (shapeCast _ M shapeCasts_S8x4x4x16x128x1_S8x4x4x16x128 : (⟨S8x4x4x16x128, .f32⟩ : BufTy).Contents (Elt Ideal)) (ix5 b cl nb h n) = M (ix6 b cl nb h n (0 : Fin 1)) := by
  clean_types
  pointwise

theorem lse1 (b : Fin 8) (t : Fin 2048) (h : Fin 16) :
    lseE V0 1 b t h = G1.mE V0 b ⟨t.val % 4, by omega⟩ ⟨t.val / 4 / 128, by omega⟩ h ⟨t.val / 4 % 128, by omega⟩ + Ideal.log (G1.lE V0 b ⟨t.val % 4, by omega⟩ ⟨t.val / 4 / 128, by omega⟩ h ⟨t.val / 4 % 128, by omega⟩) := by
  unfold lseE res_main_v236
  exact (cat1 _ _ _ b t h).trans ((rows1 _ b t h).trans (add_log _ _ _ _ _ (flat1 _ b _ _ h _) rfl))

theorem rows2 (X : (⟨S8x16x1x16x128, .f32⟩ : BufTy).Contents (Elt Ideal)) (b : Fin 8) (t : Fin 2048) (h : Fin 16) :
    (broadcastInDim S1x8x2048x16 ![1, 2, 3] bcast_S8x2048x16_S1x8x2048x16_1_2_3 (shapeCast _ (transpose S8x128x16x16 [0, 2, 1, 3]
      (shapeCast _ (transpose S8x16x1x128x16 [0, 1, 2, 4, 3] X transposes_S8x16x1x16x128_S8x16x1x128x16_0_1_2_4_3) shapeCasts_S8x16x1x128x16_S8x16x128x16)
      transposes_S8x16x128x16_S8x128x16x16_0_2_1_3) shapeCasts_S8x128x16x16_S8x2048x16) : (⟨S1x8x2048x16, .f32⟩ : BufTy).Contents (Elt Ideal)) (ix4 (0 : Fin 1) b t h)
      = X (ix5 b ⟨t.val % 16, by omega⟩ (0 : Fin 1) h ⟨t.val / 16, by omega⟩) := by
  clean_types
  pointwise

theorem flat2 (M : (⟨S8x16x1x16x128x1, .f32⟩ : BufTy).Contents (Elt Ideal)) (b : Fin 8) (cl : Fin 16) (nb : Fin 1) (h : Fin 16) (n : Fin 128) :
    (shapeCast _ M shapeCasts_S8x16x1x16x128x1_S8x16x1x16x128 : (⟨S8x16x1x16x128, .f32⟩ : BufTy).Contents (Elt Ideal)) (ix5 b cl nb h n) = M (ix6 b cl nb h n (0 : Fin 1)) := by
  obtain rfl : nb = 0 := Subsingleton.elim _ _
  clean_types
  pointwise

theorem lse2 (b : Fin 8) (t : Fin 2048) (h : Fin 16) :
    lseE V0 2 b t h = G2.mE V0 b ⟨t.val % 16, by omega⟩ (0 : Fin 1) h ⟨t.val / 16, by omega⟩ + Ideal.log (G2.lE V0 b ⟨t.val % 16, by omega⟩ (0 : Fin 1) h ⟨t.val / 16, by omega⟩) := by
  unfold lseE res_main_v236
  exact (cat2 _ _ _ b t h).trans ((rows2 _ b t h).trans (add_log _ _ _ _ _ (flat2 _ b _ _ h _) rfl))

variable (a0 : R0) (a1 : R1)
  (h0 : ∀ (b : Fin 8) (t : Fin 2048) (c : Fin 4096), V0 (Proc.devRef .tc main_arg0) (ix3 b t c) = ((a0 b t c : ℝ) : EReal))
  (h1 : ∀ (b : Fin 8) (t : Fin 2048) (c : Fin 6144), V0 (Proc.devRef .tc main_arg1) (ix3 b t c) = ((a1 b t c : ℝ) : EReal))

include h0 h1 in
/-- The logarithm of a group's sum of exponentials. -/
theorem lse_real (g : Fin 3) (b : Fin 8) (t : Fin 2048) (h : Fin 16) :
    lseE V0 g b t h = ((Real.log (wOf a0 a1 b g h t.val) : ℝ) : EReal) := by
  match g with
  | ⟨0, _⟩ =>
    exact (lse0 V0 b t h).trans
      ((G0.led V0 a0 a1 h0 h1 b t h 0 _ _ (fun _ _ => rfl) (fun _ _ => rfl)).lse (Wt_pos _ _ _))
  | ⟨1, _⟩ =>
    exact (lse1 V0 b t h).trans
      ((G1.led V0 a0 a1 h0 h1 b t h 0 _ _ (fun _ _ => rfl) (fun _ _ => rfl)).lse (Wt_pos _ _ _))
  | ⟨2, _⟩ =>
    exact (lse2 V0 b t h).trans
      ((G2.led V0 a0 a1 h0 h1 b t h 0 _ _ (fun _ _ => rfl) (fun _ _ => rfl)).lse (Wt_pos _ _ _))

/-- The weights of the merge. -/
def expE (g : Fin 3) (b : Fin 8) (t : Fin 2048) (h : Fin 16) : EReal := res_main_v243 V0 (ix4 g b t h)

theorem exp_apply (g : Fin 3) (b : Fin 8) (t : Fin 2048) (h : Fin 16) :
    expE V0 g b t h
      = Ideal.exp (lseE V0 g b t h - (Finset.univ : Finset (Fin 3)).fold max ⊥ fun x => lseE V0 x b t h) := by
  unfold expE res_main_v243
  clean_types
  pointwise
  rw [negInf_eq, max_eq_right bot_le]
  rfl

end Cert.Proof.RI

end
-- ==== Proof.RI.Mean.lean ====
module

public import proofs.«01_k».proof.Proof.RI.G0
public import proofs.«01_k».proof.Proof.RI.G1
public import proofs.«01_k».proof.Proof.RI.G2

@[expose] public section

set_option maxRecDepth 16384

noncomputable section

/-! The reference's means of the groups. -/

namespace Cert.Proof.RI

open Cert.ReferenceIdeal Cert.ReferenceIdeal.Value Cert.ReferenceIdeal.Facts₀ Cert.ReferenceIdeal.Facts
open Idealize.ShloMosaic Idealize.ShloMosaic.TcCoe Idealize.SL.Sem

variable (V0 : Valuation τ sig (Elt Ideal))

def meanE (g : Fin 3) (b : Fin 8) (t : Fin 2048) (h : Fin 16) (c : Fin 64) : EReal := res_main_v251 V0 (ix5 g b t h c)

/-- Group 0: the values of the block before, and of the block itself. -/
def prev0 (b : Fin 8) (t : Fin 2048) (h : Fin 16) (c : Fin 64) (x : Fin 128) : EReal :=
  if _ : 1 ≤ t.val / 128 ∧ t.val / 128 - 1 < 16 then res_main_v24 V0 (ix6 b (0 : Fin 1) ⟨t.val / 128 - 1, by omega⟩ x h c) else FloatOps.sitofp (F := Ideal) FTy.f32 0#32
def own0 (b : Fin 8) (t : Fin 2048) (h : Fin 16) (c : Fin 64) (x : Fin 128) : EReal :=
  res_main_v24 V0 (ix6 b (0 : Fin 1) ⟨t.val / 128, by omega⟩ x h c)

theorem raw0 (b : Fin 8) (t : Fin 2048) (h : Fin 16) (c : Fin 64) :
    meanE V0 0 b t h c
      = Ideal.div (∑ x : Fin 128, prev0 V0 b t h c x * G0.eE V0 b (0 : Fin 1) ⟨t.val / 128, by omega⟩ h ⟨t.val % 128, by omega⟩ ⟨x.val, by omega⟩
          + ∑ x : Fin 128, own0 V0 b t h c x * G0.eE V0 b (0 : Fin 1) ⟨t.val / 128, by omega⟩ h ⟨t.val % 128, by omega⟩ ⟨128 + x.val, by omega⟩)
        (G0.lE V0 b (0 : Fin 1) ⟨t.val / 128, by omega⟩ h ⟨t.val % 128, by omega⟩) := by
  unfold meanE res_main_v251 prev0 own0 G0.eE G0.lE
  clean_types
  pointwise

/-- Group 1: the values of the block before, and of the block itself. -/
def prev1 (b : Fin 8) (t : Fin 2048) (h : Fin 16) (c : Fin 64) (x : Fin 128) : EReal :=
  if _ : t.val % 4 < 4 ∧ 1 ≤ t.val / 4 / 128 ∧ t.val / 4 / 128 - 1 < 4 then res_main_v100 V0 (ix6 b ⟨t.val % 4, by omega⟩ ⟨t.val / 4 / 128 - 1, by omega⟩ x h c) else FloatOps.sitofp (F := Ideal) FTy.f32 0#32
def own1 (b : Fin 8) (t : Fin 2048) (h : Fin 16) (c : Fin 64) (x : Fin 128) : EReal :=
  res_main_v100 V0 (ix6 b ⟨t.val % 4, by omega⟩ ⟨t.val / 4 / 128, by omega⟩ x h c)

theorem raw1 (b : Fin 8) (t : Fin 2048) (h : Fin 16) (c : Fin 64) :
    meanE V0 1 b t h c
      = Ideal.div (∑ x : Fin 128, prev1 V0 b t h c x * G1.eE V0 b ⟨t.val % 4, by omega⟩ ⟨t.val / 4 / 128, by omega⟩ h ⟨t.val / 4 % 128, by omega⟩ ⟨x.val, by omega⟩
          + ∑ x : Fin 128, own1 V0 b t h c x * G1.eE V0 b ⟨t.val % 4, by omega⟩ ⟨t.val / 4 / 128, by omega⟩ h ⟨t.val / 4 % 128, by omega⟩ ⟨128 + x.val, by omega⟩)
        (G1.lE V0 b ⟨t.val % 4, by omega⟩ ⟨t.val / 4 / 128, by omega⟩ h ⟨t.val / 4 % 128, by omega⟩) := by
  unfold meanE res_main_v251 prev1 own1 G1.eE G1.lE
  clean_types
  pointwise

/-- Group 2: the values of the block before, and of the block itself. -/
def prev2 (b : Fin 8) (t : Fin 2048) (h : Fin 16) (c : Fin 64) (x : Fin 128) : EReal :=
  if _ : t.val % 16 < 16 ∧ False then res_main_v176 V0 (ix6 b ⟨t.val % 16, by omega⟩ (0 : Fin 1) x h c) else FloatOps.sitofp (F := Ideal) FTy.f32 0#32
def own2 (b : Fin 8) (t : Fin 2048) (h : Fin 16) (c : Fin 64) (x : Fin 128) : EReal :=
  res_main_v176 V0 (ix6 b ⟨t.val % 16, by omega⟩ (0 : Fin 1) x h c)

theorem raw2 (b : Fin 8) (t : Fin 2048) (h : Fin 16) (c : Fin 64) :
    meanE V0 2 b t h c
      = Ideal.div (∑ x : Fin 128, prev2 V0 b t h c x * G2.eE V0 b ⟨t.val % 16, by omega⟩ (0 : Fin 1) h ⟨t.val / 16, by omega⟩ ⟨x.val, by omega⟩
          + ∑ x : Fin 128, own2 V0 b t h c x * G2.eE V0 b ⟨t.val % 16, by omega⟩ (0 : Fin 1) h ⟨t.val / 16, by omega⟩ ⟨128 + x.val, by omega⟩)
        (G2.lE V0 b ⟨t.val % 16, by omega⟩ (0 : Fin 1) h ⟨t.val / 16, by omega⟩) := by
  unfold meanE res_main_v251 prev2 own2 G2.eE G2.lE
  clean_types
  pointwise

variable (a0 : R0) (a1 : R1)
  (h0 : ∀ (b : Fin 8) (t : Fin 2048) (c : Fin 4096), V0 (Proc.devRef .tc main_arg0) (ix3 b t c) = ((a0 b t c : ℝ) : EReal))
  (h1 : ∀ (b : Fin 8) (t : Fin 2048) (c : Fin 6144), V0 (Proc.devRef .tc main_arg1) (ix3 b t c) = ((a1 b t c : ℝ) : EReal))

include h0 h1 in
theorem mean0 (b : Fin 8) (t : Fin 2048) (h : Fin 16) (c : Fin 64) :
    meanE V0 0 b t h c = ((uOf a0 a1 b 0 h t.val c / wOf a0 a1 b 0 h t.val : ℝ) : EReal) := by
  rw [raw0]
  refine Led.quot (G0.led V0 a0 a1 h0 h1 b t h c _ _ (fun x hx => ?_) (fun x hx => ?_)) (Wt_pos _ _ _)
  · unfold vis at hx
    rw [if_pos (by exact x.isLt)] at hx
    unfold kt prev0
    rw [if_pos (by exact x.isLt)]
    rw [dif_pos (by omega)]
    exact G0.v_real V0 a1 h1 b _ _ _ h c _ (by dsimp only; omega)
  · unfold kt own0
    rw [if_neg (by dsimp only; omega)]
    exact G0.v_real V0 a1 h1 b _ _ _ h c _ (by dsimp only; omega)

include h0 h1 in
theorem mean1 (b : Fin 8) (t : Fin 2048) (h : Fin 16) (c : Fin 64) :
    meanE V0 1 b t h c = ((uOf a0 a1 b 1 h t.val c / wOf a0 a1 b 1 h t.val : ℝ) : EReal) := by
  rw [raw1]
  refine Led.quot (G1.led V0 a0 a1 h0 h1 b t h c _ _ (fun x hx => ?_) (fun x hx => ?_)) (Wt_pos _ _ _)
  · unfold vis at hx
    rw [if_pos (by exact x.isLt)] at hx
    unfold kt prev1
    rw [if_pos (by exact x.isLt)]
    rw [dif_pos (by omega)]
    exact G1.v_real V0 a1 h1 b _ _ _ h c _ (by dsimp only; omega)
  · unfold kt own1
    rw [if_neg (by dsimp only; omega)]
    exact G1.v_real V0 a1 h1 b _ _ _ h c _ (by dsimp only; omega)

include h0 h1 in
theorem mean2 (b : Fin 8) (t : Fin 2048) (h : Fin 16) (c : Fin 64) :
    meanE V0 2 b t h c = ((uOf a0 a1 b 2 h t.val c / wOf a0 a1 b 2 h t.val : ℝ) : EReal) := by
  rw [raw2]
  refine Led.quot (G2.led V0 a0 a1 h0 h1 b t h c _ _ (fun x hx => ?_) (fun x hx => ?_)) (Wt_pos _ _ _)
  · unfold vis at hx
    rw [if_pos (by exact x.isLt)] at hx
    unfold kt prev2
    rw [if_pos (by exact x.isLt)]
    omega
  · unfold kt own2
    rw [if_neg (by dsimp only; omega)]
    exact G2.v_real V0 a1 h1 b _ _ _ h c _ (by dsimp only; omega)

include h0 h1 in
/-- The mean of a group's values. -/
theorem mean_real (g : Fin 3) (b : Fin 8) (t : Fin 2048) (h : Fin 16) (c : Fin 64) :
    meanE V0 g b t h c = ((uOf a0 a1 b g h t.val c / wOf a0 a1 b g h t.val : ℝ) : EReal) := by
  match g with
  | ⟨0, _⟩ => exact mean0 V0 a0 a1 h0 h1 b t h c
  | ⟨1, _⟩ => exact mean1 V0 a0 a1 h0 h1 b t h c
  | ⟨2, _⟩ => exact mean2 V0 a0 a1 h0 h1 b t h c

end Cert.Proof.RI

end
-- ==== Proof.RI.Out.lean ====
module

public import proofs.«01_k».proof.Proof.RI.Lse
public import proofs.«01_k».proof.Proof.RI.Mean

@[expose] public section

set_option maxRecDepth 16384

noncomputable section

/-! The reference's result. -/

namespace Cert.Proof.RI

open Cert.ReferenceIdeal Cert.ReferenceIdeal.Value Cert.ReferenceIdeal.Facts₀ Cert.ReferenceIdeal.Facts
open Idealize.ShloMosaic Idealize.ShloMosaic.TcCoe Idealize.SL.Sem

def redsG : Shape.Reduces S3x8x2048x16 [0] S8x2048x16 := by decide

theorem sum_groups (X : (⟨S3x8x2048x16, .f32⟩ : BufTy).Contents (Elt Ideal)) (b : Fin 8) (t : Fin 2048) (h : Fin 16) :
    (Host.reduceAdd (F := Ideal) (φ := .f32) X (constant S_ .f32 0x00000000#32) reducesTo_S3x8x2048x16_S8x2048x16_d0 h_S_ : (⟨S8x2048x16, .f32⟩ : BufTy).Contents (Elt Ideal)) (ix3 b t h)
      = (∑ k : Fin 3, X (ix4 k b t h) : EReal) := by
  clean_types
  pointwise

/-- The arrays multiplied over the groups, laid out by pairs of heads. -/
theorem merge_apply (X : (⟨S3x8x2048x16, .f32⟩ : BufTy).Contents (Elt Ideal)) (Y : (⟨S3x8x2048x16x64, .f32⟩ : BufTy).Contents (Elt Ideal))
    (b : Fin 8) (p : Fin 8) (t : Fin 2048) (l : Fin 128) :
    (transpose S8x8x2048x128 [0, 2, 1, 3] (shapeCast _ (shapeCast _ (Host.dotGeneral (F := Ideal) (φ₁ := .f32) (φ₂ := .f32)
      dot_S3x8x2048x16_S3x8x2048x16x64_S8x2048x16x64_0_0_n_4_123_123 none X Y)
      shapeCasts_S8x2048x16x64_S8x2048x1024) shapeCasts_S8x2048x1024_S8x2048x8x128) transposes_S8x2048x8x128_S8x8x2048x128_0_2_1_3 : (⟨S8x8x2048x128, .f32⟩ : BufTy).Contents (Elt Ideal)) (ix4 b p t l)
      = (∑ g : Fin 3, (X (ix4 g b t ⟨p.val * 2 + l.val / 64, by omega⟩) : EReal) * (Y (ix5 g b t ⟨p.val * 2 + l.val / 64, by omega⟩ ⟨l.val % 64, by omega⟩) : EReal) : EReal) := by
  clean_types
  pointwise

theorem share_apply (X : (⟨S3x8x2048x16, .f32⟩ : BufTy).Contents (Elt Ideal)) (D : (⟨S8x2048x16, .f32⟩ : BufTy).Contents (Elt Ideal)) (g : Fin 3) (b : Fin 8) (t : Fin 2048) (h : Fin 16) :
    (Host.divf (F := Ideal) (φ := .f32) X (broadcastInDim S3x8x2048x16 ![0, 1, 2, 3] bcast_S1x8x2048x16_S3x8x2048x16_0_1_2_3 (broadcastInDim S1x8x2048x16 ![1, 2, 3] bcast_S8x2048x16_S1x8x2048x16_1_2_3 D)) : (⟨S3x8x2048x16, .f32⟩ : BufTy).Contents (Elt Ideal)) (ix4 g b t h)
      = Ideal.div (X (ix4 g b t h)) (D (ix3 b t h)) := by
  clean_types
  pointwise

variable (V0 : Valuation τ sig (Elt Ideal)) (a0 : R0) (a1 : R1)
  (h0 : ∀ (b : Fin 8) (t : Fin 2048) (c : Fin 4096), V0 (Proc.devRef .tc main_arg0) (ix3 b t c) = ((a0 b t c : ℝ) : EReal))
  (h1 : ∀ (b : Fin 8) (t : Fin 2048) (c : Fin 6144), V0 (Proc.devRef .tc main_arg1) (ix3 b t c) = ((a1 b t c : ℝ) : EReal))

/-- The reference's result. -/
def res : (⟨S8x8x2048x128, .f32⟩ : BufTy).Contents (Elt Ideal) :=
  transpose S8x8x2048x128 [0, 2, 1, 3] (shapeCast _ (shapeCast _ (Host.dotGeneral (φ₁ := .f32) (φ₂ := .f32) dot_S3x8x2048x16_S3x8x2048x16x64_S8x2048x16x64_0_0_n_4_123_123 none
    (Host.divf (res_main_v243 V0) (broadcastInDim S3x8x2048x16 ![0, 1, 2, 3] bcast_S1x8x2048x16_S3x8x2048x16_0_1_2_3
      (broadcastInDim S1x8x2048x16 ![1, 2, 3] bcast_S8x2048x16_S1x8x2048x16_1_2_3
        (Host.reduceAdd (res_main_v243 V0) (constant S_ .f32 0x00000000#32) reducesTo_S3x8x2048x16_S8x2048x16_d0 h_S_)))) (res_main_v251 V0))
    shapeCasts_S8x2048x16x64_S8x2048x1024) shapeCasts_S8x2048x1024_S8x2048x8x128) transposes_S8x2048x8x128_S8x8x2048x128_0_2_1_3

include h0 h1 in
/-- It is the attention over real numbers. -/
theorem res_real (b p : Fin 8) (t : Fin 2048) (l : Fin 128) :
    res V0 (ix4 b p t l)
      = ((outOf a0 a1 b ⟨p.val * 2 + l.val / 64, by omega⟩ t.val ⟨l.val % 64, by omega⟩ : ℝ) : EReal) := by
  refine (merge_apply _ _ b p t l).trans ?_
  generalize (⟨p.val * 2 + l.val / 64, by omega⟩ : Fin 16) = h
  generalize (⟨l.val % 64, by omega⟩ : Fin 64) = c
  unfold outOf
  rw [← softMerge (fun g => lseE V0 g b t h) (fun g => meanE V0 g b t h c) (fun g => wOf a0 a1 b g h t.val)
    (fun g => uOf a0 a1 b g h t.val c) (fun g => Wt_pos _ _ _) 0 (fun g => lse_real V0 a0 a1 h0 h1 g b t h)
    (fun g => mean_real V0 a0 a1 h0 h1 g b t h c)]
  refine Finset.sum_congr rfl fun g _ => ?_
  rw [share_apply, sum_groups]
  show Ideal.div (expE V0 g b t h) (∑ k : Fin 3, expE V0 k b t h) * meanE V0 g b t h c = _
  simp only [exp_apply]

end Cert.Proof.RI

end
-- ==== Proof.Algebraic.lean ====
module

public import proofs.«01_k».proof.Proof.Finite
public import proofs.«01_k».proof.Proof.KV.Result
public import proofs.«01_k».proof.Proof.RI.Out

@[expose] public section

set_option maxRecDepth 16384

noncomputable section

/-! The kernel and the reference compute the same array. -/

namespace Cert.Proof

open Idealize.ShloMosaic Idealize.ShloMosaic.TcCoe Idealize.SL.Sem Idealize.ShloMosaic.StableHlo

/-- The real numbers of the projection. -/
def reals0 (X : (⟨Cert.Pre_finite.S8x2048x4096, .f32⟩ : BufTy).Contents (Elt Ideal)) : R0 :=
  fun b t x => (X (ix3 b t x) : EReal).toReal

/-- The real numbers of the keys and values. -/
def reals1 (X : (⟨Cert.Pre_finite.S8x2048x6144, .f32⟩ : BufTy).Contents (Elt Ideal)) : R1 :=
  fun b t x => (X (ix3 b t x) : EReal).toReal

/-- The reference's array is the attention over real numbers. -/
theorem res_eq_attn (V0 : Valuation Cert.ReferenceIdeal.τ Cert.ReferenceIdeal.sig (Elt Ideal)) (a0 : R0) (a1 : R1)
    (h0 : ∀ (b : Fin 8) (t : Fin 2048) (x : Fin 4096), V0 (Proc.devRef .tc Cert.ReferenceIdeal.main_arg0) (ix3 b t x) = ((a0 b t x : ℝ) : EReal))
    (h1 : ∀ (b : Fin 8) (t : Fin 2048) (x : Fin 6144), V0 (Proc.devRef .tc Cert.ReferenceIdeal.main_arg1) (ix3 b t x) = ((a1 b t x : ℝ) : EReal)) :
    RI.res V0 = KV.attn a0 a1 := by
  funext i
  have e := eq_ix4 (n0 := 8) (n1 := 8) (n2 := 2048) (n3 := 128) i
  exact (congrArg (RI.res V0) e).trans (RI.res_real V0 a0 a1 h0 h1 (i 0) (i 1) (i 2) (i 3))

/-- From real arguments the kernel and the reference end with the same array. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hm hagree
  have hk := fun c => finite_args _ _ (hm c)
  refine ⟨fun c => KV.attn (reals0 (m ((c.tc : Thread Cert.KernelIdeal.nD Cert.KernelIdeal.τ).loc Cert.KernelIdeal.main_arg0)))
    (reals1 (m ((c.tc : Thread Cert.KernelIdeal.nD Cert.KernelIdeal.τ).loc Cert.KernelIdeal.main_arg1))), ?_, ?_⟩
  · refine (θ_run Cert.KernelIdeal.defs _ _).mono (fun r h c => ⟨((h.1 c).1 9).trans ?_, h.2 c⟩)
      (θ_run_and (KI.run_main (F := Ideal) m g) (KI.unchanged (F := Ideal) m g))
    exact KV.final _ _ m c (fun b t x => (hk c).1 (ix3 b t x)) (fun b t x => (hk c).2 (ix3 b t x))
  · refine (θ_run Cert.ReferenceIdeal.defs _ _).mono (fun r h c => ⟨(h c).1.trans ?_, (h c).2⟩)
      (Cert.ReferenceIdeal.Value.run (F := Ideal) m' g')
    refine res_eq_attn (launchContents m' c) _ _ (fun b t x => ?_) (fun b t x => ?_)
    · exact (congrFun (hagree c).1 (ix3 b t x)).trans ((hk c).1 (ix3 b t x))
    · exact (congrFun (hagree c).2 (ix3 b t x)).trans ((hk c).2 (ix3 b t x))

end Cert.Proof

end
-- ==== Proof.Proj.Spec.lean ====
module

public import Idealize.ShloMosaic.Lib.Pointwise

@[expose] public section

set_option maxRecDepth 16384

noncomputable section

/-! # The projection over extended real numbers -/

namespace Cert.Proof.Proj

open Idealize.ShloMosaic

/-- A row over the root of its mean square, times the weights `g`. -/
def normV (f g : Fin 1024 → EReal) (k : Fin 1024) : EReal :=
  f k * Ideal.rsqrt (Ideal.div (∑ j, f j * f j) (Ideal.ofBits .f32 0x44800000#32) + Ideal.ofBits .f32 0x358637BD#32) * g k

/-- The normalised row times a column of the matrix `w`. -/
def projV {N : ℕ} (f g : Fin 1024 → EReal) (w : Fin 1024 → Fin N → EReal) (c : Fin N) : EReal := ∑ k, normV f g k * w k c

/-- Lane `l` of the pair of heads `n`: columns of the first 24 pairs are rotated with the columns 32 away, by the numbers `c`
    and `s` of the tables; the other pairs are left as they are. -/
def blockV {M N : ℕ} (hN : M * 128 = N) (P : Fin N → EReal) (c s : EReal) (n : Fin M) (l : Fin 128) : EReal :=
  if n.val < 24 then
    P ⟨n.val * 128 + l.val, by omega⟩ * c
      + (if l.val % 64 < 32 then P ⟨n.val * 128 + (l.val + 32) % 128, by omega⟩ else P ⟨n.val * 128 + (l.val + 96) % 128, by omega⟩) * s
  else P ⟨n.val * 128 + l.val, by omega⟩

theorem blockV_plain {M N : ℕ} (hN : M * 128 = N) (P : Fin N → EReal) (c s : EReal) (n : Fin M) (l : Fin 128) (h : ¬ n.val < 24) :
    blockV hN P c s n l = P ⟨n.val * 128 + l.val, by omega⟩ := if_neg h

/-- The same with the sine itself: negated where the lane lies in the first half of its head. -/
def ropeV {M N : ℕ} (hN : M * 128 = N) (P : Fin N → EReal) (c s : EReal) (n : Fin M) (l : Fin 128) : EReal :=
  blockV hN P c (if l.val % 64 < 32 then -s else s) n l

end Cert.Proof.Proj

end
-- ==== Proof.Proj.Tile.lean ====
module

public import proofs.«01_k».proof.Proof.Gen.Kernel2Ideal.Frame
public import Idealize.ShloMosaic.Lib.Pipeline.Value
public import Idealize.ShloMosaic.Lib.Pointwise
public import Idealize.ShloMosaic.Lib.Tactic.CleanTypes
public import Idealize.ShloMosaic.Lib.Tactic.IndexArith

@[expose] public section

set_option maxRecDepth 16384

noncomputable section

/-! A tile of the projection: its 256 rows times 1024 columns of the weights, and the rotation of the columns. -/

namespace Cert.Proof.Proj

open Cert.Kernel2Ideal Cert.Kernel2Ideal.Gen
open Idealize.ShloMosaic Idealize.ShloMosaic.TcCoe

/-- Which lanes lie in the first half of their head. -/
def firstHalf : IVec S1x128 1 := k0_pay13 k0_pay10 k0_pay11 k0_pay12

theorem firstHalf_apply : ∀ l : Fin 128, firstHalf (ix2 (0 : Fin 1) l) = if l.val % 64 < 32 then 1#1 else 0#1 := by
  decide +kernel

/-- The rotation of one pair of heads. -/
def rope1 (x C S : FVec Ideal S256x128 .f32) : FVec Ideal S256x128 .f32 :=
  addf (mulf x C) (mulf (select (broadcastTo S256x128 (shapeCast S1x128 firstHalf shapeCasts_S1x128_S1x128) broadcasts_S1x128_S256x128)
    (dynamicRotate 1 96#32 none x rotates_S256x128_d1) (dynamicRotate 1 32#32 none x rotates_S256x128_d1)) S)

theorem rope1_apply (x C S : FVec Ideal S256x128 .f32) (r : Fin 256) (l : Fin 128) :
    rope1 x C S (ix2 r l) = ((x (ix2 r l) : EReal) * C (ix2 r l)
      + (if l.val % 64 < 32 then (x (ix2 r ⟨(l.val + 32) % 128, Nat.mod_lt _ (by decide)⟩) : EReal) else x (ix2 r ⟨(l.val + 96) % 128, Nat.mod_lt _ (by decide)⟩)) * S (ix2 r l) : EReal) := by
  have e : (broadcastTo S256x128 (shapeCast S1x128 firstHalf shapeCasts_S1x128_S1x128) broadcasts_S1x128_S256x128) (ix2 r l)
      = if l.val % 64 < 32 then 1#1 else 0#1 := by
    refine Eq.trans ?_ (firstHalf_apply l)
    generalize firstHalf = M
    clean_types
    pointwise
  have e1 : dynamicRotate 1 96#32 none x rotates_S256x128_d1 (ix2 r l) = x (ix2 r ⟨(l.val + 32) % 128, Nat.mod_lt _ (by decide)⟩) := by
    rw [Pointwise.dynamicRotate_apply]
    refine congrArg x (funext fun a => Fin.ext ?_)
    match a with
    | ⟨0, _⟩ => rfl
    | ⟨1, _⟩ => show (l.val + 128 - (96 + 0) % 128) % 128 = (l.val + 32) % 128; omega
  have e2 : dynamicRotate 1 32#32 none x rotates_S256x128_d1 (ix2 r l) = x (ix2 r ⟨(l.val + 96) % 128, Nat.mod_lt _ (by decide)⟩) := by
    rw [Pointwise.dynamicRotate_apply]
    refine congrArg x (funext fun a => Fin.ext ?_)
    match a with
    | ⟨0, _⟩ => rfl
    | ⟨1, _⟩ => show (l.val + 128 - (32 + 0) % 128) % 128 = (l.val + 96) % 128; omega
  show (x (ix2 r l) : EReal) * C (ix2 r l)
      + (if (broadcastTo S256x128 (shapeCast S1x128 firstHalf shapeCasts_S1x128_S1x128) broadcasts_S1x128_S256x128) (ix2 r l) = 1#1
          then dynamicRotate 1 96#32 none x rotates_S256x128_d1 (ix2 r l) else dynamicRotate 1 32#32 none x rotates_S256x128_d1 (ix2 r l)) * S (ix2 r l) = _
  rw [e, e1, e2]
  by_cases h : l.val % 64 < 32
  · rw [if_pos h, if_pos h, if_pos rfl]
  · rw [if_neg h, if_neg h, if_neg (by decide)]

/-- The rotation of 1024 columns, pair of heads by pair of heads. -/
def ropeTile (T : FVec Ideal S256x1024 .f32) (C S : FVec Ideal S256x128 .f32) : FVec Ideal S256x1024 .f32 :=
  concatenate S256x1024 1 [⟨S256x128, rope1 (extractStridedSlice S256x128 ![0, 0] T slices_S256x1024_o0_0_S256x128) C S⟩,
    ⟨S256x128, rope1 (extractStridedSlice S256x128 ![0, 128] T slices_S256x1024_o0_128_S256x128) C S⟩,
    ⟨S256x128, rope1 (extractStridedSlice S256x128 ![0, 256] T slices_S256x1024_o0_256_S256x128) C S⟩,
    ⟨S256x128, rope1 (extractStridedSlice S256x128 ![0, 384] T slices_S256x1024_o0_384_S256x128) C S⟩,
    ⟨S256x128, rope1 (extractStridedSlice S256x128 ![0, 512] T slices_S256x1024_o0_512_S256x128) C S⟩,
    ⟨S256x128, rope1 (extractStridedSlice S256x128 ![0, 640] T slices_S256x1024_o0_640_S256x128) C S⟩,
    ⟨S256x128, rope1 (extractStridedSlice S256x128 ![0, 768] T slices_S256x1024_o0_768_S256x128) C S⟩,
    ⟨S256x128, rope1 (extractStridedSlice S256x128 ![0, 896] T slices_S256x1024_o0_896_S256x128) C S⟩]
    concatenates_S256x128_S256x128_S256x128_S256x128_S256x128_S256x128_S256x128_S256x128_S256x1024_d1

/-- One lane of the rotated columns. -/
def ropeAt (T : FVec Ideal S256x1024 .f32) (C S : FVec Ideal S256x128 .f32) (p : Fin 8) (r : Fin 256) (l : Fin 128) : EReal :=
  (T (ix2 r ⟨p.val * 128 + l.val, by omega⟩) : EReal) * C (ix2 r l)
    + (if l.val % 64 < 32 then (T (ix2 r ⟨p.val * 128 + (l.val + 32) % 128, by omega⟩) : EReal)
        else T (ix2 r ⟨p.val * 128 + (l.val + 96) % 128, by omega⟩)) * S (ix2 r l)

theorem part0 (T : FVec Ideal S256x1024 .f32) (r : Fin 256) (l : Fin 128) :
    (shapeCast S1x1x256x128 (extractStridedSlice S256x128 ![0, 0] T slices_S256x1024_o0_0_S256x128) shapeCasts_S256x128_S1x1x256x128) (ix4 (0 : Fin 1) (0 : Fin 1) r l) = T (ix2 r ⟨0 * 128 + l.val, by omega⟩) := by
  clean_types
  pointwise

theorem slice0 (T : FVec Ideal S256x1024 .f32) (r : Fin 256) (l : Fin 128) :
    (extractStridedSlice S256x128 ![0, 0] T slices_S256x1024_o0_0_S256x128) (ix2 r l) = T (ix2 r ⟨0 * 128 + l.val, by omega⟩) := by
  clean_types
  pointwise

theorem part1 (T : FVec Ideal S256x1024 .f32) (r : Fin 256) (l : Fin 128) :
    (shapeCast S1x1x256x128 (extractStridedSlice S256x128 ![0, 128] T slices_S256x1024_o0_128_S256x128) shapeCasts_S256x128_S1x1x256x128) (ix4 (0 : Fin 1) (0 : Fin 1) r l) = T (ix2 r ⟨1 * 128 + l.val, by omega⟩) := by
  clean_types
  pointwise

theorem slice1 (T : FVec Ideal S256x1024 .f32) (r : Fin 256) (l : Fin 128) :
    (extractStridedSlice S256x128 ![0, 128] T slices_S256x1024_o0_128_S256x128) (ix2 r l) = T (ix2 r ⟨1 * 128 + l.val, by omega⟩) := by
  clean_types
  pointwise

theorem part2 (T : FVec Ideal S256x1024 .f32) (r : Fin 256) (l : Fin 128) :
    (shapeCast S1x1x256x128 (extractStridedSlice S256x128 ![0, 256] T slices_S256x1024_o0_256_S256x128) shapeCasts_S256x128_S1x1x256x128) (ix4 (0 : Fin 1) (0 : Fin 1) r l) = T (ix2 r ⟨2 * 128 + l.val, by omega⟩) := by
  clean_types
  pointwise

theorem slice2 (T : FVec Ideal S256x1024 .f32) (r : Fin 256) (l : Fin 128) :
    (extractStridedSlice S256x128 ![0, 256] T slices_S256x1024_o0_256_S256x128) (ix2 r l) = T (ix2 r ⟨2 * 128 + l.val, by omega⟩) := by
  clean_types
  pointwise

theorem part3 (T : FVec Ideal S256x1024 .f32) (r : Fin 256) (l : Fin 128) :
    (shapeCast S1x1x256x128 (extractStridedSlice S256x128 ![0, 384] T slices_S256x1024_o0_384_S256x128) shapeCasts_S256x128_S1x1x256x128) (ix4 (0 : Fin 1) (0 : Fin 1) r l) = T (ix2 r ⟨3 * 128 + l.val, by omega⟩) := by
  clean_types
  pointwise

theorem slice3 (T : FVec Ideal S256x1024 .f32) (r : Fin 256) (l : Fin 128) :
    (extractStridedSlice S256x128 ![0, 384] T slices_S256x1024_o0_384_S256x128) (ix2 r l) = T (ix2 r ⟨3 * 128 + l.val, by omega⟩) := by
  clean_types
  pointwise

theorem part4 (T : FVec Ideal S256x1024 .f32) (r : Fin 256) (l : Fin 128) :
    (shapeCast S1x1x256x128 (extractStridedSlice S256x128 ![0, 512] T slices_S256x1024_o0_512_S256x128) shapeCasts_S256x128_S1x1x256x128) (ix4 (0 : Fin 1) (0 : Fin 1) r l) = T (ix2 r ⟨4 * 128 + l.val, by omega⟩) := by
  clean_types
  pointwise

theorem slice4 (T : FVec Ideal S256x1024 .f32) (r : Fin 256) (l : Fin 128) :
    (extractStridedSlice S256x128 ![0, 512] T slices_S256x1024_o0_512_S256x128) (ix2 r l) = T (ix2 r ⟨4 * 128 + l.val, by omega⟩) := by
  clean_types
  pointwise

theorem part5 (T : FVec Ideal S256x1024 .f32) (r : Fin 256) (l : Fin 128) :
    (shapeCast S1x1x256x128 (extractStridedSlice S256x128 ![0, 640] T slices_S256x1024_o0_640_S256x128) shapeCasts_S256x128_S1x1x256x128) (ix4 (0 : Fin 1) (0 : Fin 1) r l) = T (ix2 r ⟨5 * 128 + l.val, by omega⟩) := by
  clean_types
  pointwise

theorem slice5 (T : FVec Ideal S256x1024 .f32) (r : Fin 256) (l : Fin 128) :
    (extractStridedSlice S256x128 ![0, 640] T slices_S256x1024_o0_640_S256x128) (ix2 r l) = T (ix2 r ⟨5 * 128 + l.val, by omega⟩) := by
  clean_types
  pointwise

theorem part6 (T : FVec Ideal S256x1024 .f32) (r : Fin 256) (l : Fin 128) :
    (shapeCast S1x1x256x128 (extractStridedSlice S256x128 ![0, 768] T slices_S256x1024_o0_768_S256x128) shapeCasts_S256x128_S1x1x256x128) (ix4 (0 : Fin 1) (0 : Fin 1) r l) = T (ix2 r ⟨6 * 128 + l.val, by omega⟩) := by
  clean_types
  pointwise

theorem slice6 (T : FVec Ideal S256x1024 .f32) (r : Fin 256) (l : Fin 128) :
    (extractStridedSlice S256x128 ![0, 768] T slices_S256x1024_o0_768_S256x128) (ix2 r l) = T (ix2 r ⟨6 * 128 + l.val, by omega⟩) := by
  clean_types
  pointwise

theorem part7 (T : FVec Ideal S256x1024 .f32) (r : Fin 256) (l : Fin 128) :
    (shapeCast S1x1x256x128 (extractStridedSlice S256x128 ![0, 896] T slices_S256x1024_o0_896_S256x128) shapeCasts_S256x128_S1x1x256x128) (ix4 (0 : Fin 1) (0 : Fin 1) r l) = T (ix2 r ⟨7 * 128 + l.val, by omega⟩) := by
  clean_types
  pointwise

theorem slice7 (T : FVec Ideal S256x1024 .f32) (r : Fin 256) (l : Fin 128) :
    (extractStridedSlice S256x128 ![0, 896] T slices_S256x1024_o0_896_S256x128) (ix2 r l) = T (ix2 r ⟨7 * 128 + l.val, by omega⟩) := by
  clean_types
  pointwise

theorem cat0 (y0 y1 y2 y3 y4 y5 y6 y7 : FVec Ideal S256x128 .f32) (r : Fin 256) (l : Fin 128) :
    (concatenate S256x1024 1 [⟨S256x128, y0⟩, ⟨S256x128, y1⟩, ⟨S256x128, y2⟩, ⟨S256x128, y3⟩, ⟨S256x128, y4⟩, ⟨S256x128, y5⟩, ⟨S256x128, y6⟩, ⟨S256x128, y7⟩] concatenates_S256x128_S256x128_S256x128_S256x128_S256x128_S256x128_S256x128_S256x128_S256x1024_d1 : FVec Ideal S256x1024 .f32) (ix2 r ⟨0 * 128 + l.val, by omega⟩) = y0 (ix2 r l) := by
  clean_types
  pointwise

theorem rope_part0 (T : FVec Ideal S256x1024 .f32) (C S : FVec Ideal S256x128 .f32) (r : Fin 256) (l : Fin 128) :
    (shapeCast S1x1x256x128 (extractStridedSlice S256x128 ![0, 0] (ropeTile T C S) slices_S256x1024_o0_0_S256x128) shapeCasts_S256x128_S1x1x256x128) (ix4 (0 : Fin 1) (0 : Fin 1) r l)
      = ropeAt T C S 0 r l := by
  refine (part0 _ r l).trans ((cat0 _ _ _ _ _ _ _ _ r l).trans ((rope1_apply _ _ _ r l).trans ?_))
  rw [slice0, slice0, slice0]
  rfl

theorem cat1 (y0 y1 y2 y3 y4 y5 y6 y7 : FVec Ideal S256x128 .f32) (r : Fin 256) (l : Fin 128) :
    (concatenate S256x1024 1 [⟨S256x128, y0⟩, ⟨S256x128, y1⟩, ⟨S256x128, y2⟩, ⟨S256x128, y3⟩, ⟨S256x128, y4⟩, ⟨S256x128, y5⟩, ⟨S256x128, y6⟩, ⟨S256x128, y7⟩] concatenates_S256x128_S256x128_S256x128_S256x128_S256x128_S256x128_S256x128_S256x128_S256x1024_d1 : FVec Ideal S256x1024 .f32) (ix2 r ⟨1 * 128 + l.val, by omega⟩) = y1 (ix2 r l) := by
  clean_types
  pointwise

theorem rope_part1 (T : FVec Ideal S256x1024 .f32) (C S : FVec Ideal S256x128 .f32) (r : Fin 256) (l : Fin 128) :
    (shapeCast S1x1x256x128 (extractStridedSlice S256x128 ![0, 128] (ropeTile T C S) slices_S256x1024_o0_128_S256x128) shapeCasts_S256x128_S1x1x256x128) (ix4 (0 : Fin 1) (0 : Fin 1) r l)
      = ropeAt T C S 1 r l := by
  refine (part1 _ r l).trans ((cat1 _ _ _ _ _ _ _ _ r l).trans ((rope1_apply _ _ _ r l).trans ?_))
  rw [slice1, slice1, slice1]
  rfl

theorem cat2 (y0 y1 y2 y3 y4 y5 y6 y7 : FVec Ideal S256x128 .f32) (r : Fin 256) (l : Fin 128) :
    (concatenate S256x1024 1 [⟨S256x128, y0⟩, ⟨S256x128, y1⟩, ⟨S256x128, y2⟩, ⟨S256x128, y3⟩, ⟨S256x128, y4⟩, ⟨S256x128, y5⟩, ⟨S256x128, y6⟩, ⟨S256x128, y7⟩] concatenates_S256x128_S256x128_S256x128_S256x128_S256x128_S256x128_S256x128_S256x128_S256x1024_d1 : FVec Ideal S256x1024 .f32) (ix2 r ⟨2 * 128 + l.val, by omega⟩) = y2 (ix2 r l) := by
  clean_types
  pointwise
  rw [dif_neg (by omega), dif_neg (by omega), dif_pos (by omega)]
  exact congrArg (fun q => y2 (ix2 r q)) (Fin.ext (by show 256 + l.val - 128 - 128 = l.val; omega))

theorem rope_part2 (T : FVec Ideal S256x1024 .f32) (C S : FVec Ideal S256x128 .f32) (r : Fin 256) (l : Fin 128) :
    (shapeCast S1x1x256x128 (extractStridedSlice S256x128 ![0, 256] (ropeTile T C S) slices_S256x1024_o0_256_S256x128) shapeCasts_S256x128_S1x1x256x128) (ix4 (0 : Fin 1) (0 : Fin 1) r l)
      = ropeAt T C S 2 r l := by
  refine (part2 _ r l).trans ((cat2 _ _ _ _ _ _ _ _ r l).trans ((rope1_apply _ _ _ r l).trans ?_))
  rw [slice2, slice2, slice2]
  rfl

theorem cat3 (y0 y1 y2 y3 y4 y5 y6 y7 : FVec Ideal S256x128 .f32) (r : Fin 256) (l : Fin 128) :
    (concatenate S256x1024 1 [⟨S256x128, y0⟩, ⟨S256x128, y1⟩, ⟨S256x128, y2⟩, ⟨S256x128, y3⟩, ⟨S256x128, y4⟩, ⟨S256x128, y5⟩, ⟨S256x128, y6⟩, ⟨S256x128, y7⟩] concatenates_S256x128_S256x128_S256x128_S256x128_S256x128_S256x128_S256x128_S256x128_S256x1024_d1 : FVec Ideal S256x1024 .f32) (ix2 r ⟨3 * 128 + l.val, by omega⟩) = y3 (ix2 r l) := by
  clean_types
  pointwise
  rw [dif_neg (by omega), dif_neg (by omega), dif_neg (by omega), dif_pos (by omega)]
  exact congrArg (fun q => y3 (ix2 r q)) (Fin.ext (by show 384 + l.val - 128 - 128 - 128 = l.val; omega))

theorem rope_part3 (T : FVec Ideal S256x1024 .f32) (C S : FVec Ideal S256x128 .f32) (r : Fin 256) (l : Fin 128) :
    (shapeCast S1x1x256x128 (extractStridedSlice S256x128 ![0, 384] (ropeTile T C S) slices_S256x1024_o0_384_S256x128) shapeCasts_S256x128_S1x1x256x128) (ix4 (0 : Fin 1) (0 : Fin 1) r l)
      = ropeAt T C S 3 r l := by
  refine (part3 _ r l).trans ((cat3 _ _ _ _ _ _ _ _ r l).trans ((rope1_apply _ _ _ r l).trans ?_))
  rw [slice3, slice3, slice3]
  rfl

theorem cat4 (y0 y1 y2 y3 y4 y5 y6 y7 : FVec Ideal S256x128 .f32) (r : Fin 256) (l : Fin 128) :
    (concatenate S256x1024 1 [⟨S256x128, y0⟩, ⟨S256x128, y1⟩, ⟨S256x128, y2⟩, ⟨S256x128, y3⟩, ⟨S256x128, y4⟩, ⟨S256x128, y5⟩, ⟨S256x128, y6⟩, ⟨S256x128, y7⟩] concatenates_S256x128_S256x128_S256x128_S256x128_S256x128_S256x128_S256x128_S256x128_S256x1024_d1 : FVec Ideal S256x1024 .f32) (ix2 r ⟨4 * 128 + l.val, by omega⟩) = y4 (ix2 r l) := by
  clean_types
  pointwise
  rw [dif_neg (by omega), dif_neg (by omega), dif_neg (by omega), dif_neg (by omega), dif_pos (by omega)]
  exact congrArg (fun q => y4 (ix2 r q)) (Fin.ext (by show 512 + l.val - 128 - 128 - 128 - 128 = l.val; omega))

theorem rope_part4 (T : FVec Ideal S256x1024 .f32) (C S : FVec Ideal S256x128 .f32) (r : Fin 256) (l : Fin 128) :
    (shapeCast S1x1x256x128 (extractStridedSlice S256x128 ![0, 512] (ropeTile T C S) slices_S256x1024_o0_512_S256x128) shapeCasts_S256x128_S1x1x256x128) (ix4 (0 : Fin 1) (0 : Fin 1) r l)
      = ropeAt T C S 4 r l := by
  refine (part4 _ r l).trans ((cat4 _ _ _ _ _ _ _ _ r l).trans ((rope1_apply _ _ _ r l).trans ?_))
  rw [slice4, slice4, slice4]
  rfl

theorem cat5 (y0 y1 y2 y3 y4 y5 y6 y7 : FVec Ideal S256x128 .f32) (r : Fin 256) (l : Fin 128) :
    (concatenate S256x1024 1 [⟨S256x128, y0⟩, ⟨S256x128, y1⟩, ⟨S256x128, y2⟩, ⟨S256x128, y3⟩, ⟨S256x128, y4⟩, ⟨S256x128, y5⟩, ⟨S256x128, y6⟩, ⟨S256x128, y7⟩] concatenates_S256x128_S256x128_S256x128_S256x128_S256x128_S256x128_S256x128_S256x128_S256x1024_d1 : FVec Ideal S256x1024 .f32) (ix2 r ⟨5 * 128 + l.val, by omega⟩) = y5 (ix2 r l) := by
  clean_types
  pointwise
  rw [dif_neg (by omega), dif_neg (by omega), dif_neg (by omega), dif_neg (by omega), dif_neg (by omega), dif_pos (by omega)]
  exact congrArg (fun q => y5 (ix2 r q)) (Fin.ext (by show 640 + l.val - 128 - 128 - 128 - 128 - 128 = l.val; omega))

theorem rope_part5 (T : FVec Ideal S256x1024 .f32) (C S : FVec Ideal S256x128 .f32) (r : Fin 256) (l : Fin 128) :
    (shapeCast S1x1x256x128 (extractStridedSlice S256x128 ![0, 640] (ropeTile T C S) slices_S256x1024_o0_640_S256x128) shapeCasts_S256x128_S1x1x256x128) (ix4 (0 : Fin 1) (0 : Fin 1) r l)
      = ropeAt T C S 5 r l := by
  refine (part5 _ r l).trans ((cat5 _ _ _ _ _ _ _ _ r l).trans ((rope1_apply _ _ _ r l).trans ?_))
  rw [slice5, slice5, slice5]
  rfl

theorem cat6 (y0 y1 y2 y3 y4 y5 y6 y7 : FVec Ideal S256x128 .f32) (r : Fin 256) (l : Fin 128) :
    (concatenate S256x1024 1 [⟨S256x128, y0⟩, ⟨S256x128, y1⟩, ⟨S256x128, y2⟩, ⟨S256x128, y3⟩, ⟨S256x128, y4⟩, ⟨S256x128, y5⟩, ⟨S256x128, y6⟩, ⟨S256x128, y7⟩] concatenates_S256x128_S256x128_S256x128_S256x128_S256x128_S256x128_S256x128_S256x128_S256x1024_d1 : FVec Ideal S256x1024 .f32) (ix2 r ⟨6 * 128 + l.val, by omega⟩) = y6 (ix2 r l) := by
  clean_types
  pointwise
  rw [dif_neg (by omega), dif_neg (by omega), dif_neg (by omega), dif_neg (by omega), dif_neg (by omega), dif_neg (by omega), dif_pos (by omega)]
  exact congrArg (fun q => y6 (ix2 r q)) (Fin.ext (by show 768 + l.val - 128 - 128 - 128 - 128 - 128 - 128 = l.val; omega))

theorem rope_part6 (T : FVec Ideal S256x1024 .f32) (C S : FVec Ideal S256x128 .f32) (r : Fin 256) (l : Fin 128) :
    (shapeCast S1x1x256x128 (extractStridedSlice S256x128 ![0, 768] (ropeTile T C S) slices_S256x1024_o0_768_S256x128) shapeCasts_S256x128_S1x1x256x128) (ix4 (0 : Fin 1) (0 : Fin 1) r l)
      = ropeAt T C S 6 r l := by
  refine (part6 _ r l).trans ((cat6 _ _ _ _ _ _ _ _ r l).trans ((rope1_apply _ _ _ r l).trans ?_))
  rw [slice6, slice6, slice6]
  rfl

theorem cat7 (y0 y1 y2 y3 y4 y5 y6 y7 : FVec Ideal S256x128 .f32) (r : Fin 256) (l : Fin 128) :
    (concatenate S256x1024 1 [⟨S256x128, y0⟩, ⟨S256x128, y1⟩, ⟨S256x128, y2⟩, ⟨S256x128, y3⟩, ⟨S256x128, y4⟩, ⟨S256x128, y5⟩, ⟨S256x128, y6⟩, ⟨S256x128, y7⟩] concatenates_S256x128_S256x128_S256x128_S256x128_S256x128_S256x128_S256x128_S256x128_S256x1024_d1 : FVec Ideal S256x1024 .f32) (ix2 r ⟨7 * 128 + l.val, by omega⟩) = y7 (ix2 r l) := by
  clean_types
  pointwise
  rw [dif_neg (by omega), dif_neg (by omega), dif_neg (by omega), dif_neg (by omega), dif_neg (by omega), dif_neg (by omega), dif_neg (by omega)]
  exact congrArg (fun q => y7 (ix2 r q)) (Fin.ext (by show 896 + l.val - 128 - 128 - 128 - 128 - 128 - 128 - 128 = l.val; omega))

theorem rope_part7 (T : FVec Ideal S256x1024 .f32) (C S : FVec Ideal S256x128 .f32) (r : Fin 256) (l : Fin 128) :
    (shapeCast S1x1x256x128 (extractStridedSlice S256x128 ![0, 896] (ropeTile T C S) slices_S256x1024_o0_896_S256x128) shapeCasts_S256x128_S1x1x256x128) (ix4 (0 : Fin 1) (0 : Fin 1) r l)
      = ropeAt T C S 7 r l := by
  refine (part7 _ r l).trans ((cat7 _ _ _ _ _ _ _ _ r l).trans ((rope1_apply _ _ _ r l).trans ?_))
  rw [slice7, slice7, slice7]
  rfl

/-- The rotated columns, lane by lane. -/
theorem ropeTile_apply (T : FVec Ideal S256x1024 .f32) (C S : FVec Ideal S256x128 .f32) (p : Fin 8) (r : Fin 256) (l : Fin 128) :
    (ropeTile T C S (ix2 r ⟨p.val * 128 + l.val, by omega⟩) : EReal) = ropeAt T C S p r l := by
  match p with
  | ⟨0, _⟩ => exact (part0 _ r l).symm.trans (rope_part0 T C S r l)
  | ⟨1, _⟩ => exact (part1 _ r l).symm.trans (rope_part1 T C S r l)
  | ⟨2, _⟩ => exact (part2 _ r l).symm.trans (rope_part2 T C S r l)
  | ⟨3, _⟩ => exact (part3 _ r l).symm.trans (rope_part3 T C S r l)
  | ⟨4, _⟩ => exact (part4 _ r l).symm.trans (rope_part4 T C S r l)
  | ⟨5, _⟩ => exact (part5 _ r l).symm.trans (rope_part5 T C S r l)
  | ⟨6, _⟩ => exact (part6 _ r l).symm.trans (rope_part6 T C S r l)
  | ⟨7, _⟩ => exact (part7 _ r l).symm.trans (rope_part7 T C S r l)

end Cert.Proof.Proj

end
-- ==== Proof.Proj.Body.lean ====
module

public import proofs.«01_k».proof.Proof.Proj.Spec
public import proofs.«01_k».proof.Proof.Proj.Tile

@[expose] public section

set_option maxRecDepth 16384

noncomputable section

/-! What the body stores, entry by entry. -/

namespace Cert.Proof.Proj

open Cert.Kernel2Ideal Cert.Kernel2Ideal.Gen
open Idealize.ShloMosaic Idealize.ShloMosaic.TcCoe

theorem norm_apply (x0 : Vec Ideal S256x1024 .f32) (x1 : Vec Ideal S1x1024 .f32) (r : Fin 256) (k : Fin 1024) :
    (k0_pay6 x0 x1 (ix2 r k) : EReal) = normV (fun k => x0 (ix2 r k)) (fun k => x1 (ix2 (0 : Fin 1) k)) k := by
  unfold k0_pay6 normV
  clean_types
  pointwise

/-- The normalised rows times 1024 columns of the weights. -/
def tileOf (x0 : Vec Ideal S256x1024 .f32) (x1 : Vec Ideal S1x1024 .f32) (w : Vec Ideal S1024x1024 .bf16) : FVec Ideal S256x1024 .f32 :=
  matmul (φ₁ := .bf16) (φ₂ := .bf16) dot_S256x1024_S1024x1024_S256x1024_1_0_0_1_n_n none (k0_pay6 x0 x1)
    (shapeCast S1024x1024 w shapeCasts_S1024x1024_S1024x1024) (constant S256x1024 .f32 0x00000000#32)

theorem mm_apply (a : FVec Ideal S256x1024 .bf16) (w : FVec Ideal S1024x1024 .bf16) (r : Fin 256) (q : Fin 1024) :
    (matmul (φ₁ := .bf16) (φ₂ := .bf16) dot_S256x1024_S1024x1024_S256x1024_1_0_0_1_n_n none a (shapeCast S1024x1024 w shapeCasts_S1024x1024_S1024x1024) (constant S256x1024 .f32 0x00000000#32)
       (ix2 r q) : EReal) = ∑ k : Fin 1024, (a (ix2 r k) : EReal) * w (ix2 k q) := by
  clean_types
  pointwise

/-- The projected row `r` of a block. -/
def rowV (x0 : Vec Ideal S256x1024 .f32) (x1 : Vec Ideal S1x1024 .f32) (x2 : Vec Ideal S1024x4096 .bf16) (r : Fin 256) : Fin 4096 → EReal :=
  projV (fun k => x0 (ix2 r k)) (fun k => x1 (ix2 (0 : Fin 1) k)) (fun k c => x2 (ix2 k c))

/-- Entry `y` of a block of the result. -/
def entry (x0 : Vec Ideal S256x1024 .f32) (x1 : Vec Ideal S1x1024 .f32) (x2 : Vec Ideal S1024x4096 .bf16) (x3 x4 : Vec Ideal S256x128 .f32)
    (y : S1x32x256x128.Idx) : EReal :=
  blockV (by decide : 32 * 128 = 4096) (rowV x0 x1 x2 (y 2)) (x3 (ix2 (y 2) (y 3))) (x4 (ix2 (y 2) (y 3))) (y 1) (y 3)

theorem entry_at (x0 : Vec Ideal S256x1024 .f32) (x1 : Vec Ideal S1x1024 .f32) (x2 : Vec Ideal S1024x4096 .bf16) (x3 x4 : Vec Ideal S256x128 .f32)
    (z : Fin 1) (n : Fin 32) (r : Fin 256) (l : Fin 128) :
    entry x0 x1 x2 x3 x4 (ix4 z n r l) = blockV (by decide : 32 * 128 = 4096) (rowV x0 x1 x2 r) (x3 (ix2 r l)) (x4 (ix2 r l)) n l := rfl

/-- A rotated tile whose columns are the columns `1024 j …` of `P` is one eighth of the first 24 rotated pairs. -/
theorem rope_block {M N : ℕ} (hN : M * 128 = N) (hM : 24 ≤ M) (T : FVec Ideal S256x1024 .f32) (C S : FVec Ideal S256x128 .f32) (P : Fin N → EReal)
    (r : Fin 256) (j : ℕ) (hj : j < 3)
    (hT : ∀ q : Fin 1024, (T (ix2 r q) : EReal) = P ⟨j * 1024 + q.val, by omega⟩) (p : Fin 8) (l : Fin 128) :
    ropeAt T C S p r l = blockV hN P (C (ix2 r l)) (S (ix2 r l)) ⟨j * 8 + p.val, by omega⟩ l := by
  have e : ∀ z : ℕ, j * 1024 + (p.val * 128 + z) = (j * 8 + p.val) * 128 + z := fun z => by omega
  have g : ∀ (z : ℕ) (hz : z < 128), (T (ix2 r ⟨p.val * 128 + z, by omega⟩) : EReal) = P ⟨(j * 8 + p.val) * 128 + z, by omega⟩ := fun z hz =>
    (hT _).trans (congrArg P (Fin.ext (e z)))
  unfold ropeAt blockV
  rw [if_pos (show j * 8 + p.val < 24 by omega), g _ (by omega), g _ (by omega), g _ (by omega)]

/-- A tile of the product, where its weights are the columns `1024 j …` of `W`. -/
theorem tile_apply {N : ℕ} (W : Fin 1024 → Fin N → EReal) (j : ℕ) (hj : j * 1024 + 1024 ≤ N) (x0 : Vec Ideal S256x1024 .f32) (x1 : Vec Ideal S1x1024 .f32)
    (w : Vec Ideal S1024x1024 .bf16) (hw : ∀ k q : Fin 1024, (w (ix2 k q) : EReal) = W k ⟨j * 1024 + q.val, by omega⟩) (r : Fin 256) (q : Fin 1024) :
    (tileOf x0 x1 w (ix2 r q) : EReal) = projV (fun k => x0 (ix2 r k)) (fun k => x1 (ix2 (0 : Fin 1) k)) W ⟨j * 1024 + q.val, by omega⟩ := by
  refine (mm_apply _ _ r q).trans ?_
  unfold projV
  refine Finset.sum_congr rfl fun k _ => ?_
  rw [norm_apply, hw]

theorem store_form (x : S1x1x256x128.Idx) : ∃ (r : Fin 256) (l : Fin 128), x = ix4 (0 : Fin 1) (0 : Fin 1) r l := by
  refine ⟨x 2, x 3, funext fun a => ?_⟩
  match a with
  | ⟨0, _⟩ => exact Fin.ext (Nat.lt_one_iff.mp (x 0).isLt)
  | ⟨1, _⟩ => exact Fin.ext (Nat.lt_one_iff.mp (x 1).isLt)
  | ⟨2, _⟩ => rfl
  | ⟨3, _⟩ => rfl

theorem cols0 (x2 : Vec Ideal S1024x4096 .bf16) (k q : Fin 1024) : (View.ld x2 r0_2 : Vec Ideal S1024x1024 .bf16) (ix2 k q) = x2 (ix2 k ⟨0 * 1024 + q.val, by omega⟩) := by
  show x2 _ = x2 _
  refine congrArg x2 (funext fun a => Fin.ext ?_)
  match a with
  | ⟨0, _⟩ => show 0 + 1 * k.val = k.val; omega
  | ⟨1, _⟩ => show 0 + 1 * q.val = 0 * 1024 + q.val; omega

theorem tile0 (x0 : Vec Ideal S256x1024 .f32) (x1 : Vec Ideal S1x1024 .f32) (x2 : Vec Ideal S1024x4096 .bf16) (r : Fin 256) (q : Fin 1024) :
    (tileOf x0 x1 (View.ld x2 r0_2) (ix2 r q) : EReal) = rowV x0 x1 x2 r ⟨0 * 1024 + q.val, by omega⟩ := by
  exact tile_apply (fun k c => x2 (ix2 k c)) 0 (by decide) x0 x1 _ (cols0 x2) r q

theorem cols1 (x2 : Vec Ideal S1024x4096 .bf16) (k q : Fin 1024) : (View.ld x2 r0_12 : Vec Ideal S1024x1024 .bf16) (ix2 k q) = x2 (ix2 k ⟨1 * 1024 + q.val, by omega⟩) := by
  show x2 _ = x2 _
  refine congrArg x2 (funext fun a => Fin.ext ?_)
  match a with
  | ⟨0, _⟩ => show 0 + 1 * k.val = k.val; omega
  | ⟨1, _⟩ => show 1024 + 1 * q.val = 1 * 1024 + q.val; omega

theorem tile1 (x0 : Vec Ideal S256x1024 .f32) (x1 : Vec Ideal S1x1024 .f32) (x2 : Vec Ideal S1024x4096 .bf16) (r : Fin 256) (q : Fin 1024) :
    (tileOf x0 x1 (View.ld x2 r0_12) (ix2 r q) : EReal) = rowV x0 x1 x2 r ⟨1 * 1024 + q.val, by omega⟩ := by
  exact tile_apply (fun k c => x2 (ix2 k c)) 1 (by decide) x0 x1 _ (cols1 x2) r q

theorem cols2 (x2 : Vec Ideal S1024x4096 .bf16) (k q : Fin 1024) : (View.ld x2 r0_21 : Vec Ideal S1024x1024 .bf16) (ix2 k q) = x2 (ix2 k ⟨2 * 1024 + q.val, by omega⟩) := by
  show x2 _ = x2 _
  refine congrArg x2 (funext fun a => Fin.ext ?_)
  match a with
  | ⟨0, _⟩ => show 0 + 1 * k.val = k.val; omega
  | ⟨1, _⟩ => show 2048 + 1 * q.val = 2 * 1024 + q.val; omega

theorem tile2 (x0 : Vec Ideal S256x1024 .f32) (x1 : Vec Ideal S1x1024 .f32) (x2 : Vec Ideal S1024x4096 .bf16) (r : Fin 256) (q : Fin 1024) :
    (tileOf x0 x1 (View.ld x2 r0_21) (ix2 r q) : EReal) = rowV x0 x1 x2 r ⟨2 * 1024 + q.val, by omega⟩ := by
  exact tile_apply (fun k c => x2 (ix2 k c)) 2 (by decide) x0 x1 _ (cols2 x2) r q

theorem cols3 (x2 : Vec Ideal S1024x4096 .bf16) (k q : Fin 1024) : (View.ld x2 r0_30 : Vec Ideal S1024x1024 .bf16) (ix2 k q) = x2 (ix2 k ⟨3 * 1024 + q.val, by omega⟩) := by
  show x2 _ = x2 _
  refine congrArg x2 (funext fun a => Fin.ext ?_)
  match a with
  | ⟨0, _⟩ => show 0 + 1 * k.val = k.val; omega
  | ⟨1, _⟩ => show 3072 + 1 * q.val = 3 * 1024 + q.val; omega

theorem tile3 (x0 : Vec Ideal S256x1024 .f32) (x1 : Vec Ideal S1x1024 .f32) (x2 : Vec Ideal S1024x4096 .bf16) (r : Fin 256) (q : Fin 1024) :
    (tileOf x0 x1 (View.ld x2 r0_30) (ix2 r q) : EReal) = rowV x0 x1 x2 r ⟨3 * 1024 + q.val, by omega⟩ := by
  exact tile_apply (fun k c => x2 (ix2 k c)) 3 (by decide) x0 x1 _ (cols3 x2) r q

theorem whole0 (x0 : Vec Ideal S256x1024 .f32) : (View.ld x0 r0_0 : Vec Ideal S256x1024 .f32) = x0 := View.ld_unit_zero (by decide) _ _
theorem whole1 (x1 : Vec Ideal S1x1024 .f32) : (View.ld x1 r0_1 : Vec Ideal S1x1024 .f32) = x1 := View.ld_unit_zero (by decide) _ _
theorem whole3 (x3 : Vec Ideal S256x128 .f32) : (View.ld x3 r0_3 : Vec Ideal S256x128 .f32) = x3 := View.ld_unit_zero (by decide) _ _
theorem table (x3 : Vec Ideal S256x128 .f32) (i : S256x128.Idx) :
    (shapeCast S256x128 (View.ld x3 r0_3) shapeCasts_S256x128_S256x128 : FVec Ideal S256x128 .f32) i = x3 i := by
  rw [whole3]
  exact congrFun (shapeCast_self _ _) i

section

variable (x0 : Vec Ideal S256x1024 .f32) (x1 : Vec Ideal S1x1024 .f32) (x2 : Vec Ideal S1024x4096 .bf16) (x3 x4 : Vec Ideal S256x128 .f32)

/-- What is stored in a slab is block `n` of the result, where its lanes are that block's and the slab lies at that block. -/
theorem slab {n : Fin 32} {s v : Vec Ideal S1x1x256x128 .f32} {at' : S1x1x256x128.Idx → S1x32x256x128.Idx}
    (hs : ∀ (r : Fin 256) (l : Fin 128), (s (ix4 (0 : Fin 1) (0 : Fin 1) r l) : EReal) = entry x0 x1 x2 x3 x4 (ix4 (0 : Fin 1) n r l)) (e : v = s)
    (h : ∀ (r : Fin 256) (l : Fin 128), (at' (ix4 (0 : Fin 1) (0 : Fin 1) r l) 0).val = 0 ∧ (at' (ix4 (0 : Fin 1) (0 : Fin 1) r l) 1).val = n.val
      ∧ (at' (ix4 (0 : Fin 1) (0 : Fin 1) r l) 2).val = 0 + 1 * r.val ∧ (at' (ix4 (0 : Fin 1) (0 : Fin 1) r l) 3).val = 0 + 1 * l.val)
    (x : S1x1x256x128.Idx) : (v x : EReal) = entry x0 x1 x2 x3 x4 (at' x) := by
  obtain ⟨r, l, rfl⟩ := store_form x
  obtain ⟨h0, h1, h2, h3⟩ := h r l
  have g : at' (ix4 (0 : Fin 1) (0 : Fin 1) r l) = ix4 (0 : Fin 1) n r l := by
    refine funext fun a => Fin.ext ?_
    match a with
    | ⟨0, _⟩ => exact h0
    | ⟨1, _⟩ => exact h1
    | ⟨2, _⟩ => exact h2.trans (by show 0 + 1 * r.val = r.val; omega)
    | ⟨3, _⟩ => exact h3.trans (by show 0 + 1 * l.val = l.val; omega)
  rw [g, e]
  exact hs r l

/-- The lanes of a slab of a rotated tile. -/
theorem rope_slab (j : ℕ) (hj : j < 3) {w : Vec Ideal S1024x1024 .bf16}
    (hw : ∀ (r : Fin 256) (q : Fin 1024), (tileOf x0 x1 w (ix2 r q) : EReal) = rowV x0 x1 x2 r ⟨j * 1024 + q.val, by omega⟩) (p : Fin 8)
    {s : Vec Ideal S1x1x256x128 .f32}
    (hs : ∀ (r : Fin 256) (l : Fin 128), (s (ix4 (0 : Fin 1) (0 : Fin 1) r l) : EReal) = ropeAt (tileOf (View.ld x0 r0_0) (View.ld x1 r0_1) w)
      (shapeCast S256x128 (View.ld x3 r0_3) shapeCasts_S256x128_S256x128) (shapeCast S256x128 (View.ld x4 r0_3) shapeCasts_S256x128_S256x128) p r l)
    (r : Fin 256) (l : Fin 128) :
    (s (ix4 (0 : Fin 1) (0 : Fin 1) r l) : EReal) = entry x0 x1 x2 x3 x4 (ix4 (0 : Fin 1) (⟨j * 8 + p.val, by omega⟩ : Fin 32) r l) := by
  rw [entry_at]
  refine (hs r l).trans ?_
  rw [whole0, whole1, rope_block (by decide : 32 * 128 = 4096) (by decide) _ _ _ (rowV x0 x1 x2 r) r j hj (hw r), table, table]

/-- The lanes of a slab of the gate's tile. -/
theorem plain_slab (p : Fin 8) {s : Vec Ideal S1x1x256x128 .f32}
    (hs : ∀ (r : Fin 256) (l : Fin 128), (s (ix4 (0 : Fin 1) (0 : Fin 1) r l) : EReal)
      = tileOf (View.ld x0 r0_0) (View.ld x1 r0_1) (View.ld x2 r0_30) (ix2 r ⟨p.val * 128 + l.val, by omega⟩)) (r : Fin 256) (l : Fin 128) :
    (s (ix4 (0 : Fin 1) (0 : Fin 1) r l) : EReal) = entry x0 x1 x2 x3 x4 (ix4 (0 : Fin 1) (⟨24 + p.val, by omega⟩ : Fin 32) r l) := by
  rw [entry_at]
  refine (hs r l).trans ?_
  rw [whole0, whole1, tile3, blockV_plain _ _ _ _ _ _ (show ¬ (24 + p.val < 24) by omega)]
  exact congrArg (rowV x0 x1 x2 r) (Fin.ext (show 3 * 1024 + (p.val * 128 + l.val) = (24 + p.val) * 128 + l.val by omega))

theorem store0 (x : S1x1x256x128.Idx) :
    (k0_pay20 (k0_pay76 x0 x1 x2 x3 x4) (k0_pay77 x0 x1 x2 x3 x4) (k0_pay78 x0 x1 x2 x3 x4) (k0_pay82 x0 x1 x2 x3 x4) (k0_pay83 x0 x1 x2 x3 x4) (k0_pay84 x0 x1 x2 x3 x4) (k0_pay85 x0 x1 x2 x3 x4) (k0_pay86 x0 x1 x2 x3 x4) (k0_pay87 x0 x1 x2 x3 x4) : Vec Ideal S1x1x256x128 .f32) x = entry x0 x1 x2 x3 x4 (r0_4.emb x) :=
  slab x0 x1 x2 x3 x4 (rope_slab x0 x1 x2 x3 x4 0 (by decide) (tile0 x0 x1 x2) 0 (rope_part0 _ _ _)) rfl (fun _ _ => ⟨rfl, rfl, rfl, rfl⟩) x

theorem store1 (x : S1x1x256x128.Idx) :
    (k0_pay21 (k0_pay76 x0 x1 x2 x3 x4) (k0_pay77 x0 x1 x2 x3 x4) (k0_pay78 x0 x1 x2 x3 x4) (k0_pay82 x0 x1 x2 x3 x4) (k0_pay83 x0 x1 x2 x3 x4) (k0_pay84 x0 x1 x2 x3 x4) (k0_pay85 x0 x1 x2 x3 x4) (k0_pay86 x0 x1 x2 x3 x4) (k0_pay87 x0 x1 x2 x3 x4) : Vec Ideal S1x1x256x128 .f32) x = entry x0 x1 x2 x3 x4 (r0_5.emb x) :=
  slab x0 x1 x2 x3 x4 (rope_slab x0 x1 x2 x3 x4 0 (by decide) (tile0 x0 x1 x2) 1 (rope_part1 _ _ _)) rfl (fun _ _ => ⟨rfl, rfl, rfl, rfl⟩) x

theorem store2 (x : S1x1x256x128.Idx) :
    (k0_pay22 (k0_pay76 x0 x1 x2 x3 x4) (k0_pay77 x0 x1 x2 x3 x4) (k0_pay78 x0 x1 x2 x3 x4) (k0_pay82 x0 x1 x2 x3 x4) (k0_pay83 x0 x1 x2 x3 x4) (k0_pay84 x0 x1 x2 x3 x4) (k0_pay85 x0 x1 x2 x3 x4) (k0_pay86 x0 x1 x2 x3 x4) (k0_pay87 x0 x1 x2 x3 x4) : Vec Ideal S1x1x256x128 .f32) x = entry x0 x1 x2 x3 x4 (r0_6.emb x) :=
  slab x0 x1 x2 x3 x4 (rope_slab x0 x1 x2 x3 x4 0 (by decide) (tile0 x0 x1 x2) 2 (rope_part2 _ _ _)) rfl (fun _ _ => ⟨rfl, rfl, rfl, rfl⟩) x

theorem store3 (x : S1x1x256x128.Idx) :
    (k0_pay23 (k0_pay88 x0 x1 x2 x3 x4) : Vec Ideal S1x1x256x128 .f32) x = entry x0 x1 x2 x3 x4 (r0_7.emb x) :=
  slab x0 x1 x2 x3 x4 (rope_slab x0 x1 x2 x3 x4 0 (by decide) (tile0 x0 x1 x2) 3 (rope_part3 _ _ _)) rfl (fun _ _ => ⟨rfl, rfl, rfl, rfl⟩) x

theorem store4 (x : S1x1x256x128.Idx) :
    (k0_pay24 (k0_pay88 x0 x1 x2 x3 x4) : Vec Ideal S1x1x256x128 .f32) x = entry x0 x1 x2 x3 x4 (r0_8.emb x) :=
  slab x0 x1 x2 x3 x4 (rope_slab x0 x1 x2 x3 x4 0 (by decide) (tile0 x0 x1 x2) 4 (rope_part4 _ _ _)) rfl (fun _ _ => ⟨rfl, rfl, rfl, rfl⟩) x

theorem store5 (x : S1x1x256x128.Idx) :
    (k0_pay25 (k0_pay88 x0 x1 x2 x3 x4) : Vec Ideal S1x1x256x128 .f32) x = entry x0 x1 x2 x3 x4 (r0_9.emb x) :=
  slab x0 x1 x2 x3 x4 (rope_slab x0 x1 x2 x3 x4 0 (by decide) (tile0 x0 x1 x2) 5 (rope_part5 _ _ _)) rfl (fun _ _ => ⟨rfl, rfl, rfl, rfl⟩) x

theorem store6 (x : S1x1x256x128.Idx) :
    (k0_pay26 (k0_pay88 x0 x1 x2 x3 x4) : Vec Ideal S1x1x256x128 .f32) x = entry x0 x1 x2 x3 x4 (r0_10.emb x) :=
  slab x0 x1 x2 x3 x4 (rope_slab x0 x1 x2 x3 x4 0 (by decide) (tile0 x0 x1 x2) 6 (rope_part6 _ _ _)) rfl (fun _ _ => ⟨rfl, rfl, rfl, rfl⟩) x

theorem store7 (x : S1x1x256x128.Idx) :
    (k0_pay27 (k0_pay88 x0 x1 x2 x3 x4) : Vec Ideal S1x1x256x128 .f32) x = entry x0 x1 x2 x3 x4 (r0_11.emb x) :=
  slab x0 x1 x2 x3 x4 (rope_slab x0 x1 x2 x3 x4 0 (by decide) (tile0 x0 x1 x2) 7 (rope_part7 _ _ _)) rfl (fun _ _ => ⟨rfl, rfl, rfl, rfl⟩) x

theorem store8 (x : S1x1x256x128.Idx) :
    (k0_pay38 (k0_pay37 (k0_pay89 x0 x1 x2 x3 x4) (k0_pay90 x0 x1 x2 x3 x4) (k0_pay91 x0 x1 x2 x3 x4) (k0_pay92 x0 x1 x2 x3 x4) (k0_pay93 x0 x1 x2 x3 x4) (k0_pay94 x0 x1 x2 x3 x4) (k0_pay95 x0 x1 x2 x3 x4) (k0_pay96 x0 x1 x2 x3 x4)) : Vec Ideal S1x1x256x128 .f32) x = entry x0 x1 x2 x3 x4 (r0_13.emb x) :=
  slab x0 x1 x2 x3 x4 (rope_slab x0 x1 x2 x3 x4 1 (by decide) (tile1 x0 x1 x2) 0 (rope_part0 _ _ _)) rfl (fun _ _ => ⟨rfl, rfl, rfl, rfl⟩) x

theorem store9 (x : S1x1x256x128.Idx) :
    (k0_pay39 (k0_pay97 x0 x1 x2 x3 x4) : Vec Ideal S1x1x256x128 .f32) x = entry x0 x1 x2 x3 x4 (r0_14.emb x) :=
  slab x0 x1 x2 x3 x4 (rope_slab x0 x1 x2 x3 x4 1 (by decide) (tile1 x0 x1 x2) 1 (rope_part1 _ _ _)) rfl (fun _ _ => ⟨rfl, rfl, rfl, rfl⟩) x

theorem store10 (x : S1x1x256x128.Idx) :
    (k0_pay40 (k0_pay97 x0 x1 x2 x3 x4) : Vec Ideal S1x1x256x128 .f32) x = entry x0 x1 x2 x3 x4 (r0_15.emb x) :=
  slab x0 x1 x2 x3 x4 (rope_slab x0 x1 x2 x3 x4 1 (by decide) (tile1 x0 x1 x2) 2 (rope_part2 _ _ _)) rfl (fun _ _ => ⟨rfl, rfl, rfl, rfl⟩) x

theorem store11 (x : S1x1x256x128.Idx) :
    (k0_pay41 (k0_pay97 x0 x1 x2 x3 x4) : Vec Ideal S1x1x256x128 .f32) x = entry x0 x1 x2 x3 x4 (r0_16.emb x) :=
  slab x0 x1 x2 x3 x4 (rope_slab x0 x1 x2 x3 x4 1 (by decide) (tile1 x0 x1 x2) 3 (rope_part3 _ _ _)) rfl (fun _ _ => ⟨rfl, rfl, rfl, rfl⟩) x

theorem store12 (x : S1x1x256x128.Idx) :
    (k0_pay42 (k0_pay97 x0 x1 x2 x3 x4) : Vec Ideal S1x1x256x128 .f32) x = entry x0 x1 x2 x3 x4 (r0_17.emb x) :=
  slab x0 x1 x2 x3 x4 (rope_slab x0 x1 x2 x3 x4 1 (by decide) (tile1 x0 x1 x2) 4 (rope_part4 _ _ _)) rfl (fun _ _ => ⟨rfl, rfl, rfl, rfl⟩) x

theorem store13 (x : S1x1x256x128.Idx) :
    (k0_pay43 (k0_pay97 x0 x1 x2 x3 x4) : Vec Ideal S1x1x256x128 .f32) x = entry x0 x1 x2 x3 x4 (r0_18.emb x) :=
  slab x0 x1 x2 x3 x4 (rope_slab x0 x1 x2 x3 x4 1 (by decide) (tile1 x0 x1 x2) 5 (rope_part5 _ _ _)) rfl (fun _ _ => ⟨rfl, rfl, rfl, rfl⟩) x

theorem store14 (x : S1x1x256x128.Idx) :
    (k0_pay44 (k0_pay97 x0 x1 x2 x3 x4) : Vec Ideal S1x1x256x128 .f32) x = entry x0 x1 x2 x3 x4 (r0_19.emb x) :=
  slab x0 x1 x2 x3 x4 (rope_slab x0 x1 x2 x3 x4 1 (by decide) (tile1 x0 x1 x2) 6 (rope_part6 _ _ _)) rfl (fun _ _ => ⟨rfl, rfl, rfl, rfl⟩) x

theorem store15 (x : S1x1x256x128.Idx) :
    (k0_pay46 (k0_pay45 (k0_pay97 x0 x1 x2 x3 x4)) : Vec Ideal S1x1x256x128 .f32) x = entry x0 x1 x2 x3 x4 (r0_20.emb x) :=
  slab x0 x1 x2 x3 x4 (rope_slab x0 x1 x2 x3 x4 1 (by decide) (tile1 x0 x1 x2) 7 (rope_part7 _ _ _)) rfl (fun _ _ => ⟨rfl, rfl, rfl, rfl⟩) x

theorem store16 (x : S1x1x256x128.Idx) :
    (k0_pay63 (k0_pay98 x0 x1 x2 x3 x4) (k0_pay99 x0 x1 x2 x3 x4) (k0_pay100 x0 x1 x2 x3 x4) (k0_pay101 x0 x1 x2 x3 x4) (k0_pay102 x0 x1 x2 x3 x4) (k0_pay103 x0 x1 x2 x3 x4) (k0_pay104 x0 x1 x2 x3 x4) (k0_pay105 x0 x1 x2 x3 x4) (k0_pay106 x0 x1 x2 x3 x4) (k0_pay107 x0 x1 x2 x3 x4) (k0_pay108 x0 x1 x2 x3 x4) (k0_pay109 x0 x1 x2 x3 x4) (k0_pay110 x0 x1 x2 x3 x4) (k0_pay111 x0 x1 x2 x3 x4) : Vec Ideal S1x1x256x128 .f32) x = entry x0 x1 x2 x3 x4 (r0_22.emb x) :=
  slab x0 x1 x2 x3 x4 (rope_slab x0 x1 x2 x3 x4 2 (by decide) (tile2 x0 x1 x2) 0 (rope_part0 _ _ _)) rfl (fun _ _ => ⟨rfl, rfl, rfl, rfl⟩) x

theorem store17 (x : S1x1x256x128.Idx) :
    (k0_pay64 (k0_pay98 x0 x1 x2 x3 x4) (k0_pay99 x0 x1 x2 x3 x4) (k0_pay100 x0 x1 x2 x3 x4) (k0_pay101 x0 x1 x2 x3 x4) (k0_pay102 x0 x1 x2 x3 x4) (k0_pay103 x0 x1 x2 x3 x4) (k0_pay104 x0 x1 x2 x3 x4) (k0_pay105 x0 x1 x2 x3 x4) (k0_pay106 x0 x1 x2 x3 x4) (k0_pay107 x0 x1 x2 x3 x4) (k0_pay108 x0 x1 x2 x3 x4) (k0_pay109 x0 x1 x2 x3 x4) (k0_pay110 x0 x1 x2 x3 x4) (k0_pay111 x0 x1 x2 x3 x4) : Vec Ideal S1x1x256x128 .f32) x = entry x0 x1 x2 x3 x4 (r0_23.emb x) :=
  slab x0 x1 x2 x3 x4 (rope_slab x0 x1 x2 x3 x4 2 (by decide) (tile2 x0 x1 x2) 1 (rope_part1 _ _ _)) rfl (fun _ _ => ⟨rfl, rfl, rfl, rfl⟩) x

theorem store18 (x : S1x1x256x128.Idx) :
    (k0_pay65 (k0_pay98 x0 x1 x2 x3 x4) (k0_pay99 x0 x1 x2 x3 x4) (k0_pay100 x0 x1 x2 x3 x4) (k0_pay101 x0 x1 x2 x3 x4) (k0_pay102 x0 x1 x2 x3 x4) (k0_pay103 x0 x1 x2 x3 x4) (k0_pay104 x0 x1 x2 x3 x4) (k0_pay105 x0 x1 x2 x3 x4) (k0_pay106 x0 x1 x2 x3 x4) (k0_pay107 x0 x1 x2 x3 x4) (k0_pay108 x0 x1 x2 x3 x4) (k0_pay109 x0 x1 x2 x3 x4) (k0_pay110 x0 x1 x2 x3 x4) (k0_pay111 x0 x1 x2 x3 x4) : Vec Ideal S1x1x256x128 .f32) x = entry x0 x1 x2 x3 x4 (r0_24.emb x) :=
  slab x0 x1 x2 x3 x4 (rope_slab x0 x1 x2 x3 x4 2 (by decide) (tile2 x0 x1 x2) 2 (rope_part2 _ _ _)) rfl (fun _ _ => ⟨rfl, rfl, rfl, rfl⟩) x

theorem store19 (x : S1x1x256x128.Idx) :
    (k0_pay66 (k0_pay98 x0 x1 x2 x3 x4) (k0_pay99 x0 x1 x2 x3 x4) (k0_pay100 x0 x1 x2 x3 x4) (k0_pay101 x0 x1 x2 x3 x4) (k0_pay102 x0 x1 x2 x3 x4) (k0_pay103 x0 x1 x2 x3 x4) (k0_pay104 x0 x1 x2 x3 x4) (k0_pay105 x0 x1 x2 x3 x4) (k0_pay106 x0 x1 x2 x3 x4) (k0_pay107 x0 x1 x2 x3 x4) (k0_pay108 x0 x1 x2 x3 x4) (k0_pay109 x0 x1 x2 x3 x4) (k0_pay110 x0 x1 x2 x3 x4) (k0_pay111 x0 x1 x2 x3 x4) : Vec Ideal S1x1x256x128 .f32) x = entry x0 x1 x2 x3 x4 (r0_25.emb x) :=
  slab x0 x1 x2 x3 x4 (rope_slab x0 x1 x2 x3 x4 2 (by decide) (tile2 x0 x1 x2) 3 (rope_part3 _ _ _)) rfl (fun _ _ => ⟨rfl, rfl, rfl, rfl⟩) x

theorem store20 (x : S1x1x256x128.Idx) :
    (k0_pay67 (k0_pay98 x0 x1 x2 x3 x4) (k0_pay99 x0 x1 x2 x3 x4) (k0_pay100 x0 x1 x2 x3 x4) (k0_pay101 x0 x1 x2 x3 x4) (k0_pay102 x0 x1 x2 x3 x4) (k0_pay103 x0 x1 x2 x3 x4) (k0_pay104 x0 x1 x2 x3 x4) (k0_pay105 x0 x1 x2 x3 x4) (k0_pay106 x0 x1 x2 x3 x4) (k0_pay107 x0 x1 x2 x3 x4) (k0_pay108 x0 x1 x2 x3 x4) (k0_pay109 x0 x1 x2 x3 x4) (k0_pay110 x0 x1 x2 x3 x4) (k0_pay111 x0 x1 x2 x3 x4) : Vec Ideal S1x1x256x128 .f32) x = entry x0 x1 x2 x3 x4 (r0_26.emb x) :=
  slab x0 x1 x2 x3 x4 (rope_slab x0 x1 x2 x3 x4 2 (by decide) (tile2 x0 x1 x2) 4 (rope_part4 _ _ _)) rfl (fun _ _ => ⟨rfl, rfl, rfl, rfl⟩) x

theorem store21 (x : S1x1x256x128.Idx) :
    (k0_pay68 (k0_pay112 x0 x1 x2 x3 x4) : Vec Ideal S1x1x256x128 .f32) x = entry x0 x1 x2 x3 x4 (r0_27.emb x) :=
  slab x0 x1 x2 x3 x4 (rope_slab x0 x1 x2 x3 x4 2 (by decide) (tile2 x0 x1 x2) 5 (rope_part5 _ _ _)) rfl (fun _ _ => ⟨rfl, rfl, rfl, rfl⟩) x

theorem store22 (x : S1x1x256x128.Idx) :
    (k0_pay69 (k0_pay112 x0 x1 x2 x3 x4) : Vec Ideal S1x1x256x128 .f32) x = entry x0 x1 x2 x3 x4 (r0_28.emb x) :=
  slab x0 x1 x2 x3 x4 (rope_slab x0 x1 x2 x3 x4 2 (by decide) (tile2 x0 x1 x2) 6 (rope_part6 _ _ _)) rfl (fun _ _ => ⟨rfl, rfl, rfl, rfl⟩) x

theorem store23 (x : S1x1x256x128.Idx) :
    (k0_pay70 (k0_pay112 x0 x1 x2 x3 x4) : Vec Ideal S1x1x256x128 .f32) x = entry x0 x1 x2 x3 x4 (r0_29.emb x) :=
  slab x0 x1 x2 x3 x4 (rope_slab x0 x1 x2 x3 x4 2 (by decide) (tile2 x0 x1 x2) 7 (rope_part7 _ _ _)) rfl (fun _ _ => ⟨rfl, rfl, rfl, rfl⟩) x

theorem store24 (x : S1x1x256x128.Idx) :
    (k0_pay72 (k0_pay75 x0 x1 x2 x3 x4) (View.ld x2 r0_30) : Vec Ideal S1x1x256x128 .f32) x = entry x0 x1 x2 x3 x4 (r0_31.emb x) :=
  slab x0 x1 x2 x3 x4 (plain_slab x0 x1 x2 x3 x4 0 (part0 _)) rfl (fun _ _ => ⟨rfl, rfl, rfl, rfl⟩) x

theorem store25 (x : S1x1x256x128.Idx) :
    (k0_pay73 (k0_pay75 x0 x1 x2 x3 x4) (View.ld x2 r0_30) : Vec Ideal S1x1x256x128 .f32) x = entry x0 x1 x2 x3 x4 (r0_32.emb x) :=
  slab x0 x1 x2 x3 x4 (plain_slab x0 x1 x2 x3 x4 1 (part1 _)) rfl (fun _ _ => ⟨rfl, rfl, rfl, rfl⟩) x

theorem store26 (x : S1x1x256x128.Idx) :
    (k0_pay74 (k0_pay75 x0 x1 x2 x3 x4) (View.ld x2 r0_30) : Vec Ideal S1x1x256x128 .f32) x = entry x0 x1 x2 x3 x4 (r0_33.emb x) :=
  slab x0 x1 x2 x3 x4 (plain_slab x0 x1 x2 x3 x4 2 (part2 _)) rfl (fun _ _ => ⟨rfl, rfl, rfl, rfl⟩) x

theorem store27 (x : S1x1x256x128.Idx) :
    (k0_pay1 (k0_pay113 x0 x1 x2 x3 x4) : Vec Ideal S1x1x256x128 .f32) x = entry x0 x1 x2 x3 x4 (r0_34.emb x) :=
  slab x0 x1 x2 x3 x4 (plain_slab x0 x1 x2 x3 x4 3 (part3 _)) rfl (fun _ _ => ⟨rfl, rfl, rfl, rfl⟩) x

theorem store28 (x : S1x1x256x128.Idx) :
    (k0_pay2 (k0_pay113 x0 x1 x2 x3 x4) : Vec Ideal S1x1x256x128 .f32) x = entry x0 x1 x2 x3 x4 (r0_35.emb x) :=
  slab x0 x1 x2 x3 x4 (plain_slab x0 x1 x2 x3 x4 4 (part4 _)) rfl (fun _ _ => ⟨rfl, rfl, rfl, rfl⟩) x

theorem store29 (x : S1x1x256x128.Idx) :
    (k0_pay3 (k0_pay113 x0 x1 x2 x3 x4) : Vec Ideal S1x1x256x128 .f32) x = entry x0 x1 x2 x3 x4 (r0_36.emb x) :=
  slab x0 x1 x2 x3 x4 (plain_slab x0 x1 x2 x3 x4 5 (part5 _)) rfl (fun _ _ => ⟨rfl, rfl, rfl, rfl⟩) x

theorem store30 (x : S1x1x256x128.Idx) :
    (k0_pay4 (k0_pay113 x0 x1 x2 x3 x4) : Vec Ideal S1x1x256x128 .f32) x = entry x0 x1 x2 x3 x4 (r0_37.emb x) :=
  slab x0 x1 x2 x3 x4 (plain_slab x0 x1 x2 x3 x4 6 (part6 _)) rfl (fun _ _ => ⟨rfl, rfl, rfl, rfl⟩) x

theorem store31 (x : S1x1x256x128.Idx) :
    (k0_pay5 (k0_pay113 x0 x1 x2 x3 x4) : Vec Ideal S1x1x256x128 .f32) x = entry x0 x1 x2 x3 x4 (r0_38.emb x) :=
  slab x0 x1 x2 x3 x4 (plain_slab x0 x1 x2 x3 x4 7 (part7 _)) rfl (fun _ _ => ⟨rfl, rfl, rfl, rfl⟩) x

/-- The block which a grid point stores. -/
theorem out_apply (y : S1x32x256x128.Idx) : (out0_5 x0 x1 x2 x3 x4 y : EReal) = entry x0 x1 x2 x3 x4 y := by
  refine View.canon_apply_of_pieces (Val := Elt Ideal) (e := .f32) (entry x0 x1 x2 x3 x4) _ ?_ y (cover0_5 _ _ _ _ _ _ _ _ _ _ _ _ _ _ _ _ _ _ _ _ _ _ _ _ _ _ _ _ _ _ _ _ y)
  exact (List.forall_mem_cons.2 ⟨store31 x0 x1 x2 x3 x4,
    (List.forall_mem_cons.2 ⟨store30 x0 x1 x2 x3 x4,
    (List.forall_mem_cons.2 ⟨store29 x0 x1 x2 x3 x4,
    (List.forall_mem_cons.2 ⟨store28 x0 x1 x2 x3 x4,
    (List.forall_mem_cons.2 ⟨store27 x0 x1 x2 x3 x4,
    (List.forall_mem_cons.2 ⟨store26 x0 x1 x2 x3 x4,
    (List.forall_mem_cons.2 ⟨store25 x0 x1 x2 x3 x4,
    (List.forall_mem_cons.2 ⟨store24 x0 x1 x2 x3 x4,
    (List.forall_mem_cons.2 ⟨store23 x0 x1 x2 x3 x4,
    (List.forall_mem_cons.2 ⟨store22 x0 x1 x2 x3 x4,
    (List.forall_mem_cons.2 ⟨store21 x0 x1 x2 x3 x4,
    (List.forall_mem_cons.2 ⟨store20 x0 x1 x2 x3 x4,
    (List.forall_mem_cons.2 ⟨store19 x0 x1 x2 x3 x4,
    (List.forall_mem_cons.2 ⟨store18 x0 x1 x2 x3 x4,
    (List.forall_mem_cons.2 ⟨store17 x0 x1 x2 x3 x4,
    (List.forall_mem_cons.2 ⟨store16 x0 x1 x2 x3 x4,
    (List.forall_mem_cons.2 ⟨store15 x0 x1 x2 x3 x4,
    (List.forall_mem_cons.2 ⟨store14 x0 x1 x2 x3 x4,
    (List.forall_mem_cons.2 ⟨store13 x0 x1 x2 x3 x4,
    (List.forall_mem_cons.2 ⟨store12 x0 x1 x2 x3 x4,
    (List.forall_mem_cons.2 ⟨store11 x0 x1 x2 x3 x4,
    (List.forall_mem_cons.2 ⟨store10 x0 x1 x2 x3 x4,
    (List.forall_mem_cons.2 ⟨store9 x0 x1 x2 x3 x4,
    (List.forall_mem_cons.2 ⟨store8 x0 x1 x2 x3 x4,
    (List.forall_mem_cons.2 ⟨store7 x0 x1 x2 x3 x4,
    (List.forall_mem_cons.2 ⟨store6 x0 x1 x2 x3 x4,
    (List.forall_mem_cons.2 ⟨store5 x0 x1 x2 x3 x4,
    (List.forall_mem_cons.2 ⟨store4 x0 x1 x2 x3 x4,
    (List.forall_mem_cons.2 ⟨store3 x0 x1 x2 x3 x4,
    (List.forall_mem_cons.2 ⟨store2 x0 x1 x2 x3 x4,
    (List.forall_mem_cons.2 ⟨store1 x0 x1 x2 x3 x4,
    (List.forall_mem_cons.2 ⟨store0 x0 x1 x2 x3 x4, fun _ h => absurd h List.not_mem_nil⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)

end

end Cert.Proof.Proj

end
-- ==== Proof.Proj.Result.lean ====
module

public import proofs.«01_k».proof.Proof.Proj.Body

@[expose] public section

set_option maxRecDepth 16384

noncomputable section

/-! The projection's result: its blocks, put together. -/

namespace Cert.Proof.Proj

open Cert.Kernel2Ideal
open Idealize.ShloMosaic Idealize.ShloMosaic.TcCoe Idealize.SL.Sem
open Idealize.ShloMosaic.Pipeline (Dat)
open Cert.Kernel2Ideal.Gen

/-- The angle of time `t` in channel `c` of the first half of a head. -/
def angle : FVec Ideal S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

def cosT : FVec Ideal S2048x32 .f32 := Host.cos angle
def sinT : FVec Ideal S2048x32 .f32 := Host.sin angle

/-- The result from the three arguments. -/
def result (X : (⟨S8x2048x1024, .f32⟩ : BufTy).Contents (Elt Ideal)) (g : (⟨S1024, .f32⟩ : BufTy).Contents (Elt Ideal))
    (W : (⟨S1024x4096, .f32⟩ : BufTy).Contents (Elt Ideal)) : (⟨S8x32x2048x128, .f32⟩ : BufTy).Contents (Elt Ideal) := fun i =>
  ropeV (by decide : 32 * 128 = 4096) (projV (fun k => X (ix3 (i 0) (i 2) k)) (fun k => g (ix1 k)) (fun k c => W (ix2 k c)))
    (cosT (ix2 (i 2) ⟨(i 3).val % 32, Nat.mod_lt _ (by decide)⟩)) (sinT (ix2 (i 2) ⟨(i 3).val % 32, Nat.mod_lt _ (by decide)⟩)) (i 1) (i 3)

variable (m : (ℓ : Loc nD τ sig) → Buf (Elt Ideal) ℓ) (c : Dev nD)

/-! ## The arrays before the call -/

theorem rows_eq : V m c main_v19 = shapeCast S16384x1024 (m ((c : Thread nD τ).loc main_arg0)) shapeCasts_S8x2048x1024_S16384x1024 := by
  simp only [V, hostOps0]
  after_results_simp
  rfl

theorem gain_eq : V m c main_v20 = shapeCast S1x1024 (m ((c : Thread nD τ).loc main_arg1)) shapeCasts_S1024_S1x1024 := by
  simp only [V, hostOps0]
  after_results_simp
  rfl

theorem weights_eq : V m c main_v21 = (truncf .bf16 (m ((c : Thread nD τ).loc main_arg2)) bitsLt_bf16_f32 : FVec Ideal S1024x4096 .bf16) := by
  simp only [V, hostOps0]
  after_results_simp

theorem cos_eq : V m c main_v15 = (concatenate S2048x128 1 [⟨S2048x32, cosT⟩, ⟨S2048x32, cosT⟩, ⟨S2048x32, cosT⟩, ⟨S2048x32, cosT⟩]
    concatenates_S2048x32_S2048x32_S2048x32_S2048x32_S2048x128_d1 : FVec Ideal S2048x128 .f32) := by
  simp only [V, hostOps0]
  after_results_simp
  rfl

theorem sin_eq : V m c main_v18 = (concatenate S2048x128 1 [⟨S2048x32, Host.negf sinT⟩, ⟨S2048x32, sinT⟩, ⟨S2048x32, Host.negf sinT⟩, ⟨S2048x32, sinT⟩]
    concatenates_S2048x32_S2048x32_S2048x32_S2048x32_S2048x128_d1 : FVec Ideal S2048x128 .f32) := by
  simp only [V, hostOps0]
  after_results_simp
  rfl

theorem rows_apply (X : (⟨S8x2048x1024, .f32⟩ : BufTy).Contents (Elt Ideal)) (b : Fin 8) (t : Fin 2048) (k : Fin 1024) :
    (shapeCast S16384x1024 X shapeCasts_S8x2048x1024_S16384x1024 : (⟨S16384x1024, .f32⟩ : BufTy).Contents (Elt Ideal)) (ix2 ⟨b.val * 2048 + t.val, by omega⟩ k)
      = X (ix3 b t k) := by
  clean_types
  pointwise

theorem gain_apply (g : (⟨S1024, .f32⟩ : BufTy).Contents (Elt Ideal)) (k : Fin 1024) :
    (shapeCast S1x1024 g shapeCasts_S1024_S1x1024 : (⟨S1x1024, .f32⟩ : BufTy).Contents (Elt Ideal)) (ix2 (0 : Fin 1) k) = g (ix1 k) := by
  clean_types
  pointwise

/-- Four tables side by side. -/
theorem four_apply (y0 y1 y2 y3 : FVec Ideal S2048x32 .f32) (t : Fin 2048) (l : Fin 128) :
    (concatenate S2048x128 1 [⟨S2048x32, y0⟩, ⟨S2048x32, y1⟩, ⟨S2048x32, y2⟩, ⟨S2048x32, y3⟩]
      concatenates_S2048x32_S2048x32_S2048x32_S2048x32_S2048x128_d1 : FVec Ideal S2048x128 .f32) (ix2 t l)
      = (if l.val < 32 then y0 else if l.val < 64 then y1 else if l.val < 96 then y2 else y3) (ix2 t ⟨l.val % 32, Nat.mod_lt _ (by decide)⟩) := by
  have e : ∀ (y : FVec Ideal S2048x32 .f32) (n : ℕ) (h : n < 32), n = l.val % 32 → y (ix2 t ⟨n, h⟩) = y (ix2 t ⟨l.val % 32, Nat.mod_lt _ (by decide)⟩) :=
    fun y n h hn => congrArg (fun q => y (ix2 t q)) (Fin.ext hn)
  clean_types
  pointwise
  by_cases h1 : l.val < 32
  · rw [dif_pos h1, if_pos h1]
    exact e _ _ _ (by omega)
  · rw [dif_neg h1, if_neg h1]
    by_cases h2 : l.val < 64
    · rw [dif_pos (by omega), if_pos h2]
      exact e _ _ _ (by omega)
    · rw [dif_neg (by omega), if_neg h2]
      by_cases h3 : l.val < 96
      · rw [dif_pos (by omega), if_pos h3]
        exact e _ _ _ (by omega)
      · rw [dif_neg (by omega), if_neg h3]
        exact e _ _ _ (by omega)

/-! ## The blocks -/

def batch (t : Fin cfg0.N) : Fin 8 := ⟨t.val / 8, by have h := t.isLt; have e : cfg0.N = 64 := N_0; omega⟩
def time (t : Fin cfg0.N) (r : Fin 256) : Fin 2048 := ⟨t.val % 8 * 256 + r.val, by omega⟩

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![t.val % 8, 0] := by decide +kernel
theorem index4 : ∀ t : Fin grid0.N, win0_4.index t = ![t.val % 8, 0] := by decide +kernel
theorem index5 : ∀ t : Fin grid0.N, win0_5.index t = ![t.val / 8, 0, t.val % 8, 0] := by decide +kernel

theorem emb0 (t : Fin cfg0.N) (r : Fin 256) (k : Fin 1024) :
    (win0_0.blk t).view.emb (ix2 r k) = ix2 (⟨(batch t).val * 2048 + (time t r).val, by have := (batch t).isLt; have := (time t r).isLt; omega⟩ : Fin 16384) k := by
  refine funext fun a => Fin.ext ?_
  have e := index0 t
  match a with
  | ⟨0, _⟩ =>
    show win0_0.index t 0 * 256 + 1 * r.val = t.val / 8 * 2048 + (t.val % 8 * 256 + r.val)
    rw [e]; show t.val * 256 + 1 * r.val = _; omega
  | ⟨1, _⟩ =>
    show win0_0.index t 1 * 1024 + 1 * k.val = k.val
    rw [e]; show 0 * 1024 + 1 * k.val = _; omega

theorem emb1 (t : Fin cfg0.N) (k : Fin 1024) :
    (win0_1.blk t).view.emb (ix2 (0 : Fin 1) k) = ix2 (0 : Fin 1) k := by
  refine funext fun a => Fin.ext ?_
  have e := index1 t
  match a with
  | ⟨0, _⟩ =>
    show win0_1.index t 0 * 1 + 1 * 0 = 0
    rw [e]; show 0 * 1 + 1 * 0 = _; omega
  | ⟨1, _⟩ =>
    show win0_1.index t 1 * 1024 + 1 * k.val = k.val
    rw [e]; show 0 * 1024 + 1 * k.val = _; omega

theorem emb2 (t : Fin cfg0.N) (k : Fin 1024) (q : Fin 4096) :
    (win0_2.blk t).view.emb (ix2 k q) = ix2 k q := by
  refine funext fun a => Fin.ext ?_
  have e := index2 t
  match a with
  | ⟨0, _⟩ =>
    show win0_2.index t 0 * 1024 + 1 * k.val = k.val
    rw [e]; show 0 * 1024 + 1 * k.val = _; omega
  | ⟨1, _⟩ =>
    show win0_2.index t 1 * 4096 + 1 * q.val = q.val
    rw [e]; show 0 * 4096 + 1 * q.val = _; omega

theorem emb3 (t : Fin cfg0.N) (r : Fin 256) (l : Fin 128) :
    (win0_3.blk t).view.emb (ix2 r l) = ix2 (time t r) l := by
  refine funext fun a => Fin.ext ?_
  have e := index3 t
  match a with
  | ⟨0, _⟩ =>
    show win0_3.index t 0 * 256 + 1 * r.val = t.val % 8 * 256 + r.val
    rw [e]; show (t.val % 8) * 256 + 1 * r.val = _; omega
  | ⟨1, _⟩ =>
    show win0_3.index t 1 * 128 + 1 * l.val = l.val
    rw [e]; show 0 * 128 + 1 * l.val = _; omega

theorem emb4 (t : Fin cfg0.N) (r : Fin 256) (l : Fin 128) :
    (win0_4.blk t).view.emb (ix2 r l) = ix2 (time t r) l := by
  refine funext fun a => Fin.ext ?_
  have e := index4 t
  match a with
  | ⟨0, _⟩ =>
    show win0_4.index t 0 * 256 + 1 * r.val = t.val % 8 * 256 + r.val
    rw [e]; show (t.val % 8) * 256 + 1 * r.val = _; omega
  | ⟨1, _⟩ =>
    show win0_4.index t 1 * 128 + 1 * l.val = l.val
    rw [e]; show 0 * 128 + 1 * l.val = _; omega

theorem emb5 (t : Fin cfg0.N) (n : Fin 32) (r : Fin 256) (l : Fin 128) :
    (win0_5.blk t).view.emb (ix4 (0 : Fin 1) n r l) = ix4 (batch t) n (time t r) l := by
  refine funext fun a => Fin.ext ?_
  have e := index5 t
  match a with
  | ⟨0, _⟩ =>
    show win0_5.index t 0 * 1 + 1 * 0 = t.val / 8
    rw [e]; show (t.val / 8) * 1 + 1 * 0 = _; omega
  | ⟨1, _⟩ =>
    show win0_5.index t 1 * 32 + 1 * n.val = n.val
    rw [e]; show 0 * 32 + 1 * n.val = _; omega
  | ⟨2, _⟩ =>
    show win0_5.index t 2 * 256 + 1 * r.val = t.val % 8 * 256 + r.val
    rw [e]; show (t.val % 8) * 256 + 1 * r.val = _; omega
  | ⟨3, _⟩ =>
    show win0_5.index t 3 * 128 + 1 * l.val = l.val
    rw [e]; show 0 * 128 + 1 * l.val = _; omega

theorem block0 (t : Fin cfg0.N) (r : Fin 256) (k : Fin 1024) :
    iblk m c 0 t (ix2 r k) = m ((c : Thread nD τ).loc main_arg0) (ix3 (batch t) (time t r) k) := by
  show V m c main_v19 ((win0_0.blk t).view.emb (ix2 r k)) = _
  rw [emb0, rows_eq]
  exact rows_apply _ _ _ _

theorem block1 (t : Fin cfg0.N) (k : Fin 1024) : iblk m c 1 t (ix2 (0 : Fin 1) k) = m ((c : Thread nD τ).loc main_arg1) (ix1 k) := by
  show V m c main_v20 ((win0_1.blk t).view.emb (ix2 (0 : Fin 1) k)) = _
  rw [emb1, gain_eq]
  exact gain_apply _ _

theorem block2 (t : Fin cfg0.N) (k : Fin 1024) (q : Fin 4096) :
    (iblk m c 2 t (ix2 k q) : EReal) = m ((c : Thread nD τ).loc main_arg2) (ix2 k q) := by
  show (V m c main_v21 ((win0_2.blk t).view.emb (ix2 k q)) : EReal) = _
  rw [emb2, weights_eq]
  rfl

theorem block3 (t : Fin cfg0.N) (r : Fin 256) (l : Fin 128) :
    (iblk m c 3 t (ix2 r l) : EReal) = cosT (ix2 (time t r) ⟨l.val % 32, Nat.mod_lt _ (by decide)⟩) := by
  show (V m c main_v15 ((win0_3.blk t).view.emb (ix2 r l)) : EReal) = _
  rw [emb3, cos_eq, four_apply, ite_self, ite_self, ite_self]

theorem block4 (t : Fin cfg0.N) (r : Fin 256) (l : Fin 128) :
    (iblk m c 4 t (ix2 r l) : EReal) = if l.val % 64 < 32 then -(sinT (ix2 (time t r) ⟨l.val % 32, Nat.mod_lt _ (by decide)⟩) : EReal)
      else sinT (ix2 (time t r) ⟨l.val % 32, Nat.mod_lt _ (by decide)⟩) := by
  show (V m c main_v18 ((win0_4.blk t).view.emb (ix2 r l)) : EReal) = _
  rw [emb4, sin_eq, four_apply]
  have hl := l.isLt
  split_ifs <;> first | rfl | (exfalso; omega)

theorem out_at (t : Fin cfg0.N) (n : Fin 32) (r : Fin 256) (l : Fin 128) :
    (out0_5 (iblk m c 0 t) (iblk m c 1 t) (iblk m c 2 t) (iblk m c 3 t) (iblk m c 4 t) (ix4 (0 : Fin 1) n r l) : EReal)
      = result (m ((c : Thread nD τ).loc main_arg0)) (m ((c : Thread nD τ).loc main_arg1)) (m ((c : Thread nD τ).loc main_arg2))
          (ix4 (batch t) n (time t r) l) := by
  refine (out_apply _ _ _ _ _ _).trans ?_
  rw [entry_at, block3, block4]
  have e : rowV (iblk m c 0 t) (iblk m c 1 t) (iblk m c 2 t) r
      = projV (fun k => m ((c : Thread nD τ).loc main_arg0) (ix3 (batch t) (time t r) k)) (fun k => m ((c : Thread nD τ).loc main_arg1) (ix1 k))
          (fun k q => m ((c : Thread nD τ).loc main_arg2) (ix2 k q)) := by
    have e0 := funext (block0 m c t r)
    have e1 := funext (block1 m c t)
    have e2 := funext fun k => funext (block2 m c t k)
    unfold rowV
    exact congr (congr (congrArg projV e0) e1) e2
  rw [e]
  rfl

theorem flushed_eq (t : Fin cfg0.N) : (dats m 0 c).flushed 5 t = (win0_5.blk t).view.read (Elt Ideal)
    (result (m ((c : Thread nD τ).loc main_arg0)) (m ((c : Thread nD τ).loc main_arg1)) (m ((c : Thread nD τ).loc main_arg2))) := by
  show (cfg0.win 5).cut (grid0.coords t) ((dats m 0 c).after 5 t) = _
  rw [after0_5]
  funext y
  obtain ⟨n, r, l, rfl⟩ : ∃ (n : Fin 32) (r : Fin 256) (l : Fin 128), y = ix4 (0 : Fin 1) n r l := by
    refine ⟨y 1, y 2, y 3, funext fun a => ?_⟩
    match a with
    | ⟨0, _⟩ => exact Subsingleton.elim (α := Fin 1) _ _
    | ⟨1, _⟩ => rfl
    | ⟨2, _⟩ => rfl
    | ⟨3, _⟩ => rfl
  refine (out_at m c t n r l).trans ?_
  exact congrArg (result _ _ _) (emb5 t n r l).symm

/-- The blocks cover the result. -/
theorem cover (i : S8x32x2048x128.Idx) : ∃ t : Fin cfg0.N, (cfg0.win 5).flush t = true ∧ i ∈ ((cfg0.win 5).blk t).view.set := by
  have hN : cfg0.N = 64 := N_0
  have i0 : (i 0).val < 8 := (i 0).isLt
  have i2 : (i 2).val < 2048 := (i 2).isLt
  refine ⟨⟨(i 0).val * 8 + (i 2).val / 256, by omega⟩, flush0_5 _, ?_⟩
  refine Finset.mem_map.mpr ⟨ix4 (0 : Fin 1) (i 1) (⟨(i 2).val % 256, Nat.mod_lt _ (by decide)⟩ : Fin 256) (i 3), Finset.mem_univ _, ?_⟩
  refine (emb5 _ _ _ _).trans (funext fun a => Fin.ext ?_)
  match a with
  | ⟨0, _⟩ => show ((i 0).val * 8 + (i 2).val / 256) / 8 = (i 0).val; omega
  | ⟨1, _⟩ => rfl
  | ⟨2, _⟩ => show ((i 0).val * 8 + (i 2).val / 256) % 8 * 256 + (i 2).val % 256 = (i 2).val; omega
  | ⟨3, _⟩ => rfl

/-- The result's array after the run. -/
theorem final : (dats m 0 c).arrAt 5 cfg0.N
    = result (m ((c : Thread nD τ).loc main_arg0)) (m ((c : Thread nD τ).loc main_arg1)) (m ((c : Thread nD τ).loc main_arg2)) :=
  (dats m 0 c).arrAt_eq_of_cover 5 _ (fun t _ => flushed_eq m c t) cover

end Cert.Proof.Proj

end
-- ==== Proof.Proj.Ref.lean ====
module

public import proofs.«01_k».proof.Proof.Proj.Spec
public import proofs.«01_k».proof.Proof.Gen.Reference2Ideal.Run
public import Idealize.ShloMosaic.Lib.Pointwise
public import Idealize.ShloMosaic.Lib.Tactic.CleanTypes
public import Idealize.ShloMosaic.Lib.Tactic.IndexArith

@[expose] public section

set_option maxRecDepth 16384

noncomputable section

/-! The reference's projection, entry by entry. -/

namespace Cert.Proof.ProjRef

open Cert.Reference2Ideal Cert.Reference2Ideal.Gen
open Idealize.ShloMosaic Idealize.ShloMosaic.TcCoe
open Cert.Proof.Proj (normV projV blockV ropeV)

/-- The normalised rows. -/
def norm (X : (⟨S8x2048x1024, .f32⟩ : BufTy).Contents (Elt Ideal)) (g : (⟨S1024, .f32⟩ : BufTy).Contents (Elt Ideal)) : FVec Ideal S8x2048x1024 .f32 :=
  (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g)))

def prod (N : FVec Ideal S8x2048x1024 .f32) (W : (⟨S1024x4096, .f32⟩ : BufTy).Contents (Elt Ideal)) : FVec Ideal S8x2048x4096 .f32 :=
  Host.dotGeneral (φ₁ := .f32) (φ₂ := .f32) dot_S8x2048x1024_S1024x4096_S8x2048x4096_2_0_01_1_n_n none N W

/-- The queries, head by head. -/
def heads (D : FVec Ideal S8x2048x4096 .f32) : FVec Ideal S8x2048x48x64 .f32 :=
  shapeCast _ (extractStridedSlice S8x2048x3072 ![0, 0, 0] D slices_S8x2048x4096_S8x2048x3072_0_0_0) shapeCasts_S8x2048x3072_S8x2048x48x64

def spread (t : FVec Ideal S2048x32 .f32) : FVec Ideal S8x2048x48x32 .f32 :=
  broadcastInDim S8x2048x48x32 ![0, 1, 2, 3] bcast_S1x2048x1x32_S8x2048x48x32_0_1_2_3 (broadcastInDim S1x2048x1x32 ![1, 2, 3] bcast_S2048x1x32_S1x2048x1x32_1_2_3 (broadcastInDim S2048x1x32 ![0, 2] bcast_S2048x32_S2048x1x32_0_2 t))

/-- The rotated queries. -/
def turned (H : FVec Ideal S8x2048x48x64 .f32) (C S : FVec Ideal S8x2048x48x32 .f32) : FVec Ideal S8x2048x48x64 .f32 :=
  concatenate S8x2048x48x64 3
    [⟨S8x2048x48x32, (subf (mulf (extractStridedSlice S8x2048x48x32 ![0, 0, 0, 0] H slices_S8x2048x48x64_S8x2048x48x32_0_0_0_0) C) (mulf (extractStridedSlice S8x2048x48x32 ![0, 0, 0, 32] H slices_S8x2048x48x64_S8x2048x48x32_0_0_0_32) S))⟩,
     ⟨S8x2048x48x32, (addf (mulf (extractStridedSlice S8x2048x48x32 ![0, 0, 0, 32] H slices_S8x2048x48x64_S8x2048x48x32_0_0_0_32) C) (mulf (extractStridedSlice S8x2048x48x32 ![0, 0, 0, 0] H slices_S8x2048x48x64_S8x2048x48x32_0_0_0_0) S))⟩]
    concatenates_S8x2048x48x32_S8x2048x48x32_S8x2048x48x64_d3

def laid (R : FVec Ideal S8x2048x48x64 .f32) (D : FVec Ideal S8x2048x4096 .f32) : FVec Ideal S8x32x2048x128 .f32 :=
  transpose S8x32x2048x128 [0, 2, 1, 3] (shapeCast _ (concatenate S8x2048x4096 2 [⟨S8x2048x3072, (shapeCast _ R shapeCasts_S8x2048x48x64_S8x2048x3072)⟩, ⟨S8x2048x1024, (extractStridedSlice S8x2048x1024 ![0, 0, 3072] D slices_S8x2048x4096_S8x2048x1024_0_0_3072)⟩] concatenates_S8x2048x3072_S8x2048x1024_S8x2048x4096_d2) shapeCasts_S8x2048x4096_S8x2048x32x128) transposes_S8x2048x32x128_S8x32x2048x128_0_2_1_3

def angle : FVec Ideal S2048x32 .f32 :=
  (mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))

theorem res_eq (m : (ℓ : Loc nD τ sig) → Buf (Elt Ideal) ℓ) (c : Dev nD) :
    Value.res_main_v54 m c
      = laid (turned (heads (prod (norm (m ((c.tc : Thread nD τ).loc main_arg0)) (m ((c.tc : Thread nD τ).loc main_arg1))) (m ((c.tc : Thread nD τ).loc main_arg2))))
          (spread (Host.cos angle)) (spread (Host.sin angle)))
          (prod (norm (m ((c.tc : Thread nD τ).loc main_arg0)) (m ((c.tc : Thread nD τ).loc main_arg1))) (m ((c.tc : Thread nD τ).loc main_arg2))) := by
  unfold Value.res_main_v54 laid turned heads prod norm spread angle
  rfl

theorem norm_apply (X : (⟨S8x2048x1024, .f32⟩ : BufTy).Contents (Elt Ideal)) (g : (⟨S1024, .f32⟩ : BufTy).Contents (Elt Ideal)) (b : Fin 8) (t : Fin 2048) (k : Fin 1024) :
    (norm X g (ix3 b t k) : EReal) = normV (fun k => X (ix3 b t k)) (fun k => g (ix1 k)) k := by
  unfold norm normV
  clean_types
  pointwise

theorem prod_apply (N : FVec Ideal S8x2048x1024 .f32) (W : (⟨S1024x4096, .f32⟩ : BufTy).Contents (Elt Ideal)) (b : Fin 8) (t : Fin 2048) (q : Fin 4096) :
    (prod N W (ix3 b t q) : EReal) = ∑ k : Fin 1024, (N (ix3 b t k) : EReal) * W (ix2 k q) := by
  unfold prod
  clean_types
  pointwise

theorem heads_apply (D : FVec Ideal S8x2048x4096 .f32) (b : Fin 8) (t : Fin 2048) (h : Fin 48) (x : Fin 64) :
    heads D (ix4 b t h x) = D (ix3 b t ⟨h.val * 64 + x.val, by omega⟩) := by
  unfold heads
  clean_types
  pointwise

theorem spread_apply (T : FVec Ideal S2048x32 .f32) (b : Fin 8) (t : Fin 2048) (h : Fin 48) (x : Fin 32) : spread T (ix4 b t h x) = T (ix2 t x) := by
  unfold spread
  clean_types
  pointwise

theorem turned_apply (H : FVec Ideal S8x2048x48x64 .f32) (C S : FVec Ideal S8x2048x48x32 .f32) (b : Fin 8) (t : Fin 2048) (h : Fin 48) (x : Fin 64) :
    (turned H C S (ix4 b t h x) : EReal) = if hx : x.val < 32
      then (H (ix4 b t h x) : EReal) * C (ix4 b t h ⟨x.val, hx⟩) - (H (ix4 b t h ⟨32 + x.val, by omega⟩) : EReal) * S (ix4 b t h ⟨x.val, hx⟩)
      else (H (ix4 b t h x) : EReal) * C (ix4 b t h ⟨x.val - 32, by omega⟩) + (H (ix4 b t h ⟨x.val - 32, by omega⟩) : EReal) * S (ix4 b t h ⟨x.val - 32, by omega⟩) := by
  unfold turned
  clean_types
  pointwise
  by_cases hx : x.val < 32
  · rw [dif_pos hx, dif_pos hx]
  · rw [dif_neg hx, dif_neg hx, show (⟨32 + (x.val - 32), by omega⟩ : Fin 64) = x from Fin.ext (by show 32 + (x.val - 32) = x.val; omega)]

/-- The rotated heads, where the columns before are those of `P`. -/
theorem turned_rope {M N : ℕ} (hN : M * 128 = N) (hM : 24 ≤ M) (P : Fin N → EReal) (H : FVec Ideal S8x2048x48x64 .f32) (C S : FVec Ideal S2048x32 .f32)
    (b : Fin 8) (t : Fin 2048) (hH : ∀ (h : Fin 48) (x : Fin 64), (H (ix4 b t h x) : EReal) = P ⟨h.val * 64 + x.val, by omega⟩)
    (n : Fin M) (hn : n.val < 24) (l : Fin 128) (h : Fin 48) (x : Fin 64) (e : h.val * 64 + x.val = n.val * 128 + l.val) :
    (turned H (spread C) (spread S) (ix4 b t h x) : EReal)
      = ropeV hN P (C (ix2 t ⟨l.val % 32, Nat.mod_lt _ (by decide)⟩)) (S (ix2 t ⟨l.val % 32, Nat.mod_lt _ (by decide)⟩)) n l := by
  have hh : ∀ (x : Fin 64) (q : Fin N), h.val * 64 + x.val = q.val → (H (ix4 b t h x) : EReal) = P q := fun x q e =>
    (hH h x).trans (congrArg P (Fin.ext e))
  have hs : ∀ (T : FVec Ideal S2048x32 .f32) (x : Fin 32), x.val = l.val % 32 →
      spread T (ix4 b t h x) = T (ix2 t ⟨l.val % 32, Nat.mod_lt _ (by decide)⟩) := fun T x e => by
    rw [spread_apply]
    exact congrArg (fun z => T (ix2 t z)) (Fin.ext e)
  rw [turned_apply]
  unfold ropeV blockV
  rw [if_pos hn]
  by_cases hl : l.val % 64 < 32
  · rw [dif_pos (show x.val < 32 by omega), if_pos hl, if_pos hl,
      hh x ⟨n.val * 128 + l.val, by omega⟩ e,
      hh _ ⟨n.val * 128 + (l.val + 32) % 128, by omega⟩ (by show h.val * 64 + (32 + x.val) = n.val * 128 + (l.val + 32) % 128; omega),
      hs C _ (by show x.val = l.val % 32; omega),
      hs S _ (by show x.val = l.val % 32; omega), mul_neg, sub_eq_add_neg]
  · rw [dif_neg (show ¬ x.val < 32 by omega), if_neg hl, if_neg hl,
      hh x ⟨n.val * 128 + l.val, by omega⟩ e,
      hh _ ⟨n.val * 128 + (l.val + 96) % 128, by omega⟩ (by show h.val * 64 + (x.val - 32) = n.val * 128 + (l.val + 96) % 128; omega),
      hs C _ (by show x.val - 32 = l.val % 32; omega),
      hs S _ (by show x.val - 32 = l.val % 32; omega)]

theorem lay_apply (K : FVec Ideal S8x2048x4096 .f32) (b : Fin 8) (n : Fin 32) (t : Fin 2048) (l : Fin 128) :
    (transpose S8x32x2048x128 [0, 2, 1, 3] (shapeCast S8x2048x32x128 K shapeCasts_S8x2048x4096_S8x2048x32x128) transposes_S8x2048x32x128_S8x32x2048x128_0_2_1_3 :
      FVec Ideal S8x32x2048x128 .f32) (ix4 b n t l) = K (ix3 b t ⟨n.val * 128 + l.val, by omega⟩) := by
  clean_types
  pointwise

theorem joined_apply (A : FVec Ideal S8x2048x3072 .f32) (D : FVec Ideal S8x2048x4096 .f32) (b : Fin 8) (t : Fin 2048) (q : Fin 4096) :
    (concatenate S8x2048x4096 2 [⟨S8x2048x3072, A⟩, ⟨S8x2048x1024, (extractStridedSlice S8x2048x1024 ![0, 0, 3072] D slices_S8x2048x4096_S8x2048x1024_0_0_3072)⟩]
      concatenates_S8x2048x3072_S8x2048x1024_S8x2048x4096_d2 : FVec Ideal S8x2048x4096 .f32) (ix3 b t q)
      = if hq : q.val < 3072 then A (ix3 b t ⟨q.val, hq⟩) else D (ix3 b t q) := by
  clean_types
  pointwise
  by_cases hq : q.val < 3072
  · rw [dif_pos hq, dif_pos hq]
  · rw [dif_neg hq, dif_neg hq, show (⟨3072 + (q.val - 3072), by omega⟩ : Fin 4096) = q from Fin.ext (by show 3072 + (q.val - 3072) = q.val; omega)]

theorem flat_apply (R : FVec Ideal S8x2048x48x64 .f32) (b : Fin 8) (t : Fin 2048) (q : Fin 3072) :
    (shapeCast S8x2048x3072 R shapeCasts_S8x2048x48x64_S8x2048x3072 : FVec Ideal S8x2048x3072 .f32) (ix3 b t q)
      = R (ix4 b t ⟨q.val / 64, by omega⟩ ⟨q.val % 64, by omega⟩) := by
  clean_types
  pointwise

theorem laid_apply (R : FVec Ideal S8x2048x48x64 .f32) (D : FVec Ideal S8x2048x4096 .f32) (b : Fin 8) (n : Fin 32) (t : Fin 2048) (l : Fin 128) :
    laid R D (ix4 b n t l) = if hn : n.val * 128 + l.val < 3072 then R (ix4 b t ⟨(n.val * 128 + l.val) / 64, by omega⟩ ⟨(n.val * 128 + l.val) % 64, by omega⟩)
      else D (ix3 b t ⟨n.val * 128 + l.val, by omega⟩) := by
  refine (lay_apply _ b n t l).trans ((joined_apply _ D b t _).trans ?_)
  by_cases hn : n.val * 128 + l.val < 3072
  · rw [dif_pos hn, dif_pos hn]
    exact flat_apply R b t _
  · rw [dif_neg hn, dif_neg hn]

/-- The reference's array, entry by entry. -/
theorem res_apply (m : (ℓ : Loc nD τ sig) → Buf (Elt Ideal) ℓ) (c : Dev nD) (b : Fin 8) (n : Fin 32) (t : Fin 2048) (l : Fin 128) :
    (Value.res_main_v54 m c (ix4 b n t l) : EReal)
      = ropeV (by decide : 32 * 128 = 4096) (projV (fun k => m ((c.tc : Thread nD τ).loc main_arg0) (ix3 b t k)) (fun k => m ((c.tc : Thread nD τ).loc main_arg1) (ix1 k))
          (fun k q => m ((c.tc : Thread nD τ).loc main_arg2) (ix2 k q)))
        ((Host.cos angle : FVec Ideal S2048x32 .f32) (ix2 t ⟨l.val % 32, Nat.mod_lt _ (by decide)⟩))
        ((Host.sin angle : FVec Ideal S2048x32 .f32) (ix2 t ⟨l.val % 32, Nat.mod_lt _ (by decide)⟩)) n l := by
  rw [res_eq]
  generalize m ((c.tc : Thread nD τ).loc main_arg0) = X
  generalize m ((c.tc : Thread nD τ).loc main_arg1) = g
  generalize m ((c.tc : Thread nD τ).loc main_arg2) = W
  have hp : ∀ q : Fin 4096, (prod (norm X g) W (ix3 b t q) : EReal) = projV (fun k => X (ix3 b t k)) (fun k => g (ix1 k)) (fun k q => W (ix2 k q)) q := fun q => by
    rw [prod_apply]
    exact Finset.sum_congr rfl fun k _ => by rw [norm_apply]
  revert hp
  generalize prod (norm X g) W = D
  generalize projV (fun k => X (ix3 b t k)) (fun k => g (ix1 k)) (fun k q => W (ix2 k q)) = P
  generalize (Host.cos angle : FVec Ideal S2048x32 .f32) = C
  generalize (Host.sin angle : FVec Ideal S2048x32 .f32) = S
  intro hp
  rw [laid_apply]
  by_cases hn : n.val < 24
  · rw [dif_pos (by omega)]
    refine turned_rope _ (by decide) P _ C S b t (fun h x => ?_) n hn l _ _ ?_
    · rw [heads_apply, hp]
    · show (n.val * 128 + l.val) / 64 * 64 + (n.val * 128 + l.val) % 64 = n.val * 128 + l.val
      omega
  · rw [dif_neg (by omega), hp]
    exact (Cert.Proof.Proj.blockV_plain _ _ _ _ _ _ hn).symm

end Cert.Proof.ProjRef

end
-- ==== Proof.Proj.Claims.lean ====
module

public import proofs.«01_k».proof.Defs
public import proofs.«01_k».proof.Proof.Gen.Kernel2
public import proofs.«01_k».proof.Proof.Gen.Reference2Ideal.Run
public import proofs.«01_k».proof.Proof.Frames
public import proofs.«01_k».proof.Proof.Proj.Result
public import proofs.«01_k».proof.Proof.Proj.Ref
public import Idealize.ShloMosaic.Lib.Claim

@[expose] public section

set_option maxRecDepth 65536

noncomputable section

/-! The claims of the projection. -/

namespace Cert.Proof.Proj

open Idealize.ShloMosaic Idealize.ShloMosaic.TcCoe Idealize.ShloMosaic.Tactic Idealize.SL Idealize.SL.Sem Idealize.ShloMosaic.StableHlo

theorem frame_kernelIdeal : Cert.quiescent_Kernel2Ideal (hKernel2Ideal := Cert.Kernel2Ideal.Gen.facts) :=
  fun m g _ => Cert.Kernel2Ideal.Gen.frame m g

theorem frame_kernel : Cert.quiescent_Kernel2 (hKernel2 := Cert.Kernel2.Gen.facts) := by
  intro m g _
  have h := Cert.Kernel2Ideal.Gen.frame (F := Bits) m g
  refine cast ?_ h
  sl_kernel_rfl

/-- The frame of the reference: its run, read at the three arguments; it declares no semaphore. -/
theorem frame_reference : Cert.quiescent_Reference2Ideal (hReference2Ideal := Cert.Reference2Ideal.Gen.facts) := fun m g _ =>
  (θ_run Cert.Reference2Ideal.defs _ _).mono
    (fun r h => ⟨fun c => (h c).2, sem_eq_zero_of_no_sems (by decide) r.2⟩)
    (Cert.Reference2Ideal.Value.run (F := Ideal) m g)

theorem preserves : Cert.preserves_Kernel2_Kernel2Ideal := by
  trivial

/-- The two programs compute the angles by the same operations. -/
theorem cos_ref : (Host.cos ProjRef.angle : FVec Ideal Cert.Reference2Ideal.S2048x32 .f32) = cosT := rfl
theorem sin_ref : (Host.sin ProjRef.angle : FVec Ideal Cert.Reference2Ideal.S2048x32 .f32) = sinT := rfl

/-- The reference's array is the kernel's, as a function of the arguments. -/
theorem res_eq_result (m : (ℓ : Loc Cert.Reference2Ideal.nD Cert.Reference2Ideal.τ Cert.Reference2Ideal.sig) → Buf (Elt Ideal) ℓ) (c : Dev Cert.Reference2Ideal.nD) :
    Cert.Reference2Ideal.Value.res_main_v54 m c
      = result (m ((c.tc : Thread Cert.Reference2Ideal.nD Cert.Reference2Ideal.τ).loc Cert.Reference2Ideal.main_arg0))
          (m ((c.tc : Thread Cert.Reference2Ideal.nD Cert.Reference2Ideal.τ).loc Cert.Reference2Ideal.main_arg1))
          (m ((c.tc : Thread Cert.Reference2Ideal.nD Cert.Reference2Ideal.τ).loc Cert.Reference2Ideal.main_arg2)) := by
  funext i
  have e := eq_ix4 (n0 := 8) (n1 := 32) (n2 := 2048) (n3 := 128) i
  refine (congrArg (Cert.Reference2Ideal.Value.res_main_v54 m c) e).trans ?_
  refine (ProjRef.res_apply m c (i 0) (i 1) (i 2) (i 3)).trans ?_
  rw [cos_ref, sin_ref]
  rfl

/-- The kernel and the reference end with the same array. -/
theorem algebraic : Cert.algebraic_Kernel2Ideal_Reference2Ideal (hKernel2Ideal := Cert.Kernel2Ideal.Gen.facts)
    (hReference2Ideal := Cert.Reference2Ideal.Gen.facts) := by
  intro m g m' g' _ hagree
  refine ⟨fun c => result (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2)), ?_, ?_⟩
  · refine (θ_run Cert.Kernel2Ideal.defs _ _).mono (fun r h c => ⟨((h.1 c).1 5).trans ?_, h.2 c⟩)
      (θ_run_and (Cert.Kernel2Ideal.Gen.run_main (F := Ideal) m g) (Cert.Kernel2Ideal.Gen.unchanged (F := Ideal) m g))
    exact final m c
  · refine (θ_run Cert.Reference2Ideal.defs _ _).mono (fun r h c => ⟨(h c).1.trans ?_, (h c).2⟩)
      (Cert.Reference2Ideal.Value.run (F := Ideal) m' g')
    refine (res_eq_result m' c).trans ?_
    exact congr (congr (congrArg result (hagree c).1) (hagree c).2.1) (hagree c).2.2

end Cert.Proof.Proj

end
-- ==== Proof.KvProj.Tiles.lean ====
module

public import proofs.«01_k».proof.Proof.Proj.Body
public import proofs.«01_k».proof.Proof.Gen.Kernel3Ideal.Frame

@[expose] public section

set_option maxRecDepth 16384

noncomputable section

/-! What the body of the key and value projection computes: its six tiles. -/

namespace Cert.Proof.KvProj

open Cert.Kernel3Ideal Cert.Kernel3Ideal.Gen
open Idealize.ShloMosaic Idealize.ShloMosaic.TcCoe
open Cert.Proof.Proj (normV projV blockV blockV_plain ropeV ropeTile ropeTile_apply tileOf tile_apply rope_block table whole0 whole1)

/-- The projected row `r` of a block. -/
def rowV (x0 : Vec Ideal S256x1024 .f32) (x1 : Vec Ideal S1x1024 .f32) (x2 : Vec Ideal S1024x6144 .bf16) (r : Fin 256) : Fin 6144 → EReal :=
  projV (fun k => x0 (ix2 r k)) (fun k => x1 (ix2 (0 : Fin 1) k)) (fun k c => x2 (ix2 k c))

/-- Lane `l` of the pair of heads `n` in row `r` of a block: the keys' pairs rotated, then the values'. -/
def lane (x0 : Vec Ideal S256x1024 .f32) (x1 : Vec Ideal S1x1024 .f32) (x2 : Vec Ideal S1024x6144 .bf16) (x3 x4 : Vec Ideal S256x128 .f32)
    (n : Fin 48) (r : Fin 256) (l : Fin 128) : EReal :=
  blockV (by decide : 48 * 128 = 6144) (rowV x0 x1 x2 r) (x3 (ix2 r l)) (x4 (ix2 r l)) n l

theorem cols0 (x2 : Vec Ideal S1024x6144 .bf16) (k q : Fin 1024) :
    (View.ld x2 r0_2 : Vec Ideal S1024x1024 .bf16) (ix2 k q) = x2 (ix2 k ⟨0 * 1024 + q.val, by omega⟩) := by
  show x2 _ = x2 _
  refine congrArg x2 (funext fun a => Fin.ext ?_)
  match a with
  | ⟨0, _⟩ => show 0 + 1 * k.val = k.val; omega
  | ⟨1, _⟩ => show 0 + 1 * q.val = 0 * 1024 + q.val; omega

theorem cols1 (x2 : Vec Ideal S1024x6144 .bf16) (k q : Fin 1024) :
    (View.ld x2 r0_13 : Vec Ideal S1024x1024 .bf16) (ix2 k q) = x2 (ix2 k ⟨1 * 1024 + q.val, by omega⟩) := by
  show x2 _ = x2 _
  refine congrArg x2 (funext fun a => Fin.ext ?_)
  match a with
  | ⟨0, _⟩ => show 0 + 1 * k.val = k.val; omega
  | ⟨1, _⟩ => show 1024 + 1 * q.val = 1 * 1024 + q.val; omega

theorem cols2 (x2 : Vec Ideal S1024x6144 .bf16) (k q : Fin 1024) :
    (View.ld x2 r0_23 : Vec Ideal S1024x1024 .bf16) (ix2 k q) = x2 (ix2 k ⟨2 * 1024 + q.val, by omega⟩) := by
  show x2 _ = x2 _
  refine congrArg x2 (funext fun a => Fin.ext ?_)
  match a with
  | ⟨0, _⟩ => show 0 + 1 * k.val = k.val; omega
  | ⟨1, _⟩ => show 2048 + 1 * q.val = 2 * 1024 + q.val; omega

theorem cols3 (x2 : Vec Ideal S1024x6144 .bf16) (k q : Fin 1024) :
    (View.ld x2 r0_32 : Vec Ideal S1024x1024 .bf16) (ix2 k q) = x2 (ix2 k ⟨3 * 1024 + q.val, by omega⟩) := by
  show x2 _ = x2 _
  refine congrArg x2 (funext fun a => Fin.ext ?_)
  match a with
  | ⟨0, _⟩ => show 0 + 1 * k.val = k.val; omega
  | ⟨1, _⟩ => show 3072 + 1 * q.val = 3 * 1024 + q.val; omega

theorem cols4 (x2 : Vec Ideal S1024x6144 .bf16) (k q : Fin 1024) :
    (View.ld x2 r0_42 : Vec Ideal S1024x1024 .bf16) (ix2 k q) = x2 (ix2 k ⟨4 * 1024 + q.val, by omega⟩) := by
  show x2 _ = x2 _
  refine congrArg x2 (funext fun a => Fin.ext ?_)
  match a with
  | ⟨0, _⟩ => show 0 + 1 * k.val = k.val; omega
  | ⟨1, _⟩ => show 4096 + 1 * q.val = 4 * 1024 + q.val; omega

theorem cols5 (x2 : Vec Ideal S1024x6144 .bf16) (k q : Fin 1024) :
    (View.ld x2 r0_52 : Vec Ideal S1024x1024 .bf16) (ix2 k q) = x2 (ix2 k ⟨5 * 1024 + q.val, by omega⟩) := by
  show x2 _ = x2 _
  refine congrArg x2 (funext fun a => Fin.ext ?_)
  match a with
  | ⟨0, _⟩ => show 0 + 1 * k.val = k.val; omega
  | ⟨1, _⟩ => show 5120 + 1 * q.val = 5 * 1024 + q.val; omega

section

variable (x0 : Vec Ideal S256x1024 .f32) (x1 : Vec Ideal S1x1024 .f32) (x2 : Vec Ideal S1024x6144 .bf16) (x3 x4 : Vec Ideal S256x128 .f32)

/-- Tile 0 of the block. -/
def tile0 : FVec Ideal S256x1024 .f32 := ropeTile (tileOf (View.ld x0 r0_0) (View.ld x1 r0_1) (View.ld x2 r0_2)) (shapeCast S256x128 (View.ld x3 r0_3) shapeCasts_S256x128_S256x128) (shapeCast S256x128 (View.ld x4 r0_3) shapeCasts_S256x128_S256x128)

theorem tile0_apply (p : Fin 8) (r : Fin 256) (l : Fin 128) :
    (tile0 x0 x1 x2 x3 x4 (ix2 r ⟨p.val * 128 + l.val, by omega⟩) : EReal) = lane x0 x1 x2 x3 x4 ⟨0 * 8 + p.val, by omega⟩ r l := by
  unfold tile0 lane
  rw [whole0, whole1]
  refine (ropeTile_apply _ _ _ p r l).trans ?_
  rw [rope_block (by decide : 48 * 128 = 6144) (by decide) _ _ _ (rowV x0 x1 x2 r) r 0 (by decide) (fun q => tile_apply (fun k c => x2 (ix2 k c)) 0 (by decide) x0 x1 _ (cols0 x2) r q), table, table]

/-- Tile 1 of the block. -/
def tile1 : FVec Ideal S256x1024 .f32 := ropeTile (tileOf (View.ld x0 r0_0) (View.ld x1 r0_1) (View.ld x2 r0_13)) (shapeCast S256x128 (View.ld x3 r0_3) shapeCasts_S256x128_S256x128) (shapeCast S256x128 (View.ld x4 r0_3) shapeCasts_S256x128_S256x128)

theorem tile1_apply (p : Fin 8) (r : Fin 256) (l : Fin 128) :
    (tile1 x0 x1 x2 x3 x4 (ix2 r ⟨p.val * 128 + l.val, by omega⟩) : EReal) = lane x0 x1 x2 x3 x4 ⟨1 * 8 + p.val, by omega⟩ r l := by
  unfold tile1 lane
  rw [whole0, whole1]
  refine (ropeTile_apply _ _ _ p r l).trans ?_
  rw [rope_block (by decide : 48 * 128 = 6144) (by decide) _ _ _ (rowV x0 x1 x2 r) r 1 (by decide) (fun q => tile_apply (fun k c => x2 (ix2 k c)) 1 (by decide) x0 x1 _ (cols1 x2) r q), table, table]

/-- Tile 2 of the block. -/
def tile2 : FVec Ideal S256x1024 .f32 := ropeTile (tileOf (View.ld x0 r0_0) (View.ld x1 r0_1) (View.ld x2 r0_23)) (shapeCast S256x128 (View.ld x3 r0_3) shapeCasts_S256x128_S256x128) (shapeCast S256x128 (View.ld x4 r0_3) shapeCasts_S256x128_S256x128)

theorem tile2_apply (p : Fin 8) (r : Fin 256) (l : Fin 128) :
    (tile2 x0 x1 x2 x3 x4 (ix2 r ⟨p.val * 128 + l.val, by omega⟩) : EReal) = lane x0 x1 x2 x3 x4 ⟨2 * 8 + p.val, by omega⟩ r l := by
  unfold tile2 lane
  rw [whole0, whole1]
  refine (ropeTile_apply _ _ _ p r l).trans ?_
  rw [rope_block (by decide : 48 * 128 = 6144) (by decide) _ _ _ (rowV x0 x1 x2 r) r 2 (by decide) (fun q => tile_apply (fun k c => x2 (ix2 k c)) 2 (by decide) x0 x1 _ (cols2 x2) r q), table, table]

/-- Tile 3 of the block. -/
def tile3 : FVec Ideal S256x1024 .f32 := (tileOf (View.ld x0 r0_0) (View.ld x1 r0_1) (View.ld x2 r0_32))

theorem tile3_apply (p : Fin 8) (r : Fin 256) (l : Fin 128) :
    (tile3 x0 x1 x2 (ix2 r ⟨p.val * 128 + l.val, by omega⟩) : EReal) = lane x0 x1 x2 x3 x4 ⟨3 * 8 + p.val, by omega⟩ r l := by
  unfold tile3 lane
  rw [whole0, whole1]
  refine (tile_apply (fun k c => x2 (ix2 k c)) 3 (by decide) x0 x1 _ (cols3 x2) r _).trans ?_
  refine Eq.trans ?_ (blockV_plain _ _ _ _ _ l (show ¬ 3 * 8 + p.val < 24 by omega)).symm
  exact congrArg (rowV x0 x1 x2 r) (Fin.ext (show 3 * 1024 + (p.val * 128 + l.val) = (3 * 8 + p.val) * 128 + l.val by omega))

/-- Tile 4 of the block. -/
def tile4 : FVec Ideal S256x1024 .f32 := (tileOf (View.ld x0 r0_0) (View.ld x1 r0_1) (View.ld x2 r0_42))

theorem tile4_apply (p : Fin 8) (r : Fin 256) (l : Fin 128) :
    (tile4 x0 x1 x2 (ix2 r ⟨p.val * 128 + l.val, by omega⟩) : EReal) = lane x0 x1 x2 x3 x4 ⟨4 * 8 + p.val, by omega⟩ r l := by
  unfold tile4 lane
  rw [whole0, whole1]
  refine (tile_apply (fun k c => x2 (ix2 k c)) 4 (by decide) x0 x1 _ (cols4 x2) r _).trans ?_
  refine Eq.trans ?_ (blockV_plain _ _ _ _ _ l (show ¬ 4 * 8 + p.val < 24 by omega)).symm
  exact congrArg (rowV x0 x1 x2 r) (Fin.ext (show 4 * 1024 + (p.val * 128 + l.val) = (4 * 8 + p.val) * 128 + l.val by omega))

/-- Tile 5 of the block. -/
def tile5 : FVec Ideal S256x1024 .f32 := (tileOf (View.ld x0 r0_0) (View.ld x1 r0_1) (View.ld x2 r0_52))

theorem tile5_apply (p : Fin 8) (r : Fin 256) (l : Fin 128) :
    (tile5 x0 x1 x2 (ix2 r ⟨p.val * 128 + l.val, by omega⟩) : EReal) = lane x0 x1 x2 x3 x4 ⟨5 * 8 + p.val, by omega⟩ r l := by
  unfold tile5 lane
  rw [whole0, whole1]
  refine (tile_apply (fun k c => x2 (ix2 k c)) 5 (by decide) x0 x1 _ (cols5 x2) r _).trans ?_
  refine Eq.trans ?_ (blockV_plain _ _ _ _ _ l (show ¬ 5 * 8 + p.val < 24 by omega)).symm
  exact congrArg (rowV x0 x1 x2 r) (Fin.ext (show 5 * 1024 + (p.val * 128 + l.val) = (5 * 8 + p.val) * 128 + l.val by omega))

end

end Cert.Proof.KvProj

end
-- ==== Proof.KvProj.Body.lean ====
module

public import proofs.«01_k».proof.Proof.KvProj.Tiles

@[expose] public section

set_option maxRecDepth 16384

noncomputable section

/-! What the body of the key and value projection stores in the block of keys and values. -/

namespace Cert.Proof.KvProj

open Cert.Kernel3Ideal Cert.Kernel3Ideal.Gen
open Idealize.ShloMosaic Idealize.ShloMosaic.TcCoe
open Cert.Proof.Proj (store_form part0 part1 part2 part3 part4 part5 part6 part7)

section

variable (x0 : Vec Ideal S256x1024 .f32) (x1 : Vec Ideal S1x1024 .f32) (x2 : Vec Ideal S1024x6144 .bf16) (x3 x4 : Vec Ideal S256x128 .f32)

/-- Entry `y` of a block of keys and values. -/
def entry (y : S1x48x256x128.Idx) : EReal := lane x0 x1 x2 x3 x4 (y 1) (y 2) (y 3)

theorem entry_at (z : Fin 1) (n : Fin 48) (r : Fin 256) (l : Fin 128) : entry x0 x1 x2 x3 x4 (ix4 z n r l) = lane x0 x1 x2 x3 x4 n r l := rfl

/-- What is stored in a slab is block `n` of the result, where its lanes are that block's and the slab lies at that block. -/
theorem slab {n : Fin 48} {s v : Vec Ideal S1x1x256x128 .f32} {at' : S1x1x256x128.Idx → S1x48x256x128.Idx}
    (hs : ∀ (r : Fin 256) (l : Fin 128), (s (ix4 (0 : Fin 1) (0 : Fin 1) r l) : EReal) = entry x0 x1 x2 x3 x4 (ix4 (0 : Fin 1) n r l)) (e : v = s)
    (h : ∀ (r : Fin 256) (l : Fin 128), (at' (ix4 (0 : Fin 1) (0 : Fin 1) r l) 0).val = 0 ∧ (at' (ix4 (0 : Fin 1) (0 : Fin 1) r l) 1).val = n.val
      ∧ (at' (ix4 (0 : Fin 1) (0 : Fin 1) r l) 2).val = 0 + 1 * r.val ∧ (at' (ix4 (0 : Fin 1) (0 : Fin 1) r l) 3).val = 0 + 1 * l.val)
    (x : S1x1x256x128.Idx) : (v x : EReal) = entry x0 x1 x2 x3 x4 (at' x) := by
  obtain ⟨r, l, rfl⟩ := store_form x
  obtain ⟨h0, h1, h2, h3⟩ := h r l
  have g : at' (ix4 (0 : Fin 1) (0 : Fin 1) r l) = ix4 (0 : Fin 1) n r l := by
    refine funext fun a => Fin.ext ?_
    match a with
    | ⟨0, _⟩ => exact h0
    | ⟨1, _⟩ => exact h1
    | ⟨2, _⟩ => exact h2.trans (by show 0 + 1 * r.val = r.val; omega)
    | ⟨3, _⟩ => exact h3.trans (by show 0 + 1 * l.val = l.val; omega)
  rw [g, e]
  exact hs r l

theorem store0 (x : S1x1x256x128.Idx) :
    (k0_pay17 (k0_pay111 x0 x1 x2 x3 x4) (k0_pay112 x0 x1 x2 x3 x4) (k0_pay113 x0 x1 x2 x3 x4) (k0_pay117 x0 x1 x2 x3 x4) (k0_pay118 x0 x1 x2 x3 x4) (k0_pay119 x0 x1 x2 x3 x4) (k0_pay120 x0 x1 x2 x3 x4) (k0_pay121 x0 x1 x2 x3 x4) (k0_pay122 x0 x1 x2 x3 x4) : Vec Ideal S1x1x256x128 .f32) x = entry x0 x1 x2 x3 x4 (r0_4.emb x) :=
  slab x0 x1 x2 x3 x4 (fun r l => (part0 _ r l).trans (tile0_apply x0 x1 x2 x3 x4 0 r l)) rfl (fun _ _ => ⟨rfl, rfl, rfl, rfl⟩) x

theorem store1 (x : S1x1x256x128.Idx) :
    (k0_pay18 (k0_pay111 x0 x1 x2 x3 x4) (k0_pay112 x0 x1 x2 x3 x4) (k0_pay113 x0 x1 x2 x3 x4) (k0_pay117 x0 x1 x2 x3 x4) (k0_pay118 x0 x1 x2 x3 x4) (k0_pay119 x0 x1 x2 x3 x4) (k0_pay120 x0 x1 x2 x3 x4) (k0_pay121 x0 x1 x2 x3 x4) (k0_pay122 x0 x1 x2 x3 x4) : Vec Ideal S1x1x256x128 .f32) x = entry x0 x1 x2 x3 x4 (r0_5.emb x) :=
  slab x0 x1 x2 x3 x4 (fun r l => (part1 _ r l).trans (tile0_apply x0 x1 x2 x3 x4 1 r l)) rfl (fun _ _ => ⟨rfl, rfl, rfl, rfl⟩) x

theorem store2 (x : S1x1x256x128.Idx) :
    (k0_pay19 (k0_pay111 x0 x1 x2 x3 x4) (k0_pay112 x0 x1 x2 x3 x4) (k0_pay113 x0 x1 x2 x3 x4) (k0_pay117 x0 x1 x2 x3 x4) (k0_pay118 x0 x1 x2 x3 x4) (k0_pay119 x0 x1 x2 x3 x4) (k0_pay120 x0 x1 x2 x3 x4) (k0_pay121 x0 x1 x2 x3 x4) (k0_pay122 x0 x1 x2 x3 x4) : Vec Ideal S1x1x256x128 .f32) x = entry x0 x1 x2 x3 x4 (r0_6.emb x) :=
  slab x0 x1 x2 x3 x4 (fun r l => (part2 _ r l).trans (tile0_apply x0 x1 x2 x3 x4 2 r l)) rfl (fun _ _ => ⟨rfl, rfl, rfl, rfl⟩) x

theorem store3 (x : S1x1x256x128.Idx) :
    (k0_pay20 (k0_pay123 x0 x1 x2 x3 x4) : Vec Ideal S1x1x256x128 .f32) x = entry x0 x1 x2 x3 x4 (r0_7.emb x) :=
  slab x0 x1 x2 x3 x4 (fun r l => (part3 _ r l).trans (tile0_apply x0 x1 x2 x3 x4 3 r l)) rfl (fun _ _ => ⟨rfl, rfl, rfl, rfl⟩) x

theorem store4 (x : S1x1x256x128.Idx) :
    (k0_pay21 (k0_pay123 x0 x1 x2 x3 x4) : Vec Ideal S1x1x256x128 .f32) x = entry x0 x1 x2 x3 x4 (r0_8.emb x) :=
  slab x0 x1 x2 x3 x4 (fun r l => (part4 _ r l).trans (tile0_apply x0 x1 x2 x3 x4 4 r l)) rfl (fun _ _ => ⟨rfl, rfl, rfl, rfl⟩) x

theorem store5 (x : S1x1x256x128.Idx) :
    (k0_pay22 (k0_pay123 x0 x1 x2 x3 x4) : Vec Ideal S1x1x256x128 .f32) x = entry x0 x1 x2 x3 x4 (r0_9.emb x) :=
  slab x0 x1 x2 x3 x4 (fun r l => (part5 _ r l).trans (tile0_apply x0 x1 x2 x3 x4 5 r l)) rfl (fun _ _ => ⟨rfl, rfl, rfl, rfl⟩) x

theorem store6 (x : S1x1x256x128.Idx) :
    (k0_pay23 (k0_pay123 x0 x1 x2 x3 x4) : Vec Ideal S1x1x256x128 .f32) x = entry x0 x1 x2 x3 x4 (r0_10.emb x) :=
  slab x0 x1 x2 x3 x4 (fun r l => (part6 _ r l).trans (tile0_apply x0 x1 x2 x3 x4 6 r l)) rfl (fun _ _ => ⟨rfl, rfl, rfl, rfl⟩) x

theorem store7 (x : S1x1x256x128.Idx) :
    (k0_pay24 (k0_pay123 x0 x1 x2 x3 x4) : Vec Ideal S1x1x256x128 .f32) x = entry x0 x1 x2 x3 x4 (r0_11.emb x) :=
  slab x0 x1 x2 x3 x4 (fun r l => (part7 _ r l).trans (tile0_apply x0 x1 x2 x3 x4 7 r l)) rfl (fun _ _ => ⟨rfl, rfl, rfl, rfl⟩) x

theorem store8 (x : S1x1x256x128.Idx) :
    (k0_pay44 (k0_pay126 x0 x1 x2 x3 x4) (k0_pay127 x0 x1 x2 x3 x4) (k0_pay129 x0 x1 x2 x3 x4) (k0_pay130 x0 x1 x2 x3 x4) (k0_pay131 x0 x1 x2 x3 x4) (k0_pay132 x0 x1 x2 x3 x4) (k0_pay133 x0 x1 x2 x3 x4) (k0_pay134 x0 x1 x2 x3 x4) (k0_pay135 x0 x1 x2 x3 x4) (k0_pay136 x0 x1 x2 x3 x4) (k0_pay137 x0 x1 x2 x3 x4) (k0_pay138 x0 x1 x2 x3 x4) (k0_pay139 x0 x1 x2 x3 x4) : Vec Ideal S1x1x256x128 .f32) x = entry x0 x1 x2 x3 x4 (r0_14.emb x) :=
  slab x0 x1 x2 x3 x4 (fun r l => (part0 _ r l).trans (tile1_apply x0 x1 x2 x3 x4 0 r l)) rfl (fun _ _ => ⟨rfl, rfl, rfl, rfl⟩) x

theorem store9 (x : S1x1x256x128.Idx) :
    (k0_pay45 (k0_pay126 x0 x1 x2 x3 x4) (k0_pay127 x0 x1 x2 x3 x4) (k0_pay129 x0 x1 x2 x3 x4) (k0_pay130 x0 x1 x2 x3 x4) (k0_pay131 x0 x1 x2 x3 x4) (k0_pay132 x0 x1 x2 x3 x4) (k0_pay133 x0 x1 x2 x3 x4) (k0_pay134 x0 x1 x2 x3 x4) (k0_pay135 x0 x1 x2 x3 x4) (k0_pay136 x0 x1 x2 x3 x4) (k0_pay137 x0 x1 x2 x3 x4) (k0_pay138 x0 x1 x2 x3 x4) (k0_pay139 x0 x1 x2 x3 x4) : Vec Ideal S1x1x256x128 .f32) x = entry x0 x1 x2 x3 x4 (r0_15.emb x) :=
  slab x0 x1 x2 x3 x4 (fun r l => (part1 _ r l).trans (tile1_apply x0 x1 x2 x3 x4 1 r l)) rfl (fun _ _ => ⟨rfl, rfl, rfl, rfl⟩) x

theorem store10 (x : S1x1x256x128.Idx) :
    (k0_pay46 (k0_pay126 x0 x1 x2 x3 x4) (k0_pay127 x0 x1 x2 x3 x4) (k0_pay129 x0 x1 x2 x3 x4) (k0_pay130 x0 x1 x2 x3 x4) (k0_pay131 x0 x1 x2 x3 x4) (k0_pay132 x0 x1 x2 x3 x4) (k0_pay133 x0 x1 x2 x3 x4) (k0_pay134 x0 x1 x2 x3 x4) (k0_pay135 x0 x1 x2 x3 x4) (k0_pay136 x0 x1 x2 x3 x4) (k0_pay137 x0 x1 x2 x3 x4) (k0_pay138 x0 x1 x2 x3 x4) (k0_pay139 x0 x1 x2 x3 x4) : Vec Ideal S1x1x256x128 .f32) x = entry x0 x1 x2 x3 x4 (r0_16.emb x) :=
  slab x0 x1 x2 x3 x4 (fun r l => (part2 _ r l).trans (tile1_apply x0 x1 x2 x3 x4 2 r l)) rfl (fun _ _ => ⟨rfl, rfl, rfl, rfl⟩) x

theorem store11 (x : S1x1x256x128.Idx) :
    (k0_pay47 (k0_pay126 x0 x1 x2 x3 x4) (k0_pay127 x0 x1 x2 x3 x4) (k0_pay129 x0 x1 x2 x3 x4) (k0_pay130 x0 x1 x2 x3 x4) (k0_pay131 x0 x1 x2 x3 x4) (k0_pay132 x0 x1 x2 x3 x4) (k0_pay133 x0 x1 x2 x3 x4) (k0_pay134 x0 x1 x2 x3 x4) (k0_pay135 x0 x1 x2 x3 x4) (k0_pay136 x0 x1 x2 x3 x4) (k0_pay137 x0 x1 x2 x3 x4) (k0_pay138 x0 x1 x2 x3 x4) (k0_pay139 x0 x1 x2 x3 x4) : Vec Ideal S1x1x256x128 .f32) x = entry x0 x1 x2 x3 x4 (r0_17.emb x) :=
  slab x0 x1 x2 x3 x4 (fun r l => (part3 _ r l).trans (tile1_apply x0 x1 x2 x3 x4 3 r l)) rfl (fun _ _ => ⟨rfl, rfl, rfl, rfl⟩) x

theorem store12 (x : S1x1x256x128.Idx) :
    (k0_pay48 (k0_pay126 x0 x1 x2 x3 x4) (k0_pay127 x0 x1 x2 x3 x4) (k0_pay129 x0 x1 x2 x3 x4) (k0_pay130 x0 x1 x2 x3 x4) (k0_pay131 x0 x1 x2 x3 x4) (k0_pay132 x0 x1 x2 x3 x4) (k0_pay133 x0 x1 x2 x3 x4) (k0_pay134 x0 x1 x2 x3 x4) (k0_pay135 x0 x1 x2 x3 x4) (k0_pay136 x0 x1 x2 x3 x4) (k0_pay137 x0 x1 x2 x3 x4) (k0_pay138 x0 x1 x2 x3 x4) (k0_pay139 x0 x1 x2 x3 x4) : Vec Ideal S1x1x256x128 .f32) x = entry x0 x1 x2 x3 x4 (r0_18.emb x) :=
  slab x0 x1 x2 x3 x4 (fun r l => (part4 _ r l).trans (tile1_apply x0 x1 x2 x3 x4 4 r l)) rfl (fun _ _ => ⟨rfl, rfl, rfl, rfl⟩) x

theorem store13 (x : S1x1x256x128.Idx) :
    (k0_pay49 (k0_pay126 x0 x1 x2 x3 x4) (k0_pay127 x0 x1 x2 x3 x4) (k0_pay129 x0 x1 x2 x3 x4) (k0_pay130 x0 x1 x2 x3 x4) (k0_pay131 x0 x1 x2 x3 x4) (k0_pay132 x0 x1 x2 x3 x4) (k0_pay133 x0 x1 x2 x3 x4) (k0_pay134 x0 x1 x2 x3 x4) (k0_pay135 x0 x1 x2 x3 x4) (k0_pay136 x0 x1 x2 x3 x4) (k0_pay137 x0 x1 x2 x3 x4) (k0_pay138 x0 x1 x2 x3 x4) (k0_pay139 x0 x1 x2 x3 x4) : Vec Ideal S1x1x256x128 .f32) x = entry x0 x1 x2 x3 x4 (r0_19.emb x) :=
  slab x0 x1 x2 x3 x4 (fun r l => (part5 _ r l).trans (tile1_apply x0 x1 x2 x3 x4 5 r l)) rfl (fun _ _ => ⟨rfl, rfl, rfl, rfl⟩) x

theorem store14 (x : S1x1x256x128.Idx) :
    (k0_pay51 (k0_pay50 (k0_pay126 x0 x1 x2 x3 x4) (k0_pay127 x0 x1 x2 x3 x4) (k0_pay129 x0 x1 x2 x3 x4) (k0_pay130 x0 x1 x2 x3 x4) (k0_pay131 x0 x1 x2 x3 x4) (k0_pay132 x0 x1 x2 x3 x4) (k0_pay133 x0 x1 x2 x3 x4) (k0_pay134 x0 x1 x2 x3 x4) (k0_pay135 x0 x1 x2 x3 x4) (k0_pay136 x0 x1 x2 x3 x4) (k0_pay137 x0 x1 x2 x3 x4) (k0_pay138 x0 x1 x2 x3 x4) (k0_pay139 x0 x1 x2 x3 x4)) : Vec Ideal S1x1x256x128 .f32) x = entry x0 x1 x2 x3 x4 (r0_20.emb x) :=
  slab x0 x1 x2 x3 x4 (fun r l => (part6 _ r l).trans (tile1_apply x0 x1 x2 x3 x4 6 r l)) rfl (fun _ _ => ⟨rfl, rfl, rfl, rfl⟩) x

theorem store15 (x : S1x1x256x128.Idx) :
    (k0_pay52 (k0_pay140 x0 x1 x2 x3 x4) : Vec Ideal S1x1x256x128 .f32) x = entry x0 x1 x2 x3 x4 (r0_21.emb x) :=
  slab x0 x1 x2 x3 x4 (fun r l => (part7 _ r l).trans (tile1_apply x0 x1 x2 x3 x4 7 r l)) rfl (fun _ _ => ⟨rfl, rfl, rfl, rfl⟩) x

theorem store16 (x : S1x1x256x128.Idx) :
    (k0_pay68 (k0_pay141 x0 x1 x2 x3 x4) (k0_pay142 x0 x1 x2 x3 x4) (k0_pay143 x0 x1 x2 x3 x4) (k0_pay146 x0 x1 x2 x3 x4) (k0_pay147 x0 x1 x2 x3 x4) (k0_pay148 x0 x1 x2 x3 x4) (k0_pay149 x0 x1 x2 x3 x4) (k0_pay150 x0 x1 x2 x3 x4) (k0_pay151 x0 x1 x2 x3 x4) (k0_pay152 x0 x1 x2 x3 x4) : Vec Ideal S1x1x256x128 .f32) x = entry x0 x1 x2 x3 x4 (r0_24.emb x) :=
  slab x0 x1 x2 x3 x4 (fun r l => (part0 _ r l).trans (tile2_apply x0 x1 x2 x3 x4 0 r l)) rfl (fun _ _ => ⟨rfl, rfl, rfl, rfl⟩) x

theorem store17 (x : S1x1x256x128.Idx) :
    (k0_pay69 (k0_pay141 x0 x1 x2 x3 x4) (k0_pay142 x0 x1 x2 x3 x4) (k0_pay143 x0 x1 x2 x3 x4) (k0_pay146 x0 x1 x2 x3 x4) (k0_pay147 x0 x1 x2 x3 x4) (k0_pay148 x0 x1 x2 x3 x4) (k0_pay149 x0 x1 x2 x3 x4) (k0_pay150 x0 x1 x2 x3 x4) (k0_pay151 x0 x1 x2 x3 x4) (k0_pay152 x0 x1 x2 x3 x4) : Vec Ideal S1x1x256x128 .f32) x = entry x0 x1 x2 x3 x4 (r0_25.emb x) :=
  slab x0 x1 x2 x3 x4 (fun r l => (part1 _ r l).trans (tile2_apply x0 x1 x2 x3 x4 1 r l)) rfl (fun _ _ => ⟨rfl, rfl, rfl, rfl⟩) x

theorem store18 (x : S1x1x256x128.Idx) :
    (k0_pay71 (k0_pay70 (k0_pay141 x0 x1 x2 x3 x4) (k0_pay142 x0 x1 x2 x3 x4) (k0_pay143 x0 x1 x2 x3 x4) (k0_pay146 x0 x1 x2 x3 x4) (k0_pay147 x0 x1 x2 x3 x4) (k0_pay148 x0 x1 x2 x3 x4) (k0_pay149 x0 x1 x2 x3 x4) (k0_pay150 x0 x1 x2 x3 x4) (k0_pay151 x0 x1 x2 x3 x4) (k0_pay152 x0 x1 x2 x3 x4)) : Vec Ideal S1x1x256x128 .f32) x = entry x0 x1 x2 x3 x4 (r0_26.emb x) :=
  slab x0 x1 x2 x3 x4 (fun r l => (part2 _ r l).trans (tile2_apply x0 x1 x2 x3 x4 2 r l)) rfl (fun _ _ => ⟨rfl, rfl, rfl, rfl⟩) x

theorem store19 (x : S1x1x256x128.Idx) :
    (k0_pay72 (k0_pay153 x0 x1 x2 x3 x4) : Vec Ideal S1x1x256x128 .f32) x = entry x0 x1 x2 x3 x4 (r0_27.emb x) :=
  slab x0 x1 x2 x3 x4 (fun r l => (part3 _ r l).trans (tile2_apply x0 x1 x2 x3 x4 3 r l)) rfl (fun _ _ => ⟨rfl, rfl, rfl, rfl⟩) x

theorem store20 (x : S1x1x256x128.Idx) :
    (k0_pay73 (k0_pay153 x0 x1 x2 x3 x4) : Vec Ideal S1x1x256x128 .f32) x = entry x0 x1 x2 x3 x4 (r0_28.emb x) :=
  slab x0 x1 x2 x3 x4 (fun r l => (part4 _ r l).trans (tile2_apply x0 x1 x2 x3 x4 4 r l)) rfl (fun _ _ => ⟨rfl, rfl, rfl, rfl⟩) x

theorem store21 (x : S1x1x256x128.Idx) :
    (k0_pay74 (k0_pay153 x0 x1 x2 x3 x4) : Vec Ideal S1x1x256x128 .f32) x = entry x0 x1 x2 x3 x4 (r0_29.emb x) :=
  slab x0 x1 x2 x3 x4 (fun r l => (part5 _ r l).trans (tile2_apply x0 x1 x2 x3 x4 5 r l)) rfl (fun _ _ => ⟨rfl, rfl, rfl, rfl⟩) x

theorem store22 (x : S1x1x256x128.Idx) :
    (k0_pay75 (k0_pay153 x0 x1 x2 x3 x4) : Vec Ideal S1x1x256x128 .f32) x = entry x0 x1 x2 x3 x4 (r0_30.emb x) :=
  slab x0 x1 x2 x3 x4 (fun r l => (part6 _ r l).trans (tile2_apply x0 x1 x2 x3 x4 6 r l)) rfl (fun _ _ => ⟨rfl, rfl, rfl, rfl⟩) x

theorem store23 (x : S1x1x256x128.Idx) :
    (k0_pay76 (k0_pay153 x0 x1 x2 x3 x4) : Vec Ideal S1x1x256x128 .f32) x = entry x0 x1 x2 x3 x4 (r0_31.emb x) :=
  slab x0 x1 x2 x3 x4 (fun r l => (part7 _ r l).trans (tile2_apply x0 x1 x2 x3 x4 7 r l)) rfl (fun _ _ => ⟨rfl, rfl, rfl, rfl⟩) x

theorem store24 (x : S1x1x256x128.Idx) :
    (k0_pay80 (k0_pay110 x0 x1 x2 x3 x4) (k0_pay154 x0 x1 x2 x3 x4) : Vec Ideal S1x1x256x128 .f32) x = entry x0 x1 x2 x3 x4 (r0_33.emb x) :=
  slab x0 x1 x2 x3 x4 (fun r l => (part0 _ r l).trans (tile3_apply x0 x1 x2 x3 x4 0 r l)) rfl (fun _ _ => ⟨rfl, rfl, rfl, rfl⟩) x

theorem store25 (x : S1x1x256x128.Idx) :
    (k0_pay81 (k0_pay110 x0 x1 x2 x3 x4) (k0_pay154 x0 x1 x2 x3 x4) : Vec Ideal S1x1x256x128 .f32) x = entry x0 x1 x2 x3 x4 (r0_34.emb x) :=
  slab x0 x1 x2 x3 x4 (fun r l => (part1 _ r l).trans (tile3_apply x0 x1 x2 x3 x4 1 r l)) rfl (fun _ _ => ⟨rfl, rfl, rfl, rfl⟩) x

theorem store26 (x : S1x1x256x128.Idx) :
    (k0_pay82 (k0_pay110 x0 x1 x2 x3 x4) (k0_pay154 x0 x1 x2 x3 x4) : Vec Ideal S1x1x256x128 .f32) x = entry x0 x1 x2 x3 x4 (r0_35.emb x) :=
  slab x0 x1 x2 x3 x4 (fun r l => (part2 _ r l).trans (tile3_apply x0 x1 x2 x3 x4 2 r l)) rfl (fun _ _ => ⟨rfl, rfl, rfl, rfl⟩) x

theorem store27 (x : S1x1x256x128.Idx) :
    (k0_pay83 (k0_pay110 x0 x1 x2 x3 x4) (k0_pay154 x0 x1 x2 x3 x4) : Vec Ideal S1x1x256x128 .f32) x = entry x0 x1 x2 x3 x4 (r0_36.emb x) :=
  slab x0 x1 x2 x3 x4 (fun r l => (part3 _ r l).trans (tile3_apply x0 x1 x2 x3 x4 3 r l)) rfl (fun _ _ => ⟨rfl, rfl, rfl, rfl⟩) x

theorem store28 (x : S1x1x256x128.Idx) :
    (k0_pay84 (k0_pay110 x0 x1 x2 x3 x4) (k0_pay154 x0 x1 x2 x3 x4) : Vec Ideal S1x1x256x128 .f32) x = entry x0 x1 x2 x3 x4 (r0_37.emb x) :=
  slab x0 x1 x2 x3 x4 (fun r l => (part4 _ r l).trans (tile3_apply x0 x1 x2 x3 x4 4 r l)) rfl (fun _ _ => ⟨rfl, rfl, rfl, rfl⟩) x

theorem store29 (x : S1x1x256x128.Idx) :
    (k0_pay85 (k0_pay110 x0 x1 x2 x3 x4) (k0_pay154 x0 x1 x2 x3 x4) : Vec Ideal S1x1x256x128 .f32) x = entry x0 x1 x2 x3 x4 (r0_38.emb x) :=
  slab x0 x1 x2 x3 x4 (fun r l => (part5 _ r l).trans (tile3_apply x0 x1 x2 x3 x4 5 r l)) rfl (fun _ _ => ⟨rfl, rfl, rfl, rfl⟩) x

theorem store30 (x : S1x1x256x128.Idx) :
    (k0_pay87 (k0_pay86 (k0_pay110 x0 x1 x2 x3 x4) (k0_pay154 x0 x1 x2 x3 x4)) : Vec Ideal S1x1x256x128 .f32) x = entry x0 x1 x2 x3 x4 (r0_39.emb x) :=
  slab x0 x1 x2 x3 x4 (fun r l => (part6 _ r l).trans (tile3_apply x0 x1 x2 x3 x4 6 r l)) rfl (fun _ _ => ⟨rfl, rfl, rfl, rfl⟩) x

theorem store31 (x : S1x1x256x128.Idx) :
    (k0_pay88 (k0_pay155 x0 x1 x2 x3 x4) : Vec Ideal S1x1x256x128 .f32) x = entry x0 x1 x2 x3 x4 (r0_40.emb x) :=
  slab x0 x1 x2 x3 x4 (fun r l => (part7 _ r l).trans (tile3_apply x0 x1 x2 x3 x4 7 r l)) rfl (fun _ _ => ⟨rfl, rfl, rfl, rfl⟩) x

theorem store32 (x : S1x1x256x128.Idx) :
    (k0_pay91 (k0_pay110 x0 x1 x2 x3 x4) (View.ld x2 r0_42) : Vec Ideal S1x1x256x128 .f32) x = entry x0 x1 x2 x3 x4 (r0_43.emb x) :=
  slab x0 x1 x2 x3 x4 (fun r l => (part0 _ r l).trans (tile4_apply x0 x1 x2 x3 x4 0 r l)) rfl (fun _ _ => ⟨rfl, rfl, rfl, rfl⟩) x

theorem store33 (x : S1x1x256x128.Idx) :
    (k0_pay92 (k0_pay110 x0 x1 x2 x3 x4) (View.ld x2 r0_42) : Vec Ideal S1x1x256x128 .f32) x = entry x0 x1 x2 x3 x4 (r0_44.emb x) :=
  slab x0 x1 x2 x3 x4 (fun r l => (part1 _ r l).trans (tile4_apply x0 x1 x2 x3 x4 1 r l)) rfl (fun _ _ => ⟨rfl, rfl, rfl, rfl⟩) x

theorem store34 (x : S1x1x256x128.Idx) :
    (k0_pay93 (k0_pay110 x0 x1 x2 x3 x4) (View.ld x2 r0_42) : Vec Ideal S1x1x256x128 .f32) x = entry x0 x1 x2 x3 x4 (r0_45.emb x) :=
  slab x0 x1 x2 x3 x4 (fun r l => (part2 _ r l).trans (tile4_apply x0 x1 x2 x3 x4 2 r l)) rfl (fun _ _ => ⟨rfl, rfl, rfl, rfl⟩) x

theorem store35 (x : S1x1x256x128.Idx) :
    (k0_pay95 (k0_pay94 (k0_pay110 x0 x1 x2 x3 x4) (View.ld x2 r0_42)) : Vec Ideal S1x1x256x128 .f32) x = entry x0 x1 x2 x3 x4 (r0_46.emb x) :=
  slab x0 x1 x2 x3 x4 (fun r l => (part3 _ r l).trans (tile4_apply x0 x1 x2 x3 x4 3 r l)) rfl (fun _ _ => ⟨rfl, rfl, rfl, rfl⟩) x

theorem store36 (x : S1x1x256x128.Idx) :
    (k0_pay96 (k0_pay156 x0 x1 x2 x3 x4) : Vec Ideal S1x1x256x128 .f32) x = entry x0 x1 x2 x3 x4 (r0_47.emb x) :=
  slab x0 x1 x2 x3 x4 (fun r l => (part4 _ r l).trans (tile4_apply x0 x1 x2 x3 x4 4 r l)) rfl (fun _ _ => ⟨rfl, rfl, rfl, rfl⟩) x

theorem store37 (x : S1x1x256x128.Idx) :
    (k0_pay97 (k0_pay156 x0 x1 x2 x3 x4) : Vec Ideal S1x1x256x128 .f32) x = entry x0 x1 x2 x3 x4 (r0_48.emb x) :=
  slab x0 x1 x2 x3 x4 (fun r l => (part5 _ r l).trans (tile4_apply x0 x1 x2 x3 x4 5 r l)) rfl (fun _ _ => ⟨rfl, rfl, rfl, rfl⟩) x

theorem store38 (x : S1x1x256x128.Idx) :
    (k0_pay98 (k0_pay156 x0 x1 x2 x3 x4) : Vec Ideal S1x1x256x128 .f32) x = entry x0 x1 x2 x3 x4 (r0_49.emb x) :=
  slab x0 x1 x2 x3 x4 (fun r l => (part6 _ r l).trans (tile4_apply x0 x1 x2 x3 x4 6 r l)) rfl (fun _ _ => ⟨rfl, rfl, rfl, rfl⟩) x

theorem store39 (x : S1x1x256x128.Idx) :
    (k0_pay99 (k0_pay156 x0 x1 x2 x3 x4) : Vec Ideal S1x1x256x128 .f32) x = entry x0 x1 x2 x3 x4 (r0_50.emb x) :=
  slab x0 x1 x2 x3 x4 (fun r l => (part7 _ r l).trans (tile4_apply x0 x1 x2 x3 x4 7 r l)) rfl (fun _ _ => ⟨rfl, rfl, rfl, rfl⟩) x

theorem store40 (x : S1x1x256x128.Idx) :
    (k0_pay103 (k0_pay102 (k0_pay110 x0 x1 x2 x3 x4) (View.ld x2 r0_52)) : Vec Ideal S1x1x256x128 .f32) x = entry x0 x1 x2 x3 x4 (r0_53.emb x) :=
  slab x0 x1 x2 x3 x4 (fun r l => (part0 _ r l).trans (tile5_apply x0 x1 x2 x3 x4 0 r l)) rfl (fun _ _ => ⟨rfl, rfl, rfl, rfl⟩) x

theorem store41 (x : S1x1x256x128.Idx) :
    (k0_pay104 (k0_pay157 x0 x1 x2 x3 x4) : Vec Ideal S1x1x256x128 .f32) x = entry x0 x1 x2 x3 x4 (r0_54.emb x) :=
  slab x0 x1 x2 x3 x4 (fun r l => (part1 _ r l).trans (tile5_apply x0 x1 x2 x3 x4 1 r l)) rfl (fun _ _ => ⟨rfl, rfl, rfl, rfl⟩) x

theorem store42 (x : S1x1x256x128.Idx) :
    (k0_pay105 (k0_pay157 x0 x1 x2 x3 x4) : Vec Ideal S1x1x256x128 .f32) x = entry x0 x1 x2 x3 x4 (r0_55.emb x) :=
  slab x0 x1 x2 x3 x4 (fun r l => (part2 _ r l).trans (tile5_apply x0 x1 x2 x3 x4 2 r l)) rfl (fun _ _ => ⟨rfl, rfl, rfl, rfl⟩) x

theorem store43 (x : S1x1x256x128.Idx) :
    (k0_pay106 (k0_pay157 x0 x1 x2 x3 x4) : Vec Ideal S1x1x256x128 .f32) x = entry x0 x1 x2 x3 x4 (r0_56.emb x) :=
  slab x0 x1 x2 x3 x4 (fun r l => (part3 _ r l).trans (tile5_apply x0 x1 x2 x3 x4 3 r l)) rfl (fun _ _ => ⟨rfl, rfl, rfl, rfl⟩) x

theorem store44 (x : S1x1x256x128.Idx) :
    (k0_pay107 (k0_pay157 x0 x1 x2 x3 x4) : Vec Ideal S1x1x256x128 .f32) x = entry x0 x1 x2 x3 x4 (r0_57.emb x) :=
  slab x0 x1 x2 x3 x4 (fun r l => (part4 _ r l).trans (tile5_apply x0 x1 x2 x3 x4 4 r l)) rfl (fun _ _ => ⟨rfl, rfl, rfl, rfl⟩) x

theorem store45 (x : S1x1x256x128.Idx) :
    (k0_pay108 (k0_pay157 x0 x1 x2 x3 x4) : Vec Ideal S1x1x256x128 .f32) x = entry x0 x1 x2 x3 x4 (r0_58.emb x) :=
  slab x0 x1 x2 x3 x4 (fun r l => (part5 _ r l).trans (tile5_apply x0 x1 x2 x3 x4 5 r l)) rfl (fun _ _ => ⟨rfl, rfl, rfl, rfl⟩) x

theorem store46 (x : S1x1x256x128.Idx) :
    (k0_pay109 (k0_pay157 x0 x1 x2 x3 x4) : Vec Ideal S1x1x256x128 .f32) x = entry x0 x1 x2 x3 x4 (r0_59.emb x) :=
  slab x0 x1 x2 x3 x4 (fun r l => (part6 _ r l).trans (tile5_apply x0 x1 x2 x3 x4 6 r l)) rfl (fun _ _ => ⟨rfl, rfl, rfl, rfl⟩) x

theorem store47 (x : S1x1x256x128.Idx) :
    (k0_pay1 (k0_pay157 x0 x1 x2 x3 x4) : Vec Ideal S1x1x256x128 .f32) x = entry x0 x1 x2 x3 x4 (r0_60.emb x) :=
  slab x0 x1 x2 x3 x4 (fun r l => (part7 _ r l).trans (tile5_apply x0 x1 x2 x3 x4 7 r l)) rfl (fun _ _ => ⟨rfl, rfl, rfl, rfl⟩) x

/-- The block which a grid point stores. -/
theorem out_apply (y : S1x48x256x128.Idx) : (out0_5 x0 x1 x2 x3 x4 y : EReal) = entry x0 x1 x2 x3 x4 y := by
  refine View.canon_apply_of_pieces (Val := Elt Ideal) (e := .f32) (entry x0 x1 x2 x3 x4) _ ?_ y (cover0_5 _ _ _ _ _ _ _ _ _ _ _ _ _ _ _ _ _ _ _ _ _ _ _ _ _ _ _ _ _ _ _ _ _ _ _ _ _ _ _ _ _ _ _ _ _ _ _ _ y)
  exact (List.forall_mem_cons.2 ⟨store47 x0 x1 x2 x3 x4,
    (List.forall_mem_cons.2 ⟨store46 x0 x1 x2 x3 x4,
    (List.forall_mem_cons.2 ⟨store45 x0 x1 x2 x3 x4,
    (List.forall_mem_cons.2 ⟨store44 x0 x1 x2 x3 x4,
    (List.forall_mem_cons.2 ⟨store43 x0 x1 x2 x3 x4,
    (List.forall_mem_cons.2 ⟨store42 x0 x1 x2 x3 x4,
    (List.forall_mem_cons.2 ⟨store41 x0 x1 x2 x3 x4,
    (List.forall_mem_cons.2 ⟨store40 x0 x1 x2 x3 x4,
    (List.forall_mem_cons.2 ⟨store39 x0 x1 x2 x3 x4,
    (List.forall_mem_cons.2 ⟨store38 x0 x1 x2 x3 x4,
    (List.forall_mem_cons.2 ⟨store37 x0 x1 x2 x3 x4,
    (List.forall_mem_cons.2 ⟨store36 x0 x1 x2 x3 x4,
    (List.forall_mem_cons.2 ⟨store35 x0 x1 x2 x3 x4,
    (List.forall_mem_cons.2 ⟨store34 x0 x1 x2 x3 x4,
    (List.forall_mem_cons.2 ⟨store33 x0 x1 x2 x3 x4,
    (List.forall_mem_cons.2 ⟨store32 x0 x1 x2 x3 x4,
    (List.forall_mem_cons.2 ⟨store31 x0 x1 x2 x3 x4,
    (List.forall_mem_cons.2 ⟨store30 x0 x1 x2 x3 x4,
    (List.forall_mem_cons.2 ⟨store29 x0 x1 x2 x3 x4,
    (List.forall_mem_cons.2 ⟨store28 x0 x1 x2 x3 x4,
    (List.forall_mem_cons.2 ⟨store27 x0 x1 x2 x3 x4,
    (List.forall_mem_cons.2 ⟨store26 x0 x1 x2 x3 x4,
    (List.forall_mem_cons.2 ⟨store25 x0 x1 x2 x3 x4,
    (List.forall_mem_cons.2 ⟨store24 x0 x1 x2 x3 x4,
    (List.forall_mem_cons.2 ⟨store23 x0 x1 x2 x3 x4,
    (List.forall_mem_cons.2 ⟨store22 x0 x1 x2 x3 x4,
    (List.forall_mem_cons.2 ⟨store21 x0 x1 x2 x3 x4,
    (List.forall_mem_cons.2 ⟨store20 x0 x1 x2 x3 x4,
    (List.forall_mem_cons.2 ⟨store19 x0 x1 x2 x3 x4,
    (List.forall_mem_cons.2 ⟨store18 x0 x1 x2 x3 x4,
    (List.forall_mem_cons.2 ⟨store17 x0 x1 x2 x3 x4,
    (List.forall_mem_cons.2 ⟨store16 x0 x1 x2 x3 x4,
    (List.forall_mem_cons.2 ⟨store15 x0 x1 x2 x3 x4,
    (List.forall_mem_cons.2 ⟨store14 x0 x1 x2 x3 x4,
    (List.forall_mem_cons.2 ⟨store13 x0 x1 x2 x3 x4,
    (List.forall_mem_cons.2 ⟨store12 x0 x1 x2 x3 x4,
    (List.forall_mem_cons.2 ⟨store11 x0 x1 x2 x3 x4,
    (List.forall_mem_cons.2 ⟨store10 x0 x1 x2 x3 x4,
    (List.forall_mem_cons.2 ⟨store9 x0 x1 x2 x3 x4,
    (List.forall_mem_cons.2 ⟨store8 x0 x1 x2 x3 x4,
    (List.forall_mem_cons.2 ⟨store7 x0 x1 x2 x3 x4,
    (List.forall_mem_cons.2 ⟨store6 x0 x1 x2 x3 x4,
    (List.forall_mem_cons.2 ⟨store5 x0 x1 x2 x3 x4,
    (List.forall_mem_cons.2 ⟨store4 x0 x1 x2 x3 x4,
    (List.forall_mem_cons.2 ⟨store3 x0 x1 x2 x3 x4,
    (List.forall_mem_cons.2 ⟨store2 x0 x1 x2 x3 x4,
    (List.forall_mem_cons.2 ⟨store1 x0 x1 x2 x3 x4,
    (List.forall_mem_cons.2 ⟨store0 x0 x1 x2 x3 x4, fun _ h => absurd h List.not_mem_nil⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)⟩)

end

end Cert.Proof.KvProj

end
-- ==== Proof.KvProj.Tails.lean ====
module

public import proofs.«01_k».proof.Proof.KvProj.Tiles

@[expose] public section

set_option maxRecDepth 16384

noncomputable section

/-! What the body of the key and value projection stores in the blocks of the last rows. -/

namespace Cert.Proof.KvProj

open Cert.Kernel3Ideal Cert.Kernel3Ideal.Gen
open Idealize.ShloMosaic Idealize.ShloMosaic.TcCoe

/-- The last 128 rows of a tile, its columns first. -/
theorem kept128 (A : FVec Ideal S256x1024 .f32) (d : Fin 1024) (r : Fin 128) :
    (shapeCast S1x1x1024x128 (transpose S1024x128 [1, 0] (extractStridedSlice S128x1024 ![128, 0] A slices_S256x1024_o128_0_S128x1024) transposes_S128x1024_p1_0_S1024x128)
      shapeCasts_S1024x128_S1x1x1024x128 : FVec Ideal S1x1x1024x128 .f32) (ix4 (0 : Fin 1) (0 : Fin 1) d r) = A (ix2 ⟨128 + r.val, by omega⟩ d) := by
  clean_types
  pointwise

/-- All rows of a tile, its columns first. -/
theorem kept256 (A : FVec Ideal S256x1024 .f32) (d : Fin 1024) (r : Fin 256) :
    (shapeCast S1x1x1024x256 (transpose S1024x256 [1, 0] A transposes_S256x1024_p1_0_S1024x256)
      shapeCasts_S1024x256_S1x1x1024x256 : FVec Ideal S1x1x1024x256 .f32) (ix4 (0 : Fin 1) (0 : Fin 1) d r) = A (ix2 r d) := by
  clean_types
  pointwise

theorem col_form (d : Fin 1024) : ∃ (p : Fin 8) (l : Fin 128), d = ⟨p.val * 128 + l.val, by omega⟩ :=
  ⟨⟨d.val / 128, by omega⟩, ⟨d.val % 128, by omega⟩, Fin.ext (by show d.val = d.val / 128 * 128 + d.val % 128; omega)⟩

theorem form128 (x : S1x1x1024x128.Idx) : ∃ (d : Fin 1024) (r : Fin 128), x = ix4 (0 : Fin 1) (0 : Fin 1) d r := by
  refine ⟨x 2, x 3, funext fun a => ?_⟩
  match a with
  | ⟨0, _⟩ => exact Fin.ext (Nat.lt_one_iff.mp (x 0).isLt)
  | ⟨1, _⟩ => exact Fin.ext (Nat.lt_one_iff.mp (x 1).isLt)
  | ⟨2, _⟩ => rfl
  | ⟨3, _⟩ => rfl

theorem form256 (x : S1x1x1024x256.Idx) : ∃ (d : Fin 1024) (r : Fin 256), x = ix4 (0 : Fin 1) (0 : Fin 1) d r := by
  refine ⟨x 2, x 3, funext fun a => ?_⟩
  match a with
  | ⟨0, _⟩ => exact Fin.ext (Nat.lt_one_iff.mp (x 0).isLt)
  | ⟨1, _⟩ => exact Fin.ext (Nat.lt_one_iff.mp (x 1).isLt)
  | ⟨2, _⟩ => rfl
  | ⟨3, _⟩ => rfl

section

variable (x0 : Vec Ideal S256x1024 .f32) (x1 : Vec Ideal S1x1024 .f32) (x2 : Vec Ideal S1024x6144 .bf16) (x3 x4 : Vec Ideal S256x128 .f32)

/-- A kept entry of group 0: the keys (`e = 0`) or values (`e = 1`), column `d` of the group, kept row `r`. -/
def kept0 (e : Fin 2) (d : Fin 1024) (r : Fin 128) : EReal :=
  lane x0 x1 x2 x3 x4 ⟨e.val * 24 + 0 + d.val / 128, by omega⟩ ⟨128 + r.val, by omega⟩ ⟨d.val % 128, by omega⟩

def tailEntry0 (y : S1x2x1024x128.Idx) : EReal := kept0 x0 x1 x2 x3 x4 (y 1) (y 2) (y 3)

theorem tailEntry0_at (z : Fin 1) (e : Fin 2) (d : Fin 1024) (r : Fin 128) : tailEntry0 x0 x1 x2 x3 x4 (ix4 z e d r) = kept0 x0 x1 x2 x3 x4 e d r := rfl

theorem tailPlace0_0 (d : Fin 1024) (r : Fin 128) : (r0_12.emb (ix4 (0 : Fin 1) (0 : Fin 1) d r) : S1x2x1024x128.Idx) = ix4 (0 : Fin 1) (0 : Fin 2) d r := by
  refine funext fun a => Fin.ext ?_
  match a with
  | ⟨0, _⟩ => rfl
  | ⟨1, _⟩ => rfl
  | ⟨2, _⟩ => show 0 + 1 * d.val = d.val; omega
  | ⟨3, _⟩ => show 0 + 1 * r.val = r.val; omega

theorem tailStore0_0 (x : S1x1x1024x128.Idx) :
    (k0_pay25 (k0_pay123 x0 x1 x2 x3 x4) : Vec Ideal S1x1x1024x128 .f32) x = tailEntry0 x0 x1 x2 x3 x4 (r0_12.emb x) := by
  obtain ⟨d, r, rfl⟩ := form128 x
  rw [tailPlace0_0, tailEntry0_at]
  have e : (k0_pay25 (k0_pay123 x0 x1 x2 x3 x4) : Vec Ideal S1x1x1024x128 .f32)
      = shapeCast S1x1x1024x128 (transpose S1024x128 [1, 0] (extractStridedSlice S128x1024 ![128, 0] (tile0 x0 x1 x2 x3 x4) slices_S256x1024_o128_0_S128x1024) transposes_S128x1024_p1_0_S1024x128) shapeCasts_S1024x128_S1x1x1024x128 := rfl
  rw [e]
  refine (kept128 _ d r).trans ?_
  obtain ⟨p, l, rfl⟩ := col_form d
  refine (tile0_apply x0 x1 x2 x3 x4 p _ l).trans ?_
  unfold kept0
  congr 1
  · exact Fin.ext (by show 0 * 8 + p.val = 0 * 24 + 0 + (p.val * 128 + l.val) / 128; omega)
  · exact Fin.ext (by show l.val = (p.val * 128 + l.val) % 128; omega)

theorem tailPlace0_1 (d : Fin 1024) (r : Fin 128) : (r0_41.emb (ix4 (0 : Fin 1) (0 : Fin 1) d r) : S1x2x1024x128.Idx) = ix4 (0 : Fin 1) (1 : Fin 2) d r := by
  refine funext fun a => Fin.ext ?_
  match a with
  | ⟨0, _⟩ => rfl
  | ⟨1, _⟩ => rfl
  | ⟨2, _⟩ => show 0 + 1 * d.val = d.val; omega
  | ⟨3, _⟩ => show 0 + 1 * r.val = r.val; omega

theorem tailStore0_1 (x : S1x1x1024x128.Idx) :
    (k0_pay89 (k0_pay155 x0 x1 x2 x3 x4) : Vec Ideal S1x1x1024x128 .f32) x = tailEntry0 x0 x1 x2 x3 x4 (r0_41.emb x) := by
  obtain ⟨d, r, rfl⟩ := form128 x
  rw [tailPlace0_1, tailEntry0_at]
  have e : (k0_pay89 (k0_pay155 x0 x1 x2 x3 x4) : Vec Ideal S1x1x1024x128 .f32)
      = shapeCast S1x1x1024x128 (transpose S1024x128 [1, 0] (extractStridedSlice S128x1024 ![128, 0] (tile3 x0 x1 x2) slices_S256x1024_o128_0_S128x1024) transposes_S128x1024_p1_0_S1024x128) shapeCasts_S1024x128_S1x1x1024x128 := rfl
  rw [e]
  refine (kept128 _ d r).trans ?_
  obtain ⟨p, l, rfl⟩ := col_form d
  refine (tile3_apply x0 x1 x2 x3 x4 p _ l).trans ?_
  unfold kept0
  congr 1
  · exact Fin.ext (by show 3 * 8 + p.val = 1 * 24 + 0 + (p.val * 128 + l.val) / 128; omega)
  · exact Fin.ext (by show l.val = (p.val * 128 + l.val) % 128; omega)

theorem tail0_apply (y : S1x2x1024x128.Idx) : (out0_6 x0 x1 x2 x3 x4 y : EReal) = tailEntry0 x0 x1 x2 x3 x4 y := by
  refine View.canon_apply_of_pieces (Val := Elt Ideal) (e := .f32) (tailEntry0 x0 x1 x2 x3 x4) _ ?_ y (cover0_6 _ _ y)
  exact (List.forall_mem_cons.2 ⟨tailStore0_1 x0 x1 x2 x3 x4, (List.forall_mem_cons.2 ⟨tailStore0_0 x0 x1 x2 x3 x4,
    fun _ h => absurd h List.not_mem_nil⟩)⟩)

/-- A kept entry of group 1: the keys (`e = 0`) or values (`e = 1`), column `d` of the group, kept row `r`. -/
def kept1 (e : Fin 2) (d : Fin 1024) (r : Fin 256) : EReal :=
  lane x0 x1 x2 x3 x4 ⟨e.val * 24 + 8 + d.val / 128, by omega⟩ r ⟨d.val % 128, by omega⟩

def tailEntry1 (y : S1x2x1024x256.Idx) : EReal := kept1 x0 x1 x2 x3 x4 (y 1) (y 2) (y 3)

theorem tailEntry1_at (z : Fin 1) (e : Fin 2) (d : Fin 1024) (r : Fin 256) : tailEntry1 x0 x1 x2 x3 x4 (ix4 z e d r) = kept1 x0 x1 x2 x3 x4 e d r := rfl

theorem tailPlace1_0 (d : Fin 1024) (r : Fin 256) : (r0_22.emb (ix4 (0 : Fin 1) (0 : Fin 1) d r) : S1x2x1024x256.Idx) = ix4 (0 : Fin 1) (0 : Fin 2) d r := by
  refine funext fun a => Fin.ext ?_
  match a with
  | ⟨0, _⟩ => rfl
  | ⟨1, _⟩ => rfl
  | ⟨2, _⟩ => show 0 + 1 * d.val = d.val; omega
  | ⟨3, _⟩ => show 0 + 1 * r.val = r.val; omega

theorem tailStore1_0 (x : S1x1x1024x256.Idx) :
    (k0_pay53 (k0_pay140 x0 x1 x2 x3 x4) : Vec Ideal S1x1x1024x256 .f32) x = tailEntry1 x0 x1 x2 x3 x4 (r0_22.emb x) := by
  obtain ⟨d, r, rfl⟩ := form256 x
  rw [tailPlace1_0, tailEntry1_at]
  have e : (k0_pay53 (k0_pay140 x0 x1 x2 x3 x4) : Vec Ideal S1x1x1024x256 .f32)
      = shapeCast S1x1x1024x256 (transpose S1024x256 [1, 0] (tile1 x0 x1 x2 x3 x4) transposes_S256x1024_p1_0_S1024x256) shapeCasts_S1024x256_S1x1x1024x256 := rfl
  rw [e]
  refine (kept256 _ d r).trans ?_
  obtain ⟨p, l, rfl⟩ := col_form d
  refine (tile1_apply x0 x1 x2 x3 x4 p _ l).trans ?_
  unfold kept1
  congr 1
  · exact Fin.ext (by show 1 * 8 + p.val = 0 * 24 + 8 + (p.val * 128 + l.val) / 128; omega)
  · exact Fin.ext (by show l.val = (p.val * 128 + l.val) % 128; omega)

theorem tailPlace1_1 (d : Fin 1024) (r : Fin 256) : (r0_51.emb (ix4 (0 : Fin 1) (0 : Fin 1) d r) : S1x2x1024x256.Idx) = ix4 (0 : Fin 1) (1 : Fin 2) d r := by
  refine funext fun a => Fin.ext ?_
  match a with
  | ⟨0, _⟩ => rfl
  | ⟨1, _⟩ => rfl
  | ⟨2, _⟩ => show 0 + 1 * d.val = d.val; omega
  | ⟨3, _⟩ => show 0 + 1 * r.val = r.val; omega

theorem tailStore1_1 (x : S1x1x1024x256.Idx) :
    (k0_pay100 (k0_pay156 x0 x1 x2 x3 x4) : Vec Ideal S1x1x1024x256 .f32) x = tailEntry1 x0 x1 x2 x3 x4 (r0_51.emb x) := by
  obtain ⟨d, r, rfl⟩ := form256 x
  rw [tailPlace1_1, tailEntry1_at]
  have e : (k0_pay100 (k0_pay156 x0 x1 x2 x3 x4) : Vec Ideal S1x1x1024x256 .f32)
      = shapeCast S1x1x1024x256 (transpose S1024x256 [1, 0] (tile4 x0 x1 x2) transposes_S256x1024_p1_0_S1024x256) shapeCasts_S1024x256_S1x1x1024x256 := rfl
  rw [e]
  refine (kept256 _ d r).trans ?_
  obtain ⟨p, l, rfl⟩ := col_form d
  refine (tile4_apply x0 x1 x2 x3 x4 p _ l).trans ?_
  unfold kept1
  congr 1
  · exact Fin.ext (by show 4 * 8 + p.val = 1 * 24 + 8 + (p.val * 128 + l.val) / 128; omega)
  · exact Fin.ext (by show l.val = (p.val * 128 + l.val) % 128; omega)

theorem tail1_apply (y : S1x2x1024x256.Idx) : (out0_7 x0 x1 x2 x3 x4 y : EReal) = tailEntry1 x0 x1 x2 x3 x4 y := by
  refine View.canon_apply_of_pieces (Val := Elt Ideal) (e := .f32) (tailEntry1 x0 x1 x2 x3 x4) _ ?_ y (cover0_7 _ _ y)
  exact (List.forall_mem_cons.2 ⟨tailStore1_1 x0 x1 x2 x3 x4, (List.forall_mem_cons.2 ⟨tailStore1_0 x0 x1 x2 x3 x4,
    fun _ h => absurd h List.not_mem_nil⟩)⟩)

/-- A kept entry of group 2: the keys (`e = 0`) or values (`e = 1`), column `d` of the group, kept row `r`. -/
def kept2 (e : Fin 2) (d : Fin 1024) (r : Fin 256) : EReal :=
  lane x0 x1 x2 x3 x4 ⟨e.val * 24 + 16 + d.val / 128, by omega⟩ r ⟨d.val % 128, by omega⟩

def tailEntry2 (y : S1x2x1024x256.Idx) : EReal := kept2 x0 x1 x2 x3 x4 (y 1) (y 2) (y 3)

theorem tailEntry2_at (z : Fin 1) (e : Fin 2) (d : Fin 1024) (r : Fin 256) : tailEntry2 x0 x1 x2 x3 x4 (ix4 z e d r) = kept2 x0 x1 x2 x3 x4 e d r := rfl

theorem tailPlace2_0 (d : Fin 1024) (r : Fin 256) : (r0_22.emb (ix4 (0 : Fin 1) (0 : Fin 1) d r) : S1x2x1024x256.Idx) = ix4 (0 : Fin 1) (0 : Fin 2) d r := by
  refine funext fun a => Fin.ext ?_
  match a with
  | ⟨0, _⟩ => rfl
  | ⟨1, _⟩ => rfl
  | ⟨2, _⟩ => show 0 + 1 * d.val = d.val; omega
  | ⟨3, _⟩ => show 0 + 1 * r.val = r.val; omega

theorem tailStore2_0 (x : S1x1x1024x256.Idx) :
    (k0_pay77 (k0_pay153 x0 x1 x2 x3 x4) : Vec Ideal S1x1x1024x256 .f32) x = tailEntry2 x0 x1 x2 x3 x4 (r0_22.emb x) := by
  obtain ⟨d, r, rfl⟩ := form256 x
  rw [tailPlace2_0, tailEntry2_at]
  have e : (k0_pay77 (k0_pay153 x0 x1 x2 x3 x4) : Vec Ideal S1x1x1024x256 .f32)
      = shapeCast S1x1x1024x256 (transpose S1024x256 [1, 0] (tile2 x0 x1 x2 x3 x4) transposes_S256x1024_p1_0_S1024x256) shapeCasts_S1024x256_S1x1x1024x256 := rfl
  rw [e]
  refine (kept256 _ d r).trans ?_
  obtain ⟨p, l, rfl⟩ := col_form d
  refine (tile2_apply x0 x1 x2 x3 x4 p _ l).trans ?_
  unfold kept2
  congr 1
  · exact Fin.ext (by show 2 * 8 + p.val = 0 * 24 + 16 + (p.val * 128 + l.val) / 128; omega)
  · exact Fin.ext (by show l.val = (p.val * 128 + l.val) % 128; omega)

theorem tailPlace2_1 (d : Fin 1024) (r : Fin 256) : (r0_51.emb (ix4 (0 : Fin 1) (0 : Fin 1) d r) : S1x2x1024x256.Idx) = ix4 (0 : Fin 1) (1 : Fin 2) d r := by
  refine funext fun a => Fin.ext ?_
  match a with
  | ⟨0, _⟩ => rfl
  | ⟨1, _⟩ => rfl
  | ⟨2, _⟩ => show 0 + 1 * d.val = d.val; omega
  | ⟨3, _⟩ => show 0 + 1 * r.val = r.val; omega

theorem tailStore2_1 (x : S1x1x1024x256.Idx) :
    (k0_pay2 (k0_pay157 x0 x1 x2 x3 x4) : Vec Ideal S1x1x1024x256 .f32) x = tailEntry2 x0 x1 x2 x3 x4 (r0_51.emb x) := by
  obtain ⟨d, r, rfl⟩ := form256 x
  rw [tailPlace2_1, tailEntry2_at]
  have e : (k0_pay2 (k0_pay157 x0 x1 x2 x3 x4) : Vec Ideal S1x1x1024x256 .f32)
      = shapeCast S1x1x1024x256 (transpose S1024x256 [1, 0] (tile5 x0 x1 x2) transposes_S256x1024_p1_0_S1024x256) shapeCasts_S1024x256_S1x1x1024x256 := rfl
  rw [e]
  refine (kept256 _ d r).trans ?_
  obtain ⟨p, l, rfl⟩ := col_form d
  refine (tile5_apply x0 x1 x2 x3 x4 p _ l).trans ?_
  unfold kept2
  congr 1
  · exact Fin.ext (by show 5 * 8 + p.val = 1 * 24 + 16 + (p.val * 128 + l.val) / 128; omega)
  · exact Fin.ext (by show l.val = (p.val * 128 + l.val) % 128; omega)

theorem tail2_apply (y : S1x2x1024x256.Idx) : (out0_8 x0 x1 x2 x3 x4 y : EReal) = tailEntry2 x0 x1 x2 x3 x4 y := by
  refine View.canon_apply_of_pieces (Val := Elt Ideal) (e := .f32) (tailEntry2 x0 x1 x2 x3 x4) _ ?_ y (cover0_8 _ _ y)
  exact (List.forall_mem_cons.2 ⟨tailStore2_1 x0 x1 x2 x3 x4, (List.forall_mem_cons.2 ⟨tailStore2_0 x0 x1 x2 x3 x4,
    fun _ h => absurd h List.not_mem_nil⟩)⟩)

end

end Cert.Proof.KvProj

end
-- ==== Proof.KvProj.Result.lean ====
module

public import proofs.«01_k».proof.Proof.Proj.Result
public import proofs.«01_k».proof.Proof.KvProj.Body
public import proofs.«01_k».proof.Proof.KvProj.Tails

@[expose] public section

set_option maxRecDepth 16384

noncomputable section

/-! The four results of the key and value projection: their blocks, put together. -/

namespace Cert.Proof.KvProj

open Cert.Kernel3Ideal
open Idealize.ShloMosaic Idealize.ShloMosaic.TcCoe Idealize.SL.Sem
open Idealize.ShloMosaic.Pipeline (Dat)
open Cert.Kernel3Ideal.Gen
open Cert.Proof.Proj (projV blockV ropeV cosT sinT rows_apply gain_apply four_apply)

/-- The keys and values from the three arguments. -/
def result (X : (⟨S8x2048x1024, .f32⟩ : BufTy).Contents (Elt Ideal)) (g : (⟨S1024, .f32⟩ : BufTy).Contents (Elt Ideal))
    (W : (⟨S1024x6144, .f32⟩ : BufTy).Contents (Elt Ideal)) : (⟨S8x48x2048x128, .f32⟩ : BufTy).Contents (Elt Ideal) := fun i =>
  ropeV (by decide : 48 * 128 = 6144) (projV (fun k => X (ix3 (i 0) (i 2) k)) (fun k => g (ix1 k)) (fun k c => W (ix2 k c)))
    (cosT (ix2 (i 2) ⟨(i 3).val % 32, Nat.mod_lt _ (by decide)⟩)) (sinT (ix2 (i 2) ⟨(i 3).val % 32, Nat.mod_lt _ (by decide)⟩)) (i 1) (i 3)

/-- The last 128 rows of group 0, the rows last. -/
def tail0 (R : (⟨S8x48x2048x128, .f32⟩ : BufTy).Contents (Elt Ideal)) : (⟨S8x2x1024x128, .f32⟩ : BufTy).Contents (Elt Ideal) := fun i =>
  R (ix4 (i 0) (⟨(i 1).val * 24 + 0 + (i 2).val / 128, by have h1 : (i 1).val < 2 := (i 1).isLt; have h2 : (i 2).val < 1024 := (i 2).isLt; omega⟩ : Fin 48)
    (⟨1920 + (i 3).val, by have h3 : (i 3).val < 128 := (i 3).isLt; omega⟩ : Fin 2048) (⟨(i 2).val % 128, Nat.mod_lt _ (by decide)⟩ : Fin 128))

/-- The last 512 rows of group 1, the rows last. -/
def tail1 (R : (⟨S8x48x2048x128, .f32⟩ : BufTy).Contents (Elt Ideal)) : (⟨S8x2x1024x512, .f32⟩ : BufTy).Contents (Elt Ideal) := fun i =>
  R (ix4 (i 0) (⟨(i 1).val * 24 + 8 + (i 2).val / 128, by have h1 : (i 1).val < 2 := (i 1).isLt; have h2 : (i 2).val < 1024 := (i 2).isLt; omega⟩ : Fin 48)
    (⟨1536 + (i 3).val, by have h3 : (i 3).val < 512 := (i 3).isLt; omega⟩ : Fin 2048) (⟨(i 2).val % 128, Nat.mod_lt _ (by decide)⟩ : Fin 128))

/-- The last 2048 rows of group 2, the rows last. -/
def tail2 (R : (⟨S8x48x2048x128, .f32⟩ : BufTy).Contents (Elt Ideal)) : (⟨S8x2x1024x2048, .f32⟩ : BufTy).Contents (Elt Ideal) := fun i =>
  R (ix4 (i 0) (⟨(i 1).val * 24 + 16 + (i 2).val / 128, by have h1 : (i 1).val < 2 := (i 1).isLt; have h2 : (i 2).val < 1024 := (i 2).isLt; omega⟩ : Fin 48)
    (⟨0 + (i 3).val, by have h3 : (i 3).val < 2048 := (i 3).isLt; omega⟩ : Fin 2048) (⟨(i 2).val % 128, Nat.mod_lt _ (by decide)⟩ : Fin 128))

variable (m : (ℓ : Loc nD τ sig) → Buf (Elt Ideal) ℓ) (c : Dev nD)

/-! ## The arrays before the call -/

theorem rows_eq : V m c main_v19 = shapeCast S16384x1024 (m ((c : Thread nD τ).loc main_arg0)) shapeCasts_S8x2048x1024_S16384x1024 := by
  simp only [V, hostOps0]
  after_results_simp
  rfl

theorem gain_eq : V m c main_v20 = shapeCast S1x1024 (m ((c : Thread nD τ).loc main_arg1)) shapeCasts_S1024_S1x1024 := by
  simp only [V, hostOps0]
  after_results_simp
  rfl

theorem weights_eq : V m c main_v21 = (truncf .bf16 (m ((c : Thread nD τ).loc main_arg2)) bitsLt_bf16_f32 : FVec Ideal S1024x6144 .bf16) := by
  simp only [V, hostOps0]
  after_results_simp

theorem cos_eq : V m c main_v15 = (concatenate S2048x128 1 [⟨S2048x32, cosT⟩, ⟨S2048x32, cosT⟩, ⟨S2048x32, cosT⟩, ⟨S2048x32, cosT⟩]
    concatenates_S2048x32_S2048x32_S2048x32_S2048x32_S2048x128_d1 : FVec Ideal S2048x128 .f32) := by
  simp only [V, hostOps0]
  after_results_simp
  rfl

theorem sin_eq : V m c main_v18 = (concatenate S2048x128 1 [⟨S2048x32, Host.negf sinT⟩, ⟨S2048x32, sinT⟩, ⟨S2048x32, Host.negf sinT⟩, ⟨S2048x32, sinT⟩]
    concatenates_S2048x32_S2048x32_S2048x32_S2048x32_S2048x128_d1 : FVec Ideal S2048x128 .f32) := by
  simp only [V, hostOps0]
  after_results_simp
  rfl

/-! ## The blocks -/

def batch (t : Fin cfg0.N) : Fin 8 := ⟨t.val / 8, by have h := t.isLt; have e : cfg0.N = 64 := N_0; omega⟩
def time (t : Fin cfg0.N) (r : Fin 256) : Fin 2048 := ⟨t.val % 8 * 256 + r.val, by omega⟩

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![t.val % 8, 0] := by decide +kernel
theorem index4 : ∀ t : Fin grid0.N, win0_4.index t = ![t.val % 8, 0] := by decide +kernel
theorem index5 : ∀ t : Fin grid0.N, win0_5.index t = ![t.val / 8, 0, t.val % 8, 0] := by decide +kernel
theorem index6 : ∀ t : Fin grid0.N, win0_6.index t = ![t.val / 8, 0, 0, 0] := by decide +kernel
theorem index7 : ∀ t : Fin grid0.N, win0_7.index t = ![t.val / 8, 0, 0, t.val % 8 - 6] := by decide +kernel
theorem index8 : ∀ t : Fin grid0.N, win0_8.index t = ![t.val / 8, 0, 0, t.val % 8] := by decide +kernel

/-- The last 512 rows are written back by the last two points of a sequence. -/
theorem flush7 : ∀ t : Fin grid0.N, win0_7.flush t = true ↔ 6 ≤ t.val % 8 := by decide +kernel

theorem emb0 (t : Fin cfg0.N) (r : Fin 256) (k : Fin 1024) :
    (win0_0.blk t).view.emb (ix2 r k) = ix2 (⟨(batch t).val * 2048 + (time t r).val, by have := (batch t).isLt; have := (time t r).isLt; omega⟩ : Fin 16384) k := by
  refine funext fun a => Fin.ext ?_
  have e := index0 t
  match a with
  | ⟨0, _⟩ =>
    show win0_0.index t 0 * 256 + 1 * r.val = t.val / 8 * 2048 + (t.val % 8 * 256 + r.val)
    rw [e]; show t.val * 256 + 1 * r.val = _; omega
  | ⟨1, _⟩ =>
    show win0_0.index t 1 * 1024 + 1 * k.val = k.val
    rw [e]; show 0 * 1024 + 1 * k.val = _; omega

theorem emb1 (t : Fin cfg0.N) (k : Fin 1024) :
    (win0_1.blk t).view.emb (ix2 (0 : Fin 1) k) = ix2 (0 : Fin 1) k := by
  refine funext fun a => Fin.ext ?_
  have e := index1 t
  match a with
  | ⟨0, _⟩ =>
    show win0_1.index t 0 * 1 + 1 * 0 = 0
    rw [e]; show 0 * 1 + 1 * 0 = _; omega
  | ⟨1, _⟩ =>
    show win0_1.index t 1 * 1024 + 1 * k.val = k.val
    rw [e]; show 0 * 1024 + 1 * k.val = _; omega

theorem emb2 (t : Fin cfg0.N) (k : Fin 1024) (q : Fin 6144) :
    (win0_2.blk t).view.emb (ix2 k q) = ix2 k q := by
  refine funext fun a => Fin.ext ?_
  have e := index2 t
  match a with
  | ⟨0, _⟩ =>
    show win0_2.index t 0 * 1024 + 1 * k.val = k.val
    rw [e]; show 0 * 1024 + 1 * k.val = _; omega
  | ⟨1, _⟩ =>
    show win0_2.index t 1 * 6144 + 1 * q.val = q.val
    rw [e]; show 0 * 6144 + 1 * q.val = _; omega

theorem emb3 (t : Fin cfg0.N) (r : Fin 256) (l : Fin 128) :
    (win0_3.blk t).view.emb (ix2 r l) = ix2 (time t r) l := by
  refine funext fun a => Fin.ext ?_
  have e := index3 t
  match a with
  | ⟨0, _⟩ =>
    show win0_3.index t 0 * 256 + 1 * r.val = t.val % 8 * 256 + r.val
    rw [e]; show (t.val % 8) * 256 + 1 * r.val = _; omega
  | ⟨1, _⟩ =>
    show win0_3.index t 1 * 128 + 1 * l.val = l.val
    rw [e]; show 0 * 128 + 1 * l.val = _; omega

theorem emb4 (t : Fin cfg0.N) (r : Fin 256) (l : Fin 128) :
    (win0_4.blk t).view.emb (ix2 r l) = ix2 (time t r) l := by
  refine funext fun a => Fin.ext ?_
  have e := index4 t
  match a with
  | ⟨0, _⟩ =>
    show win0_4.index t 0 * 256 + 1 * r.val = t.val % 8 * 256 + r.val
    rw [e]; show (t.val % 8) * 256 + 1 * r.val = _; omega
  | ⟨1, _⟩ =>
    show win0_4.index t 1 * 128 + 1 * l.val = l.val
    rw [e]; show 0 * 128 + 1 * l.val = _; omega

theorem emb5 (t : Fin cfg0.N) (n : Fin 48) (r : Fin 256) (l : Fin 128) :
    (win0_5.blk t).view.emb (ix4 (0 : Fin 1) n r l) = ix4 (batch t) n (time t r) l := by
  refine funext fun a => Fin.ext ?_
  have e := index5 t
  match a with
  | ⟨0, _⟩ =>
    show win0_5.index t 0 * 1 + 1 * 0 = t.val / 8
    rw [e]; show (t.val / 8) * 1 + 1 * 0 = _; omega
  | ⟨1, _⟩ =>
    show win0_5.index t 1 * 48 + 1 * n.val = n.val
    rw [e]; show 0 * 48 + 1 * n.val = _; omega
  | ⟨2, _⟩ =>
    show win0_5.index t 2 * 256 + 1 * r.val = t.val % 8 * 256 + r.val
    rw [e]; show (t.val % 8) * 256 + 1 * r.val = _; omega
  | ⟨3, _⟩ =>
    show win0_5.index t 3 * 128 + 1 * l.val = l.val
    rw [e]; show 0 * 128 + 1 * l.val = _; omega

theorem emb6 (t : Fin cfg0.N) (e : Fin 2) (d : Fin 1024) (r : Fin 128) :
    (win0_6.blk t).view.emb (ix4 (0 : Fin 1) e d r) = ix4 (batch t) e d r := by
  refine funext fun a => Fin.ext ?_
  have he := index6 t
  match a with
  | ⟨0, _⟩ =>
    show win0_6.index t 0 * 1 + 1 * 0 = t.val / 8
    rw [he]; show (t.val / 8) * 1 + 1 * 0 = _; omega
  | ⟨1, _⟩ =>
    show win0_6.index t 1 * 2 + 1 * e.val = e.val
    rw [he]; show 0 * 2 + 1 * e.val = _; omega
  | ⟨2, _⟩ =>
    show win0_6.index t 2 * 1024 + 1 * d.val = d.val
    rw [he]; show 0 * 1024 + 1 * d.val = _; omega
  | ⟨3, _⟩ =>
    show win0_6.index t 3 * 128 + 1 * r.val = r.val
    rw [he]; show 0 * 128 + 1 * r.val = _; omega

theorem emb7 (t : Fin cfg0.N) (e : Fin 2) (d : Fin 1024) (r : Fin 256) :
    (win0_7.blk t).view.emb (ix4 (0 : Fin 1) e d r) = ix4 (batch t) e d (⟨(t.val % 8 - 6) * 256 + r.val, by omega⟩ : Fin 512) := by
  refine funext fun a => Fin.ext ?_
  have he := index7 t
  match a with
  | ⟨0, _⟩ =>
    show win0_7.index t 0 * 1 + 1 * 0 = t.val / 8
    rw [he]; show (t.val / 8) * 1 + 1 * 0 = _; omega
  | ⟨1, _⟩ =>
    show win0_7.index t 1 * 2 + 1 * e.val = e.val
    rw [he]; show 0 * 2 + 1 * e.val = _; omega
  | ⟨2, _⟩ =>
    show win0_7.index t 2 * 1024 + 1 * d.val = d.val
    rw [he]; show 0 * 1024 + 1 * d.val = _; omega
  | ⟨3, _⟩ =>
    show win0_7.index t 3 * 256 + 1 * r.val = (t.val % 8 - 6) * 256 + r.val
    rw [he]; show (t.val % 8 - 6) * 256 + 1 * r.val = _; omega

theorem emb8 (t : Fin cfg0.N) (e : Fin 2) (d : Fin 1024) (r : Fin 256) :
    (win0_8.blk t).view.emb (ix4 (0 : Fin 1) e d r) = ix4 (batch t) e d (⟨t.val % 8 * 256 + r.val, by omega⟩ : Fin 2048) := by
  refine funext fun a => Fin.ext ?_
  have he := index8 t
  match a with
  | ⟨0, _⟩ =>
    show win0_8.index t 0 * 1 + 1 * 0 = t.val / 8
    rw [he]; show (t.val / 8) * 1 + 1 * 0 = _; omega
  | ⟨1, _⟩ =>
    show win0_8.index t 1 * 2 + 1 * e.val = e.val
    rw [he]; show 0 * 2 + 1 * e.val = _; omega
  | ⟨2, _⟩ =>
    show win0_8.index t 2 * 1024 + 1 * d.val = d.val
    rw [he]; show 0 * 1024 + 1 * d.val = _; omega
  | ⟨3, _⟩ =>
    show win0_8.index t 3 * 256 + 1 * r.val = t.val % 8 * 256 + r.val
    rw [he]; show (t.val % 8) * 256 + 1 * r.val = _; omega

theorem block0 (t : Fin cfg0.N) (r : Fin 256) (k : Fin 1024) :
    iblk m c 0 t (ix2 r k) = m ((c : Thread nD τ).loc main_arg0) (ix3 (batch t) (time t r) k) := by
  show V m c main_v19 ((win0_0.blk t).view.emb (ix2 r k)) = _
  rw [emb0, rows_eq]
  exact rows_apply _ _ _ _

theorem block1 (t : Fin cfg0.N) (k : Fin 1024) : iblk m c 1 t (ix2 (0 : Fin 1) k) = m ((c : Thread nD τ).loc main_arg1) (ix1 k) := by
  show V m c main_v20 ((win0_1.blk t).view.emb (ix2 (0 : Fin 1) k)) = _
  rw [emb1, gain_eq]
  exact gain_apply _ _

theorem block2 (t : Fin cfg0.N) (k : Fin 1024) (q : Fin 6144) :
    (iblk m c 2 t (ix2 k q) : EReal) = m ((c : Thread nD τ).loc main_arg2) (ix2 k q) := by
  show (V m c main_v21 ((win0_2.blk t).view.emb (ix2 k q)) : EReal) = _
  rw [emb2, weights_eq]
  rfl

theorem block3 (t : Fin cfg0.N) (r : Fin 256) (l : Fin 128) :
    (iblk m c 3 t (ix2 r l) : EReal) = cosT (ix2 (time t r) ⟨l.val % 32, Nat.mod_lt _ (by decide)⟩) := by
  show (V m c main_v15 ((win0_3.blk t).view.emb (ix2 r l)) : EReal) = _
  rw [emb3, cos_eq, four_apply, ite_self, ite_self, ite_self]

theorem block4 (t : Fin cfg0.N) (r : Fin 256) (l : Fin 128) :
    (iblk m c 4 t (ix2 r l) : EReal) = if l.val % 64 < 32 then -(sinT (ix2 (time t r) ⟨l.val % 32, Nat.mod_lt _ (by decide)⟩) : EReal)
      else sinT (ix2 (time t r) ⟨l.val % 32, Nat.mod_lt _ (by decide)⟩) := by
  show (V m c main_v18 ((win0_4.blk t).view.emb (ix2 r l)) : EReal) = _
  rw [emb4, sin_eq, four_apply]
  have hl := l.isLt
  split_ifs <;> first | rfl | (exfalso; omega)

/-- A lane of a block is the result's lane at the block's place. -/
theorem lane_at (t : Fin cfg0.N) (n : Fin 48) (r : Fin 256) (l : Fin 128) :
    lane (iblk m c 0 t) (iblk m c 1 t) (iblk m c 2 t) (iblk m c 3 t) (iblk m c 4 t) n r l = result (m ((c : Thread nD τ).loc main_arg0)) (m ((c : Thread nD τ).loc main_arg1)) (m ((c : Thread nD τ).loc main_arg2)) (ix4 (batch t) n (time t r) l) := by
  unfold lane
  rw [block3, block4]
  have e : rowV (iblk m c 0 t) (iblk m c 1 t) (iblk m c 2 t) r
      = projV (fun k => m ((c : Thread nD τ).loc main_arg0) (ix3 (batch t) (time t r) k)) (fun k => m ((c : Thread nD τ).loc main_arg1) (ix1 k))
          (fun k q => m ((c : Thread nD τ).loc main_arg2) (ix2 k q)) := by
    have e0 := funext (block0 m c t r)
    have e1 := funext (block1 m c t)
    have e2 := funext fun k => funext (block2 m c t k)
    unfold rowV
    exact congr (congr (congrArg projV e0) e1) e2
  rw [e]
  rfl

theorem flushed5 (t : Fin cfg0.N) : (dats m 0 c).flushed 5 t = (win0_5.blk t).view.read (Elt Ideal) (result (m ((c : Thread nD τ).loc main_arg0)) (m ((c : Thread nD τ).loc main_arg1)) (m ((c : Thread nD τ).loc main_arg2))) := by
  show (cfg0.win 5).cut (grid0.coords t) ((dats m 0 c).after 5 t) = _
  rw [after0_5]
  funext y
  obtain ⟨n, r, l, rfl⟩ : ∃ (n : Fin 48) (r : Fin 256) (l : Fin 128), y = ix4 (0 : Fin 1) n r l := by
    refine ⟨y 1, y 2, y 3, funext fun a => ?_⟩
    match a with
    | ⟨0, _⟩ => exact Subsingleton.elim (α := Fin 1) _ _
    | ⟨1, _⟩ => rfl
    | ⟨2, _⟩ => rfl
    | ⟨3, _⟩ => rfl
  refine (out_apply _ _ _ _ _ _).trans ((lane_at m c t n r l).trans ?_)
  exact congrArg (result _ _ _) (emb5 t n r l).symm

theorem cover5 (i : S8x48x2048x128.Idx) : ∃ t : Fin cfg0.N, (cfg0.win 5).flush t = true ∧ i ∈ ((cfg0.win 5).blk t).view.set := by
  have hN : cfg0.N = 64 := N_0
  have i0 : (i 0).val < 8 := (i 0).isLt
  have i2 : (i 2).val < 2048 := (i 2).isLt
  refine ⟨⟨(i 0).val * 8 + (i 2).val / 256, by omega⟩, flush0_5 _, ?_⟩
  refine Finset.mem_map.mpr ⟨ix4 (0 : Fin 1) (i 1) (⟨(i 2).val % 256, Nat.mod_lt _ (by decide)⟩ : Fin 256) (i 3), Finset.mem_univ _, ?_⟩
  refine (emb5 _ _ _ _).trans (funext fun a => Fin.ext ?_)
  match a with
  | ⟨0, _⟩ => show ((i 0).val * 8 + (i 2).val / 256) / 8 = (i 0).val; omega
  | ⟨1, _⟩ => rfl
  | ⟨2, _⟩ => show ((i 0).val * 8 + (i 2).val / 256) % 8 * 256 + (i 2).val % 256 = (i 2).val; omega
  | ⟨3, _⟩ => rfl

/-- The array of keys and values after the run. -/
theorem final5 : (dats m 0 c).arrAt 5 cfg0.N = result (m ((c : Thread nD τ).loc main_arg0)) (m ((c : Thread nD τ).loc main_arg1)) (m ((c : Thread nD τ).loc main_arg2)) :=
  (dats m 0 c).arrAt_eq_of_cover 5 _ (fun t _ => flushed5 m c t) cover5

theorem flushed6 (t : Fin cfg0.N) (hf : (cfg0.win 6).flush t = true) :
    (dats m 0 c).flushed 6 t = (win0_6.blk t).view.read (Elt Ideal) (tail0 (result (m ((c : Thread nD τ).loc main_arg0)) (m ((c : Thread nD τ).loc main_arg1)) (m ((c : Thread nD τ).loc main_arg2)))) := by
  have hp : t.val % 8 = 7 := (flush0_6 t).mp hf
  show (cfg0.win 6).cut (grid0.coords t) ((dats m 0 c).after 6 t) = _
  rw [after0_6]
  funext y
  obtain ⟨e, d, r, rfl⟩ : ∃ (e : Fin 2) (d : Fin 1024) (r : Fin 128), y = ix4 (0 : Fin 1) e d r := by
    refine ⟨y 1, y 2, y 3, funext fun a => ?_⟩
    match a with
    | ⟨0, _⟩ => exact Subsingleton.elim (α := Fin 1) _ _
    | ⟨1, _⟩ => rfl
    | ⟨2, _⟩ => rfl
    | ⟨3, _⟩ => rfl
  refine (tail0_apply _ _ _ _ _ _).trans ((lane_at m c t _ _ _).trans ?_)
  refine Eq.trans ?_ (congrArg (tail0 (result _ _ _)) (emb6 t e d r).symm)
  refine congrArg (result _ _ _) (funext fun a => Fin.ext ?_)
  match a with
  | ⟨0, _⟩ => rfl
  | ⟨1, _⟩ => rfl
  | ⟨2, _⟩ => show t.val % 8 * 256 + (128 + r.val) = 1920 + (r.val); omega
  | ⟨3, _⟩ => rfl

theorem cover6 (i : S8x2x1024x128.Idx) : ∃ t : Fin cfg0.N, (cfg0.win 6).flush t = true ∧ i ∈ ((cfg0.win 6).blk t).view.set := by
  have hN : cfg0.N = 64 := N_0
  have i0 : (i 0).val < 8 := (i 0).isLt
  have i3 : (i 3).val < 128 := (i 3).isLt
  refine ⟨⟨(i 0).val * 8 + 7, by omega⟩, (flush0_6 _).mpr (by show ((i 0).val * 8 + 7) % 8 = 7; omega), ?_⟩
  refine Finset.mem_map.mpr ⟨ix4 (0 : Fin 1) (i 1) (i 2) (i 3), Finset.mem_univ _, ?_⟩
  refine (emb6 _ _ _ _).trans (funext fun a => Fin.ext ?_)
  match a with
  | ⟨0, _⟩ => show ((i 0).val * 8 + 7) / 8 = (i 0).val; omega
  | ⟨1, _⟩ => rfl
  | ⟨2, _⟩ => rfl
  | ⟨3, _⟩ => rfl

/-- The array of the last 128 rows of group 0 after the run. -/
theorem final6 : (dats m 0 c).arrAt 6 cfg0.N = tail0 (result (m ((c : Thread nD τ).loc main_arg0)) (m ((c : Thread nD τ).loc main_arg1)) (m ((c : Thread nD τ).loc main_arg2))) :=
  (dats m 0 c).arrAt_eq_of_cover 6 _ (fun t hf => flushed6 m c t hf) cover6

theorem flushed7 (t : Fin cfg0.N) (hf : (cfg0.win 7).flush t = true) :
    (dats m 0 c).flushed 7 t = (win0_7.blk t).view.read (Elt Ideal) (tail1 (result (m ((c : Thread nD τ).loc main_arg0)) (m ((c : Thread nD τ).loc main_arg1)) (m ((c : Thread nD τ).loc main_arg2)))) := by
  have hp : 6 ≤ t.val % 8 := (flush7 t).mp hf
  show (cfg0.win 7).cut (grid0.coords t) ((dats m 0 c).after 7 t) = _
  rw [after0_7]
  funext y
  obtain ⟨e, d, r, rfl⟩ : ∃ (e : Fin 2) (d : Fin 1024) (r : Fin 256), y = ix4 (0 : Fin 1) e d r := by
    refine ⟨y 1, y 2, y 3, funext fun a => ?_⟩
    match a with
    | ⟨0, _⟩ => exact Subsingleton.elim (α := Fin 1) _ _
    | ⟨1, _⟩ => rfl
    | ⟨2, _⟩ => rfl
    | ⟨3, _⟩ => rfl
  refine (tail1_apply _ _ _ _ _ _).trans ((lane_at m c t _ _ _).trans ?_)
  refine Eq.trans ?_ (congrArg (tail1 (result _ _ _)) (emb7 t e d r).symm)
  refine congrArg (result _ _ _) (funext fun a => Fin.ext ?_)
  match a with
  | ⟨0, _⟩ => rfl
  | ⟨1, _⟩ => rfl
  | ⟨2, _⟩ => show t.val % 8 * 256 + (r.val) = 1536 + ((t.val % 8 - 6) * 256 + r.val); omega
  | ⟨3, _⟩ => rfl

theorem cover7 (i : S8x2x1024x512.Idx) : ∃ t : Fin cfg0.N, (cfg0.win 7).flush t = true ∧ i ∈ ((cfg0.win 7).blk t).view.set := by
  have hN : cfg0.N = 64 := N_0
  have i0 : (i 0).val < 8 := (i 0).isLt
  have i3 : (i 3).val < 512 := (i 3).isLt
  refine ⟨⟨(i 0).val * 8 + 6 + (i 3).val / 256, by omega⟩, (flush7 _).mpr (by show 6 ≤ ((i 0).val * 8 + 6 + (i 3).val / 256) % 8; omega), ?_⟩
  refine Finset.mem_map.mpr ⟨ix4 (0 : Fin 1) (i 1) (i 2) (⟨(i 3).val % 256, Nat.mod_lt _ (by decide)⟩ : Fin 256), Finset.mem_univ _, ?_⟩
  refine (emb7 _ _ _ _).trans (funext fun a => Fin.ext ?_)
  match a with
  | ⟨0, _⟩ => show ((i 0).val * 8 + 6 + (i 3).val / 256) / 8 = (i 0).val; omega
  | ⟨1, _⟩ => rfl
  | ⟨2, _⟩ => rfl
  | ⟨3, _⟩ => show (((i 0).val * 8 + 6 + (i 3).val / 256) % 8 - 6) * 256 + (i 3).val % 256 = (i 3).val; omega

/-- The array of the last 512 rows of group 1 after the run. -/
theorem final7 : (dats m 0 c).arrAt 7 cfg0.N = tail1 (result (m ((c : Thread nD τ).loc main_arg0)) (m ((c : Thread nD τ).loc main_arg1)) (m ((c : Thread nD τ).loc main_arg2))) :=
  (dats m 0 c).arrAt_eq_of_cover 7 _ (fun t hf => flushed7 m c t hf) cover7

theorem flushed8 (t : Fin cfg0.N) (hf : (cfg0.win 8).flush t = true) :
    (dats m 0 c).flushed 8 t = (win0_8.blk t).view.read (Elt Ideal) (tail2 (result (m ((c : Thread nD τ).loc main_arg0)) (m ((c : Thread nD τ).loc main_arg1)) (m ((c : Thread nD τ).loc main_arg2)))) := by
  have hp : True := trivial
  show (cfg0.win 8).cut (grid0.coords t) ((dats m 0 c).after 8 t) = _
  rw [after0_8]
  funext y
  obtain ⟨e, d, r, rfl⟩ : ∃ (e : Fin 2) (d : Fin 1024) (r : Fin 256), y = ix4 (0 : Fin 1) e d r := by
    refine ⟨y 1, y 2, y 3, funext fun a => ?_⟩
    match a with
    | ⟨0, _⟩ => exact Subsingleton.elim (α := Fin 1) _ _
    | ⟨1, _⟩ => rfl
    | ⟨2, _⟩ => rfl
    | ⟨3, _⟩ => rfl
  refine (tail2_apply _ _ _ _ _ _).trans ((lane_at m c t _ _ _).trans ?_)
  refine Eq.trans ?_ (congrArg (tail2 (result _ _ _)) (emb8 t e d r).symm)
  refine congrArg (result _ _ _) (funext fun a => Fin.ext ?_)
  match a with
  | ⟨0, _⟩ => rfl
  | ⟨1, _⟩ => rfl
  | ⟨2, _⟩ => show t.val % 8 * 256 + (r.val) = 0 + (t.val % 8 * 256 + r.val); omega
  | ⟨3, _⟩ => rfl

theorem cover8 (i : S8x2x1024x2048.Idx) : ∃ t : Fin cfg0.N, (cfg0.win 8).flush t = true ∧ i ∈ ((cfg0.win 8).blk t).view.set := by
  have hN : cfg0.N = 64 := N_0
  have i0 : (i 0).val < 8 := (i 0).isLt
  have i3 : (i 3).val < 2048 := (i 3).isLt
  refine ⟨⟨(i 0).val * 8 + (i 3).val / 256, by omega⟩, flush0_8 _, ?_⟩
  refine Finset.mem_map.mpr ⟨ix4 (0 : Fin 1) (i 1) (i 2) (⟨(i 3).val % 256, Nat.mod_lt _ (by decide)⟩ : Fin 256), Finset.mem_univ _, ?_⟩
  refine (emb8 _ _ _ _).trans (funext fun a => Fin.ext ?_)
  match a with
  | ⟨0, _⟩ => show ((i 0).val * 8 + (i 3).val / 256) / 8 = (i 0).val; omega
  | ⟨1, _⟩ => rfl
  | ⟨2, _⟩ => rfl
  | ⟨3, _⟩ => show ((i 0).val * 8 + (i 3).val / 256) % 8 * 256 + (i 3).val % 256 = (i 3).val; omega

/-- The array of the last 2048 rows of group 2 after the run. -/
theorem final8 : (dats m 0 c).arrAt 8 cfg0.N = tail2 (result (m ((c : Thread nD τ).loc main_arg0)) (m ((c : Thread nD τ).loc main_arg1)) (m ((c : Thread nD τ).loc main_arg2))) :=
  (dats m 0 c).arrAt_eq_of_cover 8 _ (fun t hf => flushed8 m c t hf) cover8

end Cert.Proof.KvProj

end
-- ==== Proof.KvProj.Ref.lean ====
module

public import proofs.«01_k».proof.Proof.Proj.Ref
public import proofs.«01_k».proof.Proof.Gen.Reference3Ideal.Run

@[expose] public section

set_option maxRecDepth 16384

noncomputable section

/-! The reference's keys and values, entry by entry. -/

namespace Cert.Proof.KvProjRef

open Cert.Reference3Ideal Cert.Reference3Ideal.Gen
open Idealize.ShloMosaic Idealize.ShloMosaic.TcCoe
open Cert.Proof.Proj (normV projV blockV blockV_plain ropeV)
open Cert.Proof.ProjRef (norm_apply spread turned turned_rope angle)

def prod (N : FVec Ideal S8x2048x1024 .f32) (W : (⟨S1024x6144, .f32⟩ : BufTy).Contents (Elt Ideal)) : FVec Ideal S8x2048x6144 .f32 :=
  Host.dotGeneral (φ₁ := .f32) (φ₂ := .f32) dot_S8x2048x1024_S1024x6144_S8x2048x6144_2_0_01_1_n_n none N W

/-- The keys, head by head. -/
def keys (D : FVec Ideal S8x2048x6144 .f32) : FVec Ideal S8x2048x48x64 .f32 :=
  shapeCast _ (extractStridedSlice S8x2048x1x48x64 ![0, 0, 0, 0, 0] (shapeCast _ D shapeCasts_S8x2048x6144_S8x2048x2x48x64) slices_S8x2048x2x48x64_S8x2048x1x48x64_0_0_0_0_0) shapeCasts_S8x2048x1x48x64_S8x2048x48x64

/-- The values, head by head. -/
def values (D : FVec Ideal S8x2048x6144 .f32) : FVec Ideal S8x2048x48x64 .f32 :=
  shapeCast _ (extractStridedSlice S8x2048x1x48x64 ![0, 0, 1, 0, 0] (shapeCast _ D shapeCasts_S8x2048x6144_S8x2048x2x48x64) slices_S8x2048x2x48x64_S8x2048x1x48x64_0_0_1_0_0) shapeCasts_S8x2048x1x48x64_S8x2048x48x64

/-- The heads, group by group. -/
def grouped (K : FVec Ideal S8x2048x48x64 .f32) : FVec Ideal S8x2048x3x16x64 .f32 := shapeCast _ K shapeCasts_S8x2048x48x64_S8x2048x3x16x64

/-- Keys and values side by side. -/
def both (K V : FVec Ideal S8x2048x3x16x64 .f32) : FVec Ideal S8x2048x2x3x16x64 .f32 :=
  concatenate S8x2048x2x3x16x64 2 [⟨S8x2048x1x3x16x64, (broadcastInDim S8x2048x1x3x16x64 ![0, 1, 3, 4, 5] bcast_S8x2048x3x16x64_S8x2048x1x3x16x64_0_1_3_4_5 K)⟩, ⟨S8x2048x1x3x16x64, (broadcastInDim S8x2048x1x3x16x64 ![0, 1, 3, 4, 5] bcast_S8x2048x3x16x64_S8x2048x1x3x16x64_0_1_3_4_5 V)⟩] concatenates_S8x2048x1x3x16x64_S8x2048x1x3x16x64_S8x2048x2x3x16x64_d2

def laid (A : FVec Ideal S8x2048x2x3x16x64 .f32) : FVec Ideal S8x48x2048x128 .f32 :=
  transpose S8x48x2048x128 [0, 2, 1, 3] (shapeCast _ A shapeCasts_S8x2048x2x3x16x64_S8x2048x48x128) transposes_S8x2048x48x128_S8x48x2048x128_0_2_1_3

/-- The last 128 rows of group 0. -/
def last0 (K : FVec Ideal S8x2048x3x16x64 .f32) : FVec Ideal S8x128x16x64 .f32 :=
  shapeCast _ (extractStridedSlice S8x128x1x16x64 ![0, 1920, 0, 0, 0] K slices_S8x2048x3x16x64_S8x128x1x16x64_0_1920_0_0_0) shapeCasts_S8x128x1x16x64_S8x128x16x64

def pair0 (K V : FVec Ideal S8x128x16x64 .f32) : FVec Ideal S8x128x2x16x64 .f32 :=
  concatenate S8x128x2x16x64 2 [⟨S8x128x1x16x64, (broadcastInDim S8x128x1x16x64 ![0, 1, 3, 4] bcast_S8x128x16x64_S8x128x1x16x64_0_1_3_4 K)⟩, ⟨S8x128x1x16x64, (broadcastInDim S8x128x1x16x64 ![0, 1, 3, 4] bcast_S8x128x16x64_S8x128x1x16x64_0_1_3_4 V)⟩] concatenates_S8x128x1x16x64_S8x128x1x16x64_S8x128x2x16x64_d2

def tailLaid0 (A : FVec Ideal S8x128x2x16x64 .f32) : FVec Ideal S8x2x1024x128 .f32 :=
  transpose S8x2x1024x128 [0, 2, 3, 1] (shapeCast _ A shapeCasts_S8x128x2x16x64_S8x128x2x1024) transposes_S8x128x2x1024_S8x2x1024x128_0_2_3_1

/-- The last 512 rows of group 1. -/
def last1 (K : FVec Ideal S8x2048x3x16x64 .f32) : FVec Ideal S8x512x16x64 .f32 :=
  shapeCast _ (extractStridedSlice S8x512x1x16x64 ![0, 1536, 1, 0, 0] K slices_S8x2048x3x16x64_S8x512x1x16x64_0_1536_1_0_0) shapeCasts_S8x512x1x16x64_S8x512x16x64

def pair1 (K V : FVec Ideal S8x512x16x64 .f32) : FVec Ideal S8x512x2x16x64 .f32 :=
  concatenate S8x512x2x16x64 2 [⟨S8x512x1x16x64, (broadcastInDim S8x512x1x16x64 ![0, 1, 3, 4] bcast_S8x512x16x64_S8x512x1x16x64_0_1_3_4 K)⟩, ⟨S8x512x1x16x64, (broadcastInDim S8x512x1x16x64 ![0, 1, 3, 4] bcast_S8x512x16x64_S8x512x1x16x64_0_1_3_4 V)⟩] concatenates_S8x512x1x16x64_S8x512x1x16x64_S8x512x2x16x64_d2

def tailLaid1 (A : FVec Ideal S8x512x2x16x64 .f32) : FVec Ideal S8x2x1024x512 .f32 :=
  transpose S8x2x1024x512 [0, 2, 3, 1] (shapeCast _ A shapeCasts_S8x512x2x16x64_S8x512x2x1024) transposes_S8x512x2x1024_S8x2x1024x512_0_2_3_1

/-- The last 2048 rows of group 2. -/
def last2 (K : FVec Ideal S8x2048x3x16x64 .f32) : FVec Ideal S8x2048x16x64 .f32 :=
  shapeCast _ (extractStridedSlice S8x2048x1x16x64 ![0, 0, 2, 0, 0] K slices_S8x2048x3x16x64_S8x2048x1x16x64_0_0_2_0_0) shapeCasts_S8x2048x1x16x64_S8x2048x16x64

def pair2 (K V : FVec Ideal S8x2048x16x64 .f32) : FVec Ideal S8x2048x2x16x64 .f32 :=
  concatenate S8x2048x2x16x64 2 [⟨S8x2048x1x16x64, (broadcastInDim S8x2048x1x16x64 ![0, 1, 3, 4] bcast_S8x2048x16x64_S8x2048x1x16x64_0_1_3_4 K)⟩, ⟨S8x2048x1x16x64, (broadcastInDim S8x2048x1x16x64 ![0, 1, 3, 4] bcast_S8x2048x16x64_S8x2048x1x16x64_0_1_3_4 V)⟩] concatenates_S8x2048x1x16x64_S8x2048x1x16x64_S8x2048x2x16x64_d2

def tailLaid2 (A : FVec Ideal S8x2048x2x16x64 .f32) : FVec Ideal S8x2x1024x2048 .f32 :=
  transpose S8x2x1024x2048 [0, 2, 3, 1] (shapeCast _ A shapeCasts_S8x2048x2x16x64_S8x2048x2x1024) transposes_S8x2048x2x1024_S8x2x1024x2048_0_2_3_1

section

variable (m : (ℓ : Loc nD τ sig) → Buf (Elt Ideal) ℓ) (c : Dev nD)

theorem res_eq : Value.res_main_v59 m c
    = laid (both (grouped (turned (keys (prod (Cert.Proof.ProjRef.norm (m ((c.tc : Thread nD τ).loc main_arg0)) (m ((c.tc : Thread nD τ).loc main_arg1))) (m ((c.tc : Thread nD τ).loc main_arg2)))) (spread (Host.cos angle)) (spread (Host.sin angle)))) (grouped (values (prod (Cert.Proof.ProjRef.norm (m ((c.tc : Thread nD τ).loc main_arg0)) (m ((c.tc : Thread nD τ).loc main_arg1))) (m ((c.tc : Thread nD τ).loc main_arg2)))))) := by
  unfold Value.res_main_v59 laid both grouped turned keys values prod Cert.Proof.ProjRef.norm spread angle
  rfl

theorem tail0_eq : Value.res_main_v68 m c
    = tailLaid0 (pair0 (last0 (grouped (turned (keys (prod (Cert.Proof.ProjRef.norm (m ((c.tc : Thread nD τ).loc main_arg0)) (m ((c.tc : Thread nD τ).loc main_arg1))) (m ((c.tc : Thread nD τ).loc main_arg2)))) (spread (Host.cos angle)) (spread (Host.sin angle))))) (last0 (grouped (values (prod (Cert.Proof.ProjRef.norm (m ((c.tc : Thread nD τ).loc main_arg0)) (m ((c.tc : Thread nD τ).loc main_arg1))) (m ((c.tc : Thread nD τ).loc main_arg2))))))) := by
  unfold Value.res_main_v68 tailLaid0 pair0 last0 grouped turned keys values prod Cert.Proof.ProjRef.norm spread angle
  rfl

theorem tail1_eq : Value.res_main_v77 m c
    = tailLaid1 (pair1 (last1 (grouped (turned (keys (prod (Cert.Proof.ProjRef.norm (m ((c.tc : Thread nD τ).loc main_arg0)) (m ((c.tc : Thread nD τ).loc main_arg1))) (m ((c.tc : Thread nD τ).loc main_arg2)))) (spread (Host.cos angle)) (spread (Host.sin angle))))) (last1 (grouped (values (prod (Cert.Proof.ProjRef.norm (m ((c.tc : Thread nD τ).loc main_arg0)) (m ((c.tc : Thread nD τ).loc main_arg1))) (m ((c.tc : Thread nD τ).loc main_arg2))))))) := by
  unfold Value.res_main_v77 tailLaid1 pair1 last1 grouped turned keys values prod Cert.Proof.ProjRef.norm spread angle
  rfl

theorem tail2_eq : Value.res_main_v86 m c
    = tailLaid2 (pair2 (last2 (grouped (turned (keys (prod (Cert.Proof.ProjRef.norm (m ((c.tc : Thread nD τ).loc main_arg0)) (m ((c.tc : Thread nD τ).loc main_arg1))) (m ((c.tc : Thread nD τ).loc main_arg2)))) (spread (Host.cos angle)) (spread (Host.sin angle))))) (last2 (grouped (values (prod (Cert.Proof.ProjRef.norm (m ((c.tc : Thread nD τ).loc main_arg0)) (m ((c.tc : Thread nD τ).loc main_arg1))) (m ((c.tc : Thread nD τ).loc main_arg2))))))) := by
  unfold Value.res_main_v86 tailLaid2 pair2 last2 grouped turned keys values prod Cert.Proof.ProjRef.norm spread angle
  rfl

end

theorem prod_apply (N : FVec Ideal S8x2048x1024 .f32) (W : (⟨S1024x6144, .f32⟩ : BufTy).Contents (Elt Ideal)) (b : Fin 8) (t : Fin 2048) (q : Fin 6144) :
    (prod N W (ix3 b t q) : EReal) = ∑ k : Fin 1024, (N (ix3 b t k) : EReal) * W (ix2 k q) := by
  unfold prod
  clean_types
  pointwise

theorem heads_cast (E : FVec Ideal S8x2048x1x48x64 .f32) (b : Fin 8) (t : Fin 2048) (h : Fin 48) (x : Fin 64) :
    (shapeCast S8x2048x48x64 E shapeCasts_S8x2048x1x48x64_S8x2048x48x64 : FVec Ideal S8x2048x48x64 .f32) (ix4 b t h x) = E (ix5 b t (0 : Fin 1) h x) := by
  clean_types
  pointwise

theorem keys_part (E : FVec Ideal S8x2048x2x48x64 .f32) (b : Fin 8) (t : Fin 2048) (h : Fin 48) (x : Fin 64) :
    (extractStridedSlice S8x2048x1x48x64 ![0, 0, 0, 0, 0] E slices_S8x2048x2x48x64_S8x2048x1x48x64_0_0_0_0_0 : FVec Ideal S8x2048x1x48x64 .f32) (ix5 b t (0 : Fin 1) h x)
      = E (ix5 b t (0 : Fin 2) h x) := by
  clean_types
  pointwise

theorem values_part (E : FVec Ideal S8x2048x2x48x64 .f32) (b : Fin 8) (t : Fin 2048) (h : Fin 48) (x : Fin 64) :
    (extractStridedSlice S8x2048x1x48x64 ![0, 0, 1, 0, 0] E slices_S8x2048x2x48x64_S8x2048x1x48x64_0_0_1_0_0 : FVec Ideal S8x2048x1x48x64 .f32) (ix5 b t (0 : Fin 1) h x)
      = E (ix5 b t (1 : Fin 2) h x) := by
  clean_types
  pointwise

theorem split_apply (D : FVec Ideal S8x2048x6144 .f32) (b : Fin 8) (t : Fin 2048) (e : Fin 2) (h : Fin 48) (x : Fin 64) :
    (shapeCast S8x2048x2x48x64 D shapeCasts_S8x2048x6144_S8x2048x2x48x64 : FVec Ideal S8x2048x2x48x64 .f32) (ix5 b t e h x)
      = D (ix3 b t ⟨e.val * 3072 + h.val * 64 + x.val, by omega⟩) := by
  clean_types
  pointwise

theorem keys_apply (D : FVec Ideal S8x2048x6144 .f32) (b : Fin 8) (t : Fin 2048) (h : Fin 48) (x : Fin 64) :
    keys D (ix4 b t h x) = D (ix3 b t ⟨h.val * 64 + x.val, by omega⟩) :=
  (heads_cast _ b t h x).trans ((keys_part _ b t h x).trans ((split_apply D b t 0 h x).trans
    (congrArg (fun q => D (ix3 b t q)) (Fin.ext (show 0 * 3072 + h.val * 64 + x.val = h.val * 64 + x.val by omega)))))

theorem values_apply (D : FVec Ideal S8x2048x6144 .f32) (b : Fin 8) (t : Fin 2048) (h : Fin 48) (x : Fin 64) :
    values D (ix4 b t h x) = D (ix3 b t ⟨3072 + h.val * 64 + x.val, by omega⟩) :=
  (heads_cast _ b t h x).trans ((values_part _ b t h x).trans ((split_apply D b t 1 h x).trans
    (congrArg (fun q => D (ix3 b t q)) (Fin.ext (show 1 * 3072 + h.val * 64 + x.val = 3072 + h.val * 64 + x.val by omega)))))

theorem grouped_apply (K : FVec Ideal S8x2048x48x64 .f32) (b : Fin 8) (t : Fin 2048) (g : Fin 3) (h : Fin 16) (x : Fin 64) :
    grouped K (ix5 b t g h x) = K (ix4 b t ⟨g.val * 16 + h.val, by omega⟩ x) := by
  unfold grouped
  clean_types
  pointwise

theorem both_apply (K V : FVec Ideal S8x2048x3x16x64 .f32) (b : Fin 8) (t : Fin 2048) (e : Fin 2) (g : Fin 3) (h : Fin 16) (x : Fin 64) :
    both K V (ix6 b t e g h x) = if e.val < 1 then K (ix5 b t g h x) else V (ix5 b t g h x) := by
  unfold both
  clean_types
  pointwise
  rfl

theorem laid_apply (A : FVec Ideal S8x2048x2x3x16x64 .f32) (b : Fin 8) (n : Fin 48) (t : Fin 2048) (l : Fin 128) :
    laid A (ix4 b n t l) = A (ix6 b t ⟨n.val / 24, by omega⟩ ⟨n.val / 8 % 3, by omega⟩ ⟨n.val % 8 * 2 + l.val / 64, by omega⟩ ⟨l.val % 64, by omega⟩) := by
  unfold laid
  clean_types
  pointwise

theorem last0_apply (K : FVec Ideal S8x2048x3x16x64 .f32) (b : Fin 8) (s : Fin 128) (h : Fin 16) (x : Fin 64) :
    last0 K (ix4 b s h x) = K (ix5 b ⟨1920 + s.val, by omega⟩ (0 : Fin 3) h x) := by
  unfold last0
  clean_types
  pointwise

theorem pair0_apply (K V : FVec Ideal S8x128x16x64 .f32) (b : Fin 8) (s : Fin 128) (e : Fin 2) (h : Fin 16) (x : Fin 64) :
    pair0 K V (ix5 b s e h x) = if e.val < 1 then K (ix4 b s h x) else V (ix4 b s h x) := by
  unfold pair0
  clean_types
  pointwise
  rfl

theorem tailLaid0_apply (A : FVec Ideal S8x128x2x16x64 .f32) (b : Fin 8) (e : Fin 2) (d : Fin 1024) (s : Fin 128) :
    tailLaid0 A (ix4 b e d s) = A (ix5 b s e ⟨d.val / 64, by omega⟩ ⟨d.val % 64, by omega⟩) := by
  unfold tailLaid0
  clean_types
  pointwise

theorem last1_apply (K : FVec Ideal S8x2048x3x16x64 .f32) (b : Fin 8) (s : Fin 512) (h : Fin 16) (x : Fin 64) :
    last1 K (ix4 b s h x) = K (ix5 b ⟨1536 + s.val, by omega⟩ (1 : Fin 3) h x) := by
  unfold last1
  clean_types
  pointwise

theorem pair1_apply (K V : FVec Ideal S8x512x16x64 .f32) (b : Fin 8) (s : Fin 512) (e : Fin 2) (h : Fin 16) (x : Fin 64) :
    pair1 K V (ix5 b s e h x) = if e.val < 1 then K (ix4 b s h x) else V (ix4 b s h x) := by
  unfold pair1
  clean_types
  pointwise
  rfl

theorem tailLaid1_apply (A : FVec Ideal S8x512x2x16x64 .f32) (b : Fin 8) (e : Fin 2) (d : Fin 1024) (s : Fin 512) :
    tailLaid1 A (ix4 b e d s) = A (ix5 b s e ⟨d.val / 64, by omega⟩ ⟨d.val % 64, by omega⟩) := by
  unfold tailLaid1
  clean_types
  pointwise

theorem last2_apply (K : FVec Ideal S8x2048x3x16x64 .f32) (b : Fin 8) (s : Fin 2048) (h : Fin 16) (x : Fin 64) :
    last2 K (ix4 b s h x) = K (ix5 b ⟨0 + s.val, by omega⟩ (2 : Fin 3) h x) := by
  unfold last2
  clean_types
  pointwise

theorem pair2_apply (K V : FVec Ideal S8x2048x16x64 .f32) (b : Fin 8) (s : Fin 2048) (e : Fin 2) (h : Fin 16) (x : Fin 64) :
    pair2 K V (ix5 b s e h x) = if e.val < 1 then K (ix4 b s h x) else V (ix4 b s h x) := by
  unfold pair2
  clean_types
  pointwise
  rfl

theorem tailLaid2_apply (A : FVec Ideal S8x2048x2x16x64 .f32) (b : Fin 8) (e : Fin 2) (d : Fin 1024) (s : Fin 2048) :
    tailLaid2 A (ix4 b e d s) = A (ix5 b s e ⟨d.val / 64, by omega⟩ ⟨d.val % 64, by omega⟩) := by
  unfold tailLaid2
  clean_types
  pointwise

/-- The reference's lane `l` of the pair of heads `n` at time `t`. -/
def laneOf (X : (⟨S8x2048x1024, .f32⟩ : BufTy).Contents (Elt Ideal)) (g : (⟨S1024, .f32⟩ : BufTy).Contents (Elt Ideal))
    (W : (⟨S1024x6144, .f32⟩ : BufTy).Contents (Elt Ideal)) (b : Fin 8) (n : Fin 48) (t : Fin 2048) (l : Fin 128) : EReal :=
  ropeV (by decide : 48 * 128 = 6144) (projV (fun k => X (ix3 b t k)) (fun k => g (ix1 k)) (fun k q => W (ix2 k q))) ((Host.cos angle : FVec Ideal S2048x32 .f32) (ix2 t ⟨l.val % 32, Nat.mod_lt _ (by decide)⟩))
    ((Host.sin angle : FVec Ideal S2048x32 .f32) (ix2 t ⟨l.val % 32, Nat.mod_lt _ (by decide)⟩)) n l

theorem proj_apply (X : (⟨S8x2048x1024, .f32⟩ : BufTy).Contents (Elt Ideal)) (g : (⟨S1024, .f32⟩ : BufTy).Contents (Elt Ideal))
    (W : (⟨S1024x6144, .f32⟩ : BufTy).Contents (Elt Ideal)) (b : Fin 8) (t : Fin 2048) (q : Fin 6144) :
    (prod (Cert.Proof.ProjRef.norm X g) W (ix3 b t q) : EReal) = projV (fun k => X (ix3 b t k)) (fun k => g (ix1 k)) (fun k q => W (ix2 k q)) q := by
  rw [prod_apply]
  exact Finset.sum_congr rfl fun k _ => by rw [norm_apply]

/-- A key's channel. -/
theorem key_lane (X : (⟨S8x2048x1024, .f32⟩ : BufTy).Contents (Elt Ideal)) (g : (⟨S1024, .f32⟩ : BufTy).Contents (Elt Ideal))
    (W : (⟨S1024x6144, .f32⟩ : BufTy).Contents (Elt Ideal)) (b : Fin 8) (t : Fin 2048) (n : Fin 48) (l : Fin 128) (hn : n.val < 24)
    (j : Fin 3) (h : Fin 16) (x : Fin 64) (e : (j.val * 16 + h.val) * 64 + x.val = n.val * 128 + l.val) :
    (grouped (turned (keys (prod (Cert.Proof.ProjRef.norm X g) W)) (spread (Host.cos angle)) (spread (Host.sin angle))) (ix5 b t j h x) : EReal) = laneOf X g W b n t l := by
  refine (grouped_apply _ b t j h x).trans ?_
  unfold laneOf
  refine turned_rope (by decide : 48 * 128 = 6144) (by decide) _ _ _ _ b t (fun h x => ?_) n hn l _ x e
  exact (keys_apply _ b t h x).trans (proj_apply X g W b t _)

/-- A value's channel. -/
theorem value_lane (X : (⟨S8x2048x1024, .f32⟩ : BufTy).Contents (Elt Ideal)) (g : (⟨S1024, .f32⟩ : BufTy).Contents (Elt Ideal))
    (W : (⟨S1024x6144, .f32⟩ : BufTy).Contents (Elt Ideal)) (b : Fin 8) (t : Fin 2048) (n : Fin 48) (l : Fin 128) (hn : ¬ n.val < 24)
    (j : Fin 3) (h : Fin 16) (x : Fin 64) (e : 3072 + (j.val * 16 + h.val) * 64 + x.val = n.val * 128 + l.val) :
    (grouped (values (prod (Cert.Proof.ProjRef.norm X g) W)) (ix5 b t j h x) : EReal) = laneOf X g W b n t l := by
  refine (grouped_apply _ b t j h x).trans ((values_apply _ b t _ x).trans ((proj_apply X g W b t _).trans ?_))
  refine Eq.trans ?_ (blockV_plain (by decide : 48 * 128 = 6144) _ _ _ _ _ hn).symm
  exact congrArg (projV _ _ _) (Fin.ext e)

section

variable (m : (ℓ : Loc nD τ sig) → Buf (Elt Ideal) ℓ) (c : Dev nD)

/-- The reference's keys and values, entry by entry. -/
theorem res_apply (b : Fin 8) (n : Fin 48) (t : Fin 2048) (l : Fin 128) :
    (Value.res_main_v59 m c (ix4 b n t l) : EReal) = laneOf (m ((c.tc : Thread nD τ).loc main_arg0)) (m ((c.tc : Thread nD τ).loc main_arg1)) (m ((c.tc : Thread nD τ).loc main_arg2)) b n t l := by
  rw [res_eq, laid_apply, both_apply]
  by_cases hn : n.val < 24
  · rw [if_pos (show n.val / 24 < 1 by omega)]
    exact key_lane _ _ _ b t n l hn _ _ _ (by show (n.val / 8 % 3 * 16 + (n.val % 8 * 2 + l.val / 64)) * 64 + l.val % 64 = n.val * 128 + l.val; omega)
  · rw [if_neg (show ¬ n.val / 24 < 1 by omega)]
    exact value_lane _ _ _ b t n l hn _ _ _ (by show 3072 + (n.val / 8 % 3 * 16 + (n.val % 8 * 2 + l.val / 64)) * 64 + l.val % 64 = n.val * 128 + l.val; omega)

/-- The reference's last 128 rows of group 0, entry by entry. -/
theorem tail0_apply (b : Fin 8) (e : Fin 2) (d : Fin 1024) (s : Fin 128) :
    (Value.res_main_v68 m c (ix4 b e d s) : EReal)
      = laneOf (m ((c.tc : Thread nD τ).loc main_arg0)) (m ((c.tc : Thread nD τ).loc main_arg1)) (m ((c.tc : Thread nD τ).loc main_arg2)) b ⟨e.val * 24 + 0 + d.val / 128, by omega⟩ ⟨1920 + s.val, by omega⟩ ⟨d.val % 128, by omega⟩ := by
  rw [tail0_eq, tailLaid0_apply, pair0_apply]
  by_cases he : e.val < 1
  · rw [if_pos he]
    refine (last0_apply _ b s _ _).trans ?_
    exact key_lane _ _ _ b _ _ _ (by show e.val * 24 + 0 + d.val / 128 < 24; omega) _ _ _
      (by show (0 * 16 + d.val / 64) * 64 + d.val % 64 = (e.val * 24 + 0 + d.val / 128) * 128 + d.val % 128; omega)
  · rw [if_neg he]
    refine (last0_apply _ b s _ _).trans ?_
    exact value_lane _ _ _ b _ _ _ (by show ¬ e.val * 24 + 0 + d.val / 128 < 24; omega) _ _ _
      (by show 3072 + (0 * 16 + d.val / 64) * 64 + d.val % 64 = (e.val * 24 + 0 + d.val / 128) * 128 + d.val % 128; omega)

/-- The reference's last 512 rows of group 1, entry by entry. -/
theorem tail1_apply (b : Fin 8) (e : Fin 2) (d : Fin 1024) (s : Fin 512) :
    (Value.res_main_v77 m c (ix4 b e d s) : EReal)
      = laneOf (m ((c.tc : Thread nD τ).loc main_arg0)) (m ((c.tc : Thread nD τ).loc main_arg1)) (m ((c.tc : Thread nD τ).loc main_arg2)) b ⟨e.val * 24 + 8 + d.val / 128, by omega⟩ ⟨1536 + s.val, by omega⟩ ⟨d.val % 128, by omega⟩ := by
  rw [tail1_eq, tailLaid1_apply, pair1_apply]
  by_cases he : e.val < 1
  · rw [if_pos he]
    refine (last1_apply _ b s _ _).trans ?_
    exact key_lane _ _ _ b _ _ _ (by show e.val * 24 + 8 + d.val / 128 < 24; omega) _ _ _
      (by show (1 * 16 + d.val / 64) * 64 + d.val % 64 = (e.val * 24 + 8 + d.val / 128) * 128 + d.val % 128; omega)
  · rw [if_neg he]
    refine (last1_apply _ b s _ _).trans ?_
    exact value_lane _ _ _ b _ _ _ (by show ¬ e.val * 24 + 8 + d.val / 128 < 24; omega) _ _ _
      (by show 3072 + (1 * 16 + d.val / 64) * 64 + d.val % 64 = (e.val * 24 + 8 + d.val / 128) * 128 + d.val % 128; omega)

/-- The reference's last 2048 rows of group 2, entry by entry. -/
theorem tail2_apply (b : Fin 8) (e : Fin 2) (d : Fin 1024) (s : Fin 2048) :
    (Value.res_main_v86 m c (ix4 b e d s) : EReal)
      = laneOf (m ((c.tc : Thread nD τ).loc main_arg0)) (m ((c.tc : Thread nD τ).loc main_arg1)) (m ((c.tc : Thread nD τ).loc main_arg2)) b ⟨e.val * 24 + 16 + d.val / 128, by omega⟩ ⟨0 + s.val, by omega⟩ ⟨d.val % 128, by omega⟩ := by
  rw [tail2_eq, tailLaid2_apply, pair2_apply]
  by_cases he : e.val < 1
  · rw [if_pos he]
    refine (last2_apply _ b s _ _).trans ?_
    exact key_lane _ _ _ b _ _ _ (by show e.val * 24 + 16 + d.val / 128 < 24; omega) _ _ _
      (by show (2 * 16 + d.val / 64) * 64 + d.val % 64 = (e.val * 24 + 16 + d.val / 128) * 128 + d.val % 128; omega)
  · rw [if_neg he]
    refine (last2_apply _ b s _ _).trans ?_
    exact value_lane _ _ _ b _ _ _ (by show ¬ e.val * 24 + 16 + d.val / 128 < 24; omega) _ _ _
      (by show 3072 + (2 * 16 + d.val / 64) * 64 + d.val % 64 = (e.val * 24 + 16 + d.val / 128) * 128 + d.val % 128; omega)

end

end Cert.Proof.KvProjRef

end
-- ==== Proof.KvProj.Claims.lean ====
module

public import proofs.«01_k».proof.Defs
public import proofs.«01_k».proof.Proof.Gen.Kernel3
public import proofs.«01_k».proof.Proof.Gen.Reference3Ideal.Run
public import proofs.«01_k».proof.Proof.Frames
public import proofs.«01_k».proof.Proof.Proj.Claims
public import proofs.«01_k».proof.Proof.KvProj.Result
public import proofs.«01_k».proof.Proof.KvProj.Ref
public import Idealize.ShloMosaic.Lib.Claim

@[expose] public section

set_option maxRecDepth 65536

noncomputable section

/-! The claims of the key and value projection. -/

namespace Cert.Proof.KvProj

open Idealize.ShloMosaic Idealize.ShloMosaic.TcCoe Idealize.ShloMosaic.Tactic Idealize.SL Idealize.SL.Sem Idealize.ShloMosaic.StableHlo

theorem frame_kernelIdeal : Cert.quiescent_Kernel3Ideal (hKernel3Ideal := Cert.Kernel3Ideal.Gen.facts) :=
  fun m g _ => Cert.Kernel3Ideal.Gen.frame m g

theorem frame_kernel : Cert.quiescent_Kernel3 (hKernel3 := Cert.Kernel3.Gen.facts) := by
  intro m g _
  have h := Cert.Kernel3Ideal.Gen.frame (F := Bits) m g
  refine cast ?_ h
  sl_kernel_rfl

/-- The frame of the reference: its run, read at the three arguments; it declares no semaphore. -/
theorem frame_reference : Cert.quiescent_Reference3Ideal (hReference3Ideal := Cert.Reference3Ideal.Gen.facts) := fun m g _ =>
  (θ_run Cert.Reference3Ideal.defs _ _).mono
    (fun r h => ⟨fun c => (h c).2.2.2.2, sem_eq_zero_of_no_sems (by decide) r.2⟩)
    (Cert.Reference3Ideal.Value.run (F := Ideal) m g)

theorem preserves : Cert.preserves_Kernel3_Kernel3Ideal := by
  trivial

section

variable (m : (ℓ : Loc Cert.Reference3Ideal.nD Cert.Reference3Ideal.τ Cert.Reference3Ideal.sig) → Buf (Elt Ideal) ℓ) (c : Dev Cert.Reference3Ideal.nD)

/-- The reference's lane is the kernel's: the two programs compute the angles by the same operations. -/
theorem lane_eq (b : Fin 8) (n : Fin 48) (t : Fin 2048) (l : Fin 128) :
    KvProjRef.laneOf (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) b n t l = result (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (ix4 b n t l) := by
  unfold KvProjRef.laneOf
  rw [Proj.cos_ref, Proj.sin_ref]
  rfl

/-- The reference's keys and values are the kernel's, as a function of the arguments. -/
theorem res_eq_result : Cert.Reference3Ideal.Value.res_main_v59 m c = result (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) := by
  funext i
  have e := eq_ix4 (n0 := 8) (n1 := 48) (n2 := 2048) (n3 := 128) i
  refine (congrArg (Cert.Reference3Ideal.Value.res_main_v59 m c) e).trans ?_
  refine (KvProjRef.res_apply m c (i 0) (i 1) (i 2) (i 3)).trans ((lane_eq m c _ _ _ _).trans ?_)
  exact congrArg (result _ _ _) e.symm

theorem tail0_eq_result : Cert.Reference3Ideal.Value.res_main_v68 m c = tail0 (result (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) := by
  funext i
  have e := eq_ix4 (n0 := 8) (n1 := 2) (n2 := 1024) (n3 := 128) i
  refine (congrArg (Cert.Reference3Ideal.Value.res_main_v68 m c) e).trans ?_
  exact (KvProjRef.tail0_apply m c (i 0) (i 1) (i 2) (i 3)).trans (lane_eq m c _ _ _ _)

theorem tail1_eq_result : Cert.Reference3Ideal.Value.res_main_v77 m c = tail1 (result (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) := by
  funext i
  have e := eq_ix4 (n0 := 8) (n1 := 2) (n2 := 1024) (n3 := 512) i
  refine (congrArg (Cert.Reference3Ideal.Value.res_main_v77 m c) e).trans ?_
  exact (KvProjRef.tail1_apply m c (i 0) (i 1) (i 2) (i 3)).trans (lane_eq m c _ _ _ _)

theorem tail2_eq_result : Cert.Reference3Ideal.Value.res_main_v86 m c = tail2 (result (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) := by
  funext i
  have e := eq_ix4 (n0 := 8) (n1 := 2) (n2 := 1024) (n3 := 2048) i
  refine (congrArg (Cert.Reference3Ideal.Value.res_main_v86 m c) e).trans ?_
  exact (KvProjRef.tail2_apply m c (i 0) (i 1) (i 2) (i 3)).trans (lane_eq m c _ _ _ _)

end

/-- The kernel and the reference end with the same four arrays. -/
theorem algebraic : Cert.algebraic_Kernel3Ideal_Reference3Ideal (hKernel3Ideal := Cert.Kernel3Ideal.Gen.facts)
    (hReference3Ideal := Cert.Reference3Ideal.Gen.facts) := by
  intro m g m' g' _ hagree
  refine ⟨fun c => result (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    fun c => tail0 (result (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))),
    fun c => tail1 (result (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))),
    fun c => tail2 (result (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))), ?_, ?_⟩
  · refine (θ_run Cert.Kernel3Ideal.defs _ _).mono
      (fun r h c => ⟨((h.1 c).1 5).trans (final5 m c), ((h.1 c).1 6).trans (final6 m c), ((h.1 c).1 7).trans (final7 m c), ((h.1 c).1 8).trans (final8 m c), h.2 c⟩)
      (θ_run_and (Cert.Kernel3Ideal.Gen.run_main (F := Ideal) m g) (Cert.Kernel3Ideal.Gen.unchanged (F := Ideal) m g))
  · have hr : ∀ c : Dev Cert.Reference3Ideal.nD, result (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))
        = result (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) := fun c =>
      congr (congr (congrArg result (hagree c).1) (hagree c).2.1) (hagree c).2.2
    refine (θ_run Cert.Reference3Ideal.defs _ _).mono
      (fun r h c => ⟨(h c).1.trans ((res_eq_result m' c).trans (hr c)), (h c).2.1.trans ((tail0_eq_result m' c).trans (congrArg tail0 (hr c))),
        (h c).2.2.1.trans ((tail1_eq_result m' c).trans (congrArg tail1 (hr c))), (h c).2.2.2.1.trans ((tail2_eq_result m' c).trans (congrArg tail2 (hr c))), (h c).2.2.2.2⟩)
      (Cert.Reference3Ideal.Value.run (F := Ideal) m' g')

end Cert.Proof.KvProj

end
-- ==== Proof.Post.Spec.lean ====
module

public import proofs.«01_k».proof.Proof.Proj.Spec
public import Idealize.ShloMosaic.Lib.Pointwise

@[expose] public section

set_option maxRecDepth 16384

noncomputable section

/-! # The end of a layer over extended real numbers -/

namespace Cert.Proof.Post

open Idealize.ShloMosaic

/-- The attention's output `o` times the gate `z` times its logistic function. -/
def gateV (o z : EReal) : EReal :=
  o * (z * Ideal.div (Ideal.ofBits .f32 0x3F800000#32) (Ideal.ofBits .f32 0x3F800000#32 + Ideal.exp (-z)))

/-- A row `x` plus the gated row times the matrix `w`. -/
def postV (x o z : Fin 1024 → EReal) (w : Fin 1024 → Fin 1024 → EReal) (q : Fin 1024) : EReal :=
  x q + ∑ k, gateV (o k) (z k) * w k q

end Cert.Proof.Post

end
-- ==== Proof.Post.Body.lean ====
module

public import proofs.«01_k».proof.Proof.Post.Spec
public import proofs.«01_k».proof.Proof.Gen.Kernel4Ideal.Frame
public import Idealize.ShloMosaic.Lib.Pointwise
public import Idealize.ShloMosaic.Lib.Tactic.CleanTypes
public import Idealize.ShloMosaic.Lib.Tactic.IndexArith

@[expose] public section

set_option maxRecDepth 16384

noncomputable section

/-! What the body stores, entry by entry. -/

namespace Cert.Proof.Post

open Cert.Kernel4Ideal Cert.Kernel4Ideal.Gen
open Idealize.ShloMosaic Idealize.ShloMosaic.TcCoe

/-- Eight pairs of heads side by side. -/
theorem wide_apply (G : Fin 8 → Vec Ideal S1x1x512x128 .f32) (r : Fin 512) (k : Fin 1024) :
    (k0_pay2 (G 0) (G 1) (G 2) (G 3) (G 4) (G 5) (G 6) (G 7) (ix2 r k) : EReal)
      = G ⟨k.val / 128, by omega⟩ (ix4 (0 : Fin 1) (0 : Fin 1) r ⟨k.val % 128, Nat.mod_lt _ (by decide)⟩) := by
  have e : ∀ (j : Fin 8) (n : ℕ) (h : n < 128), j.val * 128 + n = k.val →
      (G j (ix4 (0 : Fin 1) (0 : Fin 1) r ⟨n, h⟩) : EReal) = G ⟨k.val / 128, by omega⟩ (ix4 (0 : Fin 1) (0 : Fin 1) r ⟨k.val % 128, Nat.mod_lt _ (by decide)⟩) := by
    intro j n h hk
    have h1 : j = ⟨k.val / 128, by omega⟩ := Fin.ext (by show j.val = k.val / 128; omega)
    have h2 : (⟨n, h⟩ : Fin 128) = ⟨k.val % 128, Nat.mod_lt _ (by decide)⟩ := Fin.ext (by show n = k.val % 128; omega)
    rw [h2, ← h1]
  unfold k0_pay2
  clean_types
  pointwise
  split_ifs <;> exact e _ _ _ (by omega)

/-- The gated rows. -/
theorem gated_apply (z : FVec Ideal S512x1024 .f32) (G : Fin 8 → Vec Ideal S1x1x512x128 .f32) (r : Fin 512) (k : Fin 1024) :
    (k0_pay5 z (k0_pay3 (G 0)) (G 1) (G 2) (G 3) (G 4) (G 5) (G 6) (G 7) (ix2 r k) : EReal)
      = gateV (G ⟨k.val / 128, by omega⟩ (ix4 (0 : Fin 1) (0 : Fin 1) r ⟨k.val % 128, Nat.mod_lt _ (by decide)⟩)) (z (ix2 r k)) := by
  have e : (k0_pay5 z (k0_pay3 (G 0)) (G 1) (G 2) (G 3) (G 4) (G 5) (G 6) (G 7) (ix2 r k) : EReal)
      = (k0_pay2 (G 0) (G 1) (G 2) (G 3) (G 4) (G 5) (G 6) (G 7) (ix2 r k) : EReal)
        * (z (ix2 r k) * Ideal.div (Ideal.ofBits .f32 0x3F800000#32) (Ideal.ofBits .f32 0x3F800000#32 + Ideal.exp (Ideal.ofBits .f32 0x00000000#32 - z (ix2 r k)))) := rfl
  rw [e, wide_apply, show Ideal.ofBits .f32 0x00000000#32 = 0 from by simp, zero_sub]
  rfl

theorem post_apply (x : FVec Ideal S512x1024 .f32) (a : FVec Ideal S512x1024 .bf16) (w : FVec Ideal S1024x1024 .bf16) (r : Fin 512) (q : Fin 1024) :
    (k0_pay1 x a w (ix2 r q) : EReal) = (x (ix2 r q) : EReal) + ∑ k : Fin 1024, (a (ix2 r k) : EReal) * w (ix2 k q) := by
  unfold k0_pay1
  clean_types
  pointwise

theorem ld_pair (x : Vec Ideal S1x8x512x128 .f32) (j : Fin 8) (i : S1x8x512x128.Idx) (r : Fin 512) (l : Fin 128)
    (h0 : (i 0).val = 0) (h1 : (i 1).val = j.val) (h2 : (i 2).val = r.val) (h3 : (i 3).val = l.val) : x i = x (ix4 (0 : Fin 1) j r l) := by
  refine congrArg x (funext fun a => Fin.ext ?_)
  match a with
  | ⟨0, _⟩ => exact h0
  | ⟨1, _⟩ => exact h1
  | ⟨2, _⟩ => exact h2
  | ⟨3, _⟩ => exact h3

/-- The eight pairs the body loads of a block. -/
def pairs (x : Vec Ideal S1x8x512x128 .f32) : Fin 8 → Vec Ideal S1x1x512x128 .f32 :=
  ![View.ld x r0_0, View.ld x r0_1, View.ld x r0_2, View.ld x r0_3, View.ld x r0_4, View.ld x r0_5, View.ld x r0_6, View.ld x r0_7]

theorem pairs_apply (x : Vec Ideal S1x8x512x128 .f32) (j : Fin 8) (r : Fin 512) (l : Fin 128) :
    pairs x j (ix4 (0 : Fin 1) (0 : Fin 1) r l) = x (ix4 (0 : Fin 1) j r l) := by
  have e2 : 0 + 1 * r.val = r.val := by omega
  have e3 : 0 + 1 * l.val = l.val := by omega
  match j with
  | 0 => exact ld_pair x 0 _ r l rfl rfl e2 e3
  | 1 => exact ld_pair x 1 _ r l rfl rfl e2 e3
  | 2 => exact ld_pair x 2 _ r l rfl rfl e2 e3
  | 3 => exact ld_pair x 3 _ r l rfl rfl e2 e3
  | 4 => exact ld_pair x 4 _ r l rfl rfl e2 e3
  | 5 => exact ld_pair x 5 _ r l rfl rfl e2 e3
  | 6 => exact ld_pair x 6 _ r l rfl rfl e2 e3
  | 7 => exact ld_pair x 7 _ r l rfl rfl e2 e3

/-- The gated block. -/
def gated (x0 x1 : Vec Ideal S1x8x512x128 .f32) : FVec Ideal S512x1024 .bf16 :=
  k0_pay5 (k0_pay2 (pairs x1 0) (pairs x1 1) (pairs x1 2) (pairs x1 3) (pairs x1 4) (pairs x1 5) (pairs x1 6) (pairs x1 7))
    (k0_pay3 (pairs x0 0)) (pairs x0 1) (pairs x0 2) (pairs x0 3) (pairs x0 4) (pairs x0 5) (pairs x0 6) (pairs x0 7)

/-- Column `k` of row `r` of a block that lies in pairs of heads. -/
def flat (x : Vec Ideal S1x8x512x128 .f32) (r : Fin 512) (k : Fin 1024) : EReal :=
  x (ix4 (0 : Fin 1) (⟨k.val / 128, by omega⟩ : Fin 8) r ⟨k.val % 128, Nat.mod_lt _ (by decide)⟩)

theorem gated_at (x0 x1 : Vec Ideal S1x8x512x128 .f32) (r : Fin 512) (k : Fin 1024) :
    (gated x0 x1 (ix2 r k) : EReal) = gateV (flat x0 r k) (flat x1 r k) := by
  unfold gated flat
  rw [gated_apply, wide_apply, pairs_apply, pairs_apply]

/-- Row `r` of a block before the last norm. -/
def blockRow (x0 x1 : Vec Ideal S1x8x512x128 .f32) (x2 : Vec Ideal S512x1024 .f32) (x3 : Vec Ideal S1024x1024 .bf16) (r : Fin 512) : Fin 1024 → EReal :=
  postV (fun k => x2 (ix2 r k)) (flat x0 r) (flat x1 r) (fun k q => x3 (ix2 k q))

theorem whole_rows (x : Vec Ideal S512x1024 .f32) : k0_pay4 (View.ld x r0_8) = x :=
  (shapeCast_self _ _).trans (View.ld_unit_zero (by decide) _ _)

theorem whole_weights (x : Vec Ideal S1024x1024 .bf16) : k0_pay6 (View.ld x r0_9) = x :=
  (shapeCast_self _ _).trans (View.ld_unit_zero (by decide) _ _)

/-- The stored block before the last norm. -/
theorem stored_apply (x0 x1 : Vec Ideal S1x8x512x128 .f32) (x2 : Vec Ideal S512x1024 .f32) (x3 : Vec Ideal S1024x1024 .bf16) (r : Fin 512) (q : Fin 1024) :
    (k0_pay1 (k0_pay4 (View.ld x2 r0_8)) (gated x0 x1) (k0_pay6 (View.ld x3 r0_9)) (ix2 r q) : EReal) = blockRow x0 x1 x2 x3 r q := by
  rw [post_apply, whole_rows, whole_weights]
  unfold blockRow postV
  exact congrArg _ (Finset.sum_congr rfl fun k _ => by rw [gated_at])

/-- A place of a block stored as a whole is its own. -/
theorem place (x : S512x1024.Idx) : (r0_8.emb x : S512x1024.Idx) = x := by
  refine funext fun a => Fin.ext ?_
  match a with
  | ⟨0, _⟩ => show 0 + 1 * (x 0).val = (x 0).val; omega
  | ⟨1, _⟩ => show 0 + 1 * (x 1).val = (x 1).val; omega

theorem out_apply (x0 x1 : Vec Ideal S1x8x512x128 .f32) (x2 : Vec Ideal S512x1024 .f32) (x3 : Vec Ideal S1024x1024 .bf16) (r : Fin 512) (q : Fin 1024) :
    (out0_4 x0 x1 x2 x3 (ix2 r q) : EReal) = blockRow x0 x1 x2 x3 r q := by
  refine View.canon_apply_of_pieces (Val := Elt Ideal) (e := .f32) (fun y => blockRow x0 x1 x2 x3 (y 0) (y 1)) _
    (List.forall_mem_cons.2 ⟨fun x => ?_, fun _ h => absurd h List.not_mem_nil⟩) (ix2 r q) (cover0_4 _ _)
  refine Eq.trans ?_ (congrArg (fun y : S512x1024.Idx => blockRow x0 x1 x2 x3 (y 0) (y 1)) (place x).symm)
  refine Eq.trans ?_ (stored_apply x0 x1 x2 x3 (x 0) (x 1))
  exact congrArg (k0_pay1 (k0_pay4 (View.ld x2 r0_8)) (gated x0 x1) (k0_pay6 (View.ld x3 r0_9))) (eq_ix2 (n0 := 512) (n1 := 1024) x)

end Cert.Proof.Post

end
-- ==== Proof.Post.Result.lean ====
module

public import proofs.«01_k».proof.Proof.Post.Body
public import proofs.«01_k».proof.Proof.Proj.Result

@[expose] public section

set_option maxRecDepth 16384

noncomputable section

/-! The result of a layer's end: its blocks, put together. -/

namespace Cert.Proof.Post

open Cert.Kernel4Ideal
open Idealize.ShloMosaic Idealize.ShloMosaic.TcCoe Idealize.SL.Sem
open Idealize.ShloMosaic.Pipeline (Dat)
open Cert.Kernel4Ideal.Gen

/-- Row `t` of sequence `b` after the layer. -/
def rowOf (O : (⟨S8x2048x1024, .f32⟩ : BufTy).Contents (Elt Ideal)) (P : (⟨S8x2048x4096, .f32⟩ : BufTy).Contents (Elt Ideal)) (X : (⟨S8x2048x1024, .f32⟩ : BufTy).Contents (Elt Ideal))
    (W : (⟨S1024x1024, .f32⟩ : BufTy).Contents (Elt Ideal)) (b : Fin 8) (t : Fin 2048) : Fin 1024 → EReal :=
  postV (fun k => X (ix3 b t k)) (fun k => O (ix3 b t k)) (fun k => P (ix3 b t ⟨3072 + k.val, by omega⟩)) (fun k q => W (ix2 k q))

/-- The row of the result in which time `t` of sequence `b` stands. -/
theorem rowOf_at (O : (⟨S8x2048x1024, .f32⟩ : BufTy).Contents (Elt Ideal)) (P : (⟨S8x2048x4096, .f32⟩ : BufTy).Contents (Elt Ideal)) (X : (⟨S8x2048x1024, .f32⟩ : BufTy).Contents (Elt Ideal))
    (W : (⟨S1024x1024, .f32⟩ : BufTy).Contents (Elt Ideal)) (b : Fin 8) (t : Fin 2048) :
    rowOf O P X W b t = rowOf O P X W (⟨(b.val * 2048 + t.val) / 2048, by omega⟩ : Fin 8) (⟨(b.val * 2048 + t.val) % 2048, Nat.mod_lt _ (by decide)⟩ : Fin 2048) := by
  have h1 : b = ⟨(b.val * 2048 + t.val) / 2048, by omega⟩ := Fin.ext (by show b.val = (b.val * 2048 + t.val) / 2048; omega)
  have h2 : t = ⟨(b.val * 2048 + t.val) % 2048, Nat.mod_lt _ (by decide)⟩ := Fin.ext (by show t.val = (b.val * 2048 + t.val) % 2048; omega)
  exact congr (congrArg (rowOf O P X W) h1) h2

/-- The result from the four arguments. -/
def result (O : (⟨S8x2048x1024, .f32⟩ : BufTy).Contents (Elt Ideal)) (P : (⟨S8x2048x4096, .f32⟩ : BufTy).Contents (Elt Ideal)) (X : (⟨S8x2048x1024, .f32⟩ : BufTy).Contents (Elt Ideal))
    (W : (⟨S1024x1024, .f32⟩ : BufTy).Contents (Elt Ideal)) : (⟨S16384x1024, .f32⟩ : BufTy).Contents (Elt Ideal) := fun i =>
  rowOf O P X W (⟨(i 0).val / 2048, Nat.div_lt_of_lt_mul (i 0).isLt⟩ : Fin 8) (⟨(i 0).val % 2048, Nat.mod_lt _ (by decide)⟩ : Fin 2048) (i 1)

theorem attention_apply (O : (⟨S8x2048x1024, .f32⟩ : BufTy).Contents (Elt Ideal)) (b : Fin 8) (n : Fin 8) (t : Fin 2048) (l : Fin 128) :
    (transpose S8x8x2048x128 [0, 2, 1, 3] (shapeCast S8x2048x8x128 O shapeCasts_S8x2048x1024_S8x2048x8x128) transposes_S8x2048x8x128_S8x8x2048x128_0_2_1_3 :
      (⟨S8x8x2048x128, .f32⟩ : BufTy).Contents (Elt Ideal)) (ix4 b n t l) = O (ix3 b t ⟨n.val * 128 + l.val, by omega⟩) := by
  clean_types
  pointwise

theorem gate_apply (P : (⟨S8x2048x4096, .f32⟩ : BufTy).Contents (Elt Ideal)) (b : Fin 8) (n : Fin 32) (t : Fin 2048) (l : Fin 128) :
    (transpose S8x32x2048x128 [0, 2, 1, 3] (shapeCast S8x2048x32x128 P shapeCasts_S8x2048x4096_S8x2048x32x128) transposes_S8x2048x32x128_S8x32x2048x128_0_2_1_3 :
      (⟨S8x32x2048x128, .f32⟩ : BufTy).Contents (Elt Ideal)) (ix4 b n t l) = P (ix3 b t ⟨n.val * 128 + l.val, by omega⟩) := by
  clean_types
  pointwise

variable (m : (ℓ : Loc nD τ sig) → Buf (Elt Ideal) ℓ) (c : Dev nD)

/-! ## The arrays before the call -/

theorem attention_eq : V m c main_v1 = transpose S8x8x2048x128 [0, 2, 1, 3] (shapeCast S8x2048x8x128 (m ((c : Thread nD τ).loc main_arg0)) shapeCasts_S8x2048x1024_S8x2048x8x128)
    transposes_S8x2048x8x128_S8x8x2048x128_0_2_1_3 := by
  simp only [V, hostOps0]
  after_results_simp
  rfl

theorem gate_eq : V m c main_v3 = transpose S8x32x2048x128 [0, 2, 1, 3] (shapeCast S8x2048x32x128 (m ((c : Thread nD τ).loc main_arg1)) shapeCasts_S8x2048x4096_S8x2048x32x128)
    transposes_S8x2048x32x128_S8x32x2048x128_0_2_1_3 := by
  simp only [V, hostOps0]
  after_results_simp
  rfl

theorem rows_eq : V m c main_v4 = shapeCast S16384x1024 (m ((c : Thread nD τ).loc main_arg2)) shapeCasts_S8x2048x1024_S16384x1024 := by
  simp only [V, hostOps0]
  after_results_simp
  rfl

theorem weights_eq : V m c main_v5 = (truncf .bf16 (m ((c : Thread nD τ).loc main_arg3)) bitsLt_bf16_f32 : FVec Ideal S1024x1024 .bf16) := by
  simp only [V, hostOps0]
  after_results_simp

/-! ## The blocks -/

def batch (t : Fin cfg0.N) : Fin 8 := ⟨t.val / 4, by have h := t.isLt; have e : cfg0.N = 32 := N_0; omega⟩
def time (t : Fin cfg0.N) (r : Fin 512) : Fin 2048 := ⟨t.val % 4 * 512 + r.val, by omega⟩

theorem index0 : ∀ t : Fin grid0.N, win0_0.index t = ![t.val / 4, 0, t.val % 4, 0] := by decide +kernel
theorem index1 : ∀ t : Fin grid0.N, win0_1.index t = ![t.val / 4, 3, t.val % 4, 0] := by decide +kernel
theorem index2 : ∀ t : Fin grid0.N, win0_2.index t = ![t.val, 0] := by decide +kernel
theorem index3 : ∀ t : Fin grid0.N, win0_3.index t = ![0, 0] := by decide +kernel
theorem index4 : ∀ t : Fin grid0.N, win0_4.index t = ![t.val, 0] := by decide +kernel

theorem emb0 (t : Fin cfg0.N) (j : Fin 8) (r : Fin 512) (l : Fin 128) :
    (win0_0.blk t).view.emb (ix4 (0 : Fin 1) j r l) = ix4 (batch t) j (time t r) l := by
  refine funext fun a => Fin.ext ?_
  have e := index0 t
  match a with
  | ⟨0, _⟩ =>
    show win0_0.index t 0 * 1 + 1 * 0 = t.val / 4
    rw [e]; show (t.val / 4) * 1 + 1 * 0 = _; omega
  | ⟨1, _⟩ =>
    show win0_0.index t 1 * 8 + 1 * j.val = j.val
    rw [e]; show (0) * 8 + 1 * j.val = _; omega
  | ⟨2, _⟩ =>
    show win0_0.index t 2 * 512 + 1 * r.val = t.val % 4 * 512 + r.val
    rw [e]; show (t.val % 4) * 512 + 1 * r.val = _; omega
  | ⟨3, _⟩ =>
    show win0_0.index t 3 * 128 + 1 * l.val = l.val
    rw [e]; show (0) * 128 + 1 * l.val = _; omega

theorem emb1 (t : Fin cfg0.N) (j : Fin 8) (r : Fin 512) (l : Fin 128) :
    (win0_1.blk t).view.emb (ix4 (0 : Fin 1) j r l) = ix4 (batch t) (⟨24 + j.val, by omega⟩ : Fin 32) (time t r) l := by
  refine funext fun a => Fin.ext ?_
  have e := index1 t
  match a with
  | ⟨0, _⟩ =>
    show win0_1.index t 0 * 1 + 1 * 0 = t.val / 4
    rw [e]; show (t.val / 4) * 1 + 1 * 0 = _; omega
  | ⟨1, _⟩ =>
    show win0_1.index t 1 * 8 + 1 * j.val = 24 + j.val
    rw [e]; show (3) * 8 + 1 * j.val = _; omega
  | ⟨2, _⟩ =>
    show win0_1.index t 2 * 512 + 1 * r.val = t.val % 4 * 512 + r.val
    rw [e]; show (t.val % 4) * 512 + 1 * r.val = _; omega
  | ⟨3, _⟩ =>
    show win0_1.index t 3 * 128 + 1 * l.val = l.val
    rw [e]; show (0) * 128 + 1 * l.val = _; omega

theorem emb2 (t : Fin cfg0.N) (r : Fin 512) (k : Fin 1024) :
    (win0_2.blk t).view.emb (ix2 r k) = ix2 (⟨(batch t).val * 2048 + (time t r).val, by have := (batch t).isLt; have := (time t r).isLt; omega⟩ : Fin 16384) k := by
  refine funext fun a => Fin.ext ?_
  have e := index2 t
  match a with
  | ⟨0, _⟩ =>
    show win0_2.index t 0 * 512 + 1 * r.val = t.val / 4 * 2048 + (t.val % 4 * 512 + r.val)
    rw [e]; show (t.val) * 512 + 1 * r.val = _; omega
  | ⟨1, _⟩ =>
    show win0_2.index t 1 * 1024 + 1 * k.val = k.val
    rw [e]; show (0) * 1024 + 1 * k.val = _; omega

theorem emb3 (t : Fin cfg0.N) (k q : Fin 1024) :
    (win0_3.blk t).view.emb (ix2 k q) = ix2 k q := by
  refine funext fun a => Fin.ext ?_
  have e := index3 t
  match a with
  | ⟨0, _⟩ =>
    show win0_3.index t 0 * 1024 + 1 * k.val = k.val
    rw [e]; show (0) * 1024 + 1 * k.val = _; omega
  | ⟨1, _⟩ =>
    show win0_3.index t 1 * 1024 + 1 * q.val = q.val
    rw [e]; show (0) * 1024 + 1 * q.val = _; omega

theorem emb4 (t : Fin cfg0.N) (r : Fin 512) (k : Fin 1024) :
    (win0_4.blk t).view.emb (ix2 r k) = ix2 (⟨(batch t).val * 2048 + (time t r).val, by have := (batch t).isLt; have := (time t r).isLt; omega⟩ : Fin 16384) k := by
  refine funext fun a => Fin.ext ?_
  have e := index4 t
  match a with
  | ⟨0, _⟩ =>
    show win0_4.index t 0 * 512 + 1 * r.val = t.val / 4 * 2048 + (t.val % 4 * 512 + r.val)
    rw [e]; show (t.val) * 512 + 1 * r.val = _; omega
  | ⟨1, _⟩ =>
    show win0_4.index t 1 * 1024 + 1 * k.val = k.val
    rw [e]; show (0) * 1024 + 1 * k.val = _; omega

theorem block0 (t : Fin cfg0.N) (r : Fin 512) (k : Fin 1024) :
    flat (iblk m c 0 t) r k = m ((c : Thread nD τ).loc main_arg0) (ix3 (batch t) (time t r) k) := by
  show (V m c main_v1 ((win0_0.blk t).view.emb (ix4 (0 : Fin 1) (⟨k.val / 128, by omega⟩ : Fin 8) r ⟨k.val % 128, Nat.mod_lt _ (by decide)⟩)) : EReal) = _
  rw [emb0, attention_eq]
  exact (attention_apply _ _ _ _ _).trans (congrArg (fun z => m ((c : Thread nD τ).loc main_arg0) (ix3 (batch t) (time t r) z)) (Fin.ext (by show k.val / 128 * 128 + k.val % 128 = k.val; omega)))

theorem block1 (t : Fin cfg0.N) (r : Fin 512) (k : Fin 1024) :
    flat (iblk m c 1 t) r k = m ((c : Thread nD τ).loc main_arg1) (ix3 (batch t) (time t r) ⟨3072 + k.val, by omega⟩) := by
  show (V m c main_v3 ((win0_1.blk t).view.emb (ix4 (0 : Fin 1) (⟨k.val / 128, by omega⟩ : Fin 8) r ⟨k.val % 128, Nat.mod_lt _ (by decide)⟩)) : EReal) = _
  rw [emb1, gate_eq]
  exact (gate_apply _ _ _ _ _).trans (congrArg (fun z => m ((c : Thread nD τ).loc main_arg1) (ix3 (batch t) (time t r) z)) (Fin.ext (by show (24 + k.val / 128) * 128 + k.val % 128 = 3072 + k.val; omega)))

theorem block2 (t : Fin cfg0.N) (r : Fin 512) (k : Fin 1024) :
    (iblk m c 2 t (ix2 r k) : EReal) = m ((c : Thread nD τ).loc main_arg2) (ix3 (batch t) (time t r) k) := by
  show (V m c main_v4 ((win0_2.blk t).view.emb (ix2 r k)) : EReal) = _
  rw [emb2, rows_eq]
  exact Proj.rows_apply _ _ _ _

theorem block3 (t : Fin cfg0.N) (k q : Fin 1024) :
    (iblk m c 3 t (ix2 k q) : EReal) = m ((c : Thread nD τ).loc main_arg3) (ix2 k q) := by
  show (V m c main_v5 ((win0_3.blk t).view.emb (ix2 k q)) : EReal) = _
  rw [emb3, weights_eq]
  rfl

/-- A block's rows are the argument's. -/
theorem row_eq (t : Fin cfg0.N) (r : Fin 512) : blockRow (iblk m c 0 t) (iblk m c 1 t) (iblk m c 2 t) (iblk m c 3 t) r
    = rowOf (m ((c : Thread nD τ).loc main_arg0)) (m ((c : Thread nD τ).loc main_arg1)) (m ((c : Thread nD τ).loc main_arg2)) (m ((c : Thread nD τ).loc main_arg3)) (batch t) (time t r) := by
  have e0 := funext (block0 m c t r)
  have e1 := funext (block1 m c t r)
  have e2 := funext (block2 m c t r)
  have e3 := funext fun k => funext (block3 m c t k)
  unfold blockRow rowOf
  exact congr (congr (congr (congrArg postV e2) e0) e1) e3

theorem out_at (t : Fin cfg0.N) (r : Fin 512) (q : Fin 1024) :
    (out0_4 (iblk m c 0 t) (iblk m c 1 t) (iblk m c 2 t) (iblk m c 3 t) (ix2 r q) : EReal)
      = result (m ((c : Thread nD τ).loc main_arg0)) (m ((c : Thread nD τ).loc main_arg1)) (m ((c : Thread nD τ).loc main_arg2)) (m ((c : Thread nD τ).loc main_arg3))
          (ix2 (⟨(batch t).val * 2048 + (time t r).val, by have := (batch t).isLt; have := (time t r).isLt; omega⟩ : Fin 16384) q) := by
  refine (out_apply _ _ _ _ r q).trans ?_
  unfold result
  rw [row_eq]
  exact congrFun (rowOf_at _ _ _ _ _ _) q

theorem flushed_eq (t : Fin cfg0.N) : (dats m 0 c).flushed 4 t = (win0_4.blk t).view.read (Elt Ideal)
    (result (m ((c : Thread nD τ).loc main_arg0)) (m ((c : Thread nD τ).loc main_arg1)) (m ((c : Thread nD τ).loc main_arg2)) (m ((c : Thread nD τ).loc main_arg3))) := by
  show (cfg0.win 4).cut (grid0.coords t) ((dats m 0 c).after 4 t) = _
  rw [after0_4]
  funext y
  obtain ⟨r, q, rfl⟩ : ∃ (r : Fin 512) (q : Fin 1024), y = ix2 r q := ⟨y 0, y 1, eq_ix2 (n0 := 512) (n1 := 1024) y⟩
  refine (out_at m c t r q).trans ?_
  exact congrArg (result _ _ _ _) (emb4 t r q).symm

/-- The blocks cover the result. -/
theorem cover (i : S16384x1024.Idx) : ∃ t : Fin cfg0.N, (cfg0.win 4).flush t = true ∧ i ∈ ((cfg0.win 4).blk t).view.set := by
  have hN : cfg0.N = 32 := N_0
  have i0 : (i 0).val < 16384 := (i 0).isLt
  refine ⟨⟨(i 0).val / 512, by omega⟩, flush0_4 _, ?_⟩
  refine Finset.mem_map.mpr ⟨ix2 (⟨(i 0).val % 512, Nat.mod_lt _ (by decide)⟩ : Fin 512) (i 1), Finset.mem_univ _, ?_⟩
  refine (emb4 _ _ _).trans (funext fun a => Fin.ext ?_)
  match a with
  | ⟨0, _⟩ => show (i 0).val / 512 / 4 * 2048 + ((i 0).val / 512 % 4 * 512 + (i 0).val % 512) = (i 0).val; omega
  | ⟨1, _⟩ => rfl

/-- The result's array after the run. -/
theorem final : (dats m 0 c).arrAt 4 cfg0.N
    = result (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_eq m c t) cover

end Cert.Proof.Post

end
-- ==== Proof.Post.Ref.lean ====
module

public import proofs.«01_k».proof.Proof.Proj.Ref
public import proofs.«01_k».proof.Proof.Post.Result
public import proofs.«01_k».proof.Proof.Gen.Reference4Ideal.Run
public import Idealize.ShloMosaic.Lib.Tactic.CleanTypes
public import Idealize.ShloMosaic.Lib.Tactic.IndexArith

@[expose] public section

set_option maxRecDepth 16384

noncomputable section

/-! The reference's end of a layer, entry by entry. -/

namespace Cert.Proof.PostRef

open Cert.Reference4Ideal Cert.Reference4Ideal.Gen
open Idealize.ShloMosaic Idealize.ShloMosaic.TcCoe
open Cert.Proof.Post (gateV postV rowOf)

/-- The gate's columns. -/
def gate (P : (⟨S8x2048x4096, .f32⟩ : BufTy).Contents (Elt Ideal)) : FVec Ideal S8x2048x1024 .f32 :=
  extractStridedSlice S8x2048x1024 ![0, 0, 3072] P slices_S8x2048x4096_S8x2048x1024_0_0_3072

def gated (O Z : FVec Ideal S8x2048x1024 .f32) : FVec Ideal S8x2048x1024 .f32 :=
  mulf O (mulf Z (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf Z)))))

/-- The rows after the layer. -/
def rows (O : (⟨S8x2048x1024, .f32⟩ : BufTy).Contents (Elt Ideal)) (P : (⟨S8x2048x4096, .f32⟩ : BufTy).Contents (Elt Ideal)) (X : (⟨S8x2048x1024, .f32⟩ : BufTy).Contents (Elt Ideal)) (W : (⟨S1024x1024, .f32⟩ : BufTy).Contents (Elt Ideal)) : FVec Ideal S8x2048x1024 .f32 :=
  addf X (Host.dotGeneral (φ₁ := .f32) (φ₂ := .f32) dot_S8x2048x1024_S1024x1024_S8x2048x1024_2_0_01_1_n_n none (gated O (gate P)) W)

theorem gate_apply (P : (⟨S8x2048x4096, .f32⟩ : BufTy).Contents (Elt Ideal)) (b : Fin 8) (t : Fin 2048) (k : Fin 1024) :
    gate P (ix3 b t k) = P (ix3 b t ⟨3072 + k.val, by omega⟩) := by
  unfold gate
  clean_types
  pointwise

theorem gated_apply (O Z : FVec Ideal S8x2048x1024 .f32) (b : Fin 8) (t : Fin 2048) (k : Fin 1024) :
    (gated O Z (ix3 b t k) : EReal) = gateV (O (ix3 b t k)) (Z (ix3 b t k)) := rfl

theorem prod_apply (N : FVec Ideal S8x2048x1024 .f32) (W : (⟨S1024x1024, .f32⟩ : BufTy).Contents (Elt Ideal)) (b : Fin 8) (t : Fin 2048) (q : Fin 1024) :
    ((Host.dotGeneral (φ₁ := .f32) (φ₂ := .f32) dot_S8x2048x1024_S1024x1024_S8x2048x1024_2_0_01_1_n_n none N W : FVec Ideal S8x2048x1024 .f32) (ix3 b t q) : EReal)
      = ∑ k : Fin 1024, (N (ix3 b t k) : EReal) * W (ix2 k q) := by
  clean_types
  pointwise

/-- The reference's row is the kernel's. -/
theorem rows_apply (O : (⟨S8x2048x1024, .f32⟩ : BufTy).Contents (Elt Ideal)) (P : (⟨S8x2048x4096, .f32⟩ : BufTy).Contents (Elt Ideal)) (X : (⟨S8x2048x1024, .f32⟩ : BufTy).Contents (Elt Ideal)) (W : (⟨S1024x1024, .f32⟩ : BufTy).Contents (Elt Ideal)) (b : Fin 8) (t : Fin 2048) (q : Fin 1024) : (rows O P X W (ix3 b t q) : EReal) = rowOf O P X W b t q := by
  show (X (ix3 b t q) : EReal) + _ = _
  unfold rowOf postV
  refine congrArg _ ((prod_apply _ W b t q).trans (Finset.sum_congr rfl fun k _ => ?_))
  rw [gated_apply, gate_apply]

/-- One row after the other. -/
theorem stacked_apply (Y : FVec Ideal S8x2048x1024 .f32) (n : Fin 16384) (q : Fin 1024) :
    (shapeCast S16384x1024 Y shapeCasts_S8x2048x1024_S16384x1024 : FVec Ideal S16384x1024 .f32) (ix2 n q)
      = Y (ix3 (⟨n.val / 2048, by omega⟩ : Fin 8) (⟨n.val % 2048, Nat.mod_lt _ (by decide)⟩ : Fin 2048) q) := by
  clean_types
  pointwise

/-- The reference's array before the last norm. -/
theorem stacked_rows (O : (⟨S8x2048x1024, .f32⟩ : BufTy).Contents (Elt Ideal)) (P : (⟨S8x2048x4096, .f32⟩ : BufTy).Contents (Elt Ideal)) (X : (⟨S8x2048x1024, .f32⟩ : BufTy).Contents (Elt Ideal)) (W : (⟨S1024x1024, .f32⟩ : BufTy).Contents (Elt Ideal)) : (shapeCast S16384x1024 (rows O P X W) shapeCasts_S8x2048x1024_S16384x1024 : FVec Ideal S16384x1024 .f32) = Post.result O P X W := by
  funext i
  refine (congrArg _ (eq_ix2 (n0 := 16384) (n1 := 1024) i)).trans ((stacked_apply _ (i 0) (i 1)).trans ?_)
  exact rows_apply O P X W _ _ _

end Cert.Proof.PostRef

end
-- ==== Proof.Post.Claims.lean ====
module

public import proofs.«01_k».proof.Defs
public import proofs.«01_k».proof.Proof.Gen.Kernel4
public import proofs.«01_k».proof.Proof.Gen.Reference4Ideal.Run
public import proofs.«01_k».proof.Proof.Frames
public import proofs.«01_k».proof.Proof.Post.Result
public import proofs.«01_k».proof.Proof.Post.Ref
public import Idealize.ShloMosaic.Lib.Claim

@[expose] public section

set_option maxRecDepth 65536

noncomputable section

/-! The claims of a layer's end. -/

namespace Cert.Proof.Post

open Idealize.ShloMosaic Idealize.ShloMosaic.TcCoe Idealize.ShloMosaic.Tactic Idealize.SL Idealize.SL.Sem Idealize.ShloMosaic.StableHlo

theorem frame_kernelIdeal : Cert.quiescent_Kernel4Ideal (hKernel4Ideal := Cert.Kernel4Ideal.Gen.facts) :=
  fun m g _ => Cert.Kernel4Ideal.Gen.frame m g

theorem frame_kernel : Cert.quiescent_Kernel4 (hKernel4 := Cert.Kernel4.Gen.facts) := by
  intro m g _
  have h := Cert.Kernel4Ideal.Gen.frame (F := Bits) m g
  refine cast ?_ h
  sl_kernel_rfl

/-- The frame of the reference: its run, read at the arguments; it declares no semaphore. -/
theorem frame_reference : Cert.quiescent_Reference4Ideal (hReference4Ideal := Cert.Reference4Ideal.Gen.facts) := fun m g _ =>
  (θ_run Cert.Reference4Ideal.defs _ _).mono
    (fun r h => ⟨fun c => (h c).2, sem_eq_zero_of_no_sems (by decide) r.2⟩)
    (Cert.Reference4Ideal.Value.run (F := Ideal) m g)

theorem preserves : Cert.preserves_Kernel4_Kernel4Ideal := by
  trivial

/-- The kernel and the reference end with the same array. -/
theorem algebraic : Cert.algebraic_Kernel4Ideal_Reference4Ideal (hKernel4Ideal := Cert.Kernel4Ideal.Gen.facts)
    (hReference4Ideal := Cert.Reference4Ideal.Gen.facts) := by
  intro m g m' g' _ hagree
  refine ⟨fun c => result (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)), ?_, ?_⟩
  · refine (θ_run Cert.Kernel4Ideal.defs _ _).mono (fun r h c => ⟨((h.1 c).1 4).trans ?_, h.2 c⟩)
      (θ_run_and (Cert.Kernel4Ideal.Gen.run_main (F := Ideal) m g) (Cert.Kernel4Ideal.Gen.unchanged (F := Ideal) m g))
    exact final m c
  · refine (θ_run Cert.Reference4Ideal.defs _ _).mono (fun r h c => ⟨(h c).1.trans ?_, (h c).2⟩)
      (Cert.Reference4Ideal.Value.run (F := Ideal) m' g')
    refine Eq.trans ?_ (congr (congr (congr (congrArg result (hagree c).1) (hagree c).2.1) (hagree c).2.2.1) (hagree c).2.2.2)
    exact PostRef.stacked_rows (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3))

end Cert.Proof.Post

end
-- ==== Proof.Post.Last.lean ====
module

public import proofs.«01_k».proof.Proof.Post.Result
public import proofs.«01_k».proof.Proof.Gen.Kernel5Ideal.Frame

@[expose] public section

set_option maxRecDepth 16384

noncomputable section

/-! The end of the last layer, whose rows are normalised once more. -/

namespace Cert.Proof.Last

open Cert.Kernel5Ideal
open Idealize.ShloMosaic Idealize.ShloMosaic.TcCoe Idealize.SL.Sem
open Idealize.ShloMosaic.Pipeline (Dat)
open Cert.Kernel5Ideal.Gen

open Cert.Proof.Proj (normV)
open Cert.Proof.Post (postV flat gated blockRow rowOf rowOf_at)

/-- The result from the five arguments. -/
def result (O : (⟨S8x2048x1024, .f32⟩ : BufTy).Contents (Elt Ideal)) (P : (⟨S8x2048x4096, .f32⟩ : BufTy).Contents (Elt Ideal)) (X : (⟨S8x2048x1024, .f32⟩ : BufTy).Contents (Elt Ideal))
    (W : (⟨S1024x1024, .f32⟩ : BufTy).Contents (Elt Ideal)) (g : (⟨S1024, .f32⟩ : BufTy).Contents (Elt Ideal)) : (⟨S16384x1024, .f32⟩ : BufTy).Contents (Elt Ideal) := fun i =>
  normV (rowOf O P X W (⟨(i 0).val / 2048, Nat.div_lt_of_lt_mul (i 0).isLt⟩ : Fin 8) (⟨(i 0).val % 2048, Nat.mod_lt _ (by decide)⟩ : Fin 2048)) (fun k => g (ix1 k)) (i 1)

/-- The stored rows are those of the other layers, normalised. -/
theorem normed_apply (x : FVec Ideal S512x1024 .f32) (a : FVec Ideal S512x1024 .bf16) (w : FVec Ideal S1024x1024 .bf16) (g : Vec Ideal S1x1024 .f32) (r : Fin 512) (q : Fin 1024) :
    (k0_pay1 x a w g (ix2 r q) : EReal)
      = normV (fun k => (x (ix2 r k) : EReal) + ∑ j : Fin 1024, (a (ix2 r j) : EReal) * w (ix2 j k)) (fun k => g (ix2 (0 : Fin 1) k)) q := by
  unfold k0_pay1 normV
  clean_types
  pointwise

theorem whole_gain (x : Vec Ideal S1x1024 .f32) : View.ld x r0_10 = x := View.ld_unit_zero (by decide) _ _

theorem stored_apply (x0 x1 : Vec Ideal S1x8x512x128 .f32) (x2 : Vec Ideal S512x1024 .f32) (x3 : Vec Ideal S1024x1024 .bf16) (x4 : Vec Ideal S1x1024 .f32) (r : Fin 512) (q : Fin 1024) :
    (k0_pay1 (k0_pay4 (View.ld x2 r0_8)) (gated x0 x1) (k0_pay6 (View.ld x3 r0_9)) (View.ld x4 r0_10) (ix2 r q) : EReal)
      = normV (blockRow x0 x1 x2 x3 r) (fun k => x4 (ix2 (0 : Fin 1) k)) q := by
  rw [whole_gain]
  refine (normed_apply _ _ _ _ r q).trans ?_
  refine congrArg (fun f => normV f (fun k => x4 (ix2 (0 : Fin 1) k)) q) (funext fun k => ?_)
  exact (Post.post_apply _ _ _ r k).symm.trans (Post.stored_apply x0 x1 x2 x3 r k)

theorem out_apply (x0 x1 : Vec Ideal S1x8x512x128 .f32) (x2 : Vec Ideal S512x1024 .f32) (x3 : Vec Ideal S1024x1024 .bf16) (x4 : Vec Ideal S1x1024 .f32) (r : Fin 512) (q : Fin 1024) :
    (out0_5 x0 x1 x2 x3 x4 (ix2 r q) : EReal) = normV (blockRow x0 x1 x2 x3 r) (fun k => x4 (ix2 (0 : Fin 1) k)) q := by
  refine View.canon_apply_of_pieces (Val := Elt Ideal) (e := .f32) (fun y => normV (blockRow x0 x1 x2 x3 (y 0)) (fun k => x4 (ix2 (0 : Fin 1) k)) (y 1)) _
    (List.forall_mem_cons.2 ⟨fun x => ?_, fun _ h => absurd h List.not_mem_nil⟩) (ix2 r q) (cover0_5 _ _)
  refine Eq.trans ?_ (congrArg (fun y : S512x1024.Idx => normV (blockRow x0 x1 x2 x3 (y 0)) (fun k => x4 (ix2 (0 : Fin 1) k)) (y 1)) (Post.place x).symm)
  refine Eq.trans ?_ (stored_apply x0 x1 x2 x3 x4 (x 0) (x 1))
  exact congrArg (k0_pay1 (k0_pay4 (View.ld x2 r0_8)) (gated x0 x1) (k0_pay6 (View.ld x3 r0_9)) (View.ld x4 r0_10)) (eq_ix2 (n0 := 512) (n1 := 1024) x)

variable (m : (ℓ : Loc nD τ sig) → Buf (Elt Ideal) ℓ) (c : Dev nD)

/-! ## The arrays before the call -/

theorem attention_eq : V m c main_v1 = transpose S8x8x2048x128 [0, 2, 1, 3] (shapeCast S8x2048x8x128 (m ((c : Thread nD τ).loc main_arg0)) shapeCasts_S8x2048x1024_S8x2048x8x128)
    transposes_S8x2048x8x128_S8x8x2048x128_0_2_1_3 := by
  simp only [V, hostOps0]
  after_results_simp
  rfl

theorem gate_eq : V m c main_v3 = transpose S8x32x2048x128 [0, 2, 1, 3] (shapeCast S8x2048x32x128 (m ((c : Thread nD τ).loc main_arg1)) shapeCasts_S8x2048x4096_S8x2048x32x128)
    transposes_S8x2048x32x128_S8x32x2048x128_0_2_1_3 := by
  simp only [V, hostOps0]
  after_results_simp
  rfl

theorem rows_eq : V m c main_v4 = shapeCast S16384x1024 (m ((c : Thread nD τ).loc main_arg2)) shapeCasts_S8x2048x1024_S16384x1024 := by
  simp only [V, hostOps0]
  after_results_simp
  rfl

theorem weights_eq : V m c main_v5 = (truncf .bf16 (m ((c : Thread nD τ).loc main_arg3)) bitsLt_bf16_f32 : FVec Ideal S1024x1024 .bf16) := by
  simp only [V, hostOps0]
  after_results_simp

theorem gain_eq : V m c main_v6 = shapeCast S1x1024 (m ((c : Thread nD τ).loc main_arg4)) shapeCasts_S1024_S1x1024 := by
  simp only [V, hostOps0]
  after_results_simp
  rfl

/-! ## The blocks -/

def batch (t : Fin cfg0.N) : Fin 8 := ⟨t.val / 4, by have h := t.isLt; have e : cfg0.N = 32 := N_0; omega⟩
def time (t : Fin cfg0.N) (r : Fin 512) : Fin 2048 := ⟨t.val % 4 * 512 + r.val, by omega⟩

theorem index0 : ∀ t : Fin grid0.N, win0_0.index t = ![t.val / 4, 0, t.val % 4, 0] := by decide +kernel
theorem index1 : ∀ t : Fin grid0.N, win0_1.index t = ![t.val / 4, 3, t.val % 4, 0] := by decide +kernel
theorem index2 : ∀ t : Fin grid0.N, win0_2.index t = ![t.val, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![t.val, 0] := by decide +kernel

theorem emb0 (t : Fin cfg0.N) (j : Fin 8) (r : Fin 512) (l : Fin 128) :
    (win0_0.blk t).view.emb (ix4 (0 : Fin 1) j r l) = ix4 (batch t) j (time t r) l := by
  refine funext fun a => Fin.ext ?_
  have e := index0 t
  match a with
  | ⟨0, _⟩ =>
    show win0_0.index t 0 * 1 + 1 * 0 = t.val / 4
    rw [e]; show (t.val / 4) * 1 + 1 * 0 = _; omega
  | ⟨1, _⟩ =>
    show win0_0.index t 1 * 8 + 1 * j.val = j.val
    rw [e]; show (0) * 8 + 1 * j.val = _; omega
  | ⟨2, _⟩ =>
    show win0_0.index t 2 * 512 + 1 * r.val = t.val % 4 * 512 + r.val
    rw [e]; show (t.val % 4) * 512 + 1 * r.val = _; omega
  | ⟨3, _⟩ =>
    show win0_0.index t 3 * 128 + 1 * l.val = l.val
    rw [e]; show (0) * 128 + 1 * l.val = _; omega

theorem emb1 (t : Fin cfg0.N) (j : Fin 8) (r : Fin 512) (l : Fin 128) :
    (win0_1.blk t).view.emb (ix4 (0 : Fin 1) j r l) = ix4 (batch t) (⟨24 + j.val, by omega⟩ : Fin 32) (time t r) l := by
  refine funext fun a => Fin.ext ?_
  have e := index1 t
  match a with
  | ⟨0, _⟩ =>
    show win0_1.index t 0 * 1 + 1 * 0 = t.val / 4
    rw [e]; show (t.val / 4) * 1 + 1 * 0 = _; omega
  | ⟨1, _⟩ =>
    show win0_1.index t 1 * 8 + 1 * j.val = 24 + j.val
    rw [e]; show (3) * 8 + 1 * j.val = _; omega
  | ⟨2, _⟩ =>
    show win0_1.index t 2 * 512 + 1 * r.val = t.val % 4 * 512 + r.val
    rw [e]; show (t.val % 4) * 512 + 1 * r.val = _; omega
  | ⟨3, _⟩ =>
    show win0_1.index t 3 * 128 + 1 * l.val = l.val
    rw [e]; show (0) * 128 + 1 * l.val = _; omega

theorem emb2 (t : Fin cfg0.N) (r : Fin 512) (k : Fin 1024) :
    (win0_2.blk t).view.emb (ix2 r k) = ix2 (⟨(batch t).val * 2048 + (time t r).val, by have := (batch t).isLt; have := (time t r).isLt; omega⟩ : Fin 16384) k := by
  refine funext fun a => Fin.ext ?_
  have e := index2 t
  match a with
  | ⟨0, _⟩ =>
    show win0_2.index t 0 * 512 + 1 * r.val = t.val / 4 * 2048 + (t.val % 4 * 512 + r.val)
    rw [e]; show (t.val) * 512 + 1 * r.val = _; omega
  | ⟨1, _⟩ =>
    show win0_2.index t 1 * 1024 + 1 * k.val = k.val
    rw [e]; show (0) * 1024 + 1 * k.val = _; omega

theorem emb3 (t : Fin cfg0.N) (k q : Fin 1024) :
    (win0_3.blk t).view.emb (ix2 k q) = ix2 k q := by
  refine funext fun a => Fin.ext ?_
  have e := index3 t
  match a with
  | ⟨0, _⟩ =>
    show win0_3.index t 0 * 1024 + 1 * k.val = k.val
    rw [e]; show (0) * 1024 + 1 * k.val = _; omega
  | ⟨1, _⟩ =>
    show win0_3.index t 1 * 1024 + 1 * q.val = q.val
    rw [e]; show (0) * 1024 + 1 * q.val = _; omega

theorem emb4 (t : Fin cfg0.N) (k : Fin 1024) :
    (win0_4.blk t).view.emb (ix2 (0 : Fin 1) k) = ix2 (0 : Fin 1) k := by
  refine funext fun a => Fin.ext ?_
  have e := index4 t
  match a with
  | ⟨0, _⟩ =>
    show win0_4.index t 0 * 1 + 1 * 0 = 0
    rw [e]; show (0) * 1 + 1 * 0 = _; omega
  | ⟨1, _⟩ =>
    show win0_4.index t 1 * 1024 + 1 * k.val = k.val
    rw [e]; show (0) * 1024 + 1 * k.val = _; omega

theorem emb5 (t : Fin cfg0.N) (r : Fin 512) (k : Fin 1024) :
    (win0_5.blk t).view.emb (ix2 r k) = ix2 (⟨(batch t).val * 2048 + (time t r).val, by have := (batch t).isLt; have := (time t r).isLt; omega⟩ : Fin 16384) k := by
  refine funext fun a => Fin.ext ?_
  have e := index5 t
  match a with
  | ⟨0, _⟩ =>
    show win0_5.index t 0 * 512 + 1 * r.val = t.val / 4 * 2048 + (t.val % 4 * 512 + r.val)
    rw [e]; show (t.val) * 512 + 1 * r.val = _; omega
  | ⟨1, _⟩ =>
    show win0_5.index t 1 * 1024 + 1 * k.val = k.val
    rw [e]; show (0) * 1024 + 1 * k.val = _; omega

theorem block0 (t : Fin cfg0.N) (r : Fin 512) (k : Fin 1024) :
    flat (iblk m c 0 t) r k = m ((c : Thread nD τ).loc main_arg0) (ix3 (batch t) (time t r) k) := by
  show (V m c main_v1 ((win0_0.blk t).view.emb (ix4 (0 : Fin 1) (⟨k.val / 128, by omega⟩ : Fin 8) r ⟨k.val % 128, Nat.mod_lt _ (by decide)⟩)) : EReal) = _
  rw [emb0, attention_eq]
  exact (Post.attention_apply _ _ _ _ _).trans (congrArg (fun z => m ((c : Thread nD τ).loc main_arg0) (ix3 (batch t) (time t r) z)) (Fin.ext (by show k.val / 128 * 128 + k.val % 128 = k.val; omega)))

theorem block1 (t : Fin cfg0.N) (r : Fin 512) (k : Fin 1024) :
    flat (iblk m c 1 t) r k = m ((c : Thread nD τ).loc main_arg1) (ix3 (batch t) (time t r) ⟨3072 + k.val, by omega⟩) := by
  show (V m c main_v3 ((win0_1.blk t).view.emb (ix4 (0 : Fin 1) (⟨k.val / 128, by omega⟩ : Fin 8) r ⟨k.val % 128, Nat.mod_lt _ (by decide)⟩)) : EReal) = _
  rw [emb1, gate_eq]
  exact (Post.gate_apply _ _ _ _ _).trans (congrArg (fun z => m ((c : Thread nD τ).loc main_arg1) (ix3 (batch t) (time t r) z)) (Fin.ext (by show (24 + k.val / 128) * 128 + k.val % 128 = 3072 + k.val; omega)))

theorem block2 (t : Fin cfg0.N) (r : Fin 512) (k : Fin 1024) :
    (iblk m c 2 t (ix2 r k) : EReal) = m ((c : Thread nD τ).loc main_arg2) (ix3 (batch t) (time t r) k) := by
  show (V m c main_v4 ((win0_2.blk t).view.emb (ix2 r k)) : EReal) = _
  rw [emb2, rows_eq]
  exact Proj.rows_apply _ _ _ _

theorem block3 (t : Fin cfg0.N) (k q : Fin 1024) :
    (iblk m c 3 t (ix2 k q) : EReal) = m ((c : Thread nD τ).loc main_arg3) (ix2 k q) := by
  show (V m c main_v5 ((win0_3.blk t).view.emb (ix2 k q)) : EReal) = _
  rw [emb3, weights_eq]
  rfl

/-- A block's rows are the argument's. -/
theorem row_eq (t : Fin cfg0.N) (r : Fin 512) : blockRow (iblk m c 0 t) (iblk m c 1 t) (iblk m c 2 t) (iblk m c 3 t) r
    = rowOf (m ((c : Thread nD τ).loc main_arg0)) (m ((c : Thread nD τ).loc main_arg1)) (m ((c : Thread nD τ).loc main_arg2)) (m ((c : Thread nD τ).loc main_arg3)) (batch t) (time t r) := by
  have e0 := funext (block0 m c t r)
  have e1 := funext (block1 m c t r)
  have e2 := funext (block2 m c t r)
  have e3 := funext fun k => funext (block3 m c t k)
  unfold blockRow rowOf
  exact congr (congr (congr (congrArg postV e2) e0) e1) e3

theorem block4 (t : Fin cfg0.N) (k : Fin 1024) : (iblk m c 4 t (ix2 (0 : Fin 1) k) : EReal) = m ((c : Thread nD τ).loc main_arg4) (ix1 k) := by
  show (V m c main_v6 ((win0_4.blk t).view.emb (ix2 (0 : Fin 1) k)) : EReal) = _
  rw [emb4, gain_eq]
  exact Proj.gain_apply _ _

theorem out_at (t : Fin cfg0.N) (r : Fin 512) (q : Fin 1024) :
    (out0_5 (iblk m c 0 t) (iblk m c 1 t) (iblk m c 2 t) (iblk m c 3 t) (iblk m c 4 t) (ix2 r q) : EReal)
      = result (m ((c : Thread nD τ).loc main_arg0)) (m ((c : Thread nD τ).loc main_arg1)) (m ((c : Thread nD τ).loc main_arg2)) (m ((c : Thread nD τ).loc main_arg3)) (m ((c : Thread nD τ).loc main_arg4))
          (ix2 (⟨(batch t).val * 2048 + (time t r).val, by have := (batch t).isLt; have := (time t r).isLt; omega⟩ : Fin 16384) q) := by
  refine (out_apply _ _ _ _ _ r q).trans ?_
  unfold result
  rw [row_eq, funext (block4 m c t)]
  exact congrArg (fun f => normV f _ q) (rowOf_at _ _ _ _ _ _)

theorem flushed_eq (t : Fin cfg0.N) : (dats m 0 c).flushed 5 t = (win0_5.blk t).view.read (Elt Ideal)
    (result (m ((c : Thread nD τ).loc main_arg0)) (m ((c : Thread nD τ).loc main_arg1)) (m ((c : Thread nD τ).loc main_arg2)) (m ((c : Thread nD τ).loc main_arg3)) (m ((c : Thread nD τ).loc main_arg4))) := by
  show (cfg0.win 5).cut (grid0.coords t) ((dats m 0 c).after 5 t) = _
  rw [after0_5]
  funext y
  obtain ⟨r, q, rfl⟩ : ∃ (r : Fin 512) (q : Fin 1024), y = ix2 r q := ⟨y 0, y 1, eq_ix2 (n0 := 512) (n1 := 1024) y⟩
  refine (out_at m c t r q).trans ?_
  exact congrArg (result _ _ _ _ _) (emb5 t r q).symm

/-- The blocks cover the result. -/
theorem cover (i : S16384x1024.Idx) : ∃ t : Fin cfg0.N, (cfg0.win 5).flush t = true ∧ i ∈ ((cfg0.win 5).blk t).view.set := by
  have hN : cfg0.N = 32 := N_0
  have i0 : (i 0).val < 16384 := (i 0).isLt
  refine ⟨⟨(i 0).val / 512, by omega⟩, flush0_5 _, ?_⟩
  refine Finset.mem_map.mpr ⟨ix2 (⟨(i 0).val % 512, Nat.mod_lt _ (by decide)⟩ : Fin 512) (i 1), Finset.mem_univ _, ?_⟩
  refine (emb5 _ _ _).trans (funext fun a => Fin.ext ?_)
  match a with
  | ⟨0, _⟩ => show (i 0).val / 512 / 4 * 2048 + ((i 0).val / 512 % 4 * 512 + (i 0).val % 512) = (i 0).val; omega
  | ⟨1, _⟩ => rfl

/-- The result's array after the run. -/
theorem final : (dats m 0 c).arrAt 5 cfg0.N
    = result (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 _ (fun t _ => flushed_eq m c t) cover

end Cert.Proof.Last

end
-- ==== Proof.Post.LastClaims.lean ====
module

public import proofs.«01_k».proof.Defs
public import proofs.«01_k».proof.Proof.Gen.Kernel5
public import proofs.«01_k».proof.Proof.Gen.Reference5Ideal.Run
public import proofs.«01_k».proof.Proof.Frames
public import proofs.«01_k».proof.Proof.Post.Last
public import proofs.«01_k».proof.Proof.Post.Ref
public import Idealize.ShloMosaic.Lib.Claim

@[expose] public section

set_option maxRecDepth 65536

noncomputable section

/-! The claims of the last layer's end. -/

namespace Cert.Proof.Last

open Idealize.ShloMosaic Idealize.ShloMosaic.TcCoe Idealize.ShloMosaic.Tactic Idealize.SL Idealize.SL.Sem Idealize.ShloMosaic.StableHlo

theorem frame_kernelIdeal : Cert.quiescent_Kernel5Ideal (hKernel5Ideal := Cert.Kernel5Ideal.Gen.facts) :=
  fun m g _ => Cert.Kernel5Ideal.Gen.frame m g

theorem frame_kernel : Cert.quiescent_Kernel5 (hKernel5 := Cert.Kernel5.Gen.facts) := by
  intro m g _
  have h := Cert.Kernel5Ideal.Gen.frame (F := Bits) m g
  refine cast ?_ h
  sl_kernel_rfl

/-- The frame of the reference: its run, read at the arguments; it declares no semaphore. -/
theorem frame_reference : Cert.quiescent_Reference5Ideal (hReference5Ideal := Cert.Reference5Ideal.Gen.facts) := fun m g _ =>
  (θ_run Cert.Reference5Ideal.defs _ _).mono
    (fun r h => ⟨fun c => (h c).2, sem_eq_zero_of_no_sems (by decide) r.2⟩)
    (Cert.Reference5Ideal.Value.run (F := Ideal) m g)

theorem preserves : Cert.preserves_Kernel5_Kernel5Ideal := by
  trivial

/-- The reference's last norm, entry by entry, is the kernel's. -/
theorem res_eq_result (O : (⟨Cert.Reference5Ideal.S8x2048x1024, .f32⟩ : BufTy).Contents (Elt Ideal)) (P : (⟨Cert.Reference5Ideal.S8x2048x4096, .f32⟩ : BufTy).Contents (Elt Ideal))
    (X : (⟨Cert.Reference5Ideal.S8x2048x1024, .f32⟩ : BufTy).Contents (Elt Ideal)) (W : (⟨Cert.Reference5Ideal.S1024x1024, .f32⟩ : BufTy).Contents (Elt Ideal))
    (g : (⟨Cert.Reference5Ideal.S1024, .f32⟩ : BufTy).Contents (Elt Ideal)) :
    (shapeCast Cert.Reference4Ideal.S16384x1024 (ProjRef.norm (PostRef.rows O P X W) g) Cert.Reference4Ideal.Gen.shapeCasts_S8x2048x1024_S16384x1024 : FVec Ideal Cert.Reference4Ideal.S16384x1024 .f32)
      = result O P X W g := by
  funext i
  refine (congrArg _ (eq_ix2 (n0 := 16384) (n1 := 1024) i)).trans ((PostRef.stacked_apply _ (i 0) (i 1)).trans ?_)
  refine (ProjRef.norm_apply _ g _ _ (i 1)).trans ?_
  exact congrArg (fun f => Proj.normV f (fun k => g (ix1 k)) (i 1)) (funext fun k => PostRef.rows_apply O P X W _ _ k)

/-- The kernel and the reference end with the same array. -/
theorem algebraic : Cert.algebraic_Kernel5Ideal_Reference5Ideal (hKernel5Ideal := Cert.Kernel5Ideal.Gen.facts)
    (hReference5Ideal := Cert.Reference5Ideal.Gen.facts) := by
  intro m g m' g' _ hagree
  refine ⟨fun c => result (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)), ?_, ?_⟩
  · refine (θ_run Cert.Kernel5Ideal.defs _ _).mono (fun r h c => ⟨((h.1 c).1 5).trans ?_, h.2 c⟩)
      (θ_run_and (Cert.Kernel5Ideal.Gen.run_main (F := Ideal) m g) (Cert.Kernel5Ideal.Gen.unchanged (F := Ideal) m g))
    exact final m c
  · refine (θ_run Cert.Reference5Ideal.defs _ _).mono (fun r h c => ⟨(h c).1.trans ?_, (h c).2⟩)
      (Cert.Reference5Ideal.Value.run (F := Ideal) m' g')
    refine Eq.trans ?_ (congr (congr (congr (congr (congrArg result (hagree c).1) (hagree c).2.1) (hagree c).2.2.1) (hagree c).2.2.2.1) (hagree c).2.2.2.2)
    exact res_eq_result (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4))

end Cert.Proof.Last

end
-- ==== Proof.APost.Spec.lean ====
module

public import proofs.«01_k».proof.Proof.Post.Spec
public import proofs.«01_k».proof.Proof.Sums

@[expose] public section

set_option maxRecDepth 16384

noncomputable section

/-! # The end of a linear-attention layer over extended real numbers

A row has 1024 columns, sixteen heads of 64. -/

namespace Cert.Proof.APost

open Idealize.ShloMosaic
open scoped BigOperators

/-- The sum of the numbers of column `k`'s head. -/
def headSum (f : Fin 1024 → EReal) (k : Fin 1024) : EReal := ∑ c : Fin 64, f ⟨k.val / 64 * 64 + c.val, by omega⟩

/-- A number less the mean of its head. -/
def devV (y : Fin 1024 → EReal) (k : Fin 1024) : EReal := y k - Ideal.div (headSum y k) (Ideal.ofBits .f32 0x42800000#32)

/-- A head normalised to mean 0 and variance 1, times `g`, plus `b`. -/
def groupV (y g b : Fin 1024 → EReal) (k : Fin 1024) : EReal :=
  devV y k * Ideal.rsqrt (Ideal.div (headSum (fun j => devV y j * devV y j) k) (Ideal.ofBits .f32 0x42800000#32)
    + Ideal.ofBits .f32 0x3A27C5AC#32) * g k + b k

/-- The normalised heads plus the head sums of `r * k * a` times the values `v`. -/
def mixV (y r k v a g b : Fin 1024 → EReal) (c : Fin 1024) : EReal :=
  groupV y g b c + headSum (fun j => r j * k j * a j) c * v c

/-- A real number. -/
def IsReal (x : EReal) : Prop := ∃ a : ℝ, x = (a : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.self {x : EReal} (hx : IsReal x) : x - x = 0 := by
  obtain ⟨a, rfl⟩ := hx
  rw [← EReal.coe_sub, sub_self, EReal.coe_zero]

theorem IsReal.headSum {f : Fin 1024 → EReal} (h : ∀ k, IsReal (f k)) (k : Fin 1024) : IsReal (headSum f k) := by
  choose a ha using h
  have e : f = fun k => (a k : EReal) := funext ha
  subst e
  exact ⟨_, (Cert.Proof.coe_sum Finset.univ _).symm⟩

theorem inv64_eq : Ideal.ofBits .f32 0x3C800000#32 = ((1 / 64 : ℝ) : EReal) := by
  simp [Ideal.ofBits, Ideal.ieee, -EReal.coe_mul]; norm_num

theorem c64_eq : Ideal.ofBits .f32 0x42800000#32 = ((64 : ℝ) : EReal) := by
  simp [Ideal.ofBits, Ideal.ieee, -EReal.coe_mul]; norm_num

/-- Division by 64 is the product with 1/64. -/
theorem div64 (x : EReal) : Ideal.div x (Ideal.ofBits .f32 0x42800000#32) = x * Ideal.ofBits .f32 0x3C800000#32 := by
  rw [c64_eq, inv64_eq, Ideal.div_coe (by norm_num)]

theorem devV_real {y : Fin 1024 → EReal} (h : ∀ k, IsReal (y k)) (k : Fin 1024) : IsReal (devV y k) := by
  unfold devV
  rw [div64, inv64_eq]
  exact (h k).sub ((IsReal.headSum h k).mul ⟨_, rfl⟩)

/-- Of 128 numbers, those of lane `l`'s half. -/
theorem half_sum (f : Fin 128 → EReal) (l : Fin 128) :
    (∑ c : Fin 128, f c * (if c.val / 64 = l.val / 64 then 1 else 0)) = ∑ c : Fin 64, f ⟨l.val / 64 * 64 + c.val, by omega⟩ := by
  have e := Fin.sum_univ_add (a := 64) (b := 64) (fun c : Fin (64 + 64) => f c * (if c.val / 64 = l.val / 64 then (1 : EReal) else 0))
  refine e.trans ?_
  by_cases h : l.val < 64
  · have h0 : l.val / 64 = 0 := by omega
    refine (congrArg₂ (· + ·) (Finset.sum_congr rfl fun c _ => ?_) (Finset.sum_eq_zero fun c _ => ?_)).trans (add_zero _)
    · rw [if_pos (by show c.val / 64 = l.val / 64; omega), mul_one]
      exact congrArg f (Fin.ext (by show c.val = l.val / 64 * 64 + c.val; omega))
    · rw [if_neg (by show ¬ (64 + c.val) / 64 = l.val / 64; omega), mul_zero]
  · have h0 : l.val / 64 = 1 := by omega
    refine (congrArg₂ (· + ·) (Finset.sum_eq_zero fun c _ => ?_) (Finset.sum_congr rfl fun c _ => ?_)).trans (zero_add _)
    · rw [if_neg (by show ¬ c.val / 64 = l.val / 64; omega), mul_zero]
    · rw [if_pos (by show (64 + c.val) / 64 = l.val / 64; omega), mul_one]
      exact congrArg f (Fin.ext (by show 64 + c.val = l.val / 64 * 64 + c.val; omega))

end Cert.Proof.APost

end
-- ==== Proof.APost.Heads.lean ====
module

public import proofs.«01_k».proof.Proof.APost.Spec
public import proofs.«01_k».proof.Proof.Gen.Kernel6Ideal.Skeleton
public import Idealize.ShloMosaic.Lib.Pointwise
public import Idealize.ShloMosaic.Lib.Tactic.CleanTypes
public import Idealize.ShloMosaic.Lib.Tactic.IndexArith

@[expose] public section

set_option maxRecDepth 16384

noncomputable section

/-! # The kernel's sums over heads

A block is cut into eight pieces of two heads; each piece is split into a rounded part and the rest, and both are multiplied by
the matrix that holds 1 where row and column lie in the same head. -/

namespace Cert.Proof.APost

open Cert.Kernel6Ideal Cert.Kernel6Ideal.Gen Cert.Kernel6Ideal.Facts
open Idealize.ShloMosaic Idealize.ShloMosaic.TcCoe
open scoped BigOperators

/-- The matrix of ones and zeros. -/
def ones : FVec Ideal S128x128 .bf16 := k0_pay6 k0_pay2 k0_pay3 k0_pay4 k0_pay5

/-- A lane's quotient by 64, rounded down, as the kernel forms it. -/
def lane (n : BitVec 32) : BitVec 32 :=
  Scalar.select
    (IntOp.andi
      (IntOp.cmpi .ne (IntOp.subi (BitVec.setWidth 32 (IntOp.cmpi .sgt n 0#32)) (BitVec.setWidth 32 (IntOp.cmpi .slt n 0#32)))
        (Scalar.subi (Scalar.extui (Scalar.cmpi .sgt 64#32 0#32)) (Scalar.extui (Scalar.cmpi .slt 64#32 0#32))))
      (IntOp.cmpi .ne (IntOp.remsi .vector n 64#32) 0#32))
    (IntOp.subi (IntOp.divsi .vector n 64#32) 1#32) (IntOp.divsi .vector n 64#32)

theorem lane_eq : ∀ n : Fin 128, lane (BitVec.ofNat 32 n.val) = BitVec.ofNat 32 (n.val / 64) := by decide

/-- It holds 1 where row and column lie in the same head, else 0. -/
theorem ones_apply (a b : Fin 128) : (ones (ix2 a b) : EReal) = if a.val / 64 = b.val / 64 then 1 else 0 := by
  have e : (ones (ix2 a b) : EReal)
      = FloatOps.sitofp (F := Ideal) .f32 (BitVec.setWidth 32 (IntOp.cmpi .eq (lane (BitVec.ofNat 32 a.val)) (lane (BitVec.ofNat 32 b.val)))) := by
    unfold ones k0_pay6 k0_pay2 k0_pay3 k0_pay4 k0_pay5
    clean_types
    pointwise
    rfl
  have e1 : FloatOps.sitofp (F := Ideal) .f32 (1#32) = (1 : EReal) := by
    show ((((1#32 : BitVec 32).toInt : ℝ)) : EReal) = 1
    rw [show (1#32 : BitVec 32).toInt = 1 from by decide]
    simp
  have e0 : FloatOps.sitofp (F := Ideal) .f32 (0#32) = (0 : EReal) := by
    show ((((0#32 : BitVec 32).toInt : ℝ)) : EReal) = 0
    rw [show (0#32 : BitVec 32).toInt = 0 from by decide]
    simp
  rw [e, lane_eq, lane_eq]
  have ha : a.val / 64 = 0 ∨ a.val / 64 = 1 := by omega
  have hb : b.val / 64 = 0 ∨ b.val / 64 = 1 := by omega
  rcases ha with ha | ha <;> rcases hb with hb | hb <;> rw [ha, hb]
  · exact e1.trans (if_pos rfl).symm
  · exact e0.trans (if_neg (by decide)).symm
  · exact e0.trans (if_neg (by decide)).symm
  · exact e1.trans (if_pos rfl).symm

/-- Piece `j` of a block: columns `128 j` to `128 j + 127`. -/
def cut (X : FVec Ideal S512x1024 .f32) (j : Fin 8) : FVec Ideal S512x128 .f32 :=
  extractStridedSlice S512x128 ![0, j.val * 128] X (by revert j; decide)

theorem cut_apply (X : FVec Ideal S512x1024 .f32) (j : Fin 8) (r : Fin 512) (l : Fin 128) :
    (cut X j (ix2 r l) : EReal) = X (ix2 r ⟨j.val * 128 + l.val, by omega⟩) := by
  unfold cut
  clean_types
  pointwise

/-- The two products of a piece, added. -/
def part (B : FVec Ideal S128x128 .bf16) (x : FVec Ideal S512x128 .f32) : FVec Ideal S512x128 .f32 :=
  addf (matmul dot_S512x128_S128x128_S512x128_1_0_0_1_n_n none (truncf .bf16 x bitsLt_bf16_f32) B (constant S512x128 .f32 0x00000000#32))
    (matmul dot_S512x128_S128x128_S512x128_1_0_0_1_n_n none
      (truncf .bf16 (subf x (extf .f32 (truncf .bf16 x bitsLt_bf16_f32) bitsLt_bf16_f32)) bitsLt_bf16_f32) B (constant S512x128 .f32 0x00000000#32))

theorem part_split (B : FVec Ideal S128x128 .bf16) (x : FVec Ideal S512x128 .f32) (r : Fin 512) (l : Fin 128) :
    (part B x (ix2 r l) : EReal)
      = (∑ c : Fin 128, (x (ix2 r c) : EReal) * B (ix2 c l)) + ∑ c : Fin 128, ((x (ix2 r c) : EReal) - x (ix2 r c)) * B (ix2 c l) := by
  unfold part
  clean_types
  pointwise

theorem part_apply (x : FVec Ideal S512x128 .f32) (r : Fin 512) (l : Fin 128) (h : ∀ c, IsReal (x (ix2 r c))) :
    (part ones x (ix2 r l) : EReal) = ∑ c : Fin 64, (x (ix2 r ⟨l.val / 64 * 64 + c.val, by omega⟩) : EReal) := by
  have z : ∑ c : Fin 128, ((x (ix2 r c) : EReal) - x (ix2 r c)) * ones (ix2 c l) = 0 :=
    Finset.sum_eq_zero fun c _ => by rw [(h c).self, zero_mul]
  rw [part_split, z, add_zero]
  refine Eq.trans (Finset.sum_congr rfl fun c _ => ?_) (half_sum (fun c => x (ix2 r c)) l)
  rw [ones_apply]

/-- Eight pieces side by side. -/
def wide (G : Fin 8 → FVec Ideal S512x128 .f32) : FVec Ideal S512x1024 .f32 :=
  concatenate S512x1024 1 [⟨S512x128, G 0⟩, ⟨S512x128, G 1⟩, ⟨S512x128, G 2⟩, ⟨S512x128, G 3⟩, ⟨S512x128, G 4⟩, ⟨S512x128, G 5⟩, ⟨S512x128, G 6⟩, ⟨S512x128, G 7⟩]
    concatenates_S512x128_S512x128_S512x128_S512x128_S512x128_S512x128_S512x128_S512x128_S512x1024_d1

theorem wide_apply (G : Fin 8 → FVec Ideal S512x128 .f32) (r : Fin 512) (k : Fin 1024) :
    (wide G (ix2 r k) : EReal) = G ⟨k.val / 128, by omega⟩ (ix2 r ⟨k.val % 128, Nat.mod_lt _ (by decide)⟩) := by
  have e : ∀ (j : Fin 8) (n : ℕ) (h : n < 128), j.val * 128 + n = k.val →
      (G j (ix2 r ⟨n, h⟩) : EReal) = G ⟨k.val / 128, by omega⟩ (ix2 r ⟨k.val % 128, Nat.mod_lt _ (by decide)⟩) := by
    intro j n h hk
    have h1 : j = ⟨k.val / 128, by omega⟩ := Fin.ext (by show j.val = k.val / 128; omega)
    have h2 : (⟨n, h⟩ : Fin 128) = ⟨k.val % 128, Nat.mod_lt _ (by decide)⟩ := Fin.ext (by show n = k.val % 128; omega)
    rw [h2, ← h1]
  unfold wide
  clean_types
  pointwise
  split_ifs <;> exact e _ _ _ (by omega)

/-- The sums of all heads of a block. -/
def sums (B : FVec Ideal S128x128 .bf16) (X : FVec Ideal S512x1024 .f32) : FVec Ideal S512x1024 .f32 := wide fun j => part B (cut X j)

/-- On a row of real numbers they are the sums over the heads. -/
theorem sums_apply (X : FVec Ideal S512x1024 .f32) (r : Fin 512) (h : ∀ k, IsReal (X (ix2 r k))) (k : Fin 1024) :
    (sums ones X (ix2 r k) : EReal) = headSum (fun k => X (ix2 r k)) k := by
  unfold sums
  rw [wide_apply, part_apply _ _ _ (fun c => by rw [cut_apply]; exact h _)]
  refine Finset.sum_congr rfl fun c _ => ?_
  rw [cut_apply]
  exact congrArg (fun k => X (ix2 r k)) (Fin.ext (by show k.val / 128 * 128 + (k.val % 128 / 64 * 64 + c.val) = k.val / 64 * 64 + c.val; omega))

end Cert.Proof.APost

end
-- ==== Proof.APost.Body.lean ====
module

public import proofs.«01_k».proof.Proof.APost.Heads
public import proofs.«01_k».proof.Proof.Gen.Kernel6Ideal.Frame

@[expose] public section

set_option maxRecDepth 16384

noncomputable section

/-! What the body stores, entry by entry, on rows of real numbers. -/

namespace Cert.Proof.APost

open Cert.Kernel6Ideal Cert.Kernel6Ideal.Gen Cert.Kernel6Ideal.Facts
open Idealize.ShloMosaic Idealize.ShloMosaic.TcCoe
open scoped BigOperators

/-- A block less its heads' means. -/
def dev (y : FVec Ideal S512x1024 .f32) : FVec Ideal S512x1024 .f32 :=
  subf y (mulf (sums ones y) (broadcast S512x1024 (Scalar.ofBits .f32 0x3C800000#32)))

theorem dev_apply (y : FVec Ideal S512x1024 .f32) (r : Fin 512) (h : ∀ k, IsReal (y (ix2 r k))) (k : Fin 1024) :
    (dev y (ix2 r k) : EReal) = devV (fun k => y (ix2 r k)) k := by
  have e : (dev y (ix2 r k) : EReal) = y (ix2 r k) - sums ones y (ix2 r k) * Ideal.ofBits .f32 0x3C800000#32 := rfl
  rw [e, sums_apply y r h k]
  unfold devV
  rw [div64]

/-- The normalised heads. -/
theorem group_apply (y : FVec Ideal S512x1024 .f32) (g b : Vec Ideal S1x1x1024 .f32) (r : Fin 512) (h : ∀ k, IsReal (y (ix2 r k))) (k : Fin 1024) :
    (k0_pay22 (dev y) (sums ones (mulf (dev y) (dev y))) g b (ix2 r k) : EReal)
      = groupV (fun k => y (ix2 r k)) (fun k => g (ix3 (0 : Fin 1) (0 : Fin 1) k)) (fun k => b (ix3 (0 : Fin 1) (0 : Fin 1) k)) k := by
  have hd : ∀ k, IsReal (dev y (ix2 r k)) := fun k => by rw [dev_apply y r h]; exact devV_real h k
  have e : (k0_pay22 (dev y) (sums ones (mulf (dev y) (dev y))) g b (ix2 r k) : EReal)
      = dev y (ix2 r k) * Ideal.rsqrt (sums ones (mulf (dev y) (dev y)) (ix2 r k) * Ideal.ofBits .f32 0x3C800000#32 + Ideal.ofBits .f32 0x3A27C5AC#32)
          * g (ix3 (0 : Fin 1) (0 : Fin 1) k) + b (ix3 (0 : Fin 1) (0 : Fin 1) k) := by
    unfold k0_pay22
    clean_types
    pointwise
  have s : (sums ones (mulf (dev y) (dev y)) (ix2 r k) : EReal)
      = headSum (fun j => devV (fun k => y (ix2 r k)) j * devV (fun k => y (ix2 r k)) j) k := by
    rw [sums_apply (mulf (dev y) (dev y)) r (fun j => (hd j).mul (hd j)) k]
    exact congrArg (fun f => headSum f k) (funext fun j => congrArg₂ (· * ·) (dev_apply y r h j) (dev_apply y r h j))
  rw [e, s, dev_apply y r h]
  unfold groupV
  rw [div64]

theorem rka_apply (x1 x2 : Vec Ideal S512x1024 .f32) (a : Vec Ideal S1x1x1024 .f32) (r : Fin 512) (k : Fin 1024) :
    (k0_pay23 x1 x2 a (ix2 r k) : EReal) = x1 (ix2 r k) * x2 (ix2 r k) * a (ix3 (0 : Fin 1) (0 : Fin 1) k) := by
  unfold k0_pay23
  clean_types
  pointwise

theorem end_apply (n s : FVec Ideal S512x1024 .f32) (v z x : Vec Ideal S512x1024 .f32) (w : Vec Ideal S1x1024x1024 .bf16) (r : Fin 512) (q : Fin 1024) :
    (k0_pay1 n s v z x w (ix2 r q) : EReal)
      = Post.postV (fun k => x (ix2 r k)) (fun k => (n (ix2 r k) : EReal) + s (ix2 r k) * v (ix2 r k)) (fun k => z (ix2 r k))
          (fun k q => w (ix3 (0 : Fin 1) k q)) q := by
  have e : (k0_pay1 n s v z x w (ix2 r q) : EReal)
      = x (ix2 r q) + ∑ k : Fin 1024, (((n (ix2 r k) : EReal) + s (ix2 r k) * v (ix2 r k))
          * (z (ix2 r k) * Ideal.div (Ideal.ofBits .f32 0x3F800000#32) (Ideal.ofBits .f32 0x3F800000#32 + Ideal.exp (Ideal.ofBits .f32 0x00000000#32 - z (ix2 r k)))))
          * w (ix3 (0 : Fin 1) k q) := by
    unfold k0_pay1
    clean_types
    pointwise
  rw [e]
  simp only [show Ideal.ofBits .f32 0x00000000#32 = 0 from by simp, zero_sub]
  rfl

/-- Row `r` of the stored block. -/
def blockRow (x0 x1 x2 x3 x4 x5 : Vec Ideal S512x1024 .f32) (x6 x7 x8 : Vec Ideal S1x1x1024 .f32) (x9 : Vec Ideal S1x1024x1024 .bf16) (r : Fin 512) : Fin 1024 → EReal :=
  Post.postV (fun k => x5 (ix2 r k))
    (mixV (fun k => x0 (ix2 r k)) (fun k => x1 (ix2 r k)) (fun k => x2 (ix2 r k)) (fun k => x3 (ix2 r k))
      (fun k => x6 (ix3 (0 : Fin 1) (0 : Fin 1) k)) (fun k => x7 (ix3 (0 : Fin 1) (0 : Fin 1) k)) (fun k => x8 (ix3 (0 : Fin 1) (0 : Fin 1) k)))
    (fun k => x4 (ix2 r k)) (fun k q => x9 (ix3 (0 : Fin 1) k q))

/-- The stored block. -/
def stored (x0 x1 x2 x3 x4 x5 : Vec Ideal S512x1024 .f32) (x6 x7 x8 : Vec Ideal S1x1x1024 .f32) (x9 : Vec Ideal S1x1024x1024 .bf16) : FVec Ideal S512x1024 .f32 :=
  k0_pay1 (k0_pay22 (dev x0) (sums ones (mulf (dev x0) (dev x0))) x7 x8) (sums ones (k0_pay23 x1 x2 x6)) x3 x4 x5 x9

theorem stored_apply (x0 x1 x2 x3 x4 x5 : Vec Ideal S512x1024 .f32) (x6 x7 x8 : Vec Ideal S1x1x1024 .f32) (x9 : Vec Ideal S1x1024x1024 .bf16)
    (r : Fin 512) (q : Fin 1024) (h0 : ∀ k, IsReal (x0 (ix2 r k))) (h1 : ∀ k, IsReal (x1 (ix2 r k))) (h2 : ∀ k, IsReal (x2 (ix2 r k)))
    (h6 : ∀ k, IsReal (x6 (ix3 (0 : Fin 1) (0 : Fin 1) k))) :
    (stored x0 x1 x2 x3 x4 x5 x6 x7 x8 x9 (ix2 r q) : EReal) = blockRow x0 x1 x2 x3 x4 x5 x6 x7 x8 x9 r q := by
  unfold stored
  rw [end_apply]
  refine congrArg (fun f => Post.postV (fun k => x5 (ix2 r k)) f (fun k => x4 (ix2 r k)) (fun k q => x9 (ix3 (0 : Fin 1) k q)) q) (funext fun k => ?_)
  refine congrArg₂ (· + ·) (group_apply x0 x7 x8 r h0 k) (congrArg (· * _) ?_)
  rw [sums_apply _ r (fun j => by rw [rka_apply]; exact ((h1 j).mul (h2 j)).mul (h6 j)) k]
  exact congrArg (fun f => headSum f k) (funext fun j => rka_apply x1 x2 x6 r j)

/-! The body's values are the sums above. -/

theorem plain_eq (y : Vec Ideal S512x1024 .f32) : k0_pay7 y = y := shapeCast_self _ _

theorem dev_eq (y : Vec Ideal S512x1024 .f32) :
    k0_pay16 ones (k0_pay7 y) (k0_pay8 k0_pay2 k0_pay3 k0_pay4 k0_pay5 y) (k0_pay9 k0_pay2 k0_pay3 k0_pay4 k0_pay5 y)
      (k0_pay10 k0_pay2 k0_pay3 k0_pay4 k0_pay5 y) (k0_pay11 k0_pay2 k0_pay3 k0_pay4 k0_pay5 y) (k0_pay14 y)
      (k0_pay15 k0_pay2 k0_pay3 k0_pay4 k0_pay5 y) = dev y := by
  unfold k0_pay8 k0_pay9 k0_pay10 k0_pay11 k0_pay14 k0_pay15 k0_pay13 k0_pay12
  rw [plain_eq]
  rfl

theorem squares_eq (B : FVec Ideal S128x128 .bf16) (y : FVec Ideal S512x1024 .f32) (a b d e : FVec Ideal S512x128 .f32) (f : FVec Ideal S512x128 .bf16) (g : FVec Ideal S512x128 .f32) :
    k0_pay21 B (k0_pay17 B y a b d e f g) (k0_pay18 B y a b d e f g) (k0_pay19 B y a b d e f g) (k0_pay20 B y a b d e f g)
      = sums B (mulf (k0_pay16 B y a b d e f g) (k0_pay16 B y a b d e f g)) := rfl

theorem rka_eq (B : FVec Ideal S128x128 .bf16) (x y : Vec Ideal S512x1024 .f32) (a : Vec Ideal S1x1x1024 .f32) :
    k0_pay28 B (k0_pay23 x y a) (k0_pay24 B x y a) (k0_pay25 B x y a) (k0_pay26 x y a) (k0_pay27 x y a) = sums B (k0_pay23 x y a) := rfl

/-- The block the body stores, of the blocks it loads. -/
theorem out_eq (x0 x1 x2 x3 x4 x5 : Vec Ideal S512x1024 .f32) (x6 x7 x8 : Vec Ideal S1x1x1024 .f32) (x9 : Vec Ideal S1x1024x1024 .bf16) :
    out0_10 x0 x1 x2 x3 x4 x5 x6 x7 x8 x9
      = View.canon [⟨r0_0, stored (View.ld x0 r0_0) (View.ld x1 r0_0) (View.ld x2 r0_0) (View.ld x3 r0_0) (View.ld x4 r0_0) (View.ld x5 r0_0)
          (View.ld x6 r0_1) (View.ld x7 r0_1) (View.ld x8 r0_1) (View.ld x9 r0_2)⟩] := by
  unfold_out out0_10
  unfold stored
  rw [squares_eq, rka_eq, ← dev_eq]
  rfl

theorem whole (x : Vec Ideal S512x1024 .f32) : View.ld x r0_0 = x := View.ld_unit_zero (by decide) _ _

theorem whole_row (x : Vec Ideal S1x1x1024 .f32) : View.ld x r0_1 = x := View.ld_unit_zero (by decide) _ _

theorem whole_weights (x : Vec Ideal S1x1024x1024 .bf16) : View.ld x r0_2 = x := View.ld_unit_zero (by decide) _ _

/-- A place of a block stored as a whole is its own. -/
theorem place (x : S512x1024.Idx) : (r0_0.emb x : S512x1024.Idx) = x := by
  refine funext fun a => Fin.ext ?_
  match a with
  | ⟨0, _⟩ => show 0 + 1 * (x 0).val = (x 0).val; omega
  | ⟨1, _⟩ => show 0 + 1 * (x 1).val = (x 1).val; omega

theorem out_apply (x0 x1 x2 x3 x4 x5 : Vec Ideal S512x1024 .f32) (x6 x7 x8 : Vec Ideal S1x1x1024 .f32) (x9 : Vec Ideal S1x1024x1024 .bf16)
    (r : Fin 512) (q : Fin 1024) (h0 : ∀ r k, IsReal (x0 (ix2 r k))) (h1 : ∀ r k, IsReal (x1 (ix2 r k))) (h2 : ∀ r k, IsReal (x2 (ix2 r k)))
    (h6 : ∀ k, IsReal (x6 (ix3 (0 : Fin 1) (0 : Fin 1) k))) :
    (out0_10 x0 x1 x2 x3 x4 x5 x6 x7 x8 x9 (ix2 r q) : EReal) = blockRow x0 x1 x2 x3 x4 x5 x6 x7 x8 x9 r q := by
  rw [out_eq]
  simp only [whole, whole_row, whole_weights]
  refine View.canon_apply_of_pieces (Val := Elt Ideal) (e := .f32) (fun y => blockRow x0 x1 x2 x3 x4 x5 x6 x7 x8 x9 (y 0) (y 1)) _
    (List.forall_mem_cons.2 ⟨fun x => ?_, fun _ h => absurd h List.not_mem_nil⟩) (ix2 r q) (cover0_10 _ _)
  refine Eq.trans ?_ (congrArg (fun y : S512x1024.Idx => blockRow x0 x1 x2 x3 x4 x5 x6 x7 x8 x9 (y 0) (y 1)) (place x).symm)
  refine Eq.trans ?_ (stored_apply x0 x1 x2 x3 x4 x5 x6 x7 x8 x9 (x 0) (x 1) (h0 (x 0)) (h1 (x 0)) (h2 (x 0)) h6)
  exact congrArg (stored x0 x1 x2 x3 x4 x5 x6 x7 x8 x9) (eq_ix2 (n0 := 512) (n1 := 1024) x)

end Cert.Proof.APost

end
-- ==== Proof.APost.Result.lean ====
module

public import proofs.«01_k».proof.Proof.APost.Body
public import proofs.«01_k».proof.Proof.Proj.Result

@[expose] public section

set_option maxRecDepth 16384

noncomputable section

/-! The result of a linear-attention layer's end: its blocks, put together. -/

namespace Cert.Proof.APost

open Cert.Kernel6Ideal
open Idealize.ShloMosaic Idealize.ShloMosaic.TcCoe Idealize.SL.Sem
open Idealize.ShloMosaic.Pipeline (Dat)
open Cert.Kernel6Ideal.Gen

/-- Rows of eight sequences. -/
abbrev Rows := (⟨S8x2048x1024, .f32⟩ : BufTy).Contents (Elt Ideal)
/-- A row of weights of each layer. -/
abbrev Gains := (⟨S2x1024, .f32⟩ : BufTy).Contents (Elt Ideal)
/-- The weights of each layer's heads. -/
abbrev Heads := (⟨S2x16x64, .f32⟩ : BufTy).Contents (Elt Ideal)
/-- The output matrix of each layer. -/
abbrev Mats := (⟨S2x1024x1024, .f32⟩ : BufTy).Contents (Elt Ideal)

/-- Column `k` of the first layer's head weights. -/
def headRow (A : Heads) (k : Fin 1024) : EReal := A (ix3 (0 : Fin 2) (⟨k.val / 64, by omega⟩ : Fin 16) (⟨k.val % 64, Nat.mod_lt _ (by decide)⟩ : Fin 64))

/-- Row `t` of sequence `b` after the layer. -/
def rowOf (Y R K V Z X : Rows) (A : Heads) (G B : Gains) (W : Mats) (b : Fin 8) (t : Fin 2048) : Fin 1024 → EReal :=
  Post.postV (fun k => X (ix3 b t k))
    (mixV (fun k => Y (ix3 b t k)) (fun k => R (ix3 b t k)) (fun k => K (ix3 b t k)) (fun k => V (ix3 b t k))
      (headRow A) (fun k => G (ix2 (0 : Fin 2) k)) (fun k => B (ix2 (0 : Fin 2) k)))
    (fun k => Z (ix3 b t k)) (fun k q => W (ix3 (0 : Fin 2) k q))

/-- The result from the ten arguments. -/
def result (Y R K V Z X : Rows) (A : Heads) (G B : Gains) (W : Mats) : (⟨S16384x1024, .f32⟩ : BufTy).Contents (Elt Ideal) := fun i =>
  rowOf Y R K V Z X A G B W (⟨(i 0).val / 2048, Nat.div_lt_of_lt_mul (i 0).isLt⟩ : Fin 8) (⟨(i 0).val % 2048, Nat.mod_lt _ (by decide)⟩ : Fin 2048) (i 1)

theorem heads_apply (A : Heads) (k : Fin 1024) :
    (shapeCast S2x1x1024 A shapeCasts_S2x16x64_S2x1x1024 : (⟨S2x1x1024, .f32⟩ : BufTy).Contents (Elt Ideal)) (ix3 (0 : Fin 2) (0 : Fin 1) k) = headRow A k := by
  unfold headRow
  clean_types
  pointwise

theorem gain_apply (G : Gains) (k : Fin 1024) :
    (shapeCast S2x1x1024 G shapeCasts_S2x1024_S2x1x1024 : (⟨S2x1x1024, .f32⟩ : BufTy).Contents (Elt Ideal)) (ix3 (0 : Fin 2) (0 : Fin 1) k) = G (ix2 (0 : Fin 2) k) := by
  clean_types
  pointwise

theorem rows_apply (X : Rows) (n : Fin 16384) (k : Fin 1024) :
    (shapeCast S16384x1024 X shapeCasts_S8x2048x1024_S16384x1024 : (⟨S16384x1024, .f32⟩ : BufTy).Contents (Elt Ideal)) (ix2 n k)
      = X (ix3 (⟨n.val / 2048, by omega⟩ : Fin 8) (⟨n.val % 2048, Nat.mod_lt _ (by decide)⟩ : Fin 2048) k) := by
  clean_types
  pointwise

variable (m : (ℓ : Loc nD τ sig) → Buf (Elt Ideal) ℓ) (c : Dev nD)

/-! ## The arrays before the call -/

theorem rows0_eq : V m c main_v4 = shapeCast S16384x1024 (m ((c : Thread nD τ).loc main_arg0)) shapeCasts_S8x2048x1024_S16384x1024 := by
  simp only [V, hostOps0]
  after_results_simp
  rfl

theorem rows1_eq : V m c main_v5 = shapeCast S16384x1024 (m ((c : Thread nD τ).loc main_arg1)) shapeCasts_S8x2048x1024_S16384x1024 := by
  simp only [V, hostOps0]
  after_results_simp
  rfl

theorem rows2_eq : V m c main_v6 = shapeCast S16384x1024 (m ((c : Thread nD τ).loc main_arg2)) shapeCasts_S8x2048x1024_S16384x1024 := by
  simp only [V, hostOps0]
  after_results_simp
  rfl

theorem rows3_eq : V m c main_v7 = shapeCast S16384x1024 (m ((c : Thread nD τ).loc main_arg3)) shapeCasts_S8x2048x1024_S16384x1024 := by
  simp only [V, hostOps0]
  after_results_simp
  rfl

theorem rows4_eq : V m c main_v8 = shapeCast S16384x1024 (m ((c : Thread nD τ).loc main_arg4)) shapeCasts_S8x2048x1024_S16384x1024 := by
  simp only [V, hostOps0]
  after_results_simp
  rfl

theorem rows5_eq : V m c main_v9 = shapeCast S16384x1024 (m ((c : Thread nD τ).loc main_arg5)) shapeCasts_S8x2048x1024_S16384x1024 := by
  simp only [V, hostOps0]
  after_results_simp
  rfl

theorem row0_eq : V m c main_v0 = shapeCast S2x1x1024 (m ((c : Thread nD τ).loc main_arg6)) shapeCasts_S2x16x64_S2x1x1024 := by
  simp only [V, hostOps0]
  after_results_simp
  rfl

theorem row1_eq : V m c main_v1 = shapeCast S2x1x1024 (m ((c : Thread nD τ).loc main_arg7)) shapeCasts_S2x1024_S2x1x1024 := by
  simp only [V, hostOps0]
  after_results_simp
  rfl

theorem row2_eq : V m c main_v2 = shapeCast S2x1x1024 (m ((c : Thread nD τ).loc main_arg8)) shapeCasts_S2x1024_S2x1x1024 := by
  simp only [V, hostOps0]
  after_results_simp
  rfl

theorem weights_eq : V m c main_v3 = (truncf .bf16 (m ((c : Thread nD τ).loc main_arg9)) bitsLt_bf16_f32 : FVec Ideal S2x1024x1024 .bf16) := by
  simp only [V, hostOps0]
  after_results_simp

/-! ## The blocks -/

/-- The place in the array of row `r` of block `t`. -/
def place_of (t : Fin cfg0.N) (r : Fin 512) : Fin 16384 := ⟨t.val * 512 + r.val, by have h := t.isLt; have e : cfg0.N = 32 := N_0; omega⟩

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![t.val, 0] := by decide +kernel
theorem index4 : ∀ t : Fin grid0.N, win0_4.index t = ![t.val, 0] := by decide +kernel
theorem index5 : ∀ t : Fin grid0.N, win0_5.index t = ![t.val, 0] := by decide +kernel
theorem index10 : ∀ t : Fin grid0.N, win0_10.index t = ![t.val, 0] := by decide +kernel
theorem index6 : ∀ t : Fin grid0.N, win0_6.index t = ![0, 0, 0] := by decide +kernel
theorem index7 : ∀ t : Fin grid0.N, win0_7.index t = ![0, 0, 0] := by decide +kernel
theorem index8 : ∀ t : Fin grid0.N, win0_8.index t = ![0, 0, 0] := by decide +kernel
theorem index9 : ∀ t : Fin grid0.N, win0_9.index t = ![0, 0, 0] := by decide +kernel

theorem at_rows (t : Fin cfg0.N) (r : Fin 512) (k : Fin 1024) (i : S16384x1024.Idx) (n : Fin 2 → ℕ) (e : n = ![t.val, 0])
    (h0 : (i 0).val = n 0 * 512 + 1 * r.val) (h1 : (i 1).val = n 1 * 1024 + 1 * k.val) : i = ix2 (place_of t r) k := by
  subst e
  refine funext fun a => Fin.ext ?_
  match a with
  | ⟨0, _⟩ => refine h0.trans ?_; show t.val * 512 + 1 * r.val = t.val * 512 + r.val; omega
  | ⟨1, _⟩ => refine h1.trans ?_; show 0 * 1024 + 1 * k.val = k.val; omega

theorem at_row (k : Fin 1024) (i : S2x1x1024.Idx) (n : Fin 3 → ℕ) (e : n = ![0, 0, 0])
    (h0 : (i 0).val = n 0 * 1 + 1 * 0) (h1 : (i 1).val = n 1 * 1 + 1 * 0) (h2 : (i 2).val = n 2 * 1024 + 1 * k.val) : i = ix3 (0 : Fin 2) (0 : Fin 1) k := by
  subst e
  refine funext fun a => Fin.ext ?_
  match a with
  | ⟨0, _⟩ => exact h0
  | ⟨1, _⟩ => exact h1
  | ⟨2, _⟩ => refine h2.trans ?_; show 0 * 1024 + 1 * k.val = k.val; omega

theorem emb0 (t : Fin cfg0.N) (r : Fin 512) (k : Fin 1024) : (win0_0.blk t).view.emb (ix2 r k) = ix2 (place_of t r) k :=
  at_rows t r k _ _ (index0 t) rfl rfl

theorem emb1 (t : Fin cfg0.N) (r : Fin 512) (k : Fin 1024) : (win0_1.blk t).view.emb (ix2 r k) = ix2 (place_of t r) k :=
  at_rows t r k _ _ (index1 t) rfl rfl

theorem emb2 (t : Fin cfg0.N) (r : Fin 512) (k : Fin 1024) : (win0_2.blk t).view.emb (ix2 r k) = ix2 (place_of t r) k :=
  at_rows t r k _ _ (index2 t) rfl rfl

theorem emb3 (t : Fin cfg0.N) (r : Fin 512) (k : Fin 1024) : (win0_3.blk t).view.emb (ix2 r k) = ix2 (place_of t r) k :=
  at_rows t r k _ _ (index3 t) rfl rfl

theorem emb4 (t : Fin cfg0.N) (r : Fin 512) (k : Fin 1024) : (win0_4.blk t).view.emb (ix2 r k) = ix2 (place_of t r) k :=
  at_rows t r k _ _ (index4 t) rfl rfl

theorem emb5 (t : Fin cfg0.N) (r : Fin 512) (k : Fin 1024) : (win0_5.blk t).view.emb (ix2 r k) = ix2 (place_of t r) k :=
  at_rows t r k _ _ (index5 t) rfl rfl

theorem emb10 (t : Fin cfg0.N) (r : Fin 512) (k : Fin 1024) : (win0_10.blk t).view.emb (ix2 r k) = ix2 (place_of t r) k :=
  at_rows t r k _ _ (index10 t) rfl rfl

theorem emb6 (t : Fin cfg0.N) (k : Fin 1024) : (win0_6.blk t).view.emb (ix3 (0 : Fin 1) (0 : Fin 1) k) = ix3 (0 : Fin 2) (0 : Fin 1) k :=
  at_row k _ _ (index6 t) rfl rfl rfl

theorem emb7 (t : Fin cfg0.N) (k : Fin 1024) : (win0_7.blk t).view.emb (ix3 (0 : Fin 1) (0 : Fin 1) k) = ix3 (0 : Fin 2) (0 : Fin 1) k :=
  at_row k _ _ (index7 t) rfl rfl rfl

theorem emb8 (t : Fin cfg0.N) (k : Fin 1024) : (win0_8.blk t).view.emb (ix3 (0 : Fin 1) (0 : Fin 1) k) = ix3 (0 : Fin 2) (0 : Fin 1) k :=
  at_row k _ _ (index8 t) rfl rfl rfl

theorem emb9 (t : Fin cfg0.N) (k q : Fin 1024) : (win0_9.blk t).view.emb (ix3 (0 : Fin 1) k q) = ix3 (0 : Fin 2) k q := by
  refine funext fun a => Fin.ext ?_
  have e := index9 t
  match a with
  | ⟨0, _⟩ =>
    show win0_9.index t 0 * 1 + 1 * 0 = 0
    rw [e]; rfl
  | ⟨1, _⟩ =>
    show win0_9.index t 1 * 1024 + 1 * k.val = k.val
    rw [e]; show 0 * 1024 + 1 * k.val = _; omega
  | ⟨2, _⟩ =>
    show win0_9.index t 2 * 1024 + 1 * q.val = q.val
    rw [e]; show 0 * 1024 + 1 * q.val = _; omega

/-- The sequence and the time of row `r` of block `t`. -/
def batch (t : Fin cfg0.N) (r : Fin 512) : Fin 8 := ⟨(place_of t r).val / 2048, by omega⟩
def time (t : Fin cfg0.N) (r : Fin 512) : Fin 2048 := ⟨(place_of t r).val % 2048, Nat.mod_lt _ (by decide)⟩

theorem block0 (t : Fin cfg0.N) (r : Fin 512) (k : Fin 1024) :
    (iblk m c 0 t (ix2 r k) : EReal) = m ((c : Thread nD τ).loc main_arg0) (ix3 (batch t r) (time t r) k) := by
  show (V m c main_v4 ((win0_0.blk t).view.emb (ix2 r k)) : EReal) = _
  rw [emb0, rows0_eq]
  exact rows_apply _ _ _

theorem block1 (t : Fin cfg0.N) (r : Fin 512) (k : Fin 1024) :
    (iblk m c 1 t (ix2 r k) : EReal) = m ((c : Thread nD τ).loc main_arg1) (ix3 (batch t r) (time t r) k) := by
  show (V m c main_v5 ((win0_1.blk t).view.emb (ix2 r k)) : EReal) = _
  rw [emb1, rows1_eq]
  exact rows_apply _ _ _

theorem block2 (t : Fin cfg0.N) (r : Fin 512) (k : Fin 1024) :
    (iblk m c 2 t (ix2 r k) : EReal) = m ((c : Thread nD τ).loc main_arg2) (ix3 (batch t r) (time t r) k) := by
  show (V m c main_v6 ((win0_2.blk t).view.emb (ix2 r k)) : EReal) = _
  rw [emb2, rows2_eq]
  exact rows_apply _ _ _

theorem block3 (t : Fin cfg0.N) (r : Fin 512) (k : Fin 1024) :
    (iblk m c 3 t (ix2 r k) : EReal) = m ((c : Thread nD τ).loc main_arg3) (ix3 (batch t r) (time t r) k) := by
  show (V m c main_v7 ((win0_3.blk t).view.emb (ix2 r k)) : EReal) = _
  rw [emb3, rows3_eq]
  exact rows_apply _ _ _

theorem block4 (t : Fin cfg0.N) (r : Fin 512) (k : Fin 1024) :
    (iblk m c 4 t (ix2 r k) : EReal) = m ((c : Thread nD τ).loc main_arg4) (ix3 (batch t r) (time t r) k) := by
  show (V m c main_v8 ((win0_4.blk t).view.emb (ix2 r k)) : EReal) = _
  rw [emb4, rows4_eq]
  exact rows_apply _ _ _

theorem block5 (t : Fin cfg0.N) (r : Fin 512) (k : Fin 1024) :
    (iblk m c 5 t (ix2 r k) : EReal) = m ((c : Thread nD τ).loc main_arg5) (ix3 (batch t r) (time t r) k) := by
  show (V m c main_v9 ((win0_5.blk t).view.emb (ix2 r k)) : EReal) = _
  rw [emb5, rows5_eq]
  exact rows_apply _ _ _

theorem block6 (t : Fin cfg0.N) (k : Fin 1024) :
    (iblk m c 6 t (ix3 (0 : Fin 1) (0 : Fin 1) k) : EReal) = headRow (m ((c : Thread nD τ).loc main_arg6)) k := by
  show (V m c main_v0 ((win0_6.blk t).view.emb (ix3 (0 : Fin 1) (0 : Fin 1) k)) : EReal) = _
  rw [emb6, row0_eq]
  exact heads_apply _ _

theorem block7 (t : Fin cfg0.N) (k : Fin 1024) :
    (iblk m c 7 t (ix3 (0 : Fin 1) (0 : Fin 1) k) : EReal) = m ((c : Thread nD τ).loc main_arg7) (ix2 (0 : Fin 2) k) := by
  show (V m c main_v1 ((win0_7.blk t).view.emb (ix3 (0 : Fin 1) (0 : Fin 1) k)) : EReal) = _
  rw [emb7, row1_eq]
  exact gain_apply _ _

theorem block8 (t : Fin cfg0.N) (k : Fin 1024) :
    (iblk m c 8 t (ix3 (0 : Fin 1) (0 : Fin 1) k) : EReal) = m ((c : Thread nD τ).loc main_arg8) (ix2 (0 : Fin 2) k) := by
  show (V m c main_v2 ((win0_8.blk t).view.emb (ix3 (0 : Fin 1) (0 : Fin 1) k)) : EReal) = _
  rw [emb8, row2_eq]
  exact gain_apply _ _

theorem block9 (t : Fin cfg0.N) (k q : Fin 1024) :
    (iblk m c 9 t (ix3 (0 : Fin 1) k q) : EReal) = m ((c : Thread nD τ).loc main_arg9) (ix3 (0 : Fin 2) k q) := by
  show (V m c main_v3 ((win0_9.blk t).view.emb (ix3 (0 : Fin 1) k q)) : EReal) = _
  rw [emb9, weights_eq]
  rfl

/-- A block's rows are the arguments'. -/
theorem row_eq (t : Fin cfg0.N) (r : Fin 512) : blockRow (iblk m c 0 t) (iblk m c 1 t) (iblk m c 2 t) (iblk m c 3 t) (iblk m c 4 t) (iblk m c 5 t) (iblk m c 6 t) (iblk m c 7 t) (iblk m c 8 t) (iblk m c 9 t) r
    = rowOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (batch t r) (time t r) := by
  unfold blockRow rowOf
  simp only [block0, block1, block2, block3, block4, block5, block6, block7, block8, block9]

/-- The arguments that the kernel splits are real numbers. -/
structure Reals (Y R K : Rows) (A : Heads) : Prop where
  y : ∀ i, IsReal (Y i)
  r : ∀ i, IsReal (R i)
  k : ∀ i, IsReal (K i)
  a : ∀ i, IsReal (A i)

variable (hr : Reals (m ((c : Thread nD τ).loc main_arg0)) (m ((c : Thread nD τ).loc main_arg1)) (m ((c : Thread nD τ).loc main_arg2)) (m ((c : Thread nD τ).loc main_arg6)))
include hr

theorem out_at (t : Fin cfg0.N) (r : Fin 512) (q : Fin 1024) :
    (out0_10 (iblk m c 0 t) (iblk m c 1 t) (iblk m c 2 t) (iblk m c 3 t) (iblk m c 4 t) (iblk m c 5 t) (iblk m c 6 t) (iblk m c 7 t) (iblk m c 8 t) (iblk m c 9 t) (ix2 r q) : EReal)
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 (place_of t r) q) := by
  refine (out_apply _ _ _ _ _ _ _ _ _ _ r q (fun r k => ?_) (fun r k => ?_) (fun r k => ?_) (fun k => ?_)).trans ?_
  · rw [block0]; exact hr.y _
  · rw [block1]; exact hr.r _
  · rw [block2]; exact hr.k _
  · rw [block6]; exact hr.a _
  · exact congrFun (row_eq m c t r) q

theorem flushed_eq (t : Fin cfg0.N) : (dats m 0 c).flushed 10 t = (win0_10.blk t).view.read (Elt Ideal)
    (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  show (cfg0.win 10).cut (grid0.coords t) ((dats m 0 c).after 10 t) = _
  rw [after0_10]
  funext y
  obtain ⟨r, q, rfl⟩ : ∃ (r : Fin 512) (q : Fin 1024), y = ix2 r q := ⟨y 0, y 1, eq_ix2 (n0 := 512) (n1 := 1024) y⟩
  refine (out_at m c hr t r q).trans ?_
  exact congrArg (result _ _ _ _ _ _ _ _ _ _) (emb10 t r q).symm

omit hr in
/-- The blocks cover the result. -/
theorem cover (i : S16384x1024.Idx) : ∃ t : Fin cfg0.N, (cfg0.win 10).flush t = true ∧ i ∈ ((cfg0.win 10).blk t).view.set := by
  have hN : cfg0.N = 32 := N_0
  have i0 : (i 0).val < 16384 := (i 0).isLt
  refine ⟨⟨(i 0).val / 512, by omega⟩, flush0_10 _, ?_⟩
  refine Finset.mem_map.mpr ⟨ix2 (⟨(i 0).val % 512, Nat.mod_lt _ (by decide)⟩ : Fin 512) (i 1), Finset.mem_univ _, ?_⟩
  refine (emb10 _ _ _).trans (funext fun a => Fin.ext ?_)
  match a with
  | ⟨0, _⟩ => show (i 0).val / 512 * 512 + (i 0).val % 512 = (i 0).val; omega
  | ⟨1, _⟩ => rfl

/-- The result's array after the run. -/
theorem final : (dats m 0 c).arrAt 10 cfg0.N
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 10 _ (fun t _ => flushed_eq m c hr t) cover

end Cert.Proof.APost

end
-- ==== Proof.APost.Ref.lean ====
module

public import proofs.«01_k».proof.Proof.APost.Result
public import proofs.«01_k».proof.Proof.Post.Ref
public import proofs.«01_k».proof.Proof.Gen.Reference6Ideal.Run
public import Idealize.ShloMosaic.Lib.Tactic.CleanTypes
public import Idealize.ShloMosaic.Lib.Tactic.IndexArith

@[expose] public section

set_option maxRecDepth 16384

noncomputable section

/-! The reference's end of a linear-attention layer, entry by entry. -/

namespace Cert.Proof.APostRef

open Cert.Reference6Ideal Cert.Reference6Ideal.Gen Cert.Reference6Ideal.Facts
open Idealize.ShloMosaic Idealize.ShloMosaic.TcCoe
open Cert.Proof.APost
open scoped BigOperators

/-- A row cut into its heads. -/
def split (X : Rows) : FVec Ideal S8x2048x16x64 .f32 := shapeCast _ X shapeCasts_S8x2048x1024_S8x2048x16x64

/-- The sums over the heads. -/
def total (H : FVec Ideal S8x2048x16x64 .f32) : FVec Ideal S8x2048x16x1 .f32 :=
  broadcastInDim S8x2048x16x1 ![0, 1, 2] bcast_S8x2048x16_S8x2048x16x1_0_1_2
    (Host.reduceAdd H (constant S_ .f32 0x00000000#32) reducesTo_S8x2048x16x64_S8x2048x16_d3 h_S_)

/-- The means over the heads. -/
def mean (H : FVec Ideal S8x2048x16x64 .f32) : FVec Ideal S8x2048x16x1 .f32 :=
  Host.divf (total H) (broadcastInDim S8x2048x16x1 ![] bcast_S_S8x2048x16x1 (constant S_ .f32 0x42800000#32))

/-- One number of each head, at all its columns. -/
def spread (H : FVec Ideal S8x2048x16x1 .f32) : FVec Ideal S8x2048x16x64 .f32 :=
  broadcastInDim S8x2048x16x64 ![0, 1, 2, 3] bcast_S8x2048x16x1_S8x2048x16x64_0_1_2_3 H

/-- The heads less their means. -/
def centred (Y : Rows) : FVec Ideal S8x2048x16x64 .f32 := subf (split Y) (spread (mean (split Y)))

/-- The heads normalised. -/
def normed (Y : Rows) : FVec Ideal S8x2048x16x64 .f32 :=
  mulf (centred Y) (spread (Host.rsqrt (addf (mean (mulf (centred Y) (centred Y)))
    (broadcastInDim S8x2048x16x1 ![] bcast_S_S8x2048x16x1 (constant S_ .f32 0x3A27C5AC#32)))))

/-- The heads of a row side by side. -/
def join (H : FVec Ideal S8x2048x16x64 .f32) : FVec Ideal S8x2048x1024 .f32 := shapeCast _ H shapeCasts_S8x2048x16x64_S8x2048x1024

/-- The first layer's row of weights, for every row. -/
def gain (G : Gains) : FVec Ideal S8x2048x1024 .f32 :=
  broadcastInDim S8x2048x1024 ![0, 1, 2] bcast_S1x1x1024_S8x2048x1024_0_1_2 (broadcastInDim S1x1x1024 ![2] bcast_S1024_S1x1x1024_2
    (shapeCast _ (extractStridedSlice S1x1024 ![0, 0] G slices_S2x1024_S1x1024_0_0) shapeCasts_S1x1024_S1024))

/-- The first layer's head weights, for every row. -/
def heads (A : Heads) : FVec Ideal S8x2048x16x64 .f32 :=
  broadcastInDim S8x2048x16x64 ![0, 1, 2, 3] bcast_S1x1x16x64_S8x2048x16x64_0_1_2_3 (broadcastInDim S1x1x16x64 ![2, 3] bcast_S16x64_S1x1x16x64_2_3
    (shapeCast _ (extractStridedSlice S1x16x64 ![0, 0, 0] A slices_S2x16x64_S1x16x64_0_0_0) shapeCasts_S1x16x64_S16x64))

/-- The first layer's matrix. -/
def matrix (W : Mats) : FVec Ideal S1024x1024 .f32 :=
  shapeCast _ (extractStridedSlice S1x1024x1024 ![0, 0, 0] W slices_S2x1024x1024_S1x1024x1024_0_0_0) shapeCasts_S1x1024x1024_S1024x1024

/-- The normalised heads plus the weighted values. -/
def mixed (Y R K V : Rows) (A : Heads) (G B : Gains) : FVec Ideal S8x2048x1024 .f32 :=
  addf (addf (mulf (join (normed Y)) (gain G)) (gain B))
    (join (mulf (spread (total (mulf (mulf (split R) (split K)) (heads A)))) (split V)))

/-- The rows after the layer. -/
def rows (Y R K V Z X : Rows) (A : Heads) (G B : Gains) (W : Mats) : FVec Ideal S8x2048x1024 .f32 :=
  addf X (Host.dotGeneral (φ₁ := .f32) (φ₂ := .f32) dot_S8x2048x1024_S1024x1024_S8x2048x1024_2_0_01_1_n_n none
    (PostRef.gated (mixed Y R K V A G B) Z) (matrix W))

theorem split_apply (X : Rows) (b : Fin 8) (t : Fin 2048) (h : Fin 16) (c : Fin 64) :
    (split X (ix4 b t h c) : EReal) = X (ix3 b t ⟨h.val * 64 + c.val, by omega⟩) := by
  unfold split
  clean_types
  pointwise

theorem total_apply (H : FVec Ideal S8x2048x16x64 .f32) (b : Fin 8) (t : Fin 2048) (h : Fin 16) :
    (total H (ix4 b t h (0 : Fin 1)) : EReal) = ∑ c : Fin 64, (H (ix4 b t h c) : EReal) := by
  unfold total
  clean_types
  pointwise

theorem spread_apply (H : FVec Ideal S8x2048x16x1 .f32) (b : Fin 8) (t : Fin 2048) (h : Fin 16) (c : Fin 64) :
    (spread H (ix4 b t h c) : EReal) = H (ix4 b t h (0 : Fin 1)) := by
  unfold spread
  clean_types
  pointwise

theorem join_apply (H : FVec Ideal S8x2048x16x64 .f32) (b : Fin 8) (t : Fin 2048) (k : Fin 1024) :
    (join H (ix3 b t k) : EReal) = H (ix4 b t (⟨k.val / 64, by omega⟩ : Fin 16) (⟨k.val % 64, Nat.mod_lt _ (by decide)⟩ : Fin 64)) := by
  unfold join
  clean_types
  pointwise

theorem gain_apply (G : Gains) (b : Fin 8) (t : Fin 2048) (k : Fin 1024) : (gain G (ix3 b t k) : EReal) = G (ix2 (0 : Fin 2) k) := by
  unfold gain
  clean_types
  pointwise

theorem heads_apply (A : Heads) (b : Fin 8) (t : Fin 2048) (h : Fin 16) (c : Fin 64) :
    (heads A (ix4 b t h c) : EReal) = A (ix3 (0 : Fin 2) h c) := by
  unfold heads
  clean_types
  pointwise

theorem matrix_apply (W : Mats) (k q : Fin 1024) : (matrix W (ix2 k q) : EReal) = W (ix3 (0 : Fin 2) k q) := by
  unfold matrix
  clean_types
  pointwise

/-- Column `c` of head `h`. -/
def col (h : Fin 16) (c : Fin 64) : Fin 1024 := ⟨h.val * 64 + c.val, by omega⟩

theorem headSum_col (f : Fin 1024 → EReal) (h : Fin 16) (c : Fin 64) : headSum f (col h c) = ∑ d : Fin 64, f (col h d) :=
  Finset.sum_congr rfl fun d _ => congrArg f (Fin.ext (by show (h.val * 64 + c.val) / 64 * 64 + d.val = h.val * 64 + d.val; omega))

theorem col_eq (k : Fin 1024) : col ⟨k.val / 64, by omega⟩ ⟨k.val % 64, Nat.mod_lt _ (by decide)⟩ = k :=
  Fin.ext (by show k.val / 64 * 64 + k.val % 64 = k.val; omega)

/-- The sum over a head, whatever its numbers are called. -/
theorem total_eq (H : FVec Ideal S8x2048x16x64 .f32) (f : Fin 1024 → EReal) (b : Fin 8) (t : Fin 2048)
    (e : ∀ h c, (H (ix4 b t h c) : EReal) = f (col h c)) (h : Fin 16) (c : Fin 64) : (total H (ix4 b t h (0 : Fin 1)) : EReal) = headSum f (col h c) := by
  rw [total_apply, headSum_col]
  exact Finset.sum_congr rfl fun d _ => e h d

theorem centred_apply (Y : Rows) (b : Fin 8) (t : Fin 2048) (h : Fin 16) (c : Fin 64) :
    (centred Y (ix4 b t h c) : EReal) = devV (fun k => Y (ix3 b t k)) (col h c) := by
  have e : (centred Y (ix4 b t h c) : EReal) = split Y (ix4 b t h c) - spread (mean (split Y)) (ix4 b t h c) := rfl
  rw [e, spread_apply, split_apply]
  unfold devV
  rw [← total_eq (split Y) (fun k => Y (ix3 b t k)) b t (fun h c => split_apply Y b t h c) h c]
  rfl

theorem normed_apply (Y : Rows) (G B : Gains) (b : Fin 8) (t : Fin 2048) (k : Fin 1024) :
    ((join (normed Y) (ix3 b t k) : EReal) * gain G (ix3 b t k) + gain B (ix3 b t k))
      = groupV (fun k => Y (ix3 b t k)) (fun k => G (ix2 (0 : Fin 2) k)) (fun k => B (ix2 (0 : Fin 2) k)) k := by
  have e : ∀ h c, (normed Y (ix4 b t h c) : EReal) = centred Y (ix4 b t h c) * spread (Host.rsqrt (addf (mean (mulf (centred Y) (centred Y)))
      (broadcastInDim S8x2048x16x1 ![] bcast_S_S8x2048x16x1 (constant S_ .f32 0x3A27C5AC#32)))) (ix4 b t h c) := fun _ _ => rfl
  have e2 : ∀ h, (Host.rsqrt (addf (mean (mulf (centred Y) (centred Y)))
      (broadcastInDim S8x2048x16x1 ![] bcast_S_S8x2048x16x1 (constant S_ .f32 0x3A27C5AC#32))) (ix4 b t h (0 : Fin 1)) : EReal)
      = Ideal.rsqrt (Ideal.div (total (mulf (centred Y) (centred Y)) (ix4 b t h (0 : Fin 1))) (Ideal.ofBits .f32 0x42800000#32) + Ideal.ofBits .f32 0x3A27C5AC#32) := fun _ => rfl
  rw [join_apply, gain_apply, gain_apply, e, spread_apply, e2, centred_apply,
    total_eq (mulf (centred Y) (centred Y)) (fun j => devV (fun k => Y (ix3 b t k)) j * devV (fun k => Y (ix3 b t k)) j) b t
      (fun h c => congrArg₂ (· * ·) (centred_apply Y b t h c) (centred_apply Y b t h c)) _ (⟨k.val % 64, Nat.mod_lt _ (by decide)⟩ : Fin 64), col_eq]
  rfl

theorem mixed_apply (Y R K V : Rows) (A : Heads) (G B : Gains) (b : Fin 8) (t : Fin 2048) (k : Fin 1024) :
    (mixed Y R K V A G B (ix3 b t k) : EReal)
      = mixV (fun k => Y (ix3 b t k)) (fun k => R (ix3 b t k)) (fun k => K (ix3 b t k)) (fun k => V (ix3 b t k))
          (headRow A) (fun k => G (ix2 (0 : Fin 2) k)) (fun k => B (ix2 (0 : Fin 2) k)) k := by
  refine congrArg₂ (· + ·) (normed_apply Y G B b t k) ?_
  rw [join_apply]
  refine congrArg₂ (· * ·) ?_ ?_
  · rw [spread_apply]
    refine (total_eq _ (fun j => R (ix3 b t j) * K (ix3 b t j) * headRow A j) b t (fun h c => ?_) _ (⟨k.val % 64, Nat.mod_lt _ (by decide)⟩ : Fin 64)).trans ?_
    · refine congrArg₂ (· * ·) (congrArg₂ (· * ·) (split_apply R b t h c) (split_apply K b t h c)) ((heads_apply A b t h c).trans ?_)
      have h1 : h = ⟨(col h c).val / 64, by omega⟩ := Fin.ext (by show h.val = (h.val * 64 + c.val) / 64; omega)
      have h2 : c = ⟨(col h c).val % 64, Nat.mod_lt _ (by decide)⟩ := Fin.ext (by show c.val = (h.val * 64 + c.val) % 64; omega)
      exact congrArg₂ (fun h c => A (ix3 (0 : Fin 2) h c)) h1 h2
    · rw [col_eq]
  · exact (split_apply V b t _ _).trans (congrArg (fun k => V (ix3 b t k)) (col_eq k))

/-- The reference's row is the kernel's. -/
theorem rows_apply (Y R K V Z X : Rows) (A : Heads) (G B : Gains) (W : Mats) (b : Fin 8) (t : Fin 2048) (q : Fin 1024) :
    (rows Y R K V Z X A G B W (ix3 b t q) : EReal) = rowOf Y R K V Z X A G B W b t q := by
  show (X (ix3 b t q) : EReal) + _ = _
  unfold rowOf Post.postV
  refine congrArg _ ((PostRef.prod_apply _ (matrix W) b t q).trans (Finset.sum_congr rfl fun k _ => ?_))
  rw [PostRef.gated_apply, mixed_apply, matrix_apply]

/-- The reference's array. -/
theorem stacked_rows (Y R K V Z X : Rows) (A : Heads) (G B : Gains) (W : Mats) :
    (shapeCast S16384x1024 (rows Y R K V Z X A G B W) shapeCasts_S8x2048x1024_S16384x1024 : FVec Ideal S16384x1024 .f32) = result Y R K V Z X A G B W := by
  funext i
  refine (congrArg _ (eq_ix2 (n0 := 16384) (n1 := 1024) i)).trans ((PostRef.stacked_apply _ (i 0) (i 1)).trans ?_)
  exact rows_apply Y R K V Z X A G B W _ _ _

end Cert.Proof.APostRef

end
-- ==== Proof.APost.Claims.lean ====
module

public import proofs.«01_k».proof.Defs
public import proofs.«01_k».proof.Proof.Gen.Kernel6
public import proofs.«01_k».proof.Proof.Gen.Pre_finite6
public import proofs.«01_k».proof.Proof.Gen.Reference6Ideal.Run
public import proofs.«01_k».proof.Proof.Finite
public import proofs.«01_k».proof.Proof.Frames
public import proofs.«01_k».proof.Proof.APost.Result
public import proofs.«01_k».proof.Proof.APost.Ref
public import Idealize.ShloMosaic.Lib.Claim

@[expose] public section

set_option maxRecDepth 65536

noncomputable section

/-! The claims of a linear-attention layer's end. -/

namespace Cert.Proof.APost

open Idealize.ShloMosaic Idealize.ShloMosaic.TcCoe Idealize.ShloMosaic.Tactic Idealize.SL Idealize.SL.Sem Idealize.ShloMosaic.StableHlo

theorem frame_kernelIdeal : Cert.quiescent_Kernel6Ideal (hKernel6Ideal := Cert.Kernel6Ideal.Gen.facts) :=
  fun m g _ => Cert.Kernel6Ideal.Gen.frame m g

theorem frame_kernel : Cert.quiescent_Kernel6 (hKernel6 := Cert.Kernel6.Gen.facts) := by
  intro m g _
  have h := Cert.Kernel6Ideal.Gen.frame (F := Bits) m g
  refine cast ?_ h
  sl_kernel_rfl

/-- The frame of the reference: its run, read at the arguments; it declares no semaphore. -/
theorem frame_reference : Cert.quiescent_Reference6Ideal (hReference6Ideal := Cert.Reference6Ideal.Gen.facts) := fun m g _ =>
  (θ_run Cert.Reference6Ideal.defs _ _).mono
    (fun r h => ⟨fun c => (h c).2, sem_eq_zero_of_no_sems (by decide) r.2⟩)
    (Cert.Reference6Ideal.Value.run (F := Ideal) m g)

theorem preserves : Cert.preserves_Kernel6_Kernel6Ideal := by
  trivial

/-- Arguments of which `finite6` holds are real where the kernel splits them. -/
theorem reals (Y R K V Z X : Rows) (A : Heads) (G B : Gains) (W : Mats)
    (h : Cert.Pre_finite6.fn (F := Ideal) Y R K V Z X A G B W = fun _ => 1#1) : Reals Y R K A := by
  have e := congrFun h (fun a => a.elim0)
  unfold Cert.Pre_finite6.fn Cert.Pre_finite6.fn_part1 at e
  dsimp only at e
  have e' := IntOp.andi_eq_one.mp e
  have e1 := IntOp.andi_eq_one.mp e'.1
  have e2 := IntOp.andi_eq_one.mp e'.2
  refine ⟨fun i => ⟨_, real_of_abs_lt _ ?_⟩, fun i => ⟨_, real_of_abs_lt _ ?_⟩, fun i => ⟨_, real_of_abs_lt _ ?_⟩, fun i => ⟨_, real_of_abs_lt _ ?_⟩⟩
  · exact Host.reduce_andi_all _ _ _ _ _ e1.1 i
  · exact Host.reduce_andi_all _ _ _ _ _ e1.2 i
  · exact Host.reduce_andi_all _ _ _ _ _ e2.1 i
  · exact Host.reduce_andi_all _ _ _ _ _ e2.2 i

/-- From real arguments the kernel and the reference end with the same array. -/
theorem algebraic : Cert.algebraic_Kernel6Ideal_Reference6Ideal_pre_finite6 (hKernel6Ideal := Cert.Kernel6Ideal.Gen.facts)
    (hReference6Ideal := Cert.Reference6Ideal.Gen.facts) (hPre_finite6 := Cert.Pre_finite6.Gen.facts) := by
  intro m g m' g' hm hagree
  refine ⟨fun c => result (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)), ?_, ?_⟩
  · refine (θ_run Cert.Kernel6Ideal.defs _ _).mono (fun r h c => ⟨((h.1 c).1 10).trans ?_, h.2 c⟩)
      (θ_run_and (Cert.Kernel6Ideal.Gen.run_main (F := Ideal) m g) (Cert.Kernel6Ideal.Gen.unchanged (F := Ideal) m g))
    exact final m c (reals _ _ _ _ _ _ _ _ _ _ (hm c))
  · refine (θ_run Cert.Reference6Ideal.defs _ _).mono (fun r h c => ⟨(h c).1.trans ?_, (h c).2⟩)
      (Cert.Reference6Ideal.Value.run (F := Ideal) m' g')
    refine Eq.trans ?_ (congr (congr (congr (congr (congr (congr (congr (congr (congr (congrArg result (hagree c).1) (hagree c).2.1) (hagree c).2.2.1) (hagree c).2.2.2.1) (hagree c).2.2.2.2.1) (hagree c).2.2.2.2.2.1) (hagree c).2.2.2.2.2.2.1) (hagree c).2.2.2.2.2.2.2.1) (hagree c).2.2.2.2.2.2.2.2.1) (hagree c).2.2.2.2.2.2.2.2.2)
    exact APostRef.stacked_rows (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6)) (m' ((c.tc : Thread Cert.Reference6Ideal.nD Cert.Reference6Ideal.τ).loc Cert.Reference6Ideal.main_arg7)) (m' ((c.tc : Thread Cert.Reference6Ideal.nD Cert.Reference6Ideal.τ).loc Cert.Reference6Ideal.main_arg8)) (m' ((c.tc : Thread Cert.Reference6Ideal.nD Cert.Reference6Ideal.τ).loc Cert.Reference6Ideal.main_arg9))

end Cert.Proof.APost

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Pre_finite6
public import proofs.«01_k».proof.Proof.Frames
public import proofs.«01_k».proof.Proof.RefFrame
public import proofs.«01_k».proof.Proof.Algebraic
public import proofs.«01_k».proof.Proof.Proj.Claims
public import proofs.«01_k».proof.Proof.KvProj.Claims
public import proofs.«01_k».proof.Proof.Post.Claims
public import proofs.«01_k».proof.Proof.Post.LastClaims
public import proofs.«01_k».proof.Proof.APost.Claims

@[expose] public section

noncomputable section

/-! The claims of the statement: for each of the six calls the three frames, the named constants, and the equality of the kernel with the reference. -/

namespace Cert.Proof

open Idealize.ShloMosaic

/-- The kernel with the mask named differs from the kernel as it runs in that constant alone. -/
theorem preserves : Cert.preserves_Kernel_KernelIdeal :=
  IdealRules.named_const.statement Cert.KernelIdeal.κ "mask" .f32 0xF149F2CA#32 ⊥ rfl

end Cert.Proof

theorem Cert.Proof.claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Pre_finite.Gen.facts, Cert.Pre_finite6.Gen.facts,
    Cert.Proof.frame_kernel, Cert.Proof.frame_kernelIdeal, fun m g _ => Cert.Proof.frame_kernelIdeal m g trivial,
    Cert.Proof.frame_reference, fun m g _ => Cert.Proof.frame_reference m g trivial,
    Cert.Proof.Proj.frame_kernel, Cert.Proof.Proj.frame_kernelIdeal, Cert.Proof.Proj.frame_reference,
    Cert.Proof.KvProj.frame_kernel, Cert.Proof.KvProj.frame_kernelIdeal, Cert.Proof.KvProj.frame_reference,
    Cert.Proof.Post.frame_kernel, Cert.Proof.Post.frame_kernelIdeal, Cert.Proof.Post.frame_reference,
    Cert.Proof.Last.frame_kernel, Cert.Proof.Last.frame_kernelIdeal, Cert.Proof.Last.frame_reference,
    Cert.Proof.APost.frame_kernel, Cert.Proof.APost.frame_kernelIdeal, fun m g _ => Cert.Proof.APost.frame_kernelIdeal m g trivial,
    Cert.Proof.APost.frame_reference, fun m g _ => Cert.Proof.APost.frame_reference m g trivial,
    Cert.Proof.preserves, Cert.Proof.algebraic, Cert.Proof.Proj.preserves, Cert.Proof.Proj.algebraic,
    Cert.Proof.KvProj.preserves, Cert.Proof.KvProj.algebraic,
    Cert.Proof.Post.preserves, Cert.Proof.Post.algebraic, Cert.Proof.Last.preserves, Cert.Proof.Last.algebraic,
    Cert.Proof.APost.preserves, Cert.Proof.APost.algebraic⟩

end
